-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Forward (m : (ℓ : Loc Cert.Forward.nD Cert.Forward.τ Cert.Forward.sig) → Buf (Elt Bits) ℓ) : Prop :=
  True

def Pre_ForwardIdeal (m : (ℓ : Loc Cert.ForwardIdeal.nD Cert.ForwardIdeal.τ Cert.ForwardIdeal.sig) → Buf (Elt Ideal) ℓ) : Prop :=
  True

def Pre_ForwardIdeal_finite_scores [hPre_finite_scores : Cert.Pre_finite_scores.Facts] (m : (ℓ : Loc Cert.ForwardIdeal.nD Cert.ForwardIdeal.τ Cert.ForwardIdeal.sig) → Buf (Elt Ideal) ℓ) : Prop :=
  ∀ c : Dev Cert.ForwardIdeal.nD,
    (Cert.Pre_finite_scores.fn (F := Ideal) (m ((c.tc : Thread Cert.ForwardIdeal.nD Cert.ForwardIdeal.τ).loc Cert.ForwardIdeal.main_arg0)) (m ((c.tc : Thread Cert.ForwardIdeal.nD Cert.ForwardIdeal.τ).loc Cert.ForwardIdeal.main_arg1)) (m ((c.tc : Thread Cert.ForwardIdeal.nD Cert.ForwardIdeal.τ).loc Cert.ForwardIdeal.main_arg2))).1 = (fun _ => 1#1)
    ∧ (Cert.Pre_finite_scores.fn (F := Ideal) (m ((c.tc : Thread Cert.ForwardIdeal.nD Cert.ForwardIdeal.τ).loc Cert.ForwardIdeal.main_arg0)) (m ((c.tc : Thread Cert.ForwardIdeal.nD Cert.ForwardIdeal.τ).loc Cert.ForwardIdeal.main_arg1)) (m ((c.tc : Thread Cert.ForwardIdeal.nD Cert.ForwardIdeal.τ).loc Cert.ForwardIdeal.main_arg2))).2 = (fun _ => 1#1)

def Pre_ForwardReferenceIdeal (m : (ℓ : Loc Cert.ForwardReferenceIdeal.nD Cert.ForwardReferenceIdeal.τ Cert.ForwardReferenceIdeal.sig) → Buf (Elt Ideal) ℓ) : Prop :=
  True

def Pre_ForwardReferenceIdeal_finite_scores [hPre_finite_scores : Cert.Pre_finite_scores.Facts] (m : (ℓ : Loc Cert.ForwardReferenceIdeal.nD Cert.ForwardReferenceIdeal.τ Cert.ForwardReferenceIdeal.sig) → Buf (Elt Ideal) ℓ) : Prop :=
  ∀ c : Dev Cert.ForwardReferenceIdeal.nD,
    (Cert.Pre_finite_scores.fn (F := Ideal) (m ((c.tc : Thread Cert.ForwardReferenceIdeal.nD Cert.ForwardReferenceIdeal.τ).loc Cert.ForwardReferenceIdeal.main_arg0)) (m ((c.tc : Thread Cert.ForwardReferenceIdeal.nD Cert.ForwardReferenceIdeal.τ).loc Cert.ForwardReferenceIdeal.main_arg1)) (m ((c.tc : Thread Cert.ForwardReferenceIdeal.nD Cert.ForwardReferenceIdeal.τ).loc Cert.ForwardReferenceIdeal.main_arg2))).1 = (fun _ => 1#1)
    ∧ (Cert.Pre_finite_scores.fn (F := Ideal) (m ((c.tc : Thread Cert.ForwardReferenceIdeal.nD Cert.ForwardReferenceIdeal.τ).loc Cert.ForwardReferenceIdeal.main_arg0)) (m ((c.tc : Thread Cert.ForwardReferenceIdeal.nD Cert.ForwardReferenceIdeal.τ).loc Cert.ForwardReferenceIdeal.main_arg1)) (m ((c.tc : Thread Cert.ForwardReferenceIdeal.nD Cert.ForwardReferenceIdeal.τ).loc Cert.ForwardReferenceIdeal.main_arg2))).2 = (fun _ => 1#1)

def Pre_Dx (m : (ℓ : Loc Cert.Dx.nD Cert.Dx.τ Cert.Dx.sig) → Buf (Elt Bits) ℓ) : Prop :=
  True

def Pre_DxIdeal (m : (ℓ : Loc Cert.DxIdeal.nD Cert.DxIdeal.τ Cert.DxIdeal.sig) → Buf (Elt Ideal) ℓ) : Prop :=
  True

def Pre_DxReferenceIdeal (m : (ℓ : Loc Cert.DxReferenceIdeal.nD Cert.DxReferenceIdeal.τ Cert.DxReferenceIdeal.sig) → Buf (Elt Ideal) ℓ) : Prop :=
  True

def Pre_Dw (m : (ℓ : Loc Cert.Dw.nD Cert.Dw.τ Cert.Dw.sig) → Buf (Elt Bits) ℓ) : Prop :=
  True

def Pre_DwIdeal (m : (ℓ : Loc Cert.DwIdeal.nD Cert.DwIdeal.τ Cert.DwIdeal.sig) → Buf (Elt Ideal) ℓ) : Prop :=
  True

def Pre_DwReferenceIdeal (m : (ℓ : Loc Cert.DwReferenceIdeal.nD Cert.DwReferenceIdeal.τ Cert.DwReferenceIdeal.sig) → Buf (Elt Ideal) ℓ) : Prop :=
  True

def Pre_Split (m : (ℓ : Loc Cert.Split.nD Cert.Split.τ Cert.Split.sig) → Buf (Elt Bits) ℓ) : Prop :=
  True

def Pre_SplitIdeal (m : (ℓ : Loc Cert.SplitIdeal.nD Cert.SplitIdeal.τ Cert.SplitIdeal.sig) → Buf (Elt Ideal) ℓ) : Prop :=
  True

def Pre_SplitReferenceIdeal (m : (ℓ : Loc Cert.SplitReferenceIdeal.nD Cert.SplitReferenceIdeal.τ Cert.SplitReferenceIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateReferenceIdeal (m : (ℓ : Loc Cert.GateReferenceIdeal.nD Cert.GateReferenceIdeal.τ Cert.GateReferenceIdeal.sig) → Buf (Elt Ideal) ℓ) : Prop :=
  True

def Pre_GateBack (m : (ℓ : Loc Cert.GateBack.nD Cert.GateBack.τ Cert.GateBack.sig) → Buf (Elt Bits) ℓ) : Prop :=
  True

def Pre_GateBackIdeal (m : (ℓ : Loc Cert.GateBackIdeal.nD Cert.GateBackIdeal.τ Cert.GateBackIdeal.sig) → Buf (Elt Ideal) ℓ) : Prop :=
  True

def Pre_GateBackIdeal_finite_gated [hPre_finite_gated : Cert.Pre_finite_gated.Facts] (m : (ℓ : Loc Cert.GateBackIdeal.nD Cert.GateBackIdeal.τ Cert.GateBackIdeal.sig) → Buf (Elt Ideal) ℓ) : Prop :=
  ∀ c : Dev Cert.GateBackIdeal.nD,
    (Cert.Pre_finite_gated.fn (F := Ideal) (m ((c.tc : Thread Cert.GateBackIdeal.nD Cert.GateBackIdeal.τ).loc Cert.GateBackIdeal.main_arg0)) (m ((c.tc : Thread Cert.GateBackIdeal.nD Cert.GateBackIdeal.τ).loc Cert.GateBackIdeal.main_arg1)) (m ((c.tc : Thread Cert.GateBackIdeal.nD Cert.GateBackIdeal.τ).loc Cert.GateBackIdeal.main_arg2)) (m ((c.tc : Thread Cert.GateBackIdeal.nD Cert.GateBackIdeal.τ).loc Cert.GateBackIdeal.main_arg3)) (m ((c.tc : Thread Cert.GateBackIdeal.nD Cert.GateBackIdeal.τ).loc Cert.GateBackIdeal.main_arg4)) (m ((c.tc : Thread Cert.GateBackIdeal.nD Cert.GateBackIdeal.τ).loc Cert.GateBackIdeal.main_arg5)) (m ((c.tc : Thread Cert.GateBackIdeal.nD Cert.GateBackIdeal.τ).loc Cert.GateBackIdeal.main_arg6))).1 = (fun _ => 1#1)
    ∧ (Cert.Pre_finite_gated.fn (F := Ideal) (m ((c.tc : Thread Cert.GateBackIdeal.nD Cert.GateBackIdeal.τ).loc Cert.GateBackIdeal.main_arg0)) (m ((c.tc : Thread Cert.GateBackIdeal.nD Cert.GateBackIdeal.τ).loc Cert.GateBackIdeal.main_arg1)) (m ((c.tc : Thread Cert.GateBackIdeal.nD Cert.GateBackIdeal.τ).loc Cert.GateBackIdeal.main_arg2)) (m ((c.tc : Thread Cert.GateBackIdeal.nD Cert.GateBackIdeal.τ).loc Cert.GateBackIdeal.main_arg3)) (m ((c.tc : Thread Cert.GateBackIdeal.nD Cert.GateBackIdeal.τ).loc Cert.GateBackIdeal.main_arg4)) (m ((c.tc : Thread Cert.GateBackIdeal.nD Cert.GateBackIdeal.τ).loc Cert.GateBackIdeal.main_arg5)) (m ((c.tc : Thread Cert.GateBackIdeal.nD Cert.GateBackIdeal.τ).loc Cert.GateBackIdeal.main_arg6))).2.1 = (fun _ => 1#1)
    ∧ (Cert.Pre_finite_gated.fn (F := Ideal) (m ((c.tc : Thread Cert.GateBackIdeal.nD Cert.GateBackIdeal.τ).loc Cert.GateBackIdeal.main_arg0)) (m ((c.tc : Thread Cert.GateBackIdeal.nD Cert.GateBackIdeal.τ).loc Cert.GateBackIdeal.main_arg1)) (m ((c.tc : Thread Cert.GateBackIdeal.nD Cert.GateBackIdeal.τ).loc Cert.GateBackIdeal.main_arg2)) (m ((c.tc : Thread Cert.GateBackIdeal.nD Cert.GateBackIdeal.τ).loc Cert.GateBackIdeal.main_arg3)) (m ((c.tc : Thread Cert.GateBackIdeal.nD Cert.GateBackIdeal.τ).loc Cert.GateBackIdeal.main_arg4)) (m ((c.tc : Thread Cert.GateBackIdeal.nD Cert.GateBackIdeal.τ).loc Cert.GateBackIdeal.main_arg5)) (m ((c.tc : Thread Cert.GateBackIdeal.nD Cert.GateBackIdeal.τ).loc Cert.GateBackIdeal.main_arg6))).2.2.1 = (fun _ => 1#1)
    ∧ (Cert.Pre_finite_gated.fn (F := Ideal) (m ((c.tc : Thread Cert.GateBackIdeal.nD Cert.GateBackIdeal.τ).loc Cert.GateBackIdeal.main_arg0)) (m ((c.tc : Thread Cert.GateBackIdeal.nD Cert.GateBackIdeal.τ).loc Cert.GateBackIdeal.main_arg1)) (m ((c.tc : Thread Cert.GateBackIdeal.nD Cert.GateBackIdeal.τ).loc Cert.GateBackIdeal.main_arg2)) (m ((c.tc : Thread Cert.GateBackIdeal.nD Cert.GateBackIdeal.τ).loc Cert.GateBackIdeal.main_arg3)) (m ((c.tc : Thread Cert.GateBackIdeal.nD Cert.GateBackIdeal.τ).loc Cert.GateBackIdeal.main_arg4)) (m ((c.tc : Thread Cert.GateBackIdeal.nD Cert.GateBackIdeal.τ).loc Cert.GateBackIdeal.main_arg5)) (m ((c.tc : Thread Cert.GateBackIdeal.nD Cert.GateBackIdeal.τ).loc Cert.GateBackIdeal.main_arg6))).2.2.2.1 = (fun _ => 1#1)
    ∧ (Cert.Pre_finite_gated.fn (F := Ideal) (m ((c.tc : Thread Cert.GateBackIdeal.nD Cert.GateBackIdeal.τ).loc Cert.GateBackIdeal.main_arg0)) (m ((c.tc : Thread Cert.GateBackIdeal.nD Cert.GateBackIdeal.τ).loc Cert.GateBackIdeal.main_arg1)) (m ((c.tc : Thread Cert.GateBackIdeal.nD Cert.GateBackIdeal.τ).loc Cert.GateBackIdeal.main_arg2)) (m ((c.tc : Thread Cert.GateBackIdeal.nD Cert.GateBackIdeal.τ).loc Cert.GateBackIdeal.main_arg3)) (m ((c.tc : Thread Cert.GateBackIdeal.nD Cert.GateBackIdeal.τ).loc Cert.GateBackIdeal.main_arg4)) (m ((c.tc : Thread Cert.GateBackIdeal.nD Cert.GateBackIdeal.τ).loc Cert.GateBackIdeal.main_arg5)) (m ((c.tc : Thread Cert.GateBackIdeal.nD Cert.GateBackIdeal.τ).loc Cert.GateBackIdeal.main_arg6))).2.2.2.2.1 = (fun _ => 1#1)
    ∧ (Cert.Pre_finite_gated.fn (F := Ideal) (m ((c.tc : Thread Cert.GateBackIdeal.nD Cert.GateBackIdeal.τ).loc Cert.GateBackIdeal.main_arg0)) (m ((c.tc : Thread Cert.GateBackIdeal.nD Cert.GateBackIdeal.τ).loc Cert.GateBackIdeal.main_arg1)) (m ((c.tc : Thread Cert.GateBackIdeal.nD Cert.GateBackIdeal.τ).loc Cert.GateBackIdeal.main_arg2)) (m ((c.tc : Thread Cert.GateBackIdeal.nD Cert.GateBackIdeal.τ).loc Cert.GateBackIdeal.main_arg3)) (m ((c.tc : Thread Cert.GateBackIdeal.nD Cert.GateBackIdeal.τ).loc Cert.GateBackIdeal.main_arg4)) (m ((c.tc : Thread Cert.GateBackIdeal.nD Cert.GateBackIdeal.τ).loc Cert.GateBackIdeal.main_arg5)) (m ((c.tc : Thread Cert.GateBackIdeal.nD Cert.GateBackIdeal.τ).loc Cert.GateBackIdeal.main_arg6))).2.2.2.2.2 = (fun _ => 1#1)

def Pre_GateBackReferenceIdeal (m : (ℓ : Loc Cert.GateBackReferenceIdeal.nD Cert.GateBackReferenceIdeal.τ Cert.GateBackReferenceIdeal.sig) → Buf (Elt Ideal) ℓ) : Prop :=
  True

def Pre_GateBackReferenceIdeal_finite_gated [hPre_finite_gated : Cert.Pre_finite_gated.Facts] (m : (ℓ : Loc Cert.GateBackReferenceIdeal.nD Cert.GateBackReferenceIdeal.τ Cert.GateBackReferenceIdeal.sig) → Buf (Elt Ideal) ℓ) : Prop :=
  ∀ c : Dev Cert.GateBackReferenceIdeal.nD,
    (Cert.Pre_finite_gated.fn (F := Ideal) (m ((c.tc : Thread Cert.GateBackReferenceIdeal.nD Cert.GateBackReferenceIdeal.τ).loc Cert.GateBackReferenceIdeal.main_arg0)) (m ((c.tc : Thread Cert.GateBackReferenceIdeal.nD Cert.GateBackReferenceIdeal.τ).loc Cert.GateBackReferenceIdeal.main_arg1)) (m ((c.tc : Thread Cert.GateBackReferenceIdeal.nD Cert.GateBackReferenceIdeal.τ).loc Cert.GateBackReferenceIdeal.main_arg2)) (m ((c.tc : Thread Cert.GateBackReferenceIdeal.nD Cert.GateBackReferenceIdeal.τ).loc Cert.GateBackReferenceIdeal.main_arg3)) (m ((c.tc : Thread Cert.GateBackReferenceIdeal.nD Cert.GateBackReferenceIdeal.τ).loc Cert.GateBackReferenceIdeal.main_arg4)) (m ((c.tc : Thread Cert.GateBackReferenceIdeal.nD Cert.GateBackReferenceIdeal.τ).loc Cert.GateBackReferenceIdeal.main_arg5)) (m ((c.tc : Thread Cert.GateBackReferenceIdeal.nD Cert.GateBackReferenceIdeal.τ).loc Cert.GateBackReferenceIdeal.main_arg6))).1 = (fun _ => 1#1)
    ∧ (Cert.Pre_finite_gated.fn (F := Ideal) (m ((c.tc : Thread Cert.GateBackReferenceIdeal.nD Cert.GateBackReferenceIdeal.τ).loc Cert.GateBackReferenceIdeal.main_arg0)) (m ((c.tc : Thread Cert.GateBackReferenceIdeal.nD Cert.GateBackReferenceIdeal.τ).loc Cert.GateBackReferenceIdeal.main_arg1)) (m ((c.tc : Thread Cert.GateBackReferenceIdeal.nD Cert.GateBackReferenceIdeal.τ).loc Cert.GateBackReferenceIdeal.main_arg2)) (m ((c.tc : Thread Cert.GateBackReferenceIdeal.nD Cert.GateBackReferenceIdeal.τ).loc Cert.GateBackReferenceIdeal.main_arg3)) (m ((c.tc : Thread Cert.GateBackReferenceIdeal.nD Cert.GateBackReferenceIdeal.τ).loc Cert.GateBackReferenceIdeal.main_arg4)) (m ((c.tc : Thread Cert.GateBackReferenceIdeal.nD Cert.GateBackReferenceIdeal.τ).loc Cert.GateBackReferenceIdeal.main_arg5)) (m ((c.tc : Thread Cert.GateBackReferenceIdeal.nD Cert.GateBackReferenceIdeal.τ).loc Cert.GateBackReferenceIdeal.main_arg6))).2.1 = (fun _ => 1#1)
    ∧ (Cert.Pre_finite_gated.fn (F := Ideal) (m ((c.tc : Thread Cert.GateBackReferenceIdeal.nD Cert.GateBackReferenceIdeal.τ).loc Cert.GateBackReferenceIdeal.main_arg0)) (m ((c.tc : Thread Cert.GateBackReferenceIdeal.nD Cert.GateBackReferenceIdeal.τ).loc Cert.GateBackReferenceIdeal.main_arg1)) (m ((c.tc : Thread Cert.GateBackReferenceIdeal.nD Cert.GateBackReferenceIdeal.τ).loc Cert.GateBackReferenceIdeal.main_arg2)) (m ((c.tc : Thread Cert.GateBackReferenceIdeal.nD Cert.GateBackReferenceIdeal.τ).loc Cert.GateBackReferenceIdeal.main_arg3)) (m ((c.tc : Thread Cert.GateBackReferenceIdeal.nD Cert.GateBackReferenceIdeal.τ).loc Cert.GateBackReferenceIdeal.main_arg4)) (m ((c.tc : Thread Cert.GateBackReferenceIdeal.nD Cert.GateBackReferenceIdeal.τ).loc Cert.GateBackReferenceIdeal.main_arg5)) (m ((c.tc : Thread Cert.GateBackReferenceIdeal.nD Cert.GateBackReferenceIdeal.τ).loc Cert.GateBackReferenceIdeal.main_arg6))).2.2.1 = (fun _ => 1#1)
    ∧ (Cert.Pre_finite_gated.fn (F := Ideal) (m ((c.tc : Thread Cert.GateBackReferenceIdeal.nD Cert.GateBackReferenceIdeal.τ).loc Cert.GateBackReferenceIdeal.main_arg0)) (m ((c.tc : Thread Cert.GateBackReferenceIdeal.nD Cert.GateBackReferenceIdeal.τ).loc Cert.GateBackReferenceIdeal.main_arg1)) (m ((c.tc : Thread Cert.GateBackReferenceIdeal.nD Cert.GateBackReferenceIdeal.τ).loc Cert.GateBackReferenceIdeal.main_arg2)) (m ((c.tc : Thread Cert.GateBackReferenceIdeal.nD Cert.GateBackReferenceIdeal.τ).loc Cert.GateBackReferenceIdeal.main_arg3)) (m ((c.tc : Thread Cert.GateBackReferenceIdeal.nD Cert.GateBackReferenceIdeal.τ).loc Cert.GateBackReferenceIdeal.main_arg4)) (m ((c.tc : Thread Cert.GateBackReferenceIdeal.nD Cert.GateBackReferenceIdeal.τ).loc Cert.GateBackReferenceIdeal.main_arg5)) (m ((c.tc : Thread Cert.GateBackReferenceIdeal.nD Cert.GateBackReferenceIdeal.τ).loc Cert.GateBackReferenceIdeal.main_arg6))).2.2.2.1 = (fun _ => 1#1)
    ∧ (Cert.Pre_finite_gated.fn (F := Ideal) (m ((c.tc : Thread Cert.GateBackReferenceIdeal.nD Cert.GateBackReferenceIdeal.τ).loc Cert.GateBackReferenceIdeal.main_arg0)) (m ((c.tc : Thread Cert.GateBackReferenceIdeal.nD Cert.GateBackReferenceIdeal.τ).loc Cert.GateBackReferenceIdeal.main_arg1)) (m ((c.tc : Thread Cert.GateBackReferenceIdeal.nD Cert.GateBackReferenceIdeal.τ).loc Cert.GateBackReferenceIdeal.main_arg2)) (m ((c.tc : Thread Cert.GateBackReferenceIdeal.nD Cert.GateBackReferenceIdeal.τ).loc Cert.GateBackReferenceIdeal.main_arg3)) (m ((c.tc : Thread Cert.GateBackReferenceIdeal.nD Cert.GateBackReferenceIdeal.τ).loc Cert.GateBackReferenceIdeal.main_arg4)) (m ((c.tc : Thread Cert.GateBackReferenceIdeal.nD Cert.GateBackReferenceIdeal.τ).loc Cert.GateBackReferenceIdeal.main_arg5)) (m ((c.tc : Thread Cert.GateBackReferenceIdeal.nD Cert.GateBackReferenceIdeal.τ).loc Cert.GateBackReferenceIdeal.main_arg6))).2.2.2.2.1 = (fun _ => 1#1)
    ∧ (Cert.Pre_finite_gated.fn (F := Ideal) (m ((c.tc : Thread Cert.GateBackReferenceIdeal.nD Cert.GateBackReferenceIdeal.τ).loc Cert.GateBackReferenceIdeal.main_arg0)) (m ((c.tc : Thread Cert.GateBackReferenceIdeal.nD Cert.GateBackReferenceIdeal.τ).loc Cert.GateBackReferenceIdeal.main_arg1)) (m ((c.tc : Thread Cert.GateBackReferenceIdeal.nD Cert.GateBackReferenceIdeal.τ).loc Cert.GateBackReferenceIdeal.main_arg2)) (m ((c.tc : Thread Cert.GateBackReferenceIdeal.nD Cert.GateBackReferenceIdeal.τ).loc Cert.GateBackReferenceIdeal.main_arg3)) (m ((c.tc : Thread Cert.GateBackReferenceIdeal.nD Cert.GateBackReferenceIdeal.τ).loc Cert.GateBackReferenceIdeal.main_arg4)) (m ((c.tc : Thread Cert.GateBackReferenceIdeal.nD Cert.GateBackReferenceIdeal.τ).loc Cert.GateBackReferenceIdeal.main_arg5)) (m ((c.tc : Thread Cert.GateBackReferenceIdeal.nD Cert.GateBackReferenceIdeal.τ).loc Cert.GateBackReferenceIdeal.main_arg6))).2.2.2.2.2 = (fun _ => 1#1)

def Pre_GateDw (m : (ℓ : Loc Cert.GateDw.nD Cert.GateDw.τ Cert.GateDw.sig) → Buf (Elt Bits) ℓ) : Prop :=
  True

def Pre_GateDwIdeal (m : (ℓ : Loc Cert.GateDwIdeal.nD Cert.GateDwIdeal.τ Cert.GateDwIdeal.sig) → Buf (Elt Ideal) ℓ) : Prop :=
  True

def Pre_GateDwReferenceIdeal (m : (ℓ : Loc Cert.GateDwReferenceIdeal.nD Cert.GateDwReferenceIdeal.τ Cert.GateDwReferenceIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamReferenceIdeal (m : (ℓ : Loc Cert.AdamReferenceIdeal.nD Cert.AdamReferenceIdeal.τ Cert.AdamReferenceIdeal.sig) → Buf (Elt Ideal) ℓ) : Prop :=
  True

def Pre_AdamMem (m : (ℓ : Loc Cert.AdamMem.nD Cert.AdamMem.τ Cert.AdamMem.sig) → Buf (Elt Bits) ℓ) : Prop :=
  True

def Pre_AdamMemIdeal (m : (ℓ : Loc Cert.AdamMemIdeal.nD Cert.AdamMemIdeal.τ Cert.AdamMemIdeal.sig) → Buf (Elt Ideal) ℓ) : Prop :=
  True

def Pre_AdamMemReferenceIdeal (m : (ℓ : Loc Cert.AdamMemReferenceIdeal.nD Cert.AdamMemReferenceIdeal.τ Cert.AdamMemReferenceIdeal.sig) → Buf (Elt Ideal) ℓ) : Prop :=
  True

def Pre_AdamQ (m : (ℓ : Loc Cert.AdamQ.nD Cert.AdamQ.τ Cert.AdamQ.sig) → Buf (Elt Bits) ℓ) : Prop :=
  True

def Pre_AdamQIdeal (m : (ℓ : Loc Cert.AdamQIdeal.nD Cert.AdamQIdeal.τ Cert.AdamQIdeal.sig) → Buf (Elt Ideal) ℓ) : Prop :=
  True

def Pre_AdamQReferenceIdeal (m : (ℓ : Loc Cert.AdamQReferenceIdeal.nD Cert.AdamQReferenceIdeal.τ Cert.AdamQReferenceIdeal.sig) → Buf (Elt Ideal) ℓ) : Prop :=
  True

def Pre_AdamKv (m : (ℓ : Loc Cert.AdamKv.nD Cert.AdamKv.τ Cert.AdamKv.sig) → Buf (Elt Bits) ℓ) : Prop :=
  True

def Pre_AdamKvIdeal (m : (ℓ : Loc Cert.AdamKvIdeal.nD Cert.AdamKvIdeal.τ Cert.AdamKvIdeal.sig) → Buf (Elt Ideal) ℓ) : Prop :=
  True

def Pre_AdamKvReferenceIdeal (m : (ℓ : Loc Cert.AdamKvReferenceIdeal.nD Cert.AdamKvReferenceIdeal.τ Cert.AdamKvReferenceIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInReferenceIdeal (m : (ℓ : Loc Cert.AdamInReferenceIdeal.nD Cert.AdamInReferenceIdeal.τ Cert.AdamInReferenceIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallReferenceIdeal (m : (ℓ : Loc Cert.AdamSmallReferenceIdeal.nD Cert.AdamSmallReferenceIdeal.τ Cert.AdamSmallReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Forward [hForward : Cert.Forward.Facts] : Prop :=
  ∀ (m : (ℓ : Loc Cert.Forward.nD Cert.Forward.τ Cert.Forward.sig) → Buf (Elt Bits) ℓ) (g : Dev Cert.Forward.nD → PrngReg), Pre_Forward m →
    θ_run (Cert.Forward.defs (F := Bits)) (onTc (τ := Cert.Forward.τ) (Cert.Forward.main (F := Bits))) ⟨m, fun _ => 0, g⟩ (fun r => (∀ c : Dev Cert.Forward.nD,
      r.2.mem ((c.tc : Thread Cert.Forward.nD Cert.Forward.τ).loc Cert.Forward.main_arg0) = m ((c.tc : Thread Cert.Forward.nD Cert.Forward.τ).loc Cert.Forward.main_arg0)
      ∧ r.2.mem ((c.tc : Thread Cert.Forward.nD Cert.Forward.τ).loc Cert.Forward.main_arg1) = m ((c.tc : Thread Cert.Forward.nD Cert.Forward.τ).loc Cert.Forward.main_arg1)
      ∧ r.2.mem ((c.tc : Thread Cert.Forward.nD Cert.Forward.τ).loc Cert.Forward.main_arg2) = m ((c.tc : Thread Cert.Forward.nD Cert.Forward.τ).loc Cert.Forward.main_arg2))
      ∧ r.2.sem = fun _ => 0)

def quiescent_ForwardIdeal [hForwardIdeal : Cert.ForwardIdeal.Facts] : Prop :=
  ∀ (m : (ℓ : Loc Cert.ForwardIdeal.nD Cert.ForwardIdeal.τ Cert.ForwardIdeal.sig) → Buf (Elt Ideal) ℓ) (g : Dev Cert.ForwardIdeal.nD → PrngReg), Pre_ForwardIdeal m →
    θ_run (Cert.ForwardIdeal.defs (F := Ideal)) (onTc (τ := Cert.ForwardIdeal.τ) (Cert.ForwardIdeal.main (F := Ideal))) ⟨m, fun _ => 0, g⟩ (fun r => (∀ c : Dev Cert.ForwardIdeal.nD,
      r.2.mem ((c.tc : Thread Cert.ForwardIdeal.nD Cert.ForwardIdeal.τ).loc Cert.ForwardIdeal.main_arg0) = m ((c.tc : Thread Cert.ForwardIdeal.nD Cert.ForwardIdeal.τ).loc Cert.ForwardIdeal.main_arg0)
      ∧ r.2.mem ((c.tc : Thread Cert.ForwardIdeal.nD Cert.ForwardIdeal.τ).loc Cert.ForwardIdeal.main_arg1) = m ((c.tc : Thread Cert.ForwardIdeal.nD Cert.ForwardIdeal.τ).loc Cert.ForwardIdeal.main_arg1)
      ∧ r.2.mem ((c.tc : Thread Cert.ForwardIdeal.nD Cert.ForwardIdeal.τ).loc Cert.ForwardIdeal.main_arg2) = m ((c.tc : Thread Cert.ForwardIdeal.nD Cert.ForwardIdeal.τ).loc Cert.ForwardIdeal.main_arg2))
      ∧ r.2.sem = fun _ => 0)

def quiescent_ForwardIdeal_pre_finite_scores [hForwardIdeal : Cert.ForwardIdeal.Facts] [hPre_finite_scores : Cert.Pre_finite_scores.Facts] : Prop :=
  ∀ (m : (ℓ : Loc Cert.ForwardIdeal.nD Cert.ForwardIdeal.τ Cert.ForwardIdeal.sig) → Buf (Elt Ideal) ℓ) (g : Dev Cert.ForwardIdeal.nD → PrngReg), Pre_ForwardIdeal_finite_scores m →
    θ_run (Cert.ForwardIdeal.defs (F := Ideal)) (onTc (τ := Cert.ForwardIdeal.τ) (Cert.ForwardIdeal.main (F := Ideal))) ⟨m, fun _ => 0, g⟩ (fun r => (∀ c : Dev Cert.ForwardIdeal.nD,
      r.2.mem ((c.tc : Thread Cert.ForwardIdeal.nD Cert.ForwardIdeal.τ).loc Cert.ForwardIdeal.main_arg0) = m ((c.tc : Thread Cert.ForwardIdeal.nD Cert.ForwardIdeal.τ).loc Cert.ForwardIdeal.main_arg0)
      ∧ r.2.mem ((c.tc : Thread Cert.ForwardIdeal.nD Cert.ForwardIdeal.τ).loc Cert.ForwardIdeal.main_arg1) = m ((c.tc : Thread Cert.ForwardIdeal.nD Cert.ForwardIdeal.τ).loc Cert.ForwardIdeal.main_arg1)
      ∧ r.2.mem ((c.tc : Thread Cert.ForwardIdeal.nD Cert.ForwardIdeal.τ).loc Cert.ForwardIdeal.main_arg2) = m ((c.tc : Thread Cert.ForwardIdeal.nD Cert.ForwardIdeal.τ).loc Cert.ForwardIdeal.main_arg2))
      ∧ r.2.sem = fun _ => 0)

def quiescent_ForwardReferenceIdeal [hForwardReferenceIdeal : Cert.ForwardReferenceIdeal.Facts] : Prop :=
  ∀ (m : (ℓ : Loc Cert.ForwardReferenceIdeal.nD Cert.ForwardReferenceIdeal.τ Cert.ForwardReferenceIdeal.sig) → Buf (Elt Ideal) ℓ) (g : Dev Cert.ForwardReferenceIdeal.nD → PrngReg), Pre_ForwardReferenceIdeal m →
    θ_run (Cert.ForwardReferenceIdeal.defs (F := Ideal)) (onTc (τ := Cert.ForwardReferenceIdeal.τ) (Cert.ForwardReferenceIdeal.main (F := Ideal))) ⟨m, fun _ => 0, g⟩ (fun r => (∀ c : Dev Cert.ForwardReferenceIdeal.nD,
      r.2.mem ((c.tc : Thread Cert.ForwardReferenceIdeal.nD Cert.ForwardReferenceIdeal.τ).loc Cert.ForwardReferenceIdeal.main_arg0) = m ((c.tc : Thread Cert.ForwardReferenceIdeal.nD Cert.ForwardReferenceIdeal.τ).loc Cert.ForwardReferenceIdeal.main_arg0)
      ∧ r.2.mem ((c.tc : Thread Cert.ForwardReferenceIdeal.nD Cert.ForwardReferenceIdeal.τ).loc Cert.ForwardReferenceIdeal.main_arg1) = m ((c.tc : Thread Cert.ForwardReferenceIdeal.nD Cert.ForwardReferenceIdeal.τ).loc Cert.ForwardReferenceIdeal.main_arg1)
      ∧ r.2.mem ((c.tc : Thread Cert.ForwardReferenceIdeal.nD Cert.ForwardReferenceIdeal.τ).loc Cert.ForwardReferenceIdeal.main_arg2) = m ((c.tc : Thread Cert.ForwardReferenceIdeal.nD Cert.ForwardReferenceIdeal.τ).loc Cert.ForwardReferenceIdeal.main_arg2))
      ∧ r.2.sem = fun _ => 0)

def quiescent_ForwardReferenceIdeal_pre_finite_scores [hForwardReferenceIdeal : Cert.ForwardReferenceIdeal.Facts] [hPre_finite_scores : Cert.Pre_finite_scores.Facts] : Prop :=
  ∀ (m : (ℓ : Loc Cert.ForwardReferenceIdeal.nD Cert.ForwardReferenceIdeal.τ Cert.ForwardReferenceIdeal.sig) → Buf (Elt Ideal) ℓ) (g : Dev Cert.ForwardReferenceIdeal.nD → PrngReg), Pre_ForwardReferenceIdeal_finite_scores m →
    θ_run (Cert.ForwardReferenceIdeal.defs (F := Ideal)) (onTc (τ := Cert.ForwardReferenceIdeal.τ) (Cert.ForwardReferenceIdeal.main (F := Ideal))) ⟨m, fun _ => 0, g⟩ (fun r => (∀ c : Dev Cert.ForwardReferenceIdeal.nD,
      r.2.mem ((c.tc : Thread Cert.ForwardReferenceIdeal.nD Cert.ForwardReferenceIdeal.τ).loc Cert.ForwardReferenceIdeal.main_arg0) = m ((c.tc : Thread Cert.ForwardReferenceIdeal.nD Cert.ForwardReferenceIdeal.τ).loc Cert.ForwardReferenceIdeal.main_arg0)
      ∧ r.2.mem ((c.tc : Thread Cert.ForwardReferenceIdeal.nD Cert.ForwardReferenceIdeal.τ).loc Cert.ForwardReferenceIdeal.main_arg1) = m ((c.tc : Thread Cert.ForwardReferenceIdeal.nD Cert.ForwardReferenceIdeal.τ).loc Cert.ForwardReferenceIdeal.main_arg1)
      ∧ r.2.mem ((c.tc : Thread Cert.ForwardReferenceIdeal.nD Cert.ForwardReferenceIdeal.τ).loc Cert.ForwardReferenceIdeal.main_arg2) = m ((c.tc : Thread Cert.ForwardReferenceIdeal.nD Cert.ForwardReferenceIdeal.τ).loc Cert.ForwardReferenceIdeal.main_arg2))
      ∧ r.2.sem = fun _ => 0)

def quiescent_Dx [hDx : Cert.Dx.Facts] : Prop :=
  ∀ (m : (ℓ : Loc Cert.Dx.nD Cert.Dx.τ Cert.Dx.sig) → Buf (Elt Bits) ℓ) (g : Dev Cert.Dx.nD → PrngReg), Pre_Dx m →
    θ_run (Cert.Dx.defs (F := Bits)) (onTc (τ := Cert.Dx.τ) (Cert.Dx.main (F := Bits))) ⟨m, fun _ => 0, g⟩ (fun r => (∀ c : Dev Cert.Dx.nD,
      r.2.mem ((c.tc : Thread Cert.Dx.nD Cert.Dx.τ).loc Cert.Dx.main_arg0) = m ((c.tc : Thread Cert.Dx.nD Cert.Dx.τ).loc Cert.Dx.main_arg0)
      ∧ r.2.mem ((c.tc : Thread Cert.Dx.nD Cert.Dx.τ).loc Cert.Dx.main_arg1) = m ((c.tc : Thread Cert.Dx.nD Cert.Dx.τ).loc Cert.Dx.main_arg1)
      ∧ r.2.mem ((c.tc : Thread Cert.Dx.nD Cert.Dx.τ).loc Cert.Dx.main_arg2) = m ((c.tc : Thread Cert.Dx.nD Cert.Dx.τ).loc Cert.Dx.main_arg2)
      ∧ r.2.mem ((c.tc : Thread Cert.Dx.nD Cert.Dx.τ).loc Cert.Dx.main_arg3) = m ((c.tc : Thread Cert.Dx.nD Cert.Dx.τ).loc Cert.Dx.main_arg3)
      ∧ r.2.mem ((c.tc : Thread Cert.Dx.nD Cert.Dx.τ).loc Cert.Dx.main_arg4) = m ((c.tc : Thread Cert.Dx.nD Cert.Dx.τ).loc Cert.Dx.main_arg4)
      ∧ r.2.mem ((c.tc : Thread Cert.Dx.nD Cert.Dx.τ).loc Cert.Dx.main_arg5) = m ((c.tc : Thread Cert.Dx.nD Cert.Dx.τ).loc Cert.Dx.main_arg5)
      ∧ r.2.mem ((c.tc : Thread Cert.Dx.nD Cert.Dx.τ).loc Cert.Dx.main_arg6) = m ((c.tc : Thread Cert.Dx.nD Cert.Dx.τ).loc Cert.Dx.main_arg6)
      ∧ r.2.mem ((c.tc : Thread Cert.Dx.nD Cert.Dx.τ).loc Cert.Dx.main_arg7) = m ((c.tc : Thread Cert.Dx.nD Cert.Dx.τ).loc Cert.Dx.main_arg7)
      ∧ r.2.mem ((c.tc : Thread Cert.Dx.nD Cert.Dx.τ).loc Cert.Dx.main_arg8) = m ((c.tc : Thread Cert.Dx.nD Cert.Dx.τ).loc Cert.Dx.main_arg8)
      ∧ r.2.mem ((c.tc : Thread Cert.Dx.nD Cert.Dx.τ).loc Cert.Dx.main_arg9) = m ((c.tc : Thread Cert.Dx.nD Cert.Dx.τ).loc Cert.Dx.main_arg9)
      ∧ r.2.mem ((c.tc : Thread Cert.Dx.nD Cert.Dx.τ).loc Cert.Dx.main_arg10) = m ((c.tc : Thread Cert.Dx.nD Cert.Dx.τ).loc Cert.Dx.main_arg10)
      ∧ r.2.mem ((c.tc : Thread Cert.Dx.nD Cert.Dx.τ).loc Cert.Dx.main_arg11) = m ((c.tc : Thread Cert.Dx.nD Cert.Dx.τ).loc Cert.Dx.main_arg11)
      ∧ r.2.mem ((c.tc : Thread Cert.Dx.nD Cert.Dx.τ).loc Cert.Dx.main_arg12) = m ((c.tc : Thread Cert.Dx.nD Cert.Dx.τ).loc Cert.Dx.main_arg12))
      ∧ r.2.sem = fun _ => 0)

def quiescent_DxIdeal [hDxIdeal : Cert.DxIdeal.Facts] : Prop :=
  ∀ (m : (ℓ : Loc Cert.DxIdeal.nD Cert.DxIdeal.τ Cert.DxIdeal.sig) → Buf (Elt Ideal) ℓ) (g : Dev Cert.DxIdeal.nD → PrngReg), Pre_DxIdeal m →
    θ_run (Cert.DxIdeal.defs (F := Ideal)) (onTc (τ := Cert.DxIdeal.τ) (Cert.DxIdeal.main (F := Ideal))) ⟨m, fun _ => 0, g⟩ (fun r => (∀ c : Dev Cert.DxIdeal.nD,
      r.2.mem ((c.tc : Thread Cert.DxIdeal.nD Cert.DxIdeal.τ).loc Cert.DxIdeal.main_arg0) = m ((c.tc : Thread Cert.DxIdeal.nD Cert.DxIdeal.τ).loc Cert.DxIdeal.main_arg0)
      ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
      ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
      ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
      ∧ r.2.mem ((c.tc : Thread Cert.DxIdeal.nD Cert.DxIdeal.τ).loc Cert.DxIdeal.main_arg4) = m ((c.tc : Thread Cert.DxIdeal.nD Cert.DxIdeal.τ).loc Cert.DxIdeal.main_arg4)
      ∧ r.2.mem ((c.tc : Thread Cert.DxIdeal.nD Cert.DxIdeal.τ).loc Cert.DxIdeal.main_arg5) = m ((c.tc : Thread Cert.DxIdeal.nD Cert.DxIdeal.τ).loc Cert.DxIdeal.main_arg5)
      ∧ r.2.mem ((c.tc : Thread Cert.DxIdeal.nD Cert.DxIdeal.τ).loc Cert.DxIdeal.main_arg6) = m ((c.tc : Thread Cert.DxIdeal.nD Cert.DxIdeal.τ).loc Cert.DxIdeal.main_arg6)
      ∧ r.2.mem ((c.tc : Thread Cert.DxIdeal.nD Cert.DxIdeal.τ).loc Cert.DxIdeal.main_arg7) = m ((c.tc : Thread Cert.DxIdeal.nD Cert.DxIdeal.τ).loc Cert.DxIdeal.main_arg7)
      ∧ r.2.mem ((c.tc : Thread Cert.DxIdeal.nD Cert.DxIdeal.τ).loc Cert.DxIdeal.main_arg8) = m ((c.tc : Thread Cert.DxIdeal.nD Cert.DxIdeal.τ).loc Cert.DxIdeal.main_arg8)
      ∧ r.2.mem ((c.tc : Thread Cert.DxIdeal.nD Cert.DxIdeal.τ).loc Cert.DxIdeal.main_arg9) = m ((c.tc : Thread Cert.DxIdeal.nD Cert.DxIdeal.τ).loc Cert.DxIdeal.main_arg9)
      ∧ r.2.mem ((c.tc : Thread Cert.DxIdeal.nD Cert.DxIdeal.τ).loc Cert.DxIdeal.main_arg10) = m ((c.tc : Thread Cert.DxIdeal.nD Cert.DxIdeal.τ).loc Cert.DxIdeal.main_arg10)
      ∧ r.2.mem ((c.tc : Thread Cert.DxIdeal.nD Cert.DxIdeal.τ).loc Cert.DxIdeal.main_arg11) = m ((c.tc : Thread Cert.DxIdeal.nD Cert.DxIdeal.τ).loc Cert.DxIdeal.main_arg11)
      ∧ r.2.mem ((c.tc : Thread Cert.DxIdeal.nD Cert.DxIdeal.τ).loc Cert.DxIdeal.main_arg12) = m ((c.tc : Thread Cert.DxIdeal.nD Cert.DxIdeal.τ).loc Cert.DxIdeal.main_arg12))
      ∧ r.2.sem = fun _ => 0)

def quiescent_DxReferenceIdeal [hDxReferenceIdeal : Cert.DxReferenceIdeal.Facts] : Prop :=
  ∀ (m : (ℓ : Loc Cert.DxReferenceIdeal.nD Cert.DxReferenceIdeal.τ Cert.DxReferenceIdeal.sig) → Buf (Elt Ideal) ℓ) (g : Dev Cert.DxReferenceIdeal.nD → PrngReg), Pre_DxReferenceIdeal m →
    θ_run (Cert.DxReferenceIdeal.defs (F := Ideal)) (onTc (τ := Cert.DxReferenceIdeal.τ) (Cert.DxReferenceIdeal.main (F := Ideal))) ⟨m, fun _ => 0, g⟩ (fun r => (∀ c : Dev Cert.DxReferenceIdeal.nD,
      r.2.mem ((c.tc : Thread Cert.DxReferenceIdeal.nD Cert.DxReferenceIdeal.τ).loc Cert.DxReferenceIdeal.main_arg0) = m ((c.tc : Thread Cert.DxReferenceIdeal.nD Cert.DxReferenceIdeal.τ).loc Cert.DxReferenceIdeal.main_arg0)
      ∧ r.2.mem ((c.tc : Thread Cert.DxReferenceIdeal.nD Cert.DxReferenceIdeal.τ).loc Cert.DxReferenceIdeal.main_arg1) = m ((c.tc : Thread Cert.DxReferenceIdeal.nD Cert.DxReferenceIdeal.τ).loc Cert.DxReferenceIdeal.main_arg1)
      ∧ r.2.mem ((c.tc : Thread Cert.DxReferenceIdeal.nD Cert.DxReferenceIdeal.τ).loc Cert.DxReferenceIdeal.main_arg2) = m ((c.tc : Thread Cert.DxReferenceIdeal.nD Cert.DxReferenceIdeal.τ).loc Cert.DxReferenceIdeal.main_arg2)
      ∧ r.2.mem ((c.tc : Thread Cert.DxReferenceIdeal.nD Cert.DxReferenceIdeal.τ).loc Cert.DxReferenceIdeal.main_arg3) = m ((c.tc : Thread Cert.DxReferenceIdeal.nD Cert.DxReferenceIdeal.τ).loc Cert.DxReferenceIdeal.main_arg3)
      ∧ r.2.mem ((c.tc : Thread Cert.DxReferenceIdeal.nD Cert.DxReferenceIdeal.τ).loc Cert.DxReferenceIdeal.main_arg4) = m ((c.tc : Thread Cert.DxReferenceIdeal.nD Cert.DxReferenceIdeal.τ).loc Cert.DxReferenceIdeal.main_arg4)
      ∧ r.2.mem ((c.tc : Thread Cert.DxReferenceIdeal.nD Cert.DxReferenceIdeal.τ).loc Cert.DxReferenceIdeal.main_arg5) = m ((c.tc : Thread Cert.DxReferenceIdeal.nD Cert.DxReferenceIdeal.τ).loc Cert.DxReferenceIdeal.main_arg5)
      ∧ r.2.mem ((c.tc : Thread Cert.DxReferenceIdeal.nD Cert.DxReferenceIdeal.τ).loc Cert.DxReferenceIdeal.main_arg6) = m ((c.tc : Thread Cert.DxReferenceIdeal.nD Cert.DxReferenceIdeal.τ).loc Cert.DxReferenceIdeal.main_arg6)
      ∧ r.2.mem ((c.tc : Thread Cert.DxReferenceIdeal.nD Cert.DxReferenceIdeal.τ).loc Cert.DxReferenceIdeal.main_arg7) = m ((c.tc : Thread Cert.DxReferenceIdeal.nD Cert.DxReferenceIdeal.τ).loc Cert.DxReferenceIdeal.main_arg7)
      ∧ r.2.mem ((c.tc : Thread Cert.DxReferenceIdeal.nD Cert.DxReferenceIdeal.τ).loc Cert.DxReferenceIdeal.main_arg8) = m ((c.tc : Thread Cert.DxReferenceIdeal.nD Cert.DxReferenceIdeal.τ).loc Cert.DxReferenceIdeal.main_arg8)
      ∧ r.2.mem ((c.tc : Thread Cert.DxReferenceIdeal.nD Cert.DxReferenceIdeal.τ).loc Cert.DxReferenceIdeal.main_arg9) = m ((c.tc : Thread Cert.DxReferenceIdeal.nD Cert.DxReferenceIdeal.τ).loc Cert.DxReferenceIdeal.main_arg9)
      ∧ r.2.mem ((c.tc : Thread Cert.DxReferenceIdeal.nD Cert.DxReferenceIdeal.τ).loc Cert.DxReferenceIdeal.main_arg10) = m ((c.tc : Thread Cert.DxReferenceIdeal.nD Cert.DxReferenceIdeal.τ).loc Cert.DxReferenceIdeal.main_arg10)
      ∧ r.2.mem ((c.tc : Thread Cert.DxReferenceIdeal.nD Cert.DxReferenceIdeal.τ).loc Cert.DxReferenceIdeal.main_arg11) = m ((c.tc : Thread Cert.DxReferenceIdeal.nD Cert.DxReferenceIdeal.τ).loc Cert.DxReferenceIdeal.main_arg11)
      ∧ r.2.mem ((c.tc : Thread Cert.DxReferenceIdeal.nD Cert.DxReferenceIdeal.τ).loc Cert.DxReferenceIdeal.main_arg12) = m ((c.tc : Thread Cert.DxReferenceIdeal.nD Cert.DxReferenceIdeal.τ).loc Cert.DxReferenceIdeal.main_arg12))
      ∧ r.2.sem = fun _ => 0)

def quiescent_Dw [hDw : Cert.Dw.Facts] : Prop :=
  ∀ (m : (ℓ : Loc Cert.Dw.nD Cert.Dw.τ Cert.Dw.sig) → Buf (Elt Bits) ℓ) (g : Dev Cert.Dw.nD → PrngReg), Pre_Dw m →
    θ_run (Cert.Dw.defs (F := Bits)) (onTc (τ := Cert.Dw.τ) (Cert.Dw.main (F := Bits))) ⟨m, fun _ => 0, g⟩ (fun r => (∀ c : Dev Cert.Dw.nD,
      r.2.mem ((c.tc : Thread Cert.Dw.nD Cert.Dw.τ).loc Cert.Dw.main_arg0) = m ((c.tc : Thread Cert.Dw.nD Cert.Dw.τ).loc Cert.Dw.main_arg0)
      ∧ r.2.mem ((c.tc : Thread Cert.Dw.nD Cert.Dw.τ).loc Cert.Dw.main_arg1) = m ((c.tc : Thread Cert.Dw.nD Cert.Dw.τ).loc Cert.Dw.main_arg1)
      ∧ r.2.mem ((c.tc : Thread Cert.Dw.nD Cert.Dw.τ).loc Cert.Dw.main_arg2) = m ((c.tc : Thread Cert.Dw.nD Cert.Dw.τ).loc Cert.Dw.main_arg2)
      ∧ r.2.mem ((c.tc : Thread Cert.Dw.nD Cert.Dw.τ).loc Cert.Dw.main_arg3) = m ((c.tc : Thread Cert.Dw.nD Cert.Dw.τ).loc Cert.Dw.main_arg3)
      ∧ r.2.mem ((c.tc : Thread Cert.Dw.nD Cert.Dw.τ).loc Cert.Dw.main_arg4) = m ((c.tc : Thread Cert.Dw.nD Cert.Dw.τ).loc Cert.Dw.main_arg4)
      ∧ r.2.mem ((c.tc : Thread Cert.Dw.nD Cert.Dw.τ).loc Cert.Dw.main_arg5) = m ((c.tc : Thread Cert.Dw.nD Cert.Dw.τ).loc Cert.Dw.main_arg5)
      ∧ r.2.mem ((c.tc : Thread Cert.Dw.nD Cert.Dw.τ).loc Cert.Dw.main_arg6) = m ((c.tc : Thread Cert.Dw.nD Cert.Dw.τ).loc Cert.Dw.main_arg6)
      ∧ r.2.mem ((c.tc : Thread Cert.Dw.nD Cert.Dw.τ).loc Cert.Dw.main_arg7) = m ((c.tc : Thread Cert.Dw.nD Cert.Dw.τ).loc Cert.Dw.main_arg7)
      ∧ r.2.mem ((c.tc : Thread Cert.Dw.nD Cert.Dw.τ).loc Cert.Dw.main_arg8) = m ((c.tc : Thread Cert.Dw.nD Cert.Dw.τ).loc Cert.Dw.main_arg8)
      ∧ r.2.mem ((c.tc : Thread Cert.Dw.nD Cert.Dw.τ).loc Cert.Dw.main_arg9) = m ((c.tc : Thread Cert.Dw.nD Cert.Dw.τ).loc Cert.Dw.main_arg9)
      ∧ r.2.mem ((c.tc : Thread Cert.Dw.nD Cert.Dw.τ).loc Cert.Dw.main_arg10) = m ((c.tc : Thread Cert.Dw.nD Cert.Dw.τ).loc Cert.Dw.main_arg10)
      ∧ r.2.mem ((c.tc : Thread Cert.Dw.nD Cert.Dw.τ).loc Cert.Dw.main_arg11) = m ((c.tc : Thread Cert.Dw.nD Cert.Dw.τ).loc Cert.Dw.main_arg11)
      ∧ r.2.mem ((c.tc : Thread Cert.Dw.nD Cert.Dw.τ).loc Cert.Dw.main_arg12) = m ((c.tc : Thread Cert.Dw.nD Cert.Dw.τ).loc Cert.Dw.main_arg12))
      ∧ r.2.sem = fun _ => 0)

def quiescent_DwIdeal [hDwIdeal : Cert.DwIdeal.Facts] : Prop :=
  ∀ (m : (ℓ : Loc Cert.DwIdeal.nD Cert.DwIdeal.τ Cert.DwIdeal.sig) → Buf (Elt Ideal) ℓ) (g : Dev Cert.DwIdeal.nD → PrngReg), Pre_DwIdeal m →
    θ_run (Cert.DwIdeal.defs (F := Ideal)) (onTc (τ := Cert.DwIdeal.τ) (Cert.DwIdeal.main (F := Ideal))) ⟨m, fun _ => 0, g⟩ (fun r => (∀ c : Dev Cert.DwIdeal.nD,
      r.2.mem ((c.tc : Thread Cert.DwIdeal.nD Cert.DwIdeal.τ).loc Cert.DwIdeal.main_arg0) = m ((c.tc : Thread Cert.DwIdeal.nD Cert.DwIdeal.τ).loc Cert.DwIdeal.main_arg0)
      ∧ r.2.mem ((c.tc : Thread Cert.DwIdeal.nD Cert.DwIdeal.τ).loc Cert.DwIdeal.main_arg1) = m ((c.tc : Thread Cert.DwIdeal.nD Cert.DwIdeal.τ).loc Cert.DwIdeal.main_arg1)
      ∧ r.2.mem ((c.tc : Thread Cert.DwIdeal.nD Cert.DwIdeal.τ).loc Cert.DwIdeal.main_arg2) = m ((c.tc : Thread Cert.DwIdeal.nD Cert.DwIdeal.τ).loc Cert.DwIdeal.main_arg2)
      ∧ r.2.mem ((c.tc : Thread Cert.DwIdeal.nD Cert.DwIdeal.τ).loc Cert.DwIdeal.main_arg3) = m ((c.tc : Thread Cert.DwIdeal.nD Cert.DwIdeal.τ).loc Cert.DwIdeal.main_arg3)
      ∧ r.2.mem ((c.tc : Thread Cert.DwIdeal.nD Cert.DwIdeal.τ).loc Cert.DwIdeal.main_arg4) = m ((c.tc : Thread Cert.DwIdeal.nD Cert.DwIdeal.τ).loc Cert.DwIdeal.main_arg4)
      ∧ r.2.mem ((c.tc : Thread Cert.DwIdeal.nD Cert.DwIdeal.τ).loc Cert.DwIdeal.main_arg5) = m ((c.tc : Thread Cert.DwIdeal.nD Cert.DwIdeal.τ).loc Cert.DwIdeal.main_arg5)
      ∧ r.2.mem ((c.tc : Thread Cert.DwIdeal.nD Cert.DwIdeal.τ).loc Cert.DwIdeal.main_arg6) = m ((c.tc : Thread Cert.DwIdeal.nD Cert.DwIdeal.τ).loc Cert.DwIdeal.main_arg6)
      ∧ r.2.mem ((c.tc : Thread Cert.DwIdeal.nD Cert.DwIdeal.τ).loc Cert.DwIdeal.main_arg7) = m ((c.tc : Thread Cert.DwIdeal.nD Cert.DwIdeal.τ).loc Cert.DwIdeal.main_arg7)
      ∧ r.2.mem ((c.tc : Thread Cert.DwIdeal.nD Cert.DwIdeal.τ).loc Cert.DwIdeal.main_arg8) = m ((c.tc : Thread Cert.DwIdeal.nD Cert.DwIdeal.τ).loc Cert.DwIdeal.main_arg8)
      ∧ r.2.mem ((c.tc : Thread Cert.DwIdeal.nD Cert.DwIdeal.τ).loc Cert.DwIdeal.main_arg9) = m ((c.tc : Thread Cert.DwIdeal.nD Cert.DwIdeal.τ).loc Cert.DwIdeal.main_arg9)
      ∧ r.2.mem ((c.tc : Thread Cert.DwIdeal.nD Cert.DwIdeal.τ).loc Cert.DwIdeal.main_arg10) = m ((c.tc : Thread Cert.DwIdeal.nD Cert.DwIdeal.τ).loc Cert.DwIdeal.main_arg10)
      ∧ r.2.mem ((c.tc : Thread Cert.DwIdeal.nD Cert.DwIdeal.τ).loc Cert.DwIdeal.main_arg11) = m ((c.tc : Thread Cert.DwIdeal.nD Cert.DwIdeal.τ).loc Cert.DwIdeal.main_arg11)
      ∧ r.2.mem ((c.tc : Thread Cert.DwIdeal.nD Cert.DwIdeal.τ).loc Cert.DwIdeal.main_arg12) = m ((c.tc : Thread Cert.DwIdeal.nD Cert.DwIdeal.τ).loc Cert.DwIdeal.main_arg12))
      ∧ r.2.sem = fun _ => 0)

def quiescent_DwReferenceIdeal [hDwReferenceIdeal : Cert.DwReferenceIdeal.Facts] : Prop :=
  ∀ (m : (ℓ : Loc Cert.DwReferenceIdeal.nD Cert.DwReferenceIdeal.τ Cert.DwReferenceIdeal.sig) → Buf (Elt Ideal) ℓ) (g : Dev Cert.DwReferenceIdeal.nD → PrngReg), Pre_DwReferenceIdeal m →
    θ_run (Cert.DwReferenceIdeal.defs (F := Ideal)) (onTc (τ := Cert.DwReferenceIdeal.τ) (Cert.DwReferenceIdeal.main (F := Ideal))) ⟨m, fun _ => 0, g⟩ (fun r => (∀ c : Dev Cert.DwReferenceIdeal.nD,
      r.2.mem ((c.tc : Thread Cert.DwReferenceIdeal.nD Cert.DwReferenceIdeal.τ).loc Cert.DwReferenceIdeal.main_arg0) = m ((c.tc : Thread Cert.DwReferenceIdeal.nD Cert.DwReferenceIdeal.τ).loc Cert.DwReferenceIdeal.main_arg0)
      ∧ r.2.mem ((c.tc : Thread Cert.DwReferenceIdeal.nD Cert.DwReferenceIdeal.τ).loc Cert.DwReferenceIdeal.main_arg1) = m ((c.tc : Thread Cert.DwReferenceIdeal.nD Cert.DwReferenceIdeal.τ).loc Cert.DwReferenceIdeal.main_arg1)
      ∧ r.2.mem ((c.tc : Thread Cert.DwReferenceIdeal.nD Cert.DwReferenceIdeal.τ).loc Cert.DwReferenceIdeal.main_arg2) = m ((c.tc : Thread Cert.DwReferenceIdeal.nD Cert.DwReferenceIdeal.τ).loc Cert.DwReferenceIdeal.main_arg2)
      ∧ r.2.mem ((c.tc : Thread Cert.DwReferenceIdeal.nD Cert.DwReferenceIdeal.τ).loc Cert.DwReferenceIdeal.main_arg3) = m ((c.tc : Thread Cert.DwReferenceIdeal.nD Cert.DwReferenceIdeal.τ).loc Cert.DwReferenceIdeal.main_arg3)
      ∧ r.2.mem ((c.tc : Thread Cert.DwReferenceIdeal.nD Cert.DwReferenceIdeal.τ).loc Cert.DwReferenceIdeal.main_arg4) = m ((c.tc : Thread Cert.DwReferenceIdeal.nD Cert.DwReferenceIdeal.τ).loc Cert.DwReferenceIdeal.main_arg4)
      ∧ r.2.mem ((c.tc : Thread Cert.DwReferenceIdeal.nD Cert.DwReferenceIdeal.τ).loc Cert.DwReferenceIdeal.main_arg5) = m ((c.tc : Thread Cert.DwReferenceIdeal.nD Cert.DwReferenceIdeal.τ).loc Cert.DwReferenceIdeal.main_arg5)
      ∧ r.2.mem ((c.tc : Thread Cert.DwReferenceIdeal.nD Cert.DwReferenceIdeal.τ).loc Cert.DwReferenceIdeal.main_arg6) = m ((c.tc : Thread Cert.DwReferenceIdeal.nD Cert.DwReferenceIdeal.τ).loc Cert.DwReferenceIdeal.main_arg6)
      ∧ r.2.mem ((c.tc : Thread Cert.DwReferenceIdeal.nD Cert.DwReferenceIdeal.τ).loc Cert.DwReferenceIdeal.main_arg7) = m ((c.tc : Thread Cert.DwReferenceIdeal.nD Cert.DwReferenceIdeal.τ).loc Cert.DwReferenceIdeal.main_arg7)
      ∧ r.2.mem ((c.tc : Thread Cert.DwReferenceIdeal.nD Cert.DwReferenceIdeal.τ).loc Cert.DwReferenceIdeal.main_arg8) = m ((c.tc : Thread Cert.DwReferenceIdeal.nD Cert.DwReferenceIdeal.τ).loc Cert.DwReferenceIdeal.main_arg8)
      ∧ r.2.mem ((c.tc : Thread Cert.DwReferenceIdeal.nD Cert.DwReferenceIdeal.τ).loc Cert.DwReferenceIdeal.main_arg9) = m ((c.tc : Thread Cert.DwReferenceIdeal.nD Cert.DwReferenceIdeal.τ).loc Cert.DwReferenceIdeal.main_arg9)
      ∧ r.2.mem ((c.tc : Thread Cert.DwReferenceIdeal.nD Cert.DwReferenceIdeal.τ).loc Cert.DwReferenceIdeal.main_arg10) = m ((c.tc : Thread Cert.DwReferenceIdeal.nD Cert.DwReferenceIdeal.τ).loc Cert.DwReferenceIdeal.main_arg10)
      ∧ r.2.mem ((c.tc : Thread Cert.DwReferenceIdeal.nD Cert.DwReferenceIdeal.τ).loc Cert.DwReferenceIdeal.main_arg11) = m ((c.tc : Thread Cert.DwReferenceIdeal.nD Cert.DwReferenceIdeal.τ).loc Cert.DwReferenceIdeal.main_arg11)
      ∧ r.2.mem ((c.tc : Thread Cert.DwReferenceIdeal.nD Cert.DwReferenceIdeal.τ).loc Cert.DwReferenceIdeal.main_arg12) = m ((c.tc : Thread Cert.DwReferenceIdeal.nD Cert.DwReferenceIdeal.τ).loc Cert.DwReferenceIdeal.main_arg12))
      ∧ r.2.sem = fun _ => 0)

def quiescent_Split [hSplit : Cert.Split.Facts] : Prop :=
  ∀ (m : (ℓ : Loc Cert.Split.nD Cert.Split.τ Cert.Split.sig) → Buf (Elt Bits) ℓ) (g : Dev Cert.Split.nD → PrngReg), Pre_Split m →
    θ_run (Cert.Split.defs (F := Bits)) (onTc (τ := Cert.Split.τ) (Cert.Split.main (F := Bits))) ⟨m, fun _ => 0, g⟩ (fun r => (∀ c : Dev Cert.Split.nD,
      r.2.mem ((c.tc : Thread Cert.Split.nD Cert.Split.τ).loc Cert.Split.main_arg0) = m ((c.tc : Thread Cert.Split.nD Cert.Split.τ).loc Cert.Split.main_arg0)
      ∧ r.2.mem ((c.tc : Thread Cert.Split.nD Cert.Split.τ).loc Cert.Split.main_arg1) = m ((c.tc : Thread Cert.Split.nD Cert.Split.τ).loc Cert.Split.main_arg1))
      ∧ r.2.sem = fun _ => 0)

def quiescent_SplitIdeal [hSplitIdeal : Cert.SplitIdeal.Facts] : Prop :=
  ∀ (m : (ℓ : Loc Cert.SplitIdeal.nD Cert.SplitIdeal.τ Cert.SplitIdeal.sig) → Buf (Elt Ideal) ℓ) (g : Dev Cert.SplitIdeal.nD → PrngReg), Pre_SplitIdeal m →
    θ_run (Cert.SplitIdeal.defs (F := Ideal)) (onTc (τ := Cert.SplitIdeal.τ) (Cert.SplitIdeal.main (F := Ideal))) ⟨m, fun _ => 0, g⟩ (fun r => (∀ c : Dev Cert.SplitIdeal.nD,
      r.2.mem ((c.tc : Thread Cert.SplitIdeal.nD Cert.SplitIdeal.τ).loc Cert.SplitIdeal.main_arg0) = m ((c.tc : Thread Cert.SplitIdeal.nD Cert.SplitIdeal.τ).loc Cert.SplitIdeal.main_arg0)
      ∧ r.2.mem ((c.tc : Thread Cert.SplitIdeal.nD Cert.SplitIdeal.τ).loc Cert.SplitIdeal.main_arg1) = m ((c.tc : Thread Cert.SplitIdeal.nD Cert.SplitIdeal.τ).loc Cert.SplitIdeal.main_arg1))
      ∧ r.2.sem = fun _ => 0)

def quiescent_SplitReferenceIdeal [hSplitReferenceIdeal : Cert.SplitReferenceIdeal.Facts] : Prop :=
  ∀ (m : (ℓ : Loc Cert.SplitReferenceIdeal.nD Cert.SplitReferenceIdeal.τ Cert.SplitReferenceIdeal.sig) → Buf (Elt Ideal) ℓ) (g : Dev Cert.SplitReferenceIdeal.nD → PrngReg), Pre_SplitReferenceIdeal m →
    θ_run (Cert.SplitReferenceIdeal.defs (F := Ideal)) (onTc (τ := Cert.SplitReferenceIdeal.τ) (Cert.SplitReferenceIdeal.main (F := Ideal))) ⟨m, fun _ => 0, g⟩ (fun r => (∀ c : Dev Cert.SplitReferenceIdeal.nD,
      r.2.mem ((c.tc : Thread Cert.SplitReferenceIdeal.nD Cert.SplitReferenceIdeal.τ).loc Cert.SplitReferenceIdeal.main_arg0) = m ((c.tc : Thread Cert.SplitReferenceIdeal.nD Cert.SplitReferenceIdeal.τ).loc Cert.SplitReferenceIdeal.main_arg0)
      ∧ r.2.mem ((c.tc : Thread Cert.SplitReferenceIdeal.nD Cert.SplitReferenceIdeal.τ).loc Cert.SplitReferenceIdeal.main_arg1) = m ((c.tc : Thread Cert.SplitReferenceIdeal.nD Cert.SplitReferenceIdeal.τ).loc Cert.SplitReferenceIdeal.main_arg1))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3)
      ∧ r.2.mem ((c.tc : Thread Cert.Gate.nD Cert.Gate.τ).loc Cert.Gate.main_arg4) = m ((c.tc : Thread Cert.Gate.nD Cert.Gate.τ).loc Cert.Gate.main_arg4)
      ∧ r.2.mem ((c.tc : Thread Cert.Gate.nD Cert.Gate.τ).loc Cert.Gate.main_arg5) = m ((c.tc : Thread Cert.Gate.nD Cert.Gate.τ).loc Cert.Gate.main_arg5))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
      ∧ r.2.mem ((c.tc : Thread Cert.GateIdeal.nD Cert.GateIdeal.τ).loc Cert.GateIdeal.main_arg5) = m ((c.tc : Thread Cert.GateIdeal.nD Cert.GateIdeal.τ).loc Cert.GateIdeal.main_arg5))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2)
      ∧ r.2.mem ((c.tc : Thread Cert.GateReferenceIdeal.nD Cert.GateReferenceIdeal.τ).loc Cert.GateReferenceIdeal.main_arg3) = m ((c.tc : Thread Cert.GateReferenceIdeal.nD Cert.GateReferenceIdeal.τ).loc Cert.GateReferenceIdeal.main_arg3)
      ∧ r.2.mem ((c.tc : Thread Cert.GateReferenceIdeal.nD Cert.GateReferenceIdeal.τ).loc Cert.GateReferenceIdeal.main_arg4) = m ((c.tc : Thread Cert.GateReferenceIdeal.nD Cert.GateReferenceIdeal.τ).loc Cert.GateReferenceIdeal.main_arg4)
      ∧ r.2.mem ((c.tc : Thread Cert.GateReferenceIdeal.nD Cert.GateReferenceIdeal.τ).loc Cert.GateReferenceIdeal.main_arg5) = m ((c.tc : Thread Cert.GateReferenceIdeal.nD Cert.GateReferenceIdeal.τ).loc Cert.GateReferenceIdeal.main_arg5))
      ∧ r.2.sem = fun _ => 0)

def quiescent_GateBack [hGateBack : Cert.GateBack.Facts] : Prop :=
  ∀ (m : (ℓ : Loc Cert.GateBack.nD Cert.GateBack.τ Cert.GateBack.sig) → Buf (Elt Bits) ℓ) (g : Dev Cert.GateBack.nD → PrngReg), Pre_GateBack m →
    θ_run (Cert.GateBack.defs (F := Bits)) (onTc (τ := Cert.GateBack.τ) (Cert.GateBack.main (F := Bits))) ⟨m, fun _ => 0, g⟩ (fun r => (∀ c : Dev Cert.GateBack.nD,
      r.2.mem ((c.tc : Thread Cert.GateBack.nD Cert.GateBack.τ).loc Cert.GateBack.main_arg0) = m ((c.tc : Thread Cert.GateBack.nD Cert.GateBack.τ).loc Cert.GateBack.main_arg0)
      ∧ r.2.mem ((c.tc : Thread Cert.GateBack.nD Cert.GateBack.τ).loc Cert.GateBack.main_arg1) = m ((c.tc : Thread Cert.GateBack.nD Cert.GateBack.τ).loc Cert.GateBack.main_arg1)
      ∧ r.2.mem ((c.tc : Thread Cert.GateBack.nD Cert.GateBack.τ).loc Cert.GateBack.main_arg2) = m ((c.tc : Thread Cert.GateBack.nD Cert.GateBack.τ).loc Cert.GateBack.main_arg2)
      ∧ r.2.mem ((c.tc : Thread Cert.GateBack.nD Cert.GateBack.τ).loc Cert.GateBack.main_arg3) = m ((c.tc : Thread Cert.GateBack.nD Cert.GateBack.τ).loc Cert.GateBack.main_arg3)
      ∧ r.2.mem ((c.tc : Thread Cert.GateBack.nD Cert.GateBack.τ).loc Cert.GateBack.main_arg4) = m ((c.tc : Thread Cert.GateBack.nD Cert.GateBack.τ).loc Cert.GateBack.main_arg4)
      ∧ r.2.mem ((c.tc : Thread Cert.GateBack.nD Cert.GateBack.τ).loc Cert.GateBack.main_arg5) = m ((c.tc : Thread Cert.GateBack.nD Cert.GateBack.τ).loc Cert.GateBack.main_arg5)
      ∧ r.2.mem ((c.tc : Thread Cert.GateBack.nD Cert.GateBack.τ).loc Cert.GateBack.main_arg6) = m ((c.tc : Thread Cert.GateBack.nD Cert.GateBack.τ).loc Cert.GateBack.main_arg6))
      ∧ r.2.sem = fun _ => 0)

def quiescent_GateBackIdeal [hGateBackIdeal : Cert.GateBackIdeal.Facts] : Prop :=
  ∀ (m : (ℓ : Loc Cert.GateBackIdeal.nD Cert.GateBackIdeal.τ Cert.GateBackIdeal.sig) → Buf (Elt Ideal) ℓ) (g : Dev Cert.GateBackIdeal.nD → PrngReg), Pre_GateBackIdeal m →
    θ_run (Cert.GateBackIdeal.defs (F := Ideal)) (onTc (τ := Cert.GateBackIdeal.τ) (Cert.GateBackIdeal.main (F := Ideal))) ⟨m, fun _ => 0, g⟩ (fun r => (∀ c : Dev Cert.GateBackIdeal.nD,
      r.2.mem ((c.tc : Thread Cert.GateBackIdeal.nD Cert.GateBackIdeal.τ).loc Cert.GateBackIdeal.main_arg0) = m ((c.tc : Thread Cert.GateBackIdeal.nD Cert.GateBackIdeal.τ).loc Cert.GateBackIdeal.main_arg0)
      ∧ r.2.mem ((c.tc : Thread Cert.GateBackIdeal.nD Cert.GateBackIdeal.τ).loc Cert.GateBackIdeal.main_arg1) = m ((c.tc : Thread Cert.GateBackIdeal.nD Cert.GateBackIdeal.τ).loc Cert.GateBackIdeal.main_arg1)
      ∧ r.2.mem ((c.tc : Thread Cert.GateBackIdeal.nD Cert.GateBackIdeal.τ).loc Cert.GateBackIdeal.main_arg2) = m ((c.tc : Thread Cert.GateBackIdeal.nD Cert.GateBackIdeal.τ).loc Cert.GateBackIdeal.main_arg2)
      ∧ r.2.mem ((c.tc : Thread Cert.GateBackIdeal.nD Cert.GateBackIdeal.τ).loc Cert.GateBackIdeal.main_arg3) = m ((c.tc : Thread Cert.GateBackIdeal.nD Cert.GateBackIdeal.τ).loc Cert.GateBackIdeal.main_arg3)
      ∧ r.2.mem ((c.tc : Thread Cert.GateBackIdeal.nD Cert.GateBackIdeal.τ).loc Cert.GateBackIdeal.main_arg4) = m ((c.tc : Thread Cert.GateBackIdeal.nD Cert.GateBackIdeal.τ).loc Cert.GateBackIdeal.main_arg4)
      ∧ r.2.mem ((c.tc : Thread Cert.GateBackIdeal.nD Cert.GateBackIdeal.τ).loc Cert.GateBackIdeal.main_arg5) = m ((c.tc : Thread Cert.GateBackIdeal.nD Cert.GateBackIdeal.τ).loc Cert.GateBackIdeal.main_arg5)
      ∧ r.2.mem ((c.tc : Thread Cert.GateBackIdeal.nD Cert.GateBackIdeal.τ).loc Cert.GateBackIdeal.main_arg6) = m ((c.tc : Thread Cert.GateBackIdeal.nD Cert.GateBackIdeal.τ).loc Cert.GateBackIdeal.main_arg6))
      ∧ r.2.sem = fun _ => 0)

def quiescent_GateBackIdeal_pre_finite_gated [hGateBackIdeal : Cert.GateBackIdeal.Facts] [hPre_finite_gated : Cert.Pre_finite_gated.Facts] : Prop :=
  ∀ (m : (ℓ : Loc Cert.GateBackIdeal.nD Cert.GateBackIdeal.τ Cert.GateBackIdeal.sig) → Buf (Elt Ideal) ℓ) (g : Dev Cert.GateBackIdeal.nD → PrngReg), Pre_GateBackIdeal_finite_gated m →
    θ_run (Cert.GateBackIdeal.defs (F := Ideal)) (onTc (τ := Cert.GateBackIdeal.τ) (Cert.GateBackIdeal.main (F := Ideal))) ⟨m, fun _ => 0, g⟩ (fun r => (∀ c : Dev Cert.GateBackIdeal.nD,
      r.2.mem ((c.tc : Thread Cert.GateBackIdeal.nD Cert.GateBackIdeal.τ).loc Cert.GateBackIdeal.main_arg0) = m ((c.tc : Thread Cert.GateBackIdeal.nD Cert.GateBackIdeal.τ).loc Cert.GateBackIdeal.main_arg0)
      ∧ r.2.mem ((c.tc : Thread Cert.GateBackIdeal.nD Cert.GateBackIdeal.τ).loc Cert.GateBackIdeal.main_arg1) = m ((c.tc : Thread Cert.GateBackIdeal.nD Cert.GateBackIdeal.τ).loc Cert.GateBackIdeal.main_arg1)
      ∧ r.2.mem ((c.tc : Thread Cert.GateBackIdeal.nD Cert.GateBackIdeal.τ).loc Cert.GateBackIdeal.main_arg2) = m ((c.tc : Thread Cert.GateBackIdeal.nD Cert.GateBackIdeal.τ).loc Cert.GateBackIdeal.main_arg2)
      ∧ r.2.mem ((c.tc : Thread Cert.GateBackIdeal.nD Cert.GateBackIdeal.τ).loc Cert.GateBackIdeal.main_arg3) = m ((c.tc : Thread Cert.GateBackIdeal.nD Cert.GateBackIdeal.τ).loc Cert.GateBackIdeal.main_arg3)
      ∧ r.2.mem ((c.tc : Thread Cert.GateBackIdeal.nD Cert.GateBackIdeal.τ).loc Cert.GateBackIdeal.main_arg4) = m ((c.tc : Thread Cert.GateBackIdeal.nD Cert.GateBackIdeal.τ).loc Cert.GateBackIdeal.main_arg4)
      ∧ r.2.mem ((c.tc : Thread Cert.GateBackIdeal.nD Cert.GateBackIdeal.τ).loc Cert.GateBackIdeal.main_arg5) = m ((c.tc : Thread Cert.GateBackIdeal.nD Cert.GateBackIdeal.τ).loc Cert.GateBackIdeal.main_arg5)
      ∧ r.2.mem ((c.tc : Thread Cert.GateBackIdeal.nD Cert.GateBackIdeal.τ).loc Cert.GateBackIdeal.main_arg6) = m ((c.tc : Thread Cert.GateBackIdeal.nD Cert.GateBackIdeal.τ).loc Cert.GateBackIdeal.main_arg6))
      ∧ r.2.sem = fun _ => 0)

def quiescent_GateBackReferenceIdeal [hGateBackReferenceIdeal : Cert.GateBackReferenceIdeal.Facts] : Prop :=
  ∀ (m : (ℓ : Loc Cert.GateBackReferenceIdeal.nD Cert.GateBackReferenceIdeal.τ Cert.GateBackReferenceIdeal.sig) → Buf (Elt Ideal) ℓ) (g : Dev Cert.GateBackReferenceIdeal.nD → PrngReg), Pre_GateBackReferenceIdeal m →
    θ_run (Cert.GateBackReferenceIdeal.defs (F := Ideal)) (onTc (τ := Cert.GateBackReferenceIdeal.τ) (Cert.GateBackReferenceIdeal.main (F := Ideal))) ⟨m, fun _ => 0, g⟩ (fun r => (∀ c : Dev Cert.GateBackReferenceIdeal.nD,
      r.2.mem ((c.tc : Thread Cert.GateBackReferenceIdeal.nD Cert.GateBackReferenceIdeal.τ).loc Cert.GateBackReferenceIdeal.main_arg0) = m ((c.tc : Thread Cert.GateBackReferenceIdeal.nD Cert.GateBackReferenceIdeal.τ).loc Cert.GateBackReferenceIdeal.main_arg0)
      ∧ r.2.mem ((c.tc : Thread Cert.GateBackReferenceIdeal.nD Cert.GateBackReferenceIdeal.τ).loc Cert.GateBackReferenceIdeal.main_arg1) = m ((c.tc : Thread Cert.GateBackReferenceIdeal.nD Cert.GateBackReferenceIdeal.τ).loc Cert.GateBackReferenceIdeal.main_arg1)
      ∧ r.2.mem ((c.tc : Thread Cert.GateBackReferenceIdeal.nD Cert.GateBackReferenceIdeal.τ).loc Cert.GateBackReferenceIdeal.main_arg2) = m ((c.tc : Thread Cert.GateBackReferenceIdeal.nD Cert.GateBackReferenceIdeal.τ).loc Cert.GateBackReferenceIdeal.main_arg2)
      ∧ r.2.mem ((c.tc : Thread Cert.GateBackReferenceIdeal.nD Cert.GateBackReferenceIdeal.τ).loc Cert.GateBackReferenceIdeal.main_arg3) = m ((c.tc : Thread Cert.GateBackReferenceIdeal.nD Cert.GateBackReferenceIdeal.τ).loc Cert.GateBackReferenceIdeal.main_arg3)
      ∧ r.2.mem ((c.tc : Thread Cert.GateBackReferenceIdeal.nD Cert.GateBackReferenceIdeal.τ).loc Cert.GateBackReferenceIdeal.main_arg4) = m ((c.tc : Thread Cert.GateBackReferenceIdeal.nD Cert.GateBackReferenceIdeal.τ).loc Cert.GateBackReferenceIdeal.main_arg4)
      ∧ r.2.mem ((c.tc : Thread Cert.GateBackReferenceIdeal.nD Cert.GateBackReferenceIdeal.τ).loc Cert.GateBackReferenceIdeal.main_arg5) = m ((c.tc : Thread Cert.GateBackReferenceIdeal.nD Cert.GateBackReferenceIdeal.τ).loc Cert.GateBackReferenceIdeal.main_arg5)
      ∧ r.2.mem ((c.tc : Thread Cert.GateBackReferenceIdeal.nD Cert.GateBackReferenceIdeal.τ).loc Cert.GateBackReferenceIdeal.main_arg6) = m ((c.tc : Thread Cert.GateBackReferenceIdeal.nD Cert.GateBackReferenceIdeal.τ).loc Cert.GateBackReferenceIdeal.main_arg6))
      ∧ r.2.sem = fun _ => 0)

def quiescent_GateBackReferenceIdeal_pre_finite_gated [hGateBackReferenceIdeal : Cert.GateBackReferenceIdeal.Facts] [hPre_finite_gated : Cert.Pre_finite_gated.Facts] : Prop :=
  ∀ (m : (ℓ : Loc Cert.GateBackReferenceIdeal.nD Cert.GateBackReferenceIdeal.τ Cert.GateBackReferenceIdeal.sig) → Buf (Elt Ideal) ℓ) (g : Dev Cert.GateBackReferenceIdeal.nD → PrngReg), Pre_GateBackReferenceIdeal_finite_gated m →
    θ_run (Cert.GateBackReferenceIdeal.defs (F := Ideal)) (onTc (τ := Cert.GateBackReferenceIdeal.τ) (Cert.GateBackReferenceIdeal.main (F := Ideal))) ⟨m, fun _ => 0, g⟩ (fun r => (∀ c : Dev Cert.GateBackReferenceIdeal.nD,
      r.2.mem ((c.tc : Thread Cert.GateBackReferenceIdeal.nD Cert.GateBackReferenceIdeal.τ).loc Cert.GateBackReferenceIdeal.main_arg0) = m ((c.tc : Thread Cert.GateBackReferenceIdeal.nD Cert.GateBackReferenceIdeal.τ).loc Cert.GateBackReferenceIdeal.main_arg0)
      ∧ r.2.mem ((c.tc : Thread Cert.GateBackReferenceIdeal.nD Cert.GateBackReferenceIdeal.τ).loc Cert.GateBackReferenceIdeal.main_arg1) = m ((c.tc : Thread Cert.GateBackReferenceIdeal.nD Cert.GateBackReferenceIdeal.τ).loc Cert.GateBackReferenceIdeal.main_arg1)
      ∧ r.2.mem ((c.tc : Thread Cert.GateBackReferenceIdeal.nD Cert.GateBackReferenceIdeal.τ).loc Cert.GateBackReferenceIdeal.main_arg2) = m ((c.tc : Thread Cert.GateBackReferenceIdeal.nD Cert.GateBackReferenceIdeal.τ).loc Cert.GateBackReferenceIdeal.main_arg2)
      ∧ r.2.mem ((c.tc : Thread Cert.GateBackReferenceIdeal.nD Cert.GateBackReferenceIdeal.τ).loc Cert.GateBackReferenceIdeal.main_arg3) = m ((c.tc : Thread Cert.GateBackReferenceIdeal.nD Cert.GateBackReferenceIdeal.τ).loc Cert.GateBackReferenceIdeal.main_arg3)
      ∧ r.2.mem ((c.tc : Thread Cert.GateBackReferenceIdeal.nD Cert.GateBackReferenceIdeal.τ).loc Cert.GateBackReferenceIdeal.main_arg4) = m ((c.tc : Thread Cert.GateBackReferenceIdeal.nD Cert.GateBackReferenceIdeal.τ).loc Cert.GateBackReferenceIdeal.main_arg4)
      ∧ r.2.mem ((c.tc : Thread Cert.GateBackReferenceIdeal.nD Cert.GateBackReferenceIdeal.τ).loc Cert.GateBackReferenceIdeal.main_arg5) = m ((c.tc : Thread Cert.GateBackReferenceIdeal.nD Cert.GateBackReferenceIdeal.τ).loc Cert.GateBackReferenceIdeal.main_arg5)
      ∧ r.2.mem ((c.tc : Thread Cert.GateBackReferenceIdeal.nD Cert.GateBackReferenceIdeal.τ).loc Cert.GateBackReferenceIdeal.main_arg6) = m ((c.tc : Thread Cert.GateBackReferenceIdeal.nD Cert.GateBackReferenceIdeal.τ).loc Cert.GateBackReferenceIdeal.main_arg6))
      ∧ r.2.sem = fun _ => 0)

def quiescent_GateDw [hGateDw : Cert.GateDw.Facts] : Prop :=
  ∀ (m : (ℓ : Loc Cert.GateDw.nD Cert.GateDw.τ Cert.GateDw.sig) → Buf (Elt Bits) ℓ) (g : Dev Cert.GateDw.nD → PrngReg), Pre_GateDw m →
    θ_run (Cert.GateDw.defs (F := Bits)) (onTc (τ := Cert.GateDw.τ) (Cert.GateDw.main (F := Bits))) ⟨m, fun _ => 0, g⟩ (fun r => (∀ c : Dev Cert.GateDw.nD,
      r.2.mem ((c.tc : Thread Cert.GateDw.nD Cert.GateDw.τ).loc Cert.GateDw.main_arg0) = m ((c.tc : Thread Cert.GateDw.nD Cert.GateDw.τ).loc Cert.GateDw.main_arg0)
      ∧ r.2.mem ((c.tc : Thread Cert.GateDw.nD Cert.GateDw.τ).loc Cert.GateDw.main_arg1) = m ((c.tc : Thread Cert.GateDw.nD Cert.GateDw.τ).loc Cert.GateDw.main_arg1)
      ∧ r.2.mem ((c.tc : Thread Cert.GateDw.nD Cert.GateDw.τ).loc Cert.GateDw.main_arg2) = m ((c.tc : Thread Cert.GateDw.nD Cert.GateDw.τ).loc Cert.GateDw.main_arg2)
      ∧ r.2.mem ((c.tc : Thread Cert.GateDw.nD Cert.GateDw.τ).loc Cert.GateDw.main_arg3) = m ((c.tc : Thread Cert.GateDw.nD Cert.GateDw.τ).loc Cert.GateDw.main_arg3)
      ∧ r.2.mem ((c.tc : Thread Cert.GateDw.nD Cert.GateDw.τ).loc Cert.GateDw.main_arg4) = m ((c.tc : Thread Cert.GateDw.nD Cert.GateDw.τ).loc Cert.GateDw.main_arg4)
      ∧ r.2.mem ((c.tc : Thread Cert.GateDw.nD Cert.GateDw.τ).loc Cert.GateDw.main_arg5) = m ((c.tc : Thread Cert.GateDw.nD Cert.GateDw.τ).loc Cert.GateDw.main_arg5))
      ∧ r.2.sem = fun _ => 0)

def quiescent_GateDwIdeal [hGateDwIdeal : Cert.GateDwIdeal.Facts] : Prop :=
  ∀ (m : (ℓ : Loc Cert.GateDwIdeal.nD Cert.GateDwIdeal.τ Cert.GateDwIdeal.sig) → Buf (Elt Ideal) ℓ) (g : Dev Cert.GateDwIdeal.nD → PrngReg), Pre_GateDwIdeal m →
    θ_run (Cert.GateDwIdeal.defs (F := Ideal)) (onTc (τ := Cert.GateDwIdeal.τ) (Cert.GateDwIdeal.main (F := Ideal))) ⟨m, fun _ => 0, g⟩ (fun r => (∀ c : Dev Cert.GateDwIdeal.nD,
      r.2.mem ((c.tc : Thread Cert.GateDwIdeal.nD Cert.GateDwIdeal.τ).loc Cert.GateDwIdeal.main_arg0) = m ((c.tc : Thread Cert.GateDwIdeal.nD Cert.GateDwIdeal.τ).loc Cert.GateDwIdeal.main_arg0)
      ∧ r.2.mem ((c.tc : Thread Cert.GateDwIdeal.nD Cert.GateDwIdeal.τ).loc Cert.GateDwIdeal.main_arg1) = m ((c.tc : Thread Cert.GateDwIdeal.nD Cert.GateDwIdeal.τ).loc Cert.GateDwIdeal.main_arg1)
      ∧ r.2.mem ((c.tc : Thread Cert.GateDwIdeal.nD Cert.GateDwIdeal.τ).loc Cert.GateDwIdeal.main_arg2) = m ((c.tc : Thread Cert.GateDwIdeal.nD Cert.GateDwIdeal.τ).loc Cert.GateDwIdeal.main_arg2)
      ∧ r.2.mem ((c.tc : Thread Cert.GateDwIdeal.nD Cert.GateDwIdeal.τ).loc Cert.GateDwIdeal.main_arg3) = m ((c.tc : Thread Cert.GateDwIdeal.nD Cert.GateDwIdeal.τ).loc Cert.GateDwIdeal.main_arg3)
      ∧ r.2.mem ((c.tc : Thread Cert.GateDwIdeal.nD Cert.GateDwIdeal.τ).loc Cert.GateDwIdeal.main_arg4) = m ((c.tc : Thread Cert.GateDwIdeal.nD Cert.GateDwIdeal.τ).loc Cert.GateDwIdeal.main_arg4)
      ∧ r.2.mem ((c.tc : Thread Cert.GateDwIdeal.nD Cert.GateDwIdeal.τ).loc Cert.GateDwIdeal.main_arg5) = m ((c.tc : Thread Cert.GateDwIdeal.nD Cert.GateDwIdeal.τ).loc Cert.GateDwIdeal.main_arg5))
      ∧ r.2.sem = fun _ => 0)

def quiescent_GateDwReferenceIdeal [hGateDwReferenceIdeal : Cert.GateDwReferenceIdeal.Facts] : Prop :=
  ∀ (m : (ℓ : Loc Cert.GateDwReferenceIdeal.nD Cert.GateDwReferenceIdeal.τ Cert.GateDwReferenceIdeal.sig) → Buf (Elt Ideal) ℓ) (g : Dev Cert.GateDwReferenceIdeal.nD → PrngReg), Pre_GateDwReferenceIdeal m →
    θ_run (Cert.GateDwReferenceIdeal.defs (F := Ideal)) (onTc (τ := Cert.GateDwReferenceIdeal.τ) (Cert.GateDwReferenceIdeal.main (F := Ideal))) ⟨m, fun _ => 0, g⟩ (fun r => (∀ c : Dev Cert.GateDwReferenceIdeal.nD,
      r.2.mem ((c.tc : Thread Cert.GateDwReferenceIdeal.nD Cert.GateDwReferenceIdeal.τ).loc Cert.GateDwReferenceIdeal.main_arg0) = m ((c.tc : Thread Cert.GateDwReferenceIdeal.nD Cert.GateDwReferenceIdeal.τ).loc Cert.GateDwReferenceIdeal.main_arg0)
      ∧ r.2.mem ((c.tc : Thread Cert.GateDwReferenceIdeal.nD Cert.GateDwReferenceIdeal.τ).loc Cert.GateDwReferenceIdeal.main_arg1) = m ((c.tc : Thread Cert.GateDwReferenceIdeal.nD Cert.GateDwReferenceIdeal.τ).loc Cert.GateDwReferenceIdeal.main_arg1)
      ∧ r.2.mem ((c.tc : Thread Cert.GateDwReferenceIdeal.nD Cert.GateDwReferenceIdeal.τ).loc Cert.GateDwReferenceIdeal.main_arg2) = m ((c.tc : Thread Cert.GateDwReferenceIdeal.nD Cert.GateDwReferenceIdeal.τ).loc Cert.GateDwReferenceIdeal.main_arg2)
      ∧ r.2.mem ((c.tc : Thread Cert.GateDwReferenceIdeal.nD Cert.GateDwReferenceIdeal.τ).loc Cert.GateDwReferenceIdeal.main_arg3) = m ((c.tc : Thread Cert.GateDwReferenceIdeal.nD Cert.GateDwReferenceIdeal.τ).loc Cert.GateDwReferenceIdeal.main_arg3)
      ∧ r.2.mem ((c.tc : Thread Cert.GateDwReferenceIdeal.nD Cert.GateDwReferenceIdeal.τ).loc Cert.GateDwReferenceIdeal.main_arg4) = m ((c.tc : Thread Cert.GateDwReferenceIdeal.nD Cert.GateDwReferenceIdeal.τ).loc Cert.GateDwReferenceIdeal.main_arg4)
      ∧ r.2.mem ((c.tc : Thread Cert.GateDwReferenceIdeal.nD Cert.GateDwReferenceIdeal.τ).loc Cert.GateDwReferenceIdeal.main_arg5) = m ((c.tc : Thread Cert.GateDwReferenceIdeal.nD Cert.GateDwReferenceIdeal.τ).loc Cert.GateDwReferenceIdeal.main_arg5))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamReferenceIdeal [hAdamReferenceIdeal : Cert.AdamReferenceIdeal.Facts] : Prop :=
  ∀ (m : (ℓ : Loc Cert.AdamReferenceIdeal.nD Cert.AdamReferenceIdeal.τ Cert.AdamReferenceIdeal.sig) → Buf (Elt Ideal) ℓ) (g : Dev Cert.AdamReferenceIdeal.nD → PrngReg), Pre_AdamReferenceIdeal m →
    θ_run (Cert.AdamReferenceIdeal.defs (F := Ideal)) (onTc (τ := Cert.AdamReferenceIdeal.τ) (Cert.AdamReferenceIdeal.main (F := Ideal))) ⟨m, fun _ => 0, g⟩ (fun r => (∀ c : Dev Cert.AdamReferenceIdeal.nD,
      r.2.mem ((c.tc : Thread Cert.AdamReferenceIdeal.nD Cert.AdamReferenceIdeal.τ).loc Cert.AdamReferenceIdeal.main_arg0) = m ((c.tc : Thread Cert.AdamReferenceIdeal.nD Cert.AdamReferenceIdeal.τ).loc Cert.AdamReferenceIdeal.main_arg0)
      ∧ r.2.mem ((c.tc : Thread Cert.AdamReferenceIdeal.nD Cert.AdamReferenceIdeal.τ).loc Cert.AdamReferenceIdeal.main_arg1) = m ((c.tc : Thread Cert.AdamReferenceIdeal.nD Cert.AdamReferenceIdeal.τ).loc Cert.AdamReferenceIdeal.main_arg1)
      ∧ r.2.mem ((c.tc : Thread Cert.AdamReferenceIdeal.nD Cert.AdamReferenceIdeal.τ).loc Cert.AdamReferenceIdeal.main_arg2) = m ((c.tc : Thread Cert.AdamReferenceIdeal.nD Cert.AdamReferenceIdeal.τ).loc Cert.AdamReferenceIdeal.main_arg2)
      ∧ r.2.mem ((c.tc : Thread Cert.AdamReferenceIdeal.nD Cert.AdamReferenceIdeal.τ).loc Cert.AdamReferenceIdeal.main_arg3) = m ((c.tc : Thread Cert.AdamReferenceIdeal.nD Cert.AdamReferenceIdeal.τ).loc Cert.AdamReferenceIdeal.main_arg3))
      ∧ r.2.sem = fun _ => 0)

def quiescent_AdamMem [hAdamMem : Cert.AdamMem.Facts] : Prop :=
  ∀ (m : (ℓ : Loc Cert.AdamMem.nD Cert.AdamMem.τ Cert.AdamMem.sig) → Buf (Elt Bits) ℓ) (g : Dev Cert.AdamMem.nD → PrngReg), Pre_AdamMem m →
    θ_run (Cert.AdamMem.defs (F := Bits)) (onTc (τ := Cert.AdamMem.τ) (Cert.AdamMem.main (F := Bits))) ⟨m, fun _ => 0, g⟩ (fun r => (∀ c : Dev Cert.AdamMem.nD,
      r.2.mem ((c.tc : Thread Cert.AdamMem.nD Cert.AdamMem.τ).loc Cert.AdamMem.main_arg0) = m ((c.tc : Thread Cert.AdamMem.nD Cert.AdamMem.τ).loc Cert.AdamMem.main_arg0)
      ∧ r.2.mem ((c.tc : Thread Cert.AdamMem.nD Cert.AdamMem.τ).loc Cert.AdamMem.main_arg1) = m ((c.tc : Thread Cert.AdamMem.nD Cert.AdamMem.τ).loc Cert.AdamMem.main_arg1)
      ∧ r.2.mem ((c.tc : Thread Cert.AdamMem.nD Cert.AdamMem.τ).loc Cert.AdamMem.main_arg2) = m ((c.tc : Thread Cert.AdamMem.nD Cert.AdamMem.τ).loc Cert.AdamMem.main_arg2)
      ∧ r.2.mem ((c.tc : Thread Cert.AdamMem.nD Cert.AdamMem.τ).loc Cert.AdamMem.main_arg3) = m ((c.tc : Thread Cert.AdamMem.nD Cert.AdamMem.τ).loc Cert.AdamMem.main_arg3))
      ∧ r.2.sem = fun _ => 0)

def quiescent_AdamMemIdeal [hAdamMemIdeal : Cert.AdamMemIdeal.Facts] : Prop :=
  ∀ (m : (ℓ : Loc Cert.AdamMemIdeal.nD Cert.AdamMemIdeal.τ Cert.AdamMemIdeal.sig) → Buf (Elt Ideal) ℓ) (g : Dev Cert.AdamMemIdeal.nD → PrngReg), Pre_AdamMemIdeal m →
    θ_run (Cert.AdamMemIdeal.defs (F := Ideal)) (onTc (τ := Cert.AdamMemIdeal.τ) (Cert.AdamMemIdeal.main (F := Ideal))) ⟨m, fun _ => 0, g⟩ (fun r => (∀ c : Dev Cert.AdamMemIdeal.nD,
      r.2.mem ((c.tc : Thread Cert.AdamMemIdeal.nD Cert.AdamMemIdeal.τ).loc Cert.AdamMemIdeal.main_arg0) = m ((c.tc : Thread Cert.AdamMemIdeal.nD Cert.AdamMemIdeal.τ).loc Cert.AdamMemIdeal.main_arg0)
      ∧ r.2.mem ((c.tc : Thread Cert.AdamMemIdeal.nD Cert.AdamMemIdeal.τ).loc Cert.AdamMemIdeal.main_arg1) = m ((c.tc : Thread Cert.AdamMemIdeal.nD Cert.AdamMemIdeal.τ).loc Cert.AdamMemIdeal.main_arg1)
      ∧ r.2.mem ((c.tc : Thread Cert.AdamMemIdeal.nD Cert.AdamMemIdeal.τ).loc Cert.AdamMemIdeal.main_arg2) = m ((c.tc : Thread Cert.AdamMemIdeal.nD Cert.AdamMemIdeal.τ).loc Cert.AdamMemIdeal.main_arg2)
      ∧ r.2.mem ((c.tc : Thread Cert.AdamMemIdeal.nD Cert.AdamMemIdeal.τ).loc Cert.AdamMemIdeal.main_arg3) = m ((c.tc : Thread Cert.AdamMemIdeal.nD Cert.AdamMemIdeal.τ).loc Cert.AdamMemIdeal.main_arg3))
      ∧ r.2.sem = fun _ => 0)

def quiescent_AdamMemReferenceIdeal [hAdamMemReferenceIdeal : Cert.AdamMemReferenceIdeal.Facts] : Prop :=
  ∀ (m : (ℓ : Loc Cert.AdamMemReferenceIdeal.nD Cert.AdamMemReferenceIdeal.τ Cert.AdamMemReferenceIdeal.sig) → Buf (Elt Ideal) ℓ) (g : Dev Cert.AdamMemReferenceIdeal.nD → PrngReg), Pre_AdamMemReferenceIdeal m →
    θ_run (Cert.AdamMemReferenceIdeal.defs (F := Ideal)) (onTc (τ := Cert.AdamMemReferenceIdeal.τ) (Cert.AdamMemReferenceIdeal.main (F := Ideal))) ⟨m, fun _ => 0, g⟩ (fun r => (∀ c : Dev Cert.AdamMemReferenceIdeal.nD,
      r.2.mem ((c.tc : Thread Cert.AdamMemReferenceIdeal.nD Cert.AdamMemReferenceIdeal.τ).loc Cert.AdamMemReferenceIdeal.main_arg0) = m ((c.tc : Thread Cert.AdamMemReferenceIdeal.nD Cert.AdamMemReferenceIdeal.τ).loc Cert.AdamMemReferenceIdeal.main_arg0)
      ∧ r.2.mem ((c.tc : Thread Cert.AdamMemReferenceIdeal.nD Cert.AdamMemReferenceIdeal.τ).loc Cert.AdamMemReferenceIdeal.main_arg1) = m ((c.tc : Thread Cert.AdamMemReferenceIdeal.nD Cert.AdamMemReferenceIdeal.τ).loc Cert.AdamMemReferenceIdeal.main_arg1)
      ∧ r.2.mem ((c.tc : Thread Cert.AdamMemReferenceIdeal.nD Cert.AdamMemReferenceIdeal.τ).loc Cert.AdamMemReferenceIdeal.main_arg2) = m ((c.tc : Thread Cert.AdamMemReferenceIdeal.nD Cert.AdamMemReferenceIdeal.τ).loc Cert.AdamMemReferenceIdeal.main_arg2)
      ∧ r.2.mem ((c.tc : Thread Cert.AdamMemReferenceIdeal.nD Cert.AdamMemReferenceIdeal.τ).loc Cert.AdamMemReferenceIdeal.main_arg3) = m ((c.tc : Thread Cert.AdamMemReferenceIdeal.nD Cert.AdamMemReferenceIdeal.τ).loc Cert.AdamMemReferenceIdeal.main_arg3))
      ∧ r.2.sem = fun _ => 0)

def quiescent_AdamQ [hAdamQ : Cert.AdamQ.Facts] : Prop :=
  ∀ (m : (ℓ : Loc Cert.AdamQ.nD Cert.AdamQ.τ Cert.AdamQ.sig) → Buf (Elt Bits) ℓ) (g : Dev Cert.AdamQ.nD → PrngReg), Pre_AdamQ m →
    θ_run (Cert.AdamQ.defs (F := Bits)) (onTc (τ := Cert.AdamQ.τ) (Cert.AdamQ.main (F := Bits))) ⟨m, fun _ => 0, g⟩ (fun r => (∀ c : Dev Cert.AdamQ.nD,
      r.2.mem ((c.tc : Thread Cert.AdamQ.nD Cert.AdamQ.τ).loc Cert.AdamQ.main_arg0) = m ((c.tc : Thread Cert.AdamQ.nD Cert.AdamQ.τ).loc Cert.AdamQ.main_arg0)
      ∧ r.2.mem ((c.tc : Thread Cert.AdamQ.nD Cert.AdamQ.τ).loc Cert.AdamQ.main_arg1) = m ((c.tc : Thread Cert.AdamQ.nD Cert.AdamQ.τ).loc Cert.AdamQ.main_arg1)
      ∧ r.2.mem ((c.tc : Thread Cert.AdamQ.nD Cert.AdamQ.τ).loc Cert.AdamQ.main_arg2) = m ((c.tc : Thread Cert.AdamQ.nD Cert.AdamQ.τ).loc Cert.AdamQ.main_arg2)
      ∧ r.2.mem ((c.tc : Thread Cert.AdamQ.nD Cert.AdamQ.τ).loc Cert.AdamQ.main_arg3) = m ((c.tc : Thread Cert.AdamQ.nD Cert.AdamQ.τ).loc Cert.AdamQ.main_arg3))
      ∧ r.2.sem = fun _ => 0)

def quiescent_AdamQIdeal [hAdamQIdeal : Cert.AdamQIdeal.Facts] : Prop :=
  ∀ (m : (ℓ : Loc Cert.AdamQIdeal.nD Cert.AdamQIdeal.τ Cert.AdamQIdeal.sig) → Buf (Elt Ideal) ℓ) (g : Dev Cert.AdamQIdeal.nD → PrngReg), Pre_AdamQIdeal m →
    θ_run (Cert.AdamQIdeal.defs (F := Ideal)) (onTc (τ := Cert.AdamQIdeal.τ) (Cert.AdamQIdeal.main (F := Ideal))) ⟨m, fun _ => 0, g⟩ (fun r => (∀ c : Dev Cert.AdamQIdeal.nD,
      r.2.mem ((c.tc : Thread Cert.AdamQIdeal.nD Cert.AdamQIdeal.τ).loc Cert.AdamQIdeal.main_arg0) = m ((c.tc : Thread Cert.AdamQIdeal.nD Cert.AdamQIdeal.τ).loc Cert.AdamQIdeal.main_arg0)
      ∧ r.2.mem ((c.tc : Thread Cert.AdamQIdeal.nD Cert.AdamQIdeal.τ).loc Cert.AdamQIdeal.main_arg1) = m ((c.tc : Thread Cert.AdamQIdeal.nD Cert.AdamQIdeal.τ).loc Cert.AdamQIdeal.main_arg1)
      ∧ r.2.mem ((c.tc : Thread Cert.AdamQIdeal.nD Cert.AdamQIdeal.τ).loc Cert.AdamQIdeal.main_arg2) = m ((c.tc : Thread Cert.AdamQIdeal.nD Cert.AdamQIdeal.τ).loc Cert.AdamQIdeal.main_arg2)
      ∧ r.2.mem ((c.tc : Thread Cert.AdamQIdeal.nD Cert.AdamQIdeal.τ).loc Cert.AdamQIdeal.main_arg3) = m ((c.tc : Thread Cert.AdamQIdeal.nD Cert.AdamQIdeal.τ).loc Cert.AdamQIdeal.main_arg3))
      ∧ r.2.sem = fun _ => 0)

def quiescent_AdamQReferenceIdeal [hAdamQReferenceIdeal : Cert.AdamQReferenceIdeal.Facts] : Prop :=
  ∀ (m : (ℓ : Loc Cert.AdamQReferenceIdeal.nD Cert.AdamQReferenceIdeal.τ Cert.AdamQReferenceIdeal.sig) → Buf (Elt Ideal) ℓ) (g : Dev Cert.AdamQReferenceIdeal.nD → PrngReg), Pre_AdamQReferenceIdeal m →
    θ_run (Cert.AdamQReferenceIdeal.defs (F := Ideal)) (onTc (τ := Cert.AdamQReferenceIdeal.τ) (Cert.AdamQReferenceIdeal.main (F := Ideal))) ⟨m, fun _ => 0, g⟩ (fun r => (∀ c : Dev Cert.AdamQReferenceIdeal.nD,
      r.2.mem ((c.tc : Thread Cert.AdamQReferenceIdeal.nD Cert.AdamQReferenceIdeal.τ).loc Cert.AdamQReferenceIdeal.main_arg0) = m ((c.tc : Thread Cert.AdamQReferenceIdeal.nD Cert.AdamQReferenceIdeal.τ).loc Cert.AdamQReferenceIdeal.main_arg0)
      ∧ r.2.mem ((c.tc : Thread Cert.AdamQReferenceIdeal.nD Cert.AdamQReferenceIdeal.τ).loc Cert.AdamQReferenceIdeal.main_arg1) = m ((c.tc : Thread Cert.AdamQReferenceIdeal.nD Cert.AdamQReferenceIdeal.τ).loc Cert.AdamQReferenceIdeal.main_arg1)
      ∧ r.2.mem ((c.tc : Thread Cert.AdamQReferenceIdeal.nD Cert.AdamQReferenceIdeal.τ).loc Cert.AdamQReferenceIdeal.main_arg2) = m ((c.tc : Thread Cert.AdamQReferenceIdeal.nD Cert.AdamQReferenceIdeal.τ).loc Cert.AdamQReferenceIdeal.main_arg2)
      ∧ r.2.mem ((c.tc : Thread Cert.AdamQReferenceIdeal.nD Cert.AdamQReferenceIdeal.τ).loc Cert.AdamQReferenceIdeal.main_arg3) = m ((c.tc : Thread Cert.AdamQReferenceIdeal.nD Cert.AdamQReferenceIdeal.τ).loc Cert.AdamQReferenceIdeal.main_arg3))
      ∧ r.2.sem = fun _ => 0)

def quiescent_AdamKv [hAdamKv : Cert.AdamKv.Facts] : Prop :=
  ∀ (m : (ℓ : Loc Cert.AdamKv.nD Cert.AdamKv.τ Cert.AdamKv.sig) → Buf (Elt Bits) ℓ) (g : Dev Cert.AdamKv.nD → PrngReg), Pre_AdamKv m →
    θ_run (Cert.AdamKv.defs (F := Bits)) (onTc (τ := Cert.AdamKv.τ) (Cert.AdamKv.main (F := Bits))) ⟨m, fun _ => 0, g⟩ (fun r => (∀ c : Dev Cert.AdamKv.nD,
      r.2.mem ((c.tc : Thread Cert.AdamKv.nD Cert.AdamKv.τ).loc Cert.AdamKv.main_arg0) = m ((c.tc : Thread Cert.AdamKv.nD Cert.AdamKv.τ).loc Cert.AdamKv.main_arg0)
      ∧ r.2.mem ((c.tc : Thread Cert.AdamKv.nD Cert.AdamKv.τ).loc Cert.AdamKv.main_arg1) = m ((c.tc : Thread Cert.AdamKv.nD Cert.AdamKv.τ).loc Cert.AdamKv.main_arg1)
      ∧ r.2.mem ((c.tc : Thread Cert.AdamKv.nD Cert.AdamKv.τ).loc Cert.AdamKv.main_arg2) = m ((c.tc : Thread Cert.AdamKv.nD Cert.AdamKv.τ).loc Cert.AdamKv.main_arg2)
      ∧ r.2.mem ((c.tc : Thread Cert.AdamKv.nD Cert.AdamKv.τ).loc Cert.AdamKv.main_arg3) = m ((c.tc : Thread Cert.AdamKv.nD Cert.AdamKv.τ).loc Cert.AdamKv.main_arg3))
      ∧ r.2.sem = fun _ => 0)

def quiescent_AdamKvIdeal [hAdamKvIdeal : Cert.AdamKvIdeal.Facts] : Prop :=
  ∀ (m : (ℓ : Loc Cert.AdamKvIdeal.nD Cert.AdamKvIdeal.τ Cert.AdamKvIdeal.sig) → Buf (Elt Ideal) ℓ) (g : Dev Cert.AdamKvIdeal.nD → PrngReg), Pre_AdamKvIdeal m →
    θ_run (Cert.AdamKvIdeal.defs (F := Ideal)) (onTc (τ := Cert.AdamKvIdeal.τ) (Cert.AdamKvIdeal.main (F := Ideal))) ⟨m, fun _ => 0, g⟩ (fun r => (∀ c : Dev Cert.AdamKvIdeal.nD,
      r.2.mem ((c.tc : Thread Cert.AdamKvIdeal.nD Cert.AdamKvIdeal.τ).loc Cert.AdamKvIdeal.main_arg0) = m ((c.tc : Thread Cert.AdamKvIdeal.nD Cert.AdamKvIdeal.τ).loc Cert.AdamKvIdeal.main_arg0)
      ∧ r.2.mem ((c.tc : Thread Cert.AdamKvIdeal.nD Cert.AdamKvIdeal.τ).loc Cert.AdamKvIdeal.main_arg1) = m ((c.tc : Thread Cert.AdamKvIdeal.nD Cert.AdamKvIdeal.τ).loc Cert.AdamKvIdeal.main_arg1)
      ∧ r.2.mem ((c.tc : Thread Cert.AdamKvIdeal.nD Cert.AdamKvIdeal.τ).loc Cert.AdamKvIdeal.main_arg2) = m ((c.tc : Thread Cert.AdamKvIdeal.nD Cert.AdamKvIdeal.τ).loc Cert.AdamKvIdeal.main_arg2)
      ∧ r.2.mem ((c.tc : Thread Cert.AdamKvIdeal.nD Cert.AdamKvIdeal.τ).loc Cert.AdamKvIdeal.main_arg3) = m ((c.tc : Thread Cert.AdamKvIdeal.nD Cert.AdamKvIdeal.τ).loc Cert.AdamKvIdeal.main_arg3))
      ∧ r.2.sem = fun _ => 0)

def quiescent_AdamKvReferenceIdeal [hAdamKvReferenceIdeal : Cert.AdamKvReferenceIdeal.Facts] : Prop :=
  ∀ (m : (ℓ : Loc Cert.AdamKvReferenceIdeal.nD Cert.AdamKvReferenceIdeal.τ Cert.AdamKvReferenceIdeal.sig) → Buf (Elt Ideal) ℓ) (g : Dev Cert.AdamKvReferenceIdeal.nD → PrngReg), Pre_AdamKvReferenceIdeal m →
    θ_run (Cert.AdamKvReferenceIdeal.defs (F := Ideal)) (onTc (τ := Cert.AdamKvReferenceIdeal.τ) (Cert.AdamKvReferenceIdeal.main (F := Ideal))) ⟨m, fun _ => 0, g⟩ (fun r => (∀ c : Dev Cert.AdamKvReferenceIdeal.nD,
      r.2.mem ((c.tc : Thread Cert.AdamKvReferenceIdeal.nD Cert.AdamKvReferenceIdeal.τ).loc Cert.AdamKvReferenceIdeal.main_arg0) = m ((c.tc : Thread Cert.AdamKvReferenceIdeal.nD Cert.AdamKvReferenceIdeal.τ).loc Cert.AdamKvReferenceIdeal.main_arg0)
      ∧ r.2.mem ((c.tc : Thread Cert.AdamKvReferenceIdeal.nD Cert.AdamKvReferenceIdeal.τ).loc Cert.AdamKvReferenceIdeal.main_arg1) = m ((c.tc : Thread Cert.AdamKvReferenceIdeal.nD Cert.AdamKvReferenceIdeal.τ).loc Cert.AdamKvReferenceIdeal.main_arg1)
      ∧ r.2.mem ((c.tc : Thread Cert.AdamKvReferenceIdeal.nD Cert.AdamKvReferenceIdeal.τ).loc Cert.AdamKvReferenceIdeal.main_arg2) = m ((c.tc : Thread Cert.AdamKvReferenceIdeal.nD Cert.AdamKvReferenceIdeal.τ).loc Cert.AdamKvReferenceIdeal.main_arg2)
      ∧ r.2.mem ((c.tc : Thread Cert.AdamKvReferenceIdeal.nD Cert.AdamKvReferenceIdeal.τ).loc Cert.AdamKvReferenceIdeal.main_arg3) = m ((c.tc : Thread Cert.AdamKvReferenceIdeal.nD Cert.AdamKvReferenceIdeal.τ).loc Cert.AdamKvReferenceIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInReferenceIdeal [hAdamInReferenceIdeal : Cert.AdamInReferenceIdeal.Facts] : Prop :=
  ∀ (m : (ℓ : Loc Cert.AdamInReferenceIdeal.nD Cert.AdamInReferenceIdeal.τ Cert.AdamInReferenceIdeal.sig) → Buf (Elt Ideal) ℓ) (g : Dev Cert.AdamInReferenceIdeal.nD → PrngReg), Pre_AdamInReferenceIdeal m →
    θ_run (Cert.AdamInReferenceIdeal.defs (F := Ideal)) (onTc (τ := Cert.AdamInReferenceIdeal.τ) (Cert.AdamInReferenceIdeal.main (F := Ideal))) ⟨m, fun _ => 0, g⟩ (fun r => (∀ c : Dev Cert.AdamInReferenceIdeal.nD,
      r.2.mem ((c.tc : Thread Cert.AdamInReferenceIdeal.nD Cert.AdamInReferenceIdeal.τ).loc Cert.AdamInReferenceIdeal.main_arg0) = m ((c.tc : Thread Cert.AdamInReferenceIdeal.nD Cert.AdamInReferenceIdeal.τ).loc Cert.AdamInReferenceIdeal.main_arg0)
      ∧ r.2.mem ((c.tc : Thread Cert.AdamInReferenceIdeal.nD Cert.AdamInReferenceIdeal.τ).loc Cert.AdamInReferenceIdeal.main_arg1) = m ((c.tc : Thread Cert.AdamInReferenceIdeal.nD Cert.AdamInReferenceIdeal.τ).loc Cert.AdamInReferenceIdeal.main_arg1)
      ∧ r.2.mem ((c.tc : Thread Cert.AdamInReferenceIdeal.nD Cert.AdamInReferenceIdeal.τ).loc Cert.AdamInReferenceIdeal.main_arg2) = m ((c.tc : Thread Cert.AdamInReferenceIdeal.nD Cert.AdamInReferenceIdeal.τ).loc Cert.AdamInReferenceIdeal.main_arg2)
      ∧ r.2.mem ((c.tc : Thread Cert.AdamInReferenceIdeal.nD Cert.AdamInReferenceIdeal.τ).loc Cert.AdamInReferenceIdeal.main_arg3) = m ((c.tc : Thread Cert.AdamInReferenceIdeal.nD Cert.AdamInReferenceIdeal.τ).loc Cert.AdamInReferenceIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallReferenceIdeal [hAdamSmallReferenceIdeal : Cert.AdamSmallReferenceIdeal.Facts] : Prop :=
  ∀ (m : (ℓ : Loc Cert.AdamSmallReferenceIdeal.nD Cert.AdamSmallReferenceIdeal.τ Cert.AdamSmallReferenceIdeal.sig) → Buf (Elt Ideal) ℓ) (g : Dev Cert.AdamSmallReferenceIdeal.nD → PrngReg), Pre_AdamSmallReferenceIdeal m →
    θ_run (Cert.AdamSmallReferenceIdeal.defs (F := Ideal)) (onTc (τ := Cert.AdamSmallReferenceIdeal.τ) (Cert.AdamSmallReferenceIdeal.main (F := Ideal))) ⟨m, fun _ => 0, g⟩ (fun r => (∀ c : Dev Cert.AdamSmallReferenceIdeal.nD,
      r.2.mem ((c.tc : Thread Cert.AdamSmallReferenceIdeal.nD Cert.AdamSmallReferenceIdeal.τ).loc Cert.AdamSmallReferenceIdeal.main_arg0) = m ((c.tc : Thread Cert.AdamSmallReferenceIdeal.nD Cert.AdamSmallReferenceIdeal.τ).loc Cert.AdamSmallReferenceIdeal.main_arg0)
      ∧ r.2.mem ((c.tc : Thread Cert.AdamSmallReferenceIdeal.nD Cert.AdamSmallReferenceIdeal.τ).loc Cert.AdamSmallReferenceIdeal.main_arg1) = m ((c.tc : Thread Cert.AdamSmallReferenceIdeal.nD Cert.AdamSmallReferenceIdeal.τ).loc Cert.AdamSmallReferenceIdeal.main_arg1)
      ∧ r.2.mem ((c.tc : Thread Cert.AdamSmallReferenceIdeal.nD Cert.AdamSmallReferenceIdeal.τ).loc Cert.AdamSmallReferenceIdeal.main_arg2) = m ((c.tc : Thread Cert.AdamSmallReferenceIdeal.nD Cert.AdamSmallReferenceIdeal.τ).loc Cert.AdamSmallReferenceIdeal.main_arg2)
      ∧ r.2.mem ((c.tc : Thread Cert.AdamSmallReferenceIdeal.nD Cert.AdamSmallReferenceIdeal.τ).loc Cert.AdamSmallReferenceIdeal.main_arg3) = m ((c.tc : Thread Cert.AdamSmallReferenceIdeal.nD Cert.AdamSmallReferenceIdeal.τ).loc Cert.AdamSmallReferenceIdeal.main_arg3))
      ∧ r.2.sem = fun _ => 0)

def preserves_Kernel_KernelIdeal : Prop :=
  IdealRules.named_const.Statement Cert.KernelIdeal.κ "cmul" .f32 0x3E16C740#32 (((3424635 / 33554432) * (Real.log 2)⁻¹ : ℝ) : EReal)
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v39_0)) (v1 : (c : Dev Cert.KernelIdeal.nD) → Buf (Elt Ideal) ((c.tc : Thread Cert.KernelIdeal.nD Cert.KernelIdeal.τ).loc Cert.KernelIdeal.main_v39_1)) (v2 : (c : Dev Cert.KernelIdeal.nD) → Buf (Elt Ideal) ((c.tc : Thread Cert.KernelIdeal.nD Cert.KernelIdeal.τ).loc Cert.KernelIdeal.main_v39_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39_0) = v0 c
          ∧ r.2.mem ((c.tc : Thread Cert.KernelIdeal.nD Cert.KernelIdeal.τ).loc Cert.KernelIdeal.main_v39_1) = v1 c
          ∧ r.2.mem ((c.tc : Thread Cert.KernelIdeal.nD Cert.KernelIdeal.τ).loc Cert.KernelIdeal.main_v39_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v66) = v1 c
          ∧ r.2.mem ((c.tc : Thread Cert.ReferenceIdeal.nD Cert.ReferenceIdeal.τ).loc Cert.ReferenceIdeal.main_v67) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Forward_ForwardIdeal : Prop :=
  IdealRules.named_const.Statement Cert.ForwardIdeal.κ "mask" .f32 0xF149F2CA#32 ⊥
  ∧ IdealRules.named_const.Statement Cert.ForwardIdeal.κ "cmul" .f32 0x3E16C740#32 (((3424635 / 33554432) * (Real.log 2)⁻¹ : ℝ) : EReal)
  ∧ IdealRules.named_const.Statement Cert.ForwardIdeal.κ "log2e" .f32 0x3FB8AA3B#32 (((Real.log 2)⁻¹ : ℝ) : EReal)

def algebraic_ForwardIdeal_ForwardReferenceIdeal_pre_finite_scores [hForwardIdeal : Cert.ForwardIdeal.Facts] [hForwardReferenceIdeal : Cert.ForwardReferenceIdeal.Facts] [hPre_finite_scores : Cert.Pre_finite_scores.Facts] : Prop :=
  ∀ (m : (ℓ : Loc Cert.ForwardIdeal.nD Cert.ForwardIdeal.τ Cert.ForwardIdeal.sig) → Buf (Elt Ideal) ℓ) (g : Dev Cert.ForwardIdeal.nD → PrngReg)
    (m' : (ℓ : Loc Cert.ForwardReferenceIdeal.nD Cert.ForwardReferenceIdeal.τ Cert.ForwardReferenceIdeal.sig) → Buf (Elt Ideal) ℓ) (g' : Dev Cert.ForwardReferenceIdeal.nD → PrngReg), Pre_ForwardIdeal_finite_scores m →
    (∀ c : Dev Cert.ForwardIdeal.nD,
      m' ((c.tc : Thread Cert.ForwardReferenceIdeal.nD Cert.ForwardReferenceIdeal.τ).loc Cert.ForwardReferenceIdeal.main_arg0) = m ((c.tc : Thread Cert.ForwardIdeal.nD Cert.ForwardIdeal.τ).loc Cert.ForwardIdeal.main_arg0)
      ∧ m' ((c.tc : Thread Cert.ForwardReferenceIdeal.nD Cert.ForwardReferenceIdeal.τ).loc Cert.ForwardReferenceIdeal.main_arg1) = m ((c.tc : Thread Cert.ForwardIdeal.nD Cert.ForwardIdeal.τ).loc Cert.ForwardIdeal.main_arg1)
      ∧ m' ((c.tc : Thread Cert.ForwardReferenceIdeal.nD Cert.ForwardReferenceIdeal.τ).loc Cert.ForwardReferenceIdeal.main_arg2) = m ((c.tc : Thread Cert.ForwardIdeal.nD Cert.ForwardIdeal.τ).loc Cert.ForwardIdeal.main_arg2)) →
    ∃ (v0 : (c : Dev Cert.ForwardIdeal.nD) → Buf (Elt Ideal) ((c.tc : Thread Cert.ForwardIdeal.nD Cert.ForwardIdeal.τ).loc Cert.ForwardIdeal.main_v9_0)) (v1 : (c : Dev Cert.ForwardIdeal.nD) → Buf (Elt Ideal) ((c.tc : Thread Cert.ForwardIdeal.nD Cert.ForwardIdeal.τ).loc Cert.ForwardIdeal.main_v9_1)),
      θ_run (Cert.ForwardIdeal.defs (F := Ideal)) (onTc (τ := Cert.ForwardIdeal.τ) (Cert.ForwardIdeal.main (F := Ideal))) ⟨m, fun _ => 0, g⟩ (fun r => ∀ c : Dev Cert.ForwardIdeal.nD,
          r.2.mem ((c.tc : Thread Cert.ForwardIdeal.nD Cert.ForwardIdeal.τ).loc Cert.ForwardIdeal.main_v9_0) = v0 c
          ∧ r.2.mem ((c.tc : Thread Cert.ForwardIdeal.nD Cert.ForwardIdeal.τ).loc Cert.ForwardIdeal.main_v9_1) = v1 c
          ∧ r.2.mem ((c.tc : Thread Cert.ForwardIdeal.nD Cert.ForwardIdeal.τ).loc Cert.ForwardIdeal.main_arg0) = m ((c.tc : Thread Cert.ForwardIdeal.nD Cert.ForwardIdeal.τ).loc Cert.ForwardIdeal.main_arg0)
          ∧ r.2.mem ((c.tc : Thread Cert.ForwardIdeal.nD Cert.ForwardIdeal.τ).loc Cert.ForwardIdeal.main_arg1) = m ((c.tc : Thread Cert.ForwardIdeal.nD Cert.ForwardIdeal.τ).loc Cert.ForwardIdeal.main_arg1)
          ∧ r.2.mem ((c.tc : Thread Cert.ForwardIdeal.nD Cert.ForwardIdeal.τ).loc Cert.ForwardIdeal.main_arg2) = m ((c.tc : Thread Cert.ForwardIdeal.nD Cert.ForwardIdeal.τ).loc Cert.ForwardIdeal.main_arg2))
      ∧ θ_run (Cert.ForwardReferenceIdeal.defs (F := Ideal)) (onTc (τ := Cert.ForwardReferenceIdeal.τ) (Cert.ForwardReferenceIdeal.main (F := Ideal))) ⟨m', fun _ => 0, g'⟩ (fun r => ∀ c : Dev Cert.ForwardReferenceIdeal.nD,
          r.2.mem ((c.tc : Thread Cert.ForwardReferenceIdeal.nD Cert.ForwardReferenceIdeal.τ).loc Cert.ForwardReferenceIdeal.main_v42) = v0 c
          ∧ r.2.mem ((c.tc : Thread Cert.ForwardReferenceIdeal.nD Cert.ForwardReferenceIdeal.τ).loc Cert.ForwardReferenceIdeal.main_v46) = v1 c
          ∧ r.2.mem ((c.tc : Thread Cert.ForwardReferenceIdeal.nD Cert.ForwardReferenceIdeal.τ).loc Cert.ForwardReferenceIdeal.main_arg0) = m' ((c.tc : Thread Cert.ForwardReferenceIdeal.nD Cert.ForwardReferenceIdeal.τ).loc Cert.ForwardReferenceIdeal.main_arg0)
          ∧ r.2.mem ((c.tc : Thread Cert.ForwardReferenceIdeal.nD Cert.ForwardReferenceIdeal.τ).loc Cert.ForwardReferenceIdeal.main_arg1) = m' ((c.tc : Thread Cert.ForwardReferenceIdeal.nD Cert.ForwardReferenceIdeal.τ).loc Cert.ForwardReferenceIdeal.main_arg1)
          ∧ r.2.mem ((c.tc : Thread Cert.ForwardReferenceIdeal.nD Cert.ForwardReferenceIdeal.τ).loc Cert.ForwardReferenceIdeal.main_arg2) = m' ((c.tc : Thread Cert.ForwardReferenceIdeal.nD Cert.ForwardReferenceIdeal.τ).loc Cert.ForwardReferenceIdeal.main_arg2))

def preserves_Dx_DxIdeal : Prop :=
  True

def algebraic_DxIdeal_DxReferenceIdeal [hDxIdeal : Cert.DxIdeal.Facts] [hDxReferenceIdeal : Cert.DxReferenceIdeal.Facts] : Prop :=
  ∀ (m : (ℓ : Loc Cert.DxIdeal.nD Cert.DxIdeal.τ Cert.DxIdeal.sig) → Buf (Elt Ideal) ℓ) (g : Dev Cert.DxIdeal.nD → PrngReg)
    (m' : (ℓ : Loc Cert.DxReferenceIdeal.nD Cert.DxReferenceIdeal.τ Cert.DxReferenceIdeal.sig) → Buf (Elt Ideal) ℓ) (g' : Dev Cert.DxReferenceIdeal.nD → PrngReg), Pre_DxIdeal m →
    (∀ c : Dev Cert.DxIdeal.nD,
      m' ((c.tc : Thread Cert.DxReferenceIdeal.nD Cert.DxReferenceIdeal.τ).loc Cert.DxReferenceIdeal.main_arg0) = m ((c.tc : Thread Cert.DxIdeal.nD Cert.DxIdeal.τ).loc Cert.DxIdeal.main_arg0)
      ∧ m' ((c.tc : Thread Cert.DxReferenceIdeal.nD Cert.DxReferenceIdeal.τ).loc Cert.DxReferenceIdeal.main_arg1) = m ((c.tc : Thread Cert.DxIdeal.nD Cert.DxIdeal.τ).loc Cert.DxIdeal.main_arg1)
      ∧ m' ((c.tc : Thread Cert.DxReferenceIdeal.nD Cert.DxReferenceIdeal.τ).loc Cert.DxReferenceIdeal.main_arg2) = m ((c.tc : Thread Cert.DxIdeal.nD Cert.DxIdeal.τ).loc Cert.DxIdeal.main_arg2)
      ∧ m' ((c.tc : Thread Cert.DxReferenceIdeal.nD Cert.DxReferenceIdeal.τ).loc Cert.DxReferenceIdeal.main_arg3) = m ((c.tc : Thread Cert.DxIdeal.nD Cert.DxIdeal.τ).loc Cert.DxIdeal.main_arg3)
      ∧ m' ((c.tc : Thread Cert.DxReferenceIdeal.nD Cert.DxReferenceIdeal.τ).loc Cert.DxReferenceIdeal.main_arg4) = m ((c.tc : Thread Cert.DxIdeal.nD Cert.DxIdeal.τ).loc Cert.DxIdeal.main_arg4)
      ∧ m' ((c.tc : Thread Cert.DxReferenceIdeal.nD Cert.DxReferenceIdeal.τ).loc Cert.DxReferenceIdeal.main_arg5) = m ((c.tc : Thread Cert.DxIdeal.nD Cert.DxIdeal.τ).loc Cert.DxIdeal.main_arg5)
      ∧ m' ((c.tc : Thread Cert.DxReferenceIdeal.nD Cert.DxReferenceIdeal.τ).loc Cert.DxReferenceIdeal.main_arg6) = m ((c.tc : Thread Cert.DxIdeal.nD Cert.DxIdeal.τ).loc Cert.DxIdeal.main_arg6)
      ∧ m' ((c.tc : Thread Cert.DxReferenceIdeal.nD Cert.DxReferenceIdeal.τ).loc Cert.DxReferenceIdeal.main_arg7) = m ((c.tc : Thread Cert.DxIdeal.nD Cert.DxIdeal.τ).loc Cert.DxIdeal.main_arg7)
      ∧ m' ((c.tc : Thread Cert.DxReferenceIdeal.nD Cert.DxReferenceIdeal.τ).loc Cert.DxReferenceIdeal.main_arg8) = m ((c.tc : Thread Cert.DxIdeal.nD Cert.DxIdeal.τ).loc Cert.DxIdeal.main_arg8)
      ∧ m' ((c.tc : Thread Cert.DxReferenceIdeal.nD Cert.DxReferenceIdeal.τ).loc Cert.DxReferenceIdeal.main_arg9) = m ((c.tc : Thread Cert.DxIdeal.nD Cert.DxIdeal.τ).loc Cert.DxIdeal.main_arg9)
      ∧ m' ((c.tc : Thread Cert.DxReferenceIdeal.nD Cert.DxReferenceIdeal.τ).loc Cert.DxReferenceIdeal.main_arg10) = m ((c.tc : Thread Cert.DxIdeal.nD Cert.DxIdeal.τ).loc Cert.DxIdeal.main_arg10)
      ∧ m' ((c.tc : Thread Cert.DxReferenceIdeal.nD Cert.DxReferenceIdeal.τ).loc Cert.DxReferenceIdeal.main_arg11) = m ((c.tc : Thread Cert.DxIdeal.nD Cert.DxIdeal.τ).loc Cert.DxIdeal.main_arg11)
      ∧ m' ((c.tc : Thread Cert.DxReferenceIdeal.nD Cert.DxReferenceIdeal.τ).loc Cert.DxReferenceIdeal.main_arg12) = m ((c.tc : Thread Cert.DxIdeal.nD Cert.DxIdeal.τ).loc Cert.DxIdeal.main_arg12)) →
    ∃ (v0 : (c : Dev Cert.DxIdeal.nD) → Buf (Elt Ideal) ((c.tc : Thread Cert.DxIdeal.nD Cert.DxIdeal.τ).loc Cert.DxIdeal.main_v26_0)) (v1 : (c : Dev Cert.DxIdeal.nD) → Buf (Elt Ideal) ((c.tc : Thread Cert.DxIdeal.nD Cert.DxIdeal.τ).loc Cert.DxIdeal.main_v26_1)),
      θ_run (Cert.DxIdeal.defs (F := Ideal)) (onTc (τ := Cert.DxIdeal.τ) (Cert.DxIdeal.main (F := Ideal))) ⟨m, fun _ => 0, g⟩ (fun r => ∀ c : Dev Cert.DxIdeal.nD,
          r.2.mem ((c.tc : Thread Cert.DxIdeal.nD Cert.DxIdeal.τ).loc Cert.DxIdeal.main_v26_0) = v0 c
          ∧ r.2.mem ((c.tc : Thread Cert.DxIdeal.nD Cert.DxIdeal.τ).loc Cert.DxIdeal.main_v26_1) = v1 c
          ∧ r.2.mem ((c.tc : Thread Cert.DxIdeal.nD Cert.DxIdeal.τ).loc Cert.DxIdeal.main_arg0) = m ((c.tc : Thread Cert.DxIdeal.nD Cert.DxIdeal.τ).loc Cert.DxIdeal.main_arg0)
          ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
          ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
          ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
          ∧ r.2.mem ((c.tc : Thread Cert.DxIdeal.nD Cert.DxIdeal.τ).loc Cert.DxIdeal.main_arg4) = m ((c.tc : Thread Cert.DxIdeal.nD Cert.DxIdeal.τ).loc Cert.DxIdeal.main_arg4)
          ∧ r.2.mem ((c.tc : Thread Cert.DxIdeal.nD Cert.DxIdeal.τ).loc Cert.DxIdeal.main_arg5) = m ((c.tc : Thread Cert.DxIdeal.nD Cert.DxIdeal.τ).loc Cert.DxIdeal.main_arg5)
          ∧ r.2.mem ((c.tc : Thread Cert.DxIdeal.nD Cert.DxIdeal.τ).loc Cert.DxIdeal.main_arg6) = m ((c.tc : Thread Cert.DxIdeal.nD Cert.DxIdeal.τ).loc Cert.DxIdeal.main_arg6)
          ∧ r.2.mem ((c.tc : Thread Cert.DxIdeal.nD Cert.DxIdeal.τ).loc Cert.DxIdeal.main_arg7) = m ((c.tc : Thread Cert.DxIdeal.nD Cert.DxIdeal.τ).loc Cert.DxIdeal.main_arg7)
          ∧ r.2.mem ((c.tc : Thread Cert.DxIdeal.nD Cert.DxIdeal.τ).loc Cert.DxIdeal.main_arg8) = m ((c.tc : Thread Cert.DxIdeal.nD Cert.DxIdeal.τ).loc Cert.DxIdeal.main_arg8)
          ∧ r.2.mem ((c.tc : Thread Cert.DxIdeal.nD Cert.DxIdeal.τ).loc Cert.DxIdeal.main_arg9) = m ((c.tc : Thread Cert.DxIdeal.nD Cert.DxIdeal.τ).loc Cert.DxIdeal.main_arg9)
          ∧ r.2.mem ((c.tc : Thread Cert.DxIdeal.nD Cert.DxIdeal.τ).loc Cert.DxIdeal.main_arg10) = m ((c.tc : Thread Cert.DxIdeal.nD Cert.DxIdeal.τ).loc Cert.DxIdeal.main_arg10)
          ∧ r.2.mem ((c.tc : Thread Cert.DxIdeal.nD Cert.DxIdeal.τ).loc Cert.DxIdeal.main_arg11) = m ((c.tc : Thread Cert.DxIdeal.nD Cert.DxIdeal.τ).loc Cert.DxIdeal.main_arg11)
          ∧ r.2.mem ((c.tc : Thread Cert.DxIdeal.nD Cert.DxIdeal.τ).loc Cert.DxIdeal.main_arg12) = m ((c.tc : Thread Cert.DxIdeal.nD Cert.DxIdeal.τ).loc Cert.DxIdeal.main_arg12))
      ∧ θ_run (Cert.DxReferenceIdeal.defs (F := Ideal)) (onTc (τ := Cert.DxReferenceIdeal.τ) (Cert.DxReferenceIdeal.main (F := Ideal))) ⟨m', fun _ => 0, g'⟩ (fun r => ∀ c : Dev Cert.DxReferenceIdeal.nD,
          r.2.mem ((c.tc : Thread Cert.DxReferenceIdeal.nD Cert.DxReferenceIdeal.τ).loc Cert.DxReferenceIdeal.main_v15) = v0 c
          ∧ r.2.mem ((c.tc : Thread Cert.DxReferenceIdeal.nD Cert.DxReferenceIdeal.τ).loc Cert.DxReferenceIdeal.main_v18) = v1 c
          ∧ r.2.mem ((c.tc : Thread Cert.DxReferenceIdeal.nD Cert.DxReferenceIdeal.τ).loc Cert.DxReferenceIdeal.main_arg0) = m' ((c.tc : Thread Cert.DxReferenceIdeal.nD Cert.DxReferenceIdeal.τ).loc Cert.DxReferenceIdeal.main_arg0)
          ∧ r.2.mem ((c.tc : Thread Cert.DxReferenceIdeal.nD Cert.DxReferenceIdeal.τ).loc Cert.DxReferenceIdeal.main_arg1) = m' ((c.tc : Thread Cert.DxReferenceIdeal.nD Cert.DxReferenceIdeal.τ).loc Cert.DxReferenceIdeal.main_arg1)
          ∧ r.2.mem ((c.tc : Thread Cert.DxReferenceIdeal.nD Cert.DxReferenceIdeal.τ).loc Cert.DxReferenceIdeal.main_arg2) = m' ((c.tc : Thread Cert.DxReferenceIdeal.nD Cert.DxReferenceIdeal.τ).loc Cert.DxReferenceIdeal.main_arg2)
          ∧ r.2.mem ((c.tc : Thread Cert.DxReferenceIdeal.nD Cert.DxReferenceIdeal.τ).loc Cert.DxReferenceIdeal.main_arg3) = m' ((c.tc : Thread Cert.DxReferenceIdeal.nD Cert.DxReferenceIdeal.τ).loc Cert.DxReferenceIdeal.main_arg3)
          ∧ r.2.mem ((c.tc : Thread Cert.DxReferenceIdeal.nD Cert.DxReferenceIdeal.τ).loc Cert.DxReferenceIdeal.main_arg4) = m' ((c.tc : Thread Cert.DxReferenceIdeal.nD Cert.DxReferenceIdeal.τ).loc Cert.DxReferenceIdeal.main_arg4)
          ∧ r.2.mem ((c.tc : Thread Cert.DxReferenceIdeal.nD Cert.DxReferenceIdeal.τ).loc Cert.DxReferenceIdeal.main_arg5) = m' ((c.tc : Thread Cert.DxReferenceIdeal.nD Cert.DxReferenceIdeal.τ).loc Cert.DxReferenceIdeal.main_arg5)
          ∧ r.2.mem ((c.tc : Thread Cert.DxReferenceIdeal.nD Cert.DxReferenceIdeal.τ).loc Cert.DxReferenceIdeal.main_arg6) = m' ((c.tc : Thread Cert.DxReferenceIdeal.nD Cert.DxReferenceIdeal.τ).loc Cert.DxReferenceIdeal.main_arg6)
          ∧ r.2.mem ((c.tc : Thread Cert.DxReferenceIdeal.nD Cert.DxReferenceIdeal.τ).loc Cert.DxReferenceIdeal.main_arg7) = m' ((c.tc : Thread Cert.DxReferenceIdeal.nD Cert.DxReferenceIdeal.τ).loc Cert.DxReferenceIdeal.main_arg7)
          ∧ r.2.mem ((c.tc : Thread Cert.DxReferenceIdeal.nD Cert.DxReferenceIdeal.τ).loc Cert.DxReferenceIdeal.main_arg8) = m' ((c.tc : Thread Cert.DxReferenceIdeal.nD Cert.DxReferenceIdeal.τ).loc Cert.DxReferenceIdeal.main_arg8)
          ∧ r.2.mem ((c.tc : Thread Cert.DxReferenceIdeal.nD Cert.DxReferenceIdeal.τ).loc Cert.DxReferenceIdeal.main_arg9) = m' ((c.tc : Thread Cert.DxReferenceIdeal.nD Cert.DxReferenceIdeal.τ).loc Cert.DxReferenceIdeal.main_arg9)
          ∧ r.2.mem ((c.tc : Thread Cert.DxReferenceIdeal.nD Cert.DxReferenceIdeal.τ).loc Cert.DxReferenceIdeal.main_arg10) = m' ((c.tc : Thread Cert.DxReferenceIdeal.nD Cert.DxReferenceIdeal.τ).loc Cert.DxReferenceIdeal.main_arg10)
          ∧ r.2.mem ((c.tc : Thread Cert.DxReferenceIdeal.nD Cert.DxReferenceIdeal.τ).loc Cert.DxReferenceIdeal.main_arg11) = m' ((c.tc : Thread Cert.DxReferenceIdeal.nD Cert.DxReferenceIdeal.τ).loc Cert.DxReferenceIdeal.main_arg11)
          ∧ r.2.mem ((c.tc : Thread Cert.DxReferenceIdeal.nD Cert.DxReferenceIdeal.τ).loc Cert.DxReferenceIdeal.main_arg12) = m' ((c.tc : Thread Cert.DxReferenceIdeal.nD Cert.DxReferenceIdeal.τ).loc Cert.DxReferenceIdeal.main_arg12))

def preserves_Dw_DwIdeal : Prop :=
  True

def algebraic_DwIdeal_DwReferenceIdeal [hDwIdeal : Cert.DwIdeal.Facts] [hDwReferenceIdeal : Cert.DwReferenceIdeal.Facts] : Prop :=
  ∀ (m : (ℓ : Loc Cert.DwIdeal.nD Cert.DwIdeal.τ Cert.DwIdeal.sig) → Buf (Elt Ideal) ℓ) (g : Dev Cert.DwIdeal.nD → PrngReg)
    (m' : (ℓ : Loc Cert.DwReferenceIdeal.nD Cert.DwReferenceIdeal.τ Cert.DwReferenceIdeal.sig) → Buf (Elt Ideal) ℓ) (g' : Dev Cert.DwReferenceIdeal.nD → PrngReg), Pre_DwIdeal m →
    (∀ c : Dev Cert.DwIdeal.nD,
      m' ((c.tc : Thread Cert.DwReferenceIdeal.nD Cert.DwReferenceIdeal.τ).loc Cert.DwReferenceIdeal.main_arg0) = m ((c.tc : Thread Cert.DwIdeal.nD Cert.DwIdeal.τ).loc Cert.DwIdeal.main_arg0)
      ∧ m' ((c.tc : Thread Cert.DwReferenceIdeal.nD Cert.DwReferenceIdeal.τ).loc Cert.DwReferenceIdeal.main_arg1) = m ((c.tc : Thread Cert.DwIdeal.nD Cert.DwIdeal.τ).loc Cert.DwIdeal.main_arg1)
      ∧ m' ((c.tc : Thread Cert.DwReferenceIdeal.nD Cert.DwReferenceIdeal.τ).loc Cert.DwReferenceIdeal.main_arg2) = m ((c.tc : Thread Cert.DwIdeal.nD Cert.DwIdeal.τ).loc Cert.DwIdeal.main_arg2)
      ∧ m' ((c.tc : Thread Cert.DwReferenceIdeal.nD Cert.DwReferenceIdeal.τ).loc Cert.DwReferenceIdeal.main_arg3) = m ((c.tc : Thread Cert.DwIdeal.nD Cert.DwIdeal.τ).loc Cert.DwIdeal.main_arg3)
      ∧ m' ((c.tc : Thread Cert.DwReferenceIdeal.nD Cert.DwReferenceIdeal.τ).loc Cert.DwReferenceIdeal.main_arg4) = m ((c.tc : Thread Cert.DwIdeal.nD Cert.DwIdeal.τ).loc Cert.DwIdeal.main_arg4)
      ∧ m' ((c.tc : Thread Cert.DwReferenceIdeal.nD Cert.DwReferenceIdeal.τ).loc Cert.DwReferenceIdeal.main_arg5) = m ((c.tc : Thread Cert.DwIdeal.nD Cert.DwIdeal.τ).loc Cert.DwIdeal.main_arg5)
      ∧ m' ((c.tc : Thread Cert.DwReferenceIdeal.nD Cert.DwReferenceIdeal.τ).loc Cert.DwReferenceIdeal.main_arg6) = m ((c.tc : Thread Cert.DwIdeal.nD Cert.DwIdeal.τ).loc Cert.DwIdeal.main_arg6)
      ∧ m' ((c.tc : Thread Cert.DwReferenceIdeal.nD Cert.DwReferenceIdeal.τ).loc Cert.DwReferenceIdeal.main_arg7) = m ((c.tc : Thread Cert.DwIdeal.nD Cert.DwIdeal.τ).loc Cert.DwIdeal.main_arg7)
      ∧ m' ((c.tc : Thread Cert.DwReferenceIdeal.nD Cert.DwReferenceIdeal.τ).loc Cert.DwReferenceIdeal.main_arg8) = m ((c.tc : Thread Cert.DwIdeal.nD Cert.DwIdeal.τ).loc Cert.DwIdeal.main_arg8)
      ∧ m' ((c.tc : Thread Cert.DwReferenceIdeal.nD Cert.DwReferenceIdeal.τ).loc Cert.DwReferenceIdeal.main_arg9) = m ((c.tc : Thread Cert.DwIdeal.nD Cert.DwIdeal.τ).loc Cert.DwIdeal.main_arg9)
      ∧ m' ((c.tc : Thread Cert.DwReferenceIdeal.nD Cert.DwReferenceIdeal.τ).loc Cert.DwReferenceIdeal.main_arg10) = m ((c.tc : Thread Cert.DwIdeal.nD Cert.DwIdeal.τ).loc Cert.DwIdeal.main_arg10)
      ∧ m' ((c.tc : Thread Cert.DwReferenceIdeal.nD Cert.DwReferenceIdeal.τ).loc Cert.DwReferenceIdeal.main_arg11) = m ((c.tc : Thread Cert.DwIdeal.nD Cert.DwIdeal.τ).loc Cert.DwIdeal.main_arg11)
      ∧ m' ((c.tc : Thread Cert.DwReferenceIdeal.nD Cert.DwReferenceIdeal.τ).loc Cert.DwReferenceIdeal.main_arg12) = m ((c.tc : Thread Cert.DwIdeal.nD Cert.DwIdeal.τ).loc Cert.DwIdeal.main_arg12)) →
    ∃ (v0 : (c : Dev Cert.DwIdeal.nD) → Buf (Elt Ideal) ((c.tc : Thread Cert.DwIdeal.nD Cert.DwIdeal.τ).loc Cert.DwIdeal.main_v17)),
      θ_run (Cert.DwIdeal.defs (F := Ideal)) (onTc (τ := Cert.DwIdeal.τ) (Cert.DwIdeal.main (F := Ideal))) ⟨m, fun _ => 0, g⟩ (fun r => ∀ c : Dev Cert.DwIdeal.nD,
          r.2.mem ((c.tc : Thread Cert.DwIdeal.nD Cert.DwIdeal.τ).loc Cert.DwIdeal.main_v17) = v0 c
          ∧ r.2.mem ((c.tc : Thread Cert.DwIdeal.nD Cert.DwIdeal.τ).loc Cert.DwIdeal.main_arg0) = m ((c.tc : Thread Cert.DwIdeal.nD Cert.DwIdeal.τ).loc Cert.DwIdeal.main_arg0)
          ∧ r.2.mem ((c.tc : Thread Cert.DwIdeal.nD Cert.DwIdeal.τ).loc Cert.DwIdeal.main_arg1) = m ((c.tc : Thread Cert.DwIdeal.nD Cert.DwIdeal.τ).loc Cert.DwIdeal.main_arg1)
          ∧ r.2.mem ((c.tc : Thread Cert.DwIdeal.nD Cert.DwIdeal.τ).loc Cert.DwIdeal.main_arg2) = m ((c.tc : Thread Cert.DwIdeal.nD Cert.DwIdeal.τ).loc Cert.DwIdeal.main_arg2)
          ∧ r.2.mem ((c.tc : Thread Cert.DwIdeal.nD Cert.DwIdeal.τ).loc Cert.DwIdeal.main_arg3) = m ((c.tc : Thread Cert.DwIdeal.nD Cert.DwIdeal.τ).loc Cert.DwIdeal.main_arg3)
          ∧ r.2.mem ((c.tc : Thread Cert.DwIdeal.nD Cert.DwIdeal.τ).loc Cert.DwIdeal.main_arg4) = m ((c.tc : Thread Cert.DwIdeal.nD Cert.DwIdeal.τ).loc Cert.DwIdeal.main_arg4)
          ∧ r.2.mem ((c.tc : Thread Cert.DwIdeal.nD Cert.DwIdeal.τ).loc Cert.DwIdeal.main_arg5) = m ((c.tc : Thread Cert.DwIdeal.nD Cert.DwIdeal.τ).loc Cert.DwIdeal.main_arg5)
          ∧ r.2.mem ((c.tc : Thread Cert.DwIdeal.nD Cert.DwIdeal.τ).loc Cert.DwIdeal.main_arg6) = m ((c.tc : Thread Cert.DwIdeal.nD Cert.DwIdeal.τ).loc Cert.DwIdeal.main_arg6)
          ∧ r.2.mem ((c.tc : Thread Cert.DwIdeal.nD Cert.DwIdeal.τ).loc Cert.DwIdeal.main_arg7) = m ((c.tc : Thread Cert.DwIdeal.nD Cert.DwIdeal.τ).loc Cert.DwIdeal.main_arg7)
          ∧ r.2.mem ((c.tc : Thread Cert.DwIdeal.nD Cert.DwIdeal.τ).loc Cert.DwIdeal.main_arg8) = m ((c.tc : Thread Cert.DwIdeal.nD Cert.DwIdeal.τ).loc Cert.DwIdeal.main_arg8)
          ∧ r.2.mem ((c.tc : Thread Cert.DwIdeal.nD Cert.DwIdeal.τ).loc Cert.DwIdeal.main_arg9) = m ((c.tc : Thread Cert.DwIdeal.nD Cert.DwIdeal.τ).loc Cert.DwIdeal.main_arg9)
          ∧ r.2.mem ((c.tc : Thread Cert.DwIdeal.nD Cert.DwIdeal.τ).loc Cert.DwIdeal.main_arg10) = m ((c.tc : Thread Cert.DwIdeal.nD Cert.DwIdeal.τ).loc Cert.DwIdeal.main_arg10)
          ∧ r.2.mem ((c.tc : Thread Cert.DwIdeal.nD Cert.DwIdeal.τ).loc Cert.DwIdeal.main_arg11) = m ((c.tc : Thread Cert.DwIdeal.nD Cert.DwIdeal.τ).loc Cert.DwIdeal.main_arg11)
          ∧ r.2.mem ((c.tc : Thread Cert.DwIdeal.nD Cert.DwIdeal.τ).loc Cert.DwIdeal.main_arg12) = m ((c.tc : Thread Cert.DwIdeal.nD Cert.DwIdeal.τ).loc Cert.DwIdeal.main_arg12))
      ∧ θ_run (Cert.DwReferenceIdeal.defs (F := Ideal)) (onTc (τ := Cert.DwReferenceIdeal.τ) (Cert.DwReferenceIdeal.main (F := Ideal))) ⟨m', fun _ => 0, g'⟩ (fun r => ∀ c : Dev Cert.DwReferenceIdeal.nD,
          r.2.mem ((c.tc : Thread Cert.DwReferenceIdeal.nD Cert.DwReferenceIdeal.τ).loc Cert.DwReferenceIdeal.main_v30) = v0 c
          ∧ r.2.mem ((c.tc : Thread Cert.DwReferenceIdeal.nD Cert.DwReferenceIdeal.τ).loc Cert.DwReferenceIdeal.main_arg0) = m' ((c.tc : Thread Cert.DwReferenceIdeal.nD Cert.DwReferenceIdeal.τ).loc Cert.DwReferenceIdeal.main_arg0)
          ∧ r.2.mem ((c.tc : Thread Cert.DwReferenceIdeal.nD Cert.DwReferenceIdeal.τ).loc Cert.DwReferenceIdeal.main_arg1) = m' ((c.tc : Thread Cert.DwReferenceIdeal.nD Cert.DwReferenceIdeal.τ).loc Cert.DwReferenceIdeal.main_arg1)
          ∧ r.2.mem ((c.tc : Thread Cert.DwReferenceIdeal.nD Cert.DwReferenceIdeal.τ).loc Cert.DwReferenceIdeal.main_arg2) = m' ((c.tc : Thread Cert.DwReferenceIdeal.nD Cert.DwReferenceIdeal.τ).loc Cert.DwReferenceIdeal.main_arg2)
          ∧ r.2.mem ((c.tc : Thread Cert.DwReferenceIdeal.nD Cert.DwReferenceIdeal.τ).loc Cert.DwReferenceIdeal.main_arg3) = m' ((c.tc : Thread Cert.DwReferenceIdeal.nD Cert.DwReferenceIdeal.τ).loc Cert.DwReferenceIdeal.main_arg3)
          ∧ r.2.mem ((c.tc : Thread Cert.DwReferenceIdeal.nD Cert.DwReferenceIdeal.τ).loc Cert.DwReferenceIdeal.main_arg4) = m' ((c.tc : Thread Cert.DwReferenceIdeal.nD Cert.DwReferenceIdeal.τ).loc Cert.DwReferenceIdeal.main_arg4)
          ∧ r.2.mem ((c.tc : Thread Cert.DwReferenceIdeal.nD Cert.DwReferenceIdeal.τ).loc Cert.DwReferenceIdeal.main_arg5) = m' ((c.tc : Thread Cert.DwReferenceIdeal.nD Cert.DwReferenceIdeal.τ).loc Cert.DwReferenceIdeal.main_arg5)
          ∧ r.2.mem ((c.tc : Thread Cert.DwReferenceIdeal.nD Cert.DwReferenceIdeal.τ).loc Cert.DwReferenceIdeal.main_arg6) = m' ((c.tc : Thread Cert.DwReferenceIdeal.nD Cert.DwReferenceIdeal.τ).loc Cert.DwReferenceIdeal.main_arg6)
          ∧ r.2.mem ((c.tc : Thread Cert.DwReferenceIdeal.nD Cert.DwReferenceIdeal.τ).loc Cert.DwReferenceIdeal.main_arg7) = m' ((c.tc : Thread Cert.DwReferenceIdeal.nD Cert.DwReferenceIdeal.τ).loc Cert.DwReferenceIdeal.main_arg7)
          ∧ r.2.mem ((c.tc : Thread Cert.DwReferenceIdeal.nD Cert.DwReferenceIdeal.τ).loc Cert.DwReferenceIdeal.main_arg8) = m' ((c.tc : Thread Cert.DwReferenceIdeal.nD Cert.DwReferenceIdeal.τ).loc Cert.DwReferenceIdeal.main_arg8)
          ∧ r.2.mem ((c.tc : Thread Cert.DwReferenceIdeal.nD Cert.DwReferenceIdeal.τ).loc Cert.DwReferenceIdeal.main_arg9) = m' ((c.tc : Thread Cert.DwReferenceIdeal.nD Cert.DwReferenceIdeal.τ).loc Cert.DwReferenceIdeal.main_arg9)
          ∧ r.2.mem ((c.tc : Thread Cert.DwReferenceIdeal.nD Cert.DwReferenceIdeal.τ).loc Cert.DwReferenceIdeal.main_arg10) = m' ((c.tc : Thread Cert.DwReferenceIdeal.nD Cert.DwReferenceIdeal.τ).loc Cert.DwReferenceIdeal.main_arg10)
          ∧ r.2.mem ((c.tc : Thread Cert.DwReferenceIdeal.nD Cert.DwReferenceIdeal.τ).loc Cert.DwReferenceIdeal.main_arg11) = m' ((c.tc : Thread Cert.DwReferenceIdeal.nD Cert.DwReferenceIdeal.τ).loc Cert.DwReferenceIdeal.main_arg11)
          ∧ r.2.mem ((c.tc : Thread Cert.DwReferenceIdeal.nD Cert.DwReferenceIdeal.τ).loc Cert.DwReferenceIdeal.main_arg12) = m' ((c.tc : Thread Cert.DwReferenceIdeal.nD Cert.DwReferenceIdeal.τ).loc Cert.DwReferenceIdeal.main_arg12))

def preserves_Split_SplitIdeal : Prop :=
  True

def algebraic_SplitIdeal_SplitReferenceIdeal [hSplitIdeal : Cert.SplitIdeal.Facts] [hSplitReferenceIdeal : Cert.SplitReferenceIdeal.Facts] : Prop :=
  ∀ (m : (ℓ : Loc Cert.SplitIdeal.nD Cert.SplitIdeal.τ Cert.SplitIdeal.sig) → Buf (Elt Ideal) ℓ) (g : Dev Cert.SplitIdeal.nD → PrngReg)
    (m' : (ℓ : Loc Cert.SplitReferenceIdeal.nD Cert.SplitReferenceIdeal.τ Cert.SplitReferenceIdeal.sig) → Buf (Elt Ideal) ℓ) (g' : Dev Cert.SplitReferenceIdeal.nD → PrngReg), Pre_SplitIdeal m →
    (∀ c : Dev Cert.SplitIdeal.nD,
      m' ((c.tc : Thread Cert.SplitReferenceIdeal.nD Cert.SplitReferenceIdeal.τ).loc Cert.SplitReferenceIdeal.main_arg0) = m ((c.tc : Thread Cert.SplitIdeal.nD Cert.SplitIdeal.τ).loc Cert.SplitIdeal.main_arg0)
      ∧ m' ((c.tc : Thread Cert.SplitReferenceIdeal.nD Cert.SplitReferenceIdeal.τ).loc Cert.SplitReferenceIdeal.main_arg1) = m ((c.tc : Thread Cert.SplitIdeal.nD Cert.SplitIdeal.τ).loc Cert.SplitIdeal.main_arg1)) →
    ∃ (v0 : (c : Dev Cert.SplitIdeal.nD) → Buf (Elt Ideal) ((c.tc : Thread Cert.SplitIdeal.nD Cert.SplitIdeal.τ).loc Cert.SplitIdeal.main_v16_0)) (v1 : (c : Dev Cert.SplitIdeal.nD) → Buf (Elt Ideal) ((c.tc : Thread Cert.SplitIdeal.nD Cert.SplitIdeal.τ).loc Cert.SplitIdeal.main_v16_1)) (v2 : (c : Dev Cert.SplitIdeal.nD) → Buf (Elt Ideal) ((c.tc : Thread Cert.SplitIdeal.nD Cert.SplitIdeal.τ).loc Cert.SplitIdeal.main_v16_2)) (v3 : (c : Dev Cert.SplitIdeal.nD) → Buf (Elt Ideal) ((c.tc : Thread Cert.SplitIdeal.nD Cert.SplitIdeal.τ).loc Cert.SplitIdeal.main_v16_3)) (v4 : (c : Dev Cert.SplitIdeal.nD) → Buf (Elt Ideal) ((c.tc : Thread Cert.SplitIdeal.nD Cert.SplitIdeal.τ).loc Cert.SplitIdeal.main_v16_4)) (v5 : (c : Dev Cert.SplitIdeal.nD) → Buf (Elt Ideal) ((c.tc : Thread Cert.SplitIdeal.nD Cert.SplitIdeal.τ).loc Cert.SplitIdeal.main_v16_5)) (v6 : (c : Dev Cert.SplitIdeal.nD) → Buf (Elt Ideal) ((c.tc : Thread Cert.SplitIdeal.nD Cert.SplitIdeal.τ).loc Cert.SplitIdeal.main_v16_6)) (v7 : (c : Dev Cert.SplitIdeal.nD) → Buf (Elt Ideal) ((c.tc : Thread Cert.SplitIdeal.nD Cert.SplitIdeal.τ).loc Cert.SplitIdeal.main_v16_7)) (v8 : (c : Dev Cert.SplitIdeal.nD) → Buf (Elt Ideal) ((c.tc : Thread Cert.SplitIdeal.nD Cert.SplitIdeal.τ).loc Cert.SplitIdeal.main_v16_8)) (v9 : (c : Dev Cert.SplitIdeal.nD) → Buf (Elt Ideal) ((c.tc : Thread Cert.SplitIdeal.nD Cert.SplitIdeal.τ).loc Cert.SplitIdeal.main_v16_9)) (v10 : (c : Dev Cert.SplitIdeal.nD) → Buf (Elt Ideal) ((c.tc : Thread Cert.SplitIdeal.nD Cert.SplitIdeal.τ).loc Cert.SplitIdeal.main_v16_10)),
      θ_run (Cert.SplitIdeal.defs (F := Ideal)) (onTc (τ := Cert.SplitIdeal.τ) (Cert.SplitIdeal.main (F := Ideal))) ⟨m, fun _ => 0, g⟩ (fun r => ∀ c : Dev Cert.SplitIdeal.nD,
          r.2.mem ((c.tc : Thread Cert.SplitIdeal.nD Cert.SplitIdeal.τ).loc Cert.SplitIdeal.main_v16_0) = v0 c
          ∧ r.2.mem ((c.tc : Thread Cert.SplitIdeal.nD Cert.SplitIdeal.τ).loc Cert.SplitIdeal.main_v16_1) = v1 c
          ∧ r.2.mem ((c.tc : Thread Cert.SplitIdeal.nD Cert.SplitIdeal.τ).loc Cert.SplitIdeal.main_v16_2) = v2 c
          ∧ r.2.mem ((c.tc : Thread Cert.SplitIdeal.nD Cert.SplitIdeal.τ).loc Cert.SplitIdeal.main_v16_3) = v3 c
          ∧ r.2.mem ((c.tc : Thread Cert.SplitIdeal.nD Cert.SplitIdeal.τ).loc Cert.SplitIdeal.main_v16_4) = v4 c
          ∧ r.2.mem ((c.tc : Thread Cert.SplitIdeal.nD Cert.SplitIdeal.τ).loc Cert.SplitIdeal.main_v16_5) = v5 c
          ∧ r.2.mem ((c.tc : Thread Cert.SplitIdeal.nD Cert.SplitIdeal.τ).loc Cert.SplitIdeal.main_v16_6) = v6 c
          ∧ r.2.mem ((c.tc : Thread Cert.SplitIdeal.nD Cert.SplitIdeal.τ).loc Cert.SplitIdeal.main_v16_7) = v7 c
          ∧ r.2.mem ((c.tc : Thread Cert.SplitIdeal.nD Cert.SplitIdeal.τ).loc Cert.SplitIdeal.main_v16_8) = v8 c
          ∧ r.2.mem ((c.tc : Thread Cert.SplitIdeal.nD Cert.SplitIdeal.τ).loc Cert.SplitIdeal.main_v16_9) = v9 c
          ∧ r.2.mem ((c.tc : Thread Cert.SplitIdeal.nD Cert.SplitIdeal.τ).loc Cert.SplitIdeal.main_v16_10) = v10 c
          ∧ r.2.mem ((c.tc : Thread Cert.SplitIdeal.nD Cert.SplitIdeal.τ).loc Cert.SplitIdeal.main_arg0) = m ((c.tc : Thread Cert.SplitIdeal.nD Cert.SplitIdeal.τ).loc Cert.SplitIdeal.main_arg0)
          ∧ r.2.mem ((c.tc : Thread Cert.SplitIdeal.nD Cert.SplitIdeal.τ).loc Cert.SplitIdeal.main_arg1) = m ((c.tc : Thread Cert.SplitIdeal.nD Cert.SplitIdeal.τ).loc Cert.SplitIdeal.main_arg1))
      ∧ θ_run (Cert.SplitReferenceIdeal.defs (F := Ideal)) (onTc (τ := Cert.SplitReferenceIdeal.τ) (Cert.SplitReferenceIdeal.main (F := Ideal))) ⟨m', fun _ => 0, g'⟩ (fun r => ∀ c : Dev Cert.SplitReferenceIdeal.nD,
          r.2.mem ((c.tc : Thread Cert.SplitReferenceIdeal.nD Cert.SplitReferenceIdeal.τ).loc Cert.SplitReferenceIdeal.main_v15) = v0 c
          ∧ r.2.mem ((c.tc : Thread Cert.SplitReferenceIdeal.nD Cert.SplitReferenceIdeal.τ).loc Cert.SplitReferenceIdeal.main_v16) = v1 c
          ∧ r.2.mem ((c.tc : Thread Cert.SplitReferenceIdeal.nD Cert.SplitReferenceIdeal.τ).loc Cert.SplitReferenceIdeal.main_v17) = v2 c
          ∧ r.2.mem ((c.tc : Thread Cert.SplitReferenceIdeal.nD Cert.SplitReferenceIdeal.τ).loc Cert.SplitReferenceIdeal.main_v18) = v3 c
          ∧ r.2.mem ((c.tc : Thread Cert.SplitReferenceIdeal.nD Cert.SplitReferenceIdeal.τ).loc Cert.SplitReferenceIdeal.main_v19) = v4 c
          ∧ r.2.mem ((c.tc : Thread Cert.SplitReferenceIdeal.nD Cert.SplitReferenceIdeal.τ).loc Cert.SplitReferenceIdeal.main_v20) = v5 c
          ∧ r.2.mem ((c.tc : Thread Cert.SplitReferenceIdeal.nD Cert.SplitReferenceIdeal.τ).loc Cert.SplitReferenceIdeal.main_v8) = v6 c
          ∧ r.2.mem ((c.tc : Thread Cert.SplitReferenceIdeal.nD Cert.SplitReferenceIdeal.τ).loc Cert.SplitReferenceIdeal.main_v9) = v7 c
          ∧ r.2.mem ((c.tc : Thread Cert.SplitReferenceIdeal.nD Cert.SplitReferenceIdeal.τ).loc Cert.SplitReferenceIdeal.main_v21) = v8 c
          ∧ r.2.mem ((c.tc : Thread Cert.SplitReferenceIdeal.nD Cert.SplitReferenceIdeal.τ).loc Cert.SplitReferenceIdeal.main_v12) = v9 c
          ∧ r.2.mem ((c.tc : Thread Cert.SplitReferenceIdeal.nD Cert.SplitReferenceIdeal.τ).loc Cert.SplitReferenceIdeal.main_v14) = v10 c
          ∧ r.2.mem ((c.tc : Thread Cert.SplitReferenceIdeal.nD Cert.SplitReferenceIdeal.τ).loc Cert.SplitReferenceIdeal.main_arg0) = m' ((c.tc : Thread Cert.SplitReferenceIdeal.nD Cert.SplitReferenceIdeal.τ).loc Cert.SplitReferenceIdeal.main_arg0)
          ∧ r.2.mem ((c.tc : Thread Cert.SplitReferenceIdeal.nD Cert.SplitReferenceIdeal.τ).loc Cert.SplitReferenceIdeal.main_arg1) = m' ((c.tc : Thread Cert.SplitReferenceIdeal.nD Cert.SplitReferenceIdeal.τ).loc Cert.SplitReferenceIdeal.main_arg1))

def preserves_Gate_GateIdeal : Prop :=
  True

def algebraic_GateIdeal_GateReferenceIdeal [hGateIdeal : Cert.GateIdeal.Facts] [hGateReferenceIdeal : Cert.GateReferenceIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateIdeal m →
    (∀ c : Dev Cert.GateIdeal.nD,
      m' ((c.tc : Thread Cert.GateReferenceIdeal.nD Cert.GateReferenceIdeal.τ).loc Cert.GateReferenceIdeal.main_arg0) = m ((c.tc : Thread Cert.GateIdeal.nD Cert.GateIdeal.τ).loc Cert.GateIdeal.main_arg0)
      ∧ m' ((c.tc : Thread Cert.GateReferenceIdeal.nD Cert.GateReferenceIdeal.τ).loc Cert.GateReferenceIdeal.main_arg1) = m ((c.tc : Thread Cert.GateIdeal.nD Cert.GateIdeal.τ).loc Cert.GateIdeal.main_arg1)
      ∧ m' ((c.tc : Thread Cert.GateReferenceIdeal.nD Cert.GateReferenceIdeal.τ).loc Cert.GateReferenceIdeal.main_arg2) = m ((c.tc : Thread Cert.GateIdeal.nD Cert.GateIdeal.τ).loc Cert.GateIdeal.main_arg2)
      ∧ m' ((c.tc : Thread Cert.GateReferenceIdeal.nD Cert.GateReferenceIdeal.τ).loc Cert.GateReferenceIdeal.main_arg3) = m ((c.tc : Thread Cert.GateIdeal.nD Cert.GateIdeal.τ).loc Cert.GateIdeal.main_arg3)
      ∧ m' ((c.tc : Thread Cert.GateReferenceIdeal.nD Cert.GateReferenceIdeal.τ).loc Cert.GateReferenceIdeal.main_arg4) = m ((c.tc : Thread Cert.GateIdeal.nD Cert.GateIdeal.τ).loc Cert.GateIdeal.main_arg4)
      ∧ m' ((c.tc : Thread Cert.GateReferenceIdeal.nD Cert.GateReferenceIdeal.τ).loc Cert.GateReferenceIdeal.main_arg5) = m ((c.tc : Thread Cert.GateIdeal.nD Cert.GateIdeal.τ).loc Cert.GateIdeal.main_arg5)) →
    ∃ (v0 : (c : Dev Cert.GateIdeal.nD) → Buf (Elt Ideal) ((c.tc : Thread Cert.GateIdeal.nD Cert.GateIdeal.τ).loc Cert.GateIdeal.main_v1_0)) (v1 : (c : Dev Cert.GateIdeal.nD) → Buf (Elt Ideal) ((c.tc : Thread Cert.GateIdeal.nD Cert.GateIdeal.τ).loc Cert.GateIdeal.main_v1_1)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v1_0) = v0 c
          ∧ r.2.mem ((c.tc : Thread Cert.GateIdeal.nD Cert.GateIdeal.τ).loc Cert.GateIdeal.main_v1_1) = v1 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
          ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
          ∧ r.2.mem ((c.tc : Thread Cert.GateIdeal.nD Cert.GateIdeal.τ).loc Cert.GateIdeal.main_arg5) = m ((c.tc : Thread Cert.GateIdeal.nD Cert.GateIdeal.τ).loc Cert.GateIdeal.main_arg5))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v3) = v0 c
          ∧ r.2.mem ((c.tc : Thread Cert.GateReferenceIdeal.nD Cert.GateReferenceIdeal.τ).loc Cert.GateReferenceIdeal.main_v5) = v1 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1)
          ∧ r.2.mem ((c.tc : Thread Cert.GateReferenceIdeal.nD Cert.GateReferenceIdeal.τ).loc Cert.GateReferenceIdeal.main_arg2) = m' ((c.tc : Thread Cert.GateReferenceIdeal.nD Cert.GateReferenceIdeal.τ).loc Cert.GateReferenceIdeal.main_arg2)
          ∧ r.2.mem ((c.tc : Thread Cert.GateReferenceIdeal.nD Cert.GateReferenceIdeal.τ).loc Cert.GateReferenceIdeal.main_arg3) = m' ((c.tc : Thread Cert.GateReferenceIdeal.nD Cert.GateReferenceIdeal.τ).loc Cert.GateReferenceIdeal.main_arg3)
          ∧ r.2.mem ((c.tc : Thread Cert.GateReferenceIdeal.nD Cert.GateReferenceIdeal.τ).loc Cert.GateReferenceIdeal.main_arg4) = m' ((c.tc : Thread Cert.GateReferenceIdeal.nD Cert.GateReferenceIdeal.τ).loc Cert.GateReferenceIdeal.main_arg4)
          ∧ r.2.mem ((c.tc : Thread Cert.GateReferenceIdeal.nD Cert.GateReferenceIdeal.τ).loc Cert.GateReferenceIdeal.main_arg5) = m' ((c.tc : Thread Cert.GateReferenceIdeal.nD Cert.GateReferenceIdeal.τ).loc Cert.GateReferenceIdeal.main_arg5))

def preserves_GateBack_GateBackIdeal : Prop :=
  True

def algebraic_GateBackIdeal_GateBackReferenceIdeal_pre_finite_gated [hGateBackIdeal : Cert.GateBackIdeal.Facts] [hGateBackReferenceIdeal : Cert.GateBackReferenceIdeal.Facts] [hPre_finite_gated : Cert.Pre_finite_gated.Facts] : Prop :=
  ∀ (m : (ℓ : Loc Cert.GateBackIdeal.nD Cert.GateBackIdeal.τ Cert.GateBackIdeal.sig) → Buf (Elt Ideal) ℓ) (g : Dev Cert.GateBackIdeal.nD → PrngReg)
    (m' : (ℓ : Loc Cert.GateBackReferenceIdeal.nD Cert.GateBackReferenceIdeal.τ Cert.GateBackReferenceIdeal.sig) → Buf (Elt Ideal) ℓ) (g' : Dev Cert.GateBackReferenceIdeal.nD → PrngReg), Pre_GateBackIdeal_finite_gated m →
    (∀ c : Dev Cert.GateBackIdeal.nD,
      m' ((c.tc : Thread Cert.GateBackReferenceIdeal.nD Cert.GateBackReferenceIdeal.τ).loc Cert.GateBackReferenceIdeal.main_arg0) = m ((c.tc : Thread Cert.GateBackIdeal.nD Cert.GateBackIdeal.τ).loc Cert.GateBackIdeal.main_arg0)
      ∧ m' ((c.tc : Thread Cert.GateBackReferenceIdeal.nD Cert.GateBackReferenceIdeal.τ).loc Cert.GateBackReferenceIdeal.main_arg1) = m ((c.tc : Thread Cert.GateBackIdeal.nD Cert.GateBackIdeal.τ).loc Cert.GateBackIdeal.main_arg1)
      ∧ m' ((c.tc : Thread Cert.GateBackReferenceIdeal.nD Cert.GateBackReferenceIdeal.τ).loc Cert.GateBackReferenceIdeal.main_arg2) = m ((c.tc : Thread Cert.GateBackIdeal.nD Cert.GateBackIdeal.τ).loc Cert.GateBackIdeal.main_arg2)
      ∧ m' ((c.tc : Thread Cert.GateBackReferenceIdeal.nD Cert.GateBackReferenceIdeal.τ).loc Cert.GateBackReferenceIdeal.main_arg3) = m ((c.tc : Thread Cert.GateBackIdeal.nD Cert.GateBackIdeal.τ).loc Cert.GateBackIdeal.main_arg3)
      ∧ m' ((c.tc : Thread Cert.GateBackReferenceIdeal.nD Cert.GateBackReferenceIdeal.τ).loc Cert.GateBackReferenceIdeal.main_arg4) = m ((c.tc : Thread Cert.GateBackIdeal.nD Cert.GateBackIdeal.τ).loc Cert.GateBackIdeal.main_arg4)
      ∧ m' ((c.tc : Thread Cert.GateBackReferenceIdeal.nD Cert.GateBackReferenceIdeal.τ).loc Cert.GateBackReferenceIdeal.main_arg5) = m ((c.tc : Thread Cert.GateBackIdeal.nD Cert.GateBackIdeal.τ).loc Cert.GateBackIdeal.main_arg5)
      ∧ m' ((c.tc : Thread Cert.GateBackReferenceIdeal.nD Cert.GateBackReferenceIdeal.τ).loc Cert.GateBackReferenceIdeal.main_arg6) = m ((c.tc : Thread Cert.GateBackIdeal.nD Cert.GateBackIdeal.τ).loc Cert.GateBackIdeal.main_arg6)) →
    ∃ (v0 : (c : Dev Cert.GateBackIdeal.nD) → Buf (Elt Ideal) ((c.tc : Thread Cert.GateBackIdeal.nD Cert.GateBackIdeal.τ).loc Cert.GateBackIdeal.main_v2_0)) (v1 : (c : Dev Cert.GateBackIdeal.nD) → Buf (Elt Ideal) ((c.tc : Thread Cert.GateBackIdeal.nD Cert.GateBackIdeal.τ).loc Cert.GateBackIdeal.main_v2_1)) (v2 : (c : Dev Cert.GateBackIdeal.nD) → Buf (Elt Ideal) ((c.tc : Thread Cert.GateBackIdeal.nD Cert.GateBackIdeal.τ).loc Cert.GateBackIdeal.main_v2_2)) (v3 : (c : Dev Cert.GateBackIdeal.nD) → Buf (Elt Ideal) ((c.tc : Thread Cert.GateBackIdeal.nD Cert.GateBackIdeal.τ).loc Cert.GateBackIdeal.main_v2_3)) (v4 : (c : Dev Cert.GateBackIdeal.nD) → Buf (Elt Ideal) ((c.tc : Thread Cert.GateBackIdeal.nD Cert.GateBackIdeal.τ).loc Cert.GateBackIdeal.main_v2_4)),
      θ_run (Cert.GateBackIdeal.defs (F := Ideal)) (onTc (τ := Cert.GateBackIdeal.τ) (Cert.GateBackIdeal.main (F := Ideal))) ⟨m, fun _ => 0, g⟩ (fun r => ∀ c : Dev Cert.GateBackIdeal.nD,
          r.2.mem ((c.tc : Thread Cert.GateBackIdeal.nD Cert.GateBackIdeal.τ).loc Cert.GateBackIdeal.main_v2_0) = v0 c
          ∧ r.2.mem ((c.tc : Thread Cert.GateBackIdeal.nD Cert.GateBackIdeal.τ).loc Cert.GateBackIdeal.main_v2_1) = v1 c
          ∧ r.2.mem ((c.tc : Thread Cert.GateBackIdeal.nD Cert.GateBackIdeal.τ).loc Cert.GateBackIdeal.main_v2_2) = v2 c
          ∧ r.2.mem ((c.tc : Thread Cert.GateBackIdeal.nD Cert.GateBackIdeal.τ).loc Cert.GateBackIdeal.main_v2_3) = v3 c
          ∧ r.2.mem ((c.tc : Thread Cert.GateBackIdeal.nD Cert.GateBackIdeal.τ).loc Cert.GateBackIdeal.main_v2_4) = v4 c
          ∧ r.2.mem ((c.tc : Thread Cert.GateBackIdeal.nD Cert.GateBackIdeal.τ).loc Cert.GateBackIdeal.main_arg0) = m ((c.tc : Thread Cert.GateBackIdeal.nD Cert.GateBackIdeal.τ).loc Cert.GateBackIdeal.main_arg0)
          ∧ r.2.mem ((c.tc : Thread Cert.GateBackIdeal.nD Cert.GateBackIdeal.τ).loc Cert.GateBackIdeal.main_arg1) = m ((c.tc : Thread Cert.GateBackIdeal.nD Cert.GateBackIdeal.τ).loc Cert.GateBackIdeal.main_arg1)
          ∧ r.2.mem ((c.tc : Thread Cert.GateBackIdeal.nD Cert.GateBackIdeal.τ).loc Cert.GateBackIdeal.main_arg2) = m ((c.tc : Thread Cert.GateBackIdeal.nD Cert.GateBackIdeal.τ).loc Cert.GateBackIdeal.main_arg2)
          ∧ r.2.mem ((c.tc : Thread Cert.GateBackIdeal.nD Cert.GateBackIdeal.τ).loc Cert.GateBackIdeal.main_arg3) = m ((c.tc : Thread Cert.GateBackIdeal.nD Cert.GateBackIdeal.τ).loc Cert.GateBackIdeal.main_arg3)
          ∧ r.2.mem ((c.tc : Thread Cert.GateBackIdeal.nD Cert.GateBackIdeal.τ).loc Cert.GateBackIdeal.main_arg4) = m ((c.tc : Thread Cert.GateBackIdeal.nD Cert.GateBackIdeal.τ).loc Cert.GateBackIdeal.main_arg4)
          ∧ r.2.mem ((c.tc : Thread Cert.GateBackIdeal.nD Cert.GateBackIdeal.τ).loc Cert.GateBackIdeal.main_arg5) = m ((c.tc : Thread Cert.GateBackIdeal.nD Cert.GateBackIdeal.τ).loc Cert.GateBackIdeal.main_arg5)
          ∧ r.2.mem ((c.tc : Thread Cert.GateBackIdeal.nD Cert.GateBackIdeal.τ).loc Cert.GateBackIdeal.main_arg6) = m ((c.tc : Thread Cert.GateBackIdeal.nD Cert.GateBackIdeal.τ).loc Cert.GateBackIdeal.main_arg6))
      ∧ θ_run (Cert.GateBackReferenceIdeal.defs (F := Ideal)) (onTc (τ := Cert.GateBackReferenceIdeal.τ) (Cert.GateBackReferenceIdeal.main (F := Ideal))) ⟨m', fun _ => 0, g'⟩ (fun r => ∀ c : Dev Cert.GateBackReferenceIdeal.nD,
          r.2.mem ((c.tc : Thread Cert.GateBackReferenceIdeal.nD Cert.GateBackReferenceIdeal.τ).loc Cert.GateBackReferenceIdeal.main_v8) = v0 c
          ∧ r.2.mem ((c.tc : Thread Cert.GateBackReferenceIdeal.nD Cert.GateBackReferenceIdeal.τ).loc Cert.GateBackReferenceIdeal.main_v9) = v1 c
          ∧ r.2.mem ((c.tc : Thread Cert.GateBackReferenceIdeal.nD Cert.GateBackReferenceIdeal.τ).loc Cert.GateBackReferenceIdeal.main_v10) = v2 c
          ∧ r.2.mem ((c.tc : Thread Cert.GateBackReferenceIdeal.nD Cert.GateBackReferenceIdeal.τ).loc Cert.GateBackReferenceIdeal.main_v11) = v3 c
          ∧ r.2.mem ((c.tc : Thread Cert.GateBackReferenceIdeal.nD Cert.GateBackReferenceIdeal.τ).loc Cert.GateBackReferenceIdeal.main_v7) = v4 c
          ∧ r.2.mem ((c.tc : Thread Cert.GateBackReferenceIdeal.nD Cert.GateBackReferenceIdeal.τ).loc Cert.GateBackReferenceIdeal.main_arg0) = m' ((c.tc : Thread Cert.GateBackReferenceIdeal.nD Cert.GateBackReferenceIdeal.τ).loc Cert.GateBackReferenceIdeal.main_arg0)
          ∧ r.2.mem ((c.tc : Thread Cert.GateBackReferenceIdeal.nD Cert.GateBackReferenceIdeal.τ).loc Cert.GateBackReferenceIdeal.main_arg1) = m' ((c.tc : Thread Cert.GateBackReferenceIdeal.nD Cert.GateBackReferenceIdeal.τ).loc Cert.GateBackReferenceIdeal.main_arg1)
          ∧ r.2.mem ((c.tc : Thread Cert.GateBackReferenceIdeal.nD Cert.GateBackReferenceIdeal.τ).loc Cert.GateBackReferenceIdeal.main_arg2) = m' ((c.tc : Thread Cert.GateBackReferenceIdeal.nD Cert.GateBackReferenceIdeal.τ).loc Cert.GateBackReferenceIdeal.main_arg2)
          ∧ r.2.mem ((c.tc : Thread Cert.GateBackReferenceIdeal.nD Cert.GateBackReferenceIdeal.τ).loc Cert.GateBackReferenceIdeal.main_arg3) = m' ((c.tc : Thread Cert.GateBackReferenceIdeal.nD Cert.GateBackReferenceIdeal.τ).loc Cert.GateBackReferenceIdeal.main_arg3)
          ∧ r.2.mem ((c.tc : Thread Cert.GateBackReferenceIdeal.nD Cert.GateBackReferenceIdeal.τ).loc Cert.GateBackReferenceIdeal.main_arg4) = m' ((c.tc : Thread Cert.GateBackReferenceIdeal.nD Cert.GateBackReferenceIdeal.τ).loc Cert.GateBackReferenceIdeal.main_arg4)
          ∧ r.2.mem ((c.tc : Thread Cert.GateBackReferenceIdeal.nD Cert.GateBackReferenceIdeal.τ).loc Cert.GateBackReferenceIdeal.main_arg5) = m' ((c.tc : Thread Cert.GateBackReferenceIdeal.nD Cert.GateBackReferenceIdeal.τ).loc Cert.GateBackReferenceIdeal.main_arg5)
          ∧ r.2.mem ((c.tc : Thread Cert.GateBackReferenceIdeal.nD Cert.GateBackReferenceIdeal.τ).loc Cert.GateBackReferenceIdeal.main_arg6) = m' ((c.tc : Thread Cert.GateBackReferenceIdeal.nD Cert.GateBackReferenceIdeal.τ).loc Cert.GateBackReferenceIdeal.main_arg6))

def preserves_GateDw_GateDwIdeal : Prop :=
  True

def algebraic_GateDwIdeal_GateDwReferenceIdeal [hGateDwIdeal : Cert.GateDwIdeal.Facts] [hGateDwReferenceIdeal : Cert.GateDwReferenceIdeal.Facts] : Prop :=
  ∀ (m : (ℓ : Loc Cert.GateDwIdeal.nD Cert.GateDwIdeal.τ Cert.GateDwIdeal.sig) → Buf (Elt Ideal) ℓ) (g : Dev Cert.GateDwIdeal.nD → PrngReg)
    (m' : (ℓ : Loc Cert.GateDwReferenceIdeal.nD Cert.GateDwReferenceIdeal.τ Cert.GateDwReferenceIdeal.sig) → Buf (Elt Ideal) ℓ) (g' : Dev Cert.GateDwReferenceIdeal.nD → PrngReg), Pre_GateDwIdeal m →
    (∀ c : Dev Cert.GateDwIdeal.nD,
      m' ((c.tc : Thread Cert.GateDwReferenceIdeal.nD Cert.GateDwReferenceIdeal.τ).loc Cert.GateDwReferenceIdeal.main_arg0) = m ((c.tc : Thread Cert.GateDwIdeal.nD Cert.GateDwIdeal.τ).loc Cert.GateDwIdeal.main_arg0)
      ∧ m' ((c.tc : Thread Cert.GateDwReferenceIdeal.nD Cert.GateDwReferenceIdeal.τ).loc Cert.GateDwReferenceIdeal.main_arg1) = m ((c.tc : Thread Cert.GateDwIdeal.nD Cert.GateDwIdeal.τ).loc Cert.GateDwIdeal.main_arg1)
      ∧ m' ((c.tc : Thread Cert.GateDwReferenceIdeal.nD Cert.GateDwReferenceIdeal.τ).loc Cert.GateDwReferenceIdeal.main_arg2) = m ((c.tc : Thread Cert.GateDwIdeal.nD Cert.GateDwIdeal.τ).loc Cert.GateDwIdeal.main_arg2)
      ∧ m' ((c.tc : Thread Cert.GateDwReferenceIdeal.nD Cert.GateDwReferenceIdeal.τ).loc Cert.GateDwReferenceIdeal.main_arg3) = m ((c.tc : Thread Cert.GateDwIdeal.nD Cert.GateDwIdeal.τ).loc Cert.GateDwIdeal.main_arg3)
      ∧ m' ((c.tc : Thread Cert.GateDwReferenceIdeal.nD Cert.GateDwReferenceIdeal.τ).loc Cert.GateDwReferenceIdeal.main_arg4) = m ((c.tc : Thread Cert.GateDwIdeal.nD Cert.GateDwIdeal.τ).loc Cert.GateDwIdeal.main_arg4)
      ∧ m' ((c.tc : Thread Cert.GateDwReferenceIdeal.nD Cert.GateDwReferenceIdeal.τ).loc Cert.GateDwReferenceIdeal.main_arg5) = m ((c.tc : Thread Cert.GateDwIdeal.nD Cert.GateDwIdeal.τ).loc Cert.GateDwIdeal.main_arg5)) →
    ∃ (v0 : (c : Dev Cert.GateDwIdeal.nD) → Buf (Elt Ideal) ((c.tc : Thread Cert.GateDwIdeal.nD Cert.GateDwIdeal.τ).loc Cert.GateDwIdeal.main_v6)),
      θ_run (Cert.GateDwIdeal.defs (F := Ideal)) (onTc (τ := Cert.GateDwIdeal.τ) (Cert.GateDwIdeal.main (F := Ideal))) ⟨m, fun _ => 0, g⟩ (fun r => ∀ c : Dev Cert.GateDwIdeal.nD,
          r.2.mem ((c.tc : Thread Cert.GateDwIdeal.nD Cert.GateDwIdeal.τ).loc Cert.GateDwIdeal.main_v6) = v0 c
          ∧ r.2.mem ((c.tc : Thread Cert.GateDwIdeal.nD Cert.GateDwIdeal.τ).loc Cert.GateDwIdeal.main_arg0) = m ((c.tc : Thread Cert.GateDwIdeal.nD Cert.GateDwIdeal.τ).loc Cert.GateDwIdeal.main_arg0)
          ∧ r.2.mem ((c.tc : Thread Cert.GateDwIdeal.nD Cert.GateDwIdeal.τ).loc Cert.GateDwIdeal.main_arg1) = m ((c.tc : Thread Cert.GateDwIdeal.nD Cert.GateDwIdeal.τ).loc Cert.GateDwIdeal.main_arg1)
          ∧ r.2.mem ((c.tc : Thread Cert.GateDwIdeal.nD Cert.GateDwIdeal.τ).loc Cert.GateDwIdeal.main_arg2) = m ((c.tc : Thread Cert.GateDwIdeal.nD Cert.GateDwIdeal.τ).loc Cert.GateDwIdeal.main_arg2)
          ∧ r.2.mem ((c.tc : Thread Cert.GateDwIdeal.nD Cert.GateDwIdeal.τ).loc Cert.GateDwIdeal.main_arg3) = m ((c.tc : Thread Cert.GateDwIdeal.nD Cert.GateDwIdeal.τ).loc Cert.GateDwIdeal.main_arg3)
          ∧ r.2.mem ((c.tc : Thread Cert.GateDwIdeal.nD Cert.GateDwIdeal.τ).loc Cert.GateDwIdeal.main_arg4) = m ((c.tc : Thread Cert.GateDwIdeal.nD Cert.GateDwIdeal.τ).loc Cert.GateDwIdeal.main_arg4)
          ∧ r.2.mem ((c.tc : Thread Cert.GateDwIdeal.nD Cert.GateDwIdeal.τ).loc Cert.GateDwIdeal.main_arg5) = m ((c.tc : Thread Cert.GateDwIdeal.nD Cert.GateDwIdeal.τ).loc Cert.GateDwIdeal.main_arg5))
      ∧ θ_run (Cert.GateDwReferenceIdeal.defs (F := Ideal)) (onTc (τ := Cert.GateDwReferenceIdeal.τ) (Cert.GateDwReferenceIdeal.main (F := Ideal))) ⟨m', fun _ => 0, g'⟩ (fun r => ∀ c : Dev Cert.GateDwReferenceIdeal.nD,
          r.2.mem ((c.tc : Thread Cert.GateDwReferenceIdeal.nD Cert.GateDwReferenceIdeal.τ).loc Cert.GateDwReferenceIdeal.main_v6) = v0 c
          ∧ r.2.mem ((c.tc : Thread Cert.GateDwReferenceIdeal.nD Cert.GateDwReferenceIdeal.τ).loc Cert.GateDwReferenceIdeal.main_arg0) = m' ((c.tc : Thread Cert.GateDwReferenceIdeal.nD Cert.GateDwReferenceIdeal.τ).loc Cert.GateDwReferenceIdeal.main_arg0)
          ∧ r.2.mem ((c.tc : Thread Cert.GateDwReferenceIdeal.nD Cert.GateDwReferenceIdeal.τ).loc Cert.GateDwReferenceIdeal.main_arg1) = m' ((c.tc : Thread Cert.GateDwReferenceIdeal.nD Cert.GateDwReferenceIdeal.τ).loc Cert.GateDwReferenceIdeal.main_arg1)
          ∧ r.2.mem ((c.tc : Thread Cert.GateDwReferenceIdeal.nD Cert.GateDwReferenceIdeal.τ).loc Cert.GateDwReferenceIdeal.main_arg2) = m' ((c.tc : Thread Cert.GateDwReferenceIdeal.nD Cert.GateDwReferenceIdeal.τ).loc Cert.GateDwReferenceIdeal.main_arg2)
          ∧ r.2.mem ((c.tc : Thread Cert.GateDwReferenceIdeal.nD Cert.GateDwReferenceIdeal.τ).loc Cert.GateDwReferenceIdeal.main_arg3) = m' ((c.tc : Thread Cert.GateDwReferenceIdeal.nD Cert.GateDwReferenceIdeal.τ).loc Cert.GateDwReferenceIdeal.main_arg3)
          ∧ r.2.mem ((c.tc : Thread Cert.GateDwReferenceIdeal.nD Cert.GateDwReferenceIdeal.τ).loc Cert.GateDwReferenceIdeal.main_arg4) = m' ((c.tc : Thread Cert.GateDwReferenceIdeal.nD Cert.GateDwReferenceIdeal.τ).loc Cert.GateDwReferenceIdeal.main_arg4)
          ∧ r.2.mem ((c.tc : Thread Cert.GateDwReferenceIdeal.nD Cert.GateDwReferenceIdeal.τ).loc Cert.GateDwReferenceIdeal.main_arg5) = m' ((c.tc : Thread Cert.GateDwReferenceIdeal.nD Cert.GateDwReferenceIdeal.τ).loc Cert.GateDwReferenceIdeal.main_arg5))

def preserves_Adam_AdamIdeal : Prop :=
  True

def algebraic_AdamIdeal_AdamReferenceIdeal [hAdamIdeal : Cert.AdamIdeal.Facts] [hAdamReferenceIdeal : Cert.AdamReferenceIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamReferenceIdeal.nD Cert.AdamReferenceIdeal.τ Cert.AdamReferenceIdeal.sig) → Buf (Elt Ideal) ℓ) (g' : Dev Cert.AdamReferenceIdeal.nD → PrngReg), Pre_AdamIdeal m →
    (∀ c : Dev Cert.AdamIdeal.nD,
      m' ((c.tc : Thread Cert.AdamReferenceIdeal.nD Cert.AdamReferenceIdeal.τ).loc Cert.AdamReferenceIdeal.main_arg0) = m ((c.tc : Thread Cert.AdamIdeal.nD Cert.AdamIdeal.τ).loc Cert.AdamIdeal.main_arg0)
      ∧ m' ((c.tc : Thread Cert.AdamReferenceIdeal.nD Cert.AdamReferenceIdeal.τ).loc Cert.AdamReferenceIdeal.main_arg1) = m ((c.tc : Thread Cert.AdamIdeal.nD Cert.AdamIdeal.τ).loc Cert.AdamIdeal.main_arg1)
      ∧ m' ((c.tc : Thread Cert.AdamReferenceIdeal.nD Cert.AdamReferenceIdeal.τ).loc Cert.AdamReferenceIdeal.main_arg2) = m ((c.tc : Thread Cert.AdamIdeal.nD Cert.AdamIdeal.τ).loc Cert.AdamIdeal.main_arg2)
      ∧ m' ((c.tc : Thread Cert.AdamReferenceIdeal.nD Cert.AdamReferenceIdeal.τ).loc Cert.AdamReferenceIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v0_0)) (v1 : (c : Dev Cert.AdamIdeal.nD) → Buf (Elt Ideal) ((c.tc : Thread Cert.AdamIdeal.nD Cert.AdamIdeal.τ).loc Cert.AdamIdeal.main_v0_1)) (v2 : (c : Dev Cert.AdamIdeal.nD) → Buf (Elt Ideal) ((c.tc : Thread Cert.AdamIdeal.nD Cert.AdamIdeal.τ).loc Cert.AdamIdeal.main_v0_2)) (v3 : (c : Dev Cert.AdamIdeal.nD) → Buf (Elt Ideal) ((c.tc : Thread Cert.AdamIdeal.nD Cert.AdamIdeal.τ).loc Cert.AdamIdeal.main_v0_3)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v0_0) = v0 c
          ∧ r.2.mem ((c.tc : Thread Cert.AdamIdeal.nD Cert.AdamIdeal.τ).loc Cert.AdamIdeal.main_v0_1) = v1 c
          ∧ r.2.mem ((c.tc : Thread Cert.AdamIdeal.nD Cert.AdamIdeal.τ).loc Cert.AdamIdeal.main_v0_2) = v2 c
          ∧ r.2.mem ((c.tc : Thread Cert.AdamIdeal.nD Cert.AdamIdeal.τ).loc Cert.AdamIdeal.main_v0_3) = v3 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamReferenceIdeal.defs (F := Ideal)) (onTc (τ := Cert.AdamReferenceIdeal.τ) (Cert.AdamReferenceIdeal.main (F := Ideal))) ⟨m', fun _ => 0, g'⟩ (fun r => ∀ c : Dev Cert.AdamReferenceIdeal.nD,
          r.2.mem ((c.tc : Thread Cert.AdamReferenceIdeal.nD Cert.AdamReferenceIdeal.τ).loc Cert.AdamReferenceIdeal.main_v1) = v0 c
          ∧ r.2.mem ((c.tc : Thread Cert.AdamReferenceIdeal.nD Cert.AdamReferenceIdeal.τ).loc Cert.AdamReferenceIdeal.main_v25) = v1 c
          ∧ r.2.mem ((c.tc : Thread Cert.AdamReferenceIdeal.nD Cert.AdamReferenceIdeal.τ).loc Cert.AdamReferenceIdeal.main_v6) = v2 c
          ∧ r.2.mem ((c.tc : Thread Cert.AdamReferenceIdeal.nD Cert.AdamReferenceIdeal.τ).loc Cert.AdamReferenceIdeal.main_v12) = v3 c
          ∧ r.2.mem ((c.tc : Thread Cert.AdamReferenceIdeal.nD Cert.AdamReferenceIdeal.τ).loc Cert.AdamReferenceIdeal.main_arg0) = m' ((c.tc : Thread Cert.AdamReferenceIdeal.nD Cert.AdamReferenceIdeal.τ).loc Cert.AdamReferenceIdeal.main_arg0)
          ∧ r.2.mem ((c.tc : Thread Cert.AdamReferenceIdeal.nD Cert.AdamReferenceIdeal.τ).loc Cert.AdamReferenceIdeal.main_arg1) = m' ((c.tc : Thread Cert.AdamReferenceIdeal.nD Cert.AdamReferenceIdeal.τ).loc Cert.AdamReferenceIdeal.main_arg1)
          ∧ r.2.mem ((c.tc : Thread Cert.AdamReferenceIdeal.nD Cert.AdamReferenceIdeal.τ).loc Cert.AdamReferenceIdeal.main_arg2) = m' ((c.tc : Thread Cert.AdamReferenceIdeal.nD Cert.AdamReferenceIdeal.τ).loc Cert.AdamReferenceIdeal.main_arg2)
          ∧ r.2.mem ((c.tc : Thread Cert.AdamReferenceIdeal.nD Cert.AdamReferenceIdeal.τ).loc Cert.AdamReferenceIdeal.main_arg3) = m' ((c.tc : Thread Cert.AdamReferenceIdeal.nD Cert.AdamReferenceIdeal.τ).loc Cert.AdamReferenceIdeal.main_arg3))

def preserves_AdamMem_AdamMemIdeal : Prop :=
  True

def algebraic_AdamMemIdeal_AdamMemReferenceIdeal [hAdamMemIdeal : Cert.AdamMemIdeal.Facts] [hAdamMemReferenceIdeal : Cert.AdamMemReferenceIdeal.Facts] : Prop :=
  ∀ (m : (ℓ : Loc Cert.AdamMemIdeal.nD Cert.AdamMemIdeal.τ Cert.AdamMemIdeal.sig) → Buf (Elt Ideal) ℓ) (g : Dev Cert.AdamMemIdeal.nD → PrngReg)
    (m' : (ℓ : Loc Cert.AdamMemReferenceIdeal.nD Cert.AdamMemReferenceIdeal.τ Cert.AdamMemReferenceIdeal.sig) → Buf (Elt Ideal) ℓ) (g' : Dev Cert.AdamMemReferenceIdeal.nD → PrngReg), Pre_AdamMemIdeal m →
    (∀ c : Dev Cert.AdamMemIdeal.nD,
      m' ((c.tc : Thread Cert.AdamMemReferenceIdeal.nD Cert.AdamMemReferenceIdeal.τ).loc Cert.AdamMemReferenceIdeal.main_arg0) = m ((c.tc : Thread Cert.AdamMemIdeal.nD Cert.AdamMemIdeal.τ).loc Cert.AdamMemIdeal.main_arg0)
      ∧ m' ((c.tc : Thread Cert.AdamMemReferenceIdeal.nD Cert.AdamMemReferenceIdeal.τ).loc Cert.AdamMemReferenceIdeal.main_arg1) = m ((c.tc : Thread Cert.AdamMemIdeal.nD Cert.AdamMemIdeal.τ).loc Cert.AdamMemIdeal.main_arg1)
      ∧ m' ((c.tc : Thread Cert.AdamMemReferenceIdeal.nD Cert.AdamMemReferenceIdeal.τ).loc Cert.AdamMemReferenceIdeal.main_arg2) = m ((c.tc : Thread Cert.AdamMemIdeal.nD Cert.AdamMemIdeal.τ).loc Cert.AdamMemIdeal.main_arg2)
      ∧ m' ((c.tc : Thread Cert.AdamMemReferenceIdeal.nD Cert.AdamMemReferenceIdeal.τ).loc Cert.AdamMemReferenceIdeal.main_arg3) = m ((c.tc : Thread Cert.AdamMemIdeal.nD Cert.AdamMemIdeal.τ).loc Cert.AdamMemIdeal.main_arg3)) →
    ∃ (v0 : (c : Dev Cert.AdamMemIdeal.nD) → Buf (Elt Ideal) ((c.tc : Thread Cert.AdamMemIdeal.nD Cert.AdamMemIdeal.τ).loc Cert.AdamMemIdeal.main_v0_0)) (v1 : (c : Dev Cert.AdamMemIdeal.nD) → Buf (Elt Ideal) ((c.tc : Thread Cert.AdamMemIdeal.nD Cert.AdamMemIdeal.τ).loc Cert.AdamMemIdeal.main_v0_1)) (v2 : (c : Dev Cert.AdamMemIdeal.nD) → Buf (Elt Ideal) ((c.tc : Thread Cert.AdamMemIdeal.nD Cert.AdamMemIdeal.τ).loc Cert.AdamMemIdeal.main_v0_2)) (v3 : (c : Dev Cert.AdamMemIdeal.nD) → Buf (Elt Ideal) ((c.tc : Thread Cert.AdamMemIdeal.nD Cert.AdamMemIdeal.τ).loc Cert.AdamMemIdeal.main_v0_3)),
      θ_run (Cert.AdamMemIdeal.defs (F := Ideal)) (onTc (τ := Cert.AdamMemIdeal.τ) (Cert.AdamMemIdeal.main (F := Ideal))) ⟨m, fun _ => 0, g⟩ (fun r => ∀ c : Dev Cert.AdamMemIdeal.nD,
          r.2.mem ((c.tc : Thread Cert.AdamMemIdeal.nD Cert.AdamMemIdeal.τ).loc Cert.AdamMemIdeal.main_v0_0) = v0 c
          ∧ r.2.mem ((c.tc : Thread Cert.AdamMemIdeal.nD Cert.AdamMemIdeal.τ).loc Cert.AdamMemIdeal.main_v0_1) = v1 c
          ∧ r.2.mem ((c.tc : Thread Cert.AdamMemIdeal.nD Cert.AdamMemIdeal.τ).loc Cert.AdamMemIdeal.main_v0_2) = v2 c
          ∧ r.2.mem ((c.tc : Thread Cert.AdamMemIdeal.nD Cert.AdamMemIdeal.τ).loc Cert.AdamMemIdeal.main_v0_3) = v3 c
          ∧ r.2.mem ((c.tc : Thread Cert.AdamMemIdeal.nD Cert.AdamMemIdeal.τ).loc Cert.AdamMemIdeal.main_arg0) = m ((c.tc : Thread Cert.AdamMemIdeal.nD Cert.AdamMemIdeal.τ).loc Cert.AdamMemIdeal.main_arg0)
          ∧ r.2.mem ((c.tc : Thread Cert.AdamMemIdeal.nD Cert.AdamMemIdeal.τ).loc Cert.AdamMemIdeal.main_arg1) = m ((c.tc : Thread Cert.AdamMemIdeal.nD Cert.AdamMemIdeal.τ).loc Cert.AdamMemIdeal.main_arg1)
          ∧ r.2.mem ((c.tc : Thread Cert.AdamMemIdeal.nD Cert.AdamMemIdeal.τ).loc Cert.AdamMemIdeal.main_arg2) = m ((c.tc : Thread Cert.AdamMemIdeal.nD Cert.AdamMemIdeal.τ).loc Cert.AdamMemIdeal.main_arg2)
          ∧ r.2.mem ((c.tc : Thread Cert.AdamMemIdeal.nD Cert.AdamMemIdeal.τ).loc Cert.AdamMemIdeal.main_arg3) = m ((c.tc : Thread Cert.AdamMemIdeal.nD Cert.AdamMemIdeal.τ).loc Cert.AdamMemIdeal.main_arg3))
      ∧ θ_run (Cert.AdamMemReferenceIdeal.defs (F := Ideal)) (onTc (τ := Cert.AdamMemReferenceIdeal.τ) (Cert.AdamMemReferenceIdeal.main (F := Ideal))) ⟨m', fun _ => 0, g'⟩ (fun r => ∀ c : Dev Cert.AdamMemReferenceIdeal.nD,
          r.2.mem ((c.tc : Thread Cert.AdamMemReferenceIdeal.nD Cert.AdamMemReferenceIdeal.τ).loc Cert.AdamMemReferenceIdeal.main_v1) = v0 c
          ∧ r.2.mem ((c.tc : Thread Cert.AdamMemReferenceIdeal.nD Cert.AdamMemReferenceIdeal.τ).loc Cert.AdamMemReferenceIdeal.main_v25) = v1 c
          ∧ r.2.mem ((c.tc : Thread Cert.AdamMemReferenceIdeal.nD Cert.AdamMemReferenceIdeal.τ).loc Cert.AdamMemReferenceIdeal.main_v6) = v2 c
          ∧ r.2.mem ((c.tc : Thread Cert.AdamMemReferenceIdeal.nD Cert.AdamMemReferenceIdeal.τ).loc Cert.AdamMemReferenceIdeal.main_v12) = v3 c
          ∧ r.2.mem ((c.tc : Thread Cert.AdamMemReferenceIdeal.nD Cert.AdamMemReferenceIdeal.τ).loc Cert.AdamMemReferenceIdeal.main_arg0) = m' ((c.tc : Thread Cert.AdamMemReferenceIdeal.nD Cert.AdamMemReferenceIdeal.τ).loc Cert.AdamMemReferenceIdeal.main_arg0)
          ∧ r.2.mem ((c.tc : Thread Cert.AdamMemReferenceIdeal.nD Cert.AdamMemReferenceIdeal.τ).loc Cert.AdamMemReferenceIdeal.main_arg1) = m' ((c.tc : Thread Cert.AdamMemReferenceIdeal.nD Cert.AdamMemReferenceIdeal.τ).loc Cert.AdamMemReferenceIdeal.main_arg1)
          ∧ r.2.mem ((c.tc : Thread Cert.AdamMemReferenceIdeal.nD Cert.AdamMemReferenceIdeal.τ).loc Cert.AdamMemReferenceIdeal.main_arg2) = m' ((c.tc : Thread Cert.AdamMemReferenceIdeal.nD Cert.AdamMemReferenceIdeal.τ).loc Cert.AdamMemReferenceIdeal.main_arg2)
          ∧ r.2.mem ((c.tc : Thread Cert.AdamMemReferenceIdeal.nD Cert.AdamMemReferenceIdeal.τ).loc Cert.AdamMemReferenceIdeal.main_arg3) = m' ((c.tc : Thread Cert.AdamMemReferenceIdeal.nD Cert.AdamMemReferenceIdeal.τ).loc Cert.AdamMemReferenceIdeal.main_arg3))

def preserves_AdamQ_AdamQIdeal : Prop :=
  True

def algebraic_AdamQIdeal_AdamQReferenceIdeal [hAdamQIdeal : Cert.AdamQIdeal.Facts] [hAdamQReferenceIdeal : Cert.AdamQReferenceIdeal.Facts] : Prop :=
  ∀ (m : (ℓ : Loc Cert.AdamQIdeal.nD Cert.AdamQIdeal.τ Cert.AdamQIdeal.sig) → Buf (Elt Ideal) ℓ) (g : Dev Cert.AdamQIdeal.nD → PrngReg)
    (m' : (ℓ : Loc Cert.AdamQReferenceIdeal.nD Cert.AdamQReferenceIdeal.τ Cert.AdamQReferenceIdeal.sig) → Buf (Elt Ideal) ℓ) (g' : Dev Cert.AdamQReferenceIdeal.nD → PrngReg), Pre_AdamQIdeal m →
    (∀ c : Dev Cert.AdamQIdeal.nD,
      m' ((c.tc : Thread Cert.AdamQReferenceIdeal.nD Cert.AdamQReferenceIdeal.τ).loc Cert.AdamQReferenceIdeal.main_arg0) = m ((c.tc : Thread Cert.AdamQIdeal.nD Cert.AdamQIdeal.τ).loc Cert.AdamQIdeal.main_arg0)
      ∧ m' ((c.tc : Thread Cert.AdamQReferenceIdeal.nD Cert.AdamQReferenceIdeal.τ).loc Cert.AdamQReferenceIdeal.main_arg1) = m ((c.tc : Thread Cert.AdamQIdeal.nD Cert.AdamQIdeal.τ).loc Cert.AdamQIdeal.main_arg1)
      ∧ m' ((c.tc : Thread Cert.AdamQReferenceIdeal.nD Cert.AdamQReferenceIdeal.τ).loc Cert.AdamQReferenceIdeal.main_arg2) = m ((c.tc : Thread Cert.AdamQIdeal.nD Cert.AdamQIdeal.τ).loc Cert.AdamQIdeal.main_arg2)
      ∧ m' ((c.tc : Thread Cert.AdamQReferenceIdeal.nD Cert.AdamQReferenceIdeal.τ).loc Cert.AdamQReferenceIdeal.main_arg3) = m ((c.tc : Thread Cert.AdamQIdeal.nD Cert.AdamQIdeal.τ).loc Cert.AdamQIdeal.main_arg3)) →
    ∃ (v0 : (c : Dev Cert.AdamQIdeal.nD) → Buf (Elt Ideal) ((c.tc : Thread Cert.AdamQIdeal.nD Cert.AdamQIdeal.τ).loc Cert.AdamQIdeal.main_v0_0)) (v1 : (c : Dev Cert.AdamQIdeal.nD) → Buf (Elt Ideal) ((c.tc : Thread Cert.AdamQIdeal.nD Cert.AdamQIdeal.τ).loc Cert.AdamQIdeal.main_v0_1)) (v2 : (c : Dev Cert.AdamQIdeal.nD) → Buf (Elt Ideal) ((c.tc : Thread Cert.AdamQIdeal.nD Cert.AdamQIdeal.τ).loc Cert.AdamQIdeal.main_v0_2)) (v3 : (c : Dev Cert.AdamQIdeal.nD) → Buf (Elt Ideal) ((c.tc : Thread Cert.AdamQIdeal.nD Cert.AdamQIdeal.τ).loc Cert.AdamQIdeal.main_v0_3)),
      θ_run (Cert.AdamQIdeal.defs (F := Ideal)) (onTc (τ := Cert.AdamQIdeal.τ) (Cert.AdamQIdeal.main (F := Ideal))) ⟨m, fun _ => 0, g⟩ (fun r => ∀ c : Dev Cert.AdamQIdeal.nD,
          r.2.mem ((c.tc : Thread Cert.AdamQIdeal.nD Cert.AdamQIdeal.τ).loc Cert.AdamQIdeal.main_v0_0) = v0 c
          ∧ r.2.mem ((c.tc : Thread Cert.AdamQIdeal.nD Cert.AdamQIdeal.τ).loc Cert.AdamQIdeal.main_v0_1) = v1 c
          ∧ r.2.mem ((c.tc : Thread Cert.AdamQIdeal.nD Cert.AdamQIdeal.τ).loc Cert.AdamQIdeal.main_v0_2) = v2 c
          ∧ r.2.mem ((c.tc : Thread Cert.AdamQIdeal.nD Cert.AdamQIdeal.τ).loc Cert.AdamQIdeal.main_v0_3) = v3 c
          ∧ r.2.mem ((c.tc : Thread Cert.AdamQIdeal.nD Cert.AdamQIdeal.τ).loc Cert.AdamQIdeal.main_arg0) = m ((c.tc : Thread Cert.AdamQIdeal.nD Cert.AdamQIdeal.τ).loc Cert.AdamQIdeal.main_arg0)
          ∧ r.2.mem ((c.tc : Thread Cert.AdamQIdeal.nD Cert.AdamQIdeal.τ).loc Cert.AdamQIdeal.main_arg1) = m ((c.tc : Thread Cert.AdamQIdeal.nD Cert.AdamQIdeal.τ).loc Cert.AdamQIdeal.main_arg1)
          ∧ r.2.mem ((c.tc : Thread Cert.AdamQIdeal.nD Cert.AdamQIdeal.τ).loc Cert.AdamQIdeal.main_arg2) = m ((c.tc : Thread Cert.AdamQIdeal.nD Cert.AdamQIdeal.τ).loc Cert.AdamQIdeal.main_arg2)
          ∧ r.2.mem ((c.tc : Thread Cert.AdamQIdeal.nD Cert.AdamQIdeal.τ).loc Cert.AdamQIdeal.main_arg3) = m ((c.tc : Thread Cert.AdamQIdeal.nD Cert.AdamQIdeal.τ).loc Cert.AdamQIdeal.main_arg3))
      ∧ θ_run (Cert.AdamQReferenceIdeal.defs (F := Ideal)) (onTc (τ := Cert.AdamQReferenceIdeal.τ) (Cert.AdamQReferenceIdeal.main (F := Ideal))) ⟨m', fun _ => 0, g'⟩ (fun r => ∀ c : Dev Cert.AdamQReferenceIdeal.nD,
          r.2.mem ((c.tc : Thread Cert.AdamQReferenceIdeal.nD Cert.AdamQReferenceIdeal.τ).loc Cert.AdamQReferenceIdeal.main_v1) = v0 c
          ∧ r.2.mem ((c.tc : Thread Cert.AdamQReferenceIdeal.nD Cert.AdamQReferenceIdeal.τ).loc Cert.AdamQReferenceIdeal.main_v25) = v1 c
          ∧ r.2.mem ((c.tc : Thread Cert.AdamQReferenceIdeal.nD Cert.AdamQReferenceIdeal.τ).loc Cert.AdamQReferenceIdeal.main_v6) = v2 c
          ∧ r.2.mem ((c.tc : Thread Cert.AdamQReferenceIdeal.nD Cert.AdamQReferenceIdeal.τ).loc Cert.AdamQReferenceIdeal.main_v12) = v3 c
          ∧ r.2.mem ((c.tc : Thread Cert.AdamQReferenceIdeal.nD Cert.AdamQReferenceIdeal.τ).loc Cert.AdamQReferenceIdeal.main_arg0) = m' ((c.tc : Thread Cert.AdamQReferenceIdeal.nD Cert.AdamQReferenceIdeal.τ).loc Cert.AdamQReferenceIdeal.main_arg0)
          ∧ r.2.mem ((c.tc : Thread Cert.AdamQReferenceIdeal.nD Cert.AdamQReferenceIdeal.τ).loc Cert.AdamQReferenceIdeal.main_arg1) = m' ((c.tc : Thread Cert.AdamQReferenceIdeal.nD Cert.AdamQReferenceIdeal.τ).loc Cert.AdamQReferenceIdeal.main_arg1)
          ∧ r.2.mem ((c.tc : Thread Cert.AdamQReferenceIdeal.nD Cert.AdamQReferenceIdeal.τ).loc Cert.AdamQReferenceIdeal.main_arg2) = m' ((c.tc : Thread Cert.AdamQReferenceIdeal.nD Cert.AdamQReferenceIdeal.τ).loc Cert.AdamQReferenceIdeal.main_arg2)
          ∧ r.2.mem ((c.tc : Thread Cert.AdamQReferenceIdeal.nD Cert.AdamQReferenceIdeal.τ).loc Cert.AdamQReferenceIdeal.main_arg3) = m' ((c.tc : Thread Cert.AdamQReferenceIdeal.nD Cert.AdamQReferenceIdeal.τ).loc Cert.AdamQReferenceIdeal.main_arg3))

def preserves_AdamKv_AdamKvIdeal : Prop :=
  True

def algebraic_AdamKvIdeal_AdamKvReferenceIdeal [hAdamKvIdeal : Cert.AdamKvIdeal.Facts] [hAdamKvReferenceIdeal : Cert.AdamKvReferenceIdeal.Facts] : Prop :=
  ∀ (m : (ℓ : Loc Cert.AdamKvIdeal.nD Cert.AdamKvIdeal.τ Cert.AdamKvIdeal.sig) → Buf (Elt Ideal) ℓ) (g : Dev Cert.AdamKvIdeal.nD → PrngReg)
    (m' : (ℓ : Loc Cert.AdamKvReferenceIdeal.nD Cert.AdamKvReferenceIdeal.τ Cert.AdamKvReferenceIdeal.sig) → Buf (Elt Ideal) ℓ) (g' : Dev Cert.AdamKvReferenceIdeal.nD → PrngReg), Pre_AdamKvIdeal m →
    (∀ c : Dev Cert.AdamKvIdeal.nD,
      m' ((c.tc : Thread Cert.AdamKvReferenceIdeal.nD Cert.AdamKvReferenceIdeal.τ).loc Cert.AdamKvReferenceIdeal.main_arg0) = m ((c.tc : Thread Cert.AdamKvIdeal.nD Cert.AdamKvIdeal.τ).loc Cert.AdamKvIdeal.main_arg0)
      ∧ m' ((c.tc : Thread Cert.AdamKvReferenceIdeal.nD Cert.AdamKvReferenceIdeal.τ).loc Cert.AdamKvReferenceIdeal.main_arg1) = m ((c.tc : Thread Cert.AdamKvIdeal.nD Cert.AdamKvIdeal.τ).loc Cert.AdamKvIdeal.main_arg1)
      ∧ m' ((c.tc : Thread Cert.AdamKvReferenceIdeal.nD Cert.AdamKvReferenceIdeal.τ).loc Cert.AdamKvReferenceIdeal.main_arg2) = m ((c.tc : Thread Cert.AdamKvIdeal.nD Cert.AdamKvIdeal.τ).loc Cert.AdamKvIdeal.main_arg2)
      ∧ m' ((c.tc : Thread Cert.AdamKvReferenceIdeal.nD Cert.AdamKvReferenceIdeal.τ).loc Cert.AdamKvReferenceIdeal.main_arg3) = m ((c.tc : Thread Cert.AdamKvIdeal.nD Cert.AdamKvIdeal.τ).loc Cert.AdamKvIdeal.main_arg3)) →
    ∃ (v0 : (c : Dev Cert.AdamKvIdeal.nD) → Buf (Elt Ideal) ((c.tc : Thread Cert.AdamKvIdeal.nD Cert.AdamKvIdeal.τ).loc Cert.AdamKvIdeal.main_v0_0)) (v1 : (c : Dev Cert.AdamKvIdeal.nD) → Buf (Elt Ideal) ((c.tc : Thread Cert.AdamKvIdeal.nD Cert.AdamKvIdeal.τ).loc Cert.AdamKvIdeal.main_v0_1)) (v2 : (c : Dev Cert.AdamKvIdeal.nD) → Buf (Elt Ideal) ((c.tc : Thread Cert.AdamKvIdeal.nD Cert.AdamKvIdeal.τ).loc Cert.AdamKvIdeal.main_v0_2)) (v3 : (c : Dev Cert.AdamKvIdeal.nD) → Buf (Elt Ideal) ((c.tc : Thread Cert.AdamKvIdeal.nD Cert.AdamKvIdeal.τ).loc Cert.AdamKvIdeal.main_v0_3)),
      θ_run (Cert.AdamKvIdeal.defs (F := Ideal)) (onTc (τ := Cert.AdamKvIdeal.τ) (Cert.AdamKvIdeal.main (F := Ideal))) ⟨m, fun _ => 0, g⟩ (fun r => ∀ c : Dev Cert.AdamKvIdeal.nD,
          r.2.mem ((c.tc : Thread Cert.AdamKvIdeal.nD Cert.AdamKvIdeal.τ).loc Cert.AdamKvIdeal.main_v0_0) = v0 c
          ∧ r.2.mem ((c.tc : Thread Cert.AdamKvIdeal.nD Cert.AdamKvIdeal.τ).loc Cert.AdamKvIdeal.main_v0_1) = v1 c
          ∧ r.2.mem ((c.tc : Thread Cert.AdamKvIdeal.nD Cert.AdamKvIdeal.τ).loc Cert.AdamKvIdeal.main_v0_2) = v2 c
          ∧ r.2.mem ((c.tc : Thread Cert.AdamKvIdeal.nD Cert.AdamKvIdeal.τ).loc Cert.AdamKvIdeal.main_v0_3) = v3 c
          ∧ r.2.mem ((c.tc : Thread Cert.AdamKvIdeal.nD Cert.AdamKvIdeal.τ).loc Cert.AdamKvIdeal.main_arg0) = m ((c.tc : Thread Cert.AdamKvIdeal.nD Cert.AdamKvIdeal.τ).loc Cert.AdamKvIdeal.main_arg0)
          ∧ r.2.mem ((c.tc : Thread Cert.AdamKvIdeal.nD Cert.AdamKvIdeal.τ).loc Cert.AdamKvIdeal.main_arg1) = m ((c.tc : Thread Cert.AdamKvIdeal.nD Cert.AdamKvIdeal.τ).loc Cert.AdamKvIdeal.main_arg1)
          ∧ r.2.mem ((c.tc : Thread Cert.AdamKvIdeal.nD Cert.AdamKvIdeal.τ).loc Cert.AdamKvIdeal.main_arg2) = m ((c.tc : Thread Cert.AdamKvIdeal.nD Cert.AdamKvIdeal.τ).loc Cert.AdamKvIdeal.main_arg2)
          ∧ r.2.mem ((c.tc : Thread Cert.AdamKvIdeal.nD Cert.AdamKvIdeal.τ).loc Cert.AdamKvIdeal.main_arg3) = m ((c.tc : Thread Cert.AdamKvIdeal.nD Cert.AdamKvIdeal.τ).loc Cert.AdamKvIdeal.main_arg3))
      ∧ θ_run (Cert.AdamKvReferenceIdeal.defs (F := Ideal)) (onTc (τ := Cert.AdamKvReferenceIdeal.τ) (Cert.AdamKvReferenceIdeal.main (F := Ideal))) ⟨m', fun _ => 0, g'⟩ (fun r => ∀ c : Dev Cert.AdamKvReferenceIdeal.nD,
          r.2.mem ((c.tc : Thread Cert.AdamKvReferenceIdeal.nD Cert.AdamKvReferenceIdeal.τ).loc Cert.AdamKvReferenceIdeal.main_v1) = v0 c
          ∧ r.2.mem ((c.tc : Thread Cert.AdamKvReferenceIdeal.nD Cert.AdamKvReferenceIdeal.τ).loc Cert.AdamKvReferenceIdeal.main_v25) = v1 c
          ∧ r.2.mem ((c.tc : Thread Cert.AdamKvReferenceIdeal.nD Cert.AdamKvReferenceIdeal.τ).loc Cert.AdamKvReferenceIdeal.main_v6) = v2 c
          ∧ r.2.mem ((c.tc : Thread Cert.AdamKvReferenceIdeal.nD Cert.AdamKvReferenceIdeal.τ).loc Cert.AdamKvReferenceIdeal.main_v12) = v3 c
          ∧ r.2.mem ((c.tc : Thread Cert.AdamKvReferenceIdeal.nD Cert.AdamKvReferenceIdeal.τ).loc Cert.AdamKvReferenceIdeal.main_arg0) = m' ((c.tc : Thread Cert.AdamKvReferenceIdeal.nD Cert.AdamKvReferenceIdeal.τ).loc Cert.AdamKvReferenceIdeal.main_arg0)
          ∧ r.2.mem ((c.tc : Thread Cert.AdamKvReferenceIdeal.nD Cert.AdamKvReferenceIdeal.τ).loc Cert.AdamKvReferenceIdeal.main_arg1) = m' ((c.tc : Thread Cert.AdamKvReferenceIdeal.nD Cert.AdamKvReferenceIdeal.τ).loc Cert.AdamKvReferenceIdeal.main_arg1)
          ∧ r.2.mem ((c.tc : Thread Cert.AdamKvReferenceIdeal.nD Cert.AdamKvReferenceIdeal.τ).loc Cert.AdamKvReferenceIdeal.main_arg2) = m' ((c.tc : Thread Cert.AdamKvReferenceIdeal.nD Cert.AdamKvReferenceIdeal.τ).loc Cert.AdamKvReferenceIdeal.main_arg2)
          ∧ r.2.mem ((c.tc : Thread Cert.AdamKvReferenceIdeal.nD Cert.AdamKvReferenceIdeal.τ).loc Cert.AdamKvReferenceIdeal.main_arg3) = m' ((c.tc : Thread Cert.AdamKvReferenceIdeal.nD Cert.AdamKvReferenceIdeal.τ).loc Cert.AdamKvReferenceIdeal.main_arg3))

def preserves_AdamIn_AdamInIdeal : Prop :=
  True

def algebraic_AdamInIdeal_AdamInReferenceIdeal [hAdamInIdeal : Cert.AdamInIdeal.Facts] [hAdamInReferenceIdeal : Cert.AdamInReferenceIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInReferenceIdeal.nD Cert.AdamInReferenceIdeal.τ Cert.AdamInReferenceIdeal.sig) → Buf (Elt Ideal) ℓ) (g' : Dev Cert.AdamInReferenceIdeal.nD → PrngReg), Pre_AdamInIdeal m →
    (∀ c : Dev Cert.AdamInIdeal.nD,
      m' ((c.tc : Thread Cert.AdamInReferenceIdeal.nD Cert.AdamInReferenceIdeal.τ).loc Cert.AdamInReferenceIdeal.main_arg0) = m ((c.tc : Thread Cert.AdamInIdeal.nD Cert.AdamInIdeal.τ).loc Cert.AdamInIdeal.main_arg0)
      ∧ m' ((c.tc : Thread Cert.AdamInReferenceIdeal.nD Cert.AdamInReferenceIdeal.τ).loc Cert.AdamInReferenceIdeal.main_arg1) = m ((c.tc : Thread Cert.AdamInIdeal.nD Cert.AdamInIdeal.τ).loc Cert.AdamInIdeal.main_arg1)
      ∧ m' ((c.tc : Thread Cert.AdamInReferenceIdeal.nD Cert.AdamInReferenceIdeal.τ).loc Cert.AdamInReferenceIdeal.main_arg2) = m ((c.tc : Thread Cert.AdamInIdeal.nD Cert.AdamInIdeal.τ).loc Cert.AdamInIdeal.main_arg2)
      ∧ m' ((c.tc : Thread Cert.AdamInReferenceIdeal.nD Cert.AdamInReferenceIdeal.τ).loc Cert.AdamInReferenceIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInReferenceIdeal.defs (F := Ideal)) (onTc (τ := Cert.AdamInReferenceIdeal.τ) (Cert.AdamInReferenceIdeal.main (F := Ideal))) ⟨m', fun _ => 0, g'⟩ (fun r => ∀ c : Dev Cert.AdamInReferenceIdeal.nD,
          r.2.mem ((c.tc : Thread Cert.AdamInReferenceIdeal.nD Cert.AdamInReferenceIdeal.τ).loc Cert.AdamInReferenceIdeal.main_v1) = v0 c
          ∧ r.2.mem ((c.tc : Thread Cert.AdamInReferenceIdeal.nD Cert.AdamInReferenceIdeal.τ).loc Cert.AdamInReferenceIdeal.main_v25) = v1 c
          ∧ r.2.mem ((c.tc : Thread Cert.AdamInReferenceIdeal.nD Cert.AdamInReferenceIdeal.τ).loc Cert.AdamInReferenceIdeal.main_v6) = v2 c
          ∧ r.2.mem ((c.tc : Thread Cert.AdamInReferenceIdeal.nD Cert.AdamInReferenceIdeal.τ).loc Cert.AdamInReferenceIdeal.main_v12) = v3 c
          ∧ r.2.mem ((c.tc : Thread Cert.AdamInReferenceIdeal.nD Cert.AdamInReferenceIdeal.τ).loc Cert.AdamInReferenceIdeal.main_arg0) = m' ((c.tc : Thread Cert.AdamInReferenceIdeal.nD Cert.AdamInReferenceIdeal.τ).loc Cert.AdamInReferenceIdeal.main_arg0)
          ∧ r.2.mem ((c.tc : Thread Cert.AdamInReferenceIdeal.nD Cert.AdamInReferenceIdeal.τ).loc Cert.AdamInReferenceIdeal.main_arg1) = m' ((c.tc : Thread Cert.AdamInReferenceIdeal.nD Cert.AdamInReferenceIdeal.τ).loc Cert.AdamInReferenceIdeal.main_arg1)
          ∧ r.2.mem ((c.tc : Thread Cert.AdamInReferenceIdeal.nD Cert.AdamInReferenceIdeal.τ).loc Cert.AdamInReferenceIdeal.main_arg2) = m' ((c.tc : Thread Cert.AdamInReferenceIdeal.nD Cert.AdamInReferenceIdeal.τ).loc Cert.AdamInReferenceIdeal.main_arg2)
          ∧ r.2.mem ((c.tc : Thread Cert.AdamInReferenceIdeal.nD Cert.AdamInReferenceIdeal.τ).loc Cert.AdamInReferenceIdeal.main_arg3) = m' ((c.tc : Thread Cert.AdamInReferenceIdeal.nD Cert.AdamInReferenceIdeal.τ).loc Cert.AdamInReferenceIdeal.main_arg3))

def preserves_AdamSmall_AdamSmallIdeal : Prop :=
  True

def algebraic_AdamSmallIdeal_AdamSmallReferenceIdeal [hAdamSmallIdeal : Cert.AdamSmallIdeal.Facts] [hAdamSmallReferenceIdeal : Cert.AdamSmallReferenceIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallReferenceIdeal.nD Cert.AdamSmallReferenceIdeal.τ Cert.AdamSmallReferenceIdeal.sig) → Buf (Elt Ideal) ℓ) (g' : Dev Cert.AdamSmallReferenceIdeal.nD → PrngReg), Pre_AdamSmallIdeal m →
    (∀ c : Dev Cert.AdamSmallIdeal.nD,
      m' ((c.tc : Thread Cert.AdamSmallReferenceIdeal.nD Cert.AdamSmallReferenceIdeal.τ).loc Cert.AdamSmallReferenceIdeal.main_arg0) = m ((c.tc : Thread Cert.AdamSmallIdeal.nD Cert.AdamSmallIdeal.τ).loc Cert.AdamSmallIdeal.main_arg0)
      ∧ m' ((c.tc : Thread Cert.AdamSmallReferenceIdeal.nD Cert.AdamSmallReferenceIdeal.τ).loc Cert.AdamSmallReferenceIdeal.main_arg1) = m ((c.tc : Thread Cert.AdamSmallIdeal.nD Cert.AdamSmallIdeal.τ).loc Cert.AdamSmallIdeal.main_arg1)
      ∧ m' ((c.tc : Thread Cert.AdamSmallReferenceIdeal.nD Cert.AdamSmallReferenceIdeal.τ).loc Cert.AdamSmallReferenceIdeal.main_arg2) = m ((c.tc : Thread Cert.AdamSmallIdeal.nD Cert.AdamSmallIdeal.τ).loc Cert.AdamSmallIdeal.main_arg2)
      ∧ m' ((c.tc : Thread Cert.AdamSmallReferenceIdeal.nD Cert.AdamSmallReferenceIdeal.τ).loc Cert.AdamSmallReferenceIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)) (v3 : (c : Dev Cert.AdamSmallIdeal.nD) → Buf (Elt Ideal) ((c.tc : Thread Cert.AdamSmallIdeal.nD Cert.AdamSmallIdeal.τ).loc Cert.AdamSmallIdeal.main_v0_3)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_v0_3) = v3 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallReferenceIdeal.defs (F := Ideal)) (onTc (τ := Cert.AdamSmallReferenceIdeal.τ) (Cert.AdamSmallReferenceIdeal.main (F := Ideal))) ⟨m', fun _ => 0, g'⟩ (fun r => ∀ c : Dev Cert.AdamSmallReferenceIdeal.nD,
          r.2.mem ((c.tc : Thread Cert.AdamSmallReferenceIdeal.nD Cert.AdamSmallReferenceIdeal.τ).loc Cert.AdamSmallReferenceIdeal.main_v0) = v0 c
          ∧ r.2.mem ((c.tc : Thread Cert.AdamSmallReferenceIdeal.nD Cert.AdamSmallReferenceIdeal.τ).loc Cert.AdamSmallReferenceIdeal.main_v24) = v1 c
          ∧ r.2.mem ((c.tc : Thread Cert.AdamSmallReferenceIdeal.nD Cert.AdamSmallReferenceIdeal.τ).loc Cert.AdamSmallReferenceIdeal.main_v5) = v2 c
          ∧ r.2.mem ((c.tc : Thread Cert.AdamSmallReferenceIdeal.nD Cert.AdamSmallReferenceIdeal.τ).loc Cert.AdamSmallReferenceIdeal.main_v11) = v3 c
          ∧ r.2.mem ((c.tc : Thread Cert.AdamSmallReferenceIdeal.nD Cert.AdamSmallReferenceIdeal.τ).loc Cert.AdamSmallReferenceIdeal.main_arg0) = m' ((c.tc : Thread Cert.AdamSmallReferenceIdeal.nD Cert.AdamSmallReferenceIdeal.τ).loc Cert.AdamSmallReferenceIdeal.main_arg0)
          ∧ r.2.mem ((c.tc : Thread Cert.AdamSmallReferenceIdeal.nD Cert.AdamSmallReferenceIdeal.τ).loc Cert.AdamSmallReferenceIdeal.main_arg1) = m' ((c.tc : Thread Cert.AdamSmallReferenceIdeal.nD Cert.AdamSmallReferenceIdeal.τ).loc Cert.AdamSmallReferenceIdeal.main_arg1)
          ∧ r.2.mem ((c.tc : Thread Cert.AdamSmallReferenceIdeal.nD Cert.AdamSmallReferenceIdeal.τ).loc Cert.AdamSmallReferenceIdeal.main_arg2) = m' ((c.tc : Thread Cert.AdamSmallReferenceIdeal.nD Cert.AdamSmallReferenceIdeal.τ).loc Cert.AdamSmallReferenceIdeal.main_arg2)
          ∧ r.2.mem ((c.tc : Thread Cert.AdamSmallReferenceIdeal.nD Cert.AdamSmallReferenceIdeal.τ).loc Cert.AdamSmallReferenceIdeal.main_arg3) = m' ((c.tc : Thread Cert.AdamSmallReferenceIdeal.nD Cert.AdamSmallReferenceIdeal.τ).loc Cert.AdamSmallReferenceIdeal.main_arg3))

def Claim : Prop :=
  ∃ (hKernel : Cert.Kernel.Facts) (hKernelIdeal : Cert.KernelIdeal.Facts) (hReferenceIdeal : Cert.ReferenceIdeal.Facts) (hForward : Cert.Forward.Facts) (hForwardIdeal : Cert.ForwardIdeal.Facts) (hForwardReferenceIdeal : Cert.ForwardReferenceIdeal.Facts) (hDx : Cert.Dx.Facts) (hDxIdeal : Cert.DxIdeal.Facts) (hDxReferenceIdeal : Cert.DxReferenceIdeal.Facts) (hDw : Cert.Dw.Facts) (hDwIdeal : Cert.DwIdeal.Facts) (hDwReferenceIdeal : Cert.DwReferenceIdeal.Facts) (hSplit : Cert.Split.Facts) (hSplitIdeal : Cert.SplitIdeal.Facts) (hSplitReferenceIdeal : Cert.SplitReferenceIdeal.Facts) (hGate : Cert.Gate.Facts) (hGateIdeal : Cert.GateIdeal.Facts) (hGateReferenceIdeal : Cert.GateReferenceIdeal.Facts) (hGateBack : Cert.GateBack.Facts) (hGateBackIdeal : Cert.GateBackIdeal.Facts) (hGateBackReferenceIdeal : Cert.GateBackReferenceIdeal.Facts) (hGateDw : Cert.GateDw.Facts) (hGateDwIdeal : Cert.GateDwIdeal.Facts) (hGateDwReferenceIdeal : Cert.GateDwReferenceIdeal.Facts) (hAdam : Cert.Adam.Facts) (hAdamIdeal : Cert.AdamIdeal.Facts) (hAdamReferenceIdeal : Cert.AdamReferenceIdeal.Facts) (hAdamMem : Cert.AdamMem.Facts) (hAdamMemIdeal : Cert.AdamMemIdeal.Facts) (hAdamMemReferenceIdeal : Cert.AdamMemReferenceIdeal.Facts) (hAdamQ : Cert.AdamQ.Facts) (hAdamQIdeal : Cert.AdamQIdeal.Facts) (hAdamQReferenceIdeal : Cert.AdamQReferenceIdeal.Facts) (hAdamKv : Cert.AdamKv.Facts) (hAdamKvIdeal : Cert.AdamKvIdeal.Facts) (hAdamKvReferenceIdeal : Cert.AdamKvReferenceIdeal.Facts) (hAdamIn : Cert.AdamIn.Facts) (hAdamInIdeal : Cert.AdamInIdeal.Facts) (hAdamInReferenceIdeal : Cert.AdamInReferenceIdeal.Facts) (hAdamSmall : Cert.AdamSmall.Facts) (hAdamSmallIdeal : Cert.AdamSmallIdeal.Facts) (hAdamSmallReferenceIdeal : Cert.AdamSmallReferenceIdeal.Facts) (hPre_finite : Cert.Pre_finite.Facts) (hPre_finite_scores : Cert.Pre_finite_scores.Facts) (hPre_finite_gated : Cert.Pre_finite_gated.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Forward (hForward := hForward)
    ∧ quiescent_ForwardIdeal (hForwardIdeal := hForwardIdeal)
    ∧ quiescent_ForwardIdeal_pre_finite_scores (hForwardIdeal := hForwardIdeal) (hPre_finite_scores := hPre_finite_scores)
    ∧ quiescent_ForwardReferenceIdeal (hForwardReferenceIdeal := hForwardReferenceIdeal)
    ∧ quiescent_ForwardReferenceIdeal_pre_finite_scores (hForwardReferenceIdeal := hForwardReferenceIdeal) (hPre_finite_scores := hPre_finite_scores)
    ∧ quiescent_Dx (hDx := hDx)
    ∧ quiescent_DxIdeal (hDxIdeal := hDxIdeal)
    ∧ quiescent_DxReferenceIdeal (hDxReferenceIdeal := hDxReferenceIdeal)
    ∧ quiescent_Dw (hDw := hDw)
    ∧ quiescent_DwIdeal (hDwIdeal := hDwIdeal)
    ∧ quiescent_DwReferenceIdeal (hDwReferenceIdeal := hDwReferenceIdeal)
    ∧ quiescent_Split (hSplit := hSplit)
    ∧ quiescent_SplitIdeal (hSplitIdeal := hSplitIdeal)
    ∧ quiescent_SplitReferenceIdeal (hSplitReferenceIdeal := hSplitReferenceIdeal)
    ∧ quiescent_Gate (hGate := hGate)
    ∧ quiescent_GateIdeal (hGateIdeal := hGateIdeal)
    ∧ quiescent_GateReferenceIdeal (hGateReferenceIdeal := hGateReferenceIdeal)
    ∧ quiescent_GateBack (hGateBack := hGateBack)
    ∧ quiescent_GateBackIdeal (hGateBackIdeal := hGateBackIdeal)
    ∧ quiescent_GateBackIdeal_pre_finite_gated (hGateBackIdeal := hGateBackIdeal) (hPre_finite_gated := hPre_finite_gated)
    ∧ quiescent_GateBackReferenceIdeal (hGateBackReferenceIdeal := hGateBackReferenceIdeal)
    ∧ quiescent_GateBackReferenceIdeal_pre_finite_gated (hGateBackReferenceIdeal := hGateBackReferenceIdeal) (hPre_finite_gated := hPre_finite_gated)
    ∧ quiescent_GateDw (hGateDw := hGateDw)
    ∧ quiescent_GateDwIdeal (hGateDwIdeal := hGateDwIdeal)
    ∧ quiescent_GateDwReferenceIdeal (hGateDwReferenceIdeal := hGateDwReferenceIdeal)
    ∧ quiescent_Adam (hAdam := hAdam)
    ∧ quiescent_AdamIdeal (hAdamIdeal := hAdamIdeal)
    ∧ quiescent_AdamReferenceIdeal (hAdamReferenceIdeal := hAdamReferenceIdeal)
    ∧ quiescent_AdamMem (hAdamMem := hAdamMem)
    ∧ quiescent_AdamMemIdeal (hAdamMemIdeal := hAdamMemIdeal)
    ∧ quiescent_AdamMemReferenceIdeal (hAdamMemReferenceIdeal := hAdamMemReferenceIdeal)
    ∧ quiescent_AdamQ (hAdamQ := hAdamQ)
    ∧ quiescent_AdamQIdeal (hAdamQIdeal := hAdamQIdeal)
    ∧ quiescent_AdamQReferenceIdeal (hAdamQReferenceIdeal := hAdamQReferenceIdeal)
    ∧ quiescent_AdamKv (hAdamKv := hAdamKv)
    ∧ quiescent_AdamKvIdeal (hAdamKvIdeal := hAdamKvIdeal)
    ∧ quiescent_AdamKvReferenceIdeal (hAdamKvReferenceIdeal := hAdamKvReferenceIdeal)
    ∧ quiescent_AdamIn (hAdamIn := hAdamIn)
    ∧ quiescent_AdamInIdeal (hAdamInIdeal := hAdamInIdeal)
    ∧ quiescent_AdamInReferenceIdeal (hAdamInReferenceIdeal := hAdamInReferenceIdeal)
    ∧ quiescent_AdamSmall (hAdamSmall := hAdamSmall)
    ∧ quiescent_AdamSmallIdeal (hAdamSmallIdeal := hAdamSmallIdeal)
    ∧ quiescent_AdamSmallReferenceIdeal (hAdamSmallReferenceIdeal := hAdamSmallReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Forward_ForwardIdeal
    ∧ algebraic_ForwardIdeal_ForwardReferenceIdeal_pre_finite_scores (hForwardIdeal := hForwardIdeal) (hForwardReferenceIdeal := hForwardReferenceIdeal) (hPre_finite_scores := hPre_finite_scores)
    ∧ preserves_Dx_DxIdeal
    ∧ algebraic_DxIdeal_DxReferenceIdeal (hDxIdeal := hDxIdeal) (hDxReferenceIdeal := hDxReferenceIdeal)
    ∧ preserves_Dw_DwIdeal
    ∧ algebraic_DwIdeal_DwReferenceIdeal (hDwIdeal := hDwIdeal) (hDwReferenceIdeal := hDwReferenceIdeal)
    ∧ preserves_Split_SplitIdeal
    ∧ algebraic_SplitIdeal_SplitReferenceIdeal (hSplitIdeal := hSplitIdeal) (hSplitReferenceIdeal := hSplitReferenceIdeal)
    ∧ preserves_Gate_GateIdeal
    ∧ algebraic_GateIdeal_GateReferenceIdeal (hGateIdeal := hGateIdeal) (hGateReferenceIdeal := hGateReferenceIdeal)
    ∧ preserves_GateBack_GateBackIdeal
    ∧ algebraic_GateBackIdeal_GateBackReferenceIdeal_pre_finite_gated (hGateBackIdeal := hGateBackIdeal) (hGateBackReferenceIdeal := hGateBackReferenceIdeal) (hPre_finite_gated := hPre_finite_gated)
    ∧ preserves_GateDw_GateDwIdeal
    ∧ algebraic_GateDwIdeal_GateDwReferenceIdeal (hGateDwIdeal := hGateDwIdeal) (hGateDwReferenceIdeal := hGateDwReferenceIdeal)
    ∧ preserves_Adam_AdamIdeal
    ∧ algebraic_AdamIdeal_AdamReferenceIdeal (hAdamIdeal := hAdamIdeal) (hAdamReferenceIdeal := hAdamReferenceIdeal)
    ∧ preserves_AdamMem_AdamMemIdeal
    ∧ algebraic_AdamMemIdeal_AdamMemReferenceIdeal (hAdamMemIdeal := hAdamMemIdeal) (hAdamMemReferenceIdeal := hAdamMemReferenceIdeal)
    ∧ preserves_AdamQ_AdamQIdeal
    ∧ algebraic_AdamQIdeal_AdamQReferenceIdeal (hAdamQIdeal := hAdamQIdeal) (hAdamQReferenceIdeal := hAdamQReferenceIdeal)
    ∧ preserves_AdamKv_AdamKvIdeal
    ∧ algebraic_AdamKvIdeal_AdamKvReferenceIdeal (hAdamKvIdeal := hAdamKvIdeal) (hAdamKvReferenceIdeal := hAdamKvReferenceIdeal)
    ∧ preserves_AdamIn_AdamInIdeal
    ∧ algebraic_AdamInIdeal_AdamInReferenceIdeal (hAdamInIdeal := hAdamInIdeal) (hAdamInReferenceIdeal := hAdamInReferenceIdeal)
    ∧ preserves_AdamSmall_AdamSmallIdeal
    ∧ algebraic_AdamSmallIdeal_AdamSmallReferenceIdeal (hAdamSmallIdeal := hAdamSmallIdeal) (hAdamSmallReferenceIdeal := hAdamSmallReferenceIdeal)
-- ==== Pre_finite.lean ====
abbrev S8192x4x96 : Shape := ⟨3, ![8192, 4, 96]⟩
abbrev S8192x4x64 : Shape := ⟨3, ![8192, 4, 64]⟩
abbrev S_ : Shape := ⟨0, ![]⟩

class Facts : Prop where
  bcast_S_S8192x4x96 : S_.BroadcastsInDim S8192x4x96 (![] : Fin 0 → Fin S8192x4x96.rank)
  bcast_S_S8192x4x64 : S_.BroadcastsInDim S8192x4x64 (![] : Fin 0 → Fin S8192x4x64.rank)

variable [Facts]

def fn {F : FTy → Type} [FloatOps F] (main_arg0 : FVec F S8192x4x96 .f32) (main_arg1 : FVec F S8192x4x96 .f32) (main_arg2 : FVec F S8192x4x64 .f32) (main_arg3 : FVec F S8192x4x64 .f32) : IVec S8192x4x96 1 × IVec S8192x4x96 1 × IVec S8192x4x64 1 × IVec S8192x4x64 1 :=
  let main_v0 : FVec F S8192x4x96 .f32 := Host.absf main_arg0
  let main_cst : FVec F S_ .f32 := constant S_ .f32 0x7F800000#32
  let main_v1 : FVec F S8192x4x96 .f32 := broadcastInDim S8192x4x96 ![] bcast_S_S8192x4x96 main_cst
  let main_v2 : IVec S8192x4x96 1 := cmpf .olt main_v0 main_v1
  let main_v3 : FVec F S8192x4x96 .f32 := Host.absf main_arg1
  let main_cst_0 : FVec F S_ .f32 := constant S_ .f32 0x7F800000#32
  let main_v4 : FVec F S8192x4x96 .f32 := broadcastInDim S8192x4x96 ![] bcast_S_S8192x4x96 main_cst_0
  let main_v5 : IVec S8192x4x96 1 := cmpf .olt main_v3 main_v4
  let main_v6 : FVec F S8192x4x64 .f32 := Host.absf main_arg2
  let main_cst_1 : FVec F S_ .f32 := constant S_ .f32 0x7F800000#32
  let main_v7 : FVec F S8192x4x64 .f32 := broadcastInDim S8192x4x64 ![] bcast_S_S8192x4x64 main_cst_1
  let main_v8 : IVec S8192x4x64 1 := cmpf .olt main_v6 main_v7
  let main_v9 : FVec F S8192x4x64 .f32 := Host.absf main_arg3
  let main_cst_2 : FVec F S_ .f32 := constant S_ .f32 0x7F800000#32
  let main_v10 : FVec F S8192x4x64 .f32 := broadcastInDim S8192x4x64 ![] bcast_S_S8192x4x64 main_cst_2
  let main_v11 : IVec S8192x4x64 1 := cmpf .olt main_v9 main_v10
  (main_v2, main_v5, main_v8, main_v11)
-- ==== Pre_finite_gated.lean ====
abbrev S8192x1024 : Shape := ⟨2, ![8192, 1024]⟩
abbrev S1024x1024 : Shape := ⟨2, ![1024, 1024]⟩
abbrev S8192x256 : Shape := ⟨2, ![8192, 256]⟩
abbrev S_ : Shape := ⟨0, ![]⟩

class Facts : Prop where
  bcast_S_S8192x1024 : S_.BroadcastsInDim S8192x1024 (![] : Fin 0 → Fin S8192x1024.rank)
  bcast_S_S1024x1024 : S_.BroadcastsInDim S1024x1024 (![] : Fin 0 → Fin S1024x1024.rank)
  bcast_S_S8192x256 : S_.BroadcastsInDim S8192x256 (![] : Fin 0 → Fin S8192x256.rank)

variable [Facts]

def fn {F : FTy → Type} [FloatOps F] (main_arg0 : FVec F S8192x1024 .f32) (main_arg1 : FVec F S1024x1024 .f32) (main_arg2 : FVec F S8192x256 .f32) (main_arg3 : FVec F S8192x256 .f32) (main_arg4 : FVec F S8192x256 .f32) (main_arg5 : FVec F S8192x256 .f32) (main_arg6 : FVec F S8192x1024 .f32) : IVec S8192x1024 1 × IVec S1024x1024 1 × IVec S8192x256 1 × IVec S8192x256 1 × IVec S8192x256 1 × IVec S8192x256 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S8192x256 .f32 := Host.absf main_arg2
  let main_cst_1 : FVec F S_ .f32 := constant S_ .f32 0x7F800000#32
  let main_v7 : FVec F S8192x256 .f32 := broadcastInDim S8192x256 ![] bcast_S_S8192x256 main_cst_1
  let main_v8 : IVec S8192x256 1 := cmpf .olt main_v6 main_v7
  let main_v9 : FVec F S8192x256 .f32 := Host.absf main_arg3
  let main_cst_2 : FVec F S_ .f32 := constant S_ .f32 0x7F800000#32
  let main_v10 : FVec F S8192x256 .f32 := broadcastInDim S8192x256 ![] bcast_S_S8192x256 main_cst_2
  let main_v11 : IVec S8192x256 1 := cmpf .olt main_v9 main_v10
  let main_v12 : FVec F S8192x256 .f32 := Host.absf main_arg4
  let main_cst_3 : FVec F S_ .f32 := constant S_ .f32 0x7F800000#32
  let main_v13 : FVec F S8192x256 .f32 := broadcastInDim S8192x256 ![] bcast_S_S8192x256 main_cst_3
  let main_v14 : IVec S8192x256 1 := cmpf .olt main_v12 main_v13
  let main_v15 : FVec F S8192x256 .f32 := Host.absf main_arg5
  let main_cst_4 : FVec F S_ .f32 := constant S_ .f32 0x7F800000#32
  let main_v16 : FVec F S8192x256 .f32 := broadcastInDim S8192x256 ![] bcast_S_S8192x256 main_cst_4
  let main_v17 : IVec S8192x256 1 := cmpf .olt main_v15 main_v16
  (main_v2, main_v5, main_v8, main_v11, main_v14, main_v17)
-- ==== Pre_finite_scores.lean ====
abbrev S8192x4x96 : Shape := ⟨3, ![8192, 4, 96]⟩
abbrev S8192x4x64 : Shape := ⟨3, ![8192, 4, 64]⟩
abbrev S_ : Shape := ⟨0, ![]⟩

class Facts : Prop where
  bcast_S_S8192x4x96 : S_.BroadcastsInDim S8192x4x96 (![] : Fin 0 → Fin S8192x4x96.rank)

variable [Facts]

def fn {F : FTy → Type} [FloatOps F] (main_arg0 : FVec F S8192x4x96 .f32) (main_arg1 : FVec F S8192x4x96 .f32) (main_arg2 : FVec F S8192x4x64 .f32) : IVec S8192x4x96 1 × IVec S8192x4x96 1 :=
  let main_v0 : FVec F S8192x4x96 .f32 := Host.absf main_arg0
  let main_cst : FVec F S_ .f32 := constant S_ .f32 0x7F800000#32
  let main_v1 : FVec F S8192x4x96 .f32 := broadcastInDim S8192x4x96 ![] bcast_S_S8192x4x96 main_cst
  let main_v2 : IVec S8192x4x96 1 := cmpf .olt main_v0 main_v1
  let main_v3 : FVec F S8192x4x96 .f32 := Host.absf main_arg1
  let main_cst_0 : FVec F S_ .f32 := constant S_ .f32 0x7F800000#32
  let main_v4 : FVec F S8192x4x96 .f32 := broadcastInDim S8192x4x96 ![] bcast_S_S8192x4x96 main_cst_0
  let main_v5 : IVec S8192x4x96 1 := cmpf .olt main_v3 main_v4
  (main_v2, main_v5)
-- ==== Kernel.lean ====
abbrev S8192x4x96 : Shape := ⟨3, ![8192, 4, 96]⟩
abbrev S8192x4x64 : Shape := ⟨3, ![8192, 4, 64]⟩
abbrev S4x8192x8192 : Shape := ⟨3, ![4, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S4x8192 : Shape := ⟨2, ![4, 8192]⟩
abbrev S4x8192x1 : Shape := ⟨3, ![4, 8192, 1]⟩
abbrev S4x64x8192 : Shape := ⟨3, ![4, 64, 8192]⟩
abbrev S4x1x8192 : Shape := ⟨3, ![4, 1, 8192]⟩
abbrev S4x8192x96 : Shape := ⟨3, ![4, 8192, 96]⟩
abbrev S4x8192x128 : Shape := ⟨3, ![4, 8192, 128]⟩
abbrev S4x8192x64 : Shape := ⟨3, ![4, 8192, 64]⟩
abbrev S1x512x128 : Shape := ⟨3, ![1, 512, 128]⟩
abbrev S1x8192x128 : Shape := ⟨3, ![1, 8192, 128]⟩
abbrev S1x8192x64 : Shape := ⟨3, ![1, 8192, 64]⟩
abbrev S1x64x512 : Shape := ⟨3, ![1, 64, 512]⟩
abbrev S1x1x512 : Shape := ⟨3, ![1, 1, 512]⟩
abbrev S1x512x64 : Shape := ⟨3, ![1, 512, 64]⟩
abbrev S8192x128 : Shape := ⟨2, ![8192, 128]⟩
abbrev S8192x64 : Shape := ⟨2, ![8192, 64]⟩
abbrev S512x128 : Shape := ⟨2, ![512, 128]⟩
abbrev S128x512 : Shape := ⟨2, ![128, 512]⟩
abbrev S512x64 : Shape := ⟨2, ![512, 64]⟩
abbrev S64x512 : Shape := ⟨2, ![64, 512]⟩
abbrev S512 : Shape := ⟨1, ![512]⟩
abbrev S1x512 : Shape := ⟨2, ![1, 512]⟩
abbrev S512x512 : Shape := ⟨2, ![512, 512]⟩

abbrev nBuf : Space → Nat
  | .hbm => 58
  | .vmem => 20
  | .smem => 0
  | _ => 0

abbrev bufTy : (tb : Table) → Fin (tcTables nBuf tb) → BufTy
  | .hbm, ⟨0, _⟩ => ⟨S8192x4x96, .f32⟩
  | .hbm, ⟨1, _⟩ => ⟨S8192x4x96, .f32⟩
  | .hbm, ⟨2, _⟩ => ⟨S8192x4x64, .f32⟩
  | .hbm, ⟨3, _⟩ => ⟨S8192x4x64, .f32⟩
  | .hbm, ⟨4, _⟩ => ⟨S4x8192x8192, .f32⟩
  | .hbm, ⟨5, _⟩ => ⟨S_, .f32⟩
  | .hbm, ⟨6, _⟩ => ⟨S4x8192x8192, .f32⟩
  | .hbm, ⟨7, _⟩ => ⟨S4x8192x8192, .f32⟩
  | .hbm, ⟨8, _⟩ => ⟨S8192, .i32⟩
  | .hbm, ⟨9, _⟩ => ⟨S1x8192, .i32⟩
  | .hbm, ⟨10, _⟩ => ⟨S8192x1, .i32⟩
  | .hbm, ⟨11, _⟩ => ⟨S8192x8192, .i32⟩
  | .hbm, ⟨12, _⟩ => ⟨S8192x8192, .i32⟩
  | .hbm, ⟨13, _⟩ => ⟨S8192x8192, .i1⟩
  | .hbm, ⟨14, _⟩ => ⟨S_, .f32⟩
  | .hbm, ⟨15, _⟩ => ⟨S_, .f32⟩
  | .hbm, ⟨16, _⟩ => ⟨S4x8192x8192, .i1⟩
  | .hbm, ⟨17, _⟩ => ⟨S4x8192x8192, .f32⟩
  | .hbm, ⟨18, _⟩ => ⟨S4x8192x8192, .f32⟩
  | .hbm, ⟨19, _⟩ => ⟨S_, .f32⟩
  | .hbm, ⟨20, _⟩ => ⟨S4x8192, .f32⟩
  | .hbm, ⟨21, _⟩ => ⟨S4x8192x1, .f32⟩
  | .hbm, ⟨22, _⟩ => ⟨S4x8192x8192, .f32⟩
  | .hbm, ⟨23, _⟩ => ⟨S4x8192x8192, .f32⟩
  | .hbm, ⟨24, _⟩ => ⟨S4x8192x8192, .f32⟩
  | .hbm, ⟨25, _⟩ => ⟨S_, .f32⟩
  | .hbm, ⟨26, _⟩ => ⟨S4x8192, .f32⟩
  | .hbm, ⟨27, _⟩ => ⟨S4x8192x1, .f32⟩
  | .hbm, ⟨28, _⟩ => ⟨S4x8192x8192, .f32⟩
  | .hbm, ⟨29, _⟩ => ⟨S4x8192x8192, .f32⟩
  | .hbm, ⟨30, _⟩ => ⟨S4x64x8192, .f32⟩
  | .hbm, ⟨31, _⟩ => ⟨S8192x4x64, .f32⟩
  | .hbm, ⟨32, _⟩ => ⟨S4x64x8192, .f32⟩
  | .hbm, ⟨33, _⟩ => ⟨S4x8192x1, .f32⟩
  | .hbm, ⟨34, _⟩ => ⟨S4x8192x1, .f32⟩
  | .hbm, ⟨35, _⟩ => ⟨S_, .f32⟩
  | .hbm, ⟨36, _⟩ => ⟨S_, .f32⟩
  | .hbm, ⟨37, _⟩ => ⟨S4x8192x1, .f32⟩
  | .hbm, ⟨38, _⟩ => ⟨S4x8192x1, .f32⟩
  | .hbm, ⟨39, _⟩ => ⟨S4x1x8192, .f32⟩
  | .hbm, ⟨40, _⟩ => ⟨S4x8192x96, .f32⟩
  | .hbm, ⟨41, _⟩ => ⟨S4x8192x96, .bf16⟩
  | .hbm, ⟨42, _⟩ => ⟨S_, .i32⟩
  | .hbm, ⟨43, _⟩ => ⟨S_, .bf16⟩
  | .hbm, ⟨44, _⟩ => ⟨S4x8192x128, .bf16⟩
  | .hbm, ⟨45, _⟩ => ⟨S4x8192x96, .f32⟩
  | .hbm, ⟨46, _⟩ => ⟨S4x8192x96, .bf16⟩
  | .hbm, ⟨47, _⟩ => ⟨S_, .i32⟩
  | .hbm, ⟨48, _⟩ => ⟨S_, .bf16⟩
  | .hbm, ⟨49, _⟩ => ⟨S4x8192x128, .bf16⟩
  | .hbm, ⟨50, _⟩ => ⟨S4x8192x64, .f32⟩
  | .hbm, ⟨51, _⟩ => ⟨S4x8192x64, .bf16⟩
  | .hbm, ⟨52, _⟩ => ⟨S4x64x8192, .f32⟩
  | .hbm, ⟨53, _⟩ => ⟨S4x8192x64, .f32⟩
  | .hbm, ⟨54, _⟩ => ⟨S4x8192x64, .bf16⟩
  | .hbm, ⟨55, _⟩ => ⟨S4x8192x128, .f32⟩
  | .hbm, ⟨56, _⟩ => ⟨S4x8192x128, .f32⟩
  | .hbm, ⟨57, _⟩ => ⟨S4x8192x64, .f32⟩
  | .local _ .vmem, ⟨0, _⟩ => ⟨S1x512x128, .bf16⟩
  | .local _ .vmem, ⟨1, _⟩ => ⟨S1x512x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x8192x64, .bf16⟩
  | .local _ .vmem, ⟨5, _⟩ => ⟨S1x8192x64, .bf16⟩
  | .local _ .vmem, ⟨6, _⟩ => ⟨S1x64x512, .f32⟩
  | .local _ .vmem, ⟨7, _⟩ => ⟨S1x64x512, .f32⟩
  | .local _ .vmem, ⟨8, _⟩ => ⟨S1x1x512, .f32⟩
  | .local _ .vmem, ⟨9, _⟩ => ⟨S1x1x512, .f32⟩
  | .local _ .vmem, ⟨10, _⟩ => ⟨S1x64x512, .f32⟩
  | .local _ .vmem, ⟨11, _⟩ => ⟨S1x64x512, .f32⟩
  | .local _ .vmem, ⟨12, _⟩ => ⟨S1x512x64, .bf16⟩
  | .local _ .vmem, ⟨13, _⟩ => ⟨S1x512x64, .bf16⟩
  | .local _ .vmem, ⟨14, _⟩ => ⟨S1x512x128, .f32⟩
  | .local _ .vmem, ⟨15, _⟩ => ⟨S1x512x128, .f32⟩
  | .local _ .vmem, ⟨16, _⟩ => ⟨S1x8192x128, .f32⟩
  | .local _ .vmem, ⟨17, _⟩ => ⟨S1x8192x128, .f32⟩
  | .local _ .vmem, ⟨18, _⟩ => ⟨S1x8192x64, .f32⟩
  | .local _ .vmem, ⟨19, _⟩ => ⟨S1x8192x64, .f32⟩
  | _, _ => ⟨S8192x4x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_c : Ref sig .tc := ⟨.hbm, 42, rfl⟩
abbrev main_call1_v0 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_4 : Ref sig .tc := ⟨.hbm, 47, rfl⟩
abbrev main_call2_v0 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39_0 : Ref sig .tc := ⟨.hbm, 55, rfl⟩
abbrev main_v39_1 : Ref sig .tc := ⟨.hbm, 56, rfl⟩
abbrev main_v39_2 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 16], ![false, false]⟩

@[reducible] def k0_t1_loop (i : grid0.Coords) : Scf.Loop 32 :=
  let c0_i32_16 : BitVec 32 := 0#32
  let arg1 : BitVec 32 := BitVec.ofNat 32 (i 1).val
  let v19 : BitVec 32 := Scalar.subi arg1 c0_i32_16
  let c1_i32 : BitVec 32 := 1#32
  let v21 : BitVec 32 := Scalar.divsi v19 c1_i32
  let v22 : BitVec 32 := Scalar.muli v21 c1_i32
  let v23 : BitVec 32 := Scalar.addi c0_i32_16 v22
  let c1_i32_17 : BitVec 32 := 1#32
  ⟨c0_i32_16, v23, c1_i32_17⟩
def k0_mult1 (i : grid0.Coords) (k0_t1 : Fin (k0_t1_loop i).trips) : BitVec 32 :=
  let c0_i32_16 : BitVec 32 := 0#32
  let c1_i32_17 : BitVec 32 := 1#32
  let arg12 : BitVec 32 := Scf.iv c0_i32_16 c1_i32_17 k0_t1
  let c512_i32_44 : BitVec 32 := 512#32
  let v84 : BitVec 32 := Scalar.muli arg12 c512_i32_44
  v84
def k0_off1 (i : grid0.Coords) (k0_t1 : Fin (k0_t1_loop i).trips) : Fin 3 → Nat :=
  let c0_45 : Index := 0#32
  let c0_i32_16 : BitVec 32 := 0#32
  let c1_i32_17 : BitVec 32 := 1#32
  let arg12 : BitVec 32 := Scf.iv c0_i32_16 c1_i32_17 k0_t1
  let c512_i32_44 : BitVec 32 := 512#32
  let v84 : BitVec 32 := Scalar.muli arg12 c512_i32_44
  let v85 : BitVec 32 := v84
  let v86 : Index := Scalar.indexCast v85
  let c0_46 : Index := 0#32
  ![0, v86.toNat, 0]
def k0_off2 (i : grid0.Coords) (k0_t1 : Fin (k0_t1_loop i).trips) : Fin 3 → Nat :=
  let c0_49 : Index := 0#32
  let c0_i32_16 : BitVec 32 := 0#32
  let c1_i32_17 : BitVec 32 := 1#32
  let arg12 : BitVec 32 := Scf.iv c0_i32_16 c1_i32_17 k0_t1
  let c512_i32_44 : BitVec 32 := 512#32
  let v84 : BitVec 32 := Scalar.muli arg12 c512_i32_44
  let v85 : BitVec 32 := v84
  let v95 : Index := Scalar.indexCast v85
  let c0_50 : Index := 0#32
  ![0, v95.toNat, 0]
@[reducible] def k0_t2_loop (i : grid0.Coords) : Scf.Loop 32 :=
  let c0_i32_16 : BitVec 32 := 0#32
  let arg1 : BitVec 32 := BitVec.ofNat 32 (i 1).val
  let v19 : BitVec 32 := Scalar.subi arg1 c0_i32_16
  let c1_i32 : BitVec 32 := 1#32
  let v21 : BitVec 32 := Scalar.divsi v19 c1_i32
  let v22 : BitVec 32 := Scalar.muli v21 c1_i32
  let v23 : BitVec 32 := Scalar.addi c0_i32_16 v22
  let v20 : BitVec 32 := Scalar.addi c0_i32_16 v19
  let c1_i32_18 : BitVec 32 := 1#32
  ⟨v23, v20, c1_i32_18⟩
def k0_mult2 (i : grid0.Coords) (k0_t2 : Fin (k0_t2_loop i).trips) : BitVec 32 :=
  let c0_i32_16 : BitVec 32 := 0#32
  let arg1 : BitVec 32 := BitVec.ofNat 32 (i 1).val
  let v19 : BitVec 32 := Scalar.subi arg1 c0_i32_16
  let c1_i32 : BitVec 32 := 1#32
  let v21 : BitVec 32 := Scalar.divsi v19 c1_i32
  let v22 : BitVec 32 := Scalar.muli v21 c1_i32
  let v23 : BitVec 32 := Scalar.addi c0_i32_16 v22
  let c1_i32_18 : BitVec 32 := 1#32
  let arg12 : BitVec 32 := Scf.iv v23 c1_i32_18 k0_t2
  let c512_i32_44 : BitVec 32 := 512#32
  let v84 : BitVec 32 := Scalar.muli arg12 c512_i32_44
  v84
def k0_off3 (i : grid0.Coords) (k0_t2 : Fin (k0_t2_loop i).trips) : Fin 3 → Nat :=
  let c0_45 : Index := 0#32
  let c0_i32_16 : BitVec 32 := 0#32
  let arg1 : BitVec 32 := BitVec.ofNat 32 (i 1).val
  let v19 : BitVec 32 := Scalar.subi arg1 c0_i32_16
  let c1_i32 : BitVec 32 := 1#32
  let v21 : BitVec 32 := Scalar.divsi v19 c1_i32
  let v22 : BitVec 32 := Scalar.muli v21 c1_i32
  let v23 : BitVec 32 := Scalar.addi c0_i32_16 v22
  let c1_i32_18 : BitVec 32 := 1#32
  let arg12 : BitVec 32 := Scf.iv v23 c1_i32_18 k0_t2
  let c512_i32_44 : BitVec 32 := 512#32
  let v84 : BitVec 32 := Scalar.muli arg12 c512_i32_44
  let v85 : BitVec 32 := v84
  let v86 : Index := Scalar.indexCast v85
  let c0_46 : Index := 0#32
  ![0, v86.toNat, 0]
def k0_off4 (i : grid0.Coords) (k0_t2 : Fin (k0_t2_loop i).trips) : Fin 3 → Nat :=
  let c0_49 : Index := 0#32
  let c0_i32_16 : BitVec 32 := 0#32
  let arg1 : BitVec 32 := BitVec.ofNat 32 (i 1).val
  let v19 : BitVec 32 := Scalar.subi arg1 c0_i32_16
  let c1_i32 : BitVec 32 := 1#32
  let v21 : BitVec 32 := Scalar.divsi v19 c1_i32
  let v22 : BitVec 32 := Scalar.muli v21 c1_i32
  let v23 : BitVec 32 := Scalar.addi c0_i32_16 v22
  let c1_i32_18 : BitVec 32 := 1#32
  let arg12 : BitVec 32 := Scf.iv v23 c1_i32_18 k0_t2
  let c512_i32_44 : BitVec 32 := 512#32
  let v84 : BitVec 32 := Scalar.muli arg12 c512_i32_44
  let v85 : BitVec 32 := v84
  let v95 : Index := Scalar.indexCast v85
  let c0_50 : Index := 0#32
  ![0, v95.toNat, 0]
def k0_mult3 (i : grid0.Coords) : BitVec 32 :=
  let arg1 : BitVec 32 := BitVec.ofNat 32 (i 1).val
  let c512_i32 : BitVec 32 := 512#32
  let v26 : BitVec 32 := Scalar.muli arg1 c512_i32
  v26
def k0_off5 (i : grid0.Coords) : Fin 3 → Nat :=
  let c0_19 : Index := 0#32
  let arg1 : BitVec 32 := BitVec.ofNat 32 (i 1).val
  let c512_i32 : BitVec 32 := 512#32
  let v26 : BitVec 32 := Scalar.muli arg1 c512_i32
  let v27 : BitVec 32 := v26
  let v28 : Index := Scalar.indexCast v27
  let c0_20 : Index := 0#32
  ![0, v28.toNat, 0]
def k0_off6 (i : grid0.Coords) : Fin 3 → Nat :=
  let c0_26 : Index := 0#32
  let arg1 : BitVec 32 := BitVec.ofNat 32 (i 1).val
  let c512_i32 : BitVec 32 := 512#32
  let v26 : BitVec 32 := Scalar.muli arg1 c512_i32
  let v27 : BitVec 32 := v26
  let v48 : Index := Scalar.indexCast v27
  let c0_27 : Index := 0#32
  ![0, v48.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8192x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8192x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x8192x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== KernelIdeal.lean ====
variable {F : FTy → Type} [FloatOps F] [Named F]
def κ : String → Option EReal := fun
  | "cmul" => some (((3424635 / 33554432) * (Real.log 2)⁻¹ : ℝ) : EReal)
  | "mask" => some ⊥
  | _ => none
-- ==== ReferenceIdeal.lean ====
abbrev S8192x4x96 : Shape := ⟨3, ![8192, 4, 96]⟩
abbrev S8192x4x64 : Shape := ⟨3, ![8192, 4, 64]⟩
abbrev S4x8192x8192 : Shape := ⟨3, ![4, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S4x8192 : Shape := ⟨2, ![4, 8192]⟩
abbrev S4x8192x1 : Shape := ⟨3, ![4, 8192, 1]⟩
abbrev S4x64x8192 : Shape := ⟨3, ![4, 64, 8192]⟩
abbrev S4x8192x96 : Shape := ⟨3, ![4, 8192, 96]⟩
abbrev S4x8192x128 : Shape := ⟨3, ![4, 8192, 128]⟩
abbrev S4x8192x64 : Shape := ⟨3, ![4, 8192, 64]⟩

abbrev nBuf : Space → Nat
  | .hbm => 98
  | .vmem => 0
  | .smem => 0
  | _ => 0

abbrev bufTy : (tb : Table) → Fin (tcTables nBuf tb) → BufTy
  | .hbm, ⟨0, _⟩ => ⟨S8192x4x96, .f32⟩
  | .hbm, ⟨1, _⟩ => ⟨S8192x4x96, .f32⟩
  | .hbm, ⟨2, _⟩ => ⟨S8192x4x64, .f32⟩
  | .hbm, ⟨3, _⟩ => ⟨S8192x4x64, .f32⟩
  | .hbm, ⟨4, _⟩ => ⟨S4x8192x8192, .f32⟩
  | .hbm, ⟨5, _⟩ => ⟨S_, .f32⟩
  | .hbm, ⟨6, _⟩ => ⟨S4x8192x8192, .f32⟩
  | .hbm, ⟨7, _⟩ => ⟨S4x8192x8192, .f32⟩
  | .hbm, ⟨8, _⟩ => ⟨S8192, .i32⟩
  | .hbm, ⟨9, _⟩ => ⟨S1x8192, .i32⟩
  | .hbm, ⟨10, _⟩ => ⟨S8192x1, .i32⟩
  | .hbm, ⟨11, _⟩ => ⟨S8192x8192, .i32⟩
  | .hbm, ⟨12, _⟩ => ⟨S8192x8192, .i32⟩
  | .hbm, ⟨13, _⟩ => ⟨S8192x8192, .i1⟩
  | .hbm, ⟨14, _⟩ => ⟨S_, .f32⟩
  | .hbm, ⟨15, _⟩ => ⟨S_, .f32⟩
  | .hbm, ⟨16, _⟩ => ⟨S4x8192x8192, .i1⟩
  | .hbm, ⟨17, _⟩ => ⟨S4x8192x8192, .f32⟩
  | .hbm, ⟨18, _⟩ => ⟨S4x8192x8192, .f32⟩
  | .hbm, ⟨19, _⟩ => ⟨S_, .f32⟩
  | .hbm, ⟨20, _⟩ => ⟨S4x8192x8192, .f32⟩
  | .hbm, ⟨21, _⟩ => ⟨S_, .f32⟩
  | .hbm, ⟨22, _⟩ => ⟨S4x8192, .f32⟩
  | .hbm, ⟨23, _⟩ => ⟨S4x8192x1, .f32⟩
  | .hbm, ⟨24, _⟩ => ⟨S4x8192x8192, .f32⟩
  | .hbm, ⟨25, _⟩ => ⟨S4x8192x8192, .i1⟩
  | .hbm, ⟨26, _⟩ => ⟨S4x8192x8192, .f32⟩
  | .hbm, ⟨27, _⟩ => ⟨S_, .f32⟩
  | .hbm, ⟨28, _⟩ => ⟨S4x8192, .f32⟩
  | .hbm, ⟨29, _⟩ => ⟨S_, .f32⟩
  | .hbm, ⟨30, _⟩ => ⟨S4x8192, .f32⟩
  | .hbm, ⟨31, _⟩ => ⟨S4x8192, .f32⟩
  | .hbm, ⟨32, _⟩ => ⟨S_, .f32⟩
  | .hbm, ⟨33, _⟩ => ⟨S4x8192, .f32⟩
  | .hbm, ⟨34, _⟩ => ⟨S4x8192, .i1⟩
  | .hbm, ⟨35, _⟩ => ⟨S_, .f32⟩
  | .hbm, ⟨36, _⟩ => ⟨S4x8192, .f32⟩
  | .hbm, ⟨37, _⟩ => ⟨S4x8192, .i1⟩
  | .hbm, ⟨38, _⟩ => ⟨S_, .f32⟩
  | .hbm, ⟨39, _⟩ => ⟨S4x8192, .f32⟩
  | .hbm, ⟨40, _⟩ => ⟨S_, .f32⟩
  | .hbm, ⟨41, _⟩ => ⟨S4x8192, .f32⟩
  | .hbm, ⟨42, _⟩ => ⟨S_, .f32⟩
  | .hbm, ⟨43, _⟩ => ⟨S4x8192, .f32⟩
  | .hbm, ⟨44, _⟩ => ⟨S4x8192, .f32⟩
  | .hbm, ⟨45, _⟩ => ⟨S4x8192, .f32⟩
  | .hbm, ⟨46, _⟩ => ⟨S4x8192x1, .f32⟩
  | .hbm, ⟨47, _⟩ => ⟨S4x8192x8192, .f32⟩
  | .hbm, ⟨48, _⟩ => ⟨S4x8192x8192, .f32⟩
  | .hbm, ⟨49, _⟩ => ⟨S4x8192x8192, .f32⟩
  | .hbm, ⟨50, _⟩ => ⟨S_, .f32⟩
  | .hbm, ⟨51, _⟩ => ⟨S4x8192, .f32⟩
  | .hbm, ⟨52, _⟩ => ⟨S4x8192x1, .f32⟩
  | .hbm, ⟨53, _⟩ => ⟨S4x8192x8192, .f32⟩
  | .hbm, ⟨54, _⟩ => ⟨S4x8192x8192, .f32⟩
  | .hbm, ⟨55, _⟩ => ⟨S4x8192x1, .f32⟩
  | .hbm, ⟨56, _⟩ => ⟨S_, .f32⟩
  | .hbm, ⟨57, _⟩ => ⟨S4x8192x1, .f32⟩
  | .hbm, ⟨58, _⟩ => ⟨S4x8192x1, .f32⟩
  | .hbm, ⟨59, _⟩ => ⟨S4x64x8192, .f32⟩
  | .hbm, ⟨60, _⟩ => ⟨S8192x4x64, .f32⟩
  | .hbm, ⟨61, _⟩ => ⟨S4x64x8192, .f32⟩
  | .hbm, ⟨62, _⟩ => ⟨S4x8192x8192, .f32⟩
  | .hbm, ⟨63, _⟩ => ⟨S4x64x8192, .f32⟩
  | .hbm, ⟨64, _⟩ => ⟨S8192x4x64, .f32⟩
  | .hbm, ⟨65, _⟩ => ⟨S4x8192x8192, .f32⟩
  | .hbm, ⟨66, _⟩ => ⟨S4x8192x8192, .f32⟩
  | .hbm, ⟨67, _⟩ => ⟨S4x8192x8192, .f32⟩
  | .hbm, ⟨68, _⟩ => ⟨S_, .f32⟩
  | .hbm, ⟨69, _⟩ => ⟨S4x8192, .f32⟩
  | .hbm, ⟨70, _⟩ => ⟨S4x8192x1, .f32⟩
  | .hbm, ⟨71, _⟩ => ⟨S4x8192x1, .f32⟩
  | .hbm, ⟨72, _⟩ => ⟨S4x8192x8192, .f32⟩
  | .hbm, ⟨73, _⟩ => ⟨S4x8192x8192, .f32⟩
  | .hbm, ⟨74, _⟩ => ⟨S_, .f32⟩
  | .hbm, ⟨75, _⟩ => ⟨S4x8192, .f32⟩
  | .hbm, ⟨76, _⟩ => ⟨S4x8192x8192, .f32⟩
  | .hbm, ⟨77, _⟩ => ⟨S4x8192x8192, .f32⟩
  | .hbm, ⟨78, _⟩ => ⟨S4x8192x8192, .f32⟩
  | .hbm, ⟨79, _⟩ => ⟨S_, .f32⟩
  | .hbm, ⟨80, _⟩ => ⟨S4x8192x8192, .f32⟩
  | .hbm, ⟨81, _⟩ => ⟨S4x8192x8192, .f32⟩
  | .hbm, ⟨82, _⟩ => ⟨S_, .f32⟩
  | .hbm, ⟨83, _⟩ => ⟨S4x8192x8192, .f32⟩
  | .hbm, ⟨84, _⟩ => ⟨S4x8192x8192, .f32⟩
  | .hbm, ⟨85, _⟩ => ⟨S4x8192x96, .f32⟩
  | .hbm, ⟨86, _⟩ => ⟨S8192x4x96, .f32⟩
  | .hbm, ⟨87, _⟩ => ⟨S4x8192x96, .f32⟩
  | .hbm, ⟨88, _⟩ => ⟨S8192x4x96, .f32⟩
  | .hbm, ⟨89, _⟩ => ⟨S4x8192x96, .f32⟩
  | .hbm, ⟨90, _⟩ => ⟨S_, .i32⟩
  | .hbm, ⟨91, _⟩ => ⟨S_, .f32⟩
  | .hbm, ⟨92, _⟩ => ⟨S4x8192x128, .f32⟩
  | .hbm, ⟨93, _⟩ => ⟨S4x8192x96, .f32⟩
  | .hbm, ⟨94, _⟩ => ⟨S_, .i32⟩
  | .hbm, ⟨95, _⟩ => ⟨S_, .f32⟩
  | .hbm, ⟨96, _⟩ => ⟨S4x8192x128, .f32⟩
  | .hbm, ⟨97, _⟩ => ⟨S4x8192x64, .f32⟩
  | _, _ => ⟨S8192x4x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_call0_v0 : Ref sig .tc := ⟨.hbm, 15, rfl⟩
abbrev main_v9_1 : Ref sig .tc := ⟨.hbm, 16, rfl⟩
abbrev main_call0_v2 : Ref sig .tc := ⟨.hbm, 17, rfl⟩
abbrev main_v9_0 : Ref sig .tc := ⟨.hbm, 18, rfl⟩
abbrev main_call0_cst : Ref sig .tc := ⟨.hbm, 19, rfl⟩
abbrev main_v9_2 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_cst_6 : Ref sig .tc := ⟨.hbm, 38, rfl⟩
abbrev main_v22 : Ref sig .tc := ⟨.hbm, 39, rfl⟩
abbrev main_cst_7 : Ref sig .tc := ⟨.hbm, 40, rfl⟩
abbrev main_v23 : Ref sig .tc := ⟨.hbm, 41, rfl⟩
abbrev main_cst_8 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_9 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_10 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_11 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_12 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_call1_cst : Ref sig .tc := ⟨.hbm, 79, rfl⟩
abbrev main_call1_v0 : Ref sig .tc := ⟨.hbm, 80, rfl⟩
abbrev main_v56 : Ref sig .tc := ⟨.hbm, 81, rfl⟩
abbrev main_cst_13 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_c : Ref sig .tc := ⟨.hbm, 90, rfl⟩
abbrev main_call2_v0 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_call3_v0 : Ref sig .tc := ⟨.hbm, 95, rfl⟩
abbrev main_v66 : Ref sig .tc := ⟨.hbm, 96, rfl⟩
abbrev main_v67 : Ref sig .tc := ⟨.hbm, 97, rfl⟩

abbrev nD : Nat := 1
abbrev τ : Topo := Topo.v7x

variable {F : FTy → Type} [FloatOps F]
-- ==== Forward.lean ====
abbrev S8192x4x96 : Shape := ⟨3, ![8192, 4, 96]⟩
abbrev S8192x4x64 : Shape := ⟨3, ![8192, 4, 64]⟩
abbrev S4x8192x96 : Shape := ⟨3, ![4, 8192, 96]⟩
abbrev S_ : Shape := ⟨0, ![]⟩
abbrev S4x8192x128 : Shape := ⟨3, ![4, 8192, 128]⟩
abbrev S4x8192x64 : Shape := ⟨3, ![4, 8192, 64]⟩
abbrev S4x64x8192 : Shape := ⟨3, ![4, 64, 8192]⟩
abbrev S4x1x8192 : Shape := ⟨3, ![4, 1, 8192]⟩
abbrev S4x512x128 : Shape := ⟨3, ![4, 512, 128]⟩
abbrev S4x64x512 : Shape := ⟨3, ![4, 64, 512]⟩
abbrev S4x1x512 : Shape := ⟨3, ![4, 1, 512]⟩
abbrev S1x512x128 : Shape := ⟨3, ![1, 512, 128]⟩
abbrev S512x128 : Shape := ⟨2, ![512, 128]⟩
abbrev S128x512 : Shape := ⟨2, ![128, 512]⟩
abbrev S1x512 : Shape := ⟨2, ![1, 512]⟩
abbrev S64x512 : Shape := ⟨2, ![64, 512]⟩
abbrev S512x512 : Shape := ⟨2, ![512, 512]⟩
abbrev S512 : Shape := ⟨1, ![512]⟩
abbrev S1x64x512 : Shape := ⟨3, ![1, 64, 512]⟩
abbrev S1x1x512 : Shape := ⟨3, ![1, 1, 512]⟩

abbrev nBuf : Space → Nat
  | .hbm => 18
  | .vmem => 8
  | .smem => 0
  | _ => 0

abbrev bufTy : (tb : Table) → Fin (tcTables nBuf tb) → BufTy
  | .hbm, ⟨0, _⟩ => ⟨S8192x4x96, .f32⟩
  | .hbm, ⟨1, _⟩ => ⟨S8192x4x96, .f32⟩
  | .hbm, ⟨2, _⟩ => ⟨S8192x4x64, .f32⟩
  | .hbm, ⟨3, _⟩ => ⟨S4x8192x96, .f32⟩
  | .hbm, ⟨4, _⟩ => ⟨S4x8192x96, .bf16⟩
  | .hbm, ⟨5, _⟩ => ⟨S_, .i32⟩
  | .hbm, ⟨6, _⟩ => ⟨S_, .bf16⟩
  | .hbm, ⟨7, _⟩ => ⟨S4x8192x128, .bf16⟩
  | .hbm, ⟨8, _⟩ => ⟨S4x8192x96, .f32⟩
  | .hbm, ⟨9, _⟩ => ⟨S4x8192x96, .bf16⟩
  | .hbm, ⟨10, _⟩ => ⟨S_, .i32⟩
  | .hbm, ⟨11, _⟩ => ⟨S_, .bf16⟩
  | .hbm, ⟨12, _⟩ => ⟨S4x8192x128, .bf16⟩
  | .hbm, ⟨13, _⟩ => ⟨S4x8192x64, .f32⟩
  | .hbm, ⟨14, _⟩ => ⟨S4x8192x64, .bf16⟩
  | .hbm, ⟨15, _⟩ => ⟨S4x64x8192, .bf16⟩
  | .hbm, ⟨16, _⟩ => ⟨S4x64x8192, .f32⟩
  | .hbm, ⟨17, _⟩ => ⟨S4x1x8192, .f32⟩
  | .local _ .vmem, ⟨0, _⟩ => ⟨S4x512x128, .bf16⟩
  | .local _ .vmem, ⟨1, _⟩ => ⟨S4x512x128, .bf16⟩
  | .local _ .vmem, ⟨2, _⟩ => ⟨S4x8192x128, .bf16⟩
  | .local _ .vmem, ⟨3, _⟩ => ⟨S4x64x8192, .bf16⟩
  | .local _ .vmem, ⟨4, _⟩ => ⟨S4x64x512, .f32⟩
  | .local _ .vmem, ⟨5, _⟩ => ⟨S4x64x512, .f32⟩
  | .local _ .vmem, ⟨6, _⟩ => ⟨S4x1x512, .f32⟩
  | .local _ .vmem, ⟨7, _⟩ => ⟨S4x1x512, .f32⟩
  | _, _ => ⟨S8192x4x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_call1_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![1, 16], ![false, false]⟩

@[reducible] def k0_t1_loop (i : grid0.Coords) : Scf.Loop 32 :=
  let c0_i32 : BitVec 32 := 0#32
  let arg1 : BitVec 32 := BitVec.ofNat 32 (i 1).val
  let v24 : BitVec 32 := Scalar.subi arg1 c0_i32
  let c1_i32 : BitVec 32 := 1#32
  let v26 : BitVec 32 := Scalar.divsi v24 c1_i32
  let v27 : BitVec 32 := Scalar.muli v26 c1_i32
  let v28 : BitVec 32 := Scalar.addi c0_i32 v27
  let c1_i32_19 : BitVec 32 := 1#32
  ⟨c0_i32, v28, c1_i32_19⟩
def k0_mult1 (i : grid0.Coords) (k0_t1 : Fin (k0_t1_loop i).trips) : BitVec 32 :=
  let c0_i32 : BitVec 32 := 0#32
  let c1_i32_19 : BitVec 32 := 1#32
  let arg7 : BitVec 32 := Scf.iv c0_i32 c1_i32_19 k0_t1
  let c512_i32_91 : BitVec 32 := 512#32
  let v202 : BitVec 32 := Scalar.muli arg7 c512_i32_91
  v202
def k0_off1 (i : grid0.Coords) (k0_t1 : Fin (k0_t1_loop i).trips) : Fin 3 → Nat :=
  let c0_92 : Index := 0#32
  let c0_i32 : BitVec 32 := 0#32
  let c1_i32_19 : BitVec 32 := 1#32
  let arg7 : BitVec 32 := Scf.iv c0_i32 c1_i32_19 k0_t1
  let c512_i32_91 : BitVec 32 := 512#32
  let v202 : BitVec 32 := Scalar.muli arg7 c512_i32_91
  let v203 : BitVec 32 := v202
  let v204 : Index := Scalar.indexCast v203
  let c0_93 : Index := 0#32
  ![0, v204.toNat, 0]
def k0_off2 (i : grid0.Coords) (k0_t1 : Fin (k0_t1_loop i).trips) : Fin 3 → Nat :=
  let c1_96 : Index := 1#32
  let c0_i32 : BitVec 32 := 0#32
  let c1_i32_19 : BitVec 32 := 1#32
  let arg7 : BitVec 32 := Scf.iv c0_i32 c1_i32_19 k0_t1
  let c512_i32_91 : BitVec 32 := 512#32
  let v202 : BitVec 32 := Scalar.muli arg7 c512_i32_91
  let v203 : BitVec 32 := v202
  let v210 : Index := Scalar.indexCast v203
  let c0_97 : Index := 0#32
  ![1, v210.toNat, 0]
def k0_off3 (i : grid0.Coords) (k0_t1 : Fin (k0_t1_loop i).trips) : Fin 3 → Nat :=
  let c2_100 : Index := 2#32
  let c0_i32 : BitVec 32 := 0#32
  let c1_i32_19 : BitVec 32 := 1#32
  let arg7 : BitVec 32 := Scf.iv c0_i32 c1_i32_19 k0_t1
  let c512_i32_91 : BitVec 32 := 512#32
  let v202 : BitVec 32 := Scalar.muli arg7 c512_i32_91
  let v203 : BitVec 32 := v202
  let v216 : Index := Scalar.indexCast v203
  let c0_101 : Index := 0#32
  ![2, v216.toNat, 0]
def k0_off4 (i : grid0.Coords) (k0_t1 : Fin (k0_t1_loop i).trips) : Fin 3 → Nat :=
  let c3_104 : Index := 3#32
  let c0_i32 : BitVec 32 := 0#32
  let c1_i32_19 : BitVec 32 := 1#32
  let arg7 : BitVec 32 := Scf.iv c0_i32 c1_i32_19 k0_t1
  let c512_i32_91 : BitVec 32 := 512#32
  let v202 : BitVec 32 := Scalar.muli arg7 c512_i32_91
  let v203 : BitVec 32 := v202
  let v222 : Index := Scalar.indexCast v203
  let c0_105 : Index := 0#32
  ![3, v222.toNat, 0]
def k0_off5 (i : grid0.Coords) (k0_t1 : Fin (k0_t1_loop i).trips) : Fin 3 → Nat :=
  let c0_116 : Index := 0#32
  let c0_117 : Index := 0#32
  let c0_i32 : BitVec 32 := 0#32
  let c1_i32_19 : BitVec 32 := 1#32
  let arg7 : BitVec 32 := Scf.iv c0_i32 c1_i32_19 k0_t1
  let c512_i32_91 : BitVec 32 := 512#32
  let v202 : BitVec 32 := Scalar.muli arg7 c512_i32_91
  let v203 : BitVec 32 := v202
  let v278 : Index := Scalar.indexCast v203
  ![0, 0, v278.toNat]
def k0_off6 (i : grid0.Coords) (k0_t1 : Fin (k0_t1_loop i).trips) : Fin 3 → Nat :=
  let c1_119 : Index := 1#32
  let c0_120 : Index := 0#32
  let c0_i32 : BitVec 32 := 0#32
  let c1_i32_19 : BitVec 32 := 1#32
  let arg7 : BitVec 32 := Scf.iv c0_i32 c1_i32_19 k0_t1
  let c512_i32_91 : BitVec 32 := 512#32
  let v202 : BitVec 32 := Scalar.muli arg7 c512_i32_91
  let v203 : BitVec 32 := v202
  let v286 : Index := Scalar.indexCast v203
  ![1, 0, v286.toNat]
def k0_off7 (i : grid0.Coords) (k0_t1 : Fin (k0_t1_loop i).trips) : Fin 3 → Nat :=
  let c2_122 : Index := 2#32
  let c0_123 : Index := 0#32
  let c0_i32 : BitVec 32 := 0#32
  let c1_i32_19 : BitVec 32 := 1#32
  let arg7 : BitVec 32 := Scf.iv c0_i32 c1_i32_19 k0_t1
  let c512_i32_91 : BitVec 32 := 512#32
  let v202 : BitVec 32 := Scalar.muli arg7 c512_i32_91
  let v203 : BitVec 32 := v202
  let v294 : Index := Scalar.indexCast v203
  ![2, 0, v294.toNat]
def k0_off8 (i : grid0.Coords) (k0_t1 : Fin (k0_t1_loop i).trips) : Fin 3 → Nat :=
  let c3_125 : Index := 3#32
  let c0_126 : Index := 0#32
  let c0_i32 : BitVec 32 := 0#32
  let c1_i32_19 : BitVec 32 := 1#32
  let arg7 : BitVec 32 := Scf.iv c0_i32 c1_i32_19 k0_t1
  let c512_i32_91 : BitVec 32 := 512#32
  let v202 : BitVec 32 := Scalar.muli arg7 c512_i32_91
  let v203 : BitVec 32 := v202
  let v302 : Index := Scalar.indexCast v203
  ![3, 0, v302.toNat]
@[reducible] def k0_t2_loop (i : grid0.Coords) : Scf.Loop 32 :=
  let c0_i32 : BitVec 32 := 0#32
  let arg1 : BitVec 32 := BitVec.ofNat 32 (i 1).val
  let v24 : BitVec 32 := Scalar.subi arg1 c0_i32
  let c1_i32 : BitVec 32 := 1#32
  let v26 : BitVec 32 := Scalar.divsi v24 c1_i32
  let v27 : BitVec 32 := Scalar.muli v26 c1_i32
  let v28 : BitVec 32 := Scalar.addi c0_i32 v27
  let v25 : BitVec 32 := Scalar.addi c0_i32 v24
  let c1_i32_20 : BitVec 32 := 1#32
  ⟨v28, v25, c1_i32_20⟩
def k0_mult2 (i : grid0.Coords) (k0_t2 : Fin (k0_t2_loop i).trips) : BitVec 32 :=
  let c0_i32 : BitVec 32 := 0#32
  let arg1 : BitVec 32 := BitVec.ofNat 32 (i 1).val
  let v24 : BitVec 32 := Scalar.subi arg1 c0_i32
  let c1_i32 : BitVec 32 := 1#32
  let v26 : BitVec 32 := Scalar.divsi v24 c1_i32
  let v27 : BitVec 32 := Scalar.muli v26 c1_i32
  let v28 : BitVec 32 := Scalar.addi c0_i32 v27
  let c1_i32_20 : BitVec 32 := 1#32
  let arg7 : BitVec 32 := Scf.iv v28 c1_i32_20 k0_t2
  let c512_i32_91 : BitVec 32 := 512#32
  let v202 : BitVec 32 := Scalar.muli arg7 c512_i32_91
  v202
def k0_off9 (i : grid0.Coords) (k0_t2 : Fin (k0_t2_loop i).trips) : Fin 3 → Nat :=
  let c0_92 : Index := 0#32
  let c0_i32 : BitVec 32 := 0#32
  let arg1 : BitVec 32 := BitVec.ofNat 32 (i 1).val
  let v24 : BitVec 32 := Scalar.subi arg1 c0_i32
  let c1_i32 : BitVec 32 := 1#32
  let v26 : BitVec 32 := Scalar.divsi v24 c1_i32
  let v27 : BitVec 32 := Scalar.muli v26 c1_i32
  let v28 : BitVec 32 := Scalar.addi c0_i32 v27
  let c1_i32_20 : BitVec 32 := 1#32
  let arg7 : BitVec 32 := Scf.iv v28 c1_i32_20 k0_t2
  let c512_i32_91 : BitVec 32 := 512#32
  let v202 : BitVec 32 := Scalar.muli arg7 c512_i32_91
  let v203 : BitVec 32 := v202
  let v204 : Index := Scalar.indexCast v203
  let c0_93 : Index := 0#32
  ![0, v204.toNat, 0]
def k0_off10 (i : grid0.Coords) (k0_t2 : Fin (k0_t2_loop i).trips) : Fin 3 → Nat :=
  let c1_96 : Index := 1#32
  let c0_i32 : BitVec 32 := 0#32
  let arg1 : BitVec 32 := BitVec.ofNat 32 (i 1).val
  let v24 : BitVec 32 := Scalar.subi arg1 c0_i32
  let c1_i32 : BitVec 32 := 1#32
  let v26 : BitVec 32 := Scalar.divsi v24 c1_i32
  let v27 : BitVec 32 := Scalar.muli v26 c1_i32
  let v28 : BitVec 32 := Scalar.addi c0_i32 v27
  let c1_i32_20 : BitVec 32 := 1#32
  let arg7 : BitVec 32 := Scf.iv v28 c1_i32_20 k0_t2
  let c512_i32_91 : BitVec 32 := 512#32
  let v202 : BitVec 32 := Scalar.muli arg7 c512_i32_91
  let v203 : BitVec 32 := v202
  let v210 : Index := Scalar.indexCast v203
  let c0_97 : Index := 0#32
  ![1, v210.toNat, 0]
def k0_off11 (i : grid0.Coords) (k0_t2 : Fin (k0_t2_loop i).trips) : Fin 3 → Nat :=
  let c2_100 : Index := 2#32
  let c0_i32 : BitVec 32 := 0#32
  let arg1 : BitVec 32 := BitVec.ofNat 32 (i 1).val
  let v24 : BitVec 32 := Scalar.subi arg1 c0_i32
  let c1_i32 : BitVec 32 := 1#32
  let v26 : BitVec 32 := Scalar.divsi v24 c1_i32
  let v27 : BitVec 32 := Scalar.muli v26 c1_i32
  let v28 : BitVec 32 := Scalar.addi c0_i32 v27
  let c1_i32_20 : BitVec 32 := 1#32
  let arg7 : BitVec 32 := Scf.iv v28 c1_i32_20 k0_t2
  let c512_i32_91 : BitVec 32 := 512#32
  let v202 : BitVec 32 := Scalar.muli arg7 c512_i32_91
  let v203 : BitVec 32 := v202
  let v216 : Index := Scalar.indexCast v203
  let c0_101 : Index := 0#32
  ![2, v216.toNat, 0]
def k0_off12 (i : grid0.Coords) (k0_t2 : Fin (k0_t2_loop i).trips) : Fin 3 → Nat :=
  let c3_104 : Index := 3#32
  let c0_i32 : BitVec 32 := 0#32
  let arg1 : BitVec 32 := BitVec.ofNat 32 (i 1).val
  let v24 : BitVec 32 := Scalar.subi arg1 c0_i32
  let c1_i32 : BitVec 32 := 1#32
  let v26 : BitVec 32 := Scalar.divsi v24 c1_i32
  let v27 : BitVec 32 := Scalar.muli v26 c1_i32
  let v28 : BitVec 32 := Scalar.addi c0_i32 v27
  let c1_i32_20 : BitVec 32 := 1#32
  let arg7 : BitVec 32 := Scf.iv v28 c1_i32_20 k0_t2
  let c512_i32_91 : BitVec 32 := 512#32
  let v202 : BitVec 32 := Scalar.muli arg7 c512_i32_91
  let v203 : BitVec 32 := v202
  let v222 : Index := Scalar.indexCast v203
  let c0_105 : Index := 0#32
  ![3, v222.toNat, 0]
def k0_off13 (i : grid0.Coords) (k0_t2 : Fin (k0_t2_loop i).trips) : Fin 3 → Nat :=
  let c0_116 : Index := 0#32
  let c0_117 : Index := 0#32
  let c0_i32 : BitVec 32 := 0#32
  let arg1 : BitVec 32 := BitVec.ofNat 32 (i 1).val
  let v24 : BitVec 32 := Scalar.subi arg1 c0_i32
  let c1_i32 : BitVec 32 := 1#32
  let v26 : BitVec 32 := Scalar.divsi v24 c1_i32
  let v27 : BitVec 32 := Scalar.muli v26 c1_i32
  let v28 : BitVec 32 := Scalar.addi c0_i32 v27
  let c1_i32_20 : BitVec 32 := 1#32
  let arg7 : BitVec 32 := Scf.iv v28 c1_i32_20 k0_t2
  let c512_i32_91 : BitVec 32 := 512#32
  let v202 : BitVec 32 := Scalar.muli arg7 c512_i32_91
  let v203 : BitVec 32 := v202
  let v278 : Index := Scalar.indexCast v203
  ![0, 0, v278.toNat]
def k0_off14 (i : grid0.Coords) (k0_t2 : Fin (k0_t2_loop i).trips) : Fin 3 → Nat :=
  let c1_119 : Index := 1#32
  let c0_120 : Index := 0#32
  let c0_i32 : BitVec 32 := 0#32
  let arg1 : BitVec 32 := BitVec.ofNat 32 (i 1).val
  let v24 : BitVec 32 := Scalar.subi arg1 c0_i32
  let c1_i32 : BitVec 32 := 1#32
  let v26 : BitVec 32 := Scalar.divsi v24 c1_i32
  let v27 : BitVec 32 := Scalar.muli v26 c1_i32
  let v28 : BitVec 32 := Scalar.addi c0_i32 v27
  let c1_i32_20 : BitVec 32 := 1#32
  let arg7 : BitVec 32 := Scf.iv v28 c1_i32_20 k0_t2
  let c512_i32_91 : BitVec 32 := 512#32
  let v202 : BitVec 32 := Scalar.muli arg7 c512_i32_91
  let v203 : BitVec 32 := v202
  let v286 : Index := Scalar.indexCast v203
  ![1, 0, v286.toNat]
def k0_off15 (i : grid0.Coords) (k0_t2 : Fin (k0_t2_loop i).trips) : Fin 3 → Nat :=
  let c2_122 : Index := 2#32
  let c0_123 : Index := 0#32
  let c0_i32 : BitVec 32 := 0#32
  let arg1 : BitVec 32 := BitVec.ofNat 32 (i 1).val
  let v24 : BitVec 32 := Scalar.subi arg1 c0_i32
  let c1_i32 : BitVec 32 := 1#32
  let v26 : BitVec 32 := Scalar.divsi v24 c1_i32
  let v27 : BitVec 32 := Scalar.muli v26 c1_i32
  let v28 : BitVec 32 := Scalar.addi c0_i32 v27
  let c1_i32_20 : BitVec 32 := 1#32
  let arg7 : BitVec 32 := Scf.iv v28 c1_i32_20 k0_t2
  let c512_i32_91 : BitVec 32 := 512#32
  let v202 : BitVec 32 := Scalar.muli arg7 c512_i32_91
  let v203 : BitVec 32 := v202
  let v294 : Index := Scalar.indexCast v203
  ![2, 0, v294.toNat]
def k0_off16 (i : grid0.Coords) (k0_t2 : Fin (k0_t2_loop i).trips) : Fin 3 → Nat :=
  let c3_125 : Index := 3#32
  let c0_126 : Index := 0#32
  let c0_i32 : BitVec 32 := 0#32
  let arg1 : BitVec 32 := BitVec.ofNat 32 (i 1).val
  let v24 : BitVec 32 := Scalar.subi arg1 c0_i32
  let c1_i32 : BitVec 32 := 1#32
  let v26 : BitVec 32 := Scalar.divsi v24 c1_i32
  let v27 : BitVec 32 := Scalar.muli v26 c1_i32
  let v28 : BitVec 32 := Scalar.addi c0_i32 v27
  let c1_i32_20 : BitVec 32 := 1#32
  let arg7 : BitVec 32 := Scf.iv v28 c1_i32_20 k0_t2
  let c512_i32_91 : BitVec 32 := 512#32
  let v202 : BitVec 32 := Scalar.muli arg7 c512_i32_91
  let v203 : BitVec 32 := v202
  let v302 : Index := Scalar.indexCast v203
  ![3, 0, v302.toNat]
def k0_mult3 (i : grid0.Coords) : BitVec 32 :=
  let arg1 : BitVec 32 := BitVec.ofNat 32 (i 1).val
  let c512_i32 : BitVec 32 := 512#32
  let v31 : BitVec 32 := Scalar.muli arg1 c512_i32
  v31
def k0_off17 (i : grid0.Coords) : Fin 3 → Nat :=
  let c0_21 : Index := 0#32
  let arg1 : BitVec 32 := BitVec.ofNat 32 (i 1).val
  let c512_i32 : BitVec 32 := 512#32
  let v31 : BitVec 32 := Scalar.muli arg1 c512_i32
  let v32 : BitVec 32 := v31
  let v33 : Index := Scalar.indexCast v32
  let c0_22 : Index := 0#32
  ![0, v33.toNat, 0]
def k0_off18 (i : grid0.Coords) : Fin 3 → Nat :=
  let c1_25 : Index := 1#32
  let arg1 : BitVec 32 := BitVec.ofNat 32 (i 1).val
  let c512_i32 : BitVec 32 := 512#32
  let v31 : BitVec 32 := Scalar.muli arg1 c512_i32
  let v32 : BitVec 32 := v31
  let v39 : Index := Scalar.indexCast v32
  let c0_26 : Index := 0#32
  ![1, v39.toNat, 0]
def k0_off19 (i : grid0.Coords) : Fin 3 → Nat :=
  let c2_29 : Index := 2#32
  let arg1 : BitVec 32 := BitVec.ofNat 32 (i 1).val
  let c512_i32 : BitVec 32 := 512#32
  let v31 : BitVec 32 := Scalar.muli arg1 c512_i32
  let v32 : BitVec 32 := v31
  let v45 : Index := Scalar.indexCast v32
  let c0_30 : Index := 0#32
  ![2, v45.toNat, 0]
def k0_off20 (i : grid0.Coords) : Fin 3 → Nat :=
  let c3_33 : Index := 3#32
  let arg1 : BitVec 32 := BitVec.ofNat 32 (i 1).val
  let c512_i32 : BitVec 32 := 512#32
  let v31 : BitVec 32 := Scalar.muli arg1 c512_i32
  let v32 : BitVec 32 := v31
  let v51 : Index := Scalar.indexCast v32
  let c0_34 : Index := 0#32
  ![3, v51.toNat, 0]
def k0_off21 (i : grid0.Coords) : Fin 3 → Nat :=
  let c0_51 : Index := 0#32
  let c0_52 : Index := 0#32
  let arg1 : BitVec 32 := BitVec.ofNat 32 (i 1).val
  let c512_i32 : BitVec 32 := 512#32
  let v31 : BitVec 32 := Scalar.muli arg1 c512_i32
  let v32 : BitVec 32 := v31
  let v124 : Index := Scalar.indexCast v32
  ![0, 0, v124.toNat]
def k0_off22 (i : grid0.Coords) : Fin 3 → Nat :=
  let c1_54 : Index := 1#32
  let c0_55 : Index := 0#32
  let arg1 : BitVec 32 := BitVec.ofNat 32 (i 1).val
  let c512_i32 : BitVec 32 := 512#32
  let v31 : BitVec 32 := Scalar.muli arg1 c512_i32
  let v32 : BitVec 32 := v31
  let v132 : Index := Scalar.indexCast v32
  ![1, 0, v132.toNat]
def k0_off23 (i : grid0.Coords) : Fin 3 → Nat :=
  let c2_57 : Index := 2#32
  let c0_58 : Index := 0#32
  let arg1 : BitVec 32 := BitVec.ofNat 32 (i 1).val
  let c512_i32 : BitVec 32 := 512#32
  let v31 : BitVec 32 := Scalar.muli arg1 c512_i32
  let v32 : BitVec 32 := v31
  let v140 : Index := Scalar.indexCast v32
  ![2, 0, v140.toNat]
def k0_off24 (i : grid0.Coords) : Fin 3 → Nat :=
  let c3_60 : Index := 3#32
  let c0_61 : Index := 0#32
  let arg1 : BitVec 32 := BitVec.ofNat 32 (i 1).val
  let c512_i32 : BitVec 32 := 512#32
  let v31 : BitVec 32 := Scalar.muli arg1 c512_i32
  let v32 : BitVec 32 := v31
  let v148 : Index := Scalar.indexCast v32
  ![3, 0, v148.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S4x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4x8192x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S4x64x8192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S4x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ForwardIdeal.lean ====
variable {F : FTy → Type} [FloatOps F] [Named F]
def κ : String → Option EReal := fun
  | "cmul" => some (((3424635 / 33554432) * (Real.log 2)⁻¹ : ℝ) : EReal)
  | "log2e" => some (((Real.log 2)⁻¹ : ℝ) : EReal)
  | "mask" => some ⊥
  | _ => none
-- ==== ForwardReferenceIdeal.lean ====
abbrev S8192x4x96 : Shape := ⟨3, ![8192, 4, 96]⟩
abbrev S8192x4x64 : Shape := ⟨3, ![8192, 4, 64]⟩
abbrev S4x8192x8192 : Shape := ⟨3, ![4, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S4x8192 : Shape := ⟨2, ![4, 8192]⟩
abbrev S4x8192x1 : Shape := ⟨3, ![4, 8192, 1]⟩
abbrev S4x64x8192 : Shape := ⟨3, ![4, 64, 8192]⟩
abbrev S4x1x8192 : Shape := ⟨3, ![4, 1, 8192]⟩

abbrev nBuf : Space → Nat
  | .hbm => 66
  | .vmem => 0
  | .smem => 0
  | _ => 0

abbrev bufTy : (tb : Table) → Fin (tcTables nBuf tb) → BufTy
  | .hbm, ⟨0, _⟩ => ⟨S8192x4x96, .f32⟩
  | .hbm, ⟨1, _⟩ => ⟨S8192x4x96, .f32⟩
  | .hbm, ⟨2, _⟩ => ⟨S8192x4x64, .f32⟩
  | .hbm, ⟨3, _⟩ => ⟨S4x8192x8192, .f32⟩
  | .hbm, ⟨4, _⟩ => ⟨S_, .f32⟩
  | .hbm, ⟨5, _⟩ => ⟨S4x8192x8192, .f32⟩
  | .hbm, ⟨6, _⟩ => ⟨S4x8192x8192, .f32⟩
  | .hbm, ⟨7, _⟩ => ⟨S8192, .i32⟩
  | .hbm, ⟨8, _⟩ => ⟨S1x8192, .i32⟩
  | .hbm, ⟨9, _⟩ => ⟨S8192x1, .i32⟩
  | .hbm, ⟨10, _⟩ => ⟨S8192x8192, .i32⟩
  | .hbm, ⟨11, _⟩ => ⟨S8192x8192, .i32⟩
  | .hbm, ⟨12, _⟩ => ⟨S8192x8192, .i1⟩
  | .hbm, ⟨13, _⟩ => ⟨S_, .f32⟩
  | .hbm, ⟨14, _⟩ => ⟨S_, .f32⟩
  | .hbm, ⟨15, _⟩ => ⟨S4x8192x8192, .i1⟩
  | .hbm, ⟨16, _⟩ => ⟨S4x8192x8192, .f32⟩
  | .hbm, ⟨17, _⟩ => ⟨S4x8192x8192, .f32⟩
  | .hbm, ⟨18, _⟩ => ⟨S_, .f32⟩
  | .hbm, ⟨19, _⟩ => ⟨S4x8192, .f32⟩
  | .hbm, ⟨20, _⟩ => ⟨S4x8192x1, .f32⟩
  | .hbm, ⟨21, _⟩ => ⟨S4x8192x8192, .f32⟩
  | .hbm, ⟨22, _⟩ => ⟨S4x8192x8192, .f32⟩
  | .hbm, ⟨23, _⟩ => ⟨S4x8192x8192, .f32⟩
  | .hbm, ⟨24, _⟩ => ⟨S_, .f32⟩
  | .hbm, ⟨25, _⟩ => ⟨S4x8192, .f32⟩
  | .hbm, ⟨26, _⟩ => ⟨S4x8192x1, .f32⟩
  | .hbm, ⟨27, _⟩ => ⟨S4x8192x1, .f32⟩
  | .hbm, ⟨28, _⟩ => ⟨S4x8192x1, .f32⟩
  | .hbm, ⟨29, _⟩ => ⟨S4x8192x8192, .f32⟩
  | .hbm, ⟨30, _⟩ => ⟨S_, .f32⟩
  | .hbm, ⟨31, _⟩ => ⟨S4x8192x8192, .f32⟩
  | .hbm, ⟨32, _⟩ => ⟨S4x8192x8192, .f32⟩
  | .hbm, ⟨33, _⟩ => ⟨S8192, .i32⟩
  | .hbm, ⟨34, _⟩ => ⟨S1x8192, .i32⟩
  | .hbm, ⟨35, _⟩ => ⟨S8192x1, .i32⟩
  | .hbm, ⟨36, _⟩ => ⟨S8192x8192, .i32⟩
  | .hbm, ⟨37, _⟩ => ⟨S8192x8192, .i32⟩
  | .hbm, ⟨38, _⟩ => ⟨S8192x8192, .i1⟩
  | .hbm, ⟨39, _⟩ => ⟨S_, .f32⟩
  | .hbm, ⟨40, _⟩ => ⟨S_, .f32⟩
  | .hbm, ⟨41, _⟩ => ⟨S4x8192x8192, .i1⟩
  | .hbm, ⟨42, _⟩ => ⟨S4x8192x8192, .f32⟩
  | .hbm, ⟨43, _⟩ => ⟨S4x8192x8192, .f32⟩
  | .hbm, ⟨44, _⟩ => ⟨S_, .f32⟩
  | .hbm, ⟨45, _⟩ => ⟨S4x8192, .f32⟩
  | .hbm, ⟨46, _⟩ => ⟨S_, .f32⟩
  | .hbm, ⟨47, _⟩ => ⟨S4x8192, .f32⟩
  | .hbm, ⟨48, _⟩ => ⟨S4x8192, .f32⟩
  | .hbm, ⟨49, _⟩ => ⟨S4x8192x1, .f32⟩
  | .hbm, ⟨50, _⟩ => ⟨S4x8192x8192, .f32⟩
  | .hbm, ⟨51, _⟩ => ⟨S4x8192x8192, .f32⟩
  | .hbm, ⟨52, _⟩ => ⟨S4x8192x8192, .f32⟩
  | .hbm, ⟨53, _⟩ => ⟨S_, .f32⟩
  | .hbm, ⟨54, _⟩ => ⟨S4x8192, .f32⟩
  | .hbm, ⟨55, _⟩ => ⟨S4x8192x1, .f32⟩
  | .hbm, ⟨56, _⟩ => ⟨S4x8192x8192, .f32⟩
  | .hbm, ⟨57, _⟩ => ⟨S4x8192x8192, .f32⟩
  | .hbm, ⟨58, _⟩ => ⟨S4x64x8192, .f32⟩
  | .hbm, ⟨59, _⟩ => ⟨S8192x4x64, .f32⟩
  | .hbm, ⟨60, _⟩ => ⟨S4x64x8192, .f32⟩
  | .hbm, ⟨61, _⟩ => ⟨S_, .f32⟩
  | .hbm, ⟨62, _⟩ => ⟨S_, .f32⟩
  | .hbm, ⟨63, _⟩ => ⟨S4x8192x1, .f32⟩
  | .hbm, ⟨64, _⟩ => ⟨S4x8192x1, .f32⟩
  | .hbm, ⟨65, _⟩ => ⟨S4x1x8192, .f32⟩
  | _, _ => ⟨S8192x4x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v28 : Ref sig .tc := ⟨.hbm, 43, rfl⟩
abbrev main_cst_5 : Ref sig .tc := ⟨.hbm, 44, rfl⟩
abbrev main_v29 : Ref sig .tc := ⟨.hbm, 45, rfl⟩
abbrev main_cst_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_8 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩

abbrev nD : Nat := 1
abbrev τ : Topo := Topo.v7x

variable {F : FTy → Type} [FloatOps F]
-- ==== Dx.lean ====
abbrev S1024x3236 : Shape := ⟨2, ![1024, 3236]⟩
abbrev S8192x256 : Shape := ⟨2, ![8192, 256]⟩
abbrev S8192x4 : Shape := ⟨2, ![8192, 4]⟩
abbrev S8192x128 : Shape := ⟨2, ![8192, 128]⟩
abbrev S8192x32 : Shape := ⟨2, ![8192, 32]⟩
abbrev S8192x1024 : Shape := ⟨2, ![8192, 1024]⟩
abbrev S1024x256 : Shape := ⟨2, ![1024, 256]⟩
abbrev S1024x128 : Shape := ⟨2, ![1024, 128]⟩
abbrev S1024x1024 : Shape := ⟨2, ![1024, 1024]⟩
abbrev S1024x32 : Shape := ⟨2, ![1024, 32]⟩
abbrev S1024x4 : Shape := ⟨2, ![1024, 4]⟩
abbrev S_ : Shape := ⟨0, ![]⟩
abbrev S1024x92 : Shape := ⟨2, ![1024, 92]⟩
abbrev S1024x3328 : Shape := ⟨2, ![1024, 3328]⟩
abbrev S8192x92 : Shape := ⟨2, ![8192, 92]⟩
abbrev S8192x3328 : Shape := ⟨2, ![8192, 3328]⟩
abbrev S512x256 : Shape := ⟨2, ![512, 256]⟩
abbrev S512x128 : Shape := ⟨2, ![512, 128]⟩
abbrev S512x1024 : Shape := ⟨2, ![512, 1024]⟩
abbrev S512x3328 : Shape := ⟨2, ![512, 3328]⟩

abbrev nBuf : Space → Nat
  | .hbm => 43
  | .vmem => 27
  | .smem => 0
  | _ => 0

abbrev bufTy : (tb : Table) → Fin (tcTables nBuf tb) → BufTy
  | .hbm, ⟨0, _⟩ => ⟨S1024x3236, .f32⟩
  | .hbm, ⟨1, _⟩ => ⟨S8192x256, .f32⟩
  | .hbm, ⟨2, _⟩ => ⟨S8192x256, .f32⟩
  | .hbm, ⟨3, _⟩ => ⟨S8192x256, .f32⟩
  | .hbm, ⟨4, _⟩ => ⟨S8192x4, .f32⟩
  | .hbm, ⟨5, _⟩ => ⟨S8192x256, .f32⟩
  | .hbm, ⟨6, _⟩ => ⟨S8192x256, .f32⟩
  | .hbm, ⟨7, _⟩ => ⟨S8192x256, .f32⟩
  | .hbm, ⟨8, _⟩ => ⟨S8192x256, .f32⟩
  | .hbm, ⟨9, _⟩ => ⟨S8192x128, .f32⟩
  | .hbm, ⟨10, _⟩ => ⟨S8192x32, .f32⟩
  | .hbm, ⟨11, _⟩ => ⟨S8192x256, .f32⟩
  | .hbm, ⟨12, _⟩ => ⟨S8192x1024, .f32⟩
  | .hbm, ⟨13, _⟩ => ⟨S1024x256, .f32⟩
  | .hbm, ⟨14, _⟩ => ⟨S1024x256, .f32⟩
  | .hbm, ⟨15, _⟩ => ⟨S1024x256, .f32⟩
  | .hbm, ⟨16, _⟩ => ⟨S1024x256, .f32⟩
  | .hbm, ⟨17, _⟩ => ⟨S1024x256, .f32⟩
  | .hbm, ⟨18, _⟩ => ⟨S1024x256, .f32⟩
  | .hbm, ⟨19, _⟩ => ⟨S1024x256, .f32⟩
  | .hbm, ⟨20, _⟩ => ⟨S1024x128, .f32⟩
  | .hbm, ⟨21, _⟩ => ⟨S1024x256, .f32⟩
  | .hbm, ⟨22, _⟩ => ⟨S1024x1024, .f32⟩
  | .hbm, ⟨23, _⟩ => ⟨S1024x32, .f32⟩
  | .hbm, ⟨24, _⟩ => ⟨S1024x4, .f32⟩
  | .hbm, ⟨25, _⟩ => ⟨S_, .f32⟩
  | .hbm, ⟨26, _⟩ => ⟨S1024x92, .f32⟩
  | .hbm, ⟨27, _⟩ => ⟨S1024x3328, .f32⟩
  | .hbm, ⟨28, _⟩ => ⟨S1024x3328, .bf16⟩
  | .hbm, ⟨29, _⟩ => ⟨S8192x256, .bf16⟩
  | .hbm, ⟨30, _⟩ => ⟨S8192x256, .bf16⟩
  | .hbm, ⟨31, _⟩ => ⟨S8192x256, .bf16⟩
  | .hbm, ⟨32, _⟩ => ⟨S8192x256, .bf16⟩
  | .hbm, ⟨33, _⟩ => ⟨S8192x256, .bf16⟩
  | .hbm, ⟨34, _⟩ => ⟨S8192x256, .bf16⟩
  | .hbm, ⟨35, _⟩ => ⟨S8192x256, .bf16⟩
  | .hbm, ⟨36, _⟩ => ⟨S8192x32, .bf16⟩
  | .hbm, ⟨37, _⟩ => ⟨S8192x4, .bf16⟩
  | .hbm, ⟨38, _⟩ => ⟨S_, .bf16⟩
  | .hbm, ⟨39, _⟩ => ⟨S8192x92, .bf16⟩
  | .hbm, ⟨40, _⟩ => ⟨S8192x128, .bf16⟩
  | .hbm, ⟨41, _⟩ => ⟨S8192x1024, .f32⟩
  | .hbm, ⟨42, _⟩ => ⟨S8192x3328, .bf16⟩
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S512x256, .bf16⟩
  | .local _ .vmem, ⟨10, _⟩ => ⟨S512x256, .bf16⟩
  | .local _ .vmem, ⟨11, _⟩ => ⟨S512x256, .bf16⟩
  | .local _ .vmem, ⟨12, _⟩ => ⟨S512x256, .f32⟩
  | .local _ .vmem, ⟨13, _⟩ => ⟨S512x256, .f32⟩
  | .local _ .vmem, ⟨14, _⟩ => ⟨S512x128, .f32⟩
  | .local _ .vmem, ⟨15, _⟩ => ⟨S512x128, .f32⟩
  | .local _ .vmem, ⟨16, _⟩ => ⟨S512x256, .bf16⟩
  | .local _ .vmem, ⟨17, _⟩ => ⟨S512x256, .bf16⟩
  | .local _ .vmem, ⟨18, _⟩ => ⟨S512x1024, .f32⟩
  | .local _ .vmem, ⟨19, _⟩ => ⟨S512x1024, .f32⟩
  | .local _ .vmem, ⟨20, _⟩ => ⟨S512x128, .bf16⟩
  | .local _ .vmem, ⟨21, _⟩ => ⟨S512x128, .bf16⟩
  | .local _ .vmem, ⟨22, _⟩ => ⟨S1024x3328, .bf16⟩
  | .local _ .vmem, ⟨23, _⟩ => ⟨S512x1024, .f32⟩
  | .local _ .vmem, ⟨24, _⟩ => ⟨S512x1024, .f32⟩
  | .local _ .vmem, ⟨25, _⟩ => ⟨S512x3328, .bf16⟩
  | .local _ .vmem, ⟨26, _⟩ => ⟨S512x3328, .bf16⟩
  | _, _ => ⟨S1024x3236, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_0 : Ref sig .tc := ⟨.hbm, 38, rfl⟩
abbrev main_v24 : Ref sig .tc := ⟨.hbm, 39, rfl⟩
abbrev main_v25 : Ref sig .tc := ⟨.hbm, 40, rfl⟩
abbrev main_v26_0 : Ref sig .tc := ⟨.hbm, 41, rfl⟩
abbrev main_v26_1 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem12_1 : DmaSem sig := 24
abbrev cc0_sem13_0 : DmaSem sig := 25
abbrev cc0_sem13_1 : DmaSem sig := 26

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1024x3328 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x3328 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== DxReferenceIdeal.lean ====
abbrev S1024x3236 : Shape := ⟨2, ![1024, 3236]⟩
abbrev S8192x256 : Shape := ⟨2, ![8192, 256]⟩
abbrev S8192x4 : Shape := ⟨2, ![8192, 4]⟩
abbrev S8192x128 : Shape := ⟨2, ![8192, 128]⟩
abbrev S8192x32 : Shape := ⟨2, ![8192, 32]⟩
abbrev S8192x1024 : Shape := ⟨2, ![8192, 1024]⟩
abbrev S_ : Shape := ⟨0, ![]⟩
abbrev S8192x3236 : Shape := ⟨2, ![8192, 3236]⟩
abbrev S8192x92 : Shape := ⟨2, ![8192, 92]⟩
abbrev S8192x3328 : Shape := ⟨2, ![8192, 3328]⟩

abbrev nBuf : Space → Nat
  | .hbm => 34
  | .vmem => 0
  | .smem => 0
  | _ => 0

abbrev bufTy : (tb : Table) → Fin (tcTables nBuf tb) → BufTy
  | .hbm, ⟨0, _⟩ => ⟨S1024x3236, .f32⟩
  | .hbm, ⟨1, _⟩ => ⟨S8192x256, .f32⟩
  | .hbm, ⟨2, _⟩ => ⟨S8192x256, .f32⟩
  | .hbm, ⟨3, _⟩ => ⟨S8192x256, .f32⟩
  | .hbm, ⟨4, _⟩ => ⟨S8192x4, .f32⟩
  | .hbm, ⟨5, _⟩ => ⟨S8192x256, .f32⟩
  | .hbm, ⟨6, _⟩ => ⟨S8192x256, .f32⟩
  | .hbm, ⟨7, _⟩ => ⟨S8192x256, .f32⟩
  | .hbm, ⟨8, _⟩ => ⟨S8192x256, .f32⟩
  | .hbm, ⟨9, _⟩ => ⟨S8192x128, .f32⟩
  | .hbm, ⟨10, _⟩ => ⟨S8192x32, .f32⟩
  | .hbm, ⟨11, _⟩ => ⟨S8192x256, .f32⟩
  | .hbm, ⟨12, _⟩ => ⟨S8192x1024, .f32⟩
  | .hbm, ⟨13, _⟩ => ⟨S_, .f32⟩
  | .hbm, ⟨14, _⟩ => ⟨S8192x1024, .f32⟩
  | .hbm, ⟨15, _⟩ => ⟨S8192x3236, .f32⟩
  | .hbm, ⟨16, _⟩ => ⟨S8192x256, .f32⟩
  | .hbm, ⟨17, _⟩ => ⟨S8192x256, .f32⟩
  | .hbm, ⟨18, _⟩ => ⟨S8192x256, .f32⟩
  | .hbm, ⟨19, _⟩ => ⟨S8192x4, .f32⟩
  | .hbm, ⟨20, _⟩ => ⟨S8192x256, .f32⟩
  | .hbm, ⟨21, _⟩ => ⟨S8192x256, .f32⟩
  | .hbm, ⟨22, _⟩ => ⟨S8192x256, .f32⟩
  | .hbm, ⟨23, _⟩ => ⟨S8192x256, .f32⟩
  | .hbm, ⟨24, _⟩ => ⟨S8192x128, .f32⟩
  | .hbm, ⟨25, _⟩ => ⟨S8192x32, .f32⟩
  | .hbm, ⟨26, _⟩ => ⟨S8192x256, .f32⟩
  | .hbm, ⟨27, _⟩ => ⟨S8192x1024, .f32⟩
  | .hbm, ⟨28, _⟩ => ⟨S8192x3236, .f32⟩
  | .hbm, ⟨29, _⟩ => ⟨S8192x1024, .f32⟩
  | .hbm, ⟨30, _⟩ => ⟨S_, .f32⟩
  | .hbm, ⟨31, _⟩ => ⟨S8192x92, .f32⟩
  | .hbm, ⟨32, _⟩ => ⟨S8192x3328, .f32⟩
  | .hbm, ⟨33, _⟩ => ⟨S8192x3328, .bf16⟩
  | _, _ => ⟨S1024x3236, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_0 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩

abbrev nD : Nat := 1
abbrev τ : Topo := Topo.v7x

variable {F : FTy → Type} [FloatOps F]
-- ==== Dw.lean ====
abbrev S8192x1024 : Shape := ⟨2, ![8192, 1024]⟩
abbrev S8192x256 : Shape := ⟨2, ![8192, 256]⟩
abbrev S8192x4 : Shape := ⟨2, ![8192, 4]⟩
abbrev S8192x128 : Shape := ⟨2, ![8192, 128]⟩
abbrev S8192x32 : Shape := ⟨2, ![8192, 32]⟩
abbrev S_ : Shape := ⟨0, ![]⟩
abbrev S8192x92 : Shape := ⟨2, ![8192, 92]⟩
abbrev S8192x3328 : Shape := ⟨2, ![8192, 3328]⟩
abbrev S1024x8192 : Shape := ⟨2, ![1024, 8192]⟩
abbrev S1024x3328 : Shape := ⟨2, ![1024, 3328]⟩
abbrev S1024x1024 : Shape := ⟨2, ![1024, 1024]⟩
abbrev S1024x1664 : Shape := ⟨2, ![1024, 1664]⟩

abbrev nBuf : Space → Nat
  | .hbm => 32
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x256, .f32⟩
  | .hbm, ⟨3, _⟩ => ⟨S8192x256, .f32⟩
  | .hbm, ⟨4, _⟩ => ⟨S8192x4, .f32⟩
  | .hbm, ⟨5, _⟩ => ⟨S8192x256, .f32⟩
  | .hbm, ⟨6, _⟩ => ⟨S8192x256, .f32⟩
  | .hbm, ⟨7, _⟩ => ⟨S8192x256, .f32⟩
  | .hbm, ⟨8, _⟩ => ⟨S8192x256, .f32⟩
  | .hbm, ⟨9, _⟩ => ⟨S8192x128, .f32⟩
  | .hbm, ⟨10, _⟩ => ⟨S8192x32, .f32⟩
  | .hbm, ⟨11, _⟩ => ⟨S8192x256, .f32⟩
  | .hbm, ⟨12, _⟩ => ⟨S8192x1024, .f32⟩
  | .hbm, ⟨13, _⟩ => ⟨S8192x256, .bf16⟩
  | .hbm, ⟨14, _⟩ => ⟨S8192x256, .bf16⟩
  | .hbm, ⟨15, _⟩ => ⟨S8192x256, .bf16⟩
  | .hbm, ⟨16, _⟩ => ⟨S8192x256, .bf16⟩
  | .hbm, ⟨17, _⟩ => ⟨S8192x256, .bf16⟩
  | .hbm, ⟨18, _⟩ => ⟨S8192x256, .bf16⟩
  | .hbm, ⟨19, _⟩ => ⟨S8192x256, .bf16⟩
  | .hbm, ⟨20, _⟩ => ⟨S8192x32, .bf16⟩
  | .hbm, ⟨21, _⟩ => ⟨S8192x4, .bf16⟩
  | .hbm, ⟨22, _⟩ => ⟨S_, .bf16⟩
  | .hbm, ⟨23, _⟩ => ⟨S8192x92, .bf16⟩
  | .hbm, ⟨24, _⟩ => ⟨S8192x128, .bf16⟩
  | .hbm, ⟨25, _⟩ => ⟨S8192x256, .bf16⟩
  | .hbm, ⟨26, _⟩ => ⟨S8192x128, .bf16⟩
  | .hbm, ⟨27, _⟩ => ⟨S8192x1024, .bf16⟩
  | .hbm, ⟨28, _⟩ => ⟨S8192x3328, .bf16⟩
  | .hbm, ⟨29, _⟩ => ⟨S1024x8192, .f32⟩
  | .hbm, ⟨30, _⟩ => ⟨S1024x8192, .bf16⟩
  | .hbm, ⟨31, _⟩ => ⟨S1024x3328, .f32⟩
  | .local _ .vmem, ⟨0, _⟩ => ⟨S1024x1024, .bf16⟩
  | .local _ .vmem, ⟨1, _⟩ => ⟨S1024x1024, .bf16⟩
  | .local _ .vmem, ⟨2, _⟩ => ⟨S1024x1664, .bf16⟩
  | .local _ .vmem, ⟨3, _⟩ => ⟨S1024x1664, .bf16⟩
  | .local _ .vmem, ⟨4, _⟩ => ⟨S1024x1664, .f32⟩
  | .local _ .vmem, ⟨5, _⟩ => ⟨S1024x1664, .f32⟩
  | .local _ .vmem, ⟨6, _⟩ => ⟨S1024x1664, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1664 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwReferenceIdeal.lean ====
abbrev S8192x1024 : Shape := ⟨2, ![8192, 1024]⟩
abbrev S8192x256 : Shape := ⟨2, ![8192, 256]⟩
abbrev S8192x4 : Shape := ⟨2, ![8192, 4]⟩
abbrev S8192x128 : Shape := ⟨2, ![8192, 128]⟩
abbrev S8192x32 : Shape := ⟨2, ![8192, 32]⟩
abbrev S_ : Shape := ⟨0, ![]⟩
abbrev S1024x3236 : Shape := ⟨2, ![1024, 3236]⟩
abbrev S8192x3236 : Shape := ⟨2, ![8192, 3236]⟩
abbrev S3236x1024 : Shape := ⟨2, ![3236, 1024]⟩
abbrev S1024x256 : Shape := ⟨2, ![1024, 256]⟩
abbrev S1024x4 : Shape := ⟨2, ![1024, 4]⟩
abbrev S1024x128 : Shape := ⟨2, ![1024, 128]⟩
abbrev S1024x32 : Shape := ⟨2, ![1024, 32]⟩
abbrev S1024x1024 : Shape := ⟨2, ![1024, 1024]⟩
abbrev S1024x92 : Shape := ⟨2, ![1024, 92]⟩
abbrev S1024x3328 : Shape := ⟨2, ![1024, 3328]⟩

abbrev nBuf : Space → Nat
  | .hbm => 46
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x256, .f32⟩
  | .hbm, ⟨3, _⟩ => ⟨S8192x256, .f32⟩
  | .hbm, ⟨4, _⟩ => ⟨S8192x4, .f32⟩
  | .hbm, ⟨5, _⟩ => ⟨S8192x256, .f32⟩
  | .hbm, ⟨6, _⟩ => ⟨S8192x256, .f32⟩
  | .hbm, ⟨7, _⟩ => ⟨S8192x256, .f32⟩
  | .hbm, ⟨8, _⟩ => ⟨S8192x256, .f32⟩
  | .hbm, ⟨9, _⟩ => ⟨S8192x128, .f32⟩
  | .hbm, ⟨10, _⟩ => ⟨S8192x32, .f32⟩
  | .hbm, ⟨11, _⟩ => ⟨S8192x256, .f32⟩
  | .hbm, ⟨12, _⟩ => ⟨S8192x1024, .f32⟩
  | .hbm, ⟨13, _⟩ => ⟨S_, .f32⟩
  | .hbm, ⟨14, _⟩ => ⟨S1024x3236, .f32⟩
  | .hbm, ⟨15, _⟩ => ⟨S8192x3236, .f32⟩
  | .hbm, ⟨16, _⟩ => ⟨S8192x256, .f32⟩
  | .hbm, ⟨17, _⟩ => ⟨S8192x256, .f32⟩
  | .hbm, ⟨18, _⟩ => ⟨S8192x256, .f32⟩
  | .hbm, ⟨19, _⟩ => ⟨S8192x4, .f32⟩
  | .hbm, ⟨20, _⟩ => ⟨S8192x256, .f32⟩
  | .hbm, ⟨21, _⟩ => ⟨S8192x256, .f32⟩
  | .hbm, ⟨22, _⟩ => ⟨S8192x256, .f32⟩
  | .hbm, ⟨23, _⟩ => ⟨S8192x256, .f32⟩
  | .hbm, ⟨24, _⟩ => ⟨S8192x128, .f32⟩
  | .hbm, ⟨25, _⟩ => ⟨S8192x32, .f32⟩
  | .hbm, ⟨26, _⟩ => ⟨S8192x256, .f32⟩
  | .hbm, ⟨27, _⟩ => ⟨S8192x1024, .f32⟩
  | .hbm, ⟨28, _⟩ => ⟨S8192x3236, .f32⟩
  | .hbm, ⟨29, _⟩ => ⟨S3236x1024, .f32⟩
  | .hbm, ⟨30, _⟩ => ⟨S1024x3236, .f32⟩
  | .hbm, ⟨31, _⟩ => ⟨S1024x256, .f32⟩
  | .hbm, ⟨32, _⟩ => ⟨S1024x256, .f32⟩
  | .hbm, ⟨33, _⟩ => ⟨S1024x256, .f32⟩
  | .hbm, ⟨34, _⟩ => ⟨S1024x4, .f32⟩
  | .hbm, ⟨35, _⟩ => ⟨S1024x256, .f32⟩
  | .hbm, ⟨36, _⟩ => ⟨S1024x256, .f32⟩
  | .hbm, ⟨37, _⟩ => ⟨S1024x256, .f32⟩
  | .hbm, ⟨38, _⟩ => ⟨S1024x256, .f32⟩
  | .hbm, ⟨39, _⟩ => ⟨S1024x128, .f32⟩
  | .hbm, ⟨40, _⟩ => ⟨S1024x32, .f32⟩
  | .hbm, ⟨41, _⟩ => ⟨S1024x256, .f32⟩
  | .hbm, ⟨42, _⟩ => ⟨S1024x1024, .f32⟩
  | .hbm, ⟨43, _⟩ => ⟨S_, .f32⟩
  | .hbm, ⟨44, _⟩ => ⟨S1024x92, .f32⟩
  | .hbm, ⟨45, _⟩ => ⟨S1024x3328, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_0 : Ref sig .tc := ⟨.hbm, 43, rfl⟩
abbrev main_v29 : Ref sig .tc := ⟨.hbm, 44, rfl⟩
abbrev main_v30 : Ref sig .tc := ⟨.hbm, 45, rfl⟩

abbrev nD : Nat := 1
abbrev τ : Topo := Topo.v7x

variable {F : FTy → Type} [FloatOps F]
-- ==== Split.lean ====
abbrev S8192x1024 : Shape := ⟨2, ![8192, 1024]⟩
abbrev S1024x3236 : Shape := ⟨2, ![1024, 3236]⟩
abbrev S1024x256 : Shape := ⟨2, ![1024, 256]⟩
abbrev S1024x128 : Shape := ⟨2, ![1024, 128]⟩
abbrev S1024x1024 : Shape := ⟨2, ![1024, 1024]⟩
abbrev S1024x32 : Shape := ⟨2, ![1024, 32]⟩
abbrev S1024x4 : Shape := ⟨2, ![1024, 4]⟩
abbrev S_ : Shape := ⟨0, ![]⟩
abbrev S1024x92 : Shape := ⟨2, ![1024, 92]⟩
abbrev S1024x3328 : Shape := ⟨2, ![1024, 3328]⟩
abbrev S8192x256 : Shape := ⟨2, ![8192, 256]⟩
abbrev S8192x128 : Shape := ⟨2, ![8192, 128]⟩
abbrev S512x1024 : Shape := ⟨2, ![512, 1024]⟩
abbrev S512x256 : Shape := ⟨2, ![512, 256]⟩
abbrev S512x128 : Shape := ⟨2, ![512, 128]⟩

abbrev nBuf : Space → Nat
  | .hbm => 30
  | .vmem => 25
  | .smem => 0
  | _ => 0

abbrev bufTy : (tb : Table) → Fin (tcTables nBuf tb) → BufTy
  | .hbm, ⟨0, _⟩ => ⟨S8192x1024, .f32⟩
  | .hbm, ⟨1, _⟩ => ⟨S1024x3236, .f32⟩
  | .hbm, ⟨2, _⟩ => ⟨S1024x256, .f32⟩
  | .hbm, ⟨3, _⟩ => ⟨S1024x256, .f32⟩
  | .hbm, ⟨4, _⟩ => ⟨S1024x256, .f32⟩
  | .hbm, ⟨5, _⟩ => ⟨S1024x256, .f32⟩
  | .hbm, ⟨6, _⟩ => ⟨S1024x256, .f32⟩
  | .hbm, ⟨7, _⟩ => ⟨S1024x256, .f32⟩
  | .hbm, ⟨8, _⟩ => ⟨S1024x256, .f32⟩
  | .hbm, ⟨9, _⟩ => ⟨S1024x128, .f32⟩
  | .hbm, ⟨10, _⟩ => ⟨S1024x256, .f32⟩
  | .hbm, ⟨11, _⟩ => ⟨S1024x1024, .f32⟩
  | .hbm, ⟨12, _⟩ => ⟨S1024x32, .f32⟩
  | .hbm, ⟨13, _⟩ => ⟨S1024x4, .f32⟩
  | .hbm, ⟨14, _⟩ => ⟨S_, .f32⟩
  | .hbm, ⟨15, _⟩ => ⟨S1024x92, .f32⟩
  | .hbm, ⟨16, _⟩ => ⟨S1024x3328, .f32⟩
  | .hbm, ⟨17, _⟩ => ⟨S1024x3328, .bf16⟩
  | .hbm, ⟨18, _⟩ => ⟨S8192x1024, .bf16⟩
  | .hbm, ⟨19, _⟩ => ⟨S8192x256, .bf16⟩
  | .hbm, ⟨20, _⟩ => ⟨S8192x256, .bf16⟩
  | .hbm, ⟨21, _⟩ => ⟨S8192x256, .bf16⟩
  | .hbm, ⟨22, _⟩ => ⟨S8192x256, .bf16⟩
  | .hbm, ⟨23, _⟩ => ⟨S8192x256, .bf16⟩
  | .hbm, ⟨24, _⟩ => ⟨S8192x256, .bf16⟩
  | .hbm, ⟨25, _⟩ => ⟨S8192x256, .f32⟩
  | .hbm, ⟨26, _⟩ => ⟨S8192x128, .f32⟩
  | .hbm, ⟨27, _⟩ => ⟨S8192x256, .bf16⟩
  | .hbm, ⟨28, _⟩ => ⟨S8192x1024, .f32⟩
  | .hbm, ⟨29, _⟩ => ⟨S8192x128, .f32⟩
  | .local _ .vmem, ⟨0, _⟩ => ⟨S512x1024, .bf16⟩
  | .local _ .vmem, ⟨1, _⟩ => ⟨S512x1024, .bf16⟩
  | .local _ .vmem, ⟨2, _⟩ => ⟨S1024x3328, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S512x256, .bf16⟩
  | .local _ .vmem, ⟨10, _⟩ => ⟨S512x256, .bf16⟩
  | .local _ .vmem, ⟨11, _⟩ => ⟨S512x256, .bf16⟩
  | .local _ .vmem, ⟨12, _⟩ => ⟨S512x256, .bf16⟩
  | .local _ .vmem, ⟨13, _⟩ => ⟨S512x256, .bf16⟩
  | .local _ .vmem, ⟨14, _⟩ => ⟨S512x256, .bf16⟩
  | .local _ .vmem, ⟨15, _⟩ => ⟨S512x256, .f32⟩
  | .local _ .vmem, ⟨16, _⟩ => ⟨S512x256, .f32⟩
  | .local _ .vmem, ⟨17, _⟩ => ⟨S512x128, .f32⟩
  | .local _ .vmem, ⟨18, _⟩ => ⟨S512x128, .f32⟩
  | .local _ .vmem, ⟨19, _⟩ => ⟨S512x256, .bf16⟩
  | .local _ .vmem, ⟨20, _⟩ => ⟨S512x256, .bf16⟩
  | .local _ .vmem, ⟨21, _⟩ => ⟨S512x1024, .f32⟩
  | .local _ .vmem, ⟨22, _⟩ => ⟨S512x1024, .f32⟩
  | .local _ .vmem, ⟨23, _⟩ => ⟨S512x128, .f32⟩
  | .local _ .vmem, ⟨24, _⟩ => ⟨S512x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16_0 : Ref sig .tc := ⟨.hbm, 19, rfl⟩
abbrev main_v16_1 : Ref sig .tc := ⟨.hbm, 20, rfl⟩
abbrev main_v16_2 : Ref sig .tc := ⟨.hbm, 21, rfl⟩
abbrev main_v16_3 : Ref sig .tc := ⟨.hbm, 22, rfl⟩
abbrev main_v16_4 : Ref sig .tc := ⟨.hbm, 23, rfl⟩
abbrev main_v16_5 : Ref sig .tc := ⟨.hbm, 24, rfl⟩
abbrev main_v16_6 : Ref sig .tc := ⟨.hbm, 25, rfl⟩
abbrev main_v16_7 : Ref sig .tc := ⟨.hbm, 26, rfl⟩
abbrev main_v16_8 : Ref sig .tc := ⟨.hbm, 27, rfl⟩
abbrev main_v16_9 : Ref sig .tc := ⟨.hbm, 28, rfl⟩
abbrev main_v16_10 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3328 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== SplitReferenceIdeal.lean ====
abbrev S8192x1024 : Shape := ⟨2, ![8192, 1024]⟩
abbrev S1024x3236 : Shape := ⟨2, ![1024, 3236]⟩
abbrev S8192x3236 : Shape := ⟨2, ![8192, 3236]⟩
abbrev S8192x256 : Shape := ⟨2, ![8192, 256]⟩
abbrev S8192x4 : Shape := ⟨2, ![8192, 4]⟩
abbrev S8192x128 : Shape := ⟨2, ![8192, 128]⟩
abbrev S8192x32 : Shape := ⟨2, ![8192, 32]⟩
abbrev S_ : Shape := ⟨0, ![]⟩
abbrev S8192x92 : Shape := ⟨2, ![8192, 92]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x3236, .f32⟩
  | .hbm, ⟨2, _⟩ => ⟨S8192x3236, .f32⟩
  | .hbm, ⟨3, _⟩ => ⟨S8192x256, .f32⟩
  | .hbm, ⟨4, _⟩ => ⟨S8192x256, .f32⟩
  | .hbm, ⟨5, _⟩ => ⟨S8192x256, .f32⟩
  | .hbm, ⟨6, _⟩ => ⟨S8192x4, .f32⟩
  | .hbm, ⟨7, _⟩ => ⟨S8192x256, .f32⟩
  | .hbm, ⟨8, _⟩ => ⟨S8192x256, .f32⟩
  | .hbm, ⟨9, _⟩ => ⟨S8192x256, .f32⟩
  | .hbm, ⟨10, _⟩ => ⟨S8192x256, .f32⟩
  | .hbm, ⟨11, _⟩ => ⟨S8192x128, .f32⟩
  | .hbm, ⟨12, _⟩ => ⟨S8192x32, .f32⟩
  | .hbm, ⟨13, _⟩ => ⟨S8192x256, .f32⟩
  | .hbm, ⟨14, _⟩ => ⟨S8192x1024, .f32⟩
  | .hbm, ⟨15, _⟩ => ⟨S_, .f32⟩
  | .hbm, ⟨16, _⟩ => ⟨S8192x92, .f32⟩
  | .hbm, ⟨17, _⟩ => ⟨S8192x128, .f32⟩
  | .hbm, ⟨18, _⟩ => ⟨S8192x256, .bf16⟩
  | .hbm, ⟨19, _⟩ => ⟨S8192x256, .bf16⟩
  | .hbm, ⟨20, _⟩ => ⟨S8192x256, .bf16⟩
  | .hbm, ⟨21, _⟩ => ⟨S8192x256, .bf16⟩
  | .hbm, ⟨22, _⟩ => ⟨S8192x256, .bf16⟩
  | .hbm, ⟨23, _⟩ => ⟨S8192x256, .bf16⟩
  | .hbm, ⟨24, _⟩ => ⟨S8192x256, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩

abbrev nD : Nat := 1
abbrev τ : Topo := Topo.v7x

variable {F : FTy → Type} [FloatOps F]
-- ==== Gate.lean ====
abbrev S8192x256 : Shape := ⟨2, ![8192, 256]⟩
abbrev S8192x1024 : Shape := ⟨2, ![8192, 1024]⟩
abbrev S1024x1024 : Shape := ⟨2, ![1024, 1024]⟩
abbrev S1024x8192 : Shape := ⟨2, ![1024, 8192]⟩
abbrev S512x256 : Shape := ⟨2, ![512, 256]⟩
abbrev S512x1024 : Shape := ⟨2, ![512, 1024]⟩
abbrev S1024x512 : Shape := ⟨2, ![1024, 512]⟩

abbrev nBuf : Space → Nat
  | .hbm => 9
  | .vmem => 15
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S8192x256, .f32⟩
  | .hbm, ⟨4, _⟩ => ⟨S8192x1024, .f32⟩
  | .hbm, ⟨5, _⟩ => ⟨S1024x1024, .f32⟩
  | .hbm, ⟨6, _⟩ => ⟨S1024x1024, .bf16⟩
  | .hbm, ⟨7, _⟩ => ⟨S8192x1024, .f32⟩
  | .hbm, ⟨8, _⟩ => ⟨S1024x8192, .bf16⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x1024, .f32⟩
  | .local _ .vmem, ⟨9, _⟩ => ⟨S512x1024, .f32⟩
  | .local _ .vmem, ⟨10, _⟩ => ⟨S1024x1024, .bf16⟩
  | .local _ .vmem, ⟨11, _⟩ => ⟨S512x1024, .f32⟩
  | .local _ .vmem, ⟨12, _⟩ => ⟨S512x1024, .f32⟩
  | .local _ .vmem, ⟨13, _⟩ => ⟨S1024x512, .bf16⟩
  | .local _ .vmem, ⟨14, _⟩ => ⟨S1024x512, .bf16⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== GateReferenceIdeal.lean ====
abbrev S8192x256 : Shape := ⟨2, ![8192, 256]⟩
abbrev S8192x1024 : Shape := ⟨2, ![8192, 1024]⟩
abbrev S1024x1024 : Shape := ⟨2, ![1024, 1024]⟩
abbrev S_ : Shape := ⟨0, ![]⟩
abbrev S1024x8192 : Shape := ⟨2, ![1024, 8192]⟩

abbrev nBuf : Space → Nat
  | .hbm => 20
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S8192x256, .f32⟩
  | .hbm, ⟨4, _⟩ => ⟨S8192x1024, .f32⟩
  | .hbm, ⟨5, _⟩ => ⟨S1024x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S1024x8192, .f32⟩
  | .hbm, ⟨19, _⟩ => ⟨S1024x8192, .bf16⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩

abbrev nD : Nat := 1
abbrev τ : Topo := Topo.v7x

variable {F : FTy → Type} [FloatOps F]
-- ==== GateBack.lean ====
abbrev S8192x1024 : Shape := ⟨2, ![8192, 1024]⟩
abbrev S1024x1024 : Shape := ⟨2, ![1024, 1024]⟩
abbrev S8192x256 : Shape := ⟨2, ![8192, 256]⟩
abbrev S512x1024 : Shape := ⟨2, ![512, 1024]⟩
abbrev S512x256 : Shape := ⟨2, ![512, 256]⟩

abbrev nBuf : Space → Nat
  | .hbm => 14
  | .vmem => 23
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x256, .f32⟩
  | .hbm, ⟨3, _⟩ => ⟨S8192x256, .f32⟩
  | .hbm, ⟨4, _⟩ => ⟨S8192x256, .f32⟩
  | .hbm, ⟨5, _⟩ => ⟨S8192x256, .f32⟩
  | .hbm, ⟨6, _⟩ => ⟨S8192x1024, .f32⟩
  | .hbm, ⟨7, _⟩ => ⟨S8192x1024, .bf16⟩
  | .hbm, ⟨8, _⟩ => ⟨S1024x1024, .bf16⟩
  | .hbm, ⟨9, _⟩ => ⟨S8192x256, .f32⟩
  | .hbm, ⟨10, _⟩ => ⟨S8192x256, .f32⟩
  | .hbm, ⟨11, _⟩ => ⟨S8192x256, .f32⟩
  | .hbm, ⟨12, _⟩ => ⟨S8192x256, .f32⟩
  | .hbm, ⟨13, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x1024, .f32⟩
  | .local _ .vmem, ⟨12, _⟩ => ⟨S512x1024, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | .local _ .vmem, ⟨18, _⟩ => ⟨S512x256, .f32⟩
  | .local _ .vmem, ⟨19, _⟩ => ⟨S512x256, .f32⟩
  | .local _ .vmem, ⟨20, _⟩ => ⟨S512x256, .f32⟩
  | .local _ .vmem, ⟨21, _⟩ => ⟨S512x1024, .f32⟩
  | .local _ .vmem, ⟨22, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev main_v2_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== GateBackReferenceIdeal.lean ====
abbrev S8192x1024 : Shape := ⟨2, ![8192, 1024]⟩
abbrev S1024x1024 : Shape := ⟨2, ![1024, 1024]⟩
abbrev S8192x256 : Shape := ⟨2, ![8192, 256]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x256, .f32⟩
  | .hbm, ⟨3, _⟩ => ⟨S8192x256, .f32⟩
  | .hbm, ⟨4, _⟩ => ⟨S8192x256, .f32⟩
  | .hbm, ⟨5, _⟩ => ⟨S8192x256, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x256, .f32⟩
  | .hbm, ⟨31, _⟩ => ⟨S8192x256, .f32⟩
  | .hbm, ⟨32, _⟩ => ⟨S8192x256, .f32⟩
  | .hbm, ⟨33, _⟩ => ⟨S8192x256, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v1_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v1_1 : Ref sig .tc := ⟨.hbm, 19, rfl⟩
abbrev main_v1_0 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩

abbrev nD : Nat := 1
abbrev τ : Topo := Topo.v7x

variable {F : FTy → Type} [FloatOps F]
-- ==== GateDw.lean ====
abbrev S8192x1024 : Shape := ⟨2, ![8192, 1024]⟩
abbrev S8192x256 : Shape := ⟨2, ![8192, 256]⟩
abbrev S_ : Shape := ⟨0, ![]⟩
abbrev S1024x8192 : Shape := ⟨2, ![1024, 8192]⟩
abbrev S1024x1024 : Shape := ⟨2, ![1024, 1024]⟩

abbrev nBuf : Space → Nat
  | .hbm => 21
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x256, .f32⟩
  | .hbm, ⟨3, _⟩ => ⟨S8192x256, .f32⟩
  | .hbm, ⟨4, _⟩ => ⟨S8192x256, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S1024x8192, .f32⟩
  | .hbm, ⟨18, _⟩ => ⟨S1024x8192, .bf16⟩
  | .hbm, ⟨19, _⟩ => ⟨S8192x1024, .bf16⟩
  | .hbm, ⟨20, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GateDwReferenceIdeal.lean ====
abbrev S8192x1024 : Shape := ⟨2, ![8192, 1024]⟩
abbrev S8192x256 : Shape := ⟨2, ![8192, 256]⟩
abbrev S_ : Shape := ⟨0, ![]⟩
abbrev S1024x1024 : Shape := ⟨2, ![1024, 1024]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x256, .f32⟩
  | .hbm, ⟨3, _⟩ => ⟨S8192x256, .f32⟩
  | .hbm, ⟨4, _⟩ => ⟨S8192x256, .f32⟩
  | .hbm, ⟨5, _⟩ => ⟨S8192x1024, .f32⟩
  | .hbm, ⟨6, _⟩ => ⟨S_, .f32⟩
  | .hbm, ⟨7, _⟩ => ⟨S1024x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S1024x1024, .f32⟩
  | .hbm, ⟨21, _⟩ => ⟨S1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩

abbrev nD : Nat := 1
abbrev τ : Topo := Topo.v7x

variable {F : FTy → Type} [FloatOps F]
-- ==== Adam.lean ====
abbrev S8x256x1024 : Shape := ⟨3, ![8, 256, 1024]⟩
abbrev S256x1024 : Shape := ⟨2, ![256, 1024]⟩
abbrev S8x64x1024 : Shape := ⟨3, ![8, 64, 1024]⟩
abbrev S64x1024 : Shape := ⟨2, ![64, 1024]⟩
abbrev S1x64x1024 : Shape := ⟨3, ![1, 64, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x256x1024, .bf16⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S8x64x1024, .bf16⟩
  | .local _ .vmem, ⟨1, _⟩ => ⟨S8x64x1024, .bf16⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | .local _ .vmem, ⟨14, _⟩ => ⟨S64x1024, .f32⟩
  | .local _ .vmem, ⟨15, _⟩ => ⟨S64x1024, .f32⟩
  | _, _ => ⟨S8x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamIdeal.lean ====
abbrev S8x256x1024 : Shape := ⟨3, ![8, 256, 1024]⟩
abbrev S256x1024 : Shape := ⟨2, ![256, 1024]⟩
abbrev S8x64x1024 : Shape := ⟨3, ![8, 64, 1024]⟩
abbrev S64x1024 : Shape := ⟨2, ![64, 1024]⟩
abbrev S1x64x1024 : Shape := ⟨3, ![1, 64, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x256x1024, .bf16⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S8x64x1024, .bf16⟩
  | .local _ .vmem, ⟨1, _⟩ => ⟨S8x64x1024, .bf16⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | .local _ .vmem, ⟨14, _⟩ => ⟨S64x1024, .f32⟩
  | .local _ .vmem, ⟨15, _⟩ => ⟨S64x1024, .f32⟩
  | _, _ => ⟨S8x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamReferenceIdeal.lean ====
abbrev S8x256x1024 : Shape := ⟨3, ![8, 256, 1024]⟩
abbrev S256x1024 : Shape := ⟨2, ![256, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x256x1024, .bf16⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S8x256x1024, .f32⟩
  | .hbm, ⟨5, _⟩ => ⟨S_, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S_, .f32⟩
  | .hbm, ⟨11, _⟩ => ⟨S256x1024, .f32⟩
  | .hbm, ⟨12, _⟩ => ⟨S256x1024, .f32⟩
  | .hbm, ⟨13, _⟩ => ⟨S256x1024, .f32⟩
  | .hbm, ⟨14, _⟩ => ⟨S_, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S_, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S_, .f32⟩
  | .hbm, ⟨26, _⟩ => ⟨S256x1024, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S256x1024, .f32⟩
  | .hbm, ⟨31, _⟩ => ⟨S256x1024, .f32⟩
  | .hbm, ⟨32, _⟩ => ⟨S256x1024, .f32⟩
  | .hbm, ⟨33, _⟩ => ⟨S_, .f32⟩
  | .hbm, ⟨34, _⟩ => ⟨S256x1024, .f32⟩
  | .hbm, ⟨35, _⟩ => ⟨S256x1024, .f32⟩
  | .hbm, ⟨36, _⟩ => ⟨S256x1024, .f32⟩
  | .hbm, ⟨37, _⟩ => ⟨S_, .f32⟩
  | .hbm, ⟨38, _⟩ => ⟨S256x1024, .f32⟩
  | .hbm, ⟨39, _⟩ => ⟨S256x1024, .f32⟩
  | _, _ => ⟨S8x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamMem.lean ====
abbrev S8x256x512 : Shape := ⟨3, ![8, 256, 512]⟩
abbrev S256x512 : Shape := ⟨2, ![256, 512]⟩
abbrev S8x64x512 : Shape := ⟨3, ![8, 64, 512]⟩
abbrev S64x512 : Shape := ⟨2, ![64, 512]⟩
abbrev S1x64x512 : Shape := ⟨3, ![1, 64, 512]⟩

abbrev nBuf : Space → Nat
  | .hbm => 8
  | .vmem => 16
  | .smem => 0
  | _ => 0

abbrev bufTy : (tb : Table) → Fin (tcTables nBuf tb) → BufTy
  | .hbm, ⟨0, _⟩ => ⟨S8x256x512, .bf16⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S256x512, .f32⟩
  | .hbm, ⟨5, _⟩ => ⟨S256x512, .f32⟩
  | .hbm, ⟨6, _⟩ => ⟨S256x512, .f32⟩
  | .hbm, ⟨7, _⟩ => ⟨S256x512, .f32⟩
  | .local _ .vmem, ⟨0, _⟩ => ⟨S8x64x512, .bf16⟩
  | .local _ .vmem, ⟨1, _⟩ => ⟨S8x64x512, .bf16⟩
  | .local _ .vmem, ⟨2, _⟩ => ⟨S64x512, .f32⟩
  | .local _ .vmem, ⟨3, _⟩ => ⟨S64x512, .f32⟩
  | .local _ .vmem, ⟨4, _⟩ => ⟨S64x512, .f32⟩
  | .local _ .vmem, ⟨5, _⟩ => ⟨S64x512, .f32⟩
  | .local _ .vmem, ⟨6, _⟩ => ⟨S64x512, .f32⟩
  | .local _ .vmem, ⟨7, _⟩ => ⟨S64x512, .f32⟩
  | .local _ .vmem, ⟨8, _⟩ => ⟨S64x512, .f32⟩
  | .local _ .vmem, ⟨9, _⟩ => ⟨S64x512, .f32⟩
  | .local _ .vmem, ⟨10, _⟩ => ⟨S64x512, .f32⟩
  | .local _ .vmem, ⟨11, _⟩ => ⟨S64x512, .f32⟩
  | .local _ .vmem, ⟨12, _⟩ => ⟨S64x512, .f32⟩
  | .local _ .vmem, ⟨13, _⟩ => ⟨S64x512, .f32⟩
  | .local _ .vmem, ⟨14, _⟩ => ⟨S64x512, .f32⟩
  | .local _ .vmem, ⟨15, _⟩ => ⟨S64x512, .f32⟩
  | _, _ => ⟨S8x256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamMemIdeal.lean ====
abbrev S8x256x512 : Shape := ⟨3, ![8, 256, 512]⟩
abbrev S256x512 : Shape := ⟨2, ![256, 512]⟩
abbrev S8x64x512 : Shape := ⟨3, ![8, 64, 512]⟩
abbrev S64x512 : Shape := ⟨2, ![64, 512]⟩
abbrev S1x64x512 : Shape := ⟨3, ![1, 64, 512]⟩

abbrev nBuf : Space → Nat
  | .hbm => 8
  | .vmem => 16
  | .smem => 0
  | _ => 0

abbrev bufTy : (tb : Table) → Fin (tcTables nBuf tb) → BufTy
  | .hbm, ⟨0, _⟩ => ⟨S8x256x512, .bf16⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S256x512, .f32⟩
  | .hbm, ⟨5, _⟩ => ⟨S256x512, .f32⟩
  | .hbm, ⟨6, _⟩ => ⟨S256x512, .f32⟩
  | .hbm, ⟨7, _⟩ => ⟨S256x512, .f32⟩
  | .local _ .vmem, ⟨0, _⟩ => ⟨S8x64x512, .bf16⟩
  | .local _ .vmem, ⟨1, _⟩ => ⟨S8x64x512, .bf16⟩
  | .local _ .vmem, ⟨2, _⟩ => ⟨S64x512, .f32⟩
  | .local _ .vmem, ⟨3, _⟩ => ⟨S64x512, .f32⟩
  | .local _ .vmem, ⟨4, _⟩ => ⟨S64x512, .f32⟩
  | .local _ .vmem, ⟨5, _⟩ => ⟨S64x512, .f32⟩
  | .local _ .vmem, ⟨6, _⟩ => ⟨S64x512, .f32⟩
  | .local _ .vmem, ⟨7, _⟩ => ⟨S64x512, .f32⟩
  | .local _ .vmem, ⟨8, _⟩ => ⟨S64x512, .f32⟩
  | .local _ .vmem, ⟨9, _⟩ => ⟨S64x512, .f32⟩
  | .local _ .vmem, ⟨10, _⟩ => ⟨S64x512, .f32⟩
  | .local _ .vmem, ⟨11, _⟩ => ⟨S64x512, .f32⟩
  | .local _ .vmem, ⟨12, _⟩ => ⟨S64x512, .f32⟩
  | .local _ .vmem, ⟨13, _⟩ => ⟨S64x512, .f32⟩
  | .local _ .vmem, ⟨14, _⟩ => ⟨S64x512, .f32⟩
  | .local _ .vmem, ⟨15, _⟩ => ⟨S64x512, .f32⟩
  | _, _ => ⟨S8x256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamMemReferenceIdeal.lean ====
abbrev S8x256x512 : Shape := ⟨3, ![8, 256, 512]⟩
abbrev S256x512 : Shape := ⟨2, ![256, 512]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x256x512, .bf16⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S8x256x512, .f32⟩
  | .hbm, ⟨5, _⟩ => ⟨S_, .f32⟩
  | .hbm, ⟨6, _⟩ => ⟨S256x512, .f32⟩
  | .hbm, ⟨7, _⟩ => ⟨S_, .f32⟩
  | .hbm, ⟨8, _⟩ => ⟨S256x512, .f32⟩
  | .hbm, ⟨9, _⟩ => ⟨S256x512, .f32⟩
  | .hbm, ⟨10, _⟩ => ⟨S_, .f32⟩
  | .hbm, ⟨11, _⟩ => ⟨S256x512, .f32⟩
  | .hbm, ⟨12, _⟩ => ⟨S256x512, .f32⟩
  | .hbm, ⟨13, _⟩ => ⟨S256x512, .f32⟩
  | .hbm, ⟨14, _⟩ => ⟨S_, .f32⟩
  | .hbm, ⟨15, _⟩ => ⟨S256x512, .f32⟩
  | .hbm, ⟨16, _⟩ => ⟨S256x512, .f32⟩
  | .hbm, ⟨17, _⟩ => ⟨S256x512, .f32⟩
  | .hbm, ⟨18, _⟩ => ⟨S_, .f32⟩
  | .hbm, ⟨19, _⟩ => ⟨S256x512, .f32⟩
  | .hbm, ⟨20, _⟩ => ⟨S256x512, .f32⟩
  | .hbm, ⟨21, _⟩ => ⟨S256x512, .f32⟩
  | .hbm, ⟨22, _⟩ => ⟨S_, .f32⟩
  | .hbm, ⟨23, _⟩ => ⟨S256x512, .f32⟩
  | .hbm, ⟨24, _⟩ => ⟨S256x512, .f32⟩
  | .hbm, ⟨25, _⟩ => ⟨S_, .f32⟩
  | .hbm, ⟨26, _⟩ => ⟨S256x512, .f32⟩
  | .hbm, ⟨27, _⟩ => ⟨S256x512, .f32⟩
  | .hbm, ⟨28, _⟩ => ⟨S256x512, .f32⟩
  | .hbm, ⟨29, _⟩ => ⟨S_, .f32⟩
  | .hbm, ⟨30, _⟩ => ⟨S256x512, .f32⟩
  | .hbm, ⟨31, _⟩ => ⟨S256x512, .f32⟩
  | .hbm, ⟨32, _⟩ => ⟨S256x512, .f32⟩
  | .hbm, ⟨33, _⟩ => ⟨S_, .f32⟩
  | .hbm, ⟨34, _⟩ => ⟨S256x512, .f32⟩
  | .hbm, ⟨35, _⟩ => ⟨S256x512, .f32⟩
  | .hbm, ⟨36, _⟩ => ⟨S256x512, .f32⟩
  | .hbm, ⟨37, _⟩ => ⟨S_, .f32⟩
  | .hbm, ⟨38, _⟩ => ⟨S256x512, .f32⟩
  | .hbm, ⟨39, _⟩ => ⟨S256x512, .f32⟩
  | _, _ => ⟨S8x256x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamQ.lean ====
abbrev S8x512x48 : Shape := ⟨3, ![8, 512, 48]⟩
abbrev S512x48 : Shape := ⟨2, ![512, 48]⟩
abbrev S8x64x48 : Shape := ⟨3, ![8, 64, 48]⟩
abbrev S64x48 : Shape := ⟨2, ![64, 48]⟩
abbrev S1x64x48 : Shape := ⟨3, ![1, 64, 48]⟩

abbrev nBuf : Space → Nat
  | .hbm => 8
  | .vmem => 16
  | .smem => 0
  | _ => 0

abbrev bufTy : (tb : Table) → Fin (tcTables nBuf tb) → BufTy
  | .hbm, ⟨0, _⟩ => ⟨S8x512x48, .bf16⟩
  | .hbm, ⟨1, _⟩ => ⟨S512x48, .f32⟩
  | .hbm, ⟨2, _⟩ => ⟨S512x48, .f32⟩
  | .hbm, ⟨3, _⟩ => ⟨S512x48, .f32⟩
  | .hbm, ⟨4, _⟩ => ⟨S512x48, .f32⟩
  | .hbm, ⟨5, _⟩ => ⟨S512x48, .f32⟩
  | .hbm, ⟨6, _⟩ => ⟨S512x48, .f32⟩
  | .hbm, ⟨7, _⟩ => ⟨S512x48, .f32⟩
  | .local _ .vmem, ⟨0, _⟩ => ⟨S8x64x48, .bf16⟩
  | .local _ .vmem, ⟨1, _⟩ => ⟨S8x64x48, .bf16⟩
  | .local _ .vmem, ⟨2, _⟩ => ⟨S64x48, .f32⟩
  | .local _ .vmem, ⟨3, _⟩ => ⟨S64x48, .f32⟩
  | .local _ .vmem, ⟨4, _⟩ => ⟨S64x48, .f32⟩
  | .local _ .vmem, ⟨5, _⟩ => ⟨S64x48, .f32⟩
  | .local _ .vmem, ⟨6, _⟩ => ⟨S64x48, .f32⟩
  | .local _ .vmem, ⟨7, _⟩ => ⟨S64x48, .f32⟩
  | .local _ .vmem, ⟨8, _⟩ => ⟨S64x48, .f32⟩
  | .local _ .vmem, ⟨9, _⟩ => ⟨S64x48, .f32⟩
  | .local _ .vmem, ⟨10, _⟩ => ⟨S64x48, .f32⟩
  | .local _ .vmem, ⟨11, _⟩ => ⟨S64x48, .f32⟩
  | .local _ .vmem, ⟨12, _⟩ => ⟨S64x48, .f32⟩
  | .local _ .vmem, ⟨13, _⟩ => ⟨S64x48, .f32⟩
  | .local _ .vmem, ⟨14, _⟩ => ⟨S64x48, .f32⟩
  | .local _ .vmem, ⟨15, _⟩ => ⟨S64x48, .f32⟩
  | _, _ => ⟨S8x512x48, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x48 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x48 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x48 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x48 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x48 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x48 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x48 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x48 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamQIdeal.lean ====
abbrev S8x512x48 : Shape := ⟨3, ![8, 512, 48]⟩
abbrev S512x48 : Shape := ⟨2, ![512, 48]⟩
abbrev S8x64x48 : Shape := ⟨3, ![8, 64, 48]⟩
abbrev S64x48 : Shape := ⟨2, ![64, 48]⟩
abbrev S1x64x48 : Shape := ⟨3, ![1, 64, 48]⟩

abbrev nBuf : Space → Nat
  | .hbm => 8
  | .vmem => 16
  | .smem => 0
  | _ => 0

abbrev bufTy : (tb : Table) → Fin (tcTables nBuf tb) → BufTy
  | .hbm, ⟨0, _⟩ => ⟨S8x512x48, .bf16⟩
  | .hbm, ⟨1, _⟩ => ⟨S512x48, .f32⟩
  | .hbm, ⟨2, _⟩ => ⟨S512x48, .f32⟩
  | .hbm, ⟨3, _⟩ => ⟨S512x48, .f32⟩
  | .hbm, ⟨4, _⟩ => ⟨S512x48, .f32⟩
  | .hbm, ⟨5, _⟩ => ⟨S512x48, .f32⟩
  | .hbm, ⟨6, _⟩ => ⟨S512x48, .f32⟩
  | .hbm, ⟨7, _⟩ => ⟨S512x48, .f32⟩
  | .local _ .vmem, ⟨0, _⟩ => ⟨S8x64x48, .bf16⟩
  | .local _ .vmem, ⟨1, _⟩ => ⟨S8x64x48, .bf16⟩
  | .local _ .vmem, ⟨2, _⟩ => ⟨S64x48, .f32⟩
  | .local _ .vmem, ⟨3, _⟩ => ⟨S64x48, .f32⟩
  | .local _ .vmem, ⟨4, _⟩ => ⟨S64x48, .f32⟩
  | .local _ .vmem, ⟨5, _⟩ => ⟨S64x48, .f32⟩
  | .local _ .vmem, ⟨6, _⟩ => ⟨S64x48, .f32⟩
  | .local _ .vmem, ⟨7, _⟩ => ⟨S64x48, .f32⟩
  | .local _ .vmem, ⟨8, _⟩ => ⟨S64x48, .f32⟩
  | .local _ .vmem, ⟨9, _⟩ => ⟨S64x48, .f32⟩
  | .local _ .vmem, ⟨10, _⟩ => ⟨S64x48, .f32⟩
  | .local _ .vmem, ⟨11, _⟩ => ⟨S64x48, .f32⟩
  | .local _ .vmem, ⟨12, _⟩ => ⟨S64x48, .f32⟩
  | .local _ .vmem, ⟨13, _⟩ => ⟨S64x48, .f32⟩
  | .local _ .vmem, ⟨14, _⟩ => ⟨S64x48, .f32⟩
  | .local _ .vmem, ⟨15, _⟩ => ⟨S64x48, .f32⟩
  | _, _ => ⟨S8x512x48, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x48 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x48 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x48 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x48 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x48 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x48 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x48 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x48 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamQReferenceIdeal.lean ====
abbrev S8x512x48 : Shape := ⟨3, ![8, 512, 48]⟩
abbrev S512x48 : Shape := ⟨2, ![512, 48]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x512x48, .bf16⟩
  | .hbm, ⟨1, _⟩ => ⟨S512x48, .f32⟩
  | .hbm, ⟨2, _⟩ => ⟨S512x48, .f32⟩
  | .hbm, ⟨3, _⟩ => ⟨S512x48, .f32⟩
  | .hbm, ⟨4, _⟩ => ⟨S8x512x48, .f32⟩
  | .hbm, ⟨5, _⟩ => ⟨S_, .f32⟩
  | .hbm, ⟨6, _⟩ => ⟨S512x48, .f32⟩
  | .hbm, ⟨7, _⟩ => ⟨S_, .f32⟩
  | .hbm, ⟨8, _⟩ => ⟨S512x48, .f32⟩
  | .hbm, ⟨9, _⟩ => ⟨S512x48, .f32⟩
  | .hbm, ⟨10, _⟩ => ⟨S_, .f32⟩
  | .hbm, ⟨11, _⟩ => ⟨S512x48, .f32⟩
  | .hbm, ⟨12, _⟩ => ⟨S512x48, .f32⟩
  | .hbm, ⟨13, _⟩ => ⟨S512x48, .f32⟩
  | .hbm, ⟨14, _⟩ => ⟨S_, .f32⟩
  | .hbm, ⟨15, _⟩ => ⟨S512x48, .f32⟩
  | .hbm, ⟨16, _⟩ => ⟨S512x48, .f32⟩
  | .hbm, ⟨17, _⟩ => ⟨S512x48, .f32⟩
  | .hbm, ⟨18, _⟩ => ⟨S_, .f32⟩
  | .hbm, ⟨19, _⟩ => ⟨S512x48, .f32⟩
  | .hbm, ⟨20, _⟩ => ⟨S512x48, .f32⟩
  | .hbm, ⟨21, _⟩ => ⟨S512x48, .f32⟩
  | .hbm, ⟨22, _⟩ => ⟨S_, .f32⟩
  | .hbm, ⟨23, _⟩ => ⟨S512x48, .f32⟩
  | .hbm, ⟨24, _⟩ => ⟨S512x48, .f32⟩
  | .hbm, ⟨25, _⟩ => ⟨S_, .f32⟩
  | .hbm, ⟨26, _⟩ => ⟨S512x48, .f32⟩
  | .hbm, ⟨27, _⟩ => ⟨S512x48, .f32⟩
  | .hbm, ⟨28, _⟩ => ⟨S512x48, .f32⟩
  | .hbm, ⟨29, _⟩ => ⟨S_, .f32⟩
  | .hbm, ⟨30, _⟩ => ⟨S512x48, .f32⟩
  | .hbm, ⟨31, _⟩ => ⟨S512x48, .f32⟩
  | .hbm, ⟨32, _⟩ => ⟨S512x48, .f32⟩
  | .hbm, ⟨33, _⟩ => ⟨S_, .f32⟩
  | .hbm, ⟨34, _⟩ => ⟨S512x48, .f32⟩
  | .hbm, ⟨35, _⟩ => ⟨S512x48, .f32⟩
  | .hbm, ⟨36, _⟩ => ⟨S512x48, .f32⟩
  | .hbm, ⟨37, _⟩ => ⟨S_, .f32⟩
  | .hbm, ⟨38, _⟩ => ⟨S512x48, .f32⟩
  | .hbm, ⟨39, _⟩ => ⟨S512x48, .f32⟩
  | _, _ => ⟨S8x512x48, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamKv.lean ====
abbrev S8x256x64 : Shape := ⟨3, ![8, 256, 64]⟩
abbrev S256x64 : Shape := ⟨2, ![256, 64]⟩
abbrev S8x64x64 : Shape := ⟨3, ![8, 64, 64]⟩
abbrev S64x64 : Shape := ⟨2, ![64, 64]⟩
abbrev S1x64x64 : Shape := ⟨3, ![1, 64, 64]⟩

abbrev nBuf : Space → Nat
  | .hbm => 8
  | .vmem => 16
  | .smem => 0
  | _ => 0

abbrev bufTy : (tb : Table) → Fin (tcTables nBuf tb) → BufTy
  | .hbm, ⟨0, _⟩ => ⟨S8x256x64, .bf16⟩
  | .hbm, ⟨1, _⟩ => ⟨S256x64, .f32⟩
  | .hbm, ⟨2, _⟩ => ⟨S256x64, .f32⟩
  | .hbm, ⟨3, _⟩ => ⟨S256x64, .f32⟩
  | .hbm, ⟨4, _⟩ => ⟨S256x64, .f32⟩
  | .hbm, ⟨5, _⟩ => ⟨S256x64, .f32⟩
  | .hbm, ⟨6, _⟩ => ⟨S256x64, .f32⟩
  | .hbm, ⟨7, _⟩ => ⟨S256x64, .f32⟩
  | .local _ .vmem, ⟨0, _⟩ => ⟨S8x64x64, .bf16⟩
  | .local _ .vmem, ⟨1, _⟩ => ⟨S8x64x64, .bf16⟩
  | .local _ .vmem, ⟨2, _⟩ => ⟨S64x64, .f32⟩
  | .local _ .vmem, ⟨3, _⟩ => ⟨S64x64, .f32⟩
  | .local _ .vmem, ⟨4, _⟩ => ⟨S64x64, .f32⟩
  | .local _ .vmem, ⟨5, _⟩ => ⟨S64x64, .f32⟩
  | .local _ .vmem, ⟨6, _⟩ => ⟨S64x64, .f32⟩
  | .local _ .vmem, ⟨7, _⟩ => ⟨S64x64, .f32⟩
  | .local _ .vmem, ⟨8, _⟩ => ⟨S64x64, .f32⟩
  | .local _ .vmem, ⟨9, _⟩ => ⟨S64x64, .f32⟩
  | .local _ .vmem, ⟨10, _⟩ => ⟨S64x64, .f32⟩
  | .local _ .vmem, ⟨11, _⟩ => ⟨S64x64, .f32⟩
  | .local _ .vmem, ⟨12, _⟩ => ⟨S64x64, .f32⟩
  | .local _ .vmem, ⟨13, _⟩ => ⟨S64x64, .f32⟩
  | .local _ .vmem, ⟨14, _⟩ => ⟨S64x64, .f32⟩
  | .local _ .vmem, ⟨15, _⟩ => ⟨S64x64, .f32⟩
  | _, _ => ⟨S8x256x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamKvIdeal.lean ====
abbrev S8x256x64 : Shape := ⟨3, ![8, 256, 64]⟩
abbrev S256x64 : Shape := ⟨2, ![256, 64]⟩
abbrev S8x64x64 : Shape := ⟨3, ![8, 64, 64]⟩
abbrev S64x64 : Shape := ⟨2, ![64, 64]⟩
abbrev S1x64x64 : Shape := ⟨3, ![1, 64, 64]⟩

abbrev nBuf : Space → Nat
  | .hbm => 8
  | .vmem => 16
  | .smem => 0
  | _ => 0

abbrev bufTy : (tb : Table) → Fin (tcTables nBuf tb) → BufTy
  | .hbm, ⟨0, _⟩ => ⟨S8x256x64, .bf16⟩
  | .hbm, ⟨1, _⟩ => ⟨S256x64, .f32⟩
  | .hbm, ⟨2, _⟩ => ⟨S256x64, .f32⟩
  | .hbm, ⟨3, _⟩ => ⟨S256x64, .f32⟩
  | .hbm, ⟨4, _⟩ => ⟨S256x64, .f32⟩
  | .hbm, ⟨5, _⟩ => ⟨S256x64, .f32⟩
  | .hbm, ⟨6, _⟩ => ⟨S256x64, .f32⟩
  | .hbm, ⟨7, _⟩ => ⟨S256x64, .f32⟩
  | .local _ .vmem, ⟨0, _⟩ => ⟨S8x64x64, .bf16⟩
  | .local _ .vmem, ⟨1, _⟩ => ⟨S8x64x64, .bf16⟩
  | .local _ .vmem, ⟨2, _⟩ => ⟨S64x64, .f32⟩
  | .local _ .vmem, ⟨3, _⟩ => ⟨S64x64, .f32⟩
  | .local _ .vmem, ⟨4, _⟩ => ⟨S64x64, .f32⟩
  | .local _ .vmem, ⟨5, _⟩ => ⟨S64x64, .f32⟩
  | .local _ .vmem, ⟨6, _⟩ => ⟨S64x64, .f32⟩
  | .local _ .vmem, ⟨7, _⟩ => ⟨S64x64, .f32⟩
  | .local _ .vmem, ⟨8, _⟩ => ⟨S64x64, .f32⟩
  | .local _ .vmem, ⟨9, _⟩ => ⟨S64x64, .f32⟩
  | .local _ .vmem, ⟨10, _⟩ => ⟨S64x64, .f32⟩
  | .local _ .vmem, ⟨11, _⟩ => ⟨S64x64, .f32⟩
  | .local _ .vmem, ⟨12, _⟩ => ⟨S64x64, .f32⟩
  | .local _ .vmem, ⟨13, _⟩ => ⟨S64x64, .f32⟩
  | .local _ .vmem, ⟨14, _⟩ => ⟨S64x64, .f32⟩
  | .local _ .vmem, ⟨15, _⟩ => ⟨S64x64, .f32⟩
  | _, _ => ⟨S8x256x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamKvReferenceIdeal.lean ====
abbrev S8x256x64 : Shape := ⟨3, ![8, 256, 64]⟩
abbrev S256x64 : Shape := ⟨2, ![256, 64]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x256x64, .bf16⟩
  | .hbm, ⟨1, _⟩ => ⟨S256x64, .f32⟩
  | .hbm, ⟨2, _⟩ => ⟨S256x64, .f32⟩
  | .hbm, ⟨3, _⟩ => ⟨S256x64, .f32⟩
  | .hbm, ⟨4, _⟩ => ⟨S8x256x64, .f32⟩
  | .hbm, ⟨5, _⟩ => ⟨S_, .f32⟩
  | .hbm, ⟨6, _⟩ => ⟨S256x64, .f32⟩
  | .hbm, ⟨7, _⟩ => ⟨S_, .f32⟩
  | .hbm, ⟨8, _⟩ => ⟨S256x64, .f32⟩
  | .hbm, ⟨9, _⟩ => ⟨S256x64, .f32⟩
  | .hbm, ⟨10, _⟩ => ⟨S_, .f32⟩
  | .hbm, ⟨11, _⟩ => ⟨S256x64, .f32⟩
  | .hbm, ⟨12, _⟩ => ⟨S256x64, .f32⟩
  | .hbm, ⟨13, _⟩ => ⟨S256x64, .f32⟩
  | .hbm, ⟨14, _⟩ => ⟨S_, .f32⟩
  | .hbm, ⟨15, _⟩ => ⟨S256x64, .f32⟩
  | .hbm, ⟨16, _⟩ => ⟨S256x64, .f32⟩
  | .hbm, ⟨17, _⟩ => ⟨S256x64, .f32⟩
  | .hbm, ⟨18, _⟩ => ⟨S_, .f32⟩
  | .hbm, ⟨19, _⟩ => ⟨S256x64, .f32⟩
  | .hbm, ⟨20, _⟩ => ⟨S256x64, .f32⟩
  | .hbm, ⟨21, _⟩ => ⟨S256x64, .f32⟩
  | .hbm, ⟨22, _⟩ => ⟨S_, .f32⟩
  | .hbm, ⟨23, _⟩ => ⟨S256x64, .f32⟩
  | .hbm, ⟨24, _⟩ => ⟨S256x64, .f32⟩
  | .hbm, ⟨25, _⟩ => ⟨S_, .f32⟩
  | .hbm, ⟨26, _⟩ => ⟨S256x64, .f32⟩
  | .hbm, ⟨27, _⟩ => ⟨S256x64, .f32⟩
  | .hbm, ⟨28, _⟩ => ⟨S256x64, .f32⟩
  | .hbm, ⟨29, _⟩ => ⟨S_, .f32⟩
  | .hbm, ⟨30, _⟩ => ⟨S256x64, .f32⟩
  | .hbm, ⟨31, _⟩ => ⟨S256x64, .f32⟩
  | .hbm, ⟨32, _⟩ => ⟨S256x64, .f32⟩
  | .hbm, ⟨33, _⟩ => ⟨S_, .f32⟩
  | .hbm, ⟨34, _⟩ => ⟨S256x64, .f32⟩
  | .hbm, ⟨35, _⟩ => ⟨S256x64, .f32⟩
  | .hbm, ⟨36, _⟩ => ⟨S256x64, .f32⟩
  | .hbm, ⟨37, _⟩ => ⟨S_, .f32⟩
  | .hbm, ⟨38, _⟩ => ⟨S256x64, .f32⟩
  | .hbm, ⟨39, _⟩ => ⟨S256x64, .f32⟩
  | _, _ => ⟨S8x256x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamIn.lean ====
abbrev S8x256x3328 : Shape := ⟨3, ![8, 256, 3328]⟩
abbrev S256x3328 : Shape := ⟨2, ![256, 3328]⟩
abbrev S8x64x3328 : Shape := ⟨3, ![8, 64, 3328]⟩
abbrev S64x3328 : Shape := ⟨2, ![64, 3328]⟩
abbrev S1x64x3328 : Shape := ⟨3, ![1, 64, 3328]⟩

abbrev nBuf : Space → Nat
  | .hbm => 8
  | .vmem => 16
  | .smem => 0
  | _ => 0

abbrev bufTy : (tb : Table) → Fin (tcTables nBuf tb) → BufTy
  | .hbm, ⟨0, _⟩ => ⟨S8x256x3328, .bf16⟩
  | .hbm, ⟨1, _⟩ => ⟨S256x3328, .f32⟩
  | .hbm, ⟨2, _⟩ => ⟨S256x3328, .f32⟩
  | .hbm, ⟨3, _⟩ => ⟨S256x3328, .f32⟩
  | .hbm, ⟨4, _⟩ => ⟨S256x3328, .f32⟩
  | .hbm, ⟨5, _⟩ => ⟨S256x3328, .f32⟩
  | .hbm, ⟨6, _⟩ => ⟨S256x3328, .f32⟩
  | .hbm, ⟨7, _⟩ => ⟨S256x3328, .f32⟩
  | .local _ .vmem, ⟨0, _⟩ => ⟨S8x64x3328, .bf16⟩
  | .local _ .vmem, ⟨1, _⟩ => ⟨S8x64x3328, .bf16⟩
  | .local _ .vmem, ⟨2, _⟩ => ⟨S64x3328, .f32⟩
  | .local _ .vmem, ⟨3, _⟩ => ⟨S64x3328, .f32⟩
  | .local _ .vmem, ⟨4, _⟩ => ⟨S64x3328, .f32⟩
  | .local _ .vmem, ⟨5, _⟩ => ⟨S64x3328, .f32⟩
  | .local _ .vmem, ⟨6, _⟩ => ⟨S64x3328, .f32⟩
  | .local _ .vmem, ⟨7, _⟩ => ⟨S64x3328, .f32⟩
  | .local _ .vmem, ⟨8, _⟩ => ⟨S64x3328, .f32⟩
  | .local _ .vmem, ⟨9, _⟩ => ⟨S64x3328, .f32⟩
  | .local _ .vmem, ⟨10, _⟩ => ⟨S64x3328, .f32⟩
  | .local _ .vmem, ⟨11, _⟩ => ⟨S64x3328, .f32⟩
  | .local _ .vmem, ⟨12, _⟩ => ⟨S64x3328, .f32⟩
  | .local _ .vmem, ⟨13, _⟩ => ⟨S64x3328, .f32⟩
  | .local _ .vmem, ⟨14, _⟩ => ⟨S64x3328, .f32⟩
  | .local _ .vmem, ⟨15, _⟩ => ⟨S64x3328, .f32⟩
  | _, _ => ⟨S8x256x3328, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x3328 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x3328 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x3328 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x3328 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x3328 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x3328 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x3328 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x3328 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInIdeal.lean ====
abbrev S8x256x3328 : Shape := ⟨3, ![8, 256, 3328]⟩
abbrev S256x3328 : Shape := ⟨2, ![256, 3328]⟩
abbrev S8x64x3328 : Shape := ⟨3, ![8, 64, 3328]⟩
abbrev S64x3328 : Shape := ⟨2, ![64, 3328]⟩
abbrev S1x64x3328 : Shape := ⟨3, ![1, 64, 3328]⟩

abbrev nBuf : Space → Nat
  | .hbm => 8
  | .vmem => 16
  | .smem => 0
  | _ => 0

abbrev bufTy : (tb : Table) → Fin (tcTables nBuf tb) → BufTy
  | .hbm, ⟨0, _⟩ => ⟨S8x256x3328, .bf16⟩
  | .hbm, ⟨1, _⟩ => ⟨S256x3328, .f32⟩
  | .hbm, ⟨2, _⟩ => ⟨S256x3328, .f32⟩
  | .hbm, ⟨3, _⟩ => ⟨S256x3328, .f32⟩
  | .hbm, ⟨4, _⟩ => ⟨S256x3328, .f32⟩
  | .hbm, ⟨5, _⟩ => ⟨S256x3328, .f32⟩
  | .hbm, ⟨6, _⟩ => ⟨S256x3328, .f32⟩
  | .hbm, ⟨7, _⟩ => ⟨S256x3328, .f32⟩
  | .local _ .vmem, ⟨0, _⟩ => ⟨S8x64x3328, .bf16⟩
  | .local _ .vmem, ⟨1, _⟩ => ⟨S8x64x3328, .bf16⟩
  | .local _ .vmem, ⟨2, _⟩ => ⟨S64x3328, .f32⟩
  | .local _ .vmem, ⟨3, _⟩ => ⟨S64x3328, .f32⟩
  | .local _ .vmem, ⟨4, _⟩ => ⟨S64x3328, .f32⟩
  | .local _ .vmem, ⟨5, _⟩ => ⟨S64x3328, .f32⟩
  | .local _ .vmem, ⟨6, _⟩ => ⟨S64x3328, .f32⟩
  | .local _ .vmem, ⟨7, _⟩ => ⟨S64x3328, .f32⟩
  | .local _ .vmem, ⟨8, _⟩ => ⟨S64x3328, .f32⟩
  | .local _ .vmem, ⟨9, _⟩ => ⟨S64x3328, .f32⟩
  | .local _ .vmem, ⟨10, _⟩ => ⟨S64x3328, .f32⟩
  | .local _ .vmem, ⟨11, _⟩ => ⟨S64x3328, .f32⟩
  | .local _ .vmem, ⟨12, _⟩ => ⟨S64x3328, .f32⟩
  | .local _ .vmem, ⟨13, _⟩ => ⟨S64x3328, .f32⟩
  | .local _ .vmem, ⟨14, _⟩ => ⟨S64x3328, .f32⟩
  | .local _ .vmem, ⟨15, _⟩ => ⟨S64x3328, .f32⟩
  | _, _ => ⟨S8x256x3328, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x3328 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x3328 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x3328 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x3328 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x3328 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x3328 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x3328 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x3328 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInReferenceIdeal.lean ====
abbrev S8x256x3328 : Shape := ⟨3, ![8, 256, 3328]⟩
abbrev S256x3328 : Shape := ⟨2, ![256, 3328]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x256x3328, .bf16⟩
  | .hbm, ⟨1, _⟩ => ⟨S256x3328, .f32⟩
  | .hbm, ⟨2, _⟩ => ⟨S256x3328, .f32⟩
  | .hbm, ⟨3, _⟩ => ⟨S256x3328, .f32⟩
  | .hbm, ⟨4, _⟩ => ⟨S8x256x3328, .f32⟩
  | .hbm, ⟨5, _⟩ => ⟨S_, .f32⟩
  | .hbm, ⟨6, _⟩ => ⟨S256x3328, .f32⟩
  | .hbm, ⟨7, _⟩ => ⟨S_, .f32⟩
  | .hbm, ⟨8, _⟩ => ⟨S256x3328, .f32⟩
  | .hbm, ⟨9, _⟩ => ⟨S256x3328, .f32⟩
  | .hbm, ⟨10, _⟩ => ⟨S_, .f32⟩
  | .hbm, ⟨11, _⟩ => ⟨S256x3328, .f32⟩
  | .hbm, ⟨12, _⟩ => ⟨S256x3328, .f32⟩
  | .hbm, ⟨13, _⟩ => ⟨S256x3328, .f32⟩
  | .hbm, ⟨14, _⟩ => ⟨S_, .f32⟩
  | .hbm, ⟨15, _⟩ => ⟨S256x3328, .f32⟩
  | .hbm, ⟨16, _⟩ => ⟨S256x3328, .f32⟩
  | .hbm, ⟨17, _⟩ => ⟨S256x3328, .f32⟩
  | .hbm, ⟨18, _⟩ => ⟨S_, .f32⟩
  | .hbm, ⟨19, _⟩ => ⟨S256x3328, .f32⟩
  | .hbm, ⟨20, _⟩ => ⟨S256x3328, .f32⟩
  | .hbm, ⟨21, _⟩ => ⟨S256x3328, .f32⟩
  | .hbm, ⟨22, _⟩ => ⟨S_, .f32⟩
  | .hbm, ⟨23, _⟩ => ⟨S256x3328, .f32⟩
  | .hbm, ⟨24, _⟩ => ⟨S256x3328, .f32⟩
  | .hbm, ⟨25, _⟩ => ⟨S_, .f32⟩
  | .hbm, ⟨26, _⟩ => ⟨S256x3328, .f32⟩
  | .hbm, ⟨27, _⟩ => ⟨S256x3328, .f32⟩
  | .hbm, ⟨28, _⟩ => ⟨S256x3328, .f32⟩
  | .hbm, ⟨29, _⟩ => ⟨S_, .f32⟩
  | .hbm, ⟨30, _⟩ => ⟨S256x3328, .f32⟩
  | .hbm, ⟨31, _⟩ => ⟨S256x3328, .f32⟩
  | .hbm, ⟨32, _⟩ => ⟨S256x3328, .f32⟩
  | .hbm, ⟨33, _⟩ => ⟨S_, .f32⟩
  | .hbm, ⟨34, _⟩ => ⟨S256x3328, .f32⟩
  | .hbm, ⟨35, _⟩ => ⟨S256x3328, .f32⟩
  | .hbm, ⟨36, _⟩ => ⟨S256x3328, .f32⟩
  | .hbm, ⟨37, _⟩ => ⟨S_, .f32⟩
  | .hbm, ⟨38, _⟩ => ⟨S256x3328, .f32⟩
  | .hbm, ⟨39, _⟩ => ⟨S256x3328, .f32⟩
  | _, _ => ⟨S8x256x3328, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamSmall.lean ====
abbrev S8x72x128 : Shape := ⟨3, ![8, 72, 128]⟩
abbrev S72x128 : Shape := ⟨2, ![72, 128]⟩
abbrev S8x8x128 : Shape := ⟨3, ![8, 8, 128]⟩
abbrev S8x128 : Shape := ⟨2, ![8, 128]⟩
abbrev S1x8x128 : Shape := ⟨3, ![1, 8, 128]⟩

abbrev nBuf : Space → Nat
  | .hbm => 8
  | .vmem => 16
  | .smem => 0
  | _ => 0

abbrev bufTy : (tb : Table) → Fin (tcTables nBuf tb) → BufTy
  | .hbm, ⟨0, _⟩ => ⟨S8x72x128, .f32⟩
  | .hbm, ⟨1, _⟩ => ⟨S72x128, .f32⟩
  | .hbm, ⟨2, _⟩ => ⟨S72x128, .f32⟩
  | .hbm, ⟨3, _⟩ => ⟨S72x128, .f32⟩
  | .hbm, ⟨4, _⟩ => ⟨S72x128, .f32⟩
  | .hbm, ⟨5, _⟩ => ⟨S72x128, .f32⟩
  | .hbm, ⟨6, _⟩ => ⟨S72x128, .f32⟩
  | .hbm, ⟨7, _⟩ => ⟨S72x128, .f32⟩
  | .local _ .vmem, ⟨0, _⟩ => ⟨S8x8x128, .f32⟩
  | .local _ .vmem, ⟨1, _⟩ => ⟨S8x8x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | .local _ .vmem, ⟨8, _⟩ => ⟨S8x128, .f32⟩
  | .local _ .vmem, ⟨9, _⟩ => ⟨S8x128, .f32⟩
  | .local _ .vmem, ⟨10, _⟩ => ⟨S8x128, .f32⟩
  | .local _ .vmem, ⟨11, _⟩ => ⟨S8x128, .f32⟩
  | .local _ .vmem, ⟨12, _⟩ => ⟨S8x128, .f32⟩
  | .local _ .vmem, ⟨13, _⟩ => ⟨S8x128, .f32⟩
  | .local _ .vmem, ⟨14, _⟩ => ⟨S8x128, .f32⟩
  | .local _ .vmem, ⟨15, _⟩ => ⟨S8x128, .f32⟩
  | _, _ => ⟨S8x72x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![9], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamSmallReferenceIdeal.lean ====
abbrev S8x72x128 : Shape := ⟨3, ![8, 72, 128]⟩
abbrev S72x128 : Shape := ⟨2, ![72, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x72x128, .f32⟩
  | .hbm, ⟨1, _⟩ => ⟨S72x128, .f32⟩
  | .hbm, ⟨2, _⟩ => ⟨S72x128, .f32⟩
  | .hbm, ⟨3, _⟩ => ⟨S72x128, .f32⟩
  | .hbm, ⟨4, _⟩ => ⟨S_, .f32⟩
  | .hbm, ⟨5, _⟩ => ⟨S72x128, .f32⟩
  | .hbm, ⟨6, _⟩ => ⟨S_, .f32⟩
  | .hbm, ⟨7, _⟩ => ⟨S72x128, .f32⟩
  | .hbm, ⟨8, _⟩ => ⟨S72x128, .f32⟩
  | .hbm, ⟨9, _⟩ => ⟨S_, .f32⟩
  | .hbm, ⟨10, _⟩ => ⟨S72x128, .f32⟩
  | .hbm, ⟨11, _⟩ => ⟨S72x128, .f32⟩
  | .hbm, ⟨12, _⟩ => ⟨S72x128, .f32⟩
  | .hbm, ⟨13, _⟩ => ⟨S_, .f32⟩
  | .hbm, ⟨14, _⟩ => ⟨S72x128, .f32⟩
  | .hbm, ⟨15, _⟩ => ⟨S72x128, .f32⟩
  | .hbm, ⟨16, _⟩ => ⟨S72x128, .f32⟩
  | .hbm, ⟨17, _⟩ => ⟨S_, .f32⟩
  | .hbm, ⟨18, _⟩ => ⟨S72x128, .f32⟩
  | .hbm, ⟨19, _⟩ => ⟨S72x128, .f32⟩
  | .hbm, ⟨20, _⟩ => ⟨S72x128, .f32⟩
  | .hbm, ⟨21, _⟩ => ⟨S_, .f32⟩
  | .hbm, ⟨22, _⟩ => ⟨S72x128, .f32⟩
  | .hbm, ⟨23, _⟩ => ⟨S72x128, .f32⟩
  | .hbm, ⟨24, _⟩ => ⟨S_, .f32⟩
  | .hbm, ⟨25, _⟩ => ⟨S72x128, .f32⟩
  | .hbm, ⟨26, _⟩ => ⟨S72x128, .f32⟩
  | .hbm, ⟨27, _⟩ => ⟨S72x128, .f32⟩
  | .hbm, ⟨28, _⟩ => ⟨S_, .f32⟩
  | .hbm, ⟨29, _⟩ => ⟨S72x128, .f32⟩
  | .hbm, ⟨30, _⟩ => ⟨S72x128, .f32⟩
  | .hbm, ⟨31, _⟩ => ⟨S72x128, .f32⟩
  | .hbm, ⟨32, _⟩ => ⟨S_, .f32⟩
  | .hbm, ⟨33, _⟩ => ⟨S72x128, .f32⟩
  | .hbm, ⟨34, _⟩ => ⟨S72x128, .f32⟩
  | .hbm, ⟨35, _⟩ => ⟨S72x128, .f32⟩
  | .hbm, ⟨36, _⟩ => ⟨S_, .f32⟩
  | .hbm, ⟨37, _⟩ => ⟨S72x128, .f32⟩
  | .hbm, ⟨38, _⟩ => ⟨S72x128, .f32⟩
  | _, _ => ⟨S8x72x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Proof.Mla.Trip.lean ====
/- One trip of the kernel's loop over the earlier key blocks, in closed form, and the loads and stores of
   blocks of 512 rows read at a place. -/
module

public import proofs.«01_k».proof.Proof.Gen.KernelIdeal.Loops
public import Idealize.ShloMosaic.Lib.Pointwise
public import Idealize.ShloMosaic.Lib.VecWindow
public import Idealize.ShloMosaic.Lib.WritesUnit

@[expose] public section

set_option maxRecDepth 16384

noncomputable section

namespace Cert.Mla

open Idealize.ShloMosaic Idealize.SL.Sem Idealize.ShloMosaic.TcCoe
open Cert.KernelIdeal Cert.KernelIdeal.Gen

section Rows

variable {Val : EltTy → Type} {C : ℕ} {e : EltTy} (v : View sig .tc .vmem (⟨3, ![1, 8192, C]⟩ : Shape) e)
  (f : v.ty.Contents Val) {off : Fin 3 → ℕ}
  (inb : ∀ a : Fin 3, off a + (![1, 512, C] : Fin 3 → ℕ) a ≤ (![1, 8192, C] : Fin 3 → ℕ) a)
  (o : ℕ) (h : off = ![0, o, 0])

include h

/-- A load of 512 rows from row `o`, at a place. -/
theorem rd_rows (x : Fin 512) (d : Fin C) (hx : o + x.val < 8192) :
    v.readAt Val (Rect.unit (s := ⟨3, ![1, 8192, C]⟩) off ![1, 512, C] inb).toLoadRect f (ix3 0 x d)
      = v.read Val f (ix3 0 ⟨o + x.val, hx⟩ d) := by
  subst h
  rw [View.readAt_apply]
  refine congrArg _ (funext fun a => Fin.ext ?_)
  show (![0, o, 0] : Fin 3 → ℕ) a + 1 * _ = _
  fin_cases a
  · rfl
  · show o + 1 * x.val = o + x.val
    omega
  · show 0 + 1 * d.val = d.val
    omega

variable (w : (Rect.unit (s := ⟨3, ![1, 8192, C]⟩) off ![1, 512, C] inb).shape.Idx → Val e)
  (L : List (View.Piece Val (⟨3, ![1, 8192, C]⟩ : Shape) e))

/-- A place under the newest store of 512 rows reads the store. -/
theorem wr_hit (x : Fin 512) (d : Fin C) (hx : o + x.val < 8192) :
    v.read Val (v.writes Val f ((⟨Rect.unit (s := ⟨3, ![1, 8192, C]⟩) off ![1, 512, C] inb, w⟩ :
        View.Piece Val (⟨3, ![1, 8192, C]⟩ : Shape) e) :: L)) (ix3 0 ⟨o + x.val, hx⟩ d) = w (ix3 0 x d) := by
  refine View.read_writes_cons_unit_of_mem v f inb w L _ (ix3 0 x d) h fun a => ?_
  fin_cases a
  · rfl
  · rfl
  · show d.val = 0 + d.val
    omega

/-- A place outside the newest store of 512 rows reads what the earlier stores left. -/
theorem wr_miss (a : Fin 8192) (d : Fin C) (ha : a.val < o ∨ o + 512 ≤ a.val) :
    v.read Val (v.writes Val f ((⟨Rect.unit (s := ⟨3, ![1, 8192, C]⟩) off ![1, 512, C] inb, w⟩ :
        View.Piece Val (⟨3, ![1, 8192, C]⟩ : Shape) e) :: L)) (ix3 0 a d)
      = v.read Val (v.writes Val f L) (ix3 0 a d) :=
  View.read_writes_cons_unit_of_not_mem v f inb w L _ h (1 : Fin 3) ha

end Rows

variable {F : FTy → Type} [FloatOps F] [Named F]

/-- The 512 rows of 128 lanes at an offset. -/
abbrev rows128 {e : EltTy} (v : View sig .tc .vmem S1x8192x128 e) (f : v.ty.Contents (Elt F)) (off : Fin 3 → ℕ)
    (inb : ∀ a : Fin 3, off a + (![1, 512, 128] : Fin 3 → ℕ) a ≤ S1x8192x128.size a) : Vec F S1x512x128 e :=
  v.readAt (Elt F) (Rect.unit (s := S1x8192x128) off ![1, 512, 128] inb).toLoadRect f

/-- The 512 rows of 64 lanes at an offset. -/
abbrev rows64 {e : EltTy} (v : View sig .tc .vmem S1x8192x64 e) (f : v.ty.Contents (Elt F)) (off : Fin 3 → ℕ)
    (inb : ∀ a : Fin 3, off a + (![1, 512, 64] : Fin 3 → ℕ) a ≤ S1x8192x64.size a) : Vec F S1x512x64 e :=
  v.readAt (Elt F) (Rect.unit (s := S1x8192x64) off ![1, 512, 64] inb).toLoadRect f

/-- What one trip yields. -/
theorem tripR_eq (𝒱 : Variants) (c : Dev nD) (bd : Option 𝒱.V) (i : grid0.Coords) (arg2 : Memref sig .tc .vmem S1x512x128 .bf16) (harg2 : arg2.IsWhole) (arg3 : Memref sig .tc .vmem S1x8192x128 .bf16) (harg3 : arg3.IsWhole) (arg4 : Memref sig .tc .vmem S1x8192x64 .bf16) (harg4 : arg4.IsWhole) (arg5 : Memref sig .tc .vmem S1x64x512 .f32) (harg5 : arg5.IsWhole) (arg6 : Memref sig .tc .vmem S1x1x512 .f32) (harg6 : arg6.IsWhole) (arg7 : Memref sig .tc .vmem S1x64x512 .f32) (harg7 : arg7.IsWhole) (arg8 : Memref sig .tc .vmem S1x512x64 .bf16) (harg8 : arg8.IsWhole) (arg9 : Memref sig .tc .vmem S1x512x128 .f32) (harg9 : arg9.IsWhole) (arg10 : Memref sig .tc .vmem S1x8192x128 .f32) (harg10 : arg10.IsWhole) (arg11 : Memref sig .tc .vmem S1x8192x64 .f32) (harg11 : arg11.IsWhole) (v3 : Vec F S1x512x128 .bf16) (v6 : Vec F S1x512x64 .bf16) (v8 : Vec F S1x64x512 .f32) (v11 : Vec F S1x64x512 .f32) (v16 : Vec F S1x1x512 .f32) (X_arg3 : BufTy.Contents (Elt F) arg3.view.ty) (X_arg4 : BufTy.Contents (Elt F) arg4.view.ty) (k : Fin (k0_t1_loop i).trips) (acc : FVec F S128x512 .f32) (f_arg10 : BufTy.Contents (Elt F) arg10.view.ty) (f_arg11 : BufTy.Contents (Elt F) arg11.view.ty) :
    tripR_k0_t1 (F := F) 𝒱 c bd i arg2 harg2 arg3 harg3 arg4 harg4 arg5 harg5 arg6 harg6 arg7 harg7 arg8 harg8 arg9 harg9 arg10 harg10 arg11 harg11 v3 v6 v8 v11 v16 X_arg3 X_arg4 k acc f_arg10 f_arg11
      = k0_pay24 acc
          (k0_pay3 (rows128 arg3.view X_arg3 (k0_off1 i k) (k0_off1_inb i k)))
          (k0_pay5 (k0_pay16 v3) (k0_pay19 v8) (k0_pay20 v8 v11) (k0_pay21 v16)
            (rows128 arg3.view X_arg3 (k0_off1 i k) (k0_off1_inb i k))
            (rows64 arg4.view X_arg4 (k0_off2 i k) (k0_off2_inb i k))) := by
  unfold tripR_k0_t1 trip_k0_t1
  rfl

/-- What one trip stores. -/
theorem tripL_eq (𝒱 : Variants) (c : Dev nD) (bd : Option 𝒱.V) (i : grid0.Coords) (arg2 : Memref sig .tc .vmem S1x512x128 .bf16) (harg2 : arg2.IsWhole) (arg3 : Memref sig .tc .vmem S1x8192x128 .bf16) (harg3 : arg3.IsWhole) (arg4 : Memref sig .tc .vmem S1x8192x64 .bf16) (harg4 : arg4.IsWhole) (arg5 : Memref sig .tc .vmem S1x64x512 .f32) (harg5 : arg5.IsWhole) (arg6 : Memref sig .tc .vmem S1x1x512 .f32) (harg6 : arg6.IsWhole) (arg7 : Memref sig .tc .vmem S1x64x512 .f32) (harg7 : arg7.IsWhole) (arg8 : Memref sig .tc .vmem S1x512x64 .bf16) (harg8 : arg8.IsWhole) (arg9 : Memref sig .tc .vmem S1x512x128 .f32) (harg9 : arg9.IsWhole) (arg10 : Memref sig .tc .vmem S1x8192x128 .f32) (harg10 : arg10.IsWhole) (arg11 : Memref sig .tc .vmem S1x8192x64 .f32) (harg11 : arg11.IsWhole) (v3 : Vec F S1x512x128 .bf16) (v6 : Vec F S1x512x64 .bf16) (v8 : Vec F S1x64x512 .f32) (v11 : Vec F S1x64x512 .f32) (v16 : Vec F S1x1x512 .f32) (X_arg3 : BufTy.Contents (Elt F) arg3.view.ty) (X_arg4 : BufTy.Contents (Elt F) arg4.view.ty) (k : Fin (k0_t1_loop i).trips) (acc : FVec F S128x512 .f32) (f_arg10 : BufTy.Contents (Elt F) arg10.view.ty) (f_arg11 : BufTy.Contents (Elt F) arg11.view.ty) :
    tripL_k0_t1 (F := F) 𝒱 c bd i arg2 harg2 arg3 harg3 arg4 harg4 arg5 harg5 arg6 harg6 arg7 harg7 arg8 harg8 arg9 harg9 arg10 harg10 arg11 harg11 v3 v6 v8 v11 v16 X_arg3 X_arg4 k acc f_arg10 f_arg11
      = ([⟨Rect.unit (k0_off1 i k) ![1, 512, 128] (k0_off1_inb i k),
          k0_pay23 (k0_pay7 (k0_pay15 v3) (k0_pay16 v3) (k0_pay19 v8) (k0_pay20 v8 v11) (k0_pay21 v16)
            (rows128 arg3.view X_arg3 (k0_off1 i k) (k0_off1_inb i k))
            (rows64 arg4.view X_arg4 (k0_off2 i k) (k0_off2_inb i k))
            (rows128 arg10.view f_arg10 (k0_off1 i k) (k0_off1_inb i k)))⟩],
         [⟨Rect.unit (k0_off2 i k) ![1, 512, 64] (k0_off2_inb i k),
          k0_pay6 (k0_pay16 v3) (k0_pay17 v6) (k0_pay21 v16)
            (rows128 arg3.view X_arg3 (k0_off1 i k) (k0_off1_inb i k))
            (rows64 arg11.view f_arg11 (k0_off2 i k) (k0_off2_inb i k))⟩]) := by
  unfold tripL_k0_t1 trip_k0_t1
  rfl

theorem trips1 (i : grid0.Coords) : (k0_t1_loop i).trips = (i 1).val := by
  revert i; decide +kernel

theorem trips2 (i : grid0.Coords) : (k0_t2_loop i).trips = 0 :=
  Nat.le_zero.1 (k0_t2_abs i).2.1

end Cert.Mla
-- ==== Proof.Mla.Point.lean ====
/- What one grid point leaves in the outputs' blocks, in closed form. -/
module

public import proofs.«01_k».proof.Proof.Gen.KernelIdeal.Frame
public import proofs.«01_k».proof.Proof.Mla.Trip

@[expose] public section

set_option maxRecDepth 16384

noncomputable section

namespace Cert.Mla

open Idealize.ShloMosaic Idealize.SL.Sem Idealize.ShloMosaic.TcCoe
open Cert.KernelIdeal Cert.KernelIdeal.Gen

variable {F : FTy → Type} [FloatOps F] [Named F]

/-- A load of a whole block. -/
abbrev ld3 {A B C : ℕ} {e : EltTy} (v : View sig .tc .vmem (⟨3, ![A, B, C]⟩ : Shape) e) (f : v.ty.Contents (Elt F))
    (inb : ∀ a : Fin 3, (![0, 0, 0] : Fin 3 → ℕ) a + (![A, B, C] : Fin 3 → ℕ) a ≤ (![A, B, C] : Fin 3 → ℕ) a) :
    Vec F ⟨3, ![A, B, C]⟩ e :=
  v.readAt (Elt F) (Rect.unit (s := ⟨3, ![A, B, C]⟩) ![0, 0, 0] ![A, B, C] inb).toLoadRect f

theorem ld3_apply {A B C : ℕ} {e : EltTy} (v : View sig .tc .vmem (⟨3, ![A, B, C]⟩ : Shape) e) (f : v.ty.Contents (Elt F))
    (inb : ∀ a : Fin 3, (![0, 0, 0] : Fin 3 → ℕ) a + (![A, B, C] : Fin 3 → ℕ) a ≤ (![A, B, C] : Fin 3 → ℕ) a)
    (a : Fin A) (b : Fin B) (d : Fin C) : ld3 v f inb (ix3 a b d) = v.read (Elt F) f (ix3 a b d) := by
  rw [ld3, View.readAt_apply]
  refine congrArg _ (funext fun x => Fin.ext ?_)
  show (![0, 0, 0] : Fin 3 → ℕ) x + 1 * _ = _
  fin_cases x
  · show 0 + 1 * a.val = a.val
    omega
  · show 0 + 1 * b.val = b.val
    omega
  · show 0 + 1 * d.val = d.val
    omega

theorem out0_B_7_run (c : Dev nD) (i : grid0.Coords) (arg2 : Memref sig .tc .vmem S1x512x128 .bf16) (harg2 : arg2.IsWhole) (arg3 : Memref sig .tc .vmem S1x8192x128 .bf16) (harg3 : arg3.IsWhole) (arg4 : Memref sig .tc .vmem S1x8192x64 .bf16) (harg4 : arg4.IsWhole) (arg5 : Memref sig .tc .vmem S1x64x512 .f32) (harg5 : arg5.IsWhole) (arg6 : Memref sig .tc .vmem S1x1x512 .f32) (harg6 : arg6.IsWhole) (arg7 : Memref sig .tc .vmem S1x64x512 .f32) (harg7 : arg7.IsWhole) (arg8 : Memref sig .tc .vmem S1x512x64 .bf16) (harg8 : arg8.IsWhole) (arg9 : Memref sig .tc .vmem S1x512x128 .f32) (harg9 : arg9.IsWhole) (arg10 : Memref sig .tc .vmem S1x8192x128 .f32) (harg10 : arg10.IsWhole) (arg11 : Memref sig .tc .vmem S1x8192x64 .f32) (harg11 : arg11.IsWhole) (hc0 : ¬ cond0_0 i) (x0 : Vec F S1x512x128 .bf16) (x1 : Vec F S1x8192x128 .bf16) (x2 : Vec F S1x8192x64 .bf16) (x3 : Vec F S1x64x512 .f32) (x4 : Vec F S1x1x512 .f32) (x5 : Vec F S1x64x512 .f32) (x6 : Vec F S1x512x64 .bf16) (x8 : Vec F S1x8192x128 .f32) (x9 : Vec F S1x8192x64 .f32) :
    out0_B_7 (F := F) c i arg2 harg2 arg3 harg3 arg4 harg4 arg5 harg5 arg6 harg6 arg7 harg7 arg8 harg8 arg9 harg9 arg10 harg10 arg11 harg11 hc0 x0 x1 x2 x3 x4 x5 x6 x8 x9
      = VO0_7.read (Elt F) (VO0_7.writes (Elt F) VO0_7.junk [(⟨Rect.unit (s := S1x512x128) ![0, 0, 0] ![1, 512, 128] inb_S1x512x128_S1x512x128_0_0_0, k0_pay2 (st_k0_t2 (F := F) Variants.none c none i arg2 harg2 arg3 harg3 arg4 harg4 arg5 harg5 arg6 harg6 arg7 harg7 arg8 harg8 arg9 harg9 arg10 harg10 arg11 harg11 (ld3 arg2.view (harg2.unread x0) inb_S1x512x128_S1x512x128_0_0_0) (ld3 arg8.view (harg8.unread x6) inb_S1x512x64_S1x512x64_0_0_0) (ld3 arg7.view (harg7.unread x5) inb_S1x64x512_S1x64x512_0_0_0) (ld3 arg5.view (harg5.unread x3) inb_S1x64x512_S1x64x512_0_0_0) (ld3 arg6.view (harg6.unread x4) inb_S1x1x512_S1x1x512_0_0_0) (kernelRun0_B.sl.v23 i) (harg3.unread x1) (harg4.unread x2) (arg10.view.writes (Elt F) (harg10.unread x8) (st_k0_t1 (F := F) Variants.none c none i arg2 harg2 arg3 harg3 arg4 harg4 arg5 harg5 arg6 harg6 arg7 harg7 arg8 harg8 arg9 harg9 arg10 harg10 arg11 harg11 (ld3 arg2.view (harg2.unread x0) inb_S1x512x128_S1x512x128_0_0_0) (ld3 arg8.view (harg8.unread x6) inb_S1x512x64_S1x512x64_0_0_0) (ld3 arg7.view (harg7.unread x5) inb_S1x64x512_S1x64x512_0_0_0) (ld3 arg5.view (harg5.unread x3) inb_S1x64x512_S1x64x512_0_0_0) (ld3 arg6.view (harg6.unread x4) inb_S1x1x512_S1x1x512_0_0_0) (harg3.unread x1) (harg4.unread x2) (harg10.unread x8) (harg11.unread x9) k0_pay22 (k0_t1_loop i).trips).2.1) (arg11.view.writes (Elt F) (harg11.unread x9) (st_k0_t1 (F := F) Variants.none c none i arg2 harg2 arg3 harg3 arg4 harg4 arg5 harg5 arg6 harg6 arg7 harg7 arg8 harg8 arg9 harg9 arg10 harg10 arg11 harg11 (ld3 arg2.view (harg2.unread x0) inb_S1x512x128_S1x512x128_0_0_0) (ld3 arg8.view (harg8.unread x6) inb_S1x512x64_S1x512x64_0_0_0) (ld3 arg7.view (harg7.unread x5) inb_S1x64x512_S1x64x512_0_0_0) (ld3 arg5.view (harg5.unread x3) inb_S1x64x512_S1x64x512_0_0_0) (ld3 arg6.view (harg6.unread x4) inb_S1x1x512_S1x1x512_0_0_0) (harg3.unread x1) (harg4.unread x2) (harg10.unread x8) (harg11.unread x9) k0_pay22 (k0_t1_loop i).trips).2.2) (st_k0_t1 (F := F) Variants.none c none i arg2 harg2 arg3 harg3 arg4 harg4 arg5 harg5 arg6 harg6 arg7 harg7 arg8 harg8 arg9 harg9 arg10 harg10 arg11 harg11 (ld3 arg2.view (harg2.unread x0) inb_S1x512x128_S1x512x128_0_0_0) (ld3 arg8.view (harg8.unread x6) inb_S1x512x64_S1x512x64_0_0_0) (ld3 arg7.view (harg7.unread x5) inb_S1x64x512_S1x64x512_0_0_0) (ld3 arg5.view (harg5.unread x3) inb_S1x64x512_S1x64x512_0_0_0) (ld3 arg6.view (harg6.unread x4) inb_S1x1x512_S1x1x512_0_0_0) (harg3.unread x1) (harg4.unread x2) (harg10.unread x8) (harg11.unread x9) k0_pay22 (k0_t1_loop i).trips).1 (k0_t2_loop i).trips).1 (k0_pay27 (rows128 arg3.view (harg3.unread x1) (k0_off5 i) (k0_off5_inb i))) (k0_pay29 (BitVec.ofNat 32 (i 1).val) (k0_pay16 (ld3 arg2.view (harg2.unread x0) inb_S1x512x128_S1x512x128_0_0_0)) (k0_pay19 (ld3 arg7.view (harg7.unread x5) inb_S1x64x512_S1x64x512_0_0_0)) (k0_pay20 (ld3 arg7.view (harg7.unread x5) inb_S1x64x512_S1x64x512_0_0_0) (ld3 arg5.view (harg5.unread x3) inb_S1x64x512_S1x64x512_0_0_0)) (k0_pay21 (ld3 arg6.view (harg6.unread x4) inb_S1x1x512_S1x1x512_0_0_0)) (k0_pay27 (rows128 arg3.view (harg3.unread x1) (k0_off5 i) (k0_off5_inb i))) (rows64 arg4.view (harg4.unread x2) (k0_off6 i) (k0_off6_inb i)))⟩ : View.Piece (Elt F) S1x512x128 .f32)]) := by
  unfold out0_B_7 kernelRun0_B
  rfl

theorem out0_B_7_eq (c : Dev nD) (i : grid0.Coords) (arg2 : Memref sig .tc .vmem S1x512x128 .bf16) (harg2 : arg2.IsWhole) (arg3 : Memref sig .tc .vmem S1x8192x128 .bf16) (harg3 : arg3.IsWhole) (arg4 : Memref sig .tc .vmem S1x8192x64 .bf16) (harg4 : arg4.IsWhole) (arg5 : Memref sig .tc .vmem S1x64x512 .f32) (harg5 : arg5.IsWhole) (arg6 : Memref sig .tc .vmem S1x1x512 .f32) (harg6 : arg6.IsWhole) (arg7 : Memref sig .tc .vmem S1x64x512 .f32) (harg7 : arg7.IsWhole) (arg8 : Memref sig .tc .vmem S1x512x64 .bf16) (harg8 : arg8.IsWhole) (arg9 : Memref sig .tc .vmem S1x512x128 .f32) (harg9 : arg9.IsWhole) (arg10 : Memref sig .tc .vmem S1x8192x128 .f32) (harg10 : arg10.IsWhole) (arg11 : Memref sig .tc .vmem S1x8192x64 .f32) (harg11 : arg11.IsWhole) (hc0 : ¬ cond0_0 i) (x0 : Vec F S1x512x128 .bf16) (x1 : Vec F S1x8192x128 .bf16) (x2 : Vec F S1x8192x64 .bf16) (x3 : Vec F S1x64x512 .f32) (x4 : Vec F S1x1x512 .f32) (x5 : Vec F S1x64x512 .f32) (x6 : Vec F S1x512x64 .bf16) (x8 : Vec F S1x8192x128 .f32) (x9 : Vec F S1x8192x64 .f32) :
    out0_B_7 (F := F) c i arg2 harg2 arg3 harg3 arg4 harg4 arg5 harg5 arg6 harg6 arg7 harg7 arg8 harg8 arg9 harg9 arg10 harg10 arg11 harg11 hc0 x0 x1 x2 x3 x4 x5 x6 x8 x9
      = VO0_7.read (Elt F) (VO0_7.writes (Elt F) VO0_7.junk [(⟨Rect.unit (s := S1x512x128) ![0, 0, 0] ![1, 512, 128] inb_S1x512x128_S1x512x128_0_0_0, k0_pay2 (st_k0_t1 (F := F) Variants.none c none i arg2 harg2 arg3 harg3 arg4 harg4 arg5 harg5 arg6 harg6 arg7 harg7 arg8 harg8 arg9 harg9 arg10 harg10 arg11 harg11 (ld3 arg2.view (harg2.unread x0) inb_S1x512x128_S1x512x128_0_0_0) (ld3 arg8.view (harg8.unread x6) inb_S1x512x64_S1x512x64_0_0_0) (ld3 arg7.view (harg7.unread x5) inb_S1x64x512_S1x64x512_0_0_0) (ld3 arg5.view (harg5.unread x3) inb_S1x64x512_S1x64x512_0_0_0) (ld3 arg6.view (harg6.unread x4) inb_S1x1x512_S1x1x512_0_0_0) (harg3.unread x1) (harg4.unread x2) (harg10.unread x8) (harg11.unread x9) k0_pay22 (k0_t1_loop i).trips).1 (k0_pay27 (rows128 arg3.view (harg3.unread x1) (k0_off5 i) (k0_off5_inb i))) (k0_pay29 (BitVec.ofNat 32 (i 1).val) (k0_pay16 (ld3 arg2.view (harg2.unread x0) inb_S1x512x128_S1x512x128_0_0_0)) (k0_pay19 (ld3 arg7.view (harg7.unread x5) inb_S1x64x512_S1x64x512_0_0_0)) (k0_pay20 (ld3 arg7.view (harg7.unread x5) inb_S1x64x512_S1x64x512_0_0_0) (ld3 arg5.view (harg5.unread x3) inb_S1x64x512_S1x64x512_0_0_0)) (k0_pay21 (ld3 arg6.view (harg6.unread x4) inb_S1x1x512_S1x1x512_0_0_0)) (k0_pay27 (rows128 arg3.view (harg3.unread x1) (k0_off5 i) (k0_off5_inb i))) (rows64 arg4.view (harg4.unread x2) (k0_off6 i) (k0_off6_inb i)))⟩ : View.Piece (Elt F) S1x512x128 .f32)]) := by
  rw [out0_B_7_run, trips2]
  rfl

theorem out0_B_8_run (c : Dev nD) (i : grid0.Coords) (arg2 : Memref sig .tc .vmem S1x512x128 .bf16) (harg2 : arg2.IsWhole) (arg3 : Memref sig .tc .vmem S1x8192x128 .bf16) (harg3 : arg3.IsWhole) (arg4 : Memref sig .tc .vmem S1x8192x64 .bf16) (harg4 : arg4.IsWhole) (arg5 : Memref sig .tc .vmem S1x64x512 .f32) (harg5 : arg5.IsWhole) (arg6 : Memref sig .tc .vmem S1x1x512 .f32) (harg6 : arg6.IsWhole) (arg7 : Memref sig .tc .vmem S1x64x512 .f32) (harg7 : arg7.IsWhole) (arg8 : Memref sig .tc .vmem S1x512x64 .bf16) (harg8 : arg8.IsWhole) (arg9 : Memref sig .tc .vmem S1x512x128 .f32) (harg9 : arg9.IsWhole) (arg10 : Memref sig .tc .vmem S1x8192x128 .f32) (harg10 : arg10.IsWhole) (arg11 : Memref sig .tc .vmem S1x8192x64 .f32) (harg11 : arg11.IsWhole) (hc0 : ¬ cond0_0 i) (x0 : Vec F S1x512x128 .bf16) (x1 : Vec F S1x8192x128 .bf16) (x2 : Vec F S1x8192x64 .bf16) (x3 : Vec F S1x64x512 .f32) (x4 : Vec F S1x1x512 .f32) (x5 : Vec F S1x64x512 .f32) (x6 : Vec F S1x512x64 .bf16) (x8 : Vec F S1x8192x128 .f32) (x9 : Vec F S1x8192x64 .f32) :
    out0_B_8 (F := F) c i arg2 harg2 arg3 harg3 arg4 harg4 arg5 harg5 arg6 harg6 arg7 harg7 arg8 harg8 arg9 harg9 arg10 harg10 arg11 harg11 hc0 x0 x1 x2 x3 x4 x5 x6 x8 x9
      = arg10.view.read (Elt F) (arg10.view.writes (Elt F) (harg10.unread x8) ((⟨Rect.unit (s := S1x8192x128) (k0_off5 i) ![1, 512, 128] (k0_off5_inb i), k0_pay1 (k0_pay31 (BitVec.ofNat 32 (i 1).val) (k0_pay15 (ld3 arg2.view (harg2.unread x0) inb_S1x512x128_S1x512x128_0_0_0)) (k0_pay16 (ld3 arg2.view (harg2.unread x0) inb_S1x512x128_S1x512x128_0_0_0)) (k0_pay19 (ld3 arg7.view (harg7.unread x5) inb_S1x64x512_S1x64x512_0_0_0)) (k0_pay20 (ld3 arg7.view (harg7.unread x5) inb_S1x64x512_S1x64x512_0_0_0) (ld3 arg5.view (harg5.unread x3) inb_S1x64x512_S1x64x512_0_0_0)) (k0_pay21 (ld3 arg6.view (harg6.unread x4) inb_S1x1x512_S1x1x512_0_0_0)) (k0_pay27 (rows128 arg3.view (harg3.unread x1) (k0_off5 i) (k0_off5_inb i))) (rows64 arg4.view (harg4.unread x2) (k0_off6 i) (k0_off6_inb i)) (rows128 arg10.view (arg10.view.writes (Elt F) (harg10.unread x8) ((st_k0_t2 (F := F) Variants.none c none i arg2 harg2 arg3 harg3 arg4 harg4 arg5 harg5 arg6 harg6 arg7 harg7 arg8 harg8 arg9 harg9 arg10 harg10 arg11 harg11 (ld3 arg2.view (harg2.unread x0) inb_S1x512x128_S1x512x128_0_0_0) (ld3 arg8.view (harg8.unread x6) inb_S1x512x64_S1x512x64_0_0_0) (ld3 arg7.view (harg7.unread x5) inb_S1x64x512_S1x64x512_0_0_0) (ld3 arg5.view (harg5.unread x3) inb_S1x64x512_S1x64x512_0_0_0) (ld3 arg6.view (harg6.unread x4) inb_S1x1x512_S1x1x512_0_0_0) (kernelRun0_B.sl.v23 i) (harg3.unread x1) (harg4.unread x2) (arg10.view.writes (Elt F) (harg10.unread x8) (st_k0_t1 (F := F) Variants.none c none i arg2 harg2 arg3 harg3 arg4 harg4 arg5 harg5 arg6 harg6 arg7 harg7 arg8 harg8 arg9 harg9 arg10 harg10 arg11 harg11 (ld3 arg2.view (harg2.unread x0) inb_S1x512x128_S1x512x128_0_0_0) (ld3 arg8.view (harg8.unread x6) inb_S1x512x64_S1x512x64_0_0_0) (ld3 arg7.view (harg7.unread x5) inb_S1x64x512_S1x64x512_0_0_0) (ld3 arg5.view (harg5.unread x3) inb_S1x64x512_S1x64x512_0_0_0) (ld3 arg6.view (harg6.unread x4) inb_S1x1x512_S1x1x512_0_0_0) (harg3.unread x1) (harg4.unread x2) (harg10.unread x8) (harg11.unread x9) k0_pay22 (k0_t1_loop i).trips).2.1) (arg11.view.writes (Elt F) (harg11.unread x9) (st_k0_t1 (F := F) Variants.none c none i arg2 harg2 arg3 harg3 arg4 harg4 arg5 harg5 arg6 harg6 arg7 harg7 arg8 harg8 arg9 harg9 arg10 harg10 arg11 harg11 (ld3 arg2.view (harg2.unread x0) inb_S1x512x128_S1x512x128_0_0_0) (ld3 arg8.view (harg8.unread x6) inb_S1x512x64_S1x512x64_0_0_0) (ld3 arg7.view (harg7.unread x5) inb_S1x64x512_S1x64x512_0_0_0) (ld3 arg5.view (harg5.unread x3) inb_S1x64x512_S1x64x512_0_0_0) (ld3 arg6.view (harg6.unread x4) inb_S1x1x512_S1x1x512_0_0_0) (harg3.unread x1) (harg4.unread x2) (harg10.unread x8) (harg11.unread x9) k0_pay22 (k0_t1_loop i).trips).2.2) (st_k0_t1 (F := F) Variants.none c none i arg2 harg2 arg3 harg3 arg4 harg4 arg5 harg5 arg6 harg6 arg7 harg7 arg8 harg8 arg9 harg9 arg10 harg10 arg11 harg11 (ld3 arg2.view (harg2.unread x0) inb_S1x512x128_S1x512x128_0_0_0) (ld3 arg8.view (harg8.unread x6) inb_S1x512x64_S1x512x64_0_0_0) (ld3 arg7.view (harg7.unread x5) inb_S1x64x512_S1x64x512_0_0_0) (ld3 arg5.view (harg5.unread x3) inb_S1x64x512_S1x64x512_0_0_0) (ld3 arg6.view (harg6.unread x4) inb_S1x1x512_S1x1x512_0_0_0) (harg3.unread x1) (harg4.unread x2) (harg10.unread x8) (harg11.unread x9) k0_pay22 (k0_t1_loop i).trips).1 (k0_t2_loop i).trips).2.1 ++ (st_k0_t1 (F := F) Variants.none c none i arg2 harg2 arg3 harg3 arg4 harg4 arg5 harg5 arg6 harg6 arg7 harg7 arg8 harg8 arg9 harg9 arg10 harg10 arg11 harg11 (ld3 arg2.view (harg2.unread x0) inb_S1x512x128_S1x512x128_0_0_0) (ld3 arg8.view (harg8.unread x6) inb_S1x512x64_S1x512x64_0_0_0) (ld3 arg7.view (harg7.unread x5) inb_S1x64x512_S1x64x512_0_0_0) (ld3 arg5.view (harg5.unread x3) inb_S1x64x512_S1x64x512_0_0_0) (ld3 arg6.view (harg6.unread x4) inb_S1x1x512_S1x1x512_0_0_0) (harg3.unread x1) (harg4.unread x2) (harg10.unread x8) (harg11.unread x9) k0_pay22 (k0_t1_loop i).trips).2.1)) (k0_off5 i) (k0_off5_inb i)))⟩ : View.Piece (Elt F) S1x8192x128 .f32) :: ((st_k0_t2 (F := F) Variants.none c none i arg2 harg2 arg3 harg3 arg4 harg4 arg5 harg5 arg6 harg6 arg7 harg7 arg8 harg8 arg9 harg9 arg10 harg10 arg11 harg11 (ld3 arg2.view (harg2.unread x0) inb_S1x512x128_S1x512x128_0_0_0) (ld3 arg8.view (harg8.unread x6) inb_S1x512x64_S1x512x64_0_0_0) (ld3 arg7.view (harg7.unread x5) inb_S1x64x512_S1x64x512_0_0_0) (ld3 arg5.view (harg5.unread x3) inb_S1x64x512_S1x64x512_0_0_0) (ld3 arg6.view (harg6.unread x4) inb_S1x1x512_S1x1x512_0_0_0) (kernelRun0_B.sl.v23 i) (harg3.unread x1) (harg4.unread x2) (arg10.view.writes (Elt F) (harg10.unread x8) (st_k0_t1 (F := F) Variants.none c none i arg2 harg2 arg3 harg3 arg4 harg4 arg5 harg5 arg6 harg6 arg7 harg7 arg8 harg8 arg9 harg9 arg10 harg10 arg11 harg11 (ld3 arg2.view (harg2.unread x0) inb_S1x512x128_S1x512x128_0_0_0) (ld3 arg8.view (harg8.unread x6) inb_S1x512x64_S1x512x64_0_0_0) (ld3 arg7.view (harg7.unread x5) inb_S1x64x512_S1x64x512_0_0_0) (ld3 arg5.view (harg5.unread x3) inb_S1x64x512_S1x64x512_0_0_0) (ld3 arg6.view (harg6.unread x4) inb_S1x1x512_S1x1x512_0_0_0) (harg3.unread x1) (harg4.unread x2) (harg10.unread x8) (harg11.unread x9) k0_pay22 (k0_t1_loop i).trips).2.1) (arg11.view.writes (Elt F) (harg11.unread x9) (st_k0_t1 (F := F) Variants.none c none i arg2 harg2 arg3 harg3 arg4 harg4 arg5 harg5 arg6 harg6 arg7 harg7 arg8 harg8 arg9 harg9 arg10 harg10 arg11 harg11 (ld3 arg2.view (harg2.unread x0) inb_S1x512x128_S1x512x128_0_0_0) (ld3 arg8.view (harg8.unread x6) inb_S1x512x64_S1x512x64_0_0_0) (ld3 arg7.view (harg7.unread x5) inb_S1x64x512_S1x64x512_0_0_0) (ld3 arg5.view (harg5.unread x3) inb_S1x64x512_S1x64x512_0_0_0) (ld3 arg6.view (harg6.unread x4) inb_S1x1x512_S1x1x512_0_0_0) (harg3.unread x1) (harg4.unread x2) (harg10.unread x8) (harg11.unread x9) k0_pay22 (k0_t1_loop i).trips).2.2) (st_k0_t1 (F := F) Variants.none c none i arg2 harg2 arg3 harg3 arg4 harg4 arg5 harg5 arg6 harg6 arg7 harg7 arg8 harg8 arg9 harg9 arg10 harg10 arg11 harg11 (ld3 arg2.view (harg2.unread x0) inb_S1x512x128_S1x512x128_0_0_0) (ld3 arg8.view (harg8.unread x6) inb_S1x512x64_S1x512x64_0_0_0) (ld3 arg7.view (harg7.unread x5) inb_S1x64x512_S1x64x512_0_0_0) (ld3 arg5.view (harg5.unread x3) inb_S1x64x512_S1x64x512_0_0_0) (ld3 arg6.view (harg6.unread x4) inb_S1x1x512_S1x1x512_0_0_0) (harg3.unread x1) (harg4.unread x2) (harg10.unread x8) (harg11.unread x9) k0_pay22 (k0_t1_loop i).trips).1 (k0_t2_loop i).trips).2.1 ++ (st_k0_t1 (F := F) Variants.none c none i arg2 harg2 arg3 harg3 arg4 harg4 arg5 harg5 arg6 harg6 arg7 harg7 arg8 harg8 arg9 harg9 arg10 harg10 arg11 harg11 (ld3 arg2.view (harg2.unread x0) inb_S1x512x128_S1x512x128_0_0_0) (ld3 arg8.view (harg8.unread x6) inb_S1x512x64_S1x512x64_0_0_0) (ld3 arg7.view (harg7.unread x5) inb_S1x64x512_S1x64x512_0_0_0) (ld3 arg5.view (harg5.unread x3) inb_S1x64x512_S1x64x512_0_0_0) (ld3 arg6.view (harg6.unread x4) inb_S1x1x512_S1x1x512_0_0_0) (harg3.unread x1) (harg4.unread x2) (harg10.unread x8) (harg11.unread x9) k0_pay22 (k0_t1_loop i).trips).2.1))) := by
  unfold out0_B_8 kernelRun0_B
  rfl

theorem out0_B_8_eq (c : Dev nD) (i : grid0.Coords) (arg2 : Memref sig .tc .vmem S1x512x128 .bf16) (harg2 : arg2.IsWhole) (arg3 : Memref sig .tc .vmem S1x8192x128 .bf16) (harg3 : arg3.IsWhole) (arg4 : Memref sig .tc .vmem S1x8192x64 .bf16) (harg4 : arg4.IsWhole) (arg5 : Memref sig .tc .vmem S1x64x512 .f32) (harg5 : arg5.IsWhole) (arg6 : Memref sig .tc .vmem S1x1x512 .f32) (harg6 : arg6.IsWhole) (arg7 : Memref sig .tc .vmem S1x64x512 .f32) (harg7 : arg7.IsWhole) (arg8 : Memref sig .tc .vmem S1x512x64 .bf16) (harg8 : arg8.IsWhole) (arg9 : Memref sig .tc .vmem S1x512x128 .f32) (harg9 : arg9.IsWhole) (arg10 : Memref sig .tc .vmem S1x8192x128 .f32) (harg10 : arg10.IsWhole) (arg11 : Memref sig .tc .vmem S1x8192x64 .f32) (harg11 : arg11.IsWhole) (hc0 : ¬ cond0_0 i) (x0 : Vec F S1x512x128 .bf16) (x1 : Vec F S1x8192x128 .bf16) (x2 : Vec F S1x8192x64 .bf16) (x3 : Vec F S1x64x512 .f32) (x4 : Vec F S1x1x512 .f32) (x5 : Vec F S1x64x512 .f32) (x6 : Vec F S1x512x64 .bf16) (x8 : Vec F S1x8192x128 .f32) (x9 : Vec F S1x8192x64 .f32) :
    out0_B_8 (F := F) c i arg2 harg2 arg3 harg3 arg4 harg4 arg5 harg5 arg6 harg6 arg7 harg7 arg8 harg8 arg9 harg9 arg10 harg10 arg11 harg11 hc0 x0 x1 x2 x3 x4 x5 x6 x8 x9
      = arg10.view.read (Elt F) (arg10.view.writes (Elt F) (harg10.unread x8) ((⟨Rect.unit (s := S1x8192x128) (k0_off5 i) ![1, 512, 128] (k0_off5_inb i), k0_pay1 (k0_pay31 (BitVec.ofNat 32 (i 1).val) (k0_pay15 (ld3 arg2.view (harg2.unread x0) inb_S1x512x128_S1x512x128_0_0_0)) (k0_pay16 (ld3 arg2.view (harg2.unread x0) inb_S1x512x128_S1x512x128_0_0_0)) (k0_pay19 (ld3 arg7.view (harg7.unread x5) inb_S1x64x512_S1x64x512_0_0_0)) (k0_pay20 (ld3 arg7.view (harg7.unread x5) inb_S1x64x512_S1x64x512_0_0_0) (ld3 arg5.view (harg5.unread x3) inb_S1x64x512_S1x64x512_0_0_0)) (k0_pay21 (ld3 arg6.view (harg6.unread x4) inb_S1x1x512_S1x1x512_0_0_0)) (k0_pay27 (rows128 arg3.view (harg3.unread x1) (k0_off5 i) (k0_off5_inb i))) (rows64 arg4.view (harg4.unread x2) (k0_off6 i) (k0_off6_inb i)) (rows128 arg10.view (arg10.view.writes (Elt F) (harg10.unread x8) (st_k0_t1 (F := F) Variants.none c none i arg2 harg2 arg3 harg3 arg4 harg4 arg5 harg5 arg6 harg6 arg7 harg7 arg8 harg8 arg9 harg9 arg10 harg10 arg11 harg11 (ld3 arg2.view (harg2.unread x0) inb_S1x512x128_S1x512x128_0_0_0) (ld3 arg8.view (harg8.unread x6) inb_S1x512x64_S1x512x64_0_0_0) (ld3 arg7.view (harg7.unread x5) inb_S1x64x512_S1x64x512_0_0_0) (ld3 arg5.view (harg5.unread x3) inb_S1x64x512_S1x64x512_0_0_0) (ld3 arg6.view (harg6.unread x4) inb_S1x1x512_S1x1x512_0_0_0) (harg3.unread x1) (harg4.unread x2) (harg10.unread x8) (harg11.unread x9) k0_pay22 (k0_t1_loop i).trips).2.1) (k0_off5 i) (k0_off5_inb i)))⟩ : View.Piece (Elt F) S1x8192x128 .f32) :: (st_k0_t1 (F := F) Variants.none c none i arg2 harg2 arg3 harg3 arg4 harg4 arg5 harg5 arg6 harg6 arg7 harg7 arg8 harg8 arg9 harg9 arg10 harg10 arg11 harg11 (ld3 arg2.view (harg2.unread x0) inb_S1x512x128_S1x512x128_0_0_0) (ld3 arg8.view (harg8.unread x6) inb_S1x512x64_S1x512x64_0_0_0) (ld3 arg7.view (harg7.unread x5) inb_S1x64x512_S1x64x512_0_0_0) (ld3 arg5.view (harg5.unread x3) inb_S1x64x512_S1x64x512_0_0_0) (ld3 arg6.view (harg6.unread x4) inb_S1x1x512_S1x1x512_0_0_0) (harg3.unread x1) (harg4.unread x2) (harg10.unread x8) (harg11.unread x9) k0_pay22 (k0_t1_loop i).trips).2.1)) := by
  rw [out0_B_8_run, trips2]
  rfl

theorem out0_B_9_run (c : Dev nD) (i : grid0.Coords) (arg2 : Memref sig .tc .vmem S1x512x128 .bf16) (harg2 : arg2.IsWhole) (arg3 : Memref sig .tc .vmem S1x8192x128 .bf16) (harg3 : arg3.IsWhole) (arg4 : Memref sig .tc .vmem S1x8192x64 .bf16) (harg4 : arg4.IsWhole) (arg5 : Memref sig .tc .vmem S1x64x512 .f32) (harg5 : arg5.IsWhole) (arg6 : Memref sig .tc .vmem S1x1x512 .f32) (harg6 : arg6.IsWhole) (arg7 : Memref sig .tc .vmem S1x64x512 .f32) (harg7 : arg7.IsWhole) (arg8 : Memref sig .tc .vmem S1x512x64 .bf16) (harg8 : arg8.IsWhole) (arg9 : Memref sig .tc .vmem S1x512x128 .f32) (harg9 : arg9.IsWhole) (arg10 : Memref sig .tc .vmem S1x8192x128 .f32) (harg10 : arg10.IsWhole) (arg11 : Memref sig .tc .vmem S1x8192x64 .f32) (harg11 : arg11.IsWhole) (hc0 : ¬ cond0_0 i) (x0 : Vec F S1x512x128 .bf16) (x1 : Vec F S1x8192x128 .bf16) (x2 : Vec F S1x8192x64 .bf16) (x3 : Vec F S1x64x512 .f32) (x4 : Vec F S1x1x512 .f32) (x5 : Vec F S1x64x512 .f32) (x6 : Vec F S1x512x64 .bf16) (x8 : Vec F S1x8192x128 .f32) (x9 : Vec F S1x8192x64 .f32) :
    out0_B_9 (F := F) c i arg2 harg2 arg3 harg3 arg4 harg4 arg5 harg5 arg6 harg6 arg7 harg7 arg8 harg8 arg9 harg9 arg10 harg10 arg11 harg11 hc0 x0 x1 x2 x3 x4 x5 x6 x8 x9
      = arg11.view.read (Elt F) (arg11.view.writes (Elt F) (harg11.unread x9) ((⟨Rect.unit (s := S1x8192x64) (k0_off6 i) ![1, 512, 64] (k0_off6_inb i), k0_pay30 (BitVec.ofNat 32 (i 1).val) (k0_pay16 (ld3 arg2.view (harg2.unread x0) inb_S1x512x128_S1x512x128_0_0_0)) (k0_pay17 (ld3 arg8.view (harg8.unread x6) inb_S1x512x64_S1x512x64_0_0_0)) (k0_pay21 (ld3 arg6.view (harg6.unread x4) inb_S1x1x512_S1x1x512_0_0_0)) (k0_pay27 (rows128 arg3.view (harg3.unread x1) (k0_off5 i) (k0_off5_inb i))) (rows64 arg11.view (arg11.view.writes (Elt F) (harg11.unread x9) ((st_k0_t2 (F := F) Variants.none c none i arg2 harg2 arg3 harg3 arg4 harg4 arg5 harg5 arg6 harg6 arg7 harg7 arg8 harg8 arg9 harg9 arg10 harg10 arg11 harg11 (ld3 arg2.view (harg2.unread x0) inb_S1x512x128_S1x512x128_0_0_0) (ld3 arg8.view (harg8.unread x6) inb_S1x512x64_S1x512x64_0_0_0) (ld3 arg7.view (harg7.unread x5) inb_S1x64x512_S1x64x512_0_0_0) (ld3 arg5.view (harg5.unread x3) inb_S1x64x512_S1x64x512_0_0_0) (ld3 arg6.view (harg6.unread x4) inb_S1x1x512_S1x1x512_0_0_0) (kernelRun0_B.sl.v23 i) (harg3.unread x1) (harg4.unread x2) (arg10.view.writes (Elt F) (harg10.unread x8) (st_k0_t1 (F := F) Variants.none c none i arg2 harg2 arg3 harg3 arg4 harg4 arg5 harg5 arg6 harg6 arg7 harg7 arg8 harg8 arg9 harg9 arg10 harg10 arg11 harg11 (ld3 arg2.view (harg2.unread x0) inb_S1x512x128_S1x512x128_0_0_0) (ld3 arg8.view (harg8.unread x6) inb_S1x512x64_S1x512x64_0_0_0) (ld3 arg7.view (harg7.unread x5) inb_S1x64x512_S1x64x512_0_0_0) (ld3 arg5.view (harg5.unread x3) inb_S1x64x512_S1x64x512_0_0_0) (ld3 arg6.view (harg6.unread x4) inb_S1x1x512_S1x1x512_0_0_0) (harg3.unread x1) (harg4.unread x2) (harg10.unread x8) (harg11.unread x9) k0_pay22 (k0_t1_loop i).trips).2.1) (arg11.view.writes (Elt F) (harg11.unread x9) (st_k0_t1 (F := F) Variants.none c none i arg2 harg2 arg3 harg3 arg4 harg4 arg5 harg5 arg6 harg6 arg7 harg7 arg8 harg8 arg9 harg9 arg10 harg10 arg11 harg11 (ld3 arg2.view (harg2.unread x0) inb_S1x512x128_S1x512x128_0_0_0) (ld3 arg8.view (harg8.unread x6) inb_S1x512x64_S1x512x64_0_0_0) (ld3 arg7.view (harg7.unread x5) inb_S1x64x512_S1x64x512_0_0_0) (ld3 arg5.view (harg5.unread x3) inb_S1x64x512_S1x64x512_0_0_0) (ld3 arg6.view (harg6.unread x4) inb_S1x1x512_S1x1x512_0_0_0) (harg3.unread x1) (harg4.unread x2) (harg10.unread x8) (harg11.unread x9) k0_pay22 (k0_t1_loop i).trips).2.2) (st_k0_t1 (F := F) Variants.none c none i arg2 harg2 arg3 harg3 arg4 harg4 arg5 harg5 arg6 harg6 arg7 harg7 arg8 harg8 arg9 harg9 arg10 harg10 arg11 harg11 (ld3 arg2.view (harg2.unread x0) inb_S1x512x128_S1x512x128_0_0_0) (ld3 arg8.view (harg8.unread x6) inb_S1x512x64_S1x512x64_0_0_0) (ld3 arg7.view (harg7.unread x5) inb_S1x64x512_S1x64x512_0_0_0) (ld3 arg5.view (harg5.unread x3) inb_S1x64x512_S1x64x512_0_0_0) (ld3 arg6.view (harg6.unread x4) inb_S1x1x512_S1x1x512_0_0_0) (harg3.unread x1) (harg4.unread x2) (harg10.unread x8) (harg11.unread x9) k0_pay22 (k0_t1_loop i).trips).1 (k0_t2_loop i).trips).2.2 ++ (st_k0_t1 (F := F) Variants.none c none i arg2 harg2 arg3 harg3 arg4 harg4 arg5 harg5 arg6 harg6 arg7 harg7 arg8 harg8 arg9 harg9 arg10 harg10 arg11 harg11 (ld3 arg2.view (harg2.unread x0) inb_S1x512x128_S1x512x128_0_0_0) (ld3 arg8.view (harg8.unread x6) inb_S1x512x64_S1x512x64_0_0_0) (ld3 arg7.view (harg7.unread x5) inb_S1x64x512_S1x64x512_0_0_0) (ld3 arg5.view (harg5.unread x3) inb_S1x64x512_S1x64x512_0_0_0) (ld3 arg6.view (harg6.unread x4) inb_S1x1x512_S1x1x512_0_0_0) (harg3.unread x1) (harg4.unread x2) (harg10.unread x8) (harg11.unread x9) k0_pay22 (k0_t1_loop i).trips).2.2)) (k0_off6 i) (k0_off6_inb i))⟩ : View.Piece (Elt F) S1x8192x64 .f32) :: ((st_k0_t2 (F := F) Variants.none c none i arg2 harg2 arg3 harg3 arg4 harg4 arg5 harg5 arg6 harg6 arg7 harg7 arg8 harg8 arg9 harg9 arg10 harg10 arg11 harg11 (ld3 arg2.view (harg2.unread x0) inb_S1x512x128_S1x512x128_0_0_0) (ld3 arg8.view (harg8.unread x6) inb_S1x512x64_S1x512x64_0_0_0) (ld3 arg7.view (harg7.unread x5) inb_S1x64x512_S1x64x512_0_0_0) (ld3 arg5.view (harg5.unread x3) inb_S1x64x512_S1x64x512_0_0_0) (ld3 arg6.view (harg6.unread x4) inb_S1x1x512_S1x1x512_0_0_0) (kernelRun0_B.sl.v23 i) (harg3.unread x1) (harg4.unread x2) (arg10.view.writes (Elt F) (harg10.unread x8) (st_k0_t1 (F := F) Variants.none c none i arg2 harg2 arg3 harg3 arg4 harg4 arg5 harg5 arg6 harg6 arg7 harg7 arg8 harg8 arg9 harg9 arg10 harg10 arg11 harg11 (ld3 arg2.view (harg2.unread x0) inb_S1x512x128_S1x512x128_0_0_0) (ld3 arg8.view (harg8.unread x6) inb_S1x512x64_S1x512x64_0_0_0) (ld3 arg7.view (harg7.unread x5) inb_S1x64x512_S1x64x512_0_0_0) (ld3 arg5.view (harg5.unread x3) inb_S1x64x512_S1x64x512_0_0_0) (ld3 arg6.view (harg6.unread x4) inb_S1x1x512_S1x1x512_0_0_0) (harg3.unread x1) (harg4.unread x2) (harg10.unread x8) (harg11.unread x9) k0_pay22 (k0_t1_loop i).trips).2.1) (arg11.view.writes (Elt F) (harg11.unread x9) (st_k0_t1 (F := F) Variants.none c none i arg2 harg2 arg3 harg3 arg4 harg4 arg5 harg5 arg6 harg6 arg7 harg7 arg8 harg8 arg9 harg9 arg10 harg10 arg11 harg11 (ld3 arg2.view (harg2.unread x0) inb_S1x512x128_S1x512x128_0_0_0) (ld3 arg8.view (harg8.unread x6) inb_S1x512x64_S1x512x64_0_0_0) (ld3 arg7.view (harg7.unread x5) inb_S1x64x512_S1x64x512_0_0_0) (ld3 arg5.view (harg5.unread x3) inb_S1x64x512_S1x64x512_0_0_0) (ld3 arg6.view (harg6.unread x4) inb_S1x1x512_S1x1x512_0_0_0) (harg3.unread x1) (harg4.unread x2) (harg10.unread x8) (harg11.unread x9) k0_pay22 (k0_t1_loop i).trips).2.2) (st_k0_t1 (F := F) Variants.none c none i arg2 harg2 arg3 harg3 arg4 harg4 arg5 harg5 arg6 harg6 arg7 harg7 arg8 harg8 arg9 harg9 arg10 harg10 arg11 harg11 (ld3 arg2.view (harg2.unread x0) inb_S1x512x128_S1x512x128_0_0_0) (ld3 arg8.view (harg8.unread x6) inb_S1x512x64_S1x512x64_0_0_0) (ld3 arg7.view (harg7.unread x5) inb_S1x64x512_S1x64x512_0_0_0) (ld3 arg5.view (harg5.unread x3) inb_S1x64x512_S1x64x512_0_0_0) (ld3 arg6.view (harg6.unread x4) inb_S1x1x512_S1x1x512_0_0_0) (harg3.unread x1) (harg4.unread x2) (harg10.unread x8) (harg11.unread x9) k0_pay22 (k0_t1_loop i).trips).1 (k0_t2_loop i).trips).2.2 ++ (st_k0_t1 (F := F) Variants.none c none i arg2 harg2 arg3 harg3 arg4 harg4 arg5 harg5 arg6 harg6 arg7 harg7 arg8 harg8 arg9 harg9 arg10 harg10 arg11 harg11 (ld3 arg2.view (harg2.unread x0) inb_S1x512x128_S1x512x128_0_0_0) (ld3 arg8.view (harg8.unread x6) inb_S1x512x64_S1x512x64_0_0_0) (ld3 arg7.view (harg7.unread x5) inb_S1x64x512_S1x64x512_0_0_0) (ld3 arg5.view (harg5.unread x3) inb_S1x64x512_S1x64x512_0_0_0) (ld3 arg6.view (harg6.unread x4) inb_S1x1x512_S1x1x512_0_0_0) (harg3.unread x1) (harg4.unread x2) (harg10.unread x8) (harg11.unread x9) k0_pay22 (k0_t1_loop i).trips).2.2))) := by
  unfold out0_B_9 kernelRun0_B
  rfl

theorem out0_B_9_eq (c : Dev nD) (i : grid0.Coords) (arg2 : Memref sig .tc .vmem S1x512x128 .bf16) (harg2 : arg2.IsWhole) (arg3 : Memref sig .tc .vmem S1x8192x128 .bf16) (harg3 : arg3.IsWhole) (arg4 : Memref sig .tc .vmem S1x8192x64 .bf16) (harg4 : arg4.IsWhole) (arg5 : Memref sig .tc .vmem S1x64x512 .f32) (harg5 : arg5.IsWhole) (arg6 : Memref sig .tc .vmem S1x1x512 .f32) (harg6 : arg6.IsWhole) (arg7 : Memref sig .tc .vmem S1x64x512 .f32) (harg7 : arg7.IsWhole) (arg8 : Memref sig .tc .vmem S1x512x64 .bf16) (harg8 : arg8.IsWhole) (arg9 : Memref sig .tc .vmem S1x512x128 .f32) (harg9 : arg9.IsWhole) (arg10 : Memref sig .tc .vmem S1x8192x128 .f32) (harg10 : arg10.IsWhole) (arg11 : Memref sig .tc .vmem S1x8192x64 .f32) (harg11 : arg11.IsWhole) (hc0 : ¬ cond0_0 i) (x0 : Vec F S1x512x128 .bf16) (x1 : Vec F S1x8192x128 .bf16) (x2 : Vec F S1x8192x64 .bf16) (x3 : Vec F S1x64x512 .f32) (x4 : Vec F S1x1x512 .f32) (x5 : Vec F S1x64x512 .f32) (x6 : Vec F S1x512x64 .bf16) (x8 : Vec F S1x8192x128 .f32) (x9 : Vec F S1x8192x64 .f32) :
    out0_B_9 (F := F) c i arg2 harg2 arg3 harg3 arg4 harg4 arg5 harg5 arg6 harg6 arg7 harg7 arg8 harg8 arg9 harg9 arg10 harg10 arg11 harg11 hc0 x0 x1 x2 x3 x4 x5 x6 x8 x9
      = arg11.view.read (Elt F) (arg11.view.writes (Elt F) (harg11.unread x9) ((⟨Rect.unit (s := S1x8192x64) (k0_off6 i) ![1, 512, 64] (k0_off6_inb i), k0_pay30 (BitVec.ofNat 32 (i 1).val) (k0_pay16 (ld3 arg2.view (harg2.unread x0) inb_S1x512x128_S1x512x128_0_0_0)) (k0_pay17 (ld3 arg8.view (harg8.unread x6) inb_S1x512x64_S1x512x64_0_0_0)) (k0_pay21 (ld3 arg6.view (harg6.unread x4) inb_S1x1x512_S1x1x512_0_0_0)) (k0_pay27 (rows128 arg3.view (harg3.unread x1) (k0_off5 i) (k0_off5_inb i))) (rows64 arg11.view (arg11.view.writes (Elt F) (harg11.unread x9) (st_k0_t1 (F := F) Variants.none c none i arg2 harg2 arg3 harg3 arg4 harg4 arg5 harg5 arg6 harg6 arg7 harg7 arg8 harg8 arg9 harg9 arg10 harg10 arg11 harg11 (ld3 arg2.view (harg2.unread x0) inb_S1x512x128_S1x512x128_0_0_0) (ld3 arg8.view (harg8.unread x6) inb_S1x512x64_S1x512x64_0_0_0) (ld3 arg7.view (harg7.unread x5) inb_S1x64x512_S1x64x512_0_0_0) (ld3 arg5.view (harg5.unread x3) inb_S1x64x512_S1x64x512_0_0_0) (ld3 arg6.view (harg6.unread x4) inb_S1x1x512_S1x1x512_0_0_0) (harg3.unread x1) (harg4.unread x2) (harg10.unread x8) (harg11.unread x9) k0_pay22 (k0_t1_loop i).trips).2.2) (k0_off6 i) (k0_off6_inb i))⟩ : View.Piece (Elt F) S1x8192x64 .f32) :: (st_k0_t1 (F := F) Variants.none c none i arg2 harg2 arg3 harg3 arg4 harg4 arg5 harg5 arg6 harg6 arg7 harg7 arg8 harg8 arg9 harg9 arg10 harg10 arg11 harg11 (ld3 arg2.view (harg2.unread x0) inb_S1x512x128_S1x512x128_0_0_0) (ld3 arg8.view (harg8.unread x6) inb_S1x512x64_S1x512x64_0_0_0) (ld3 arg7.view (harg7.unread x5) inb_S1x64x512_S1x64x512_0_0_0) (ld3 arg5.view (harg5.unread x3) inb_S1x64x512_S1x64x512_0_0_0) (ld3 arg6.view (harg6.unread x4) inb_S1x1x512_S1x1x512_0_0_0) (harg3.unread x1) (harg4.unread x2) (harg10.unread x8) (harg11.unread x9) k0_pay22 (k0_t1_loop i).trips).2.2)) := by
  rw [out0_B_9_run, trips2]
  rfl

theorem out0_A_7_run (c : Dev nD) (i : grid0.Coords) (arg2 : Memref sig .tc .vmem S1x512x128 .bf16) (harg2 : arg2.IsWhole) (arg3 : Memref sig .tc .vmem S1x8192x128 .bf16) (harg3 : arg3.IsWhole) (arg4 : Memref sig .tc .vmem S1x8192x64 .bf16) (harg4 : arg4.IsWhole) (arg5 : Memref sig .tc .vmem S1x64x512 .f32) (harg5 : arg5.IsWhole) (arg6 : Memref sig .tc .vmem S1x1x512 .f32) (harg6 : arg6.IsWhole) (arg7 : Memref sig .tc .vmem S1x64x512 .f32) (harg7 : arg7.IsWhole) (arg8 : Memref sig .tc .vmem S1x512x64 .bf16) (harg8 : arg8.IsWhole) (arg9 : Memref sig .tc .vmem S1x512x128 .f32) (harg9 : arg9.IsWhole) (arg10 : Memref sig .tc .vmem S1x8192x128 .f32) (harg10 : arg10.IsWhole) (arg11 : Memref sig .tc .vmem S1x8192x64 .f32) (harg11 : arg11.IsWhole) (hc0 : cond0_0 i) (x0 : Vec F S1x512x128 .bf16) (x1 : Vec F S1x8192x128 .bf16) (x2 : Vec F S1x8192x64 .bf16) (x3 : Vec F S1x64x512 .f32) (x4 : Vec F S1x1x512 .f32) (x5 : Vec F S1x64x512 .f32) (x6 : Vec F S1x512x64 .bf16) :
    out0_A_7 (F := F) c i arg2 harg2 arg3 harg3 arg4 harg4 arg5 harg5 arg6 harg6 arg7 harg7 arg8 harg8 arg9 harg9 arg10 harg10 arg11 harg11 hc0 x0 x1 x2 x3 x4 x5 x6
      = VO0_7.read (Elt F) (VO0_7.writes (Elt F) VO0_7.junk [(⟨Rect.unit (s := S1x512x128) ![0, 0, 0] ![1, 512, 128] inb_S1x512x128_S1x512x128_0_0_0, k0_pay2 (st_k0_t2 (F := F) Variants.none c none i arg2 harg2 arg3 harg3 arg4 harg4 arg5 harg5 arg6 harg6 arg7 harg7 arg8 harg8 arg9 harg9 arg10 harg10 arg11 harg11 (ld3 arg2.view (harg2.unread x0) inb_S1x512x128_S1x512x128_0_0_0) (ld3 arg8.view (harg8.unread x6) inb_S1x512x64_S1x512x64_0_0_0) (ld3 arg7.view (harg7.unread x5) inb_S1x64x512_S1x64x512_0_0_0) (ld3 arg5.view (harg5.unread x3) inb_S1x64x512_S1x64x512_0_0_0) (ld3 arg6.view (harg6.unread x4) inb_S1x1x512_S1x1x512_0_0_0) (kernelRun0_A.sl.v23 i) (harg3.unread x1) (harg4.unread x2) (arg10.view.writes (Elt F) arg10.view.junk ((st_k0_t1 (F := F) Variants.none c none i arg2 harg2 arg3 harg3 arg4 harg4 arg5 harg5 arg6 harg6 arg7 harg7 arg8 harg8 arg9 harg9 arg10 harg10 arg11 harg11 (ld3 arg2.view (harg2.unread x0) inb_S1x512x128_S1x512x128_0_0_0) (ld3 arg8.view (harg8.unread x6) inb_S1x512x64_S1x512x64_0_0_0) (ld3 arg7.view (harg7.unread x5) inb_S1x64x512_S1x64x512_0_0_0) (ld3 arg5.view (harg5.unread x3) inb_S1x64x512_S1x64x512_0_0_0) (ld3 arg6.view (harg6.unread x4) inb_S1x1x512_S1x1x512_0_0_0) (harg3.unread x1) (harg4.unread x2) (arg10.view.writes (Elt F) arg10.view.junk [(⟨Rect.unit (s := S1x8192x128) ![0, 0, 0] ![1, 8192, 128] inb_S1x8192x128_S1x8192x128_0_0_0, k0_pay13⟩ : View.Piece (Elt F) S1x8192x128 .f32)]) (arg11.view.writes (Elt F) arg11.view.junk [(⟨Rect.unit (s := S1x8192x64) ![0, 0, 0] ![1, 8192, 64] inb_S1x8192x64_S1x8192x64_0_0_0, k0_pay14⟩ : View.Piece (Elt F) S1x8192x64 .f32)]) k0_pay22 (k0_t1_loop i).trips).2.1 ++ [(⟨Rect.unit (s := S1x8192x128) ![0, 0, 0] ![1, 8192, 128] inb_S1x8192x128_S1x8192x128_0_0_0, k0_pay13⟩ : View.Piece (Elt F) S1x8192x128 .f32)])) (arg11.view.writes (Elt F) arg11.view.junk ((st_k0_t1 (F := F) Variants.none c none i arg2 harg2 arg3 harg3 arg4 harg4 arg5 harg5 arg6 harg6 arg7 harg7 arg8 harg8 arg9 harg9 arg10 harg10 arg11 harg11 (ld3 arg2.view (harg2.unread x0) inb_S1x512x128_S1x512x128_0_0_0) (ld3 arg8.view (harg8.unread x6) inb_S1x512x64_S1x512x64_0_0_0) (ld3 arg7.view (harg7.unread x5) inb_S1x64x512_S1x64x512_0_0_0) (ld3 arg5.view (harg5.unread x3) inb_S1x64x512_S1x64x512_0_0_0) (ld3 arg6.view (harg6.unread x4) inb_S1x1x512_S1x1x512_0_0_0) (harg3.unread x1) (harg4.unread x2) (arg10.view.writes (Elt F) arg10.view.junk [(⟨Rect.unit (s := S1x8192x128) ![0, 0, 0] ![1, 8192, 128] inb_S1x8192x128_S1x8192x128_0_0_0, k0_pay13⟩ : View.Piece (Elt F) S1x8192x128 .f32)]) (arg11.view.writes (Elt F) arg11.view.junk [(⟨Rect.unit (s := S1x8192x64) ![0, 0, 0] ![1, 8192, 64] inb_S1x8192x64_S1x8192x64_0_0_0, k0_pay14⟩ : View.Piece (Elt F) S1x8192x64 .f32)]) k0_pay22 (k0_t1_loop i).trips).2.2 ++ [(⟨Rect.unit (s := S1x8192x64) ![0, 0, 0] ![1, 8192, 64] inb_S1x8192x64_S1x8192x64_0_0_0, k0_pay14⟩ : View.Piece (Elt F) S1x8192x64 .f32)])) (st_k0_t1 (F := F) Variants.none c none i arg2 harg2 arg3 harg3 arg4 harg4 arg5 harg5 arg6 harg6 arg7 harg7 arg8 harg8 arg9 harg9 arg10 harg10 arg11 harg11 (ld3 arg2.view (harg2.unread x0) inb_S1x512x128_S1x512x128_0_0_0) (ld3 arg8.view (harg8.unread x6) inb_S1x512x64_S1x512x64_0_0_0) (ld3 arg7.view (harg7.unread x5) inb_S1x64x512_S1x64x512_0_0_0) (ld3 arg5.view (harg5.unread x3) inb_S1x64x512_S1x64x512_0_0_0) (ld3 arg6.view (harg6.unread x4) inb_S1x1x512_S1x1x512_0_0_0) (harg3.unread x1) (harg4.unread x2) (arg10.view.writes (Elt F) arg10.view.junk [(⟨Rect.unit (s := S1x8192x128) ![0, 0, 0] ![1, 8192, 128] inb_S1x8192x128_S1x8192x128_0_0_0, k0_pay13⟩ : View.Piece (Elt F) S1x8192x128 .f32)]) (arg11.view.writes (Elt F) arg11.view.junk [(⟨Rect.unit (s := S1x8192x64) ![0, 0, 0] ![1, 8192, 64] inb_S1x8192x64_S1x8192x64_0_0_0, k0_pay14⟩ : View.Piece (Elt F) S1x8192x64 .f32)]) k0_pay22 (k0_t1_loop i).trips).1 (k0_t2_loop i).trips).1 (k0_pay27 (rows128 arg3.view (harg3.unread x1) (k0_off5 i) (k0_off5_inb i))) (k0_pay29 (BitVec.ofNat 32 (i 1).val) (k0_pay16 (ld3 arg2.view (harg2.unread x0) inb_S1x512x128_S1x512x128_0_0_0)) (k0_pay19 (ld3 arg7.view (harg7.unread x5) inb_S1x64x512_S1x64x512_0_0_0)) (k0_pay20 (ld3 arg7.view (harg7.unread x5) inb_S1x64x512_S1x64x512_0_0_0) (ld3 arg5.view (harg5.unread x3) inb_S1x64x512_S1x64x512_0_0_0)) (k0_pay21 (ld3 arg6.view (harg6.unread x4) inb_S1x1x512_S1x1x512_0_0_0)) (k0_pay27 (rows128 arg3.view (harg3.unread x1) (k0_off5 i) (k0_off5_inb i))) (rows64 arg4.view (harg4.unread x2) (k0_off6 i) (k0_off6_inb i)))⟩ : View.Piece (Elt F) S1x512x128 .f32)]) := by
  unfold out0_A_7 kernelRun0_A
  rfl

theorem out0_A_7_eq (c : Dev nD) (i : grid0.Coords) (arg2 : Memref sig .tc .vmem S1x512x128 .bf16) (harg2 : arg2.IsWhole) (arg3 : Memref sig .tc .vmem S1x8192x128 .bf16) (harg3 : arg3.IsWhole) (arg4 : Memref sig .tc .vmem S1x8192x64 .bf16) (harg4 : arg4.IsWhole) (arg5 : Memref sig .tc .vmem S1x64x512 .f32) (harg5 : arg5.IsWhole) (arg6 : Memref sig .tc .vmem S1x1x512 .f32) (harg6 : arg6.IsWhole) (arg7 : Memref sig .tc .vmem S1x64x512 .f32) (harg7 : arg7.IsWhole) (arg8 : Memref sig .tc .vmem S1x512x64 .bf16) (harg8 : arg8.IsWhole) (arg9 : Memref sig .tc .vmem S1x512x128 .f32) (harg9 : arg9.IsWhole) (arg10 : Memref sig .tc .vmem S1x8192x128 .f32) (harg10 : arg10.IsWhole) (arg11 : Memref sig .tc .vmem S1x8192x64 .f32) (harg11 : arg11.IsWhole) (hc0 : cond0_0 i) (hi : (i 1).val = 0) (x0 : Vec F S1x512x128 .bf16) (x1 : Vec F S1x8192x128 .bf16) (x2 : Vec F S1x8192x64 .bf16) (x3 : Vec F S1x64x512 .f32) (x4 : Vec F S1x1x512 .f32) (x5 : Vec F S1x64x512 .f32) (x6 : Vec F S1x512x64 .bf16) :
    out0_A_7 (F := F) c i arg2 harg2 arg3 harg3 arg4 harg4 arg5 harg5 arg6 harg6 arg7 harg7 arg8 harg8 arg9 harg9 arg10 harg10 arg11 harg11 hc0 x0 x1 x2 x3 x4 x5 x6
      = VO0_7.read (Elt F) (VO0_7.writes (Elt F) VO0_7.junk [(⟨Rect.unit (s := S1x512x128) ![0, 0, 0] ![1, 512, 128] inb_S1x512x128_S1x512x128_0_0_0, k0_pay2 k0_pay22 (k0_pay27 (rows128 arg3.view (harg3.unread x1) (k0_off5 i) (k0_off5_inb i))) (k0_pay29 (BitVec.ofNat 32 (i 1).val) (k0_pay16 (ld3 arg2.view (harg2.unread x0) inb_S1x512x128_S1x512x128_0_0_0)) (k0_pay19 (ld3 arg7.view (harg7.unread x5) inb_S1x64x512_S1x64x512_0_0_0)) (k0_pay20 (ld3 arg7.view (harg7.unread x5) inb_S1x64x512_S1x64x512_0_0_0) (ld3 arg5.view (harg5.unread x3) inb_S1x64x512_S1x64x512_0_0_0)) (k0_pay21 (ld3 arg6.view (harg6.unread x4) inb_S1x1x512_S1x1x512_0_0_0)) (k0_pay27 (rows128 arg3.view (harg3.unread x1) (k0_off5 i) (k0_off5_inb i))) (rows64 arg4.view (harg4.unread x2) (k0_off6 i) (k0_off6_inb i)))⟩ : View.Piece (Elt F) S1x512x128 .f32)]) := by
  rw [out0_A_7_run, trips2, trips1, hi]
  rfl

theorem out0_A_8_run (c : Dev nD) (i : grid0.Coords) (arg2 : Memref sig .tc .vmem S1x512x128 .bf16) (harg2 : arg2.IsWhole) (arg3 : Memref sig .tc .vmem S1x8192x128 .bf16) (harg3 : arg3.IsWhole) (arg4 : Memref sig .tc .vmem S1x8192x64 .bf16) (harg4 : arg4.IsWhole) (arg5 : Memref sig .tc .vmem S1x64x512 .f32) (harg5 : arg5.IsWhole) (arg6 : Memref sig .tc .vmem S1x1x512 .f32) (harg6 : arg6.IsWhole) (arg7 : Memref sig .tc .vmem S1x64x512 .f32) (harg7 : arg7.IsWhole) (arg8 : Memref sig .tc .vmem S1x512x64 .bf16) (harg8 : arg8.IsWhole) (arg9 : Memref sig .tc .vmem S1x512x128 .f32) (harg9 : arg9.IsWhole) (arg10 : Memref sig .tc .vmem S1x8192x128 .f32) (harg10 : arg10.IsWhole) (arg11 : Memref sig .tc .vmem S1x8192x64 .f32) (harg11 : arg11.IsWhole) (hc0 : cond0_0 i) (x0 : Vec F S1x512x128 .bf16) (x1 : Vec F S1x8192x128 .bf16) (x2 : Vec F S1x8192x64 .bf16) (x3 : Vec F S1x64x512 .f32) (x4 : Vec F S1x1x512 .f32) (x5 : Vec F S1x64x512 .f32) (x6 : Vec F S1x512x64 .bf16) :
    out0_A_8 (F := F) c i arg2 harg2 arg3 harg3 arg4 harg4 arg5 harg5 arg6 harg6 arg7 harg7 arg8 harg8 arg9 harg9 arg10 harg10 arg11 harg11 hc0 x0 x1 x2 x3 x4 x5 x6
      = VO0_8.read (Elt F) (VO0_8.writes (Elt F) VO0_8.junk ((⟨Rect.unit (s := S1x8192x128) (k0_off5 i) ![1, 512, 128] (k0_off5_inb i), k0_pay1 (k0_pay31 (BitVec.ofNat 32 (i 1).val) (k0_pay15 (ld3 arg2.view (harg2.unread x0) inb_S1x512x128_S1x512x128_0_0_0)) (k0_pay16 (ld3 arg2.view (harg2.unread x0) inb_S1x512x128_S1x512x128_0_0_0)) (k0_pay19 (ld3 arg7.view (harg7.unread x5) inb_S1x64x512_S1x64x512_0_0_0)) (k0_pay20 (ld3 arg7.view (harg7.unread x5) inb_S1x64x512_S1x64x512_0_0_0) (ld3 arg5.view (harg5.unread x3) inb_S1x64x512_S1x64x512_0_0_0)) (k0_pay21 (ld3 arg6.view (harg6.unread x4) inb_S1x1x512_S1x1x512_0_0_0)) (k0_pay27 (rows128 arg3.view (harg3.unread x1) (k0_off5 i) (k0_off5_inb i))) (rows64 arg4.view (harg4.unread x2) (k0_off6 i) (k0_off6_inb i)) (rows128 arg10.view (arg10.view.writes (Elt F) arg10.view.junk ((st_k0_t2 (F := F) Variants.none c none i arg2 harg2 arg3 harg3 arg4 harg4 arg5 harg5 arg6 harg6 arg7 harg7 arg8 harg8 arg9 harg9 arg10 harg10 arg11 harg11 (ld3 arg2.view (harg2.unread x0) inb_S1x512x128_S1x512x128_0_0_0) (ld3 arg8.view (harg8.unread x6) inb_S1x512x64_S1x512x64_0_0_0) (ld3 arg7.view (harg7.unread x5) inb_S1x64x512_S1x64x512_0_0_0) (ld3 arg5.view (harg5.unread x3) inb_S1x64x512_S1x64x512_0_0_0) (ld3 arg6.view (harg6.unread x4) inb_S1x1x512_S1x1x512_0_0_0) (kernelRun0_A.sl.v23 i) (harg3.unread x1) (harg4.unread x2) (arg10.view.writes (Elt F) arg10.view.junk ((st_k0_t1 (F := F) Variants.none c none i arg2 harg2 arg3 harg3 arg4 harg4 arg5 harg5 arg6 harg6 arg7 harg7 arg8 harg8 arg9 harg9 arg10 harg10 arg11 harg11 (ld3 arg2.view (harg2.unread x0) inb_S1x512x128_S1x512x128_0_0_0) (ld3 arg8.view (harg8.unread x6) inb_S1x512x64_S1x512x64_0_0_0) (ld3 arg7.view (harg7.unread x5) inb_S1x64x512_S1x64x512_0_0_0) (ld3 arg5.view (harg5.unread x3) inb_S1x64x512_S1x64x512_0_0_0) (ld3 arg6.view (harg6.unread x4) inb_S1x1x512_S1x1x512_0_0_0) (harg3.unread x1) (harg4.unread x2) (arg10.view.writes (Elt F) arg10.view.junk [(⟨Rect.unit (s := S1x8192x128) ![0, 0, 0] ![1, 8192, 128] inb_S1x8192x128_S1x8192x128_0_0_0, k0_pay13⟩ : View.Piece (Elt F) S1x8192x128 .f32)]) (arg11.view.writes (Elt F) arg11.view.junk [(⟨Rect.unit (s := S1x8192x64) ![0, 0, 0] ![1, 8192, 64] inb_S1x8192x64_S1x8192x64_0_0_0, k0_pay14⟩ : View.Piece (Elt F) S1x8192x64 .f32)]) k0_pay22 (k0_t1_loop i).trips).2.1 ++ [(⟨Rect.unit (s := S1x8192x128) ![0, 0, 0] ![1, 8192, 128] inb_S1x8192x128_S1x8192x128_0_0_0, k0_pay13⟩ : View.Piece (Elt F) S1x8192x128 .f32)])) (arg11.view.writes (Elt F) arg11.view.junk ((st_k0_t1 (F := F) Variants.none c none i arg2 harg2 arg3 harg3 arg4 harg4 arg5 harg5 arg6 harg6 arg7 harg7 arg8 harg8 arg9 harg9 arg10 harg10 arg11 harg11 (ld3 arg2.view (harg2.unread x0) inb_S1x512x128_S1x512x128_0_0_0) (ld3 arg8.view (harg8.unread x6) inb_S1x512x64_S1x512x64_0_0_0) (ld3 arg7.view (harg7.unread x5) inb_S1x64x512_S1x64x512_0_0_0) (ld3 arg5.view (harg5.unread x3) inb_S1x64x512_S1x64x512_0_0_0) (ld3 arg6.view (harg6.unread x4) inb_S1x1x512_S1x1x512_0_0_0) (harg3.unread x1) (harg4.unread x2) (arg10.view.writes (Elt F) arg10.view.junk [(⟨Rect.unit (s := S1x8192x128) ![0, 0, 0] ![1, 8192, 128] inb_S1x8192x128_S1x8192x128_0_0_0, k0_pay13⟩ : View.Piece (Elt F) S1x8192x128 .f32)]) (arg11.view.writes (Elt F) arg11.view.junk [(⟨Rect.unit (s := S1x8192x64) ![0, 0, 0] ![1, 8192, 64] inb_S1x8192x64_S1x8192x64_0_0_0, k0_pay14⟩ : View.Piece (Elt F) S1x8192x64 .f32)]) k0_pay22 (k0_t1_loop i).trips).2.2 ++ [(⟨Rect.unit (s := S1x8192x64) ![0, 0, 0] ![1, 8192, 64] inb_S1x8192x64_S1x8192x64_0_0_0, k0_pay14⟩ : View.Piece (Elt F) S1x8192x64 .f32)])) (st_k0_t1 (F := F) Variants.none c none i arg2 harg2 arg3 harg3 arg4 harg4 arg5 harg5 arg6 harg6 arg7 harg7 arg8 harg8 arg9 harg9 arg10 harg10 arg11 harg11 (ld3 arg2.view (harg2.unread x0) inb_S1x512x128_S1x512x128_0_0_0) (ld3 arg8.view (harg8.unread x6) inb_S1x512x64_S1x512x64_0_0_0) (ld3 arg7.view (harg7.unread x5) inb_S1x64x512_S1x64x512_0_0_0) (ld3 arg5.view (harg5.unread x3) inb_S1x64x512_S1x64x512_0_0_0) (ld3 arg6.view (harg6.unread x4) inb_S1x1x512_S1x1x512_0_0_0) (harg3.unread x1) (harg4.unread x2) (arg10.view.writes (Elt F) arg10.view.junk [(⟨Rect.unit (s := S1x8192x128) ![0, 0, 0] ![1, 8192, 128] inb_S1x8192x128_S1x8192x128_0_0_0, k0_pay13⟩ : View.Piece (Elt F) S1x8192x128 .f32)]) (arg11.view.writes (Elt F) arg11.view.junk [(⟨Rect.unit (s := S1x8192x64) ![0, 0, 0] ![1, 8192, 64] inb_S1x8192x64_S1x8192x64_0_0_0, k0_pay14⟩ : View.Piece (Elt F) S1x8192x64 .f32)]) k0_pay22 (k0_t1_loop i).trips).1 (k0_t2_loop i).trips).2.1 ++ ((st_k0_t1 (F := F) Variants.none c none i arg2 harg2 arg3 harg3 arg4 harg4 arg5 harg5 arg6 harg6 arg7 harg7 arg8 harg8 arg9 harg9 arg10 harg10 arg11 harg11 (ld3 arg2.view (harg2.unread x0) inb_S1x512x128_S1x512x128_0_0_0) (ld3 arg8.view (harg8.unread x6) inb_S1x512x64_S1x512x64_0_0_0) (ld3 arg7.view (harg7.unread x5) inb_S1x64x512_S1x64x512_0_0_0) (ld3 arg5.view (harg5.unread x3) inb_S1x64x512_S1x64x512_0_0_0) (ld3 arg6.view (harg6.unread x4) inb_S1x1x512_S1x1x512_0_0_0) (harg3.unread x1) (harg4.unread x2) (arg10.view.writes (Elt F) arg10.view.junk [(⟨Rect.unit (s := S1x8192x128) ![0, 0, 0] ![1, 8192, 128] inb_S1x8192x128_S1x8192x128_0_0_0, k0_pay13⟩ : View.Piece (Elt F) S1x8192x128 .f32)]) (arg11.view.writes (Elt F) arg11.view.junk [(⟨Rect.unit (s := S1x8192x64) ![0, 0, 0] ![1, 8192, 64] inb_S1x8192x64_S1x8192x64_0_0_0, k0_pay14⟩ : View.Piece (Elt F) S1x8192x64 .f32)]) k0_pay22 (k0_t1_loop i).trips).2.1 ++ [(⟨Rect.unit (s := S1x8192x128) ![0, 0, 0] ![1, 8192, 128] inb_S1x8192x128_S1x8192x128_0_0_0, k0_pay13⟩ : View.Piece (Elt F) S1x8192x128 .f32)]))) (k0_off5 i) (k0_off5_inb i)))⟩ : View.Piece (Elt F) S1x8192x128 .f32) :: ((st_k0_t2 (F := F) Variants.none c none i arg2 harg2 arg3 harg3 arg4 harg4 arg5 harg5 arg6 harg6 arg7 harg7 arg8 harg8 arg9 harg9 arg10 harg10 arg11 harg11 (ld3 arg2.view (harg2.unread x0) inb_S1x512x128_S1x512x128_0_0_0) (ld3 arg8.view (harg8.unread x6) inb_S1x512x64_S1x512x64_0_0_0) (ld3 arg7.view (harg7.unread x5) inb_S1x64x512_S1x64x512_0_0_0) (ld3 arg5.view (harg5.unread x3) inb_S1x64x512_S1x64x512_0_0_0) (ld3 arg6.view (harg6.unread x4) inb_S1x1x512_S1x1x512_0_0_0) (kernelRun0_A.sl.v23 i) (harg3.unread x1) (harg4.unread x2) (arg10.view.writes (Elt F) arg10.view.junk ((st_k0_t1 (F := F) Variants.none c none i arg2 harg2 arg3 harg3 arg4 harg4 arg5 harg5 arg6 harg6 arg7 harg7 arg8 harg8 arg9 harg9 arg10 harg10 arg11 harg11 (ld3 arg2.view (harg2.unread x0) inb_S1x512x128_S1x512x128_0_0_0) (ld3 arg8.view (harg8.unread x6) inb_S1x512x64_S1x512x64_0_0_0) (ld3 arg7.view (harg7.unread x5) inb_S1x64x512_S1x64x512_0_0_0) (ld3 arg5.view (harg5.unread x3) inb_S1x64x512_S1x64x512_0_0_0) (ld3 arg6.view (harg6.unread x4) inb_S1x1x512_S1x1x512_0_0_0) (harg3.unread x1) (harg4.unread x2) (arg10.view.writes (Elt F) arg10.view.junk [(⟨Rect.unit (s := S1x8192x128) ![0, 0, 0] ![1, 8192, 128] inb_S1x8192x128_S1x8192x128_0_0_0, k0_pay13⟩ : View.Piece (Elt F) S1x8192x128 .f32)]) (arg11.view.writes (Elt F) arg11.view.junk [(⟨Rect.unit (s := S1x8192x64) ![0, 0, 0] ![1, 8192, 64] inb_S1x8192x64_S1x8192x64_0_0_0, k0_pay14⟩ : View.Piece (Elt F) S1x8192x64 .f32)]) k0_pay22 (k0_t1_loop i).trips).2.1 ++ [(⟨Rect.unit (s := S1x8192x128) ![0, 0, 0] ![1, 8192, 128] inb_S1x8192x128_S1x8192x128_0_0_0, k0_pay13⟩ : View.Piece (Elt F) S1x8192x128 .f32)])) (arg11.view.writes (Elt F) arg11.view.junk ((st_k0_t1 (F := F) Variants.none c none i arg2 harg2 arg3 harg3 arg4 harg4 arg5 harg5 arg6 harg6 arg7 harg7 arg8 harg8 arg9 harg9 arg10 harg10 arg11 harg11 (ld3 arg2.view (harg2.unread x0) inb_S1x512x128_S1x512x128_0_0_0) (ld3 arg8.view (harg8.unread x6) inb_S1x512x64_S1x512x64_0_0_0) (ld3 arg7.view (harg7.unread x5) inb_S1x64x512_S1x64x512_0_0_0) (ld3 arg5.view (harg5.unread x3) inb_S1x64x512_S1x64x512_0_0_0) (ld3 arg6.view (harg6.unread x4) inb_S1x1x512_S1x1x512_0_0_0) (harg3.unread x1) (harg4.unread x2) (arg10.view.writes (Elt F) arg10.view.junk [(⟨Rect.unit (s := S1x8192x128) ![0, 0, 0] ![1, 8192, 128] inb_S1x8192x128_S1x8192x128_0_0_0, k0_pay13⟩ : View.Piece (Elt F) S1x8192x128 .f32)]) (arg11.view.writes (Elt F) arg11.view.junk [(⟨Rect.unit (s := S1x8192x64) ![0, 0, 0] ![1, 8192, 64] inb_S1x8192x64_S1x8192x64_0_0_0, k0_pay14⟩ : View.Piece (Elt F) S1x8192x64 .f32)]) k0_pay22 (k0_t1_loop i).trips).2.2 ++ [(⟨Rect.unit (s := S1x8192x64) ![0, 0, 0] ![1, 8192, 64] inb_S1x8192x64_S1x8192x64_0_0_0, k0_pay14⟩ : View.Piece (Elt F) S1x8192x64 .f32)])) (st_k0_t1 (F := F) Variants.none c none i arg2 harg2 arg3 harg3 arg4 harg4 arg5 harg5 arg6 harg6 arg7 harg7 arg8 harg8 arg9 harg9 arg10 harg10 arg11 harg11 (ld3 arg2.view (harg2.unread x0) inb_S1x512x128_S1x512x128_0_0_0) (ld3 arg8.view (harg8.unread x6) inb_S1x512x64_S1x512x64_0_0_0) (ld3 arg7.view (harg7.unread x5) inb_S1x64x512_S1x64x512_0_0_0) (ld3 arg5.view (harg5.unread x3) inb_S1x64x512_S1x64x512_0_0_0) (ld3 arg6.view (harg6.unread x4) inb_S1x1x512_S1x1x512_0_0_0) (harg3.unread x1) (harg4.unread x2) (arg10.view.writes (Elt F) arg10.view.junk [(⟨Rect.unit (s := S1x8192x128) ![0, 0, 0] ![1, 8192, 128] inb_S1x8192x128_S1x8192x128_0_0_0, k0_pay13⟩ : View.Piece (Elt F) S1x8192x128 .f32)]) (arg11.view.writes (Elt F) arg11.view.junk [(⟨Rect.unit (s := S1x8192x64) ![0, 0, 0] ![1, 8192, 64] inb_S1x8192x64_S1x8192x64_0_0_0, k0_pay14⟩ : View.Piece (Elt F) S1x8192x64 .f32)]) k0_pay22 (k0_t1_loop i).trips).1 (k0_t2_loop i).trips).2.1 ++ ((st_k0_t1 (F := F) Variants.none c none i arg2 harg2 arg3 harg3 arg4 harg4 arg5 harg5 arg6 harg6 arg7 harg7 arg8 harg8 arg9 harg9 arg10 harg10 arg11 harg11 (ld3 arg2.view (harg2.unread x0) inb_S1x512x128_S1x512x128_0_0_0) (ld3 arg8.view (harg8.unread x6) inb_S1x512x64_S1x512x64_0_0_0) (ld3 arg7.view (harg7.unread x5) inb_S1x64x512_S1x64x512_0_0_0) (ld3 arg5.view (harg5.unread x3) inb_S1x64x512_S1x64x512_0_0_0) (ld3 arg6.view (harg6.unread x4) inb_S1x1x512_S1x1x512_0_0_0) (harg3.unread x1) (harg4.unread x2) (arg10.view.writes (Elt F) arg10.view.junk [(⟨Rect.unit (s := S1x8192x128) ![0, 0, 0] ![1, 8192, 128] inb_S1x8192x128_S1x8192x128_0_0_0, k0_pay13⟩ : View.Piece (Elt F) S1x8192x128 .f32)]) (arg11.view.writes (Elt F) arg11.view.junk [(⟨Rect.unit (s := S1x8192x64) ![0, 0, 0] ![1, 8192, 64] inb_S1x8192x64_S1x8192x64_0_0_0, k0_pay14⟩ : View.Piece (Elt F) S1x8192x64 .f32)]) k0_pay22 (k0_t1_loop i).trips).2.1 ++ [(⟨Rect.unit (s := S1x8192x128) ![0, 0, 0] ![1, 8192, 128] inb_S1x8192x128_S1x8192x128_0_0_0, k0_pay13⟩ : View.Piece (Elt F) S1x8192x128 .f32)])))) := by
  unfold out0_A_8 kernelRun0_A
  rfl

theorem out0_A_8_eq (c : Dev nD) (i : grid0.Coords) (arg2 : Memref sig .tc .vmem S1x512x128 .bf16) (harg2 : arg2.IsWhole) (arg3 : Memref sig .tc .vmem S1x8192x128 .bf16) (harg3 : arg3.IsWhole) (arg4 : Memref sig .tc .vmem S1x8192x64 .bf16) (harg4 : arg4.IsWhole) (arg5 : Memref sig .tc .vmem S1x64x512 .f32) (harg5 : arg5.IsWhole) (arg6 : Memref sig .tc .vmem S1x1x512 .f32) (harg6 : arg6.IsWhole) (arg7 : Memref sig .tc .vmem S1x64x512 .f32) (harg7 : arg7.IsWhole) (arg8 : Memref sig .tc .vmem S1x512x64 .bf16) (harg8 : arg8.IsWhole) (arg9 : Memref sig .tc .vmem S1x512x128 .f32) (harg9 : arg9.IsWhole) (arg10 : Memref sig .tc .vmem S1x8192x128 .f32) (harg10 : arg10.IsWhole) (arg11 : Memref sig .tc .vmem S1x8192x64 .f32) (harg11 : arg11.IsWhole) (hc0 : cond0_0 i) (hi : (i 1).val = 0) (x0 : Vec F S1x512x128 .bf16) (x1 : Vec F S1x8192x128 .bf16) (x2 : Vec F S1x8192x64 .bf16) (x3 : Vec F S1x64x512 .f32) (x4 : Vec F S1x1x512 .f32) (x5 : Vec F S1x64x512 .f32) (x6 : Vec F S1x512x64 .bf16) :
    out0_A_8 (F := F) c i arg2 harg2 arg3 harg3 arg4 harg4 arg5 harg5 arg6 harg6 arg7 harg7 arg8 harg8 arg9 harg9 arg10 harg10 arg11 harg11 hc0 x0 x1 x2 x3 x4 x5 x6
      = VO0_8.read (Elt F) (VO0_8.writes (Elt F) VO0_8.junk ((⟨Rect.unit (s := S1x8192x128) (k0_off5 i) ![1, 512, 128] (k0_off5_inb i), k0_pay1 (k0_pay31 (BitVec.ofNat 32 (i 1).val) (k0_pay15 (ld3 arg2.view (harg2.unread x0) inb_S1x512x128_S1x512x128_0_0_0)) (k0_pay16 (ld3 arg2.view (harg2.unread x0) inb_S1x512x128_S1x512x128_0_0_0)) (k0_pay19 (ld3 arg7.view (harg7.unread x5) inb_S1x64x512_S1x64x512_0_0_0)) (k0_pay20 (ld3 arg7.view (harg7.unread x5) inb_S1x64x512_S1x64x512_0_0_0) (ld3 arg5.view (harg5.unread x3) inb_S1x64x512_S1x64x512_0_0_0)) (k0_pay21 (ld3 arg6.view (harg6.unread x4) inb_S1x1x512_S1x1x512_0_0_0)) (k0_pay27 (rows128 arg3.view (harg3.unread x1) (k0_off5 i) (k0_off5_inb i))) (rows64 arg4.view (harg4.unread x2) (k0_off6 i) (k0_off6_inb i)) (rows128 arg10.view (arg10.view.writes (Elt F) arg10.view.junk [(⟨Rect.unit (s := S1x8192x128) ![0, 0, 0] ![1, 8192, 128] inb_S1x8192x128_S1x8192x128_0_0_0, k0_pay13⟩ : View.Piece (Elt F) S1x8192x128 .f32)]) (k0_off5 i) (k0_off5_inb i)))⟩ : View.Piece (Elt F) S1x8192x128 .f32) :: [(⟨Rect.unit (s := S1x8192x128) ![0, 0, 0] ![1, 8192, 128] inb_S1x8192x128_S1x8192x128_0_0_0, k0_pay13⟩ : View.Piece (Elt F) S1x8192x128 .f32)])) := by
  rw [out0_A_8_run, trips2, trips1, hi]
  rfl

theorem out0_A_9_run (c : Dev nD) (i : grid0.Coords) (arg2 : Memref sig .tc .vmem S1x512x128 .bf16) (harg2 : arg2.IsWhole) (arg3 : Memref sig .tc .vmem S1x8192x128 .bf16) (harg3 : arg3.IsWhole) (arg4 : Memref sig .tc .vmem S1x8192x64 .bf16) (harg4 : arg4.IsWhole) (arg5 : Memref sig .tc .vmem S1x64x512 .f32) (harg5 : arg5.IsWhole) (arg6 : Memref sig .tc .vmem S1x1x512 .f32) (harg6 : arg6.IsWhole) (arg7 : Memref sig .tc .vmem S1x64x512 .f32) (harg7 : arg7.IsWhole) (arg8 : Memref sig .tc .vmem S1x512x64 .bf16) (harg8 : arg8.IsWhole) (arg9 : Memref sig .tc .vmem S1x512x128 .f32) (harg9 : arg9.IsWhole) (arg10 : Memref sig .tc .vmem S1x8192x128 .f32) (harg10 : arg10.IsWhole) (arg11 : Memref sig .tc .vmem S1x8192x64 .f32) (harg11 : arg11.IsWhole) (hc0 : cond0_0 i) (x0 : Vec F S1x512x128 .bf16) (x1 : Vec F S1x8192x128 .bf16) (x2 : Vec F S1x8192x64 .bf16) (x3 : Vec F S1x64x512 .f32) (x4 : Vec F S1x1x512 .f32) (x5 : Vec F S1x64x512 .f32) (x6 : Vec F S1x512x64 .bf16) :
    out0_A_9 (F := F) c i arg2 harg2 arg3 harg3 arg4 harg4 arg5 harg5 arg6 harg6 arg7 harg7 arg8 harg8 arg9 harg9 arg10 harg10 arg11 harg11 hc0 x0 x1 x2 x3 x4 x5 x6
      = VO0_9.read (Elt F) (VO0_9.writes (Elt F) VO0_9.junk ((⟨Rect.unit (s := S1x8192x64) (k0_off6 i) ![1, 512, 64] (k0_off6_inb i), k0_pay30 (BitVec.ofNat 32 (i 1).val) (k0_pay16 (ld3 arg2.view (harg2.unread x0) inb_S1x512x128_S1x512x128_0_0_0)) (k0_pay17 (ld3 arg8.view (harg8.unread x6) inb_S1x512x64_S1x512x64_0_0_0)) (k0_pay21 (ld3 arg6.view (harg6.unread x4) inb_S1x1x512_S1x1x512_0_0_0)) (k0_pay27 (rows128 arg3.view (harg3.unread x1) (k0_off5 i) (k0_off5_inb i))) (rows64 arg11.view (arg11.view.writes (Elt F) arg11.view.junk ((st_k0_t2 (F := F) Variants.none c none i arg2 harg2 arg3 harg3 arg4 harg4 arg5 harg5 arg6 harg6 arg7 harg7 arg8 harg8 arg9 harg9 arg10 harg10 arg11 harg11 (ld3 arg2.view (harg2.unread x0) inb_S1x512x128_S1x512x128_0_0_0) (ld3 arg8.view (harg8.unread x6) inb_S1x512x64_S1x512x64_0_0_0) (ld3 arg7.view (harg7.unread x5) inb_S1x64x512_S1x64x512_0_0_0) (ld3 arg5.view (harg5.unread x3) inb_S1x64x512_S1x64x512_0_0_0) (ld3 arg6.view (harg6.unread x4) inb_S1x1x512_S1x1x512_0_0_0) (kernelRun0_A.sl.v23 i) (harg3.unread x1) (harg4.unread x2) (arg10.view.writes (Elt F) arg10.view.junk ((st_k0_t1 (F := F) Variants.none c none i arg2 harg2 arg3 harg3 arg4 harg4 arg5 harg5 arg6 harg6 arg7 harg7 arg8 harg8 arg9 harg9 arg10 harg10 arg11 harg11 (ld3 arg2.view (harg2.unread x0) inb_S1x512x128_S1x512x128_0_0_0) (ld3 arg8.view (harg8.unread x6) inb_S1x512x64_S1x512x64_0_0_0) (ld3 arg7.view (harg7.unread x5) inb_S1x64x512_S1x64x512_0_0_0) (ld3 arg5.view (harg5.unread x3) inb_S1x64x512_S1x64x512_0_0_0) (ld3 arg6.view (harg6.unread x4) inb_S1x1x512_S1x1x512_0_0_0) (harg3.unread x1) (harg4.unread x2) (arg10.view.writes (Elt F) arg10.view.junk [(⟨Rect.unit (s := S1x8192x128) ![0, 0, 0] ![1, 8192, 128] inb_S1x8192x128_S1x8192x128_0_0_0, k0_pay13⟩ : View.Piece (Elt F) S1x8192x128 .f32)]) (arg11.view.writes (Elt F) arg11.view.junk [(⟨Rect.unit (s := S1x8192x64) ![0, 0, 0] ![1, 8192, 64] inb_S1x8192x64_S1x8192x64_0_0_0, k0_pay14⟩ : View.Piece (Elt F) S1x8192x64 .f32)]) k0_pay22 (k0_t1_loop i).trips).2.1 ++ [(⟨Rect.unit (s := S1x8192x128) ![0, 0, 0] ![1, 8192, 128] inb_S1x8192x128_S1x8192x128_0_0_0, k0_pay13⟩ : View.Piece (Elt F) S1x8192x128 .f32)])) (arg11.view.writes (Elt F) arg11.view.junk ((st_k0_t1 (F := F) Variants.none c none i arg2 harg2 arg3 harg3 arg4 harg4 arg5 harg5 arg6 harg6 arg7 harg7 arg8 harg8 arg9 harg9 arg10 harg10 arg11 harg11 (ld3 arg2.view (harg2.unread x0) inb_S1x512x128_S1x512x128_0_0_0) (ld3 arg8.view (harg8.unread x6) inb_S1x512x64_S1x512x64_0_0_0) (ld3 arg7.view (harg7.unread x5) inb_S1x64x512_S1x64x512_0_0_0) (ld3 arg5.view (harg5.unread x3) inb_S1x64x512_S1x64x512_0_0_0) (ld3 arg6.view (harg6.unread x4) inb_S1x1x512_S1x1x512_0_0_0) (harg3.unread x1) (harg4.unread x2) (arg10.view.writes (Elt F) arg10.view.junk [(⟨Rect.unit (s := S1x8192x128) ![0, 0, 0] ![1, 8192, 128] inb_S1x8192x128_S1x8192x128_0_0_0, k0_pay13⟩ : View.Piece (Elt F) S1x8192x128 .f32)]) (arg11.view.writes (Elt F) arg11.view.junk [(⟨Rect.unit (s := S1x8192x64) ![0, 0, 0] ![1, 8192, 64] inb_S1x8192x64_S1x8192x64_0_0_0, k0_pay14⟩ : View.Piece (Elt F) S1x8192x64 .f32)]) k0_pay22 (k0_t1_loop i).trips).2.2 ++ [(⟨Rect.unit (s := S1x8192x64) ![0, 0, 0] ![1, 8192, 64] inb_S1x8192x64_S1x8192x64_0_0_0, k0_pay14⟩ : View.Piece (Elt F) S1x8192x64 .f32)])) (st_k0_t1 (F := F) Variants.none c none i arg2 harg2 arg3 harg3 arg4 harg4 arg5 harg5 arg6 harg6 arg7 harg7 arg8 harg8 arg9 harg9 arg10 harg10 arg11 harg11 (ld3 arg2.view (harg2.unread x0) inb_S1x512x128_S1x512x128_0_0_0) (ld3 arg8.view (harg8.unread x6) inb_S1x512x64_S1x512x64_0_0_0) (ld3 arg7.view (harg7.unread x5) inb_S1x64x512_S1x64x512_0_0_0) (ld3 arg5.view (harg5.unread x3) inb_S1x64x512_S1x64x512_0_0_0) (ld3 arg6.view (harg6.unread x4) inb_S1x1x512_S1x1x512_0_0_0) (harg3.unread x1) (harg4.unread x2) (arg10.view.writes (Elt F) arg10.view.junk [(⟨Rect.unit (s := S1x8192x128) ![0, 0, 0] ![1, 8192, 128] inb_S1x8192x128_S1x8192x128_0_0_0, k0_pay13⟩ : View.Piece (Elt F) S1x8192x128 .f32)]) (arg11.view.writes (Elt F) arg11.view.junk [(⟨Rect.unit (s := S1x8192x64) ![0, 0, 0] ![1, 8192, 64] inb_S1x8192x64_S1x8192x64_0_0_0, k0_pay14⟩ : View.Piece (Elt F) S1x8192x64 .f32)]) k0_pay22 (k0_t1_loop i).trips).1 (k0_t2_loop i).trips).2.2 ++ ((st_k0_t1 (F := F) Variants.none c none i arg2 harg2 arg3 harg3 arg4 harg4 arg5 harg5 arg6 harg6 arg7 harg7 arg8 harg8 arg9 harg9 arg10 harg10 arg11 harg11 (ld3 arg2.view (harg2.unread x0) inb_S1x512x128_S1x512x128_0_0_0) (ld3 arg8.view (harg8.unread x6) inb_S1x512x64_S1x512x64_0_0_0) (ld3 arg7.view (harg7.unread x5) inb_S1x64x512_S1x64x512_0_0_0) (ld3 arg5.view (harg5.unread x3) inb_S1x64x512_S1x64x512_0_0_0) (ld3 arg6.view (harg6.unread x4) inb_S1x1x512_S1x1x512_0_0_0) (harg3.unread x1) (harg4.unread x2) (arg10.view.writes (Elt F) arg10.view.junk [(⟨Rect.unit (s := S1x8192x128) ![0, 0, 0] ![1, 8192, 128] inb_S1x8192x128_S1x8192x128_0_0_0, k0_pay13⟩ : View.Piece (Elt F) S1x8192x128 .f32)]) (arg11.view.writes (Elt F) arg11.view.junk [(⟨Rect.unit (s := S1x8192x64) ![0, 0, 0] ![1, 8192, 64] inb_S1x8192x64_S1x8192x64_0_0_0, k0_pay14⟩ : View.Piece (Elt F) S1x8192x64 .f32)]) k0_pay22 (k0_t1_loop i).trips).2.2 ++ [(⟨Rect.unit (s := S1x8192x64) ![0, 0, 0] ![1, 8192, 64] inb_S1x8192x64_S1x8192x64_0_0_0, k0_pay14⟩ : View.Piece (Elt F) S1x8192x64 .f32)]))) (k0_off6 i) (k0_off6_inb i))⟩ : View.Piece (Elt F) S1x8192x64 .f32) :: ((st_k0_t2 (F := F) Variants.none c none i arg2 harg2 arg3 harg3 arg4 harg4 arg5 harg5 arg6 harg6 arg7 harg7 arg8 harg8 arg9 harg9 arg10 harg10 arg11 harg11 (ld3 arg2.view (harg2.unread x0) inb_S1x512x128_S1x512x128_0_0_0) (ld3 arg8.view (harg8.unread x6) inb_S1x512x64_S1x512x64_0_0_0) (ld3 arg7.view (harg7.unread x5) inb_S1x64x512_S1x64x512_0_0_0) (ld3 arg5.view (harg5.unread x3) inb_S1x64x512_S1x64x512_0_0_0) (ld3 arg6.view (harg6.unread x4) inb_S1x1x512_S1x1x512_0_0_0) (kernelRun0_A.sl.v23 i) (harg3.unread x1) (harg4.unread x2) (arg10.view.writes (Elt F) arg10.view.junk ((st_k0_t1 (F := F) Variants.none c none i arg2 harg2 arg3 harg3 arg4 harg4 arg5 harg5 arg6 harg6 arg7 harg7 arg8 harg8 arg9 harg9 arg10 harg10 arg11 harg11 (ld3 arg2.view (harg2.unread x0) inb_S1x512x128_S1x512x128_0_0_0) (ld3 arg8.view (harg8.unread x6) inb_S1x512x64_S1x512x64_0_0_0) (ld3 arg7.view (harg7.unread x5) inb_S1x64x512_S1x64x512_0_0_0) (ld3 arg5.view (harg5.unread x3) inb_S1x64x512_S1x64x512_0_0_0) (ld3 arg6.view (harg6.unread x4) inb_S1x1x512_S1x1x512_0_0_0) (harg3.unread x1) (harg4.unread x2) (arg10.view.writes (Elt F) arg10.view.junk [(⟨Rect.unit (s := S1x8192x128) ![0, 0, 0] ![1, 8192, 128] inb_S1x8192x128_S1x8192x128_0_0_0, k0_pay13⟩ : View.Piece (Elt F) S1x8192x128 .f32)]) (arg11.view.writes (Elt F) arg11.view.junk [(⟨Rect.unit (s := S1x8192x64) ![0, 0, 0] ![1, 8192, 64] inb_S1x8192x64_S1x8192x64_0_0_0, k0_pay14⟩ : View.Piece (Elt F) S1x8192x64 .f32)]) k0_pay22 (k0_t1_loop i).trips).2.1 ++ [(⟨Rect.unit (s := S1x8192x128) ![0, 0, 0] ![1, 8192, 128] inb_S1x8192x128_S1x8192x128_0_0_0, k0_pay13⟩ : View.Piece (Elt F) S1x8192x128 .f32)])) (arg11.view.writes (Elt F) arg11.view.junk ((st_k0_t1 (F := F) Variants.none c none i arg2 harg2 arg3 harg3 arg4 harg4 arg5 harg5 arg6 harg6 arg7 harg7 arg8 harg8 arg9 harg9 arg10 harg10 arg11 harg11 (ld3 arg2.view (harg2.unread x0) inb_S1x512x128_S1x512x128_0_0_0) (ld3 arg8.view (harg8.unread x6) inb_S1x512x64_S1x512x64_0_0_0) (ld3 arg7.view (harg7.unread x5) inb_S1x64x512_S1x64x512_0_0_0) (ld3 arg5.view (harg5.unread x3) inb_S1x64x512_S1x64x512_0_0_0) (ld3 arg6.view (harg6.unread x4) inb_S1x1x512_S1x1x512_0_0_0) (harg3.unread x1) (harg4.unread x2) (arg10.view.writes (Elt F) arg10.view.junk [(⟨Rect.unit (s := S1x8192x128) ![0, 0, 0] ![1, 8192, 128] inb_S1x8192x128_S1x8192x128_0_0_0, k0_pay13⟩ : View.Piece (Elt F) S1x8192x128 .f32)]) (arg11.view.writes (Elt F) arg11.view.junk [(⟨Rect.unit (s := S1x8192x64) ![0, 0, 0] ![1, 8192, 64] inb_S1x8192x64_S1x8192x64_0_0_0, k0_pay14⟩ : View.Piece (Elt F) S1x8192x64 .f32)]) k0_pay22 (k0_t1_loop i).trips).2.2 ++ [(⟨Rect.unit (s := S1x8192x64) ![0, 0, 0] ![1, 8192, 64] inb_S1x8192x64_S1x8192x64_0_0_0, k0_pay14⟩ : View.Piece (Elt F) S1x8192x64 .f32)])) (st_k0_t1 (F := F) Variants.none c none i arg2 harg2 arg3 harg3 arg4 harg4 arg5 harg5 arg6 harg6 arg7 harg7 arg8 harg8 arg9 harg9 arg10 harg10 arg11 harg11 (ld3 arg2.view (harg2.unread x0) inb_S1x512x128_S1x512x128_0_0_0) (ld3 arg8.view (harg8.unread x6) inb_S1x512x64_S1x512x64_0_0_0) (ld3 arg7.view (harg7.unread x5) inb_S1x64x512_S1x64x512_0_0_0) (ld3 arg5.view (harg5.unread x3) inb_S1x64x512_S1x64x512_0_0_0) (ld3 arg6.view (harg6.unread x4) inb_S1x1x512_S1x1x512_0_0_0) (harg3.unread x1) (harg4.unread x2) (arg10.view.writes (Elt F) arg10.view.junk [(⟨Rect.unit (s := S1x8192x128) ![0, 0, 0] ![1, 8192, 128] inb_S1x8192x128_S1x8192x128_0_0_0, k0_pay13⟩ : View.Piece (Elt F) S1x8192x128 .f32)]) (arg11.view.writes (Elt F) arg11.view.junk [(⟨Rect.unit (s := S1x8192x64) ![0, 0, 0] ![1, 8192, 64] inb_S1x8192x64_S1x8192x64_0_0_0, k0_pay14⟩ : View.Piece (Elt F) S1x8192x64 .f32)]) k0_pay22 (k0_t1_loop i).trips).1 (k0_t2_loop i).trips).2.2 ++ ((st_k0_t1 (F := F) Variants.none c none i arg2 harg2 arg3 harg3 arg4 harg4 arg5 harg5 arg6 harg6 arg7 harg7 arg8 harg8 arg9 harg9 arg10 harg10 arg11 harg11 (ld3 arg2.view (harg2.unread x0) inb_S1x512x128_S1x512x128_0_0_0) (ld3 arg8.view (harg8.unread x6) inb_S1x512x64_S1x512x64_0_0_0) (ld3 arg7.view (harg7.unread x5) inb_S1x64x512_S1x64x512_0_0_0) (ld3 arg5.view (harg5.unread x3) inb_S1x64x512_S1x64x512_0_0_0) (ld3 arg6.view (harg6.unread x4) inb_S1x1x512_S1x1x512_0_0_0) (harg3.unread x1) (harg4.unread x2) (arg10.view.writes (Elt F) arg10.view.junk [(⟨Rect.unit (s := S1x8192x128) ![0, 0, 0] ![1, 8192, 128] inb_S1x8192x128_S1x8192x128_0_0_0, k0_pay13⟩ : View.Piece (Elt F) S1x8192x128 .f32)]) (arg11.view.writes (Elt F) arg11.view.junk [(⟨Rect.unit (s := S1x8192x64) ![0, 0, 0] ![1, 8192, 64] inb_S1x8192x64_S1x8192x64_0_0_0, k0_pay14⟩ : View.Piece (Elt F) S1x8192x64 .f32)]) k0_pay22 (k0_t1_loop i).trips).2.2 ++ [(⟨Rect.unit (s := S1x8192x64) ![0, 0, 0] ![1, 8192, 64] inb_S1x8192x64_S1x8192x64_0_0_0, k0_pay14⟩ : View.Piece (Elt F) S1x8192x64 .f32)])))) := by
  unfold out0_A_9 kernelRun0_A
  rfl

theorem out0_A_9_eq (c : Dev nD) (i : grid0.Coords) (arg2 : Memref sig .tc .vmem S1x512x128 .bf16) (harg2 : arg2.IsWhole) (arg3 : Memref sig .tc .vmem S1x8192x128 .bf16) (harg3 : arg3.IsWhole) (arg4 : Memref sig .tc .vmem S1x8192x64 .bf16) (harg4 : arg4.IsWhole) (arg5 : Memref sig .tc .vmem S1x64x512 .f32) (harg5 : arg5.IsWhole) (arg6 : Memref sig .tc .vmem S1x1x512 .f32) (harg6 : arg6.IsWhole) (arg7 : Memref sig .tc .vmem S1x64x512 .f32) (harg7 : arg7.IsWhole) (arg8 : Memref sig .tc .vmem S1x512x64 .bf16) (harg8 : arg8.IsWhole) (arg9 : Memref sig .tc .vmem S1x512x128 .f32) (harg9 : arg9.IsWhole) (arg10 : Memref sig .tc .vmem S1x8192x128 .f32) (harg10 : arg10.IsWhole) (arg11 : Memref sig .tc .vmem S1x8192x64 .f32) (harg11 : arg11.IsWhole) (hc0 : cond0_0 i) (hi : (i 1).val = 0) (x0 : Vec F S1x512x128 .bf16) (x1 : Vec F S1x8192x128 .bf16) (x2 : Vec F S1x8192x64 .bf16) (x3 : Vec F S1x64x512 .f32) (x4 : Vec F S1x1x512 .f32) (x5 : Vec F S1x64x512 .f32) (x6 : Vec F S1x512x64 .bf16) :
    out0_A_9 (F := F) c i arg2 harg2 arg3 harg3 arg4 harg4 arg5 harg5 arg6 harg6 arg7 harg7 arg8 harg8 arg9 harg9 arg10 harg10 arg11 harg11 hc0 x0 x1 x2 x3 x4 x5 x6
      = VO0_9.read (Elt F) (VO0_9.writes (Elt F) VO0_9.junk ((⟨Rect.unit (s := S1x8192x64) (k0_off6 i) ![1, 512, 64] (k0_off6_inb i), k0_pay30 (BitVec.ofNat 32 (i 1).val) (k0_pay16 (ld3 arg2.view (harg2.unread x0) inb_S1x512x128_S1x512x128_0_0_0)) (k0_pay17 (ld3 arg8.view (harg8.unread x6) inb_S1x512x64_S1x512x64_0_0_0)) (k0_pay21 (ld3 arg6.view (harg6.unread x4) inb_S1x1x512_S1x1x512_0_0_0)) (k0_pay27 (rows128 arg3.view (harg3.unread x1) (k0_off5 i) (k0_off5_inb i))) (rows64 arg11.view (arg11.view.writes (Elt F) arg11.view.junk [(⟨Rect.unit (s := S1x8192x64) ![0, 0, 0] ![1, 8192, 64] inb_S1x8192x64_S1x8192x64_0_0_0, k0_pay14⟩ : View.Piece (Elt F) S1x8192x64 .f32)]) (k0_off6 i) (k0_off6_inb i))⟩ : View.Piece (Elt F) S1x8192x64 .f32) :: [(⟨Rect.unit (s := S1x8192x64) ![0, 0, 0] ![1, 8192, 64] inb_S1x8192x64_S1x8192x64_0_0_0, k0_pay14⟩ : View.Piece (Elt F) S1x8192x64 .f32)])) := by
  rw [out0_A_9_run, trips2, trips1, hi]
  rfl

end Cert.Mla
-- ==== Proof.Mla.Consts.lean ====
/- The constants of the kernel at the extended reals, and the coercion of real sums. -/
module

public import proofs.«01_k».proof.Proof.Gen.KernelIdeal.Skeleton
public import Idealize.ShloMosaic.Lib.Pointwise
public import Idealize.ShloMosaic.PureOps.IdealRules

@[expose] public section

set_option maxRecDepth 16384

noncomputable section

namespace Cert.Mla

open Idealize.ShloMosaic Idealize.SL.Sem

/-- The scale of the scores: the rational that its 32-bit word is. -/
def rs : ℝ := 3424635 / 33554432

/-- The factor of the scores inside the power of two: the scale over the natural logarithm of two. -/
def cm : ℝ := (3424635 / 33554432) * (Real.log 2)⁻¹

theorem scale_word : Ideal.ofBits .f32 0x3DD105EC#32 = ((rs : ℝ) : EReal) := by
  simp [Ideal.ofBits, Ideal.ieee, -EReal.coe_mul, rs]; norm_num

theorem cmul_named :
    Named.named (F := Ideal) (φ := .f32) Cert.KernelIdeal.κ "cmul" 0x3E16C740#32 = ((cm : ℝ) : EReal) :=
  IdealRules.named_const.ideal_named_scalar _ _ _ _ rfl

theorem mask_named : Named.named (F := Ideal) (φ := .f32) Cert.KernelIdeal.κ "mask" 0xF149F2CA#32 = (⊥ : EReal) :=
  IdealRules.named_const.ideal_named_scalar _ _ _ _ rfl

theorem zero_word : Ideal.ofBits .f32 0x00000000#32 = 0 := Ideal.ofBits_zero_f32

theorem one_word : Ideal.ofBits .f32 0x3F800000#32 = 1 := Ideal.ofBits_one_f32

theorem two_word : Ideal.ofBits .f32 0x40000000#32 = ((2 : ℝ) : EReal) := by
  simp [Ideal.ofBits, Ideal.ieee, -EReal.coe_mul]; norm_num

theorem inf_word : Ideal.ofBits .f32 0x7F800000#32 = ⊤ := by
  simp [Ideal.ofBits, Ideal.ieee]

theorem neg_inf_word : Ideal.ofBits .f32 0xFF800000#32 = ⊥ := by
  simp [Ideal.ofBits, Ideal.ieee]

/-- A finite sum of real numbers, coerced. -/
theorem coe_sum {ι : Type} [Fintype ι] (f : ι → ℝ) :
    ∑ i, ((f i : ℝ) : EReal) = ((∑ i, f i : ℝ) : EReal) := by
  induction (Finset.univ : Finset ι) using Finset.cons_induction with
  | empty => simp
  | cons a s ha ih => rw [Finset.sum_cons, Finset.sum_cons, ih, EReal.coe_add]

/-- A sum of products of real numbers, coerced. -/
theorem sum_mul_coe {ι : Type} [Fintype ι] (f g : ι → ℝ) :
    ∑ i, ((f i : ℝ) : EReal) * ((g i : ℝ) : EReal) = ((∑ i, f i * g i : ℝ) : EReal) := by
  rw [← coe_sum]; exact Finset.sum_congr rfl fun i _ => (EReal.coe_mul _ _).symm

end Cert.Mla
-- ==== Proof.Mla.Block.lean ====
/- The kernel's block computations on blocks of real numbers. -/
module

public import proofs.«01_k».proof.Proof.Mla.Consts
public import Idealize.ShloMosaic.Lib.WordCmp

@[expose] public section

set_option maxRecDepth 16384

noncomputable section

namespace Cert.Mla

open Idealize.ShloMosaic Idealize.SL.Sem
open Cert.KernelIdeal Cert.KernelIdeal.Gen

/-- The unmasked weight of one key for one query, its logarithm base two of the row's sum being `l`. -/
def wt (K Q : Fin 128 → ℝ) (l : ℝ) : ℝ := Real.rpow 2 ((∑ d, K d * Q d) * cm - l)

/-- The derivative of the scaled score from the weight, of the value row, the cotangent row and the output row. -/
def dsc (w : ℝ) (V G O : Fin 64 → ℝ) : ℝ := w * ((∑ e, V e * G e) - ∑ e, G e * O e) * rs

section
variable (v4 : FVec Ideal S512x128 .bf16) (v5 : FVec Ideal S128x512 .bf16) (v7 : FVec Ideal S512x64 .bf16)
  (v10 : FVec Ideal S64x512 .bf16) (v15 v17 : FVec Ideal S1x512 .f32)
  (v87 : Vec Ideal S1x512x128 .bf16) (v96 : Vec Ideal S1x512x64 .bf16)
  (K Q : Fin 512 → Fin 128 → ℝ) (V G O : Fin 512 → Fin 64 → ℝ) (l : Fin 512 → ℝ)
  (h4 : ∀ q d, v4 (ix2 q d) = ((Q q d : ℝ) : EReal))
  (h5 : ∀ d q, v5 (ix2 d q) = ((Q q d : ℝ) : EReal))
  (h7 : ∀ q e, v7 (ix2 q e) = ((G q e : ℝ) : EReal))
  (h10 : ∀ e q, v10 (ix2 e q) = ((G q e : ℝ) : EReal))
  (h15 : ∀ q, v15 (ix2 0 q) = ((∑ e, G q e * O q e : ℝ) : EReal))
  (h17 : ∀ q, v17 (ix2 0 q) = ((l q : ℝ) : EReal))
  (h87 : ∀ k d, v87 (ix3 0 k d) = ((K k d : ℝ) : EReal))
  (h96 : ∀ k e, v96 (ix3 0 k e) = ((V k e : ℝ) : EReal))

include h5 h17 h87 in
theorem pay4_apply (k q : Fin 512) : k0_pay4 v5 v17 v87 (ix2 k q) = ((wt (K k) (Q q) (l q) : ℝ) : EReal) := by
  pointwise [k0_pay4, k0_pay3]
  simp only [h5, h17, h87, cmul_named, sum_mul_coe]
  rw [← EReal.coe_mul, ← EReal.coe_sub]
  rfl

include h5 h10 h15 h17 h87 h96 in
theorem pay5_apply (k q : Fin 512) :
    k0_pay5 v5 v10 v15 v17 v87 v96 (ix2 k q)
      = ((dsc (wt (K k) (Q q) (l q)) (V k) (G q) (O q) : ℝ) : EReal) := by
  have h := pay4_apply v5 v17 v87 K Q l h5 h17 h87
  pointwise [k0_pay5]
  simp only [h, h10, h15, h96, scale_word, sum_mul_coe, ← EReal.coe_mul, ← EReal.coe_sub]
  rfl

include h5 h7 h17 h87 in
theorem pay6_apply (v106 : Vec Ideal S1x512x64 .f32) (A : Fin 512 → Fin 64 → ℝ)
    (hA : ∀ k e, v106 (ix3 0 k e) = ((A k e : ℝ) : EReal)) (k : Fin 512) (e : Fin 64) :
    k0_pay6 v5 v7 v17 v87 v106 (ix3 0 k e)
      = ((A k e + ∑ q, wt (K k) (Q q) (l q) * G q e : ℝ) : EReal) := by
  have h := pay4_apply v5 v17 v87 K Q l h5 h17 h87
  pointwise [k0_pay6]
  simp only [h, h7, hA, sum_mul_coe, ← EReal.coe_add]

include h4 h5 h10 h15 h17 h87 h96 in
theorem pay7_apply (v116 : Vec Ideal S1x512x128 .f32) (A : Fin 512 → Fin 128 → ℝ)
    (hA : ∀ k d, v116 (ix3 0 k d) = ((A k d : ℝ) : EReal)) (k : Fin 512) (d : Fin 128) :
    k0_pay23 (k0_pay7 v4 v5 v10 v15 v17 v87 v96 v116) (ix3 0 k d)
      = ((A k d + ∑ q, dsc (wt (K k) (Q q) (l q)) (V k) (G q) (O q) * Q q d : ℝ) : EReal) := by
  have h := pay5_apply v5 v10 v15 v17 v87 v96 K Q V G O l h5 h10 h15 h17 h87 h96
  pointwise [k0_pay7, k0_pay23]
  simp only [h, h4, hA, sum_mul_coe, ← EReal.coe_add]

include h5 h10 h15 h17 h87 h96 in
theorem pay24_apply (acc : FVec Ideal S128x512 .f32) (A : Fin 128 → Fin 512 → ℝ)
    (hA : ∀ d q, acc (ix2 d q) = ((A d q : ℝ) : EReal)) (d : Fin 128) (q : Fin 512) :
    k0_pay24 acc (k0_pay3 v87) (k0_pay5 v5 v10 v15 v17 v87 v96) (ix2 d q)
      = ((A d q + ∑ k, K k d * dsc (wt (K k) (Q q) (l q)) (V k) (G q) (O q) : ℝ) : EReal) := by
  have h := pay5_apply v5 v10 v15 v17 v87 v96 K Q V G O l h5 h10 h15 h17 h87 h96
  pointwise [k0_pay24, k0_pay3]
  simp only [h, h87, hA, sum_mul_coe, ← EReal.coe_add]

theorem place_word (i n : ℕ) :
    IntOp.addi (Scalar.muli (BitVec.ofNat 32 i) 512#32) (BitVec.ofNat 32 n) = BitVec.ofNat 32 (i * 512 + n) := by
  show BitVec.ofNat 32 i * 512#32 + BitVec.ofNat 32 n = _
  rw [BitVec.ofNat_add, BitVec.ofNat_mul]

/-- The comparison of a key's place with a query's place in the block of the diagonal. -/
theorem diag_le (i : Fin 16) (k q : Fin 512) :
    IntOp.cmpi .sle (IntOp.addi (Scalar.muli (BitVec.ofNat 32 i.val) 512#32) (BitVec.ofNat 32 k.val))
      (IntOp.addi (Scalar.muli (BitVec.ofNat 32 i.val) 512#32) (BitVec.ofNat 32 q.val)) = 1 ↔ k ≤ q := by
  show _ = 1#1 ↔ _
  rw [place_word, place_word, WordCmp.cmpi_sle_ofNat_eq_one_iff (by omega) (by omega), Fin.le_def]
  omega

/-- The weight in the block of the diagonal: zero for a key after the query. -/
def mw (K Q : Fin 512 → Fin 128 → ℝ) (l : Fin 512 → ℝ) (k q : Fin 512) : ℝ :=
  if k ≤ q then wt (K k) (Q q) (l q) else 0

include h5 h17 h87 in
theorem pay28_apply (i : Fin 16) (k q : Fin 512) :
    k0_pay28 (BitVec.ofNat 32 i.val) v5 v17 (k0_pay27 v87) (ix2 k q) = ((mw K Q l k q : ℝ) : EReal) := by
  pointwise [k0_pay28, k0_pay27]
  simp only [h5, h17, h87, cmul_named, mask_named, sum_mul_coe]
  unfold Scalar.select mw
  by_cases hk : k ≤ q
  · rw [if_pos ((diag_le i k q).2 hk), if_pos hk, ← EReal.coe_mul, ← EReal.coe_sub]
    rfl
  · rw [if_neg (fun h => hk ((diag_le i k q).1 h)), if_neg hk, EReal.bot_sub]
    rfl

include h5 h10 h15 h17 h87 h96 in
theorem pay29_apply (i : Fin 16) (k q : Fin 512) :
    k0_pay29 (BitVec.ofNat 32 i.val) v5 v10 v15 v17 (k0_pay27 v87) v96 (ix2 k q)
      = ((dsc (mw K Q l k q) (V k) (G q) (O q) : ℝ) : EReal) := by
  have h := pay28_apply v5 v17 v87 K Q l h5 h17 h87 i
  pointwise [k0_pay29]
  simp only [h, h10, h15, h96, scale_word, sum_mul_coe, ← EReal.coe_mul, ← EReal.coe_sub]
  rfl

include h5 h7 h17 h87 in
theorem pay30_apply (i : Fin 16) (v106 : Vec Ideal S1x512x64 .f32) (A : Fin 512 → Fin 64 → ℝ)
    (hA : ∀ k e, v106 (ix3 0 k e) = ((A k e : ℝ) : EReal)) (k : Fin 512) (e : Fin 64) :
    k0_pay30 (BitVec.ofNat 32 i.val) v5 v7 v17 (k0_pay27 v87) v106 (ix3 0 k e)
      = ((A k e + ∑ q, mw K Q l k q * G q e : ℝ) : EReal) := by
  have h := pay28_apply v5 v17 v87 K Q l h5 h17 h87 i
  pointwise [k0_pay30]
  simp only [h, h7, hA, sum_mul_coe, ← EReal.coe_add]

include h4 h5 h10 h15 h17 h87 h96 in
theorem pay31_apply (i : Fin 16) (v116 : Vec Ideal S1x512x128 .f32) (A : Fin 512 → Fin 128 → ℝ)
    (hA : ∀ k d, v116 (ix3 0 k d) = ((A k d : ℝ) : EReal)) (k : Fin 512) (d : Fin 128) :
    k0_pay1 (k0_pay31 (BitVec.ofNat 32 i.val) v4 v5 v10 v15 v17 (k0_pay27 v87) v96 v116) (ix3 0 k d)
      = ((A k d + ∑ q, dsc (mw K Q l k q) (V k) (G q) (O q) * Q q d : ℝ) : EReal) := by
  have h := pay29_apply v5 v10 v15 v17 v87 v96 K Q V G O l h5 h10 h15 h17 h87 h96 i
  pointwise [k0_pay31, k0_pay1]
  simp only [h, h4, hA, sum_mul_coe, ← EReal.coe_add]

include h5 h10 h15 h17 h87 h96 in
theorem pay2_apply (i : Fin 16) (acc : FVec Ideal S128x512 .f32) (A : Fin 128 → Fin 512 → ℝ)
    (hA : ∀ d q, acc (ix2 d q) = ((A d q : ℝ) : EReal)) (d : Fin 128) (q : Fin 512) :
    k0_pay2 acc (k0_pay27 v87) (k0_pay29 (BitVec.ofNat 32 i.val) v5 v10 v15 v17 (k0_pay27 v87) v96) (ix3 0 q d)
      = ((A d q + ∑ k, K k d * dsc (mw K Q l k q) (V k) (G q) (O q) : ℝ) : EReal) := by
  have h := pay29_apply v5 v10 v15 v17 v87 v96 K Q V G O l h5 h10 h15 h17 h87 h96 i
  generalize k0_pay29 (BitVec.ofNat 32 i.val) v5 v10 v15 v17 (k0_pay27 v87) v96 = D at h ⊢
  pointwise [k0_pay2, k0_pay27]
  simp only [h, h87, hA, sum_mul_coe, ← EReal.coe_add]

end

section
variable (v3 : Vec Ideal S1x512x128 .bf16) (v6 : Vec Ideal S1x512x64 .bf16) (v8 v11 : Vec Ideal S1x64x512 .f32)
  (v16 : Vec Ideal S1x1x512 .f32) (Q : Fin 512 → Fin 128 → ℝ) (G O : Fin 512 → Fin 64 → ℝ) (l : Fin 512 → ℝ)
  (h3 : ∀ q d, v3 (ix3 0 q d) = ((Q q d : ℝ) : EReal)) (h6 : ∀ q e, v6 (ix3 0 q e) = ((G q e : ℝ) : EReal))
  (h8 : ∀ e q, v8 (ix3 0 e q) = ((G q e : ℝ) : EReal)) (h11 : ∀ e q, v11 (ix3 0 e q) = ((O q e : ℝ) : EReal))
  (h16 : ∀ q, v16 (ix3 0 0 q) = ((l q : ℝ) : EReal))

include h3 in
theorem pay15_apply (q : Fin 512) (d : Fin 128) : k0_pay15 v3 (ix2 q d) = ((Q q d : ℝ) : EReal) := by
  pointwise [k0_pay15]; exact h3 q d

include h3 in
theorem pay16_apply (d : Fin 128) (q : Fin 512) : k0_pay16 v3 (ix2 d q) = ((Q q d : ℝ) : EReal) := by
  pointwise [k0_pay16, k0_pay15]; exact h3 q d

include h6 in
theorem pay17_apply (q : Fin 512) (e : Fin 64) : k0_pay17 v6 (ix2 q e) = ((G q e : ℝ) : EReal) := by
  pointwise [k0_pay17]; exact h6 q e

include h8 in
theorem pay19_apply (e : Fin 64) (q : Fin 512) : k0_pay19 v8 (ix2 e q) = ((G q e : ℝ) : EReal) := by
  pointwise [k0_pay19, k0_pay18]; exact h8 e q

include h8 h11 in
theorem pay20_apply (q : Fin 512) : k0_pay20 v8 v11 (ix2 0 q) = ((∑ e, G q e * O q e : ℝ) : EReal) := by
  pointwise [k0_pay20, k0_pay18]
  simp only [h8, h11, sum_mul_coe]

include h16 in
theorem pay21_apply (q : Fin 512) : k0_pay21 v16 (ix2 0 q) = ((l q : ℝ) : EReal) := by
  pointwise [k0_pay21]; exact h16 q

theorem pay22_apply (d : Fin 128) (q : Fin 512) : k0_pay22 (F := Ideal) (ix2 d q) = ((0 : ℝ) : EReal) := by
  pointwise [k0_pay22]; simp

theorem pay13_apply (k : Fin 8192) (d : Fin 128) : k0_pay13 (F := Ideal) (ix3 0 k d) = ((0 : ℝ) : EReal) := by
  pointwise [k0_pay13]; simp

theorem pay14_apply (k : Fin 8192) (e : Fin 64) : k0_pay14 (F := Ideal) (ix3 0 k e) = ((0 : ℝ) : EReal) := by
  pointwise [k0_pay14]; simp

end

end Cert.Mla
-- ==== Proof.Mla.Loop.lean ====
/- The kernel's loop over the earlier key blocks: what it carries and what it has stored, before every trip. -/
module

public import proofs.«01_k».proof.Proof.Mla.Trip
public import proofs.«01_k».proof.Proof.Mla.Block

@[expose] public section

set_option maxRecDepth 16384

noncomputable section

namespace Cert.Mla

open Idealize.ShloMosaic Idealize.SL.Sem Idealize.ShloMosaic.TcCoe
open Cert.KernelIdeal Cert.KernelIdeal.Gen

/-- What one head's calls are given: keys, queries, values, cotangents and outputs by place, and each query's
    logarithm base two of its row's sum. -/
structure Head where
  K : ℕ → Fin 128 → ℝ
  Q : ℕ → Fin 128 → ℝ
  V : ℕ → Fin 64 → ℝ
  G : ℕ → Fin 64 → ℝ
  O : ℕ → Fin 64 → ℝ
  l : ℕ → ℝ

namespace Head

variable (H : Head)

/-- The weight of key `a` for query `b`. -/
def W (a b : ℕ) : ℝ := if a ≤ b then wt (H.K a) (H.Q b) (H.l b) else 0

/-- The derivative of the score of key `a` for query `b`. -/
def D (a b : ℕ) : ℝ := dsc (H.W a b) (H.V a) (H.G b) (H.O b)

theorem W_early {a b : ℕ} (h : a ≤ b) : H.W a b = wt (H.K a) (H.Q b) (H.l b) := if_pos h

theorem D_early {a b : ℕ} (h : a ≤ b) : dsc (wt (H.K a) (H.Q b) (H.l b)) (H.V a) (H.G b) (H.O b) = H.D a b := by
  rw [D, W_early H h]

theorem W_late {a b : ℕ} (h : b < a) : H.W a b = 0 := if_neg (by omega)

theorem D_late {a b : ℕ} (h : b < a) : H.D a b = 0 := by
  rw [D, W_late H h]; simp [dsc]

theorem W_diag (j : ℕ) (k q : Fin 512) :
    mw (fun x => H.K (512 * j + x.val)) (fun x => H.Q (512 * j + x.val)) (fun x => H.l (512 * j + x.val)) k q
      = H.W (512 * j + k.val) (512 * j + q.val) := by
  unfold mw W
  refine if_congr ?_ rfl rfl
  rw [Fin.le_def]; omega

/-- The query block `j` of the head, as the point's blocks hold it. -/
structure Blk (j : ℕ) (v3 : Vec Ideal S1x512x128 .bf16) (v6 : Vec Ideal S1x512x64 .bf16) (v8 v11 : Vec Ideal S1x64x512 .f32)
    (v16 : Vec Ideal S1x1x512 .f32) : Prop where
  h3 : ∀ q d, v3 (ix3 0 q d) = ((H.Q (512 * j + q.val) d : ℝ) : EReal)
  h6 : ∀ q e, v6 (ix3 0 q e) = ((H.G (512 * j + q.val) e : ℝ) : EReal)
  h8 : ∀ e q, v8 (ix3 0 e q) = ((H.G (512 * j + q.val) e : ℝ) : EReal)
  h11 : ∀ e q, v11 (ix3 0 e q) = ((H.O (512 * j + q.val) e : ℝ) : EReal)
  h16 : ∀ q, v16 (ix3 0 0 q) = ((H.l (512 * j + q.val) : ℝ) : EReal)

end Head

/-- A sum over one more block of 512. -/
theorem sum_block (f : ℕ → ℝ) (n : ℕ) :
    ∑ a ∈ Finset.range (512 * (n + 1)), f a = (∑ a ∈ Finset.range (512 * n), f a) + ∑ x : Fin 512, f (512 * n + x.val) := by
  rw [Nat.mul_succ, Finset.sum_range_add, Finset.sum_range (n := 512)]

variable (H : Head)

section Loop

variable (𝒱 : Variants) (c : Dev nD) (bd : Option 𝒱.V) (i : grid0.Coords) (arg2 : Memref sig .tc .vmem S1x512x128 .bf16) (harg2 : arg2.IsWhole) (arg3 : Memref sig .tc .vmem S1x8192x128 .bf16) (harg3 : arg3.IsWhole) (arg4 : Memref sig .tc .vmem S1x8192x64 .bf16) (harg4 : arg4.IsWhole) (arg5 : Memref sig .tc .vmem S1x64x512 .f32) (harg5 : arg5.IsWhole) (arg6 : Memref sig .tc .vmem S1x1x512 .f32) (harg6 : arg6.IsWhole) (arg7 : Memref sig .tc .vmem S1x64x512 .f32) (harg7 : arg7.IsWhole) (arg8 : Memref sig .tc .vmem S1x512x64 .bf16) (harg8 : arg8.IsWhole) (arg9 : Memref sig .tc .vmem S1x512x128 .f32) (harg9 : arg9.IsWhole) (arg10 : Memref sig .tc .vmem S1x8192x128 .f32) (harg10 : arg10.IsWhole) (arg11 : Memref sig .tc .vmem S1x8192x64 .f32) (harg11 : arg11.IsWhole) (v3 : Vec Ideal S1x512x128 .bf16) (v6 : Vec Ideal S1x512x64 .bf16) (v8 : Vec Ideal S1x64x512 .f32) (v11 : Vec Ideal S1x64x512 .f32) (v16 : Vec Ideal S1x1x512 .f32) (X_arg3 : BufTy.Contents (Elt Ideal) arg3.view.ty) (X_arg4 : BufTy.Contents (Elt Ideal) arg4.view.ty) (G_arg10 : BufTy.Contents (Elt Ideal) arg10.view.ty) (G_arg11 : BufTy.Contents (Elt Ideal) arg11.view.ty) (init : FVec Ideal S128x512 .f32)
  (B10 : ℕ → Fin 128 → ℝ) (B11 : ℕ → Fin 64 → ℝ)

/-- What holds before trip `n` of the loop. -/
structure Inv (n : ℕ) (S : FVec Ideal S128x512 .f32 × List (View.Piece (Elt Ideal) S1x8192x128 .f32) × List (View.Piece (Elt Ideal) S1x8192x64 .f32)) : Prop where
  dq : ∀ d q, S.1 (ix2 d q) = ((∑ a ∈ Finset.range (512 * n), H.K a d * H.D a (512 * (i 1).val + q.val) : ℝ) : EReal)
  dk : ∀ a d, arg10.view.read (Elt Ideal) (arg10.view.writes (Elt Ideal) G_arg10 S.2.1) (ix3 0 a d)
      = ((B10 a.val d + if a.val < 512 * n then ∑ q : Fin 512, H.D a.val (512 * (i 1).val + q.val) * H.Q (512 * (i 1).val + q.val) d else 0 : ℝ) : EReal)
  dv : ∀ a e, arg11.view.read (Elt Ideal) (arg11.view.writes (Elt Ideal) G_arg11 S.2.2) (ix3 0 a e)
      = ((B11 a.val e + if a.val < 512 * n then ∑ q : Fin 512, H.W a.val (512 * (i 1).val + q.val) * H.G (512 * (i 1).val + q.val) e else 0 : ℝ) : EReal)

variable (hb : H.Blk (i 1).val v3 v6 v8 v11 v16)
  (hX3 : ∀ a d, arg3.view.read (Elt Ideal) X_arg3 (ix3 0 a d) = ((H.K a.val d : ℝ) : EReal))
  (hX4 : ∀ a e, arg4.view.read (Elt Ideal) X_arg4 (ix3 0 a e) = ((H.V a.val e : ℝ) : EReal))
  (hG10 : ∀ a d, arg10.view.read (Elt Ideal) G_arg10 (ix3 0 a d) = ((B10 a.val d : ℝ) : EReal))
  (hG11 : ∀ a e, arg11.view.read (Elt Ideal) G_arg11 (ix3 0 a e) = ((B11 a.val e : ℝ) : EReal))
  (hinit : ∀ d q, init (ix2 d q) = ((0 : ℝ) : EReal))

include hG10 hG11 hinit in
theorem inv_zero : Inv H i arg10 arg11 G_arg10 G_arg11 B10 B11 0
    (st_k0_t1 (F := Ideal) 𝒱 c bd i arg2 harg2 arg3 harg3 arg4 harg4 arg5 harg5 arg6 harg6 arg7 harg7 arg8 harg8 arg9 harg9 arg10 harg10 arg11 harg11 v3 v6 v8 v11 v16 X_arg3 X_arg4 G_arg10 G_arg11 init 0) where
  dq d q := by
    show init (ix2 d q) = _
    rw [hinit]; simp
  dk a d := by
    show arg10.view.read (Elt Ideal) G_arg10 (ix3 0 a d) = _
    rw [hG10, if_neg (by omega), add_zero]
  dv a e := by
    show arg11.view.read (Elt Ideal) G_arg11 (ix3 0 a e) = _
    rw [hG11, if_neg (by omega), add_zero]

include hb hX3 hX4 in
theorem inv_succ (n : ℕ) (hn : n < (i 1).val)
    (ih : Inv H i arg10 arg11 G_arg10 G_arg11 B10 B11 n (st_k0_t1 (F := Ideal) 𝒱 c bd i arg2 harg2 arg3 harg3 arg4 harg4 arg5 harg5 arg6 harg6 arg7 harg7 arg8 harg8 arg9 harg9 arg10 harg10 arg11 harg11 v3 v6 v8 v11 v16 X_arg3 X_arg4 G_arg10 G_arg11 init n)) :
    Inv H i arg10 arg11 G_arg10 G_arg11 B10 B11 (n + 1)
      (st_k0_t1 (F := Ideal) 𝒱 c bd i arg2 harg2 arg3 harg3 arg4 harg4 arg5 harg5 arg6 harg6 arg7 harg7 arg8 harg8 arg9 harg9 arg10 harg10 arg11 harg11 v3 v6 v8 v11 v16 X_arg3 X_arg4 G_arg10 G_arg11 init (n + 1)) := by
  have hi : (i 1).val < 16 := (i 1).isLt
  have hs := st_k0_t1_succ (F := Ideal) 𝒱 c bd i arg2 harg2 arg3 harg3 arg4 harg4 arg5 harg5 arg6 harg6 arg7 harg7 arg8 harg8 arg9 harg9 arg10 harg10 arg11 harg11 v3 v6 v8 v11 v16 X_arg3 X_arg4 G_arg10 G_arg11 init ⟨n, (trips1 i).symm ▸ hn⟩
  generalize hk : (⟨n, (trips1 i).symm ▸ hn⟩ : Fin (k0_t1_loop i).trips) = k at hs
  have hkn : k.val = n := by rw [← hk]
  rw [hkn] at hs
  rw [hs, tripR_eq, tripL_eq]
  generalize st_k0_t1 (F := Ideal) 𝒱 c bd i arg2 harg2 arg3 harg3 arg4 harg4 arg5 harg5 arg6 harg6 arg7 harg7 arg8 harg8 arg9 harg9 arg10 harg10 arg11 harg11 v3 v6 v8 v11 v16 X_arg3 X_arg4 G_arg10 G_arg11 init n = S at ih ⊢
  have o1 : k0_off1 i k = ![0, 512 * n, 0] := by rw [k0_off1_eq, hkn]
  have o2 : k0_off2 i k = ![0, 512 * n, 0] := by rw [k0_off2_eq, hkn]
  have e87 : ∀ (x : Fin 512) (d : Fin 128), rows128 arg3.view X_arg3 (k0_off1 i k) (k0_off1_inb i k) (ix3 0 x d)
      = ((H.K (512 * n + x.val) d : ℝ) : EReal) := fun x d => by
    rw [rows128, rd_rows arg3.view X_arg3 _ (512 * n) o1 x d (by omega), hX3]
  have e96 : ∀ (x : Fin 512) (e : Fin 64), rows64 arg4.view X_arg4 (k0_off2 i k) (k0_off2_inb i k) (ix3 0 x e)
      = ((H.V (512 * n + x.val) e : ℝ) : EReal) := fun x e => by
    rw [rows64, rd_rows arg4.view X_arg4 _ (512 * n) o2 x e (by omega), hX4]
  have e116 : ∀ (x : Fin 512) (d : Fin 128), rows128 arg10.view (arg10.view.writes (Elt Ideal) G_arg10 S.2.1) (k0_off1 i k) (k0_off1_inb i k) (ix3 0 x d)
      = ((B10 (512 * n + x.val) d : ℝ) : EReal) := fun x d => by
    rw [rows128, rd_rows arg10.view _ _ (512 * n) o1 x d (by omega), ih.dk, if_neg (by show ¬ (512 * n + x.val < 512 * n); omega), add_zero]
  have e106 : ∀ (x : Fin 512) (e : Fin 64), rows64 arg11.view (arg11.view.writes (Elt Ideal) G_arg11 S.2.2) (k0_off2 i k) (k0_off2_inb i k) (ix3 0 x e)
      = ((B11 (512 * n + x.val) e : ℝ) : EReal) := fun x e => by
    rw [rows64, rd_rows arg11.view _ _ (512 * n) o2 x e (by omega), ih.dv, if_neg (by show ¬ (512 * n + x.val < 512 * n); omega), add_zero]
  have p15 := pay15_apply v3 (fun q => H.Q (512 * (i 1).val + q.val)) hb.h3
  have p16 := pay16_apply v3 (fun q => H.Q (512 * (i 1).val + q.val)) hb.h3
  have p17 := pay17_apply v6 (fun q => H.G (512 * (i 1).val + q.val)) hb.h6
  have p19 := pay19_apply v8 (fun q => H.G (512 * (i 1).val + q.val)) hb.h8
  have p20 := pay20_apply v8 v11 (fun q => H.G (512 * (i 1).val + q.val)) (fun q => H.O (512 * (i 1).val + q.val)) hb.h8 hb.h11
  have p21 := pay21_apply v16 (fun q => H.l (512 * (i 1).val + q.val)) hb.h16
  have le : ∀ x q : Fin 512, 512 * n + x.val ≤ 512 * (i 1).val + q.val := fun x q => by omega
  refine ⟨fun d q => ?_, fun a d => ?_, fun a e => ?_⟩
  · refine (pay24_apply _ _ _ _ _ _ (fun x => H.K (512 * n + x.val)) _ (fun x => H.V (512 * n + x.val)) _ _ _
      p16 p19 p20 p21 e87 e96 _ _ ih.dq d q).trans ?_
    rw [sum_block]
    simp only [H.D_early (le _ _)]
  · by_cases ha : 512 * n ≤ a.val ∧ a.val < 512 * (n + 1)
    · obtain ⟨x, hx⟩ : ∃ x : Fin 512, a.val = 512 * n + x.val :=
        ⟨⟨a.val - 512 * n, by omega⟩, by show a.val = 512 * n + (a.val - 512 * n); omega⟩
      have hlt : 512 * n + x.val < 8192 := by omega
      obtain rfl : a = ⟨512 * n + x.val, hlt⟩ := Fin.ext hx
      refine (wr_hit arg10.view G_arg10 (k0_off1_inb i k) (512 * n) o1 _ S.2.1 x d hlt).trans ?_
      refine (pay7_apply _ _ _ _ _ _ _ (fun x => H.K (512 * n + x.val)) _ (fun x => H.V (512 * n + x.val)) _ _ _
        p15 p16 p19 p20 p21 e87 e96 _ _ e116 x d).trans ?_
      rw [if_pos ha.2]
      simp only [H.D_early (le _ _)]
    · refine (wr_miss arg10.view G_arg10 (k0_off1_inb i k) (512 * n) o1 _ S.2.1 a d (by omega)).trans ?_
      rw [ih.dk]
      have hh : (a.val < 512 * n) ↔ (a.val < 512 * (n + 1)) := by omega
      simp only [hh]
  · by_cases ha : 512 * n ≤ a.val ∧ a.val < 512 * (n + 1)
    · obtain ⟨x, hx⟩ : ∃ x : Fin 512, a.val = 512 * n + x.val :=
        ⟨⟨a.val - 512 * n, by omega⟩, by show a.val = 512 * n + (a.val - 512 * n); omega⟩
      have hlt : 512 * n + x.val < 8192 := by omega
      obtain rfl : a = ⟨512 * n + x.val, hlt⟩ := Fin.ext hx
      refine (wr_hit arg11.view G_arg11 (k0_off2_inb i k) (512 * n) o2 _ S.2.2 x e hlt).trans ?_
      refine (pay6_apply _ _ _ _ (fun x => H.K (512 * n + x.val)) _ _ _
        p16 p17 p21 e87 _ _ e106 x e).trans ?_
      rw [if_pos ha.2]
      simp only [H.W_early (le _ _)]
    · refine (wr_miss arg11.view G_arg11 (k0_off2_inb i k) (512 * n) o2 _ S.2.2 a e (by omega)).trans ?_
      rw [ih.dv]
      have hh : (a.val < 512 * n) ↔ (a.val < 512 * (n + 1)) := by omega
      simp only [hh]

include hb hX3 hX4 hG10 hG11 hinit in
/-- What holds after the loop. -/
theorem inv_end : Inv H i arg10 arg11 G_arg10 G_arg11 B10 B11 (i 1).val
    (st_k0_t1 (F := Ideal) 𝒱 c bd i arg2 harg2 arg3 harg3 arg4 harg4 arg5 harg5 arg6 harg6 arg7 harg7 arg8 harg8 arg9 harg9 arg10 harg10 arg11 harg11 v3 v6 v8 v11 v16 X_arg3 X_arg4 G_arg10 G_arg11 init (k0_t1_loop i).trips) := by
  rw [trips1 i]
  have key : ∀ n, n ≤ (i 1).val → Inv H i arg10 arg11 G_arg10 G_arg11 B10 B11 n
      (st_k0_t1 (F := Ideal) 𝒱 c bd i arg2 harg2 arg3 harg3 arg4 harg4 arg5 harg5 arg6 harg6 arg7 harg7 arg8 harg8 arg9 harg9 arg10 harg10 arg11 harg11 v3 v6 v8 v11 v16 X_arg3 X_arg4 G_arg10 G_arg11 init n) := by
    intro n
    induction n with
    | zero => exact fun _ => inv_zero H 𝒱 c bd i arg2 harg2 arg3 harg3 arg4 harg4 arg5 harg5 arg6 harg6 arg7 harg7 arg8 harg8 arg9 harg9 arg10 harg10 arg11 harg11 v3 v6 v8 v11 v16 X_arg3 X_arg4 G_arg10 G_arg11 init B10 B11 hG10 hG11 hinit
    | succ n ih => exact fun h => inv_succ H 𝒱 c bd i arg2 harg2 arg3 harg3 arg4 harg4 arg5 harg5 arg6 harg6 arg7 harg7 arg8 harg8 arg9 harg9 arg10 harg10 arg11 harg11 v3 v6 v8 v11 v16 X_arg3 X_arg4 G_arg10 G_arg11 init B10 B11 hb hX3 hX4 n h (ih (by omega))
  exact key _ le_rfl

end Loop

end Cert.Mla
-- ==== Proof.Mla.PointVal.lean ====
/- What one grid point leaves in the outputs' blocks, on real numbers. -/
module

public import proofs.«01_k».proof.Proof.Mla.Point
public import proofs.«01_k».proof.Proof.Mla.Loop

@[expose] public section

set_option maxRecDepth 16384

noncomputable section

namespace Cert.Mla

open Idealize.ShloMosaic Idealize.SL.Sem Idealize.ShloMosaic.TcCoe
open Cert.KernelIdeal Cert.KernelIdeal.Gen

/-- A place under a store of a whole block reads the store. -/
theorem wr_full {Val : EltTy → Type} {A B C : ℕ} {e : EltTy} (v : View sig .tc .vmem (⟨3, ![A, B, C]⟩ : Shape) e) (f : v.ty.Contents Val)
    (inb : ∀ a : Fin 3, (![0, 0, 0] : Fin 3 → ℕ) a + (![A, B, C] : Fin 3 → ℕ) a ≤ (![A, B, C] : Fin 3 → ℕ) a)
    (w : (Rect.unit (s := ⟨3, ![A, B, C]⟩) ![0, 0, 0] ![A, B, C] inb).shape.Idx → Val e)
    (L : List (View.Piece Val (⟨3, ![A, B, C]⟩ : Shape) e)) (a : Fin A) (b : Fin B) (d : Fin C) :
    v.read Val (v.writes Val f ((⟨Rect.unit (s := ⟨3, ![A, B, C]⟩) ![0, 0, 0] ![A, B, C] inb, w⟩ :
        View.Piece Val (⟨3, ![A, B, C]⟩ : Shape) e) :: L)) (ix3 a b d) = w (ix3 a b d) := by
  refine View.read_writes_cons_unit_of_mem v f inb w L _ (ix3 a b d) rfl fun x => ?_
  fin_cases x
  · show a.val = 0 + a.val
    omega
  · show b.val = 0 + b.val
    omega
  · show d.val = 0 + d.val
    omega

/-- The last store of a point into an accumulated output: rows below it hold their term already, and rows beyond
    it have none. -/
theorem tail_rows {C : ℕ} (v : View sig .tc .vmem (⟨3, ![1, 8192, C]⟩ : Shape) .f32) (f : v.ty.Contents (Elt Ideal))
    {off : Fin 3 → ℕ} (inb : ∀ a : Fin 3, off a + (![1, 512, C] : Fin 3 → ℕ) a ≤ (![1, 8192, C] : Fin 3 → ℕ) a)
    (j : ℕ) (h : off = ![0, 512 * j, 0])
    (w : (Rect.unit (s := ⟨3, ![1, 8192, C]⟩) off ![1, 512, C] inb).shape.Idx → Elt Ideal .f32)
    (L : List (View.Piece (Elt Ideal) (⟨3, ![1, 8192, C]⟩ : Shape) .f32)) (B T : ℕ → Fin C → ℝ)
    (hR : ∀ (a : Fin 8192) (d : Fin C), v.read (Elt Ideal) (v.writes (Elt Ideal) f L) (ix3 0 a d)
      = ((B a.val d + if a.val < 512 * j then T a.val d else 0 : ℝ) : EReal))
    (hw : ∀ (x : Fin 512) (d : Fin C), w (ix3 0 x d) = ((B (512 * j + x.val) d + T (512 * j + x.val) d : ℝ) : EReal))
    (hT : ∀ a d, 512 * (j + 1) ≤ a → T a d = 0) (a : Fin 8192) (d : Fin C) :
    v.read (Elt Ideal) (v.writes (Elt Ideal) f ((⟨Rect.unit (s := ⟨3, ![1, 8192, C]⟩) off ![1, 512, C] inb, w⟩ :
        View.Piece (Elt Ideal) (⟨3, ![1, 8192, C]⟩ : Shape) .f32) :: L)) (ix3 0 a d)
      = ((B a.val d + T a.val d : ℝ) : EReal) := by
  by_cases ha : 512 * j ≤ a.val ∧ a.val < 512 * (j + 1)
  · obtain ⟨x, hx⟩ : ∃ x : Fin 512, a.val = 512 * j + x.val :=
      ⟨⟨a.val - 512 * j, by omega⟩, by show a.val = 512 * j + (a.val - 512 * j); omega⟩
    have hlt : 512 * j + x.val < 8192 := by omega
    obtain rfl : a = ⟨512 * j + x.val, hlt⟩ := Fin.ext hx
    exact (wr_hit v f inb (512 * j) h w L x d hlt).trans (hw x d)
  · refine (wr_miss v f inb (512 * j) h w L a d (by omega)).trans ((hR a d).trans ?_)
    by_cases hl : a.val < 512 * j
    · rw [if_pos hl]
    · rw [if_neg hl, hT a.val d (by omega)]

variable (H : Head)

/-- The block `j` of queries' term of the key's gradient at row `a`. -/
def Head.tk (j a : ℕ) (d : Fin 128) : ℝ := ∑ q : Fin 512, H.D a (512 * j + q.val) * H.Q (512 * j + q.val) d

/-- The block `j` of queries' term of the value's gradient at row `a`. -/
def Head.tv (j a : ℕ) (e : Fin 64) : ℝ := ∑ q : Fin 512, H.W a (512 * j + q.val) * H.G (512 * j + q.val) e

theorem Head.tk_late (j a : ℕ) (d : Fin 128) (h : 512 * (j + 1) ≤ a) : H.tk j a d = 0 :=
  Finset.sum_eq_zero fun q _ => by rw [H.D_late (by omega), zero_mul]

theorem Head.tv_late (j a : ℕ) (e : Fin 64) (h : 512 * (j + 1) ≤ a) : H.tv j a e = 0 :=
  Finset.sum_eq_zero fun q _ => by rw [H.W_late (by omega), zero_mul]

theorem off5 (i : grid0.Coords) : k0_off5 i = ![0, 512 * (i 1).val, 0] := k0_off5_eq i

theorem off6 (i : grid0.Coords) : k0_off6 i = ![0, 512 * (i 1).val, 0] := k0_off6_eq i

section Point

variable (c : Dev nD) (i : grid0.Coords) (arg2 : Memref sig .tc .vmem S1x512x128 .bf16) (harg2 : arg2.IsWhole) (arg3 : Memref sig .tc .vmem S1x8192x128 .bf16) (harg3 : arg3.IsWhole) (arg4 : Memref sig .tc .vmem S1x8192x64 .bf16) (harg4 : arg4.IsWhole) (arg5 : Memref sig .tc .vmem S1x64x512 .f32) (harg5 : arg5.IsWhole) (arg6 : Memref sig .tc .vmem S1x1x512 .f32) (harg6 : arg6.IsWhole) (arg7 : Memref sig .tc .vmem S1x64x512 .f32) (harg7 : arg7.IsWhole) (arg8 : Memref sig .tc .vmem S1x512x64 .bf16) (harg8 : arg8.IsWhole) (arg9 : Memref sig .tc .vmem S1x512x128 .f32) (harg9 : arg9.IsWhole) (arg10 : Memref sig .tc .vmem S1x8192x128 .f32) (harg10 : arg10.IsWhole) (arg11 : Memref sig .tc .vmem S1x8192x64 .f32) (harg11 : arg11.IsWhole) (x0 : Vec Ideal S1x512x128 .bf16) (x1 : Vec Ideal S1x8192x128 .bf16) (x2 : Vec Ideal S1x8192x64 .bf16) (x3 : Vec Ideal S1x64x512 .f32) (x4 : Vec Ideal S1x1x512 .f32) (x5 : Vec Ideal S1x64x512 .f32) (x6 : Vec Ideal S1x512x64 .bf16) (x8 : Vec Ideal S1x8192x128 .f32) (x9 : Vec Ideal S1x8192x64 .f32)
  (B10 : ℕ → Fin 128 → ℝ) (B11 : ℕ → Fin 64 → ℝ)
  (hb : H.Blk (i 1).val x0 x6 x5 x3 x4)
  (hx1 : ∀ a d, x1 (ix3 0 a d) = ((H.K a.val d : ℝ) : EReal))
  (hx2 : ∀ a e, x2 (ix3 0 a e) = ((H.V a.val e : ℝ) : EReal))
  (hx8 : ∀ a d, x8 (ix3 0 a d) = ((B10 a.val d : ℝ) : EReal))
  (hx9 : ∀ a e, x9 (ix3 0 a e) = ((B11 a.val e : ℝ) : EReal))

include hb in
theorem blk_ld : H.Blk (i 1).val (ld3 arg2.view (harg2.unread x0) inb_S1x512x128_S1x512x128_0_0_0) (ld3 arg8.view (harg8.unread x6) inb_S1x512x64_S1x512x64_0_0_0) (ld3 arg7.view (harg7.unread x5) inb_S1x64x512_S1x64x512_0_0_0) (ld3 arg5.view (harg5.unread x3) inb_S1x64x512_S1x64x512_0_0_0) (ld3 arg6.view (harg6.unread x4) inb_S1x1x512_S1x1x512_0_0_0) where
  h3 q d := by rw [ld3_apply, harg2.read_unread]; exact hb.h3 q d
  h6 q e := by rw [ld3_apply, harg8.read_unread]; exact hb.h6 q e
  h8 e q := by rw [ld3_apply, harg7.read_unread]; exact hb.h8 e q
  h11 e q := by rw [ld3_apply, harg5.read_unread]; exact hb.h11 e q
  h16 q := by rw [ld3_apply, harg6.read_unread]; exact hb.h16 q

include hx1 in
theorem k5_apply (x : Fin 512) (d : Fin 128) : (rows128 arg3.view (harg3.unread x1) (k0_off5 i) (k0_off5_inb i)) (ix3 0 x d) = ((H.K (512 * (i 1).val + x.val) d : ℝ) : EReal) := by
  have hi : (i 1).val < 16 := (i 1).isLt
  rw [rows128, rd_rows arg3.view _ _ (512 * (i 1).val) (off5 i) x d (by omega), harg3.read_unread, hx1]

include hx2 in
theorem w6_apply (x : Fin 512) (e : Fin 64) : (rows64 arg4.view (harg4.unread x2) (k0_off6 i) (k0_off6_inb i)) (ix3 0 x e) = ((H.V (512 * (i 1).val + x.val) e : ℝ) : EReal) := by
  have hi : (i 1).val < 16 := (i 1).isLt
  rw [rows64, rd_rows arg4.view _ _ (512 * (i 1).val) (off6 i) x e (by omega), harg4.read_unread, hx2]

include hb hx1 hx2 hx8 hx9 in
theorem out0_B_7_apply (hc0 : ¬ cond0_0 i) (q : Fin 512) (d : Fin 128) :
    out0_B_7 (F := Ideal) c i arg2 harg2 arg3 harg3 arg4 harg4 arg5 harg5 arg6 harg6 arg7 harg7 arg8 harg8 arg9 harg9 arg10 harg10 arg11 harg11 hc0 x0 x1 x2 x3 x4 x5 x6 x8 x9 (ix3 0 q d)
      = ((∑ a ∈ Finset.range (512 * ((i 1).val + 1)), H.K a d * H.D a (512 * (i 1).val + q.val) : ℝ) : EReal) := by
  have hi : (i 1).val < 16 := (i 1).isLt
  have hB := blk_ld H i arg2 harg2 arg5 harg5 arg6 harg6 arg7 harg7 arg8 harg8 x0 x3 x4 x5 x6 hb
  have e87 := k5_apply H i arg3 harg3 x1 hx1
  have e96 := w6_apply H i arg4 harg4 x2 hx2
  have p15 := pay15_apply _ (fun q => H.Q (512 * (i 1).val + q.val)) hB.h3
  have p16 := pay16_apply _ (fun q => H.Q (512 * (i 1).val + q.val)) hB.h3
  have p17 := pay17_apply _ (fun q => H.G (512 * (i 1).val + q.val)) hB.h6
  have p19 := pay19_apply _ (fun q => H.G (512 * (i 1).val + q.val)) hB.h8
  have p20 := pay20_apply _ _ (fun q => H.G (512 * (i 1).val + q.val)) (fun q => H.O (512 * (i 1).val + q.val)) hB.h8 hB.h11
  have p21 := pay21_apply _ (fun q => H.l (512 * (i 1).val + q.val)) hB.h16
  have hI := inv_end H Variants.none c none i arg2 harg2 arg3 harg3 arg4 harg4 arg5 harg5 arg6 harg6 arg7 harg7 arg8 harg8 arg9 harg9 arg10 harg10 arg11 harg11 _ _ _ _ _ (harg3.unread x1) (harg4.unread x2) (harg10.unread x8) (harg11.unread x9) k0_pay22 B10 B11 hB
    (fun a d => by rw [harg3.read_unread, hx1]) (fun a e => by rw [harg4.read_unread, hx2])
    (fun a d => by rw [harg10.read_unread, hx8]) (fun a e => by rw [harg11.read_unread, hx9]) pay22_apply
  rw [out0_B_7_eq]
  refine (wr_full VO0_7 _ _ _ _ 0 q d).trans ?_
  refine (pay2_apply _ _ _ _ _ _ (fun q => H.K (512 * (i 1).val + q.val)) _ (fun q => H.V (512 * (i 1).val + q.val)) _ _ _ p16 p19 p20 p21 e87 e96 ⟨(i 1).val, hi⟩ _ _ hI.dq d q).trans ?_
  rw [sum_block]
  simp only [H.W_diag, Head.D]

include hb hx1 hx2 in
theorem out0_A_7_apply (hc0 : cond0_0 i) (hi0 : (i 1).val = 0) (q : Fin 512) (d : Fin 128) :
    out0_A_7 (F := Ideal) c i arg2 harg2 arg3 harg3 arg4 harg4 arg5 harg5 arg6 harg6 arg7 harg7 arg8 harg8 arg9 harg9 arg10 harg10 arg11 harg11 hc0 x0 x1 x2 x3 x4 x5 x6 (ix3 0 q d)
      = ((∑ a ∈ Finset.range (512 * ((i 1).val + 1)), H.K a d * H.D a (512 * (i 1).val + q.val) : ℝ) : EReal) := by
  have hi : (i 1).val < 16 := (i 1).isLt
  have hB := blk_ld H i arg2 harg2 arg5 harg5 arg6 harg6 arg7 harg7 arg8 harg8 x0 x3 x4 x5 x6 hb
  have e87 := k5_apply H i arg3 harg3 x1 hx1
  have e96 := w6_apply H i arg4 harg4 x2 hx2
  have p15 := pay15_apply _ (fun q => H.Q (512 * (i 1).val + q.val)) hB.h3
  have p16 := pay16_apply _ (fun q => H.Q (512 * (i 1).val + q.val)) hB.h3
  have p17 := pay17_apply _ (fun q => H.G (512 * (i 1).val + q.val)) hB.h6
  have p19 := pay19_apply _ (fun q => H.G (512 * (i 1).val + q.val)) hB.h8
  have p20 := pay20_apply _ _ (fun q => H.G (512 * (i 1).val + q.val)) (fun q => H.O (512 * (i 1).val + q.val)) hB.h8 hB.h11
  have p21 := pay21_apply _ (fun q => H.l (512 * (i 1).val + q.val)) hB.h16
  rw [out0_A_7_eq (hi := hi0)]
  refine (wr_full VO0_7 _ _ _ _ 0 q d).trans ?_
  refine (pay2_apply _ _ _ _ _ _ (fun q => H.K (512 * (i 1).val + q.val)) _ (fun q => H.V (512 * (i 1).val + q.val)) _ _ _ p16 p19 p20 p21 e87 e96 ⟨(i 1).val, hi⟩ _ (fun _ _ => 0) pay22_apply d q).trans ?_
  rw [sum_block, hi0]
  simp only [H.W_diag, Head.D, hi0]
  simp

include hb hx1 hx2 hx8 hx9 in
theorem out0_B_8_apply (hc0 : ¬ cond0_0 i) (a : Fin 8192) (d : Fin 128) :
    out0_B_8 (F := Ideal) c i arg2 harg2 arg3 harg3 arg4 harg4 arg5 harg5 arg6 harg6 arg7 harg7 arg8 harg8 arg9 harg9 arg10 harg10 arg11 harg11 hc0 x0 x1 x2 x3 x4 x5 x6 x8 x9 (ix3 0 a d) = ((B10 a.val d + H.tk (i 1).val a.val d : ℝ) : EReal) := by
  have hi : (i 1).val < 16 := (i 1).isLt
  have hB := blk_ld H i arg2 harg2 arg5 harg5 arg6 harg6 arg7 harg7 arg8 harg8 x0 x3 x4 x5 x6 hb
  have e87 := k5_apply H i arg3 harg3 x1 hx1
  have e96 := w6_apply H i arg4 harg4 x2 hx2
  have p15 := pay15_apply _ (fun q => H.Q (512 * (i 1).val + q.val)) hB.h3
  have p16 := pay16_apply _ (fun q => H.Q (512 * (i 1).val + q.val)) hB.h3
  have p17 := pay17_apply _ (fun q => H.G (512 * (i 1).val + q.val)) hB.h6
  have p19 := pay19_apply _ (fun q => H.G (512 * (i 1).val + q.val)) hB.h8
  have p20 := pay20_apply _ _ (fun q => H.G (512 * (i 1).val + q.val)) (fun q => H.O (512 * (i 1).val + q.val)) hB.h8 hB.h11
  have p21 := pay21_apply _ (fun q => H.l (512 * (i 1).val + q.val)) hB.h16
  have hI := inv_end H Variants.none c none i arg2 harg2 arg3 harg3 arg4 harg4 arg5 harg5 arg6 harg6 arg7 harg7 arg8 harg8 arg9 harg9 arg10 harg10 arg11 harg11 _ _ _ _ _ (harg3.unread x1) (harg4.unread x2) (harg10.unread x8) (harg11.unread x9) k0_pay22 B10 B11 hB
    (fun a d => by rw [harg3.read_unread, hx1]) (fun a e => by rw [harg4.read_unread, hx2])
    (fun a d => by rw [harg10.read_unread, hx8]) (fun a e => by rw [harg11.read_unread, hx9]) pay22_apply
  rw [out0_B_8_eq]
  refine tail_rows _ _ _ (i 1).val (off5 i) _ _ B10 (H.tk (i 1).val) ?_ (fun x d => ?_) (fun a d h => H.tk_late _ a d h) a d
  · exact hI.dk
  · refine (pay31_apply _ _ _ _ _ _ _ (fun q => H.K (512 * (i 1).val + q.val)) _ (fun q => H.V (512 * (i 1).val + q.val)) _ _ _ p15 p16 p19 p20 p21 e87 e96 ⟨(i 1).val, hi⟩ _ (fun x => B10 (512 * (i 1).val + x.val)) (fun x d => ?_) x d).trans ?_
    · rw [rows128, rd_rows arg10.view _ _ (512 * (i 1).val) (off5 i) x d (by omega), hI.dk, if_neg (by show ¬ (512 * (i 1).val + x.val < 512 * (i 1).val); omega), add_zero]
    · simp only [H.W_diag, Head.tk, Head.D]

include hb hx1 hx2 in
theorem out0_A_8_apply (hc0 : cond0_0 i) (hi0 : (i 1).val = 0) (a : Fin 8192) (d : Fin 128) :
    out0_A_8 (F := Ideal) c i arg2 harg2 arg3 harg3 arg4 harg4 arg5 harg5 arg6 harg6 arg7 harg7 arg8 harg8 arg9 harg9 arg10 harg10 arg11 harg11 hc0 x0 x1 x2 x3 x4 x5 x6 (ix3 0 a d) = ((H.tk (i 1).val a.val d : ℝ) : EReal) := by
  have hi : (i 1).val < 16 := (i 1).isLt
  have hB := blk_ld H i arg2 harg2 arg5 harg5 arg6 harg6 arg7 harg7 arg8 harg8 x0 x3 x4 x5 x6 hb
  have e87 := k5_apply H i arg3 harg3 x1 hx1
  have e96 := w6_apply H i arg4 harg4 x2 hx2
  have p15 := pay15_apply _ (fun q => H.Q (512 * (i 1).val + q.val)) hB.h3
  have p16 := pay16_apply _ (fun q => H.Q (512 * (i 1).val + q.val)) hB.h3
  have p17 := pay17_apply _ (fun q => H.G (512 * (i 1).val + q.val)) hB.h6
  have p19 := pay19_apply _ (fun q => H.G (512 * (i 1).val + q.val)) hB.h8
  have p20 := pay20_apply _ _ (fun q => H.G (512 * (i 1).val + q.val)) (fun q => H.O (512 * (i 1).val + q.val)) hB.h8 hB.h11
  have p21 := pay21_apply _ (fun q => H.l (512 * (i 1).val + q.val)) hB.h16
  rw [out0_A_8_eq (hi := hi0), ← zero_add (H.tk (i 1).val a.val d)]
  refine tail_rows _ _ _ (i 1).val (off5 i) _ _ (fun _ _ => 0) (H.tk (i 1).val) ?_ (fun x d => ?_) (fun a d h => H.tk_late _ a d h) a d
  · intro a d
    rw [wr_full, if_neg (by omega), add_zero]; exact pay13_apply a d
  · refine (pay31_apply _ _ _ _ _ _ _ (fun q => H.K (512 * (i 1).val + q.val)) _ (fun q => H.V (512 * (i 1).val + q.val)) _ _ _ p15 p16 p19 p20 p21 e87 e96 ⟨(i 1).val, hi⟩ _ (fun _ _ => 0) (fun x d => ?_) x d).trans ?_
    · rw [rows128, rd_rows arg10.view _ _ (512 * (i 1).val) (off5 i) x d (by omega), wr_full]; exact pay13_apply _ _
    · simp only [H.W_diag, Head.tk, Head.D]

include hb hx1 hx2 hx8 hx9 in
theorem out0_B_9_apply (hc0 : ¬ cond0_0 i) (a : Fin 8192) (d : Fin 64) :
    out0_B_9 (F := Ideal) c i arg2 harg2 arg3 harg3 arg4 harg4 arg5 harg5 arg6 harg6 arg7 harg7 arg8 harg8 arg9 harg9 arg10 harg10 arg11 harg11 hc0 x0 x1 x2 x3 x4 x5 x6 x8 x9 (ix3 0 a d) = ((B11 a.val d + H.tv (i 1).val a.val d : ℝ) : EReal) := by
  have hi : (i 1).val < 16 := (i 1).isLt
  have hB := blk_ld H i arg2 harg2 arg5 harg5 arg6 harg6 arg7 harg7 arg8 harg8 x0 x3 x4 x5 x6 hb
  have e87 := k5_apply H i arg3 harg3 x1 hx1
  have e96 := w6_apply H i arg4 harg4 x2 hx2
  have p15 := pay15_apply _ (fun q => H.Q (512 * (i 1).val + q.val)) hB.h3
  have p16 := pay16_apply _ (fun q => H.Q (512 * (i 1).val + q.val)) hB.h3
  have p17 := pay17_apply _ (fun q => H.G (512 * (i 1).val + q.val)) hB.h6
  have p19 := pay19_apply _ (fun q => H.G (512 * (i 1).val + q.val)) hB.h8
  have p20 := pay20_apply _ _ (fun q => H.G (512 * (i 1).val + q.val)) (fun q => H.O (512 * (i 1).val + q.val)) hB.h8 hB.h11
  have p21 := pay21_apply _ (fun q => H.l (512 * (i 1).val + q.val)) hB.h16
  have hI := inv_end H Variants.none c none i arg2 harg2 arg3 harg3 arg4 harg4 arg5 harg5 arg6 harg6 arg7 harg7 arg8 harg8 arg9 harg9 arg10 harg10 arg11 harg11 _ _ _ _ _ (harg3.unread x1) (harg4.unread x2) (harg10.unread x8) (harg11.unread x9) k0_pay22 B10 B11 hB
    (fun a d => by rw [harg3.read_unread, hx1]) (fun a e => by rw [harg4.read_unread, hx2])
    (fun a d => by rw [harg10.read_unread, hx8]) (fun a e => by rw [harg11.read_unread, hx9]) pay22_apply
  rw [out0_B_9_eq]
  refine tail_rows _ _ _ (i 1).val (off6 i) _ _ B11 (H.tv (i 1).val) ?_ (fun x d => ?_) (fun a d h => H.tv_late _ a d h) a d
  · exact hI.dv
  · refine (pay30_apply _ _ _ _ (fun q => H.K (512 * (i 1).val + q.val)) _ _ _ p16 p17 p21 e87 ⟨(i 1).val, hi⟩ _ (fun x => B11 (512 * (i 1).val + x.val)) (fun x d => ?_) x d).trans ?_
    · rw [rows64, rd_rows arg11.view _ _ (512 * (i 1).val) (off6 i) x d (by omega), hI.dv, if_neg (by show ¬ (512 * (i 1).val + x.val < 512 * (i 1).val); omega), add_zero]
    · simp only [H.W_diag, Head.tv]

include hb hx1 hx2 in
theorem out0_A_9_apply (hc0 : cond0_0 i) (hi0 : (i 1).val = 0) (a : Fin 8192) (d : Fin 64) :
    out0_A_9 (F := Ideal) c i arg2 harg2 arg3 harg3 arg4 harg4 arg5 harg5 arg6 harg6 arg7 harg7 arg8 harg8 arg9 harg9 arg10 harg10 arg11 harg11 hc0 x0 x1 x2 x3 x4 x5 x6 (ix3 0 a d) = ((H.tv (i 1).val a.val d : ℝ) : EReal) := by
  have hi : (i 1).val < 16 := (i 1).isLt
  have hB := blk_ld H i arg2 harg2 arg5 harg5 arg6 harg6 arg7 harg7 arg8 harg8 x0 x3 x4 x5 x6 hb
  have e87 := k5_apply H i arg3 harg3 x1 hx1
  have e96 := w6_apply H i arg4 harg4 x2 hx2
  have p15 := pay15_apply _ (fun q => H.Q (512 * (i 1).val + q.val)) hB.h3
  have p16 := pay16_apply _ (fun q => H.Q (512 * (i 1).val + q.val)) hB.h3
  have p17 := pay17_apply _ (fun q => H.G (512 * (i 1).val + q.val)) hB.h6
  have p19 := pay19_apply _ (fun q => H.G (512 * (i 1).val + q.val)) hB.h8
  have p20 := pay20_apply _ _ (fun q => H.G (512 * (i 1).val + q.val)) (fun q => H.O (512 * (i 1).val + q.val)) hB.h8 hB.h11
  have p21 := pay21_apply _ (fun q => H.l (512 * (i 1).val + q.val)) hB.h16
  rw [out0_A_9_eq (hi := hi0), ← zero_add (H.tv (i 1).val a.val d)]
  refine tail_rows _ _ _ (i 1).val (off6 i) _ _ (fun _ _ => 0) (H.tv (i 1).val) ?_ (fun x d => ?_) (fun a d h => H.tv_late _ a d h) a d
  · intro a d
    rw [wr_full, if_neg (by omega), add_zero]; exact pay14_apply a d
  · refine (pay30_apply _ _ _ _ (fun q => H.K (512 * (i 1).val + q.val)) _ _ _ p16 p17 p21 e87 ⟨(i 1).val, hi⟩ _ (fun _ _ => 0) (fun x d => ?_) x d).trans ?_
    · rw [rows64, rd_rows arg11.view _ _ (512 * (i 1).val) (off6 i) x d (by omega), wr_full]; exact pay14_apply _ _
    · simp only [H.W_diag, Head.tv]

end Point

end Cert.Mla
-- ==== Proof.Mla.Acc.lean ====
/- The arrays the call returns, from the arrays it is given: every point's blocks, and the sums over the points
   of a head. -/
module

public import proofs.«01_k».proof.Proof.Mla.PointVal
public import proofs.«01_k».proof.Proof.Gen.KernelIdeal.Value
public import Idealize.ShloMosaic.Lib.Pipeline.ValueKit
public import Idealize.ShloMosaic.Lib.Claim

@[expose] public section

set_option maxRecDepth 16384

noncomputable section

namespace Cert.Mla

open Idealize.ShloMosaic Idealize.SL.Sem Idealize.ShloMosaic.TcCoe
open Cert.KernelIdeal Cert.KernelIdeal.Gen

theorem idx0 : ∀ t : Fin cfg0.N, win0_0.index t = ![t.val / 16, t.val % 16, 0] :=
  (by decide +kernel : ∀ t : Fin grid0.N, win0_0.index t = ![t.val / 16, t.val % 16, 0])
theorem idx1 : ∀ t : Fin cfg0.N, win0_1.index t = ![t.val / 16, 0, 0] :=
  (by decide +kernel : ∀ t : Fin grid0.N, win0_1.index t = ![t.val / 16, 0, 0])
theorem idx2 : ∀ t : Fin cfg0.N, win0_2.index t = ![t.val / 16, 0, 0] :=
  (by decide +kernel : ∀ t : Fin grid0.N, win0_2.index t = ![t.val / 16, 0, 0])
theorem idx3 : ∀ t : Fin cfg0.N, win0_3.index t = ![t.val / 16, 0, t.val % 16] :=
  (by decide +kernel : ∀ t : Fin grid0.N, win0_3.index t = ![t.val / 16, 0, t.val % 16])
theorem idx4 : ∀ t : Fin cfg0.N, win0_4.index t = ![t.val / 16, 0, t.val % 16] :=
  (by decide +kernel : ∀ t : Fin grid0.N, win0_4.index t = ![t.val / 16, 0, t.val % 16])
theorem idx5 : ∀ t : Fin cfg0.N, win0_5.index t = ![t.val / 16, 0, t.val % 16] :=
  (by decide +kernel : ∀ t : Fin grid0.N, win0_5.index t = ![t.val / 16, 0, t.val % 16])
theorem idx6 : ∀ t : Fin cfg0.N, win0_6.index t = ![t.val / 16, t.val % 16, 0] :=
  (by decide +kernel : ∀ t : Fin grid0.N, win0_6.index t = ![t.val / 16, t.val % 16, 0])
theorem idx7 : ∀ t : Fin cfg0.N, win0_7.index t = ![t.val / 16, t.val % 16, 0] :=
  (by decide +kernel : ∀ t : Fin grid0.N, win0_7.index t = ![t.val / 16, t.val % 16, 0])
theorem idx8 : ∀ t : Fin cfg0.N, win0_8.index t = ![t.val / 16, 0, 0] :=
  (by decide +kernel : ∀ t : Fin grid0.N, win0_8.index t = ![t.val / 16, 0, 0])
theorem idx9 : ∀ t : Fin cfg0.N, win0_9.index t = ![t.val / 16, 0, 0] :=
  (by decide +kernel : ∀ t : Fin grid0.N, win0_9.index t = ![t.val / 16, 0, 0])
theorem coord1 : ∀ t : Fin cfg0.N, ((grid0.coords t) 1).val = t.val % 16 :=
  (by decide +kernel : ∀ t : Fin grid0.N, ((grid0.coords t) 1).val = t.val % 16)
theorem pts : cfg0.N = 64 := (by decide +kernel : grid0.N = 64)

variable (m : (ℓ : Loc nD τ sig) → Buf (Elt Ideal) ℓ) (c : Dev nD) (Hs : ℕ → Head)

/-- The arrays the call is given hold the heads' data. -/
structure Given : Prop where
  q : ∀ (h : Fin 4) (t : Fin 8192) (d : Fin 128), (V m c main_v30 : Vec Ideal S4x8192x128 .bf16) (ix3 h t d) = (((Hs h.val).Q t.val d : ℝ) : EReal)
  k : ∀ (h : Fin 4) (t : Fin 8192) (d : Fin 128), (V m c main_v33 : Vec Ideal S4x8192x128 .bf16) (ix3 h t d) = (((Hs h.val).K t.val d : ℝ) : EReal)
  v : ∀ (h : Fin 4) (t : Fin 8192) (e : Fin 64), (V m c main_v35 : Vec Ideal S4x8192x64 .bf16) (ix3 h t e) = (((Hs h.val).V t.val e : ℝ) : EReal)
  o : ∀ (h : Fin 4) (e : Fin 64) (t : Fin 8192), (V m c main_v21 : Vec Ideal S4x64x8192 .f32) (ix3 h e t) = (((Hs h.val).O t.val e : ℝ) : EReal)
  l : ∀ (h : Fin 4) (t : Fin 8192), (V m c main_v27 : Vec Ideal S4x1x8192 .f32) (ix3 h 0 t) = (((Hs h.val).l t.val : ℝ) : EReal)
  gT : ∀ (h : Fin 4) (e : Fin 64) (t : Fin 8192), (V m c main_v36 : Vec Ideal S4x64x8192 .f32) (ix3 h e t) = (((Hs h.val).G t.val e : ℝ) : EReal)
  g : ∀ (h : Fin 4) (t : Fin 8192) (e : Fin 64), (V m c main_v38 : Vec Ideal S4x8192x64 .bf16) (ix3 h t e) = (((Hs h.val).G t.val e : ℝ) : EReal)

variable {m c Hs} (hV : Given m c Hs)
include hV

theorem q_at (t : Fin cfg0.N) (q : Fin 512) (d : Fin 128) :
    (iblk m c 0 t : Vec Ideal S1x512x128 .bf16) (ix3 0 q d) = (((Hs (t.val / 16)).Q (512 * (t.val % 16) + q.val) d : ℝ) : EReal) := by
  have ht : t.val < 64 := pts ▸ t.isLt
  refine Eq.trans ?_ (hV.q ⟨t.val / 16, by omega⟩ ⟨512 * (t.val % 16) + q.val, by omega⟩ d)
  blk_ext [iblk, idx0 t]

theorem g_at (t : Fin cfg0.N) (q : Fin 512) (e : Fin 64) :
    (iblk m c 6 t : Vec Ideal S1x512x64 .bf16) (ix3 0 q e) = (((Hs (t.val / 16)).G (512 * (t.val % 16) + q.val) e : ℝ) : EReal) := by
  have ht : t.val < 64 := pts ▸ t.isLt
  refine Eq.trans ?_ (hV.g ⟨t.val / 16, by omega⟩ ⟨512 * (t.val % 16) + q.val, by omega⟩ e)
  blk_ext [iblk, idx6 t]

theorem gT_at (t : Fin cfg0.N) (e : Fin 64) (q : Fin 512) :
    (iblk m c 5 t : Vec Ideal S1x64x512 .f32) (ix3 0 e q) = (((Hs (t.val / 16)).G (512 * (t.val % 16) + q.val) e : ℝ) : EReal) := by
  have ht : t.val < 64 := pts ▸ t.isLt
  refine Eq.trans ?_ (hV.gT ⟨t.val / 16, by omega⟩ e ⟨512 * (t.val % 16) + q.val, by omega⟩)
  blk_ext [iblk, idx5 t]

theorem o_at (t : Fin cfg0.N) (e : Fin 64) (q : Fin 512) :
    (iblk m c 3 t : Vec Ideal S1x64x512 .f32) (ix3 0 e q) = (((Hs (t.val / 16)).O (512 * (t.val % 16) + q.val) e : ℝ) : EReal) := by
  have ht : t.val < 64 := pts ▸ t.isLt
  refine Eq.trans ?_ (hV.o ⟨t.val / 16, by omega⟩ e ⟨512 * (t.val % 16) + q.val, by omega⟩)
  blk_ext [iblk, idx3 t]

theorem l_at (t : Fin cfg0.N) (q : Fin 512) :
    (iblk m c 4 t : Vec Ideal S1x1x512 .f32) (ix3 0 0 q) = (((Hs (t.val / 16)).l (512 * (t.val % 16) + q.val) : ℝ) : EReal) := by
  have ht : t.val < 64 := pts ▸ t.isLt
  refine Eq.trans ?_ (hV.l ⟨t.val / 16, by omega⟩ ⟨512 * (t.val % 16) + q.val, by omega⟩)
  blk_ext [iblk, idx4 t]

theorem blk_at (t : Fin cfg0.N) :
    (Hs (t.val / 16)).Blk (t.val % 16) (iblk m c 0 t) (iblk m c 6 t) (iblk m c 5 t) (iblk m c 3 t) (iblk m c 4 t) where
  h3 := q_at hV t
  h6 := g_at hV t
  h8 := gT_at hV t
  h11 := o_at hV t
  h16 := l_at hV t

theorem k_at (t : Fin cfg0.N) (a : Fin 8192) (d : Fin 128) :
    (iblk m c 1 t : Vec Ideal S1x8192x128 .bf16) (ix3 0 a d) = (((Hs (t.val / 16)).K a.val d : ℝ) : EReal) := by
  have ht : t.val < 64 := pts ▸ t.isLt
  refine Eq.trans ?_ (hV.k ⟨t.val / 16, by omega⟩ a d)
  blk_ext [iblk, idx1 t]

theorem v_at (t : Fin cfg0.N) (a : Fin 8192) (e : Fin 64) :
    (iblk m c 2 t : Vec Ideal S1x8192x64 .bf16) (ix3 0 a e) = (((Hs (t.val / 16)).V a.val e : ℝ) : EReal) := by
  have ht : t.val < 64 := pts ▸ t.isLt
  refine Eq.trans ?_ (hV.v ⟨t.val / 16, by omega⟩ a e)
  blk_ext [iblk, idx2 t]

theorem first7 (t : Fin cfg0.N) (h0 : t.val % 16 = 0) :
    ∀ (q : Fin 512) (d : Fin 128), (outsAt0 m c t.val t.isLt).1 (ix3 0 q d)
      = ((∑ a ∈ Finset.range (512 * (t.val % 16 + 1)), (Hs (t.val / 16)).K a d * (Hs (t.val / 16)).D a (512 * (t.val % 16) + q.val) : ℝ) : EReal) := by
  have hi := coord1 t
  have hb := blk_at hV t
  rw [← hi] at hb
  have hK := k_at hV t
  have hv := v_at hV t
  intro q d
  have e := congrArg (fun s => s.1 (ix3 0 q d)) (outsAt0_A m c t h0)
  simp only at e
  refine e.trans ((out0_A_7_apply (H := (Hs (t.val / 16))) (hb := hb) (hx1 := hK) (hx2 := hv) (hi0 := hi.trans h0) (q := q) (d := d) ..).trans ?_)
  rw [hi]

theorem first8 (t : Fin cfg0.N) (h0 : t.val % 16 = 0) :
    ∀ (a : Fin 8192) (d : Fin 128), (outsAt0 m c t.val t.isLt).2.1 (ix3 0 a d)
      = ((∑ b ∈ Finset.range (512 * (t.val % 16 + 1)), (Hs (t.val / 16)).D a.val b * (Hs (t.val / 16)).Q b d : ℝ) : EReal) := by
  have hi := coord1 t
  have hb := blk_at hV t
  rw [← hi] at hb
  have hK := k_at hV t
  have hv := v_at hV t
  intro a d
  have e := congrArg (fun s => s.2.1 (ix3 0 a d)) (outsAt0_A m c t h0)
  simp only at e
  refine e.trans ((out0_A_8_apply (H := (Hs (t.val / 16))) (hb := hb) (hx1 := hK) (hx2 := hv) (hi0 := hi.trans h0) (a := a) (d := d) ..).trans ?_)
  rw [hi, h0, sum_block]
  simp [Head.tk]

theorem first9 (t : Fin cfg0.N) (h0 : t.val % 16 = 0) :
    ∀ (a : Fin 8192) (d : Fin 64), (outsAt0 m c t.val t.isLt).2.2 (ix3 0 a d)
      = ((∑ b ∈ Finset.range (512 * (t.val % 16 + 1)), (Hs (t.val / 16)).W a.val b * (Hs (t.val / 16)).G b d : ℝ) : EReal) := by
  have hi := coord1 t
  have hb := blk_at hV t
  rw [← hi] at hb
  have hK := k_at hV t
  have hv := v_at hV t
  intro a d
  have e := congrArg (fun s => s.2.2 (ix3 0 a d)) (outsAt0_A m c t h0)
  simp only at e
  refine e.trans ((out0_A_9_apply (H := (Hs (t.val / 16))) (hb := hb) (hx1 := hK) (hx2 := hv) (hi0 := hi.trans h0) (a := a) (d := d) ..).trans ?_)
  rw [hi, h0, sum_block]
  simp [Head.tv]

theorem next7 (t : Fin cfg0.N) (h0 : ¬ t.val % 16 = 0)
    (i8 : ∀ (a : Fin 8192) (d : Fin 128), (outsAt0 m c (t.val - 1) (Nat.lt_of_le_of_lt (Nat.sub_le _ _) t.isLt)).2.1 (ix3 0 a d)
      = ((∑ b ∈ Finset.range (512 * (t.val % 16)), (Hs (t.val / 16)).D a.val b * (Hs (t.val / 16)).Q b d : ℝ) : EReal))
    (i9 : ∀ (a : Fin 8192) (d : Fin 64), (outsAt0 m c (t.val - 1) (Nat.lt_of_le_of_lt (Nat.sub_le _ _) t.isLt)).2.2 (ix3 0 a d)
      = ((∑ b ∈ Finset.range (512 * (t.val % 16)), (Hs (t.val / 16)).W a.val b * (Hs (t.val / 16)).G b d : ℝ) : EReal)) :
    ∀ (q : Fin 512) (d : Fin 128), (outsAt0 m c t.val t.isLt).1 (ix3 0 q d)
      = ((∑ a ∈ Finset.range (512 * (t.val % 16 + 1)), (Hs (t.val / 16)).K a d * (Hs (t.val / 16)).D a (512 * (t.val % 16) + q.val) : ℝ) : EReal) := by
  have hi := coord1 t
  have hb := blk_at hV t
  rw [← hi] at hb
  have hK := k_at hV t
  have hv := v_at hV t
  intro q d
  have e := congrArg (fun s => s.1 (ix3 0 q d)) (outsAt0_B m c t h0)
  simp only at e
  refine e.trans ((out0_B_7_apply (H := (Hs (t.val / 16))) (B10 := fun a d => ∑ b ∈ Finset.range (512 * (t.val % 16)), (Hs (t.val / 16)).D a b * (Hs (t.val / 16)).Q b d) (B11 := fun a d => ∑ b ∈ Finset.range (512 * (t.val % 16)), (Hs (t.val / 16)).W a b * (Hs (t.val / 16)).G b d)
    (hb := hb) (hx1 := hK) (hx2 := hv) (hx8 := i8) (hx9 := i9) (q := q) (d := d) ..).trans ?_)
  rw [hi]

theorem next8 (t : Fin cfg0.N) (h0 : ¬ t.val % 16 = 0)
    (i8 : ∀ (a : Fin 8192) (d : Fin 128), (outsAt0 m c (t.val - 1) (Nat.lt_of_le_of_lt (Nat.sub_le _ _) t.isLt)).2.1 (ix3 0 a d)
      = ((∑ b ∈ Finset.range (512 * (t.val % 16)), (Hs (t.val / 16)).D a.val b * (Hs (t.val / 16)).Q b d : ℝ) : EReal))
    (i9 : ∀ (a : Fin 8192) (d : Fin 64), (outsAt0 m c (t.val - 1) (Nat.lt_of_le_of_lt (Nat.sub_le _ _) t.isLt)).2.2 (ix3 0 a d)
      = ((∑ b ∈ Finset.range (512 * (t.val % 16)), (Hs (t.val / 16)).W a.val b * (Hs (t.val / 16)).G b d : ℝ) : EReal)) :
    ∀ (a : Fin 8192) (d : Fin 128), (outsAt0 m c t.val t.isLt).2.1 (ix3 0 a d)
      = ((∑ b ∈ Finset.range (512 * (t.val % 16 + 1)), (Hs (t.val / 16)).D a.val b * (Hs (t.val / 16)).Q b d : ℝ) : EReal) := by
  have hi := coord1 t
  have hb := blk_at hV t
  rw [← hi] at hb
  have hK := k_at hV t
  have hv := v_at hV t
  intro a d
  have e := congrArg (fun s => s.2.1 (ix3 0 a d)) (outsAt0_B m c t h0)
  simp only at e
  refine e.trans ((out0_B_8_apply (H := (Hs (t.val / 16))) (B10 := fun a d => ∑ b ∈ Finset.range (512 * (t.val % 16)), (Hs (t.val / 16)).D a b * (Hs (t.val / 16)).Q b d) (B11 := fun a d => ∑ b ∈ Finset.range (512 * (t.val % 16)), (Hs (t.val / 16)).W a b * (Hs (t.val / 16)).G b d)
    (hb := hb) (hx1 := hK) (hx2 := hv) (hx8 := i8) (hx9 := i9) (a := a) (d := d) ..).trans ?_)
  rw [hi, sum_block]
  rfl

theorem next9 (t : Fin cfg0.N) (h0 : ¬ t.val % 16 = 0)
    (i8 : ∀ (a : Fin 8192) (d : Fin 128), (outsAt0 m c (t.val - 1) (Nat.lt_of_le_of_lt (Nat.sub_le _ _) t.isLt)).2.1 (ix3 0 a d)
      = ((∑ b ∈ Finset.range (512 * (t.val % 16)), (Hs (t.val / 16)).D a.val b * (Hs (t.val / 16)).Q b d : ℝ) : EReal))
    (i9 : ∀ (a : Fin 8192) (d : Fin 64), (outsAt0 m c (t.val - 1) (Nat.lt_of_le_of_lt (Nat.sub_le _ _) t.isLt)).2.2 (ix3 0 a d)
      = ((∑ b ∈ Finset.range (512 * (t.val % 16)), (Hs (t.val / 16)).W a.val b * (Hs (t.val / 16)).G b d : ℝ) : EReal)) :
    ∀ (a : Fin 8192) (d : Fin 64), (outsAt0 m c t.val t.isLt).2.2 (ix3 0 a d)
      = ((∑ b ∈ Finset.range (512 * (t.val % 16 + 1)), (Hs (t.val / 16)).W a.val b * (Hs (t.val / 16)).G b d : ℝ) : EReal) := by
  have hi := coord1 t
  have hb := blk_at hV t
  rw [← hi] at hb
  have hK := k_at hV t
  have hv := v_at hV t
  intro a d
  have e := congrArg (fun s => s.2.2 (ix3 0 a d)) (outsAt0_B m c t h0)
  simp only at e
  refine e.trans ((out0_B_9_apply (H := (Hs (t.val / 16))) (B10 := fun a d => ∑ b ∈ Finset.range (512 * (t.val % 16)), (Hs (t.val / 16)).D a b * (Hs (t.val / 16)).Q b d) (B11 := fun a d => ∑ b ∈ Finset.range (512 * (t.val % 16)), (Hs (t.val / 16)).W a b * (Hs (t.val / 16)).G b d)
    (hb := hb) (hx1 := hK) (hx2 := hv) (hx8 := i8) (hx9 := i9) (a := a) (d := d) ..).trans ?_)
  rw [hi, sum_block]
  rfl

theorem outs_at (n : ℕ) (hn : n < cfg0.N) :
    (∀ (q : Fin 512) (d : Fin 128), (outsAt0 m c n hn).1 (ix3 0 q d)
      = ((∑ a ∈ Finset.range (512 * (n % 16 + 1)), (Hs (n / 16)).K a d * (Hs (n / 16)).D a (512 * (n % 16) + q.val) : ℝ) : EReal))
    ∧ (∀ (a : Fin 8192) (d : Fin 128), (outsAt0 m c n hn).2.1 (ix3 0 a d)
      = ((∑ b ∈ Finset.range (512 * (n % 16 + 1)), (Hs (n / 16)).D a.val b * (Hs (n / 16)).Q b d : ℝ) : EReal))
    ∧ (∀ (a : Fin 8192) (d : Fin 64), (outsAt0 m c n hn).2.2 (ix3 0 a d)
      = ((∑ b ∈ Finset.range (512 * (n % 16 + 1)), (Hs (n / 16)).W a.val b * (Hs (n / 16)).G b d : ℝ) : EReal)) := by
  induction n with
  | zero => exact ⟨first7 hV ⟨0, hn⟩ rfl, first8 hV ⟨0, hn⟩ rfl, first9 hV ⟨0, hn⟩ rfl⟩
  | succ n ih =>
    by_cases h0 : (n + 1) % 16 = 0
    · exact ⟨first7 hV ⟨n + 1, hn⟩ h0, first8 hV ⟨n + 1, hn⟩ h0, first9 hV ⟨n + 1, hn⟩ h0⟩
    · have hq : n / 16 = (n + 1) / 16 := by omega
      have hr : n % 16 + 1 = (n + 1) % 16 := by omega
      obtain ⟨_, i8, i9⟩ := ih (Nat.lt_of_succ_lt hn)
      rw [hq, hr] at i8 i9
      exact ⟨next7 hV ⟨n + 1, hn⟩ h0 i8 i9, next8 hV ⟨n + 1, hn⟩ h0 i8 i9, next9 hV ⟨n + 1, hn⟩ h0 i8 i9⟩

end Cert.Mla
-- ==== Proof.Mla.Real.lean ====
/- The attention of one head over the real numbers, from arrays of finite values, and the identities that join the
   kernel's form of it to the plain one. -/
module

public import proofs.«01_k».proof.Proof.Mla.Loop

@[expose] public section

set_option maxRecDepth 16384

noncomputable section

namespace Cert.Mla

open Idealize.ShloMosaic

/-- An array of 8192 places, 4 heads and `C` lanes. -/
abbrev Arr (C : ℕ) := Vec Ideal ⟨3, ![8192, 4, C]⟩ .f32

/-- The array's entries by head, place and lane, as real numbers, zero outside of it. -/
def row {C : ℕ} (x : Arr C) (h t d : ℕ) : ℝ :=
  if i : t < 8192 ∧ h < 4 ∧ d < C then EReal.toReal (x (ix3 ⟨t, i.1⟩ ⟨h, i.2.1⟩ ⟨d, i.2.2⟩)) else 0

/-- Every entry is a real number. -/
def Finite {C : ℕ} (x : Arr C) : Prop := ∀ i, x i ≠ ⊤ ∧ x i ≠ ⊥

theorem row_at {C : ℕ} {x : Arr C} (hx : Finite x) (t : Fin 8192) (h : Fin 4) (d : Fin C) :
    x (ix3 t h d) = ((row x h.val t.val d.val : ℝ) : EReal) := by
  unfold row
  rw [dif_pos ⟨t.isLt, h.isLt, d.isLt⟩]
  exact (EReal.coe_toReal (hx _).1 (hx _).2).symm

theorem row_out {C : ℕ} (x : Arr C) (h t : ℕ) {d : ℕ} (hd : C ≤ d) : row x h t d = 0 :=
  dif_neg fun i => absurd i.2.2 (by omega)

section
variable (x0 x1 : Arr 96) (x2 x3 : Arr 64) (mx : ℕ → ℕ → ℝ)

/-- The scaled score of key `k` for query `t`. -/
def sc (h t k : ℕ) : ℝ := (∑ d : Fin 96, row x0 h t d.val * row x1 h k d.val) * rs

/-- Its exponential, less the row's shift, among the keys up to the query. -/
def ee (h t k : ℕ) : ℝ := if k ≤ t then Real.exp (sc x0 x1 h t k - mx h t) else 0

/-- The row's sum. -/
def ll (h t : ℕ) : ℝ := ∑ k : Fin 8192, ee x0 x1 mx h t k.val

/-- The attention weight. -/
def pr (h t k : ℕ) : ℝ := ee x0 x1 mx h t k / ll x0 x1 mx h t

/-- The output row. -/
def oo (h t : ℕ) (e : Fin 64) : ℝ := ∑ k : Fin 8192, row x2 h k.val e.val * pr x0 x1 mx h t k.val

/-- The derivative of a weight. -/
def dp (h t k : ℕ) : ℝ := ∑ e : Fin 64, row x3 h t e.val * row x2 h k e.val

/-- The derivative of a scaled score, as the plain derivative of the quotient prints it, times the scale. -/
def dz (h t k : ℕ) : ℝ :=
  (if k ≤ t then (dp x2 x3 h t k / ll x0 x1 mx h t
      + -(∑ j : Fin 8192, dp x2 x3 h t j.val * (1 / (ll x0 x1 mx h t * ll x0 x1 mx h t)) * ee x0 x1 mx h t j.val)) * ee x0 x1 mx h t k
    else 0) * rs

/-- What the call is given for head `h`. -/
def head (h : ℕ) : Head where
  K t d := row x1 h t d.val
  Q t d := row x0 h t d.val
  V t e := row x2 h t e.val
  G t e := row x3 h t e.val
  O t e := oo x0 x1 x2 mx h t e
  l t := (mx h t + Real.log (ll x0 x1 mx h t)) / Real.log 2

theorem ee_nonneg (h t k : ℕ) : 0 ≤ ee x0 x1 mx h t k := by
  unfold ee; split
  · exact (Real.exp_pos _).le
  · exact le_refl _

theorem ll_pos (h : ℕ) {t : ℕ} (ht : t < 8192) : 0 < ll x0 x1 mx h t := by
  refine Finset.sum_pos' (fun k _ => ee_nonneg x0 x1 mx h t k.val) ⟨⟨t, ht⟩, Finset.mem_univ _, ?_⟩
  unfold ee
  rw [if_pos (le_refl _)]
  exact Real.exp_pos _

/-- The lanes past the ninety-sixth add nothing. -/
theorem sum_lanes (f : ℕ → ℝ) (hf : ∀ d, 96 ≤ d → f d = 0) : ∑ d : Fin 128, f d.val = ∑ d : Fin 96, f d.val := by
  rw [← Finset.sum_range, ← Finset.sum_range, Finset.sum_range_add f 96 32, add_eq_left]
  exact Finset.sum_eq_zero fun d _ => hf _ (by omega)

theorem score (h t k : ℕ) : (∑ d : Fin 128, row x1 h k d.val * row x0 h t d.val) * cm = sc x0 x1 h t k / Real.log 2 := by
  rw [sum_lanes (fun d => row x1 h k d * row x0 h t d) fun d hd => by simp only [row_out x1 h k hd, zero_mul]]
  rw [Finset.sum_congr rfl fun d _ => mul_comm (row x1 h k d.val) (row x0 h t d.val)]
  unfold sc cm rs
  ring

/-- The power of two of the scaled score less the row's logarithm is the attention weight. -/
theorem weight (h : ℕ) {t : ℕ} (ht : t < 8192) (k : ℕ) : (head x0 x1 x2 x3 mx h).W k t = pr x0 x1 mx h t k := by
  have hl := ll_pos x0 x1 mx h ht
  unfold Head.W pr ee
  by_cases hk : k ≤ t
  · rw [if_pos hk, if_pos hk]
    unfold wt
    simp only [head]
    rw [score, ← sub_div, ← sub_sub, Real.rpow_eq_pow, Real.rpow_def_of_pos two_pos, mul_div_cancel₀ _ (Real.log_pos one_lt_two).ne',
      Real.exp_sub, Real.exp_log hl]
  · rw [if_neg hk, if_neg hk, zero_div]

/-- The product of the cotangent and output rows is the weighted sum of the weights' derivatives. -/
theorem delta (h t : ℕ) : ∑ e : Fin 64, row x3 h t e.val * oo x0 x1 x2 mx h t e
    = ∑ k : Fin 8192, pr x0 x1 mx h t k.val * dp x2 x3 h t k.val := by
  unfold oo dp
  simp only [Finset.mul_sum]
  rw [Finset.sum_comm]
  exact Finset.sum_congr rfl fun k _ => Finset.sum_congr rfl fun e _ => by ring

/-- The kernel's derivative of the scaled score is the plain one. -/
theorem deriv (h : ℕ) {t : ℕ} (ht : t < 8192) (k : ℕ) : (head x0 x1 x2 x3 mx h).D k t = dz x0 x1 x2 x3 mx h t k := by
  have hl := (ll_pos x0 x1 mx h ht).ne'
  unfold Head.D dsc
  rw [weight x0 x1 x2 x3 mx h ht]
  simp only [head]
  rw [delta]
  have e1 : ∑ e : Fin 64, row x2 h k e.val * row x3 h t e.val = dp x2 x3 h t k :=
    Finset.sum_congr rfl fun e _ => mul_comm _ _
  have e2 : ∑ j : Fin 8192, dp x2 x3 h t j.val * (1 / (ll x0 x1 mx h t * ll x0 x1 mx h t)) * ee x0 x1 mx h t j.val
      = (∑ j : Fin 8192, pr x0 x1 mx h t j.val * dp x2 x3 h t j.val) / ll x0 x1 mx h t := by
    rw [Finset.sum_div]
    refine Finset.sum_congr rfl fun j _ => ?_
    unfold pr
    field_simp
  rw [e1]
  unfold dz
  rw [e2]
  unfold pr
  by_cases hk : k ≤ t
  · rw [if_pos hk]; field_simp; ring
  · rw [if_neg hk]; unfold ee; rw [if_neg hk]; simp

end

end Cert.Mla
-- ==== Proof.Mla.Ref.lean ====
/- The reference's values at an index, as real numbers. -/
module

public import proofs.«01_k».proof.Proof.Mla.Real
public import proofs.«01_k».proof.Proof.Gen.ReferenceIdeal.Read
public import Idealize.ShloMosaic.Lib.Pointwise
public import Idealize.ShloMosaic.Lib.WordCmp

@[expose] public section

set_option maxRecDepth 16384

noncomputable section

namespace Cert.Mla

open Idealize.ShloMosaic Cert.ReferenceIdeal Cert.ReferenceIdeal.Read

variable (x0 x1 : Arr 96) (x2 x3 : Arr 64)

/-- The row's greatest score. -/
def mx (h t : ℕ) : ℝ :=
  if i : h < 4 ∧ t < 8192 then EReal.toReal (val_main_v10 (F := Ideal) x0 x1 (ix2 ⟨h, i.1⟩ ⟨t, i.2⟩)) else 0

variable {x0 x1 x2 x3} (f0 : Finite x0) (f1 : Finite x1) (f2 : Finite x2) (f3 : Finite x3)

include f0 f1 in
theorem v2_at (h : Fin 4) (t k : Fin 8192) : val_main_v2 (F := Ideal) x0 x1 (ix3 h t k) = ((sc x0 x1 h.val t.val k.val : ℝ) : EReal) := by
  unfold val_main_v2 val_main_v0 val_main_v1 val_main_cst
  pointwise
  simp only [row_at f0, row_at f1, scale_word, sum_mul_coe, ← EReal.coe_mul]
  rfl

theorem v8_at (t k : Fin 8192) : val_main_v8 (F := Ideal) (ix2 t k) = if k.val ≤ t.val then 1#1 else 0#1 := by
  unfold val_main_v8 val_main_v6 val_main_v7 val_main_v4 val_main_v5 val_main_v3
  pointwise
  have hk := k.isLt
  have ht := t.isLt
  rw [WordCmp.cmpi_sle_ofNat (by omega) (by omega)]
  by_cases h : k.val ≤ t.val <;> simp [h]

include f0 f1 in
theorem v9_at (h : Fin 4) (t k : Fin 8192) : val_main_v9_0 (F := Ideal) x0 x1 (ix3 h t k)
    = if k.val ≤ t.val then ((sc x0 x1 h.val t.val k.val : ℝ) : EReal) else ⊥ := by
  unfold val_main_v9_0 val_main_v9_1 val_main_call0_v2 val_main_call0_v0 val_main_cst_0
  pointwise
  rw [v8_at, v2_at f0 f1]
  by_cases hk : k.val ≤ t.val
  · rw [if_pos hk, if_pos hk]; rfl
  · rw [if_neg hk, if_neg hk]; exact neg_inf_word

include f0 f1 in
theorem v10_at (h : Fin 4) (t : Fin 8192) : val_main_v10 (F := Ideal) x0 x1 (ix2 h t)
    = ((mx x0 x1 h.val t.val : ℝ) : EReal) := by
  suffices hh : val_main_v10 (F := Ideal) x0 x1 (ix2 h t) ≠ ⊤ ∧ val_main_v10 (F := Ideal) x0 x1 (ix2 h t) ≠ ⊥ by
    unfold mx
    rw [dif_pos ⟨h.isLt, t.isLt⟩]
    exact (EReal.coe_toReal hh.1 hh.2).symm
  unfold val_main_v10 val_main_cst_1
  pointwise
  rw [neg_inf_word]
  constructor
  · refine ne_of_lt (Finset.fold_max_lt ⊤ |>.2 ⟨bot_lt_top, fun k _ => ?_⟩)
    rw [v9_at f0 f1]
    split
    · exact EReal.coe_lt_top _
    · exact bot_lt_top
  · refine (lt_of_lt_of_le (EReal.bot_lt_coe (sc x0 x1 h.val t.val t.val))
      (Finset.le_fold_max _ |>.2 (Or.inr ⟨t, Finset.mem_univ _, ?_⟩))).ne'
    rw [v9_at f0 f1, if_pos (le_refl _)]

include f0 f1 in
theorem v17_at (h : Fin 4) (t : Fin 8192) : val_main_v17 (F := Ideal) x0 x1 (ix2 h t)
    = ((mx x0 x1 h.val t.val : ℝ) : EReal) := by
  rw [val_main_v17_apply, v10_at f0 f1, val_main_v16_apply, val_main_cst_3_apply, Ideal.ofBits_def, neg_inf_word]
  exact max_eq_right bot_le

include f0 f1 in
theorem v30_at (h : Fin 4) (t k : Fin 8192) : val_main_v30 (F := Ideal) x0 x1 (ix3 h t k)
    = ((ee x0 x1 (mx x0 x1) h.val t.val k.val : ℝ) : EReal) := by
  unfold val_main_v30 val_main_v29 val_main_v28 val_main_v27
  pointwise
  rw [v17_at f0 f1, v9_at f0 f1]
  unfold ee
  by_cases hk : k.val ≤ t.val
  · rw [if_pos hk, if_pos hk, ← EReal.coe_sub, Ideal.exp_coe]
  · rw [if_neg hk, if_neg hk, EReal.bot_sub, Ideal.exp_bot, EReal.coe_zero]

include f0 f1 in
theorem v31_at (h : Fin 4) (t : Fin 8192) : val_main_v31 (F := Ideal) x0 x1 (ix2 h t)
    = ((ll x0 x1 (mx x0 x1) h.val t.val : ℝ) : EReal) := by
  unfold val_main_v31 val_main_cst_9
  pointwise
  simp only [v30_at f0 f1, zero_word, zero_add, coe_sum]
  rfl

include f0 f1 in
theorem v32_at (h : Fin 4) (t : Fin 8192) (z : Fin 1) : val_main_v32 (F := Ideal) x0 x1 (ix3 h t z)
    = ((ll x0 x1 (mx x0 x1) h.val t.val : ℝ) : EReal) := by
  unfold val_main_v32
  pointwise
  exact v31_at f0 f1 h t

theorem div_real (x y : ℝ) (hy : y ≠ 0) : Ideal.div (x : EReal) (y : EReal) = ((x / y : ℝ) : EReal) := by
  rw [Ideal.div_coe hy, ← EReal.coe_mul, mul_one_div]

include f0 f1 in
theorem v34_at (h : Fin 4) (t k : Fin 8192) : val_main_v34 (F := Ideal) x0 x1 (ix3 h t k)
    = ((pr x0 x1 (mx x0 x1) h.val t.val k.val : ℝ) : EReal) := by
  unfold val_main_v34 val_main_v33
  pointwise
  rw [v30_at f0 f1, v32_at f0 f1]
  exact div_real _ _ (ll_pos _ _ _ _ t.isLt).ne'

include f0 f1 f2 in
theorem v39_at (t : Fin 8192) (h : Fin 4) (e : Fin 64) : val_main_v39 (F := Ideal) x0 x1 x2 (ix3 t h e)
    = ((oo x0 x1 x2 (mx x0 x1) h.val t.val e : ℝ) : EReal) := by
  unfold val_main_v39 val_main_v38
  pointwise
  simp only [row_at f2, v34_at f0 f1, sum_mul_coe]
  rfl

include f2 f3 in
theorem v41_at (h : Fin 4) (t k : Fin 8192) : val_main_v41 (F := Ideal) x2 x3 (ix3 h t k)
    = ((dp x2 x3 h.val t.val k.val : ℝ) : EReal) := by
  unfold val_main_v41 val_main_v40
  pointwise
  simp only [row_at f2, row_at f3, sum_mul_coe]
  rfl

include f0 f1 f3 in
theorem v67_at (h : Fin 4) (k : Fin 8192) (e : Fin 64) : val_main_v67 (F := Ideal) x0 x1 x3 (ix3 h k e)
    = ((∑ t : Fin 8192, row x3 h.val t.val e.val * pr x0 x1 (mx x0 x1) h.val t.val k.val : ℝ) : EReal) := by
  unfold val_main_v67 val_main_v43 val_main_v42 val_main_v40
  pointwise
  simp only [row_at f3, v34_at f0 f1, sum_mul_coe]

include f0 f1 in
theorem v37_at (h : Fin 4) (t : Fin 8192) (z : Fin 1) : val_main_v37 (F := Ideal) x0 x1 (ix3 h t z)
    = ((1 / (ll x0 x1 (mx x0 x1) h.val t.val * ll x0 x1 (mx x0 x1) h.val t.val) : ℝ) : EReal) := by
  have hl := (ll_pos x0 x1 (mx x0 x1) h.val t.isLt).ne'
  unfold val_main_v37 val_main_v36 val_main_cst_10 val_main_v35
  pointwise
  rw [v32_at f0 f1, ← EReal.coe_mul]
  exact div_real 1 _ (mul_ne_zero hl hl)

include f0 f1 f2 f3 in
theorem v47_at (h : Fin 4) (t : Fin 8192) : val_main_v47 (F := Ideal) x0 x1 x2 x3 (ix2 h t)
    = ((∑ j : Fin 8192, dp x2 x3 h.val t.val j.val * (1 / (ll x0 x1 (mx x0 x1) h.val t.val * ll x0 x1 (mx x0 x1) h.val t.val))
        * ee x0 x1 (mx x0 x1) h.val t.val j.val : ℝ) : EReal) := by
  unfold val_main_v47 val_main_cst_11 val_main_v46 val_main_v45 val_main_v44
  pointwise
  simp only [v30_at f0 f1, v41_at f2 f3, v37_at f0 f1, zero_word, zero_add, ← EReal.coe_mul, coe_sum]

include f0 f1 f2 f3 in
theorem v58_at (h : Fin 4) (t k : Fin 8192) : val_main_v58 (F := Ideal) x0 x1 x2 x3 (ix3 h t k)
    = ((dz x0 x1 x2 x3 (mx x0 x1) h.val t.val k.val : ℝ) : EReal) := by
  have hl := (ll_pos x0 x1 (mx x0 x1) h.val t.isLt).ne'
  unfold val_main_v58 val_main_v57 val_main_cst_13 val_main_v56 val_main_v9_1 val_main_call1_v0 val_main_call1_cst val_main_v55 val_main_v54
    val_main_v53 val_main_v52 val_main_cst_12 val_main_v51 val_main_v50 val_main_v49 val_main_v48
  pointwise
  rw [v8_at, v41_at f2 f3, v32_at f0 f1, v30_at f0 f1, v47_at f0 f1 f2 f3, div_real _ _ hl, Fin.sum_univ_one, scale_word]
  unfold dz
  by_cases hk : k.val ≤ t.val
  · rw [if_pos hk, if_pos hk]
    simp only [← EReal.coe_neg, ← EReal.coe_add, ← EReal.coe_mul]
    rfl
  · rw [if_neg hk, if_neg hk, zero_mul, EReal.coe_zero]
    rfl

include f0 f1 f2 f3 in
theorem v63_at (h : Fin 4) (t : Fin 8192) (d : Fin 96) : val_main_v63 (F := Ideal) x0 x1 x2 x3 (ix3 h t d)
    = ((∑ k : Fin 8192, dz x0 x1 x2 x3 (mx x0 x1) h.val t.val k.val * row x1 h.val k.val d.val : ℝ) : EReal) := by
  unfold val_main_v63 val_main_v62 val_main_v61
  pointwise
  simp only [row_at f1, v58_at f0 f1 f2 f3, sum_mul_coe]

include f0 f1 f2 f3 in
theorem v65_at (h : Fin 4) (k : Fin 8192) (d : Fin 96) : val_main_v65 (F := Ideal) x0 x1 x2 x3 (ix3 h k d)
    = ((∑ t : Fin 8192, dz x0 x1 x2 x3 (mx x0 x1) h.val t.val k.val * row x0 h.val t.val d.val : ℝ) : EReal) := by
  unfold val_main_v65 val_main_v60 val_main_v59
  pointwise
  simp only [row_at f0, v58_at f0 f1 f2 f3, sum_mul_coe]

theorem no_lane (φ : FTy) : (FloatOps.sitofp (F := Ideal) φ (0#32)) = (0 : EReal) := by
  change (((0#32 : BitVec 32).toInt : ℝ) : EReal) = 0
  simp

include f0 f1 f2 f3 in
theorem v64_at (h : Fin 4) (t : Fin 8192) (d : Fin 128) : val_main_v64 (F := Ideal) x0 x1 x2 x3 (ix3 h t d)
    = ((∑ k : Fin 8192, dz x0 x1 x2 x3 (mx x0 x1) h.val t.val k.val * row x1 h.val k.val d.val : ℝ) : EReal) := by
  unfold val_main_v64 val_main_call2_v0 val_main_c
  pointwise
  by_cases hd : d.val < 96
  · rw [dif_pos hd, v63_at f0 f1 f2 f3]
  · rw [dif_neg hd, no_lane]
    simp only [row_out x1 _ _ (not_lt.mp hd), mul_zero, Finset.sum_const_zero, EReal.coe_zero]

include f0 f1 f2 f3 in
theorem v66_at (h : Fin 4) (k : Fin 8192) (d : Fin 128) : val_main_v66 (F := Ideal) x0 x1 x2 x3 (ix3 h k d)
    = ((∑ t : Fin 8192, dz x0 x1 x2 x3 (mx x0 x1) h.val t.val k.val * row x0 h.val t.val d.val : ℝ) : EReal) := by
  unfold val_main_v66 val_main_call3_v0 val_main_c_14
  pointwise
  by_cases hd : d.val < 96
  · rw [dif_pos hd, v65_at f0 f1 f2 f3]
  · rw [dif_neg hd, no_lane]
    simp only [row_out x0 _ _ (not_lt.mp hd), mul_zero, Finset.sum_const_zero, EReal.coe_zero]

end Cert.Mla
-- ==== Proof.Mla.Host.lean ====
/- What the call is given, from the arguments. -/
module

public import proofs.«01_k».proof.Proof.Mla.Acc
public import proofs.«01_k».proof.Proof.Mla.Ref
public import Idealize.ShloMosaic.Lib.StableHlo.ReadAt

@[expose] public section

set_option maxRecDepth 16384

noncomputable section

namespace Cert.Mla

open Idealize.ShloMosaic Idealize.SL.Sem Idealize.ShloMosaic.TcCoe
open Cert.KernelIdeal Cert.KernelIdeal.Gen
open Cert.ReferenceIdeal.Read

variable (m : (ℓ : Loc nD τ sig) → Buf (Elt Ideal) ℓ) (c : Dev nD)

/-- The four arguments. -/
abbrev a0 : Arr 96 := m ((c : Thread nD τ).loc main_arg0)
abbrev a1 : Arr 96 := m ((c : Thread nD τ).loc main_arg1)
abbrev a2 : Arr 64 := m ((c : Thread nD τ).loc main_arg2)
abbrev a3 : Arr 64 := m ((c : Thread nD τ).loc main_arg3)

variable {m c} (f0 : Finite (a0 m c)) (f1 : Finite (a1 m c)) (f2 : Finite (a2 m c)) (f3 : Finite (a3 m c))

variable (m c) in
/-- The contents once the masked scores are there. -/
def scored : Valuation τ sig (Elt Ideal) := StableHlo.after (hostOps0 ++ hostOps0_1) (fun b => m (c, b))

/-- The call's operands are made of the masked scores and the arguments. -/
theorem V_eq (b : Ref sig .tc) : V (F := Ideal) m c b
    = StableHlo.after (hostOps0_2 ++ (hostOps0_3 ++ (hostOps0_4 ++ (hostOps0_5 ++ hostOps0_6)))) (scored m c) (Proc.devRef .tc b) := by
  unfold V scored
  simp only [List.flatten_cons, List.flatten_nil, List.append_nil, StableHlo.after_append]

theorem scored_args : scored m c (Proc.devRef .tc main_arg0) = a0 m c ∧ scored m c (Proc.devRef .tc main_arg1) = a1 m c
    ∧ scored m c (Proc.devRef .tc main_arg2) = a2 m c ∧ scored m c (Proc.devRef .tc main_arg3) = a3 m c := by
  unfold scored
  refine ⟨?_, ?_, ?_, ?_⟩ <;> after_reads_simp <;> rfl

theorem scored_v9 : scored m c (Proc.devRef .tc main_v9) = val_main_v9_0 (F := Ideal) (a0 m c) (a1 m c) := by
  unfold scored
  after_reads_simp
  simp -implicitDefEqProofs only [StableHlo.TRef.toBuf, StableHlo.TRef.ofBuf, cast_cast, cast_eq]
  unfold val_main_v9_0 val_main_v9_1 val_main_call0_v2 val_main_call0_v0 val_main_cst_0 val_main_v8 val_main_v6 val_main_v7 val_main_v4 val_main_v5 val_main_v3 val_main_v2 val_main_v0 val_main_v1 val_main_cst
  rfl

variable {F : FTy → Type} [FloatOps F]

/-- Each row's greatest score, with a place for the sum. -/
def k11 (x0 x1 : (⟨S8192x4x96, .f32⟩ : BufTy).Contents (Elt F)) : (⟨S4x8192x1, .f32⟩ : BufTy).Contents (Elt F) :=
  broadcastInDim S4x8192x1 ![0, 1] bcast_S4x8192_S4x8192x1_0_1 (val_main_v10 (F := F) x0 x1)

/-- It, along each row. -/
def k12 (x0 x1 : (⟨S8192x4x96, .f32⟩ : BufTy).Contents (Elt F)) : (⟨S4x8192x8192, .f32⟩ : BufTy).Contents (Elt F) :=
  broadcastInDim S4x8192x8192 ![0, 1, 2] bcast_S4x8192x1_S4x8192x8192_0_1_2 (k11 (F := F) x0 x1)

/-- The masked scores, the greatest taken off. -/
def k13 (x0 x1 : (⟨S8192x4x96, .f32⟩ : BufTy).Contents (Elt F)) : (⟨S4x8192x8192, .f32⟩ : BufTy).Contents (Elt F) :=
  subf (val_main_v9_0 (F := F) x0 x1) (k12 (F := F) x0 x1)

/-- Their exponentials. -/
def k14 (x0 x1 : (⟨S8192x4x96, .f32⟩ : BufTy).Contents (Elt F)) : (⟨S4x8192x8192, .f32⟩ : BufTy).Contents (Elt F) :=
  Host.exp (k13 (F := F) x0 x1)

/-- Zero. -/
def kz  : (⟨S_, .f32⟩ : BufTy).Contents (Elt F) :=
  constant S_ .f32 0x00000000#32

/-- The rows' sums. -/
def k15 (x0 x1 : (⟨S8192x4x96, .f32⟩ : BufTy).Contents (Elt F)) : (⟨S4x8192, .f32⟩ : BufTy).Contents (Elt F) :=
  Host.reduceAdd (k14 (F := F) x0 x1) (kz (F := F)) reducesTo_S4x8192x8192_S4x8192_d2 h_S_

/-- The rows' sums. -/
def k16 (x0 x1 : (⟨S8192x4x96, .f32⟩ : BufTy).Contents (Elt F)) : (⟨S4x8192x1, .f32⟩ : BufTy).Contents (Elt F) :=
  broadcastInDim S4x8192x1 ![0, 1] bcast_S4x8192_S4x8192x1_0_1 (k15 (F := F) x0 x1)

/-- The sums, along each row. -/
def k17 (x0 x1 : (⟨S8192x4x96, .f32⟩ : BufTy).Contents (Elt F)) : (⟨S4x8192x8192, .f32⟩ : BufTy).Contents (Elt F) :=
  broadcastInDim S4x8192x8192 ![0, 1, 2] bcast_S4x8192x1_S4x8192x8192_0_1_2 (k16 (F := F) x0 x1)

/-- The weights. -/
def k18 (x0 x1 : (⟨S8192x4x96, .f32⟩ : BufTy).Contents (Elt F)) : (⟨S4x8192x8192, .f32⟩ : BufTy).Contents (Elt F) :=
  Host.divf (k14 (F := F) x0 x1) (k17 (F := F) x0 x1)

/-- The weighted sums of the values. -/
def k19 (x0 x1 : (⟨S8192x4x96, .f32⟩ : BufTy).Contents (Elt F)) (x2 : (⟨S8192x4x64, .f32⟩ : BufTy).Contents (Elt F)) : (⟨S4x64x8192, .f32⟩ : BufTy).Contents (Elt F) :=
  Host.dotGeneral dot_S8192x4x64_S4x8192x8192_S4x64x8192_0_2_2_1_1_0 none x2 (k18 (F := F) x0 x1)

/-- The forward's result. -/
def k20 (x0 x1 : (⟨S8192x4x96, .f32⟩ : BufTy).Contents (Elt F)) (x2 : (⟨S8192x4x64, .f32⟩ : BufTy).Contents (Elt F)) : (⟨S8192x4x64, .f32⟩ : BufTy).Contents (Elt F) :=
  transpose S8192x4x64 [2, 0, 1] (k19 (F := F) x0 x1 x2) transposes_S4x64x8192_S8192x4x64_2_0_1

/-- The forward's result, as the call takes it. -/
def k21 (x0 x1 : (⟨S8192x4x96, .f32⟩ : BufTy).Contents (Elt F)) (x2 : (⟨S8192x4x64, .f32⟩ : BufTy).Contents (Elt F)) : (⟨S4x64x8192, .f32⟩ : BufTy).Contents (Elt F) :=
  transpose S4x64x8192 [1, 2, 0] (k20 (F := F) x0 x1 x2) transposes_S8192x4x64_S4x64x8192_1_2_0

/-- The sums' logarithms. -/
def k22 (x0 x1 : (⟨S8192x4x96, .f32⟩ : BufTy).Contents (Elt F)) : (⟨S4x8192x1, .f32⟩ : BufTy).Contents (Elt F) :=
  Host.log (k16 (F := F) x0 x1)

/-- The logarithms of the sums of exponentials. -/
def k23 (x0 x1 : (⟨S8192x4x96, .f32⟩ : BufTy).Contents (Elt F)) : (⟨S4x8192x1, .f32⟩ : BufTy).Contents (Elt F) :=
  addf (k11 (F := F) x0 x1) (k22 (F := F) x0 x1)

/-- Two. -/
def k2  : (⟨S_, .f32⟩ : BufTy).Contents (Elt F) :=
  constant S_ .f32 0x40000000#32

/-- Its logarithm. -/
def k24  : (⟨S_, .f32⟩ : BufTy).Contents (Elt F) :=
  Host.log (k2 (F := F))

/-- It, at each row. -/
def k25  : (⟨S4x8192x1, .f32⟩ : BufTy).Contents (Elt F) :=
  broadcastInDim S4x8192x1 ![] bcast_S_S4x8192x1 (k24 (F := F))

/-- The logarithms to the base two. -/
def k26 (x0 x1 : (⟨S8192x4x96, .f32⟩ : BufTy).Contents (Elt F)) : (⟨S4x8192x1, .f32⟩ : BufTy).Contents (Elt F) :=
  Host.divf (k23 (F := F) x0 x1) (k25 (F := F))

/-- The logarithms to the base two, as the call takes them. -/
def k27 (x0 x1 : (⟨S8192x4x96, .f32⟩ : BufTy).Contents (Elt F)) : (⟨S4x1x8192, .f32⟩ : BufTy).Contents (Elt F) :=
  transpose S4x1x8192 [0, 2, 1] (k26 (F := F) x0 x1) transposes_S4x8192x1_S4x1x8192_0_2_1

/-- The heads' rows, one head after another. -/
def k28 (x : (⟨S8192x4x96, .f32⟩ : BufTy).Contents (Elt F)) : (⟨S4x8192x96, .f32⟩ : BufTy).Contents (Elt F) :=
  transpose S4x8192x96 [1, 0, 2] x transposes_S8192x4x96_S4x8192x96_1_0_2

/-- In the narrow format. -/
def k29 (x : (⟨S8192x4x96, .f32⟩ : BufTy).Contents (Elt F)) : (⟨S4x8192x96, .bf16⟩ : BufTy).Contents (Elt F) :=
  truncf .bf16 (k28 (F := F) x) bitsLt_bf16_f32

/-- Zero. -/
def kzi  : (⟨S_, .i32⟩ : BufTy).Contents (Elt F) :=
  constantI S_ 32 0#32

/-- Zero, in the narrow format. -/
def kzb  : (⟨S_, .bf16⟩ : BufTy).Contents (Elt F) :=
  sitofp .bf16 (kzi (F := F))

/-- The rows, with lanes of zeros beside them. -/
def k30 (x : (⟨S8192x4x96, .f32⟩ : BufTy).Contents (Elt F)) : (⟨S4x8192x128, .bf16⟩ : BufTy).Contents (Elt F) :=
  pad S4x8192x128 ![0, 0, 0] ![0, 0, 32] ![0, 0, 0] (k29 (F := F) x) (kzb (F := F)) pads_S4x8192x96_S4x8192x128_000_000_0320 h_S_

/-- The heads' rows, one head after another. -/
def k34 (x : (⟨S8192x4x64, .f32⟩ : BufTy).Contents (Elt F)) : (⟨S4x8192x64, .f32⟩ : BufTy).Contents (Elt F) :=
  transpose S4x8192x64 [1, 0, 2] x transposes_S8192x4x64_S4x8192x64_1_0_2

/-- In the narrow format. -/
def k35 (x : (⟨S8192x4x64, .f32⟩ : BufTy).Contents (Elt F)) : (⟨S4x8192x64, .bf16⟩ : BufTy).Contents (Elt F) :=
  truncf .bf16 (k34 (F := F) x) bitsLt_bf16_f32

/-- The heads' columns, one head after another. -/
def k36 (x : (⟨S8192x4x64, .f32⟩ : BufTy).Contents (Elt F)) : (⟨S4x64x8192, .f32⟩ : BufTy).Contents (Elt F) :=
  transpose S4x64x8192 [1, 2, 0] x transposes_S8192x4x64_S4x64x8192_1_2_0

theorem v21_eq : V (F := Ideal) m c main_v21 = k21 (F := Ideal) (a0 m c) (a1 m c) (a2 m c) := by
  rw [V_eq]
  after_reads_simp
  rw [scored_v9, scored_args.2.2.1]
  unfold k21 k20 k19 k18 k17 k16 k15 kz k14 k13 k12 k11 val_main_v10 val_main_cst_1
  rfl

theorem v27_eq : V (F := Ideal) m c main_v27 = k27 (F := Ideal) (a0 m c) (a1 m c) := by
  rw [V_eq]
  after_reads_simp
  rw [scored_v9]
  unfold k27 k26 k25 k24 k23 k22 k2 k16 k15 kz k14 k13 k12 k11 val_main_v10 val_main_cst_1
  rfl

theorem v30_eq : V (F := Ideal) m c main_v30 = k30 (F := Ideal) (a0 m c) := by
  rw [V_eq]
  after_reads_simp
  simp -implicitDefEqProofs only [StableHlo.TRef.toBuf, StableHlo.TRef.ofBuf, cast_cast, cast_eq]
  rw [scored_args.1]
  unfold k30 k29 k28 kzb kzi
  rfl

theorem v33_eq : V (F := Ideal) m c main_v33 = k30 (F := Ideal) (a1 m c) := by
  rw [V_eq]
  after_reads_simp
  simp -implicitDefEqProofs only [StableHlo.TRef.toBuf, StableHlo.TRef.ofBuf, cast_cast, cast_eq]
  rw [scored_args.2.1]
  unfold k30 k29 k28 kzb kzi
  rfl

theorem v35_eq : V (F := Ideal) m c main_v35 = k35 (F := Ideal) (a2 m c) := by
  rw [V_eq]
  after_reads_simp
  rw [scored_args.2.2.1]
  unfold k35 k34
  rfl

theorem v36_eq : V (F := Ideal) m c main_v36 = k36 (F := Ideal) (a3 m c) := by
  rw [V_eq]
  after_reads_simp
  rw [scored_args.2.2.2]
  unfold k36
  rfl

theorem v38_eq : V (F := Ideal) m c main_v38 = k35 (F := Ideal) (a3 m c) := by
  rw [V_eq]
  after_reads_simp
  rw [scored_args.2.2.2]
  unfold k35 k34
  rfl

end Cert.Mla
-- ==== Proof.Mla.HostVal.lean ====
/- The call's operands at an index. -/
module

public import proofs.«01_k».proof.Proof.Mla.Host

@[expose] public section

set_option maxRecDepth 16384

noncomputable section

namespace Cert.Mla

open Idealize.ShloMosaic Idealize.SL.Sem Idealize.ShloMosaic.TcCoe
open Cert.KernelIdeal Cert.KernelIdeal.Gen
open Cert.ReferenceIdeal.Read

variable {x0 x1 : Arr 96} {x2 : Arr 64} (g0 : Finite x0) (g1 : Finite x1) (g2 : Finite x2)

theorem k30_at {x : Arr 96} (f : Finite x) (h : Fin 4) (t : Fin 8192) (d : Fin 128) :
    k30 (F := Ideal) x (ix3 h t d) = ((row x h.val t.val d.val : ℝ) : EReal) := by
  unfold k30 k29 k28 kzb kzi
  pointwise
  by_cases hd : d.val < 96
  · rw [dif_pos hd, row_at f]
  · rw [dif_neg hd, no_lane, row_out x _ _ (not_lt.mp hd), EReal.coe_zero]

theorem k35_at {x : Arr 64} (f : Finite x) (h : Fin 4) (t : Fin 8192) (d : Fin 64) :
    k35 (F := Ideal) x (ix3 h t d) = ((row x h.val t.val d.val : ℝ) : EReal) := by
  unfold k35 k34
  pointwise
  exact row_at f _ _ _

include g0 g1 in
theorem k14_at (h : Fin 4) (t k : Fin 8192) : k14 (F := Ideal) x0 x1 (ix3 h t k) = ((ee x0 x1 (mx x0 x1) h.val t.val k.val : ℝ) : EReal) := by
  unfold k14 k13 k12 k11
  pointwise
  rw [v10_at g0 g1, v9_at g0 g1]
  unfold ee
  by_cases hk : k.val ≤ t.val
  · rw [if_pos hk, if_pos hk, ← EReal.coe_sub, Ideal.exp_coe]
  · rw [if_neg hk, if_neg hk, EReal.bot_sub, Ideal.exp_bot, EReal.coe_zero]

include g0 g1 in
theorem k16_at (h : Fin 4) (t : Fin 8192) (z : Fin 1) : k16 (F := Ideal) x0 x1 (ix3 h t z) = ((ll x0 x1 (mx x0 x1) h.val t.val : ℝ) : EReal) := by
  unfold k16 k15 kz
  pointwise
  simp only [k14_at g0 g1, zero_word, zero_add, coe_sum]
  rfl

include g0 g1 g2 in
theorem k21_at (h : Fin 4) (e : Fin 64) (t : Fin 8192) : k21 (F := Ideal) x0 x1 x2 (ix3 h e t) = ((oo x0 x1 x2 (mx x0 x1) h.val t.val e : ℝ) : EReal) := by
  unfold k21 k20 k19 k18 k17
  pointwise
  simp only [k14_at g0 g1, k16_at g0 g1, row_at g2, div_real _ _ (ll_pos x0 x1 (mx x0 x1) h.val t.isLt).ne', sum_mul_coe]
  rfl

include g0 g1 in
theorem k11_at (h : Fin 4) (t : Fin 8192) (z : Fin 1) : k11 (F := Ideal) x0 x1 (ix3 h t z) = ((mx x0 x1 h.val t.val : ℝ) : EReal) := by
  unfold k11
  pointwise
  exact v10_at g0 g1 h t

include g0 g1 in
theorem k22_at (h : Fin 4) (t : Fin 8192) (z : Fin 1) : k22 (F := Ideal) x0 x1 (ix3 h t z) = ((Real.log (ll x0 x1 (mx x0 x1) h.val t.val) : ℝ) : EReal) := by
  change Ideal.log (k16 (F := Ideal) x0 x1 (ix3 h t z)) = _
  rw [k16_at g0 g1, Ideal.log_coe, if_neg (not_le.mpr (ll_pos x0 x1 (mx x0 x1) h.val t.isLt))]

theorem k25_at (i : S4x8192x1.Idx) : k25 (F := Ideal) i = ((Real.log 2 : ℝ) : EReal) := by
  change Ideal.log (Ideal.ofBits .f32 0x40000000#32) = _
  rw [two_word, Ideal.log_coe, if_neg (by norm_num)]

theorem quotient_at (a b w : Vec Ideal S4x8192x1 .f32) (i : S4x8192x1.Idx) :
    (Host.divf (addf (a : FVec Ideal S4x8192x1 .f32) b) w : FVec Ideal S4x8192x1 .f32) i = Ideal.div (a i + b i) (w i) := rfl

include g0 g1 in
theorem k26_at (h : Fin 4) (t : Fin 8192) (z : Fin 1) : k26 (F := Ideal) x0 x1 (ix3 h t z)
    = (((mx x0 x1 h.val t.val + Real.log (ll x0 x1 (mx x0 x1) h.val t.val)) / Real.log 2 : ℝ) : EReal) := by
  unfold k26 k23
  rw [quotient_at, k11_at g0 g1, k22_at g0 g1, k25_at, ← EReal.coe_add, div_real _ _ (Real.log_pos one_lt_two).ne']

theorem turned_at (a : Vec Ideal S4x8192x1 .f32) (h : Fin 4) (t : Fin 8192) (z : Fin 1) :
    transpose S4x1x8192 [0, 2, 1] a transposes_S4x8192x1_S4x1x8192_0_2_1 (ix3 h z t) = a (ix3 h t z) := by
  obtain rfl : z = 0 := Subsingleton.elim _ _
  pointwise

include g0 g1 in
theorem k27_at (h : Fin 4) (t : Fin 8192) (z : Fin 1) : k27 (F := Ideal) x0 x1 (ix3 h z t)
    = (((mx x0 x1 h.val t.val + Real.log (ll x0 x1 (mx x0 x1) h.val t.val)) / Real.log 2 : ℝ) : EReal) := by
  unfold k27
  rw [turned_at, k26_at g0 g1]

theorem k36_at {x : Arr 64} (f : Finite x) (h : Fin 4) (e : Fin 64) (t : Fin 8192) :
    k36 (F := Ideal) x (ix3 h e t) = ((row x h.val t.val e.val : ℝ) : EReal) := by
  unfold k36
  pointwise
  exact row_at f _ _ _

variable {m : (ℓ : Loc nD τ sig) → Buf (Elt Ideal) ℓ} {c : Dev nD} (f0 : Finite (a0 m c)) (f1 : Finite (a1 m c)) (f2 : Finite (a2 m c)) (f3 : Finite (a3 m c))

variable (m c) in
/-- A head's rows, from the arguments. -/
def heads : ℕ → Head := head (a0 m c) (a1 m c) (a2 m c) (a3 m c) (mx (a0 m c) (a1 m c))

include f0 f1 f2 f3 in
theorem given : Given m c (heads m c) where
  q h t d := by rw [v30_eq]; exact k30_at f0 h t d
  k h t d := by rw [v33_eq]; exact k30_at f1 h t d
  v h t e := by rw [v35_eq]; exact k35_at f2 h t e
  o h e t := by rw [v21_eq]; exact k21_at f0 f1 f2 h e t
  l h t := by rw [v27_eq]; exact k27_at f0 f1 h t 0
  gT h e t := by rw [v36_eq]; exact k36_at f3 h e t
  g h t e := by rw [v38_eq]; exact k35_at f3 h t e

end Cert.Mla
-- ==== Proof.Mla.Arrays.lean ====
/- The three arrays the call returns, at an index. -/
module

public import proofs.«01_k».proof.Proof.Mla.Acc

@[expose] public section

set_option maxRecDepth 16384

noncomputable section

namespace Cert.Mla

open Idealize.ShloMosaic Idealize.SL.Sem Idealize.ShloMosaic.TcCoe
open Cert.KernelIdeal Cert.KernelIdeal.Gen

theorem sum_cut (f : ℕ → ℝ) (n : ℕ) (hn : n ≤ 8192) (h : ∀ a, n ≤ a → f a = 0) :
    ∑ a ∈ Finset.range n, f a = ∑ a ∈ Finset.range 8192, f a :=
  Finset.sum_subset (Finset.range_mono hn) fun a _ ha => h a (by simpa using ha)

/-- The gradient of the queries, from the rows of each head. -/
def gq (Hs : ℕ → Head) : Vec Ideal S4x8192x128 .f32 := fun y =>
  ((∑ a ∈ Finset.range 8192, (Hs (y 0).val).K a (y 2) * (Hs (y 0).val).D a (y 1).val : ℝ) : EReal)

/-- The gradient of the keys. -/
def gk (Hs : ℕ → Head) : Vec Ideal S4x8192x128 .f32 := fun y =>
  ((∑ b ∈ Finset.range 8192, (Hs (y 0).val).D (y 1).val b * (Hs (y 0).val).Q b (y 2) : ℝ) : EReal)

/-- The gradient of the values. -/
def gv (Hs : ℕ → Head) : Vec Ideal S4x8192x64 .f32 := fun y =>
  ((∑ b ∈ Finset.range 8192, (Hs (y 0).val).W (y 1).val b * (Hs (y 0).val).G b (y 2) : ℝ) : EReal)

variable (m : (ℓ : Loc nD τ sig) → Buf (Elt Ideal) ℓ) (c : Dev nD) (Hs : ℕ → Head)
variable {m c Hs} (hV : Given m c Hs)
include hV

omit hV in
theorem emb7 (t : Fin cfg0.N) (q : Fin 512) (d : Fin 128) (ht : t.val < 64) :
    ((win0_7.blk t).view.emb (ix3 (0 : Fin 1) q d : S1x512x128.Idx) : S4x8192x128.Idx) = ix3 ⟨t.val / 16, by omega⟩ ⟨512 * (t.val % 16) + q.val, by omega⟩ d := by
  blk_ext [idx7 t]

theorem arr7 : (dats m 0 c).arrAt 7 cfg0.N = gq Hs := by
  refine (dats m 0 c).arrAt_eq_of_covers 7 _ (by decide +kernel) fun t hf y => ?_
  have ht : t.val < 64 := pts ▸ t.isLt
  blk_simp
  rw [after0_7]
  revert y
  suffices h : ∀ y : S1x512x128.Idx, (outsAt0 m c t.val t.isLt).1 y = gq Hs ((win0_7.blk t).view.emb y) from h
  intro y
  obtain ⟨z, q, d, rfl⟩ : ∃ z q d, y = ix3 z q d := ⟨y 0, y 1, y 2, eq_ix3 y⟩
  obtain rfl : z = 0 := Subsingleton.elim _ _
  refine (((outs_at hV t.val t.isLt).1) q d).trans ?_
  rw [emb7 t q d ht]
  rw [sum_cut _ _ (by omega) fun a ha => by rw [Head.D_late _ (by omega), mul_zero]]
  rfl

omit hV in
theorem emb8 (t : Fin cfg0.N) (a : Fin 8192) (d : Fin 128) (ht : t.val < 64) :
    ((win0_8.blk t).view.emb (ix3 (0 : Fin 1) a d : S1x8192x128.Idx) : S4x8192x128.Idx) = ix3 ⟨t.val / 16, by omega⟩ a d := by
  blk_ext [idx8 t]

theorem arr8 : (dats m 0 c).arrAt 8 cfg0.N = gk Hs := by
  refine (dats m 0 c).arrAt_eq_of_covers 8 _ (by decide +kernel) fun t hf y => ?_
  have ht : t.val < 64 := pts ▸ t.isLt
  have h15 := (flush0_8 t).mp hf
  blk_simp
  rw [after0_8]
  revert y
  suffices h : ∀ y : S1x8192x128.Idx, (outsAt0 m c t.val t.isLt).2.1 y = gk Hs ((win0_8.blk t).view.emb y) from h
  intro y
  obtain ⟨z, a, d, rfl⟩ : ∃ z a d, y = ix3 z a d := ⟨y 0, y 1, y 2, eq_ix3 y⟩
  obtain rfl : z = 0 := Subsingleton.elim _ _
  refine (((outs_at hV t.val t.isLt).2.1) a d).trans ?_
  rw [emb8 t a d ht]
  rw [h15]
  rfl

omit hV in
theorem emb9 (t : Fin cfg0.N) (a : Fin 8192) (d : Fin 64) (ht : t.val < 64) :
    ((win0_9.blk t).view.emb (ix3 (0 : Fin 1) a d : S1x8192x64.Idx) : S4x8192x64.Idx) = ix3 ⟨t.val / 16, by omega⟩ a d := by
  blk_ext [idx9 t]

theorem arr9 : (dats m 0 c).arrAt 9 cfg0.N = gv Hs := by
  refine (dats m 0 c).arrAt_eq_of_covers 9 _ (by decide +kernel) fun t hf y => ?_
  have ht : t.val < 64 := pts ▸ t.isLt
  have h15 := (flush0_9 t).mp hf
  blk_simp
  rw [after0_9]
  revert y
  suffices h : ∀ y : S1x8192x64.Idx, (outsAt0 m c t.val t.isLt).2.2 y = gv Hs ((win0_9.blk t).view.emb y) from h
  intro y
  obtain ⟨z, a, d, rfl⟩ : ∃ z a d, y = ix3 z a d := ⟨y 0, y 1, y 2, eq_ix3 y⟩
  obtain rfl : z = 0 := Subsingleton.elim _ _
  refine (((outs_at hV t.val t.isLt).2.2) a d).trans ?_
  rw [emb9 t a d ht]
  rw [h15]
  rfl

end Cert.Mla
-- ==== Proof.Mla.Equal.lean ====
/- The call's results are the reference's. -/
module

public import proofs.«01_k».proof.Proof.Mla.HostVal
public import proofs.«01_k».proof.Proof.Mla.Arrays

@[expose] public section

set_option maxRecDepth 16384

noncomputable section

namespace Cert.Mla

open Idealize.ShloMosaic
open Cert.ReferenceIdeal.Read

variable {x0 x1 : Arr 96} {x2 x3 : Arr 64} (f0 : Finite x0) (f1 : Finite x1) (f2 : Finite x2) (f3 : Finite x3)

include f0 f1 f2 f3 in
theorem gq_eq : gq (head x0 x1 x2 x3 (mx x0 x1)) = val_main_v64 (F := Ideal) x0 x1 x2 x3 := by
  funext y
  obtain ⟨h, t, d, rfl⟩ : ∃ (h : Fin 4) (t : Fin 8192) (d : Fin 128), y = ix3 h t d := ⟨y 0, y 1, y 2, eq_ix3 y⟩
  refine Eq.trans ?_ (v64_at f0 f1 f2 f3 h t d).symm
  change ((_ : ℝ) : EReal) = _
  rw [Finset.sum_range]
  refine congrArg _ (Finset.sum_congr rfl fun k _ => ?_)
  refine (mul_comm _ _).trans ?_
  exact congrArg (· * _) (deriv x0 x1 x2 x3 (mx x0 x1) h.val t.isLt k.val)

include f0 f1 f2 f3 in
theorem gk_eq : gk (head x0 x1 x2 x3 (mx x0 x1)) = val_main_v66 (F := Ideal) x0 x1 x2 x3 := by
  funext y
  obtain ⟨h, k, d, rfl⟩ : ∃ (h : Fin 4) (k : Fin 8192) (d : Fin 128), y = ix3 h k d := ⟨y 0, y 1, y 2, eq_ix3 y⟩
  refine Eq.trans ?_ (v66_at f0 f1 f2 f3 h k d).symm
  change ((_ : ℝ) : EReal) = _
  rw [Finset.sum_range]
  refine congrArg _ (Finset.sum_congr rfl fun t _ => ?_)
  exact congrArg (· * _) (deriv x0 x1 x2 x3 (mx x0 x1) h.val t.isLt k.val)

include f0 f1 f3 in
theorem gv_eq : gv (head x0 x1 x2 x3 (mx x0 x1)) = val_main_v67 (F := Ideal) x0 x1 x3 := by
  funext y
  obtain ⟨h, k, e, rfl⟩ : ∃ (h : Fin 4) (k : Fin 8192) (e : Fin 64), y = ix3 h k e := ⟨y 0, y 1, y 2, eq_ix3 y⟩
  refine Eq.trans ?_ (v67_at f0 f1 f3 h k e).symm
  change ((_ : ℝ) : EReal) = _
  rw [Finset.sum_range]
  refine congrArg _ (Finset.sum_congr rfl fun t _ => ?_)
  refine (mul_comm _ _).trans ?_
  exact congrArg (_ * ·) (weight x0 x1 x2 x3 (mx x0 x1) h.val t.isLt k.val)

end Cert.Mla
-- ==== Proof.Mla.Finite.lean ====
/- The precondition says that every element is a real number. -/
module

public import proofs.«01_k».proof.Defs
public import proofs.«01_k».proof.Proof.Mla.HostVal

@[expose] public section

noncomputable section

namespace Cert.Mla

open Idealize.ShloMosaic Idealize.SL.Sem Idealize.ShloMosaic.TcCoe
open Cert.KernelIdeal

theorem pre_facts : Cert.Pre_finite.Facts := ⟨by decide, by decide⟩

/-- A magnitude below infinity is a real number's. -/
theorem real_of_test (a : EReal) (h : FloatOps.cmpf (F := Ideal) (φ := .f32) .olt (FloatOps.hostAbsf (F := Ideal) (φ := .f32) a) (FloatOps.ofBits (F := Ideal) .f32 0x7F800000#32) = 1#1) :
    a ≠ ⊤ ∧ a ≠ ⊥ := by
  have h' : BitVec.ofBool (decide (max a (-a) < Ideal.ofBits .f32 0x7F800000#32)) = 1#1 := h
  rw [inf_word] at h'
  have hl : max a (-a) < ⊤ := by
    by_contra hn
    rw [decide_eq_false hn] at h'
    exact absurd h' (by decide)
  constructor
  · rintro rfl
    exact absurd hl (by simp)
  · rintro rfl
    exact absurd hl (by simp)

variable {m : (ℓ : Loc nD τ sig) → Buf (Elt Ideal) ℓ}

theorem finite_args (h : Cert.Pre_KernelIdeal_finite (hPre_finite := pre_facts) m) (c : Dev nD) :
    Finite (a0 m c) ∧ Finite (a1 m c) ∧ Finite (a2 m c) ∧ Finite (a3 m c) := by
  obtain ⟨h0, h1, h2, h3⟩ := h c
  exact ⟨fun i => real_of_test _ (congrFun h0 i), fun i => real_of_test _ (congrFun h1 i),
    fun i => real_of_test _ (congrFun h2 i), fun i => real_of_test _ (congrFun h3 i)⟩

end Cert.Mla
-- ==== Proof.Fwd.Point.lean ====
/- One trip of the kernel's loop over the earlier key blocks, and what one grid point stores, in closed form. -/
module

public import proofs.«01_k».proof.Proof.Gen.ForwardIdeal.Frame

@[expose] public section

set_option maxRecDepth 16384

noncomputable section

namespace Cert.Fwd

open Idealize.ShloMosaic Idealize.SL.Sem Idealize.ShloMosaic.TcCoe
open Cert.ForwardIdeal Cert.ForwardIdeal.Gen

variable {F : FTy → Type} [FloatOps F] [Named F]

/-- 512 key rows at an offset. -/
abbrev kbl (v : View sig .tc .vmem S4x8192x128 .bf16) (f : v.ty.Contents (Elt F)) (off : Fin 3 → ℕ)
    (inb : ∀ a : Fin 3, off a + (![1, 512, 128] : Fin 3 → ℕ) a ≤ S4x8192x128.size a) : Vec F S1x512x128 .bf16 :=
  v.readAt (Elt F) (Rect.unit (s := S4x8192x128) off ![1, 512, 128] inb).toLoadRect f

/-- 512 value columns at an offset. -/
abbrev vbl (v : View sig .tc .vmem S4x64x8192 .bf16) (f : v.ty.Contents (Elt F)) (off : Fin 3 → ℕ)
    (inb : ∀ a : Fin 3, off a + (![1, 64, 512] : Fin 3 → ℕ) a ≤ S4x64x8192.size a) : Vec F S1x64x512 .bf16 :=
  v.readAt (Elt F) (Rect.unit (s := S4x64x8192) off ![1, 64, 512] inb).toLoadRect f

/-- One head's 512 query rows. -/
abbrev qbl (v : View sig .tc .vmem S4x512x128 .bf16) (f : v.ty.Contents (Elt F)) (off : Fin 3 → ℕ)
    (inb : ∀ a : Fin 3, off a + (![1, 512, 128] : Fin 3 → ℕ) a ≤ S4x512x128.size a) : Vec F S1x512x128 .bf16 :=
  v.readAt (Elt F) (Rect.unit (s := S4x512x128) off ![1, 512, 128] inb).toLoadRect f

/-- What one head carries: the maximum, the sum and the weighted sum. -/
abbrev St (F : FTy → Type) [FloatOps F] := FVec F S1x512 .f32 × FVec F S1x512 .f32 × FVec F S64x512 .f32

/-- One head's update by a block of scores and its values. -/
abbrev upd (s : St F) (zb : FVec F S512x512 .f32) (vb : Vec F S1x64x512 .bf16) : St F :=
  (k0_pay81 s.1 zb, k0_pay18 s.1 s.2.1 zb (k0_pay81 s.1 zb), k0_pay22 s.1 s.2.2 zb (k0_pay81 s.1 zb) vb)

/-- One head's start. -/
abbrev start : St F := (k0_pay54, k0_pay55, k0_pay56)

/-- The four heads' states, flat. -/
abbrev flat (a b c d : St F) : FVec F S1x512 .f32 × FVec F S1x512 .f32 × FVec F S64x512 .f32 × FVec F S1x512 .f32 × FVec F S1x512 .f32 × FVec F S64x512 .f32 × FVec F S1x512 .f32 × FVec F S1x512 .f32 × FVec F S64x512 .f32 × FVec F S1x512 .f32 × FVec F S1x512 .f32 × FVec F S64x512 .f32 :=
  (a.1, a.2.1, a.2.2, b.1, b.2.1, b.2.2, c.1, c.2.1, c.2.2, d.1, d.2.1, d.2.2)

theorem trips1 (i : grid0.Coords) : (k0_t1_loop i).trips = (i 1).val := by
  revert i; decide +kernel

theorem trips2 (i : grid0.Coords) : (k0_t2_loop i).trips = 0 :=
  Nat.le_zero.1 (k0_t2_abs i).2.1

section

variable (m l : FVec F S1x512 .f32) (ac : FVec F S64x512 .f32) (q : Vec F S1x512x128 .bf16) (kb : Vec F S1x512x128 .bf16) (w : BitVec 32)
  (vb : Vec F S1x64x512 .bf16)

theorem id0_m : k0_pay81 m (k0_pay76 w (k0_pay50 q) kb) = (upd (m, l, ac) (k0_pay76 w (k0_pay50 q) kb) vb).1 := rfl

theorem id0_l : k0_pay93 m l (k0_pay76 w (k0_pay50 q) kb) = (upd (m, l, ac) (k0_pay76 w (k0_pay50 q) kb) vb).2.1 := rfl

theorem id0_o : k0_pay101 ac (k0_pay85 m (k0_pay76 w (k0_pay50 q) kb)) (k0_pay89 m (k0_pay76 w (k0_pay50 q) kb)) (k0_pay93 m l (k0_pay76 w (k0_pay50 q) kb)) vb = k0_pay104 (upd (m, l, ac) (k0_pay76 w (k0_pay50 q) kb) vb).2.1 (upd (m, l, ac) (k0_pay76 w (k0_pay50 q) kb) vb).2.2 := rfl

theorem id1_m : k0_pay82 m (k0_pay72 (k0_pay51 q) kb) (k0_pay75 w) k0_pay77 = (upd (m, l, ac) (k0_pay76 w (k0_pay50 q) kb) vb).1 := rfl

theorem id1_l : k0_pay94 m l (k0_pay72 (k0_pay51 q) kb) (k0_pay75 w) k0_pay77 = (upd (m, l, ac) (k0_pay76 w (k0_pay50 q) kb) vb).2.1 := rfl

theorem id1_a : k0_pay98 ac (k0_pay86 m (k0_pay72 (k0_pay51 q) kb) (k0_pay75 w) k0_pay77) (k0_pay90 m (k0_pay72 (k0_pay51 q) kb) (k0_pay75 w) k0_pay77) vb = (upd (m, l, ac) (k0_pay76 w (k0_pay50 q) kb) vb).2.2 := rfl

theorem id2_m : k0_pay83 m (k0_pay73 (k0_pay52 q) kb) (k0_pay75 w) = (upd (m, l, ac) (k0_pay76 w (k0_pay50 q) kb) vb).1 := rfl

theorem id2_l : k0_pay95 m l (k0_pay73 (k0_pay52 q) kb) (k0_pay75 w) = (upd (m, l, ac) (k0_pay76 w (k0_pay50 q) kb) vb).2.1 := rfl

theorem id2_a : k0_pay99 ac (k0_pay87 m (k0_pay73 (k0_pay52 q) kb) (k0_pay75 w)) (k0_pay91 m (k0_pay73 (k0_pay52 q) kb) (k0_pay75 w)) vb = (upd (m, l, ac) (k0_pay76 w (k0_pay50 q) kb) vb).2.2 := rfl

theorem id3_m : k0_pay84 m (k0_pay74 (k0_pay53 q) kb) (k0_pay75 w) = (upd (m, l, ac) (k0_pay76 w (k0_pay50 q) kb) vb).1 := rfl

theorem id3_l : k0_pay97 (k0_pay88 m (k0_pay74 (k0_pay53 q) kb) (k0_pay75 w)) (k0_pay96 m l (k0_pay74 (k0_pay53 q) kb) (k0_pay75 w)) = (upd (m, l, ac) (k0_pay76 w (k0_pay50 q) kb) vb).2.1 := rfl

theorem id3_a : k0_pay100 ac (k0_pay88 m (k0_pay74 (k0_pay53 q) kb) (k0_pay75 w)) (k0_pay92 m (k0_pay74 (k0_pay53 q) kb) (k0_pay75 w)) vb = (upd (m, l, ac) (k0_pay76 w (k0_pay50 q) kb) vb).2.2 := rfl

end

section

variable (c : Dev nD) (i : grid0.Coords) (arg2 : Memref sig .tc .vmem S4x512x128 .bf16) (harg2 : arg2.IsWhole) (arg3 : Memref sig .tc .vmem S4x8192x128 .bf16) (harg3 : arg3.IsWhole) (arg4 : Memref sig .tc .vmem S4x64x8192 .bf16) (harg4 : arg4.IsWhole) (arg5 : Memref sig .tc .vmem S4x64x512 .f32) (harg5 : arg5.IsWhole) (arg6 : Memref sig .tc .vmem S4x1x512 .f32) (harg6 : arg6.IsWhole)

/-- What one trip yields. -/
theorem trip_eq (v0 v3 v6 v9 : Vec F S1x512x128 .bf16) (X_arg3 : BufTy.Contents (Elt F) arg3.view.ty) (X_arg4 : BufTy.Contents (Elt F) arg4.view.ty) (k : Fin (k0_t1_loop i).trips) (s0 s1 s2 s3 : St F) :
    tripR_k0_t1 (F := F) Variants.none c none i arg2 harg2 arg3 harg3 arg4 harg4 arg5 harg5 arg6 harg6 v0 v3 v6 v9 X_arg3 X_arg4 k (flat s0 s1 s2 s3)
      = flat (upd s0 (k0_pay2 (k0_pay50 v0) (kbl arg3.view X_arg3 (k0_off1 i k) (k0_off1_inb i k))) (vbl arg4.view X_arg4 (k0_off5 i k) (k0_off5_inb i k)))
          (upd s1 (k0_pay2 (k0_pay50 v3) (kbl arg3.view X_arg3 (k0_off2 i k) (k0_off2_inb i k))) (vbl arg4.view X_arg4 (k0_off6 i k) (k0_off6_inb i k)))
          (upd s2 (k0_pay2 (k0_pay50 v6) (kbl arg3.view X_arg3 (k0_off3 i k) (k0_off3_inb i k))) (vbl arg4.view X_arg4 (k0_off7 i k) (k0_off7_inb i k)))
          (upd s3 (k0_pay2 (k0_pay50 v9) (kbl arg3.view X_arg3 (k0_off4 i k) (k0_off4_inb i k))) (vbl arg4.view X_arg4 (k0_off8 i k) (k0_off8_inb i k))) := by
  unfold tripR_k0_t1 trip_k0_t1
  rfl

variable (x0 : Vec F S4x512x128 .bf16) (x1 : Vec F S4x8192x128 .bf16) (x2 : Vec F S4x64x8192 .bf16)

/-- What the loop carries before trip `n`. -/
abbrev carried (n : ℕ) := st_k0_t1 (F := F) Variants.none c none i arg2 harg2 arg3 harg3 arg4 harg4 arg5 harg5 arg6 harg6 (qbl arg2.view (harg2.unread x0) ![0, 0, 0] inb_S4x512x128_S1x512x128_0_0_0) (qbl arg2.view (harg2.unread x0) ![1, 0, 0] inb_S4x512x128_S1x512x128_1_0_0) (qbl arg2.view (harg2.unread x0) ![2, 0, 0] inb_S4x512x128_S1x512x128_2_0_0) (qbl arg2.view (harg2.unread x0) ![3, 0, 0] inb_S4x512x128_S1x512x128_3_0_0) (harg3.unread x1) (harg4.unread x2) (flat start start start start) n

/-- What the loop's second part, which makes no trip, yields. -/
def carried2 := st_k0_t2 (F := F) Variants.none c none i arg2 harg2 arg3 harg3 arg4 harg4 arg5 harg5 arg6 harg6 (BitVec.ofNat 32 (i 1).val) (k0_pay50 (qbl arg2.view (harg2.unread x0) ![0, 0, 0] inb_S4x512x128_S1x512x128_0_0_0)) (k0_pay50 (qbl arg2.view (harg2.unread x0) ![1, 0, 0] inb_S4x512x128_S1x512x128_1_0_0)) (k0_pay50 (qbl arg2.view (harg2.unread x0) ![2, 0, 0] inb_S4x512x128_S1x512x128_2_0_0)) (k0_pay50 (qbl arg2.view (harg2.unread x0) ![3, 0, 0] inb_S4x512x128_S1x512x128_3_0_0)) (kernelRun0_A.sl.v28 i) (carried (F := F) c i arg2 harg2 arg3 harg3 arg4 harg4 arg5 harg5 arg6 harg6 x0 x1 x2 (k0_t1_loop i).trips).1 (carried (F := F) c i arg2 harg2 arg3 harg3 arg4 harg4 arg5 harg5 arg6 harg6 x0 x1 x2 (k0_t1_loop i).trips).2.1 (carried (F := F) c i arg2 harg2 arg3 harg3 arg4 harg4 arg5 harg5 arg6 harg6 x0 x1 x2 (k0_t1_loop i).trips).2.2.1 (carried (F := F) c i arg2 harg2 arg3 harg3 arg4 harg4 arg5 harg5 arg6 harg6 x0 x1 x2 (k0_t1_loop i).trips).2.2.2.1 (carried (F := F) c i arg2 harg2 arg3 harg3 arg4 harg4 arg5 harg5 arg6 harg6 x0 x1 x2 (k0_t1_loop i).trips).2.2.2.2.1 (carried (F := F) c i arg2 harg2 arg3 harg3 arg4 harg4 arg5 harg5 arg6 harg6 x0 x1 x2 (k0_t1_loop i).trips).2.2.2.2.2.1 (carried (F := F) c i arg2 harg2 arg3 harg3 arg4 harg4 arg5 harg5 arg6 harg6 x0 x1 x2 (k0_t1_loop i).trips).2.2.2.2.2.2.1 (carried (F := F) c i arg2 harg2 arg3 harg3 arg4 harg4 arg5 harg5 arg6 harg6 x0 x1 x2 (k0_t1_loop i).trips).2.2.2.2.2.2.2.1 (carried (F := F) c i arg2 harg2 arg3 harg3 arg4 harg4 arg5 harg5 arg6 harg6 x0 x1 x2 (k0_t1_loop i).trips).2.2.2.2.2.2.2.2.1 (carried (F := F) c i arg2 harg2 arg3 harg3 arg4 harg4 arg5 harg5 arg6 harg6 x0 x1 x2 (k0_t1_loop i).trips).2.2.2.2.2.2.2.2.2.1 (carried (F := F) c i arg2 harg2 arg3 harg3 arg4 harg4 arg5 harg5 arg6 harg6 x0 x1 x2 (k0_t1_loop i).trips).2.2.2.2.2.2.2.2.2.2.1 (carried (F := F) c i arg2 harg2 arg3 harg3 arg4 harg4 arg5 harg5 arg6 harg6 x0 x1 x2 (k0_t1_loop i).trips).2.2.2.2.2.2.2.2.2.2.2 1#32 (harg3.unread x1) (harg4.unread x2) ((carried (F := F) c i arg2 harg2 arg3 harg3 arg4 harg4 arg5 harg5 arg6 harg6 x0 x1 x2 (k0_t1_loop i).trips).1, (carried (F := F) c i arg2 harg2 arg3 harg3 arg4 harg4 arg5 harg5 arg6 harg6 x0 x1 x2 (k0_t1_loop i).trips).2.1, (carried (F := F) c i arg2 harg2 arg3 harg3 arg4 harg4 arg5 harg5 arg6 harg6 x0 x1 x2 (k0_t1_loop i).trips).2.2.1, (carried (F := F) c i arg2 harg2 arg3 harg3 arg4 harg4 arg5 harg5 arg6 harg6 x0 x1 x2 (k0_t1_loop i).trips).2.2.2.1, (carried (F := F) c i arg2 harg2 arg3 harg3 arg4 harg4 arg5 harg5 arg6 harg6 x0 x1 x2 (k0_t1_loop i).trips).2.2.2.2.1, (carried (F := F) c i arg2 harg2 arg3 harg3 arg4 harg4 arg5 harg5 arg6 harg6 x0 x1 x2 (k0_t1_loop i).trips).2.2.2.2.2.1, (carried (F := F) c i arg2 harg2 arg3 harg3 arg4 harg4 arg5 harg5 arg6 harg6 x0 x1 x2 (k0_t1_loop i).trips).2.2.2.2.2.2.1, (carried (F := F) c i arg2 harg2 arg3 harg3 arg4 harg4 arg5 harg5 arg6 harg6 x0 x1 x2 (k0_t1_loop i).trips).2.2.2.2.2.2.2.1, (carried (F := F) c i arg2 harg2 arg3 harg3 arg4 harg4 arg5 harg5 arg6 harg6 x0 x1 x2 (k0_t1_loop i).trips).2.2.2.2.2.2.2.2.1, (carried (F := F) c i arg2 harg2 arg3 harg3 arg4 harg4 arg5 harg5 arg6 harg6 x0 x1 x2 (k0_t1_loop i).trips).2.2.2.2.2.2.2.2.2.1, (carried (F := F) c i arg2 harg2 arg3 harg3 arg4 harg4 arg5 harg5 arg6 harg6 x0 x1 x2 (k0_t1_loop i).trips).2.2.2.2.2.2.2.2.2.2.1, (carried (F := F) c i arg2 harg2 arg3 harg3 arg4 harg4 arg5 harg5 arg6 harg6 x0 x1 x2 (k0_t1_loop i).trips).2.2.2.2.2.2.2.2.2.2.2) (k0_t2_loop i).trips

theorem carried2_eq : (carried2 (F := F) c i arg2 harg2 arg3 harg3 arg4 harg4 arg5 harg5 arg6 harg6 x0 x1 x2) = (carried (F := F) c i arg2 harg2 arg3 harg3 arg4 harg4 arg5 harg5 arg6 harg6 x0 x1 x2 (k0_t1_loop i).trips) := by
  unfold carried2
  rw [trips2]
  rfl

/-- One head's scores of the block of the diagonal, keys after the query at minus infinity. -/
abbrev dg (v : Vec F S1x512x128 .bf16) (kb : Vec F S1x512x128 .bf16) : FVec F S512x512 .f32 :=
  k0_pay76 (BitVec.ofNat 32 (i 1).val) (k0_pay50 v) kb

/-- What head 0 ends with. -/
abbrev end0 : St F :=
  upd ((carried (F := F) c i arg2 harg2 arg3 harg3 arg4 harg4 arg5 harg5 arg6 harg6 x0 x1 x2 (k0_t1_loop i).trips).1, (carried (F := F) c i arg2 harg2 arg3 harg3 arg4 harg4 arg5 harg5 arg6 harg6 x0 x1 x2 (k0_t1_loop i).trips).2.1, (carried (F := F) c i arg2 harg2 arg3 harg3 arg4 harg4 arg5 harg5 arg6 harg6 x0 x1 x2 (k0_t1_loop i).trips).2.2.1)
    (dg (F := F) i (qbl arg2.view (harg2.unread x0) ![0, 0, 0] inb_S4x512x128_S1x512x128_0_0_0) (kbl arg3.view (harg3.unread x1) (k0_off17 i) (k0_off17_inb i))) (vbl arg4.view (harg4.unread x2) (k0_off21 i) (k0_off21_inb i))

/-- What head 1 ends with. -/
abbrev end1 : St F :=
  upd ((carried (F := F) c i arg2 harg2 arg3 harg3 arg4 harg4 arg5 harg5 arg6 harg6 x0 x1 x2 (k0_t1_loop i).trips).2.2.2.1, (carried (F := F) c i arg2 harg2 arg3 harg3 arg4 harg4 arg5 harg5 arg6 harg6 x0 x1 x2 (k0_t1_loop i).trips).2.2.2.2.1, (carried (F := F) c i arg2 harg2 arg3 harg3 arg4 harg4 arg5 harg5 arg6 harg6 x0 x1 x2 (k0_t1_loop i).trips).2.2.2.2.2.1)
    (dg (F := F) i (qbl arg2.view (harg2.unread x0) ![1, 0, 0] inb_S4x512x128_S1x512x128_1_0_0) (kbl arg3.view (harg3.unread x1) (k0_off18 i) (k0_off18_inb i))) (vbl arg4.view (harg4.unread x2) (k0_off22 i) (k0_off22_inb i))

/-- What head 2 ends with. -/
abbrev end2 : St F :=
  upd ((carried (F := F) c i arg2 harg2 arg3 harg3 arg4 harg4 arg5 harg5 arg6 harg6 x0 x1 x2 (k0_t1_loop i).trips).2.2.2.2.2.2.1, (carried (F := F) c i arg2 harg2 arg3 harg3 arg4 harg4 arg5 harg5 arg6 harg6 x0 x1 x2 (k0_t1_loop i).trips).2.2.2.2.2.2.2.1, (carried (F := F) c i arg2 harg2 arg3 harg3 arg4 harg4 arg5 harg5 arg6 harg6 x0 x1 x2 (k0_t1_loop i).trips).2.2.2.2.2.2.2.2.1)
    (dg (F := F) i (qbl arg2.view (harg2.unread x0) ![2, 0, 0] inb_S4x512x128_S1x512x128_2_0_0) (kbl arg3.view (harg3.unread x1) (k0_off19 i) (k0_off19_inb i))) (vbl arg4.view (harg4.unread x2) (k0_off23 i) (k0_off23_inb i))

/-- What head 3 ends with. -/
abbrev end3 : St F :=
  upd ((carried (F := F) c i arg2 harg2 arg3 harg3 arg4 harg4 arg5 harg5 arg6 harg6 x0 x1 x2 (k0_t1_loop i).trips).2.2.2.2.2.2.2.2.2.1, (carried (F := F) c i arg2 harg2 arg3 harg3 arg4 harg4 arg5 harg5 arg6 harg6 x0 x1 x2 (k0_t1_loop i).trips).2.2.2.2.2.2.2.2.2.2.1, (carried (F := F) c i arg2 harg2 arg3 harg3 arg4 harg4 arg5 harg5 arg6 harg6 x0 x1 x2 (k0_t1_loop i).trips).2.2.2.2.2.2.2.2.2.2.2)
    (dg (F := F) i (qbl arg2.view (harg2.unread x0) ![3, 0, 0] inb_S4x512x128_S1x512x128_3_0_0) (kbl arg3.view (harg3.unread x1) (k0_off20 i) (k0_off20_inb i))) (vbl arg4.view (harg4.unread x2) (k0_off24 i) (k0_off24_inb i))

theorem r16_eq : (kernelRun0_A.sl.r_16 (F := F) c i arg2 harg2 arg3 harg3 arg4 harg4 arg5 harg5 arg6 harg6 x0 x1 x2) = (carried (F := F) c i arg2 harg2 arg3 harg3 arg4 harg4 arg5 harg5 arg6 harg6 x0 x1 x2 (k0_t1_loop i).trips).1 := by
  have h : (kernelRun0_A.sl.r_16 (F := F) c i arg2 harg2 arg3 harg3 arg4 harg4 arg5 harg5 arg6 harg6 x0 x1 x2) = (carried2 (F := F) c i arg2 harg2 arg3 harg3 arg4 harg4 arg5 harg5 arg6 harg6 x0 x1 x2).1 := rfl
  rw [h, carried2_eq]

theorem r17_eq : (kernelRun0_A.sl.r_17 (F := F) c i arg2 harg2 arg3 harg3 arg4 harg4 arg5 harg5 arg6 harg6 x0 x1 x2) = (carried (F := F) c i arg2 harg2 arg3 harg3 arg4 harg4 arg5 harg5 arg6 harg6 x0 x1 x2 (k0_t1_loop i).trips).2.1 := by
  have h : (kernelRun0_A.sl.r_17 (F := F) c i arg2 harg2 arg3 harg3 arg4 harg4 arg5 harg5 arg6 harg6 x0 x1 x2) = (carried2 (F := F) c i arg2 harg2 arg3 harg3 arg4 harg4 arg5 harg5 arg6 harg6 x0 x1 x2).2.1 := rfl
  rw [h, carried2_eq]

theorem r18_eq : (kernelRun0_A.sl.r_18 (F := F) c i arg2 harg2 arg3 harg3 arg4 harg4 arg5 harg5 arg6 harg6 x0 x1 x2) = (carried (F := F) c i arg2 harg2 arg3 harg3 arg4 harg4 arg5 harg5 arg6 harg6 x0 x1 x2 (k0_t1_loop i).trips).2.2.1 := by
  have h : (kernelRun0_A.sl.r_18 (F := F) c i arg2 harg2 arg3 harg3 arg4 harg4 arg5 harg5 arg6 harg6 x0 x1 x2) = (carried2 (F := F) c i arg2 harg2 arg3 harg3 arg4 harg4 arg5 harg5 arg6 harg6 x0 x1 x2).2.2.1 := rfl
  rw [h, carried2_eq]

theorem r19_eq : (kernelRun0_A.sl.r_19 (F := F) c i arg2 harg2 arg3 harg3 arg4 harg4 arg5 harg5 arg6 harg6 x0 x1 x2) = (carried (F := F) c i arg2 harg2 arg3 harg3 arg4 harg4 arg5 harg5 arg6 harg6 x0 x1 x2 (k0_t1_loop i).trips).2.2.2.1 := by
  have h : (kernelRun0_A.sl.r_19 (F := F) c i arg2 harg2 arg3 harg3 arg4 harg4 arg5 harg5 arg6 harg6 x0 x1 x2) = (carried2 (F := F) c i arg2 harg2 arg3 harg3 arg4 harg4 arg5 harg5 arg6 harg6 x0 x1 x2).2.2.2.1 := rfl
  rw [h, carried2_eq]

theorem r20_eq : (kernelRun0_A.sl.r_20 (F := F) c i arg2 harg2 arg3 harg3 arg4 harg4 arg5 harg5 arg6 harg6 x0 x1 x2) = (carried (F := F) c i arg2 harg2 arg3 harg3 arg4 harg4 arg5 harg5 arg6 harg6 x0 x1 x2 (k0_t1_loop i).trips).2.2.2.2.1 := by
  have h : (kernelRun0_A.sl.r_20 (F := F) c i arg2 harg2 arg3 harg3 arg4 harg4 arg5 harg5 arg6 harg6 x0 x1 x2) = (carried2 (F := F) c i arg2 harg2 arg3 harg3 arg4 harg4 arg5 harg5 arg6 harg6 x0 x1 x2).2.2.2.2.1 := rfl
  rw [h, carried2_eq]

theorem r21_eq : (kernelRun0_A.sl.r_21 (F := F) c i arg2 harg2 arg3 harg3 arg4 harg4 arg5 harg5 arg6 harg6 x0 x1 x2) = (carried (F := F) c i arg2 harg2 arg3 harg3 arg4 harg4 arg5 harg5 arg6 harg6 x0 x1 x2 (k0_t1_loop i).trips).2.2.2.2.2.1 := by
  have h : (kernelRun0_A.sl.r_21 (F := F) c i arg2 harg2 arg3 harg3 arg4 harg4 arg5 harg5 arg6 harg6 x0 x1 x2) = (carried2 (F := F) c i arg2 harg2 arg3 harg3 arg4 harg4 arg5 harg5 arg6 harg6 x0 x1 x2).2.2.2.2.2.1 := rfl
  rw [h, carried2_eq]

theorem r22_eq : (kernelRun0_A.sl.r_22 (F := F) c i arg2 harg2 arg3 harg3 arg4 harg4 arg5 harg5 arg6 harg6 x0 x1 x2) = (carried (F := F) c i arg2 harg2 arg3 harg3 arg4 harg4 arg5 harg5 arg6 harg6 x0 x1 x2 (k0_t1_loop i).trips).2.2.2.2.2.2.1 := by
  have h : (kernelRun0_A.sl.r_22 (F := F) c i arg2 harg2 arg3 harg3 arg4 harg4 arg5 harg5 arg6 harg6 x0 x1 x2) = (carried2 (F := F) c i arg2 harg2 arg3 harg3 arg4 harg4 arg5 harg5 arg6 harg6 x0 x1 x2).2.2.2.2.2.2.1 := rfl
  rw [h, carried2_eq]

theorem r23_eq : (kernelRun0_A.sl.r_23 (F := F) c i arg2 harg2 arg3 harg3 arg4 harg4 arg5 harg5 arg6 harg6 x0 x1 x2) = (carried (F := F) c i arg2 harg2 arg3 harg3 arg4 harg4 arg5 harg5 arg6 harg6 x0 x1 x2 (k0_t1_loop i).trips).2.2.2.2.2.2.2.1 := by
  have h : (kernelRun0_A.sl.r_23 (F := F) c i arg2 harg2 arg3 harg3 arg4 harg4 arg5 harg5 arg6 harg6 x0 x1 x2) = (carried2 (F := F) c i arg2 harg2 arg3 harg3 arg4 harg4 arg5 harg5 arg6 harg6 x0 x1 x2).2.2.2.2.2.2.2.1 := rfl
  rw [h, carried2_eq]

theorem r24_eq : (kernelRun0_A.sl.r_24 (F := F) c i arg2 harg2 arg3 harg3 arg4 harg4 arg5 harg5 arg6 harg6 x0 x1 x2) = (carried (F := F) c i arg2 harg2 arg3 harg3 arg4 harg4 arg5 harg5 arg6 harg6 x0 x1 x2 (k0_t1_loop i).trips).2.2.2.2.2.2.2.2.1 := by
  have h : (kernelRun0_A.sl.r_24 (F := F) c i arg2 harg2 arg3 harg3 arg4 harg4 arg5 harg5 arg6 harg6 x0 x1 x2) = (carried2 (F := F) c i arg2 harg2 arg3 harg3 arg4 harg4 arg5 harg5 arg6 harg6 x0 x1 x2).2.2.2.2.2.2.2.2.1 := rfl
  rw [h, carried2_eq]

theorem r25_eq : (kernelRun0_A.sl.r_25 (F := F) c i arg2 harg2 arg3 harg3 arg4 harg4 arg5 harg5 arg6 harg6 x0 x1 x2) = (carried (F := F) c i arg2 harg2 arg3 harg3 arg4 harg4 arg5 harg5 arg6 harg6 x0 x1 x2 (k0_t1_loop i).trips).2.2.2.2.2.2.2.2.2.1 := by
  have h : (kernelRun0_A.sl.r_25 (F := F) c i arg2 harg2 arg3 harg3 arg4 harg4 arg5 harg5 arg6 harg6 x0 x1 x2) = (carried2 (F := F) c i arg2 harg2 arg3 harg3 arg4 harg4 arg5 harg5 arg6 harg6 x0 x1 x2).2.2.2.2.2.2.2.2.2.1 := rfl
  rw [h, carried2_eq]

theorem r26_eq : (kernelRun0_A.sl.r_26 (F := F) c i arg2 harg2 arg3 harg3 arg4 harg4 arg5 harg5 arg6 harg6 x0 x1 x2) = (carried (F := F) c i arg2 harg2 arg3 harg3 arg4 harg4 arg5 harg5 arg6 harg6 x0 x1 x2 (k0_t1_loop i).trips).2.2.2.2.2.2.2.2.2.2.1 := by
  have h : (kernelRun0_A.sl.r_26 (F := F) c i arg2 harg2 arg3 harg3 arg4 harg4 arg5 harg5 arg6 harg6 x0 x1 x2) = (carried2 (F := F) c i arg2 harg2 arg3 harg3 arg4 harg4 arg5 harg5 arg6 harg6 x0 x1 x2).2.2.2.2.2.2.2.2.2.2.1 := rfl
  rw [h, carried2_eq]

theorem r27_eq : (kernelRun0_A.sl.r_27 (F := F) c i arg2 harg2 arg3 harg3 arg4 harg4 arg5 harg5 arg6 harg6 x0 x1 x2) = (carried (F := F) c i arg2 harg2 arg3 harg3 arg4 harg4 arg5 harg5 arg6 harg6 x0 x1 x2 (k0_t1_loop i).trips).2.2.2.2.2.2.2.2.2.2.2 := by
  have h : (kernelRun0_A.sl.r_27 (F := F) c i arg2 harg2 arg3 harg3 arg4 harg4 arg5 harg5 arg6 harg6 x0 x1 x2) = (carried2 (F := F) c i arg2 harg2 arg3 harg3 arg4 harg4 arg5 harg5 arg6 harg6 x0 x1 x2).2.2.2.2.2.2.2.2.2.2.2 := rfl
  rw [h, carried2_eq]

theorem end0_m : (kernelRun0_A.sl.r_33 (F := F) c i arg2 harg2 arg3 harg3 arg4 harg4 arg5 harg5 arg6 harg6 x0 x1 x2) = (end0 (F := F) c i arg2 harg2 arg3 harg3 arg4 harg4 arg5 harg5 arg6 harg6 x0 x1 x2).1 := by
  show k0_pay81 (kernelRun0_A.sl.r_16 (F := F) c i arg2 harg2 arg3 harg3 arg4 harg4 arg5 harg5 arg6 harg6 x0 x1 x2) (k0_pay76 (BitVec.ofNat 32 (i 1).val) (k0_pay50 (qbl arg2.view (harg2.unread x0) ![0, 0, 0] inb_S4x512x128_S1x512x128_0_0_0)) (kbl arg3.view (harg3.unread x1) (k0_off17 i) (k0_off17_inb i))) = _
  rw [r16_eq]

theorem end0_l : (kernelRun0_A.sl.r_45 (F := F) c i arg2 harg2 arg3 harg3 arg4 harg4 arg5 harg5 arg6 harg6 x0 x1 x2) = (end0 (F := F) c i arg2 harg2 arg3 harg3 arg4 harg4 arg5 harg5 arg6 harg6 x0 x1 x2).2.1 := by
  show k0_pay93 (kernelRun0_A.sl.r_16 (F := F) c i arg2 harg2 arg3 harg3 arg4 harg4 arg5 harg5 arg6 harg6 x0 x1 x2) (kernelRun0_A.sl.r_17 (F := F) c i arg2 harg2 arg3 harg3 arg4 harg4 arg5 harg5 arg6 harg6 x0 x1 x2) (k0_pay76 (BitVec.ofNat 32 (i 1).val) (k0_pay50 (qbl arg2.view (harg2.unread x0) ![0, 0, 0] inb_S4x512x128_S1x512x128_0_0_0)) (kbl arg3.view (harg3.unread x1) (k0_off17 i) (k0_off17_inb i))) = _
  rw [r16_eq, r17_eq]
  exact id0_l _ _ _ _ _ _ _

theorem end1_m : (kernelRun0_A.sl.r_34 (F := F) c i arg2 harg2 arg3 harg3 arg4 harg4 arg5 harg5 arg6 harg6 x0 x1 x2) = (end1 (F := F) c i arg2 harg2 arg3 harg3 arg4 harg4 arg5 harg5 arg6 harg6 x0 x1 x2).1 := by
  show k0_pay82 (kernelRun0_A.sl.r_19 (F := F) c i arg2 harg2 arg3 harg3 arg4 harg4 arg5 harg5 arg6 harg6 x0 x1 x2) (k0_pay72 (k0_pay51 (qbl arg2.view (harg2.unread x0) ![1, 0, 0] inb_S4x512x128_S1x512x128_1_0_0)) (kbl arg3.view (harg3.unread x1) (k0_off18 i) (k0_off18_inb i))) (k0_pay75 (BitVec.ofNat 32 (i 1).val)) k0_pay77 = _
  rw [r19_eq]
  exact id1_m _ _ _ _ _ _ _

theorem end1_l : (kernelRun0_A.sl.r_46 (F := F) c i arg2 harg2 arg3 harg3 arg4 harg4 arg5 harg5 arg6 harg6 x0 x1 x2) = (end1 (F := F) c i arg2 harg2 arg3 harg3 arg4 harg4 arg5 harg5 arg6 harg6 x0 x1 x2).2.1 := by
  show k0_pay94 (kernelRun0_A.sl.r_19 (F := F) c i arg2 harg2 arg3 harg3 arg4 harg4 arg5 harg5 arg6 harg6 x0 x1 x2) (kernelRun0_A.sl.r_20 (F := F) c i arg2 harg2 arg3 harg3 arg4 harg4 arg5 harg5 arg6 harg6 x0 x1 x2) (k0_pay72 (k0_pay51 (qbl arg2.view (harg2.unread x0) ![1, 0, 0] inb_S4x512x128_S1x512x128_1_0_0)) (kbl arg3.view (harg3.unread x1) (k0_off18 i) (k0_off18_inb i))) (k0_pay75 (BitVec.ofNat 32 (i 1).val)) k0_pay77 = _
  rw [r19_eq, r20_eq]
  exact id1_l _ _ _ _ _ _ _

theorem end1_a : (kernelRun0_A.sl.r_50 (F := F) c i arg2 harg2 arg3 harg3 arg4 harg4 arg5 harg5 arg6 harg6 x0 x1 x2) = (end1 (F := F) c i arg2 harg2 arg3 harg3 arg4 harg4 arg5 harg5 arg6 harg6 x0 x1 x2).2.2 := by
  show k0_pay98 (kernelRun0_A.sl.r_21 (F := F) c i arg2 harg2 arg3 harg3 arg4 harg4 arg5 harg5 arg6 harg6 x0 x1 x2) (k0_pay86 (kernelRun0_A.sl.r_19 (F := F) c i arg2 harg2 arg3 harg3 arg4 harg4 arg5 harg5 arg6 harg6 x0 x1 x2) (k0_pay72 (k0_pay51 (qbl arg2.view (harg2.unread x0) ![1, 0, 0] inb_S4x512x128_S1x512x128_1_0_0)) (kbl arg3.view (harg3.unread x1) (k0_off18 i) (k0_off18_inb i))) (k0_pay75 (BitVec.ofNat 32 (i 1).val)) k0_pay77) (k0_pay90 (kernelRun0_A.sl.r_19 (F := F) c i arg2 harg2 arg3 harg3 arg4 harg4 arg5 harg5 arg6 harg6 x0 x1 x2) (k0_pay72 (k0_pay51 (qbl arg2.view (harg2.unread x0) ![1, 0, 0] inb_S4x512x128_S1x512x128_1_0_0)) (kbl arg3.view (harg3.unread x1) (k0_off18 i) (k0_off18_inb i))) (k0_pay75 (BitVec.ofNat 32 (i 1).val)) k0_pay77) (vbl arg4.view (harg4.unread x2) (k0_off22 i) (k0_off22_inb i)) = _
  rw [r19_eq, r21_eq]
  exact id1_a _ _ _ _ _ _ _

theorem end2_m : (kernelRun0_A.sl.r_35 (F := F) c i arg2 harg2 arg3 harg3 arg4 harg4 arg5 harg5 arg6 harg6 x0 x1 x2) = (end2 (F := F) c i arg2 harg2 arg3 harg3 arg4 harg4 arg5 harg5 arg6 harg6 x0 x1 x2).1 := by
  show k0_pay83 (kernelRun0_A.sl.r_22 (F := F) c i arg2 harg2 arg3 harg3 arg4 harg4 arg5 harg5 arg6 harg6 x0 x1 x2) (k0_pay73 (k0_pay52 (qbl arg2.view (harg2.unread x0) ![2, 0, 0] inb_S4x512x128_S1x512x128_2_0_0)) (kbl arg3.view (harg3.unread x1) (k0_off19 i) (k0_off19_inb i))) (k0_pay75 (BitVec.ofNat 32 (i 1).val)) = _
  rw [r22_eq]
  exact id2_m _ _ _ _ _ _ _

theorem end2_l : (kernelRun0_A.sl.r_47 (F := F) c i arg2 harg2 arg3 harg3 arg4 harg4 arg5 harg5 arg6 harg6 x0 x1 x2) = (end2 (F := F) c i arg2 harg2 arg3 harg3 arg4 harg4 arg5 harg5 arg6 harg6 x0 x1 x2).2.1 := by
  show k0_pay95 (kernelRun0_A.sl.r_22 (F := F) c i arg2 harg2 arg3 harg3 arg4 harg4 arg5 harg5 arg6 harg6 x0 x1 x2) (kernelRun0_A.sl.r_23 (F := F) c i arg2 harg2 arg3 harg3 arg4 harg4 arg5 harg5 arg6 harg6 x0 x1 x2) (k0_pay73 (k0_pay52 (qbl arg2.view (harg2.unread x0) ![2, 0, 0] inb_S4x512x128_S1x512x128_2_0_0)) (kbl arg3.view (harg3.unread x1) (k0_off19 i) (k0_off19_inb i))) (k0_pay75 (BitVec.ofNat 32 (i 1).val)) = _
  rw [r22_eq, r23_eq]
  exact id2_l _ _ _ _ _ _ _

theorem end2_a : (kernelRun0_A.sl.r_51 (F := F) c i arg2 harg2 arg3 harg3 arg4 harg4 arg5 harg5 arg6 harg6 x0 x1 x2) = (end2 (F := F) c i arg2 harg2 arg3 harg3 arg4 harg4 arg5 harg5 arg6 harg6 x0 x1 x2).2.2 := by
  show k0_pay99 (kernelRun0_A.sl.r_24 (F := F) c i arg2 harg2 arg3 harg3 arg4 harg4 arg5 harg5 arg6 harg6 x0 x1 x2) (k0_pay87 (kernelRun0_A.sl.r_22 (F := F) c i arg2 harg2 arg3 harg3 arg4 harg4 arg5 harg5 arg6 harg6 x0 x1 x2) (k0_pay73 (k0_pay52 (qbl arg2.view (harg2.unread x0) ![2, 0, 0] inb_S4x512x128_S1x512x128_2_0_0)) (kbl arg3.view (harg3.unread x1) (k0_off19 i) (k0_off19_inb i))) (k0_pay75 (BitVec.ofNat 32 (i 1).val))) (k0_pay91 (kernelRun0_A.sl.r_22 (F := F) c i arg2 harg2 arg3 harg3 arg4 harg4 arg5 harg5 arg6 harg6 x0 x1 x2) (k0_pay73 (k0_pay52 (qbl arg2.view (harg2.unread x0) ![2, 0, 0] inb_S4x512x128_S1x512x128_2_0_0)) (kbl arg3.view (harg3.unread x1) (k0_off19 i) (k0_off19_inb i))) (k0_pay75 (BitVec.ofNat 32 (i 1).val))) (vbl arg4.view (harg4.unread x2) (k0_off23 i) (k0_off23_inb i)) = _
  rw [r22_eq, r24_eq]
  exact id2_a _ _ _ _ _ _ _

theorem end3_m : (kernelRun0_A.sl.r_36 (F := F) c i arg2 harg2 arg3 harg3 arg4 harg4 arg5 harg5 arg6 harg6 x0 x1 x2) = (end3 (F := F) c i arg2 harg2 arg3 harg3 arg4 harg4 arg5 harg5 arg6 harg6 x0 x1 x2).1 := by
  show k0_pay84 (kernelRun0_A.sl.r_25 (F := F) c i arg2 harg2 arg3 harg3 arg4 harg4 arg5 harg5 arg6 harg6 x0 x1 x2) (k0_pay74 (k0_pay53 (qbl arg2.view (harg2.unread x0) ![3, 0, 0] inb_S4x512x128_S1x512x128_3_0_0)) (kbl arg3.view (harg3.unread x1) (k0_off20 i) (k0_off20_inb i))) (k0_pay75 (BitVec.ofNat 32 (i 1).val)) = _
  rw [r25_eq]
  exact id3_m _ _ _ _ _ _ _

theorem end3_l : (kernelRun0_A.sl.r_49 (F := F) c i arg2 harg2 arg3 harg3 arg4 harg4 arg5 harg5 arg6 harg6 x0 x1 x2) = (end3 (F := F) c i arg2 harg2 arg3 harg3 arg4 harg4 arg5 harg5 arg6 harg6 x0 x1 x2).2.1 := by
  show k0_pay97 (k0_pay88 (kernelRun0_A.sl.r_25 (F := F) c i arg2 harg2 arg3 harg3 arg4 harg4 arg5 harg5 arg6 harg6 x0 x1 x2) (k0_pay74 (k0_pay53 (qbl arg2.view (harg2.unread x0) ![3, 0, 0] inb_S4x512x128_S1x512x128_3_0_0)) (kbl arg3.view (harg3.unread x1) (k0_off20 i) (k0_off20_inb i))) (k0_pay75 (BitVec.ofNat 32 (i 1).val))) (k0_pay96 (kernelRun0_A.sl.r_25 (F := F) c i arg2 harg2 arg3 harg3 arg4 harg4 arg5 harg5 arg6 harg6 x0 x1 x2) (kernelRun0_A.sl.r_26 (F := F) c i arg2 harg2 arg3 harg3 arg4 harg4 arg5 harg5 arg6 harg6 x0 x1 x2) (k0_pay74 (k0_pay53 (qbl arg2.view (harg2.unread x0) ![3, 0, 0] inb_S4x512x128_S1x512x128_3_0_0)) (kbl arg3.view (harg3.unread x1) (k0_off20 i) (k0_off20_inb i))) (k0_pay75 (BitVec.ofNat 32 (i 1).val))) = _
  rw [r25_eq, r26_eq]
  exact id3_l _ _ _ _ _ _ _

theorem end3_a : (kernelRun0_A.sl.r_52 (F := F) c i arg2 harg2 arg3 harg3 arg4 harg4 arg5 harg5 arg6 harg6 x0 x1 x2) = (end3 (F := F) c i arg2 harg2 arg3 harg3 arg4 harg4 arg5 harg5 arg6 harg6 x0 x1 x2).2.2 := by
  show k0_pay100 (kernelRun0_A.sl.r_27 (F := F) c i arg2 harg2 arg3 harg3 arg4 harg4 arg5 harg5 arg6 harg6 x0 x1 x2) (k0_pay88 (kernelRun0_A.sl.r_25 (F := F) c i arg2 harg2 arg3 harg3 arg4 harg4 arg5 harg5 arg6 harg6 x0 x1 x2) (k0_pay74 (k0_pay53 (qbl arg2.view (harg2.unread x0) ![3, 0, 0] inb_S4x512x128_S1x512x128_3_0_0)) (kbl arg3.view (harg3.unread x1) (k0_off20 i) (k0_off20_inb i))) (k0_pay75 (BitVec.ofNat 32 (i 1).val))) (k0_pay92 (kernelRun0_A.sl.r_25 (F := F) c i arg2 harg2 arg3 harg3 arg4 harg4 arg5 harg5 arg6 harg6 x0 x1 x2) (k0_pay74 (k0_pay53 (qbl arg2.view (harg2.unread x0) ![3, 0, 0] inb_S4x512x128_S1x512x128_3_0_0)) (kbl arg3.view (harg3.unread x1) (k0_off20 i) (k0_off20_inb i))) (k0_pay75 (BitVec.ofNat 32 (i 1).val))) (vbl arg4.view (harg4.unread x2) (k0_off24 i) (k0_off24_inb i)) = _
  rw [r25_eq, r27_eq]
  exact id3_a _ _ _ _ _ _ _

theorem end0_o : k0_pay101 (kernelRun0_A.sl.r_18 (F := F) c i arg2 harg2 arg3 harg3 arg4 harg4 arg5 harg5 arg6 harg6 x0 x1 x2) (kernelRun0_A.sl.r_37 (F := F) c i arg2 harg2 arg3 harg3 arg4 harg4 arg5 harg5 arg6 harg6 x0 x1 x2) (kernelRun0_A.sl.r_41 (F := F) c i arg2 harg2 arg3 harg3 arg4 harg4 arg5 harg5 arg6 harg6 x0 x1 x2) (kernelRun0_A.sl.r_45 (F := F) c i arg2 harg2 arg3 harg3 arg4 harg4 arg5 harg5 arg6 harg6 x0 x1 x2) (vbl arg4.view (harg4.unread x2) (k0_off21 i) (k0_off21_inb i)) = k0_pay104 (end0 (F := F) c i arg2 harg2 arg3 harg3 arg4 harg4 arg5 harg5 arg6 harg6 x0 x1 x2).2.1 (end0 (F := F) c i arg2 harg2 arg3 harg3 arg4 harg4 arg5 harg5 arg6 harg6 x0 x1 x2).2.2 := by
  show k0_pay101 (kernelRun0_A.sl.r_18 (F := F) c i arg2 harg2 arg3 harg3 arg4 harg4 arg5 harg5 arg6 harg6 x0 x1 x2) (k0_pay85 (kernelRun0_A.sl.r_16 (F := F) c i arg2 harg2 arg3 harg3 arg4 harg4 arg5 harg5 arg6 harg6 x0 x1 x2) (k0_pay76 (BitVec.ofNat 32 (i 1).val) (k0_pay50 (qbl arg2.view (harg2.unread x0) ![0, 0, 0] inb_S4x512x128_S1x512x128_0_0_0)) (kbl arg3.view (harg3.unread x1) (k0_off17 i) (k0_off17_inb i)))) (k0_pay89 (kernelRun0_A.sl.r_16 (F := F) c i arg2 harg2 arg3 harg3 arg4 harg4 arg5 harg5 arg6 harg6 x0 x1 x2) (k0_pay76 (BitVec.ofNat 32 (i 1).val) (k0_pay50 (qbl arg2.view (harg2.unread x0) ![0, 0, 0] inb_S4x512x128_S1x512x128_0_0_0)) (kbl arg3.view (harg3.unread x1) (k0_off17 i) (k0_off17_inb i)))) (k0_pay93 (kernelRun0_A.sl.r_16 (F := F) c i arg2 harg2 arg3 harg3 arg4 harg4 arg5 harg5 arg6 harg6 x0 x1 x2) (kernelRun0_A.sl.r_17 (F := F) c i arg2 harg2 arg3 harg3 arg4 harg4 arg5 harg5 arg6 harg6 x0 x1 x2) (k0_pay76 (BitVec.ofNat 32 (i 1).val) (k0_pay50 (qbl arg2.view (harg2.unread x0) ![0, 0, 0] inb_S4x512x128_S1x512x128_0_0_0)) (kbl arg3.view (harg3.unread x1) (k0_off17 i) (k0_off17_inb i)))) (vbl arg4.view (harg4.unread x2) (k0_off21 i) (k0_off21_inb i)) = _
  rw [r16_eq, r17_eq, r18_eq]
  exact id0_o _ _ _ _ _ _ _

theorem out3_run : out0_A_3 (F := F) c i arg2 harg2 arg3 harg3 arg4 harg4 arg5 harg5 arg6 harg6 x0 x1 x2
      = VO0_3.read (Elt F) (VO0_3.writes (Elt F) VO0_3.junk [(⟨Rect.unit (s := S4x64x512) ![3, 0, 0] ![1, 64, 512] inb_S4x64x512_S1x64x512_3_0_0, k0_pay108 (kernelRun0_A.sl.r_49 (F := F) c i arg2 harg2 arg3 harg3 arg4 harg4 arg5 harg5 arg6 harg6 x0 x1 x2) (kernelRun0_A.sl.r_52 (F := F) c i arg2 harg2 arg3 harg3 arg4 harg4 arg5 harg5 arg6 harg6 x0 x1 x2)⟩ : View.Piece (Elt F) S4x64x512 .f32), (⟨Rect.unit (s := S4x64x512) ![2, 0, 0] ![1, 64, 512] inb_S4x64x512_S1x64x512_2_0_0, k0_pay106 (kernelRun0_A.sl.r_47 (F := F) c i arg2 harg2 arg3 harg3 arg4 harg4 arg5 harg5 arg6 harg6 x0 x1 x2) (kernelRun0_A.sl.r_51 (F := F) c i arg2 harg2 arg3 harg3 arg4 harg4 arg5 harg5 arg6 harg6 x0 x1 x2)⟩ : View.Piece (Elt F) S4x64x512 .f32), (⟨Rect.unit (s := S4x64x512) ![1, 0, 0] ![1, 64, 512] inb_S4x64x512_S1x64x512_1_0_0, k0_pay104 (kernelRun0_A.sl.r_46 (F := F) c i arg2 harg2 arg3 harg3 arg4 harg4 arg5 harg5 arg6 harg6 x0 x1 x2) (kernelRun0_A.sl.r_50 (F := F) c i arg2 harg2 arg3 harg3 arg4 harg4 arg5 harg5 arg6 harg6 x0 x1 x2)⟩ : View.Piece (Elt F) S4x64x512 .f32), (⟨Rect.unit (s := S4x64x512) ![0, 0, 0] ![1, 64, 512] inb_S4x64x512_S1x64x512_0_0_0, k0_pay101 (kernelRun0_A.sl.r_18 (F := F) c i arg2 harg2 arg3 harg3 arg4 harg4 arg5 harg5 arg6 harg6 x0 x1 x2) (kernelRun0_A.sl.r_37 (F := F) c i arg2 harg2 arg3 harg3 arg4 harg4 arg5 harg5 arg6 harg6 x0 x1 x2) (kernelRun0_A.sl.r_41 (F := F) c i arg2 harg2 arg3 harg3 arg4 harg4 arg5 harg5 arg6 harg6 x0 x1 x2) (kernelRun0_A.sl.r_45 (F := F) c i arg2 harg2 arg3 harg3 arg4 harg4 arg5 harg5 arg6 harg6 x0 x1 x2) (vbl arg4.view (harg4.unread x2) (k0_off21 i) (k0_off21_inb i))⟩ : View.Piece (Elt F) S4x64x512 .f32)]) := by
  unfold out0_A_3 kernelRun0_A
  rfl

/-- What one point leaves in the outputs' block. -/
theorem out3_eq : out0_A_3 (F := F) c i arg2 harg2 arg3 harg3 arg4 harg4 arg5 harg5 arg6 harg6 x0 x1 x2
      = VO0_3.read (Elt F) (VO0_3.writes (Elt F) VO0_3.junk [(⟨Rect.unit (s := S4x64x512) ![3, 0, 0] ![1, 64, 512] inb_S4x64x512_S1x64x512_3_0_0, k0_pay104 (end3 (F := F) c i arg2 harg2 arg3 harg3 arg4 harg4 arg5 harg5 arg6 harg6 x0 x1 x2).2.1 (end3 (F := F) c i arg2 harg2 arg3 harg3 arg4 harg4 arg5 harg5 arg6 harg6 x0 x1 x2).2.2⟩ : View.Piece (Elt F) S4x64x512 .f32), (⟨Rect.unit (s := S4x64x512) ![2, 0, 0] ![1, 64, 512] inb_S4x64x512_S1x64x512_2_0_0, k0_pay104 (end2 (F := F) c i arg2 harg2 arg3 harg3 arg4 harg4 arg5 harg5 arg6 harg6 x0 x1 x2).2.1 (end2 (F := F) c i arg2 harg2 arg3 harg3 arg4 harg4 arg5 harg5 arg6 harg6 x0 x1 x2).2.2⟩ : View.Piece (Elt F) S4x64x512 .f32), (⟨Rect.unit (s := S4x64x512) ![1, 0, 0] ![1, 64, 512] inb_S4x64x512_S1x64x512_1_0_0, k0_pay104 (end1 (F := F) c i arg2 harg2 arg3 harg3 arg4 harg4 arg5 harg5 arg6 harg6 x0 x1 x2).2.1 (end1 (F := F) c i arg2 harg2 arg3 harg3 arg4 harg4 arg5 harg5 arg6 harg6 x0 x1 x2).2.2⟩ : View.Piece (Elt F) S4x64x512 .f32), (⟨Rect.unit (s := S4x64x512) ![0, 0, 0] ![1, 64, 512] inb_S4x64x512_S1x64x512_0_0_0, k0_pay104 (end0 (F := F) c i arg2 harg2 arg3 harg3 arg4 harg4 arg5 harg5 arg6 harg6 x0 x1 x2).2.1 (end0 (F := F) c i arg2 harg2 arg3 harg3 arg4 harg4 arg5 harg5 arg6 harg6 x0 x1 x2).2.2⟩ : View.Piece (Elt F) S4x64x512 .f32)]) := by
  rw [out3_run, end0_o, end1_l, end1_a, end2_l, end2_a, end3_l, end3_a]
  rfl

theorem out4_run : out0_A_4 (F := F) c i arg2 harg2 arg3 harg3 arg4 harg4 arg5 harg5 arg6 harg6 x0 x1 x2
      = VO0_4.read (Elt F) (VO0_4.writes (Elt F) VO0_4.junk [(⟨Rect.unit (s := S4x1x512) ![3, 0, 0] ![1, 1, 512] inb_S4x1x512_S1x1x512_3_0_0, k0_pay105 (kernelRun0_A.sl.r_36 (F := F) c i arg2 harg2 arg3 harg3 arg4 harg4 arg5 harg5 arg6 harg6 x0 x1 x2) (kernelRun0_A.sl.r_49 (F := F) c i arg2 harg2 arg3 harg3 arg4 harg4 arg5 harg5 arg6 harg6 x0 x1 x2)⟩ : View.Piece (Elt F) S4x1x512 .f32), (⟨Rect.unit (s := S4x1x512) ![2, 0, 0] ![1, 1, 512] inb_S4x1x512_S1x1x512_2_0_0, k0_pay105 (kernelRun0_A.sl.r_35 (F := F) c i arg2 harg2 arg3 harg3 arg4 harg4 arg5 harg5 arg6 harg6 x0 x1 x2) (kernelRun0_A.sl.r_47 (F := F) c i arg2 harg2 arg3 harg3 arg4 harg4 arg5 harg5 arg6 harg6 x0 x1 x2)⟩ : View.Piece (Elt F) S4x1x512 .f32), (⟨Rect.unit (s := S4x1x512) ![1, 0, 0] ![1, 1, 512] inb_S4x1x512_S1x1x512_1_0_0, k0_pay105 (kernelRun0_A.sl.r_34 (F := F) c i arg2 harg2 arg3 harg3 arg4 harg4 arg5 harg5 arg6 harg6 x0 x1 x2) (kernelRun0_A.sl.r_46 (F := F) c i arg2 harg2 arg3 harg3 arg4 harg4 arg5 harg5 arg6 harg6 x0 x1 x2)⟩ : View.Piece (Elt F) S4x1x512 .f32), (⟨Rect.unit (s := S4x1x512) ![0, 0, 0] ![1, 1, 512] inb_S4x1x512_S1x1x512_0_0_0, k0_pay105 (kernelRun0_A.sl.r_33 (F := F) c i arg2 harg2 arg3 harg3 arg4 harg4 arg5 harg5 arg6 harg6 x0 x1 x2) (kernelRun0_A.sl.r_45 (F := F) c i arg2 harg2 arg3 harg3 arg4 harg4 arg5 harg5 arg6 harg6 x0 x1 x2)⟩ : View.Piece (Elt F) S4x1x512 .f32)]) := by
  unfold out0_A_4 kernelRun0_A
  rfl

/-- What one point leaves in the log-sums' block. -/
theorem out4_eq : out0_A_4 (F := F) c i arg2 harg2 arg3 harg3 arg4 harg4 arg5 harg5 arg6 harg6 x0 x1 x2
      = VO0_4.read (Elt F) (VO0_4.writes (Elt F) VO0_4.junk [(⟨Rect.unit (s := S4x1x512) ![3, 0, 0] ![1, 1, 512] inb_S4x1x512_S1x1x512_3_0_0, k0_pay105 (end3 (F := F) c i arg2 harg2 arg3 harg3 arg4 harg4 arg5 harg5 arg6 harg6 x0 x1 x2).1 (end3 (F := F) c i arg2 harg2 arg3 harg3 arg4 harg4 arg5 harg5 arg6 harg6 x0 x1 x2).2.1⟩ : View.Piece (Elt F) S4x1x512 .f32), (⟨Rect.unit (s := S4x1x512) ![2, 0, 0] ![1, 1, 512] inb_S4x1x512_S1x1x512_2_0_0, k0_pay105 (end2 (F := F) c i arg2 harg2 arg3 harg3 arg4 harg4 arg5 harg5 arg6 harg6 x0 x1 x2).1 (end2 (F := F) c i arg2 harg2 arg3 harg3 arg4 harg4 arg5 harg5 arg6 harg6 x0 x1 x2).2.1⟩ : View.Piece (Elt F) S4x1x512 .f32), (⟨Rect.unit (s := S4x1x512) ![1, 0, 0] ![1, 1, 512] inb_S4x1x512_S1x1x512_1_0_0, k0_pay105 (end1 (F := F) c i arg2 harg2 arg3 harg3 arg4 harg4 arg5 harg5 arg6 harg6 x0 x1 x2).1 (end1 (F := F) c i arg2 harg2 arg3 harg3 arg4 harg4 arg5 harg5 arg6 harg6 x0 x1 x2).2.1⟩ : View.Piece (Elt F) S4x1x512 .f32), (⟨Rect.unit (s := S4x1x512) ![0, 0, 0] ![1, 1, 512] inb_S4x1x512_S1x1x512_0_0_0, k0_pay105 (end0 (F := F) c i arg2 harg2 arg3 harg3 arg4 harg4 arg5 harg5 arg6 harg6 x0 x1 x2).1 (end0 (F := F) c i arg2 harg2 arg3 harg3 arg4 harg4 arg5 harg5 arg6 harg6 x0 x1 x2).2.1⟩ : View.Piece (Elt F) S4x1x512 .f32)]) := by
  rw [out4_run, end0_m, end0_l, end1_m, end1_l, end2_m, end2_l, end3_m, end3_l]

end

end Cert.Fwd
-- ==== Proof.Fwd.Online.lean ====
/- The running maximum, sum and weighted sum over sets of keys, at the extended reals: what a move of the maximum does
   to the two sums, and how they grow by a disjoint set of keys. -/
module

public import Idealize.ShloMosaic.PureOps.Ideal.Laws

@[expose] public section

noncomputable section

namespace Cert.Fwd

open Idealize.ShloMosaic

/-- A power of two times another one, the exponents' differences joined. -/
theorem rescale {z M M' : EReal} (h1 : z ≤ M) (h2 : M ≤ M') (ht : M' ≠ ⊤) :
    Ideal.exp2 (M - M') * Ideal.exp2 (z - M) = Ideal.exp2 (z - M') := by
  induction z with
  | bot => simp only [EReal.bot_sub, Ideal.exp2_bot, mul_zero]
  | top => exact absurd (top_le_iff.1 (h1.trans h2)) ht
  | coe z =>
    induction M with
    | bot => exact absurd (le_bot_iff.1 h1) (EReal.coe_ne_bot z)
    | top => exact absurd (top_le_iff.1 h2) ht
    | coe M =>
      induction M' with
      | bot => exact absurd (le_bot_iff.1 h2) (EReal.coe_ne_bot M)
      | top => exact absurd rfl ht
      | coe M' =>
        rw [← EReal.coe_sub, ← EReal.coe_sub, ← EReal.coe_sub, Ideal.exp2_coe, Ideal.exp2_coe, Ideal.exp2_coe, ← EReal.coe_mul]
        refine congrArg _ ?_
        rw [Real.rpow_eq_pow, Real.rpow_eq_pow, Real.rpow_eq_pow, ← Real.rpow_add two_pos]
        congr 1; ring

/-- The factor of such a move is a real number, not negative. -/
theorem factor {M M' : EReal} (h : M ≤ M') (ht : M' ≠ ⊤) : ∃ r : ℝ, 0 ≤ r ∧ Ideal.exp2 (M - M') = (r : EReal) := by
  induction M with
  | bot => exact ⟨0, le_refl _, by rw [EReal.bot_sub, Ideal.exp2_bot, EReal.coe_zero]⟩
  | top => exact absurd (top_le_iff.1 h) ht
  | coe M =>
    induction M' with
    | bot => exact absurd (le_bot_iff.1 h) (EReal.coe_ne_bot M)
    | top => exact absurd rfl ht
    | coe M' => exact ⟨Real.rpow 2 (M - M'), (Real.rpow_pos_of_pos two_pos _).le, by rw [← EReal.coe_sub, Ideal.exp2_coe]⟩

/-- A real number that is not negative distributes over a sum. -/
theorem mul_sum_nonneg {ι : Type} {r : ℝ} (hr : 0 ≤ r) (S : Finset ι) (f : ι → EReal) :
    (r : EReal) * ∑ a ∈ S, f a = ∑ a ∈ S, (r : EReal) * f a := by
  induction S using Finset.cons_induction with
  | empty => simp
  | cons a S ha ih =>
    rw [Finset.sum_cons, Finset.sum_cons, ← ih, EReal.left_distrib_of_nonneg_of_ne_top (by exact_mod_cast hr) (EReal.coe_ne_top r)]

variable (z : ℕ → EReal) (w : ℕ → EReal)

/-- The greatest score among the first `n` keys, minus infinity of none. -/
def top (n : ℕ) : EReal := (Finset.range n).sup z

/-- The sum of the powers of two of the first `n` scores less the greatest. -/
def sum (n : ℕ) : EReal := ∑ a ∈ Finset.range n, Ideal.exp2 (z a - top z n)

/-- The sum of the values of the first `n` keys, weighted by these powers. -/
def acc (n : ℕ) : EReal := ∑ a ∈ Finset.range n, w a * Ideal.exp2 (z a - top z n)

theorem top_zero : top z 0 = ⊥ := by simp [top]

theorem sum_zero : sum z 0 = 0 := by simp [sum]

theorem acc_zero : acc z w 0 = 0 := by simp [acc]

/-- The greatest of the first `n` and of the next 512 scores. -/
theorem top_block (n : ℕ) : max (top z n) (Finset.univ.sup fun x : Fin 512 => z (n + x.val)) = top z (n + 512) := by
  unfold top
  refine le_antisymm (max_le (Finset.sup_mono (Finset.range_mono (by omega))) (Finset.sup_le fun x _ => ?_))
    (Finset.sup_le fun a ha => ?_)
  · exact Finset.le_sup (f := z) (Finset.mem_range.2 (by omega))
  · rw [Finset.mem_range] at ha
    by_cases h : a < n
    · exact le_max_of_le_left (Finset.le_sup (f := z) (Finset.mem_range.2 h))
    · refine le_max_of_le_right ?_
      have e : z a = (fun x : Fin 512 => z (n + x.val)) ⟨a - n, by omega⟩ := congrArg z (by simp only; omega)
      rw [e]
      exact Finset.le_sup (f := fun x : Fin 512 => z (n + x.val)) (Finset.mem_univ _)

variable (hz : ∀ a, z a ≠ ⊤)

include hz in
theorem top_ne_top (n : ℕ) : top z n ≠ ⊤ :=
  ne_of_lt ((Finset.sup_lt_iff bot_lt_top).2 fun a _ => lt_top_iff_ne_top.2 (hz a))

include hz in
theorem acc_move {n n' : ℕ} (hn : n ≤ n') :
    Ideal.exp2 (top z n - top z n') * acc z w n = ∑ a ∈ Finset.range n, w a * Ideal.exp2 (z a - top z n') := by
  have hm : top z n ≤ top z n' := Finset.sup_mono (Finset.range_mono hn)
  obtain ⟨r, hr, e⟩ := factor hm (top_ne_top z hz n')
  unfold acc
  rw [e, mul_sum_nonneg hr]
  refine Finset.sum_congr rfl fun a ha => ?_
  rw [mul_left_comm, ← e, rescale (show z a ≤ top z n from Finset.le_sup ha) hm (top_ne_top z hz n')]

include hz in
theorem acc_block (n : ℕ) :
    Ideal.exp2 (top z n - top z (n + 512)) * acc z w n
        + ∑ x : Fin 512, w (n + x.val) * Ideal.exp2 (z (n + x.val) - top z (n + 512)) = acc z w (n + 512) := by
  rw [acc_move z w hz (Nat.le_add_right n 512)]
  unfold acc
  rw [Finset.sum_range_add, Finset.sum_range (n := 512)]

theorem sum_eq_acc (n : ℕ) : sum z n = acc z (fun _ => 1) n := by
  unfold sum acc; simp only [one_mul]

include hz in
theorem sum_block (n : ℕ) :
    Ideal.exp2 (top z n - top z (n + 512)) * sum z n
        + ∑ x : Fin 512, Ideal.exp2 (z (n + x.val) - top z (n + 512)) = sum z (n + 512) := by
  have h := acc_block z (fun _ => 1) hz n
  simp only [one_mul] at h
  rw [sum_eq_acc, sum_eq_acc, h]

end Cert.Fwd
-- ==== Proof.Fwd.Block.lean ====
/- The kernel's block computations, at a place. -/
module

public import proofs.«01_k».proof.Proof.Gen.ForwardIdeal.Skeleton
public import proofs.«01_k».proof.Proof.Mla.Real
public import proofs.«01_k».proof.Proof.Fwd.Online
public import Idealize.ShloMosaic.Lib.WordCmp

@[expose] public section

set_option maxRecDepth 16384

noncomputable section

namespace Cert.Fwd

open Idealize.ShloMosaic Idealize.SL.Sem
open Cert.ForwardIdeal Cert.ForwardIdeal.Gen
open Cert.Mla (cm sum_mul_coe zero_word neg_inf_word)

theorem cmul_named :
    Named.named (F := Ideal) (φ := .f32) Cert.ForwardIdeal.κ "cmul" 0x3E16C740#32 = ((cm : ℝ) : EReal) :=
  IdealRules.named_const.ideal_named_scalar _ _ _ _ rfl

theorem mask_named : Named.named (F := Ideal) (φ := .f32) Cert.ForwardIdeal.κ "mask" 0xF149F2CA#32 = (⊥ : EReal) :=
  IdealRules.named_const.ideal_named_scalar _ _ _ _ rfl

theorem log2e_named :
    Named.named (F := Ideal) (φ := .f32) Cert.ForwardIdeal.κ "log2e" 0x3FB8AA3B#32 = (((Real.log 2)⁻¹ : ℝ) : EReal) :=
  IdealRules.named_const.ideal_named_scalar _ _ _ _ rfl

theorem fold_max_eq_sup {ι : Type} [Fintype ι] (f : ι → EReal) :
    (Finset.univ : Finset ι).fold max ⊥ f = Finset.univ.sup f := rfl

variable (m l : FVec Ideal S1x512 .f32) (ac : FVec Ideal S64x512 .f32) (zb : FVec Ideal S512x512 .f32) (vb : Vec Ideal S1x64x512 .bf16)

theorem nm_apply (q : Fin 512) :
    k0_pay81 m zb (ix2 0 q) = max (m (ix2 0 q)) (Finset.univ.sup fun k : Fin 512 => zb (ix2 k q)) := by
  pointwise [k0_pay81]
  rw [neg_inf_word]
  rfl

theorem nl_apply (q : Fin 512) :
    k0_pay18 m l zb (k0_pay81 m zb) (ix2 0 q)
      = Ideal.exp2 (m (ix2 0 q) - k0_pay81 m zb (ix2 0 q)) * l (ix2 0 q)
        + ∑ k : Fin 512, Ideal.exp2 (zb (ix2 k q) - k0_pay81 m zb (ix2 0 q)) := by
  generalize k0_pay81 m zb = m'
  pointwise [k0_pay18, k0_pay14, k0_pay10]
  rfl

theorem na_apply (e : Fin 64) (q : Fin 512) :
    k0_pay22 m ac zb (k0_pay81 m zb) vb (ix2 e q)
      = Ideal.exp2 (m (ix2 0 q) - k0_pay81 m zb (ix2 0 q)) * ac (ix2 e q)
        + ∑ k : Fin 512, vb (ix3 0 e k) * Ideal.exp2 (zb (ix2 k q) - k0_pay81 m zb (ix2 0 q)) := by
  generalize k0_pay81 m zb = m'
  pointwise [k0_pay22, k0_pay14, k0_pay10]
  rfl

end Cert.Fwd
-- ==== Proof.Fwd.Loop.lean ====
/- The kernel's loop over the earlier key blocks and its last block: what every head carries before every trip, and what it
   ends with. -/
module

public import proofs.«01_k».proof.Proof.Fwd.Point
public import proofs.«01_k».proof.Proof.Fwd.Block
public import proofs.«01_k».proof.Proof.Mla.Block

@[expose] public section

set_option maxRecDepth 16384

noncomputable section

namespace Cert.Fwd

open Idealize.ShloMosaic Idealize.SL.Sem Idealize.ShloMosaic.TcCoe
open Cert.ForwardIdeal Cert.ForwardIdeal.Gen
open Cert.Mla (cm sum_mul_coe zero_word diag_le)

/-- One head's keys, queries and values by place. -/
structure Head where
  K : ℕ → Fin 128 → ℝ
  Q : ℕ → Fin 128 → ℝ
  V : ℕ → Fin 64 → EReal

variable (H : Head)

/-- The score of key `a` for query `t`, minus infinity for a key after the query. -/
def Head.z (t a : ℕ) : EReal := if a ≤ t then (((∑ d, H.K a d * H.Q t d) * cm : ℝ) : EReal) else ⊥

theorem Head.z_ne_top (t a : ℕ) : H.z t a ≠ ⊤ := by
  unfold Head.z
  split
  · exact EReal.coe_ne_top _
  · exact bot_ne_top

/-- What a head's state holds after `n` blocks of keys, for the query block `j`. -/
structure HInv (j n : ℕ) (s : St Ideal) : Prop where
  m : ∀ x : Fin 512, s.1 (ix2 0 x) = top (H.z (512 * j + x.val)) (512 * n)
  l : ∀ x : Fin 512, s.2.1 (ix2 0 x) = sum (H.z (512 * j + x.val)) (512 * n)
  a : ∀ (e : Fin 64) (x : Fin 512), s.2.2 (ix2 e x) = acc (H.z (512 * j + x.val)) (fun k => H.V k e) (512 * n)

theorem hinv_start (j : ℕ) : HInv H j 0 (start (F := Ideal)) where
  m x := by
    show k0_pay54 (F := Ideal) (ix2 0 x) = _
    pointwise [k0_pay54]
    rw [mask_named]; exact (top_zero _).symm
  l x := by
    show k0_pay55 (F := Ideal) (ix2 0 x) = _
    pointwise [k0_pay55]
    first | rw [zero_word] | skip
    exact (sum_zero _).symm
  a e x := by
    show k0_pay56 (F := Ideal) (ix2 e x) = _
    pointwise [k0_pay56]
    first | rw [zero_word] | skip
    exact (acc_zero _ _).symm

theorem hinv_upd (j n : ℕ) (s : St Ideal) (zb : FVec Ideal S512x512 .f32) (vb : Vec Ideal S1x64x512 .bf16)
    (hz : ∀ k q : Fin 512, zb (ix2 k q) = H.z (512 * j + q.val) (512 * n + k.val))
    (hv : ∀ (e : Fin 64) (k : Fin 512), vb (ix3 0 e k) = H.V (512 * n + k.val) e) (hs : HInv H j n s) :
    HInv H j (n + 1) (upd s zb vb) := by
  have hm : ∀ x : Fin 512, k0_pay81 s.1 zb (ix2 0 x) = top (H.z (512 * j + x.val)) (512 * n + 512) := fun x => by
    rw [nm_apply, hs.m]
    simp only [hz]
    exact top_block _ _
  refine ⟨fun x => ?_, fun x => ?_, fun e x => ?_⟩
  · rw [Nat.mul_succ]; exact hm x
  · rw [Nat.mul_succ]
    refine (nl_apply _ _ _ x).trans ?_
    rw [hm, hs.m, hs.l]
    simp only [hz]
    exact sum_block _ (H.z_ne_top _) _
  · rw [Nat.mul_succ]
    refine (na_apply _ _ _ _ e x).trans ?_
    rw [hm, hs.m, hs.a]
    simp only [hz, hv]
    exact acc_block _ _ (H.z_ne_top _) _

section Scores
variable (v0 kb : Vec Ideal S1x512x128 .bf16) (j n : ℕ)
  (hq : ∀ (q : Fin 512) (d : Fin 128), v0 (ix3 0 q d) = ((H.Q (512 * j + q.val) d : ℝ) : EReal))
  (hk : ∀ (k : Fin 512) (d : Fin 128), kb (ix3 0 k d) = ((H.K (512 * n + k.val) d : ℝ) : EReal))

include hq hk in
theorem early_apply (hn : n < j) (k q : Fin 512) :
    k0_pay2 (k0_pay50 v0) kb (ix2 k q) = H.z (512 * j + q.val) (512 * n + k.val) := by
  pointwise [k0_pay2, k0_pay50]
  simp only [hq, hk, cmul_named, sum_mul_coe]
  rw [← EReal.coe_mul]
  unfold Head.z
  rw [if_pos (by omega)]

include hq hk in
theorem last_apply (i : Fin 16) (hi : i.val = j) (hn : n = j) (k q : Fin 512) :
    k0_pay76 (BitVec.ofNat 32 i.val) (k0_pay50 v0) kb (ix2 k q) = H.z (512 * j + q.val) (512 * n + k.val) := by
  pointwise [k0_pay76, k0_pay75, k0_pay50]
  simp only [hq, hk, cmul_named, mask_named, sum_mul_coe]
  rw [← EReal.coe_mul]
  unfold Scalar.select Head.z
  by_cases hkq : k ≤ q
  · rw [if_pos ((diag_le i k q).2 hkq), if_pos (by rw [Fin.le_def] at hkq; omega)]
  · rw [if_neg (fun h => hkq ((diag_le i k q).1 h)), if_neg (by rw [Fin.le_def] at hkq; omega)]

end Scores

/-- Key rows read at an offset. -/
theorem rd_keys {Val : EltTy → Type} {R C : ℕ} {e : EltTy} (v : View sig .tc .vmem (⟨3, ![4, R, C]⟩ : Shape) e) (f : v.ty.Contents Val)
    {off : Fin 3 → ℕ} (inb : ∀ a : Fin 3, off a + (![1, 512, C] : Fin 3 → ℕ) a ≤ (![4, R, C] : Fin 3 → ℕ) a)
    (h : Fin 4) (o : ℕ) (ho : off = ![h.val, o, 0]) (x : Fin 512) (d : Fin C) (hx : o + x.val < R) :
    v.readAt Val (Rect.unit (s := ⟨3, ![4, R, C]⟩) off ![1, 512, C] inb).toLoadRect f (ix3 0 x d)
      = v.read Val f (ix3 h ⟨o + x.val, hx⟩ d) := by
  subst ho
  rw [View.readAt_apply]
  refine congrArg _ (funext fun a => Fin.ext ?_)
  show (![h.val, o, 0] : Fin 3 → ℕ) a + 1 * _ = _
  fin_cases a
  · show h.val + 1 * 0 = h.val; omega
  · show o + 1 * x.val = o + x.val; omega
  · show 0 + 1 * d.val = d.val; omega

/-- Value columns read at an offset. -/
theorem rd_vals {Val : EltTy → Type} {R C : ℕ} {e : EltTy} (v : View sig .tc .vmem (⟨3, ![4, R, C]⟩ : Shape) e) (f : v.ty.Contents Val)
    {off : Fin 3 → ℕ} (inb : ∀ a : Fin 3, off a + (![1, R, 512] : Fin 3 → ℕ) a ≤ (![4, R, C] : Fin 3 → ℕ) a)
    (h : Fin 4) (o : ℕ) (ho : off = ![h.val, 0, o]) (d : Fin R) (x : Fin 512) (hx : o + x.val < C) :
    v.readAt Val (Rect.unit (s := ⟨3, ![4, R, C]⟩) off ![1, R, 512] inb).toLoadRect f (ix3 0 d x)
      = v.read Val f (ix3 h d ⟨o + x.val, hx⟩) := by
  subst ho
  rw [View.readAt_apply]
  refine congrArg _ (funext fun a => Fin.ext ?_)
  show (![h.val, 0, o] : Fin 3 → ℕ) a + 1 * _ = _
  fin_cases a
  · show h.val + 1 * 0 = h.val; omega
  · show 0 + 1 * d.val = d.val; omega
  · show o + 1 * x.val = o + x.val; omega

end Cert.Fwd
-- ==== Proof.Fwd.PointVal.lean ====
/- What one grid point stores, in terms of the heads' keys, queries and values. -/
module

public import proofs.«01_k».proof.Proof.Fwd.Loop

@[expose] public section

set_option maxRecDepth 16384

noncomputable section

namespace Cert.Fwd

open Idealize.ShloMosaic Idealize.SL.Sem Idealize.ShloMosaic.TcCoe
open Cert.ForwardIdeal Cert.ForwardIdeal.Gen

/-- A place of head `h` under a store of another head reads the earlier stores. -/
theorem wr_other {Val : EltTy → Type} {R C : ℕ} {e : EltTy} (v : View sig .tc .vmem (⟨3, ![4, R, C]⟩ : Shape) e) (f : v.ty.Contents Val)
    {off : Fin 3 → ℕ} (inb : ∀ a : Fin 3, off a + (![1, R, C] : Fin 3 → ℕ) a ≤ (![4, R, C] : Fin 3 → ℕ) a)
    (w : (Rect.unit (s := ⟨3, ![4, R, C]⟩) off ![1, R, C] inb).shape.Idx → Val e)
    (L : List (View.Piece Val (⟨3, ![4, R, C]⟩ : Shape) e)) (h h' : Fin 4) (ho : off = ![h'.val, 0, 0])
    (hh : h.val < h'.val ∨ h'.val + 1 ≤ h.val) (b : Fin R) (d : Fin C) :
    v.read Val (v.writes Val f ((⟨Rect.unit (s := ⟨3, ![4, R, C]⟩) off ![1, R, C] inb, w⟩ :
        View.Piece Val (⟨3, ![4, R, C]⟩ : Shape) e) :: L)) (ix3 h b d) = v.read Val (v.writes Val f L) (ix3 h b d) :=
  View.read_writes_cons_unit_of_not_mem v f inb w L _ ho (0 : Fin 3) hh

/-- A place of head `h` under that head's store reads the store. -/
theorem wr_own {Val : EltTy → Type} {R C : ℕ} {e : EltTy} (v : View sig .tc .vmem (⟨3, ![4, R, C]⟩ : Shape) e) (f : v.ty.Contents Val)
    {off : Fin 3 → ℕ} (inb : ∀ a : Fin 3, off a + (![1, R, C] : Fin 3 → ℕ) a ≤ (![4, R, C] : Fin 3 → ℕ) a)
    (w : (Rect.unit (s := ⟨3, ![4, R, C]⟩) off ![1, R, C] inb).shape.Idx → Val e)
    (L : List (View.Piece Val (⟨3, ![4, R, C]⟩ : Shape) e)) (h : Fin 4) (ho : off = ![h.val, 0, 0]) (b : Fin R) (d : Fin C) :
    v.read Val (v.writes Val f ((⟨Rect.unit (s := ⟨3, ![4, R, C]⟩) off ![1, R, C] inb, w⟩ :
        View.Piece Val (⟨3, ![4, R, C]⟩ : Shape) e) :: L)) (ix3 h b d) = w (ix3 0 b d) := by
  refine View.read_writes_cons_unit_of_mem v f inb w L _ (ix3 0 b d) ho fun a => ?_
  fin_cases a
  · show h.val = h.val + 0; omega
  · show b.val = 0 + b.val; omega
  · show d.val = 0 + d.val; omega

theorem o_apply (l : FVec Ideal S1x512 .f32) (ac : FVec Ideal S64x512 .f32) (e : Fin 64) (x : Fin 512) :
    k0_pay104 l ac (ix3 0 e x) = Ideal.div (ac (ix2 e x)) (l (ix2 0 x)) := by
  pointwise [k0_pay104]

theorem s_apply (m l : FVec Ideal S1x512 .f32) (x : Fin 512) :
    k0_pay105 m l (ix3 0 0 x) = m (ix2 0 x) + Ideal.log (l (ix2 0 x)) * (((Real.log 2)⁻¹ : ℝ) : EReal) := by
  pointwise [k0_pay105]
  rw [log2e_named]

/-- The output of a head at a query. -/
def Head.out (H : Head) (j : ℕ) (e : Fin 64) (x : Fin 512) : EReal :=
  Ideal.div (acc (H.z (512 * j + x.val)) (fun k => H.V k e) (512 * (j + 1))) (sum (H.z (512 * j + x.val)) (512 * (j + 1)))

/-- The logarithm base two of a head's sum at a query. -/
def Head.ls (H : Head) (j : ℕ) (x : Fin 512) : EReal :=
  top (H.z (512 * j + x.val)) (512 * (j + 1)) + Ideal.log (sum (H.z (512 * j + x.val)) (512 * (j + 1))) * (((Real.log 2)⁻¹ : ℝ) : EReal)

theorem HInv.out {H : Head} {j : ℕ} {s : St Ideal} (h : HInv H j (j + 1) s) (e : Fin 64) (x : Fin 512) :
    k0_pay104 s.2.1 s.2.2 (ix3 0 e x) = H.out j e x := by
  rw [o_apply, h.l, h.a]; rfl

theorem HInv.ls {H : Head} {j : ℕ} {s : St Ideal} (h : HInv H j (j + 1) s) (x : Fin 512) :
    k0_pay105 s.1 s.2.1 (ix3 0 0 x) = H.ls j x := by
  rw [s_apply, h.l, h.m]; rfl

section Point

variable (c : Dev nD) (i : grid0.Coords) (arg2 : Memref sig .tc .vmem S4x512x128 .bf16) (harg2 : arg2.IsWhole) (arg3 : Memref sig .tc .vmem S4x8192x128 .bf16) (harg3 : arg3.IsWhole) (arg4 : Memref sig .tc .vmem S4x64x8192 .bf16) (harg4 : arg4.IsWhole) (arg5 : Memref sig .tc .vmem S4x64x512 .f32) (harg5 : arg5.IsWhole) (arg6 : Memref sig .tc .vmem S4x1x512 .f32) (harg6 : arg6.IsWhole)
  (x0 : Vec Ideal S4x512x128 .bf16) (x1 : Vec Ideal S4x8192x128 .bf16) (x2 : Vec Ideal S4x64x8192 .bf16) (HH : Fin 4 → Head)
  (hx0 : ∀ h q d, x0 (ix3 h q d) = (((HH h).Q (512 * (i 1).val + q.val) d : ℝ) : EReal))
  (hx1 : ∀ h a d, x1 (ix3 h a d) = (((HH h).K a.val d : ℝ) : EReal))
  (hx2 : ∀ h e a, x2 (ix3 h e a) = (HH h).V a.val e)

include hx0 in
theorem q_rd {off : Fin 3 → ℕ} (inb : ∀ a : Fin 3, off a + (![1, 512, 128] : Fin 3 → ℕ) a ≤ S4x512x128.size a) (h : Fin 4)
    (ho : off = ![h.val, 0, 0]) (q : Fin 512) (d : Fin 128) :
    qbl arg2.view (harg2.unread x0) off inb (ix3 0 q d) = (((HH h).Q (512 * (i 1).val + q.val) d : ℝ) : EReal) := by
  refine (rd_keys arg2.view _ inb h 0 ho q d (by omega)).trans ?_
  rw [harg2.read_unread]
  refine (congrArg (fun y => x0 (ix3 h y d)) (Fin.ext (Nat.zero_add _))).trans (hx0 h q d)

include hx1 in
theorem k_rd {off : Fin 3 → ℕ} (inb : ∀ a : Fin 3, off a + (![1, 512, 128] : Fin 3 → ℕ) a ≤ S4x8192x128.size a) (h : Fin 4)
    (n : ℕ) (hn : n < 16) (ho : off = ![h.val, 512 * n, 0]) (k : Fin 512) (d : Fin 128) :
    kbl arg3.view (harg3.unread x1) off inb (ix3 0 k d) = (((HH h).K (512 * n + k.val) d : ℝ) : EReal) := by
  refine (rd_keys arg3.view _ inb h (512 * n) ho k d (by omega)).trans ?_
  rw [harg3.read_unread, hx1]

include hx2 in
theorem v_rd {off : Fin 3 → ℕ} (inb : ∀ a : Fin 3, off a + (![1, 64, 512] : Fin 3 → ℕ) a ≤ S4x64x8192.size a) (h : Fin 4)
    (n : ℕ) (hn : n < 16) (ho : off = ![h.val, 0, 512 * n]) (e : Fin 64) (k : Fin 512) :
    vbl arg4.view (harg4.unread x2) off inb (ix3 0 e k) = (HH h).V (512 * n + k.val) e := by
  refine (rd_vals arg4.view _ inb h (512 * n) ho e k (by omega)).trans ?_
  rw [harg4.read_unread, hx2]

include hx0 hx1 hx2 in
theorem carried_inv (n : ℕ) (hn : n ≤ (i 1).val) : ∃ s0 s1 s2 s3 : St Ideal, carried (F := Ideal) c i arg2 harg2 arg3 harg3 arg4 harg4 arg5 harg5 arg6 harg6 x0 x1 x2 n = flat s0 s1 s2 s3
    ∧ HInv (HH 0) (i 1).val n s0 ∧ HInv (HH 1) (i 1).val n s1 ∧ HInv (HH 2) (i 1).val n s2 ∧ HInv (HH 3) (i 1).val n s3 := by
  induction n with
  | zero => exact ⟨start, start, start, start, rfl, hinv_start _ _, hinv_start _ _, hinv_start _ _, hinv_start _ _⟩
  | succ n ih =>
    obtain ⟨s0, s1, s2, s3, e, h0, h1, h2, h3⟩ := ih (by omega)
    have hi : (i 1).val < 16 := (i 1).isLt
    have hs := st_k0_t1_succ (F := Ideal) Variants.none c none i arg2 harg2 arg3 harg3 arg4 harg4 arg5 harg5 arg6 harg6 (qbl arg2.view (harg2.unread x0) ![0, 0, 0] inb_S4x512x128_S1x512x128_0_0_0) (qbl arg2.view (harg2.unread x0) ![1, 0, 0] inb_S4x512x128_S1x512x128_1_0_0) (qbl arg2.view (harg2.unread x0) ![2, 0, 0] inb_S4x512x128_S1x512x128_2_0_0) (qbl arg2.view (harg2.unread x0) ![3, 0, 0] inb_S4x512x128_S1x512x128_3_0_0) (harg3.unread x1) (harg4.unread x2) (flat start start start start) ⟨n, (trips1 i).symm ▸ hn⟩
    generalize hk : (⟨n, (trips1 i).symm ▸ hn⟩ : Fin (k0_t1_loop i).trips) = k at hs
    have hkn : k.val = n := by rw [← hk]
    rw [hkn] at hs
    refine ⟨_, _, _, _, hs.trans ((congrArg _ e).trans (trip_eq c i arg2 harg2 arg3 harg3 arg4 harg4 arg5 harg5 arg6 harg6 _ _ _ _ _ _ k s0 s1 s2 s3)), ?_, ?_, ?_, ?_⟩
    · exact hinv_upd (HH 0) _ _ _ _ _ (early_apply (HH 0) _ _ _ _ (q_rd i arg2 harg2 x0 HH hx0 _ 0 rfl)
        (k_rd arg3 harg3 x1 HH hx1 _ 0 n (by omega) (by rw [k0_off1_eq, hkn]; rfl)) (by omega))
        (v_rd arg4 harg4 x2 HH hx2 _ 0 n (by omega) (by rw [k0_off5_eq, hkn]; rfl)) h0
    · exact hinv_upd (HH 1) _ _ _ _ _ (early_apply (HH 1) _ _ _ _ (q_rd i arg2 harg2 x0 HH hx0 _ 1 rfl)
        (k_rd arg3 harg3 x1 HH hx1 _ 1 n (by omega) (by rw [k0_off2_eq, hkn]; rfl)) (by omega))
        (v_rd arg4 harg4 x2 HH hx2 _ 1 n (by omega) (by rw [k0_off6_eq, hkn]; rfl)) h1
    · exact hinv_upd (HH 2) _ _ _ _ _ (early_apply (HH 2) _ _ _ _ (q_rd i arg2 harg2 x0 HH hx0 _ 2 rfl)
        (k_rd arg3 harg3 x1 HH hx1 _ 2 n (by omega) (by rw [k0_off3_eq, hkn]; rfl)) (by omega))
        (v_rd arg4 harg4 x2 HH hx2 _ 2 n (by omega) (by rw [k0_off7_eq, hkn]; rfl)) h2
    · exact hinv_upd (HH 3) _ _ _ _ _ (early_apply (HH 3) _ _ _ _ (q_rd i arg2 harg2 x0 HH hx0 _ 3 rfl)
        (k_rd arg3 harg3 x1 HH hx1 _ 3 n (by omega) (by rw [k0_off4_eq, hkn]; rfl)) (by omega))
        (v_rd arg4 harg4 x2 HH hx2 _ 3 n (by omega) (by rw [k0_off8_eq, hkn]; rfl)) h3

include hx0 hx1 hx2 in
theorem end0_inv : HInv (HH 0) (i 1).val ((i 1).val + 1) (end0 (F := Ideal) c i arg2 harg2 arg3 harg3 arg4 harg4 arg5 harg5 arg6 harg6 x0 x1 x2) := by
  obtain ⟨s0, s1, s2, s3, e, h0, h1, h2, h3⟩ := carried_inv c i arg2 harg2 arg3 harg3 arg4 harg4 arg5 harg5 arg6 harg6 x0 x1 x2 HH hx0 hx1 hx2 (i 1).val (le_refl _)
  rw [← trips1 i] at e
  refine hinv_upd (HH 0) _ _ _ _ _ (last_apply (HH 0) _ _ _ _ (q_rd i arg2 harg2 x0 HH hx0 _ 0 rfl)
    (k_rd arg3 harg3 x1 HH hx1 _ 0 (i 1).val (i 1).isLt (k0_off17_eq i)) (i 1) rfl rfl)
    (v_rd arg4 harg4 x2 HH hx2 _ 0 (i 1).val (i 1).isLt (k0_off21_eq i)) ?_
  rw [e]
  exact h0

include hx0 hx1 hx2 in
theorem end1_inv : HInv (HH 1) (i 1).val ((i 1).val + 1) (end1 (F := Ideal) c i arg2 harg2 arg3 harg3 arg4 harg4 arg5 harg5 arg6 harg6 x0 x1 x2) := by
  obtain ⟨s0, s1, s2, s3, e, h0, h1, h2, h3⟩ := carried_inv c i arg2 harg2 arg3 harg3 arg4 harg4 arg5 harg5 arg6 harg6 x0 x1 x2 HH hx0 hx1 hx2 (i 1).val (le_refl _)
  rw [← trips1 i] at e
  refine hinv_upd (HH 1) _ _ _ _ _ (last_apply (HH 1) _ _ _ _ (q_rd i arg2 harg2 x0 HH hx0 _ 1 rfl)
    (k_rd arg3 harg3 x1 HH hx1 _ 1 (i 1).val (i 1).isLt (k0_off18_eq i)) (i 1) rfl rfl)
    (v_rd arg4 harg4 x2 HH hx2 _ 1 (i 1).val (i 1).isLt (k0_off22_eq i)) ?_
  rw [e]
  exact h1

include hx0 hx1 hx2 in
theorem end2_inv : HInv (HH 2) (i 1).val ((i 1).val + 1) (end2 (F := Ideal) c i arg2 harg2 arg3 harg3 arg4 harg4 arg5 harg5 arg6 harg6 x0 x1 x2) := by
  obtain ⟨s0, s1, s2, s3, e, h0, h1, h2, h3⟩ := carried_inv c i arg2 harg2 arg3 harg3 arg4 harg4 arg5 harg5 arg6 harg6 x0 x1 x2 HH hx0 hx1 hx2 (i 1).val (le_refl _)
  rw [← trips1 i] at e
  refine hinv_upd (HH 2) _ _ _ _ _ (last_apply (HH 2) _ _ _ _ (q_rd i arg2 harg2 x0 HH hx0 _ 2 rfl)
    (k_rd arg3 harg3 x1 HH hx1 _ 2 (i 1).val (i 1).isLt (k0_off19_eq i)) (i 1) rfl rfl)
    (v_rd arg4 harg4 x2 HH hx2 _ 2 (i 1).val (i 1).isLt (k0_off23_eq i)) ?_
  rw [e]
  exact h2

include hx0 hx1 hx2 in
theorem end3_inv : HInv (HH 3) (i 1).val ((i 1).val + 1) (end3 (F := Ideal) c i arg2 harg2 arg3 harg3 arg4 harg4 arg5 harg5 arg6 harg6 x0 x1 x2) := by
  obtain ⟨s0, s1, s2, s3, e, h0, h1, h2, h3⟩ := carried_inv c i arg2 harg2 arg3 harg3 arg4 harg4 arg5 harg5 arg6 harg6 x0 x1 x2 HH hx0 hx1 hx2 (i 1).val (le_refl _)
  rw [← trips1 i] at e
  refine hinv_upd (HH 3) _ _ _ _ _ (last_apply (HH 3) _ _ _ _ (q_rd i arg2 harg2 x0 HH hx0 _ 3 rfl)
    (k_rd arg3 harg3 x1 HH hx1 _ 3 (i 1).val (i 1).isLt (k0_off20_eq i)) (i 1) rfl rfl)
    (v_rd arg4 harg4 x2 HH hx2 _ 3 (i 1).val (i 1).isLt (k0_off24_eq i)) ?_
  rw [e]
  exact h3

include hx0 hx1 hx2 in
theorem out3_apply (h : Fin 4) (e : Fin 64) (x : Fin 512) : out0_A_3 (F := Ideal) c i arg2 harg2 arg3 harg3 arg4 harg4 arg5 harg5 arg6 harg6 x0 x1 x2 (ix3 h e x) = (HH h).out (i 1).val e x := by
  rw [out3_eq]
  fin_cases h
  · exact (wr_other VO0_3 _ _ _ _ 0 3 rfl (by decide) e x).trans ((wr_other VO0_3 _ _ _ _ 0 2 rfl (by decide) e x).trans ((wr_other VO0_3 _ _ _ _ 0 1 rfl (by decide) e x).trans ((wr_own VO0_3 _ _ _ _ 0 rfl e x).trans ((end0_inv c i arg2 harg2 arg3 harg3 arg4 harg4 arg5 harg5 arg6 harg6 x0 x1 x2 HH hx0 hx1 hx2).out e x))))
  · exact (wr_other VO0_3 _ _ _ _ 1 3 rfl (by decide) e x).trans ((wr_other VO0_3 _ _ _ _ 1 2 rfl (by decide) e x).trans ((wr_own VO0_3 _ _ _ _ 1 rfl e x).trans ((end1_inv c i arg2 harg2 arg3 harg3 arg4 harg4 arg5 harg5 arg6 harg6 x0 x1 x2 HH hx0 hx1 hx2).out e x)))
  · exact (wr_other VO0_3 _ _ _ _ 2 3 rfl (by decide) e x).trans ((wr_own VO0_3 _ _ _ _ 2 rfl e x).trans ((end2_inv c i arg2 harg2 arg3 harg3 arg4 harg4 arg5 harg5 arg6 harg6 x0 x1 x2 HH hx0 hx1 hx2).out e x))
  · exact (wr_own VO0_3 _ _ _ _ 3 rfl e x).trans ((end3_inv c i arg2 harg2 arg3 harg3 arg4 harg4 arg5 harg5 arg6 harg6 x0 x1 x2 HH hx0 hx1 hx2).out e x)

include hx0 hx1 hx2 in
theorem out4_apply (h : Fin 4) (x : Fin 512) : out0_A_4 (F := Ideal) c i arg2 harg2 arg3 harg3 arg4 harg4 arg5 harg5 arg6 harg6 x0 x1 x2 (ix3 h 0 x) = (HH h).ls (i 1).val x := by
  rw [out4_eq]
  fin_cases h
  · exact (wr_other VO0_4 _ _ _ _ 0 3 rfl (by decide) 0 x).trans ((wr_other VO0_4 _ _ _ _ 0 2 rfl (by decide) 0 x).trans ((wr_other VO0_4 _ _ _ _ 0 1 rfl (by decide) 0 x).trans ((wr_own VO0_4 _ _ _ _ 0 rfl 0 x).trans ((end0_inv c i arg2 harg2 arg3 harg3 arg4 harg4 arg5 harg5 arg6 harg6 x0 x1 x2 HH hx0 hx1 hx2).ls x))))
  · exact (wr_other VO0_4 _ _ _ _ 1 3 rfl (by decide) 0 x).trans ((wr_other VO0_4 _ _ _ _ 1 2 rfl (by decide) 0 x).trans ((wr_own VO0_4 _ _ _ _ 1 rfl 0 x).trans ((end1_inv c i arg2 harg2 arg3 harg3 arg4 harg4 arg5 harg5 arg6 harg6 x0 x1 x2 HH hx0 hx1 hx2).ls x)))
  · exact (wr_other VO0_4 _ _ _ _ 2 3 rfl (by decide) 0 x).trans ((wr_own VO0_4 _ _ _ _ 2 rfl 0 x).trans ((end2_inv c i arg2 harg2 arg3 harg3 arg4 harg4 arg5 harg5 arg6 harg6 x0 x1 x2 HH hx0 hx1 hx2).ls x))
  · exact (wr_own VO0_4 _ _ _ _ 3 rfl 0 x).trans ((end3_inv c i arg2 harg2 arg3 harg3 arg4 harg4 arg5 harg5 arg6 harg6 x0 x1 x2 HH hx0 hx1 hx2).ls x)

end Point

end Cert.Fwd
-- ==== Proof.Fwd.Maths.lean ====
/- The blockwise softmax at its end: the greatest score, the sum and the weighted sum, in natural exponentials. -/
module

public import proofs.«01_k».proof.Proof.Fwd.PointVal
public import proofs.«01_k».proof.Proof.Mla.Ref

@[expose] public section

set_option maxRecDepth 16384

noncomputable section

namespace Cert.Fwd

open Idealize.ShloMosaic
open Cert.Mla (Arr row sc ee ll ll_pos score coe_sum div_real)

variable (x0 x1 : Arr 96) (x2 : Arr 64)

/-- The row's greatest score, among the keys up to the query. -/
def mr (h t : ℕ) : ℝ := (Finset.range (t + 1)).sup' ⟨t, Finset.self_mem_range_succ t⟩ (sc x0 x1 h t)

theorem sc_le {h t k : ℕ} (hk : k ≤ t) : sc x0 x1 h t k ≤ mr x0 x1 h t :=
  Finset.le_sup' (sc x0 x1 h t) (Finset.mem_range.2 (by omega))

theorem sc_top (h t : ℕ) : ∃ k, k ≤ t ∧ sc x0 x1 h t k = mr x0 x1 h t := by
  obtain ⟨k, hk, e⟩ := Finset.exists_mem_eq_sup' (s := Finset.range (t + 1)) ⟨t, Finset.self_mem_range_succ t⟩ (sc x0 x1 h t)
  exact ⟨k, by have := Finset.mem_range.1 hk; omega, e.symm⟩

/-- One head's keys, queries and values. -/
def head (h : ℕ) : Head where
  K a d := row x1 h a d.val
  Q a d := row x0 h a d.val
  V a e := if i : a < 8192 ∧ h < 4 then x2 (ix3 ⟨a, i.1⟩ ⟨h, i.2⟩ e) else 0

theorem z_eq (h t a : ℕ) : (head x0 x1 x2 h).z t a = if a ≤ t then ((sc x0 x1 h t a / Real.log 2 : ℝ) : EReal) else ⊥ := by
  unfold Head.z
  rw [show (∑ d, (head x0 x1 x2 h).K a d * (head x0 x1 x2 h).Q t d) * Cert.Mla.cm = sc x0 x1 h t a / Real.log 2 from score x0 x1 h t a]

theorem top_eq (h t n : ℕ) (hn : t < n) : top ((head x0 x1 x2 h).z t) n = ((mr x0 x1 h t / Real.log 2 : ℝ) : EReal) := by
  have hl : (0 : ℝ) < Real.log 2 := Real.log_pos one_lt_two
  refine le_antisymm (Finset.sup_le fun a _ => ?_) ?_
  · rw [z_eq]
    split
    · exact EReal.coe_le_coe_iff.2 (div_le_div_of_nonneg_right (sc_le x0 x1 ‹_›) hl.le)
    · exact bot_le
  · obtain ⟨k, hk, e⟩ := sc_top x0 x1 h t
    have : (head x0 x1 x2 h).z t k ≤ top ((head x0 x1 x2 h).z t) n := Finset.le_sup (f := (head x0 x1 x2 h).z t) (Finset.mem_range.2 (by omega))
    rwa [z_eq, if_pos hk, e] at this

theorem pow_eq (h t n a : ℕ) (hn : t < n) :
    Ideal.exp2 ((head x0 x1 x2 h).z t a - top ((head x0 x1 x2 h).z t) n) = ((ee x0 x1 (mr x0 x1) h t a : ℝ) : EReal) := by
  have hl : Real.log 2 ≠ 0 := (Real.log_pos one_lt_two).ne'
  rw [top_eq x0 x1 x2 h t n hn, z_eq]
  unfold ee
  split
  · rw [← EReal.coe_sub, Ideal.exp2_coe]
    refine congrArg _ ?_
    show (2 : ℝ) ^ (_ : ℝ) = _
    rw [Real.rpow_def_of_pos two_pos]
    refine congrArg _ ?_
    field_simp
  · rw [EReal.bot_sub, Ideal.exp2_bot, EReal.coe_zero]

/-- A sum whose terms past `n` are zero, over every key. -/
theorem sum_all (f : ℕ → EReal) (n : ℕ) (hn : n ≤ 8192) (hf : ∀ a, n ≤ a → f a = 0) :
    ∑ a ∈ Finset.range n, f a = ∑ k : Fin 8192, f k.val := by
  rw [← Finset.sum_range]
  exact Finset.sum_subset (Finset.range_mono hn) fun a _ ha => hf a (by simpa using ha)

theorem ee_late {h t a : ℕ} (ha : t < a) : ee x0 x1 (mr x0 x1) h t a = 0 := if_neg (by omega)

theorem sum_eq (h t n : ℕ) (hn : t < n) (hm : n ≤ 8192) : sum ((head x0 x1 x2 h).z t) n = ((ll x0 x1 (mr x0 x1) h t : ℝ) : EReal) := by
  unfold sum
  simp only [pow_eq x0 x1 x2 h t n _ hn]
  rw [sum_all (fun a => ((ee x0 x1 (mr x0 x1) h t a : ℝ) : EReal)) n hm fun a ha => by rw [ee_late x0 x1 (by omega), EReal.coe_zero]]
  exact coe_sum _

theorem acc_eq (h t n : ℕ) (hn : t < n) (hm : n ≤ 8192) (w : ℕ → EReal) :
    acc ((head x0 x1 x2 h).z t) w n = ∑ k : Fin 8192, w k.val * ((ee x0 x1 (mr x0 x1) h t k.val : ℝ) : EReal) := by
  unfold acc
  simp only [pow_eq x0 x1 x2 h t n _ hn]
  exact sum_all (fun a => w a * ((ee x0 x1 (mr x0 x1) h t a : ℝ) : EReal)) n hm fun a ha => by rw [ee_late x0 x1 (by omega), EReal.coe_zero, mul_zero]

/-- A weighted sum over a positive number is the sum of the quotients' weights. -/
theorem div_sum (w : Fin 8192 → EReal) (p : Fin 8192 → ℝ) (l : ℝ) (hl : 0 < l) :
    Ideal.div (∑ k, w k * ((p k : ℝ) : EReal)) (l : EReal) = ∑ k, w k * ((p k / l : ℝ) : EReal) := by
  rw [Ideal.div_coe hl.ne', mul_comm, mul_sum_nonneg (by positivity)]
  refine Finset.sum_congr rfl fun k _ => ?_
  rw [mul_left_comm, ← EReal.coe_mul, one_div_mul_eq_div]

/-- The output at a query, over every block of keys up to it. -/
def Head.outAt (H : Head) (t : ℕ) (e : Fin 64) : EReal :=
  Ideal.div (acc (H.z t) (fun k => H.V k e) (512 * (t / 512 + 1))) (sum (H.z t) (512 * (t / 512 + 1)))

/-- The logarithm base two of the sum at a query. -/
def Head.lsAt (H : Head) (t : ℕ) : EReal :=
  top (H.z t) (512 * (t / 512 + 1)) + Ideal.log (sum (H.z t) (512 * (t / 512 + 1))) * (((Real.log 2)⁻¹ : ℝ) : EReal)

theorem out_eq (H : Head) (j : ℕ) (e : Fin 64) (x : Fin 512) : H.out j e x = H.outAt (512 * j + x.val) e := by
  unfold Head.out Head.outAt
  rw [show (512 * j + x.val) / 512 = j by omega]

theorem ls_eq (H : Head) (j : ℕ) (x : Fin 512) : H.ls j x = H.lsAt (512 * j + x.val) := by
  unfold Head.ls Head.lsAt
  rw [show (512 * j + x.val) / 512 = j by omega]

theorem outAt_eq (h : Fin 4) (t : Fin 8192) (e : Fin 64) : (head x0 x1 x2 h.val).outAt t.val e
    = ∑ k : Fin 8192, x2 (ix3 k h e) * ((ee x0 x1 (mr x0 x1) h.val t.val k.val / ll x0 x1 (mr x0 x1) h.val t.val : ℝ) : EReal) := by
  unfold Head.outAt
  rw [sum_eq x0 x1 x2 h.val t.val _ (by omega) (by omega), acc_eq x0 x1 x2 h.val t.val _ (by omega) (by omega),
    div_sum _ _ _ (ll_pos x0 x1 (mr x0 x1) h.val t.isLt)]
  refine Finset.sum_congr rfl fun k _ => ?_
  refine congrArg (· * _) ?_
  show (if i : k.val < 8192 ∧ h.val < 4 then x2 (ix3 ⟨k.val, i.1⟩ ⟨h.val, i.2⟩ e) else 0) = _
  rw [dif_pos ⟨k.isLt, h.isLt⟩]

theorem lsAt_eq (h : Fin 4) (t : Fin 8192) : (head x0 x1 x2 h.val).lsAt t.val
    = (((mr x0 x1 h.val t.val + Real.log (ll x0 x1 (mr x0 x1) h.val t.val)) / Real.log 2 : ℝ) : EReal) := by
  unfold Head.lsAt
  rw [sum_eq x0 x1 x2 h.val t.val _ (by omega) (by omega), top_eq x0 x1 x2 h.val t.val _ (by omega), Ideal.log_coe,
    if_neg (not_le.mpr (ll_pos x0 x1 (mr x0 x1) h.val t.isLt)), ← EReal.coe_mul, ← EReal.coe_add]
  refine congrArg _ ?_
  ring

end Cert.Fwd
-- ==== Proof.Fwd.Arrays.lean ====
/- The two arrays the call returns, at an index. -/
module

public import proofs.«01_k».proof.Proof.Fwd.Maths
public import proofs.«01_k».proof.Proof.Gen.ForwardIdeal.Value
public import Idealize.ShloMosaic.Lib.Pipeline.ValueKit
public import Idealize.ShloMosaic.Lib.Claim

@[expose] public section

set_option maxRecDepth 16384

noncomputable section

namespace Cert.Fwd

open Idealize.ShloMosaic Idealize.SL.Sem Idealize.ShloMosaic.TcCoe
open Cert.ForwardIdeal Cert.ForwardIdeal.Gen

theorem idx0 : ∀ t : Fin cfg0.N, win0_0.index t = ![0, t.val, 0] :=
  (by decide +kernel : ∀ t : Fin grid0.N, win0_0.index t = ![0, t.val, 0])
theorem idx1 : ∀ t : Fin cfg0.N, win0_1.index t = ![0, 0, 0] :=
  (by decide +kernel : ∀ t : Fin grid0.N, win0_1.index t = ![0, 0, 0])
theorem idx2 : ∀ t : Fin cfg0.N, win0_2.index t = ![0, 0, 0] :=
  (by decide +kernel : ∀ t : Fin grid0.N, win0_2.index t = ![0, 0, 0])
theorem idx3 : ∀ t : Fin cfg0.N, win0_3.index t = ![0, 0, t.val] :=
  (by decide +kernel : ∀ t : Fin grid0.N, win0_3.index t = ![0, 0, t.val])
theorem idx4 : ∀ t : Fin cfg0.N, win0_4.index t = ![0, 0, t.val] :=
  (by decide +kernel : ∀ t : Fin grid0.N, win0_4.index t = ![0, 0, t.val])
theorem coord1 : ∀ t : Fin cfg0.N, ((grid0.coords t) 1).val = t.val :=
  (by decide +kernel : ∀ t : Fin grid0.N, ((grid0.coords t) 1).val = t.val)
theorem pts : cfg0.N = 16 := (by decide +kernel : grid0.N = 16)

variable (m : (ℓ : Loc nD τ sig) → Buf (Elt Ideal) ℓ) (c : Dev nD) (Hs : ℕ → Head)

/-- The arrays the call is given hold the heads' data. -/
structure Given : Prop where
  q : ∀ (h : Fin 4) (t : Fin 8192) (d : Fin 128), (V m c main_v2 : Vec Ideal S4x8192x128 .bf16) (ix3 h t d) = (((Hs h.val).Q t.val d : ℝ) : EReal)
  k : ∀ (h : Fin 4) (t : Fin 8192) (d : Fin 128), (V m c main_v5 : Vec Ideal S4x8192x128 .bf16) (ix3 h t d) = (((Hs h.val).K t.val d : ℝ) : EReal)
  v : ∀ (h : Fin 4) (e : Fin 64) (t : Fin 8192), (V m c main_v8 : Vec Ideal S4x64x8192 .bf16) (ix3 h e t) = (Hs h.val).V t.val e

variable {m c Hs} (hV : Given m c Hs)
include hV

theorem q_at (t : Fin cfg0.N) (h : Fin 4) (q : Fin 512) (d : Fin 128) :
    (iblk m c 0 t : Vec Ideal S4x512x128 .bf16) (ix3 h q d) = (((Hs h.val).Q (512 * ((grid0.coords t) 1).val + q.val) d : ℝ) : EReal) := by
  have ht : t.val < 16 := pts ▸ t.isLt
  rw [coord1 t]
  refine Eq.trans ?_ (hV.q h ⟨512 * t.val + q.val, by omega⟩ d)
  blk_ext [iblk, idx0 t]

theorem k_at (t : Fin cfg0.N) (h : Fin 4) (a : Fin 8192) (d : Fin 128) :
    (iblk m c 1 t : Vec Ideal S4x8192x128 .bf16) (ix3 h a d) = (((Hs h.val).K a.val d : ℝ) : EReal) := by
  refine Eq.trans ?_ (hV.k h a d)
  blk_ext [iblk, idx1 t]

theorem v_at (t : Fin cfg0.N) (h : Fin 4) (e : Fin 64) (a : Fin 8192) :
    (iblk m c 2 t : Vec Ideal S4x64x8192 .bf16) (ix3 h e a) = (Hs h.val).V a.val e := by
  refine Eq.trans ?_ (hV.v h e a)
  blk_ext [iblk, idx2 t]

omit hV in
theorem emb3 (t : Fin cfg0.N) (h : Fin 4) (e : Fin 64) (q : Fin 512) (ht : t.val < 16) :
    ((win0_3.blk t).view.emb (ix3 h e q : S4x64x512.Idx) : S4x64x8192.Idx) = ix3 h e ⟨512 * t.val + q.val, by omega⟩ := by
  blk_ext [idx3 t]

omit hV in
theorem emb4 (t : Fin cfg0.N) (h : Fin 4) (q : Fin 512) (ht : t.val < 16) :
    ((win0_4.blk t).view.emb (ix3 h (0 : Fin 1) q : S4x1x512.Idx) : S4x1x8192.Idx) = ix3 h 0 ⟨512 * t.val + q.val, by omega⟩ := by
  blk_ext [idx4 t]

omit hV in
variable (Hs) in
/-- The outputs, from the rows of each head. -/
def go : Vec Ideal S4x64x8192 .f32 := fun y => (Hs (y 0).val).outAt (y 2).val (y 1)

omit hV in
variable (Hs) in
/-- The logarithms of the sums. -/
def gl : Vec Ideal S4x1x8192 .f32 := fun y => (Hs (y 0).val).lsAt (y 2).val

/-- The two blocks a point writes, at an index. -/
theorem out3_at (t : Fin cfg0.N) (h : Fin 4) (e : Fin 64) (q : Fin 512) :
    (outsAt0 m c t).1 (ix3 h e q) = (Hs h.val).out ((grid0.coords t) 1).val e q := by
  have hq := q_at hV t
  have hk := k_at hV t
  have hv := v_at hV t
  unfold outsAt0
  dsimp only
  generalize iblk m c 0 t = y0 at hq ⊢
  generalize iblk m c 1 t = y1 at hk ⊢
  generalize iblk m c 2 t = y2 at hv ⊢
  generalize ms0_0 t = b0, hs0_0 t = g0, ms0_1 t = b1, hs0_1 t = g1, ms0_2 t = b2, hs0_2 t = g2, ms0_3 t = b3, hs0_3 t = g3, ms0_4 t = b4, hs0_4 t = g4
  exact out3_apply c (grid0.coords t) b0 g0 b1 g1 b2 g2 b3 g3 b4 g4 y0 y1 y2 (fun h => Hs h.val) hq hk hv h e q

theorem out4_at (t : Fin cfg0.N) (h : Fin 4) (q : Fin 512) :
    (outsAt0 m c t).2 (ix3 h 0 q) = (Hs h.val).ls ((grid0.coords t) 1).val q := by
  have hq := q_at hV t
  have hk := k_at hV t
  have hv := v_at hV t
  unfold outsAt0
  dsimp only
  generalize iblk m c 0 t = y0 at hq ⊢
  generalize iblk m c 1 t = y1 at hk ⊢
  generalize iblk m c 2 t = y2 at hv ⊢
  generalize ms0_0 t = b0, hs0_0 t = g0, ms0_1 t = b1, hs0_1 t = g1, ms0_2 t = b2, hs0_2 t = g2, ms0_3 t = b3, hs0_3 t = g3, ms0_4 t = b4, hs0_4 t = g4
  exact out4_apply c (grid0.coords t) b0 g0 b1 g1 b2 g2 b3 g3 b4 g4 y0 y1 y2 (fun h => Hs h.val) hq hk hv h q

theorem arr3 : (dats m 0 c).arrAt 3 cfg0.N = go Hs := by
  refine (dats m 0 c).arrAt_eq_of_covers 3 _ (by decide +kernel) fun t hf y => ?_
  have ht : t.val < 16 := pts ▸ t.isLt
  blk_simp
  rw [after0_3]
  revert y
  suffices h : ∀ y : S4x64x512.Idx, (outsAt0 m c t).1 y = go Hs ((win0_3.blk t).view.emb y) from h
  intro y
  obtain ⟨h, e, q, rfl⟩ : ∃ h e q, y = ix3 h e q := ⟨y 0, y 1, y 2, eq_ix3 y⟩
  refine (out3_at hV t h e q).trans ?_
  rw [emb3 t h e q ht, out_eq, coord1 t]
  rfl

theorem arr4 : (dats m 0 c).arrAt 4 cfg0.N = gl Hs := by
  refine (dats m 0 c).arrAt_eq_of_covers 4 _ (by decide +kernel) fun t hf y => ?_
  have ht : t.val < 16 := pts ▸ t.isLt
  blk_simp
  rw [after0_4]
  revert y
  suffices h : ∀ y : S4x1x512.Idx, (outsAt0 m c t).2 y = gl Hs ((win0_4.blk t).view.emb y) from h
  intro y
  obtain ⟨h, z, q, rfl⟩ : ∃ h z q, y = ix3 h z q := ⟨y 0, y 1, y 2, eq_ix3 y⟩
  obtain rfl : z = 0 := Subsingleton.elim _ _
  refine (out4_at hV t h q).trans ?_
  rw [emb4 t h q ht, ls_eq, coord1 t]
  rfl

end Cert.Fwd
-- ==== Proof.Fwd.Host.lean ====
/- The call's operands, from the arguments. -/
module

public import proofs.«01_k».proof.Proof.Fwd.Arrays
public import proofs.«01_k».proof.Proof.Mla.HostVal
public import Idealize.ShloMosaic.Lib.StableHlo.ReadAt

@[expose] public section

set_option maxRecDepth 16384

noncomputable section

namespace Cert.Fwd

open Idealize.ShloMosaic Idealize.SL.Sem Idealize.ShloMosaic.TcCoe
open Cert.ForwardIdeal Cert.ForwardIdeal.Gen
open Cert.Mla (Arr Finite row k28 k29 k30 k34 k35 kzb kzi k30_at)

variable (m : (ℓ : Loc nD τ sig) → Buf (Elt Ideal) ℓ) (c : Dev nD)

/-- The three arguments. -/
abbrev b0 : Arr 96 := m ((c : Thread nD τ).loc main_arg0)
abbrev b1 : Arr 96 := m ((c : Thread nD τ).loc main_arg1)
abbrev b2 : Arr 64 := m ((c : Thread nD τ).loc main_arg2)

/-- The values' columns, one head after another, in the narrow format. -/
def kT {F : FTy → Type} [FloatOps F] (x : (⟨S8192x4x64, .f32⟩ : BufTy).Contents (Elt F)) : (⟨S4x64x8192, .bf16⟩ : BufTy).Contents (Elt F) :=
  transpose S4x64x8192 [0, 2, 1] (k35 (F := F) x) transposes_S4x8192x64_S4x64x8192_0_2_1

theorem u2_eq : V (F := Ideal) m c main_v2 = k30 (F := Ideal) (b0 m c) := by
  unfold V
  simp only [List.flatten_cons, List.flatten_nil, List.append_nil, StableHlo.after_append]
  after_reads_simp
  simp -implicitDefEqProofs only [StableHlo.TRef.toBuf, StableHlo.TRef.ofBuf, cast_cast, cast_eq]
  unfold k30 k29 k28 kzb kzi
  rfl

theorem u5_eq : V (F := Ideal) m c main_v5 = k30 (F := Ideal) (b1 m c) := by
  unfold V
  simp only [List.flatten_cons, List.flatten_nil, List.append_nil, StableHlo.after_append]
  after_reads_simp
  simp -implicitDefEqProofs only [StableHlo.TRef.toBuf, StableHlo.TRef.ofBuf, cast_cast, cast_eq]
  unfold k30 k29 k28 kzb kzi
  rfl

theorem u8_eq : V (F := Ideal) m c main_v8 = kT (F := Ideal) (b2 m c) := by
  unfold V
  simp only [List.flatten_cons, List.flatten_nil, List.append_nil, StableHlo.after_append]
  after_reads_simp
  unfold kT k35 k34
  rfl

theorem kT_at (x : Arr 64) (h : Fin 4) (e : Fin 64) (t : Fin 8192) : kT (F := Ideal) x (ix3 h e t) = x (ix3 t h e) := by
  unfold kT k35 k34
  pointwise

/-- A head's rows, from the arguments. -/
def heads : ℕ → Head := head (b0 m c) (b1 m c) (b2 m c)

variable {m c} (f0 : Finite (b0 m c)) (f1 : Finite (b1 m c))

include f0 f1 in
theorem given : Given m c (heads m c) where
  q h t d := by rw [u2_eq]; exact k30_at f0 h t d
  k h t d := by rw [u5_eq]; exact k30_at f1 h t d
  v h e t := by
    rw [u8_eq, kT_at]
    show _ = if i : t.val < 8192 ∧ h.val < 4 then b2 m c (ix3 ⟨t.val, i.1⟩ ⟨h.val, i.2⟩ e) else 0
    rw [dif_pos ⟨t.isLt, h.isLt⟩]

end Cert.Fwd
-- ==== Proof.Fwd.Ref.lean ====
/- The reference's values at an index. -/
module

public import proofs.«01_k».proof.Proof.Fwd.Maths
public import proofs.«01_k».proof.Proof.Gen.ForwardReferenceIdeal.Read
public import Idealize.ShloMosaic.Lib.Pointwise
public import Idealize.ShloMosaic.Lib.WordCmp

@[expose] public section

set_option maxRecDepth 16384

noncomputable section

namespace Cert.Fwd

open Idealize.ShloMosaic Cert.ForwardReferenceIdeal Cert.ForwardReferenceIdeal.Read
open Cert.Mla (Arr Finite row row_at sc ee ll ll_pos coe_sum sum_mul_coe div_real scale_word zero_word two_word neg_inf_word)

variable {x0 x1 : Arr 96} (f0 : Finite x0) (f1 : Finite x1)

theorem fold_at (f : Fin 8192 → EReal) (h : Fin 4) (t : Fin 8192)
    (hf : ∀ k, f k = if k.val ≤ t.val then ((sc x0 x1 h.val t.val k.val : ℝ) : EReal) else ⊥) :
    (Finset.univ : Finset (Fin 8192)).fold max ⊥ f = ((mr x0 x1 h.val t.val : ℝ) : EReal) := by
  refine le_antisymm (Finset.fold_max_le _ |>.2 ⟨bot_le, fun k _ => ?_⟩) ?_
  · rw [hf]
    split
    · exact EReal.coe_le_coe_iff.2 (sc_le x0 x1 ‹_›)
    · exact bot_le
  · obtain ⟨k, hk, e⟩ := sc_top x0 x1 h.val t.val
    refine Finset.le_fold_max _ |>.2 (Or.inr ⟨⟨k, by omega⟩, Finset.mem_univ _, ?_⟩)
    rw [hf, if_pos hk, e]

include f0 f1 in
theorem w2_at (h : Fin 4) (t k : Fin 8192) : val_main_v2 (F := Ideal) x0 x1 (ix3 h t k) = ((sc x0 x1 h.val t.val k.val : ℝ) : EReal) := by
  unfold val_main_v2 val_main_v0 val_main_v1 val_main_cst
  pointwise
  simp only [row_at f0, row_at f1, scale_word, sum_mul_coe, ← EReal.coe_mul]
  rfl

theorem w8_at (t k : Fin 8192) : val_main_v8 (F := Ideal) (ix2 t k) = if k.val ≤ t.val then 1#1 else 0#1 := by
  unfold val_main_v8 val_main_v6 val_main_v7 val_main_v4 val_main_v5 val_main_v3
  pointwise
  have hk := k.isLt
  have ht := t.isLt
  rw [WordCmp.cmpi_sle_ofNat (by omega) (by omega)]
  by_cases h : k.val ≤ t.val <;> simp [h]

include f0 f1 in
theorem w9_at (h : Fin 4) (t k : Fin 8192) : val_main_v9 (F := Ideal) x0 x1 (ix3 h t k)
    = if k.val ≤ t.val then ((sc x0 x1 h.val t.val k.val : ℝ) : EReal) else ⊥ := by
  unfold val_main_v9 val_main_call0_v1 val_main_call0_v2 val_main_call0_v0 val_main_cst_0
  pointwise
  rw [w8_at, w2_at f0 f1]
  by_cases hk : k.val ≤ t.val
  · rw [if_pos hk, if_pos hk]; rfl
  · rw [if_neg hk, if_neg hk]; exact neg_inf_word

theorem w28_eq : val_main_v28 (F := Ideal) x0 x1 = val_main_v9 (F := Ideal) x0 x1 := rfl

include f0 f1 in
theorem w10_at (h : Fin 4) (t : Fin 8192) : val_main_v10 (F := Ideal) x0 x1 (ix2 h t) = ((mr x0 x1 h.val t.val : ℝ) : EReal) := by
  unfold val_main_v10 val_main_cst_1
  pointwise
  rw [neg_inf_word]
  exact fold_at _ h t fun k => w9_at f0 f1 h t k

include f0 f1 in
theorem w31_at (h : Fin 4) (t : Fin 8192) : val_main_v31 (F := Ideal) x0 x1 (ix2 h t) = ((mr x0 x1 h.val t.val : ℝ) : EReal) := by
  have e : val_main_v29 (F := Ideal) x0 x1 = val_main_v10 (F := Ideal) x0 x1 := rfl
  rw [val_main_v31_apply, e, w10_at f0 f1, val_main_v30_apply, val_main_cst_6_apply, Ideal.ofBits_def, neg_inf_word]
  exact max_eq_right bot_le

include f0 f1 in
theorem w14_at (h : Fin 4) (t k : Fin 8192) : val_main_v14 (F := Ideal) x0 x1 (ix3 h t k) = ((ee x0 x1 (mr x0 x1) h.val t.val k.val : ℝ) : EReal) := by
  unfold val_main_v14 val_main_v13 val_main_v12 val_main_v11
  pointwise
  rw [w10_at f0 f1, w9_at f0 f1]
  unfold ee
  by_cases hk : k.val ≤ t.val
  · rw [if_pos hk, if_pos hk, ← EReal.coe_sub, Ideal.exp_coe]
  · rw [if_neg hk, if_neg hk, EReal.bot_sub, Ideal.exp_bot, EReal.coe_zero]

include f0 f1 in
theorem w35_at (h : Fin 4) (t k : Fin 8192) : val_main_v35 (F := Ideal) x0 x1 (ix3 h t k) = ((ee x0 x1 (mr x0 x1) h.val t.val k.val : ℝ) : EReal) := by
  unfold val_main_v35 val_main_v34 val_main_v33 val_main_v32
  rw [w28_eq]
  pointwise
  rw [w31_at f0 f1, w9_at f0 f1]
  unfold ee
  by_cases hk : k.val ≤ t.val
  · rw [if_pos hk, if_pos hk, ← EReal.coe_sub, Ideal.exp_coe]
  · rw [if_neg hk, if_neg hk, EReal.bot_sub, Ideal.exp_bot, EReal.coe_zero]

include f0 f1 in
theorem w16_at (h : Fin 4) (t : Fin 8192) (z : Fin 1) : val_main_v16 (F := Ideal) x0 x1 (ix3 h t z) = ((ll x0 x1 (mr x0 x1) h.val t.val : ℝ) : EReal) := by
  unfold val_main_v16 val_main_v15 val_main_cst_2
  pointwise
  simp only [w14_at f0 f1, zero_word, zero_add, coe_sum]
  rfl

include f0 f1 in
theorem w37_at (h : Fin 4) (t : Fin 8192) (z : Fin 1) : val_main_v37 (F := Ideal) x0 x1 (ix3 h t z) = ((ll x0 x1 (mr x0 x1) h.val t.val : ℝ) : EReal) := by
  unfold val_main_v37 val_main_v36 val_main_cst_7
  pointwise
  simp only [w35_at f0 f1, zero_word, zero_add, coe_sum]
  rfl

include f0 f1 in
theorem w39_at (h : Fin 4) (t k : Fin 8192) : val_main_v39 (F := Ideal) x0 x1 (ix3 h t k)
    = ((ee x0 x1 (mr x0 x1) h.val t.val k.val / ll x0 x1 (mr x0 x1) h.val t.val : ℝ) : EReal) := by
  unfold val_main_v39 val_main_v38
  pointwise
  rw [w35_at f0 f1, w37_at f0 f1]
  exact div_real _ _ (ll_pos _ _ _ _ t.isLt).ne'

include f0 f1 in
theorem w42_at (x2 : Arr 64) (h : Fin 4) (e : Fin 64) (t : Fin 8192) : val_main_v42 (F := Ideal) x0 x1 x2 (ix3 h e t)
    = ∑ k : Fin 8192, x2 (ix3 k h e) * ((ee x0 x1 (mr x0 x1) h.val t.val k.val / ll x0 x1 (mr x0 x1) h.val t.val : ℝ) : EReal) := by
  unfold val_main_v42 val_main_v41 val_main_v40
  pointwise
  simp only [w39_at f0 f1]

include f0 f1 in
theorem w11_at (h : Fin 4) (t : Fin 8192) (z : Fin 1) : val_main_v11 (F := Ideal) x0 x1 (ix3 h t z) = ((mr x0 x1 h.val t.val : ℝ) : EReal) := by
  unfold val_main_v11
  pointwise
  exact w10_at f0 f1 h t

include f0 f1 in
theorem w17_at (h : Fin 4) (t : Fin 8192) (z : Fin 1) : val_main_v17 (F := Ideal) x0 x1 (ix3 h t z) = ((Real.log (ll x0 x1 (mr x0 x1) h.val t.val) : ℝ) : EReal) := by
  change Ideal.log (val_main_v16 (F := Ideal) x0 x1 (ix3 h t z)) = _
  rw [w16_at f0 f1, Ideal.log_coe, if_neg (not_le.mpr (ll_pos x0 x1 (mr x0 x1) h.val t.isLt))]

theorem w44_at (i : S4x8192x1.Idx) : val_main_v44 (F := Ideal) i = ((Real.log 2 : ℝ) : EReal) := by
  change Ideal.log (Ideal.ofBits .f32 0x40000000#32) = _
  rw [two_word, Ideal.log_coe, if_neg (by norm_num)]

theorem quotient_at (a b w : Vec Ideal S4x8192x1 .f32) (i : S4x8192x1.Idx) :
    (Host.divf (addf (a : FVec Ideal S4x8192x1 .f32) b) w : FVec Ideal S4x8192x1 .f32) i = Ideal.div (a i + b i) (w i) := rfl

include f0 f1 in
theorem w45_at (h : Fin 4) (t : Fin 8192) (z : Fin 1) : val_main_v45 (F := Ideal) x0 x1 (ix3 h t z)
    = (((mr x0 x1 h.val t.val + Real.log (ll x0 x1 (mr x0 x1) h.val t.val)) / Real.log 2 : ℝ) : EReal) := by
  unfold val_main_v45 val_main_v18
  rw [quotient_at, w11_at f0 f1, w17_at f0 f1, w44_at, ← EReal.coe_add, div_real _ _ (Real.log_pos one_lt_two).ne']

theorem turned_at (p : S4x8192x1.Transposes [0, 2, 1] S4x1x8192) (a : Vec Ideal S4x8192x1 .f32) (h : Fin 4) (t : Fin 8192) (z : Fin 1) :
    transpose S4x1x8192 [0, 2, 1] a p (ix3 h z t) = a (ix3 h t z) := by
  obtain rfl : z = 0 := Subsingleton.elim _ _
  pointwise

include f0 f1 in
theorem w46_at (h : Fin 4) (t : Fin 8192) (z : Fin 1) : val_main_v46 (F := Ideal) x0 x1 (ix3 h z t)
    = (((mr x0 x1 h.val t.val + Real.log (ll x0 x1 (mr x0 x1) h.val t.val)) / Real.log 2 : ℝ) : EReal) := by
  unfold val_main_v46
  rw [turned_at, w45_at f0 f1]

end Cert.Fwd
-- ==== Proof.Fwd.Equal.lean ====
/- The call's results are the reference's, and the precondition says that the scores are real numbers. -/
module

public import proofs.«01_k».proof.Defs
public import proofs.«01_k».proof.Proof.Fwd.Host
public import proofs.«01_k».proof.Proof.Fwd.Ref
public import proofs.«01_k».proof.Proof.Mla.Finite

@[expose] public section

set_option maxRecDepth 16384

noncomputable section

namespace Cert.Fwd

open Idealize.ShloMosaic Idealize.SL.Sem Idealize.ShloMosaic.TcCoe
open Cert.ForwardReferenceIdeal.Read
open Cert.Mla (Arr Finite real_of_test)

variable {x0 x1 : Arr 96} {x2 : Arr 64} (f0 : Finite x0) (f1 : Finite x1)

include f0 f1 in
theorem go_eq : go (head x0 x1 x2) = val_main_v42 (F := Ideal) x0 x1 x2 := by
  funext y
  obtain ⟨h, e, t, rfl⟩ : ∃ (h : Fin 4) (e : Fin 64) (t : Fin 8192), y = ix3 h e t := ⟨y 0, y 1, y 2, eq_ix3 y⟩
  exact (outAt_eq x0 x1 x2 h t e).trans (w42_at f0 f1 x2 h e t).symm

include f0 f1 in
theorem gl_eq : gl (head x0 x1 x2) = val_main_v46 (F := Ideal) x0 x1 := by
  funext y
  obtain ⟨h, z, t, rfl⟩ : ∃ (h : Fin 4) (z : Fin 1) (t : Fin 8192), y = ix3 h z t := ⟨y 0, y 1, y 2, eq_ix3 y⟩
  exact (lsAt_eq x0 x1 x2 h t).trans (w46_at f0 f1 h t z).symm

theorem pre_facts : Cert.Pre_finite_scores.Facts := by
  constructor <;> decide

variable {m : (ℓ : Loc Cert.ForwardIdeal.nD Cert.ForwardIdeal.τ Cert.ForwardIdeal.sig) → Buf (Elt Ideal) ℓ}

theorem finite_args (h : Cert.Pre_ForwardIdeal_finite_scores (hPre_finite_scores := pre_facts) m) (c : Dev Cert.ForwardIdeal.nD) :
    Finite (b0 m c) ∧ Finite (b1 m c) := by
  obtain ⟨h0, h1⟩ := h c
  exact ⟨fun i => real_of_test _ (congrFun h0 i), fun i => real_of_test _ (congrFun h1 i)⟩

end Cert.Fwd
-- ==== Proof.Proj.Cols.lean ====
/- Columns side by side, and their two orders. -/
module

public import Idealize.ShloMosaic.Lib.Pointwise
public import Idealize.ShloMosaic.Lib.Claim

@[expose] public section

set_option maxRecDepth 16384

noncomputable section

namespace Cert.Proj

/-- Pieces side by side, from a place on: each a width and its columns. -/
def cat : ℕ → List (ℕ × (ℕ → EReal)) → ℕ → EReal
  | _, [], _ => 0
  | o, (w, f) :: l, c => if c < o + w then f (c - o) else cat (o + w) l c

/-- The twelve pieces in the weight's own order. -/
def orig (f : Fin 12 → ℕ → EReal) : ℕ → EReal :=
  cat 0 [(256, f 0), (256, f 1), (256, f 2), (4, f 3), (256, f 4), (256, f 5), (256, f 6), (256, f 7), (128, f 8), (32, f 9), (256, f 10), (1024, f 11)]

/-- The twelve pieces in the call's order: the wide ones, the two narrow ones, zeros. -/
def perm (f : Fin 12 → ℕ → EReal) : ℕ → EReal :=
  cat 0 [(256, f 0), (256, f 1), (256, f 2), (256, f 4), (256, f 5), (256, f 6), (256, f 7), (128, f 8), (256, f 10), (1024, f 11), (32, f 9), (4, f 3), (92, fun _ => 0)]

/-- A call's column, among the weight's. -/
def col (c : ℕ) : ℕ :=
  if c < 768 then c else if c < 1920 then c + 4 else if c < 3200 then c + 36 else if c < 3232 then c - 1276 else c - 2464

/-- A weight's column, among the call's. -/
def loc (d : ℕ) : ℕ :=
  if d < 768 then d else if d < 772 then d + 2464 else if d < 1924 then d - 4 else if d < 1956 then d + 1276 else d - 36

theorem col_lt {c : ℕ} (h : c < 3236) : col c < 3236 := by unfold col; split_ifs <;> omega
theorem loc_lt {d : ℕ} (h : d < 3236) : loc d < 3236 := by unfold loc; split_ifs <;> omega
theorem loc_col {c : ℕ} (h : c < 3236) : loc (col c) = c := by unfold loc col; split_ifs <;> omega
theorem col_loc {d : ℕ} (h : d < 3236) : col (loc d) = d := by unfold loc col; split_ifs <;> omega

theorem cat_take {o w : ℕ} {f : ℕ → EReal} {l : List (ℕ × (ℕ → EReal))} {c : ℕ} (h : c < o + w) : cat o ((w, f) :: l) c = f (c - o) := if_pos h
theorem cat_skip {o w : ℕ} {f : ℕ → EReal} {l : List (ℕ × (ℕ → EReal))} {c : ℕ} (h : o + w ≤ c) : cat o ((w, f) :: l) c = cat (o + w) l c := if_neg (by omega)

theorem seg0 (f : Fin 12 → ℕ → EReal) (c : ℕ) (h : 0 ≤ c) (h' : c < 256) : perm f c = orig f (col c) := by
  have e : col c = c := by unfold col; split_ifs <;> omega
  rw [e]
  unfold perm orig
  simp (disch := omega) only [cat_take, cat_skip]
  try exact congrArg _ (by omega)

theorem seg1 (f : Fin 12 → ℕ → EReal) (c : ℕ) (h : 256 ≤ c) (h' : c < 512) : perm f c = orig f (col c) := by
  have e : col c = c := by unfold col; split_ifs <;> omega
  rw [e]
  unfold perm orig
  simp (disch := omega) only [cat_take, cat_skip]
  try exact congrArg _ (by omega)

theorem seg2 (f : Fin 12 → ℕ → EReal) (c : ℕ) (h : 512 ≤ c) (h' : c < 768) : perm f c = orig f (col c) := by
  have e : col c = c := by unfold col; split_ifs <;> omega
  rw [e]
  unfold perm orig
  simp (disch := omega) only [cat_take, cat_skip]
  try exact congrArg _ (by omega)

theorem seg3 (f : Fin 12 → ℕ → EReal) (c : ℕ) (h : 768 ≤ c) (h' : c < 1024) : perm f c = orig f (col c) := by
  have e : col c = c + 4 := by unfold col; split_ifs <;> omega
  rw [e]
  unfold perm orig
  simp (disch := omega) only [cat_take, cat_skip]
  try exact congrArg _ (by omega)

theorem seg4 (f : Fin 12 → ℕ → EReal) (c : ℕ) (h : 1024 ≤ c) (h' : c < 1280) : perm f c = orig f (col c) := by
  have e : col c = c + 4 := by unfold col; split_ifs <;> omega
  rw [e]
  unfold perm orig
  simp (disch := omega) only [cat_take, cat_skip]
  try exact congrArg _ (by omega)

theorem seg5 (f : Fin 12 → ℕ → EReal) (c : ℕ) (h : 1280 ≤ c) (h' : c < 1536) : perm f c = orig f (col c) := by
  have e : col c = c + 4 := by unfold col; split_ifs <;> omega
  rw [e]
  unfold perm orig
  simp (disch := omega) only [cat_take, cat_skip]
  try exact congrArg _ (by omega)

theorem seg6 (f : Fin 12 → ℕ → EReal) (c : ℕ) (h : 1536 ≤ c) (h' : c < 1792) : perm f c = orig f (col c) := by
  have e : col c = c + 4 := by unfold col; split_ifs <;> omega
  rw [e]
  unfold perm orig
  simp (disch := omega) only [cat_take, cat_skip]
  try exact congrArg _ (by omega)

theorem seg7 (f : Fin 12 → ℕ → EReal) (c : ℕ) (h : 1792 ≤ c) (h' : c < 1920) : perm f c = orig f (col c) := by
  have e : col c = c + 4 := by unfold col; split_ifs <;> omega
  rw [e]
  unfold perm orig
  simp (disch := omega) only [cat_take, cat_skip]
  try exact congrArg _ (by omega)

theorem seg8 (f : Fin 12 → ℕ → EReal) (c : ℕ) (h : 1920 ≤ c) (h' : c < 2176) : perm f c = orig f (col c) := by
  have e : col c = c + 36 := by unfold col; split_ifs <;> omega
  rw [e]
  unfold perm orig
  simp (disch := omega) only [cat_take, cat_skip]
  try exact congrArg _ (by omega)

theorem seg9 (f : Fin 12 → ℕ → EReal) (c : ℕ) (h : 2176 ≤ c) (h' : c < 3200) : perm f c = orig f (col c) := by
  have e : col c = c + 36 := by unfold col; split_ifs <;> omega
  rw [e]
  unfold perm orig
  simp (disch := omega) only [cat_take, cat_skip]
  try exact congrArg _ (by omega)

theorem seg10 (f : Fin 12 → ℕ → EReal) (c : ℕ) (h : 3200 ≤ c) (h' : c < 3232) : perm f c = orig f (col c) := by
  have e : col c = c - 1276 := by unfold col; split_ifs <;> omega
  rw [e]
  unfold perm orig
  simp (disch := omega) only [cat_take, cat_skip]
  try exact congrArg _ (by omega)

theorem seg11 (f : Fin 12 → ℕ → EReal) (c : ℕ) (h : 3232 ≤ c) (h' : c < 3236) : perm f c = orig f (col c) := by
  have e : col c = c - 2464 := by unfold col; split_ifs <;> omega
  rw [e]
  unfold perm orig
  simp (disch := omega) only [cat_take, cat_skip]
  try exact congrArg _ (by omega)

/-- The one order from the other. -/
theorem perm_eq (f : Fin 12 → ℕ → EReal) (c : ℕ) (hc : c < 3328) : perm f c = if c < 3236 then orig f (col c) else 0 := by
  by_cases h0 : c < 256
  · rw [if_pos (by omega)]
    exact seg0 f c (by omega) h0
  by_cases h1 : c < 512
  · rw [if_pos (by omega)]
    exact seg1 f c (by omega) h1
  by_cases h2 : c < 768
  · rw [if_pos (by omega)]
    exact seg2 f c (by omega) h2
  by_cases h3 : c < 1024
  · rw [if_pos (by omega)]
    exact seg3 f c (by omega) h3
  by_cases h4 : c < 1280
  · rw [if_pos (by omega)]
    exact seg4 f c (by omega) h4
  by_cases h5 : c < 1536
  · rw [if_pos (by omega)]
    exact seg5 f c (by omega) h5
  by_cases h6 : c < 1792
  · rw [if_pos (by omega)]
    exact seg6 f c (by omega) h6
  by_cases h7 : c < 1920
  · rw [if_pos (by omega)]
    exact seg7 f c (by omega) h7
  by_cases h8 : c < 2176
  · rw [if_pos (by omega)]
    exact seg8 f c (by omega) h8
  by_cases h9 : c < 3200
  · rw [if_pos (by omega)]
    exact seg9 f c (by omega) h9
  by_cases h10 : c < 3232
  · rw [if_pos (by omega)]
    exact seg10 f c (by omega) h10
  by_cases h11 : c < 3236
  · rw [if_pos (by omega)]
    exact seg11 f c (by omega) h11
  rw [if_neg (by omega)]
  unfold perm
  simp (disch := omega) only [cat_take, cat_skip]

/-- The columns' bijection. -/
def colEquiv : Fin 3236 ≃ Fin 3236 where
  toFun c := ⟨col c.val, col_lt c.isLt⟩
  invFun d := ⟨loc d.val, loc_lt d.isLt⟩
  left_inv c := Fin.ext (loc_col c.isLt)
  right_inv d := Fin.ext (col_loc d.isLt)

/-- A sum over the call's columns is the sum over the weight's. -/
theorem sum_perm (f g : Fin 12 → ℕ → EReal) :
    ∑ c : Fin 3328, perm f c.val * perm g c.val = ∑ d : Fin 3236, orig f d.val * orig g d.val := by
  have h := Fin.sum_univ_add (a := 3236) (b := 92) (fun c : Fin (3236 + 92) => perm f c.val * perm g c.val)
  refine h.trans ?_
  have e1 : ∀ i : Fin 3236, perm f (Fin.castAdd 92 i).val * perm g (Fin.castAdd 92 i).val = orig f (colEquiv i).val * orig g (colEquiv i).val := by
    intro i
    have hi := i.isLt
    rw [perm_eq _ _ (by rw [Fin.val_castAdd]; omega), perm_eq _ _ (by rw [Fin.val_castAdd]; omega), Fin.val_castAdd, if_pos hi, if_pos hi]
    rfl
  have e2 : ∀ i : Fin 92, perm f (Fin.natAdd 3236 i).val * perm g (Fin.natAdd 3236 i).val = 0 := by
    intro i
    have hi := i.isLt
    rw [perm_eq _ _ (by rw [Fin.val_natAdd]; omega), if_neg (by rw [Fin.val_natAdd]; omega), zero_mul]
  rw [Finset.sum_congr rfl fun i _ => e1 i, Finset.sum_congr rfl fun i _ => e2 i, Finset.sum_const_zero, add_zero]
  exact Equiv.sum_comp colEquiv fun d : Fin 3236 => orig f d.val * orig g d.val

/-- Pieces side by side: each place counted from its piece's first column. -/
def lad : List (ℕ × (ℕ → EReal)) → ℕ → EReal
  | [], _ => 0
  | (w, f) :: l, c => if c < w then f c else lad l (c - w)

theorem cat_lad (l : List (ℕ × (ℕ → EReal))) : ∀ o c : ℕ, o ≤ c → cat o l c = lad l (c - o) := by
  induction l with
  | nil => intro o c _; rfl
  | cons p l ih =>
    intro o c h
    obtain ⟨w, f⟩ := p
    by_cases hc : c < o + w
    · rw [cat_take hc]
      exact (if_pos (by omega : c - o < w)).symm
    · rw [cat_skip (by omega), ih _ _ (by omega), ← Nat.sub_sub]
      exact (if_neg (by omega : ¬ c - o < w)).symm

theorem perm_lad (f : Fin 12 → ℕ → EReal) (c : ℕ) :
    perm f c = lad [(256, f 0), (256, f 1), (256, f 2), (256, f 4), (256, f 5), (256, f 6), (256, f 7), (128, f 8), (256, f 10), (1024, f 11), (32, f 9), (4, f 3), (92, fun _ => 0)] c :=
  cat_lad _ 0 c (Nat.zero_le c)

theorem orig_lad (f : Fin 12 → ℕ → EReal) (c : ℕ) :
    orig f c = lad [(256, f 0), (256, f 1), (256, f 2), (4, f 3), (256, f 4), (256, f 5), (256, f 6), (256, f 7), (128, f 8), (32, f 9), (256, f 10), (1024, f 11)] c :=
  cat_lad _ 0 c (Nat.zero_le c)

/-- One piece of a concatenation. -/
theorem lad_cons {C : ℕ} {g : Fin C → EReal} {f : ℕ → EReal} (hg : ∀ k : Fin C, g k = f k.val) {n : ℕ} {l : List (ℕ × (ℕ → EReal))}
    {R : ¬ n < C → EReal} (h : ∀ hn : ¬ n < C, R hn = lad l (n - C)) :
    (if h : n < C then g ⟨n, h⟩ else R h) = lad ((C, f) :: l) n := by
  by_cases hn : n < C
  · rw [dif_pos hn, hg]
    exact (if_pos hn).symm
  · rw [dif_neg hn, h hn]
    exact (if_neg hn).symm

/-- The last piece. -/
theorem lad_last {C : ℕ} {g : Fin C → EReal} {f : ℕ → EReal} (hg : ∀ k : Fin C, g k = f k.val) {n : ℕ} (hn : n < C) {l : List (ℕ × (ℕ → EReal))} :
    g ⟨n, hn⟩ = lad ((C, f) :: l) n := (hg ⟨n, hn⟩).trans (if_pos hn).symm

/-- A row by number. -/
def nat {C : ℕ} (g : Fin C → EReal) (n : ℕ) : EReal := if h : n < C then g ⟨n, h⟩ else 0

theorem nat_val {C : ℕ} (g : Fin C → EReal) (k : Fin C) : g k = nat g k.val := by
  unfold nat
  rw [dif_pos k.isLt]
theorem nat_lt {C : ℕ} (g : Fin C → EReal) {n : ℕ} (h : n < C) : nat g n = g ⟨n, h⟩ := dif_pos h

/-- Where a piece starts in the weight. -/
def off : Fin 12 → ℕ := ![0, 256, 512, 768, 772, 1028, 1284, 1540, 1796, 1924, 1956, 2212]

theorem whole0 (g : ℕ → EReal) (d : ℕ) (h : 0 ≤ d) (h' : d < 256) : orig (fun j n => g (off j + n)) d = g d := by
  unfold orig
  simp (disch := omega) only [cat_take, cat_skip]
  exact congrArg g (by show 0 + (d - 0) = d; omega)

theorem whole1 (g : ℕ → EReal) (d : ℕ) (h : 256 ≤ d) (h' : d < 512) : orig (fun j n => g (off j + n)) d = g d := by
  unfold orig
  simp (disch := omega) only [cat_take, cat_skip]
  exact congrArg g (by show 256 + (d - 256) = d; omega)

theorem whole2 (g : ℕ → EReal) (d : ℕ) (h : 512 ≤ d) (h' : d < 768) : orig (fun j n => g (off j + n)) d = g d := by
  unfold orig
  simp (disch := omega) only [cat_take, cat_skip]
  exact congrArg g (by show 512 + (d - 512) = d; omega)

theorem whole3 (g : ℕ → EReal) (d : ℕ) (h : 768 ≤ d) (h' : d < 772) : orig (fun j n => g (off j + n)) d = g d := by
  unfold orig
  simp (disch := omega) only [cat_take, cat_skip]
  exact congrArg g (by show 768 + (d - 768) = d; omega)

theorem whole4 (g : ℕ → EReal) (d : ℕ) (h : 772 ≤ d) (h' : d < 1028) : orig (fun j n => g (off j + n)) d = g d := by
  unfold orig
  simp (disch := omega) only [cat_take, cat_skip]
  exact congrArg g (by show 772 + (d - 772) = d; omega)

theorem whole5 (g : ℕ → EReal) (d : ℕ) (h : 1028 ≤ d) (h' : d < 1284) : orig (fun j n => g (off j + n)) d = g d := by
  unfold orig
  simp (disch := omega) only [cat_take, cat_skip]
  exact congrArg g (by show 1028 + (d - 1028) = d; omega)

theorem whole6 (g : ℕ → EReal) (d : ℕ) (h : 1284 ≤ d) (h' : d < 1540) : orig (fun j n => g (off j + n)) d = g d := by
  unfold orig
  simp (disch := omega) only [cat_take, cat_skip]
  exact congrArg g (by show 1284 + (d - 1284) = d; omega)

theorem whole7 (g : ℕ → EReal) (d : ℕ) (h : 1540 ≤ d) (h' : d < 1796) : orig (fun j n => g (off j + n)) d = g d := by
  unfold orig
  simp (disch := omega) only [cat_take, cat_skip]
  exact congrArg g (by show 1540 + (d - 1540) = d; omega)

theorem whole8 (g : ℕ → EReal) (d : ℕ) (h : 1796 ≤ d) (h' : d < 1924) : orig (fun j n => g (off j + n)) d = g d := by
  unfold orig
  simp (disch := omega) only [cat_take, cat_skip]
  exact congrArg g (by show 1796 + (d - 1796) = d; omega)

theorem whole9 (g : ℕ → EReal) (d : ℕ) (h : 1924 ≤ d) (h' : d < 1956) : orig (fun j n => g (off j + n)) d = g d := by
  unfold orig
  simp (disch := omega) only [cat_take, cat_skip]
  exact congrArg g (by show 1924 + (d - 1924) = d; omega)

theorem whole10 (g : ℕ → EReal) (d : ℕ) (h : 1956 ≤ d) (h' : d < 2212) : orig (fun j n => g (off j + n)) d = g d := by
  unfold orig
  simp (disch := omega) only [cat_take, cat_skip]
  exact congrArg g (by show 1956 + (d - 1956) = d; omega)

theorem whole11 (g : ℕ → EReal) (d : ℕ) (h : 2212 ≤ d) (h' : d < 3236) : orig (fun j n => g (off j + n)) d = g d := by
  unfold orig
  simp (disch := omega) only [cat_take, cat_skip]
  exact congrArg g (by show 2212 + (d - 2212) = d; omega)

/-- Cut into the pieces and put back together. -/
theorem orig_whole (g : ℕ → EReal) (d : ℕ) (h : d < 3236) : orig (fun j n => g (off j + n)) d = g d := by
  by_cases h0 : d < 256
  · exact whole0 g d (by omega) h0
  by_cases h1 : d < 512
  · exact whole1 g d (by omega) h1
  by_cases h2 : d < 768
  · exact whole2 g d (by omega) h2
  by_cases h3 : d < 772
  · exact whole3 g d (by omega) h3
  by_cases h4 : d < 1028
  · exact whole4 g d (by omega) h4
  by_cases h5 : d < 1284
  · exact whole5 g d (by omega) h5
  by_cases h6 : d < 1540
  · exact whole6 g d (by omega) h6
  by_cases h7 : d < 1796
  · exact whole7 g d (by omega) h7
  by_cases h8 : d < 1924
  · exact whole8 g d (by omega) h8
  by_cases h9 : d < 1956
  · exact whole9 g d (by omega) h9
  by_cases h10 : d < 2212
  · exact whole10 g d (by omega) h10
  exact whole11 g d (by omega) h

end Cert.Proj

end
-- ==== Proof.Proj.DxPoint.lean ====
/- What one grid point of the input gradient's call stores. -/
module

public import proofs.«01_k».proof.Proof.Gen.DxIdeal.Value
public import proofs.«01_k».proof.Proof.Proj.Cols
public import Idealize.ShloMosaic.Lib.Pipeline.ValueKit
public import Idealize.ShloMosaic.Lib.VecWindow

@[expose] public section

set_option maxRecDepth 16384

noncomputable section

namespace Cert.Proj.Dx

open Idealize.ShloMosaic Idealize.SL.Sem Idealize.ShloMosaic.TcCoe
open Cert.DxIdeal Cert.DxIdeal.Gen

section
variable (c : Dev nD) (i : grid0.Coords) (arg1 : Memref sig .tc .vmem S512x256 .bf16) (harg1 : arg1.IsWhole) (arg2 : Memref sig .tc .vmem S512x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S512x256 .bf16) (harg6 : arg6.IsWhole) (arg7 : Memref sig .tc .vmem S512x256 .f32) (harg7 : arg7.IsWhole) (arg8 : Memref sig .tc .vmem S512x128 .f32) (harg8 : arg8.IsWhole) (arg9 : Memref sig .tc .vmem S512x256 .bf16) (harg9 : arg9.IsWhole) (arg10 : Memref sig .tc .vmem S512x1024 .f32) (harg10 : arg10.IsWhole) (arg11 : Memref sig .tc .vmem S512x128 .bf16) (harg11 : arg11.IsWhole) (arg12 : Memref sig .tc .vmem S1024x3328 .bf16) (harg12 : arg12.IsWhole) (arg13 : Memref sig .tc .vmem S512x1024 .f32) (harg13 : arg13.IsWhole) (arg14 : Memref sig .tc .vmem S512x3328 .bf16) (harg14 : arg14.IsWhole) (x0 : Vec Ideal S512x256 .bf16) (x1 : Vec Ideal S512x256 .bf16) (x2 : Vec Ideal S512x256 .bf16) (x3 : Vec Ideal S512x256 .bf16) (x4 : Vec Ideal S512x256 .bf16) (x5 : Vec Ideal S512x256 .bf16) (x6 : Vec Ideal S512x256 .f32) (x7 : Vec Ideal S512x128 .f32) (x8 : Vec Ideal S512x256 .bf16) (x9 : Vec Ideal S512x1024 .f32) (x10 : Vec Ideal S512x128 .bf16) (x11 : Vec Ideal S1024x3328 .bf16)

theorem out13_eq : out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 = k0_pay1 x0 x1 x2 x3 x4 x5 x6 x7 x8 x9 x10 := by
  unfold out0_A_13 kernelRun0_A
  dsimp only
  unfold kernelRun0_A.sl.H13_1
  rw [View.read_writes_full]
  repeat rw [View.readAt_full]
  repeat rw [Memref.IsWhole.read_unread]

theorem out12_eq : out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 = k0_pay2 (k0_pay1 x0 x1 x2 x3 x4 x5 x6 x7 x8 x9 x10) x11 := by
  unfold out0_A_12 kernelRun0_A
  dsimp only
  rw [View.read_writes_full]
  unfold kernelRun0_A.sl.r
  rw [View.readAt_full, Memref.IsWhole.read_unread]
  congr 1
  unfold kernelRun0_A.sl.v24 kernelRun0_A.sl.H13_1
  rw [View.readCov_full]
  repeat rw [View.readAt_full]
  repeat rw [Memref.IsWhole.read_unread]

/-- The pieces side by side, at a place. -/
theorem pay1_apply (f : Fin 12 → ℕ → EReal) (q : Fin 512) (h0 : ∀ k, x0 (ix2 q k) = f 0 k.val) (h1 : ∀ k, x1 (ix2 q k) = f 1 k.val) (h2 : ∀ k, x2 (ix2 q k) = f 2 k.val) (h3 : ∀ k, x3 (ix2 q k) = f 4 k.val) (h4 : ∀ k, x4 (ix2 q k) = f 5 k.val) (h5 : ∀ k, x5 (ix2 q k) = f 6 k.val) (h6 : ∀ k, x6 (ix2 q k) = f 7 k.val) (h7 : ∀ k, x7 (ix2 q k) = f 8 k.val) (h8 : ∀ k, x8 (ix2 q k) = f 10 k.val) (h9 : ∀ k, x9 (ix2 q k) = f 11 k.val)
    (h10 : ∀ k, x10 (ix2 q k) = lad [(32, f 9), (4, f 3), (92, fun _ => 0)] k.val) (n : Fin 3328) : k0_pay1 x0 x1 x2 x3 x4 x5 x6 x7 x8 x9 x10 (ix2 q n) = perm f n.val := by
  have hn := n.isLt
  rw [perm_lad]
  pointwise [k0_pay1]
  refine lad_cons (g := fun k => x0 (ix2 q k)) h0 fun n0 => ?_
  refine lad_cons (g := fun k => x1 (ix2 q k)) h1 fun n1 => ?_
  refine lad_cons (g := fun k => x2 (ix2 q k)) h2 fun n2 => ?_
  refine lad_cons (g := fun k => x3 (ix2 q k)) h3 fun n3 => ?_
  refine lad_cons (g := fun k => x4 (ix2 q k)) h4 fun n4 => ?_
  refine lad_cons (g := fun k => x5 (ix2 q k)) h5 fun n5 => ?_
  refine lad_cons (g := fun k => x6 (ix2 q k)) h6 fun n6 => ?_
  refine lad_cons (g := fun k => x7 (ix2 q k)) h7 fun n7 => ?_
  refine lad_cons (g := fun k => x8 (ix2 q k)) h8 fun n8 => ?_
  refine lad_cons (g := fun k => x9 (ix2 q k)) h9 fun n9 => ?_
  exact h10 ⟨_, by omega⟩

theorem pay2_apply (a : Vec Ideal S512x3328 .bf16) (b : Vec Ideal S1024x3328 .bf16) (q : Fin 512) (n : Fin 1024) : k0_pay2 a b (ix2 q n) = ∑ k : Fin 3328, a (ix2 q k) * b (ix2 n k) := by
  pointwise [k0_pay2]

end

end Cert.Proj.Dx

end
-- ==== Proof.Proj.Cat.lean ====
/- Concatenated columns, at a place. -/
module

public import proofs.«01_k».proof.Proof.Proj.Cols
public import Idealize.ShloMosaic.Lib.Pipeline.ValueKit

@[expose] public section

set_option maxRecDepth 16384

noncomputable section

namespace Cert.Proj

open Idealize.ShloMosaic Idealize.SL.Sem

/-- A matrix. -/
abbrev M (R C : ℕ) : Type := (⟨2, ![R, C]⟩ : Shape).Idx → EReal

variable {R : ℕ}

/-- The twelve pieces and the zeros, in the call's order. -/
theorem cat_call_1024 (f : Fin 12 → ℕ → EReal) (r : Fin 1024) (y0 : M 1024 256) (y1 : M 1024 256) (y2 : M 1024 256) (y3 : M 1024 4) (y4 : M 1024 256) (y5 : M 1024 256) (y6 : M 1024 256) (y7 : M 1024 256) (y8 : M 1024 128) (y9 : M 1024 32) (y10 : M 1024 256) (y11 : M 1024 1024) (z : M 1024 92)
    (h0 : ∀ k, y0 (ix2 r k) = f 0 k.val) (h1 : ∀ k, y1 (ix2 r k) = f 1 k.val) (h2 : ∀ k, y2 (ix2 r k) = f 2 k.val) (h3 : ∀ k, y3 (ix2 r k) = f 3 k.val) (h4 : ∀ k, y4 (ix2 r k) = f 4 k.val) (h5 : ∀ k, y5 (ix2 r k) = f 5 k.val) (h6 : ∀ k, y6 (ix2 r k) = f 6 k.val) (h7 : ∀ k, y7 (ix2 r k) = f 7 k.val) (h8 : ∀ k, y8 (ix2 r k) = f 8 k.val) (h9 : ∀ k, y9 (ix2 r k) = f 9 k.val) (h10 : ∀ k, y10 (ix2 r k) = f 10 k.val) (h11 : ∀ k, y11 (ix2 r k) = f 11 k.val) (hz : ∀ k, z (ix2 r k) = 0)
    (h : Shape.Concatenates [(⟨2, ![1024, 256]⟩ : Shape), (⟨2, ![1024, 256]⟩ : Shape), (⟨2, ![1024, 256]⟩ : Shape), (⟨2, ![1024, 256]⟩ : Shape), (⟨2, ![1024, 256]⟩ : Shape), (⟨2, ![1024, 256]⟩ : Shape), (⟨2, ![1024, 256]⟩ : Shape), (⟨2, ![1024, 128]⟩ : Shape), (⟨2, ![1024, 256]⟩ : Shape), (⟨2, ![1024, 1024]⟩ : Shape), (⟨2, ![1024, 32]⟩ : Shape), (⟨2, ![1024, 4]⟩ : Shape), (⟨2, ![1024, 92]⟩ : Shape)] (⟨2, ![1024, 3328]⟩ : Shape) 1) (n : Fin 3328) :
    concatenate (⟨2, ![1024, 3328]⟩ : Shape) 1 [⟨(⟨2, ![1024, 256]⟩ : Shape), y0⟩, ⟨(⟨2, ![1024, 256]⟩ : Shape), y1⟩, ⟨(⟨2, ![1024, 256]⟩ : Shape), y2⟩, ⟨(⟨2, ![1024, 256]⟩ : Shape), y4⟩, ⟨(⟨2, ![1024, 256]⟩ : Shape), y5⟩, ⟨(⟨2, ![1024, 256]⟩ : Shape), y6⟩, ⟨(⟨2, ![1024, 256]⟩ : Shape), y7⟩, ⟨(⟨2, ![1024, 128]⟩ : Shape), y8⟩, ⟨(⟨2, ![1024, 256]⟩ : Shape), y10⟩, ⟨(⟨2, ![1024, 1024]⟩ : Shape), y11⟩, ⟨(⟨2, ![1024, 32]⟩ : Shape), y9⟩, ⟨(⟨2, ![1024, 4]⟩ : Shape), y3⟩, ⟨(⟨2, ![1024, 92]⟩ : Shape), z⟩] h (ix2 r n) = perm f n.val := by
  have hn := n.isLt
  rw [perm_lad]
  pointwise
  refine lad_cons (g := fun k => y0 (ix2 r k)) h0 fun n0 => ?_
  refine lad_cons (g := fun k => y1 (ix2 r k)) h1 fun n1 => ?_
  refine lad_cons (g := fun k => y2 (ix2 r k)) h2 fun n2 => ?_
  refine lad_cons (g := fun k => y4 (ix2 r k)) h4 fun n4 => ?_
  refine lad_cons (g := fun k => y5 (ix2 r k)) h5 fun n5 => ?_
  refine lad_cons (g := fun k => y6 (ix2 r k)) h6 fun n6 => ?_
  refine lad_cons (g := fun k => y7 (ix2 r k)) h7 fun n7 => ?_
  refine lad_cons (g := fun k => y8 (ix2 r k)) h8 fun n8 => ?_
  refine lad_cons (g := fun k => y10 (ix2 r k)) h10 fun n10 => ?_
  refine lad_cons (g := fun k => y11 (ix2 r k)) h11 fun n11 => ?_
  refine lad_cons (g := fun k => y9 (ix2 r k)) h9 fun n9 => ?_
  refine lad_cons (g := fun k => y3 (ix2 r k)) h3 fun n3 => ?_
  exact lad_last (g := fun k => z (ix2 r k)) (f := fun _ => 0) hz (by omega)

/-- The twelve pieces and the zeros, in the call's order. -/
theorem cat_call_8192 (f : Fin 12 → ℕ → EReal) (r : Fin 8192) (y0 : M 8192 256) (y1 : M 8192 256) (y2 : M 8192 256) (y3 : M 8192 4) (y4 : M 8192 256) (y5 : M 8192 256) (y6 : M 8192 256) (y7 : M 8192 256) (y8 : M 8192 128) (y9 : M 8192 32) (y10 : M 8192 256) (y11 : M 8192 1024) (z : M 8192 92)
    (h0 : ∀ k, y0 (ix2 r k) = f 0 k.val) (h1 : ∀ k, y1 (ix2 r k) = f 1 k.val) (h2 : ∀ k, y2 (ix2 r k) = f 2 k.val) (h3 : ∀ k, y3 (ix2 r k) = f 3 k.val) (h4 : ∀ k, y4 (ix2 r k) = f 4 k.val) (h5 : ∀ k, y5 (ix2 r k) = f 5 k.val) (h6 : ∀ k, y6 (ix2 r k) = f 6 k.val) (h7 : ∀ k, y7 (ix2 r k) = f 7 k.val) (h8 : ∀ k, y8 (ix2 r k) = f 8 k.val) (h9 : ∀ k, y9 (ix2 r k) = f 9 k.val) (h10 : ∀ k, y10 (ix2 r k) = f 10 k.val) (h11 : ∀ k, y11 (ix2 r k) = f 11 k.val) (hz : ∀ k, z (ix2 r k) = 0)
    (h : Shape.Concatenates [(⟨2, ![8192, 256]⟩ : Shape), (⟨2, ![8192, 256]⟩ : Shape), (⟨2, ![8192, 256]⟩ : Shape), (⟨2, ![8192, 256]⟩ : Shape), (⟨2, ![8192, 256]⟩ : Shape), (⟨2, ![8192, 256]⟩ : Shape), (⟨2, ![8192, 256]⟩ : Shape), (⟨2, ![8192, 128]⟩ : Shape), (⟨2, ![8192, 256]⟩ : Shape), (⟨2, ![8192, 1024]⟩ : Shape), (⟨2, ![8192, 32]⟩ : Shape), (⟨2, ![8192, 4]⟩ : Shape), (⟨2, ![8192, 92]⟩ : Shape)] (⟨2, ![8192, 3328]⟩ : Shape) 1) (n : Fin 3328) :
    concatenate (⟨2, ![8192, 3328]⟩ : Shape) 1 [⟨(⟨2, ![8192, 256]⟩ : Shape), y0⟩, ⟨(⟨2, ![8192, 256]⟩ : Shape), y1⟩, ⟨(⟨2, ![8192, 256]⟩ : Shape), y2⟩, ⟨(⟨2, ![8192, 256]⟩ : Shape), y4⟩, ⟨(⟨2, ![8192, 256]⟩ : Shape), y5⟩, ⟨(⟨2, ![8192, 256]⟩ : Shape), y6⟩, ⟨(⟨2, ![8192, 256]⟩ : Shape), y7⟩, ⟨(⟨2, ![8192, 128]⟩ : Shape), y8⟩, ⟨(⟨2, ![8192, 256]⟩ : Shape), y10⟩, ⟨(⟨2, ![8192, 1024]⟩ : Shape), y11⟩, ⟨(⟨2, ![8192, 32]⟩ : Shape), y9⟩, ⟨(⟨2, ![8192, 4]⟩ : Shape), y3⟩, ⟨(⟨2, ![8192, 92]⟩ : Shape), z⟩] h (ix2 r n) = perm f n.val := by
  have hn := n.isLt
  rw [perm_lad]
  pointwise
  refine lad_cons (g := fun k => y0 (ix2 r k)) h0 fun n0 => ?_
  refine lad_cons (g := fun k => y1 (ix2 r k)) h1 fun n1 => ?_
  refine lad_cons (g := fun k => y2 (ix2 r k)) h2 fun n2 => ?_
  refine lad_cons (g := fun k => y4 (ix2 r k)) h4 fun n4 => ?_
  refine lad_cons (g := fun k => y5 (ix2 r k)) h5 fun n5 => ?_
  refine lad_cons (g := fun k => y6 (ix2 r k)) h6 fun n6 => ?_
  refine lad_cons (g := fun k => y7 (ix2 r k)) h7 fun n7 => ?_
  refine lad_cons (g := fun k => y8 (ix2 r k)) h8 fun n8 => ?_
  refine lad_cons (g := fun k => y10 (ix2 r k)) h10 fun n10 => ?_
  refine lad_cons (g := fun k => y11 (ix2 r k)) h11 fun n11 => ?_
  refine lad_cons (g := fun k => y9 (ix2 r k)) h9 fun n9 => ?_
  refine lad_cons (g := fun k => y3 (ix2 r k)) h3 fun n3 => ?_
  exact lad_last (g := fun k => z (ix2 r k)) (f := fun _ => 0) hz (by omega)

/-- The twelve pieces in the weight's order. -/
theorem cat_orig_8192 (f : Fin 12 → ℕ → EReal) (r : Fin 8192) (y0 : M 8192 256) (y1 : M 8192 256) (y2 : M 8192 256) (y3 : M 8192 4) (y4 : M 8192 256) (y5 : M 8192 256) (y6 : M 8192 256) (y7 : M 8192 256) (y8 : M 8192 128) (y9 : M 8192 32) (y10 : M 8192 256) (y11 : M 8192 1024)
    (h0 : ∀ k, y0 (ix2 r k) = f 0 k.val) (h1 : ∀ k, y1 (ix2 r k) = f 1 k.val) (h2 : ∀ k, y2 (ix2 r k) = f 2 k.val) (h3 : ∀ k, y3 (ix2 r k) = f 3 k.val) (h4 : ∀ k, y4 (ix2 r k) = f 4 k.val) (h5 : ∀ k, y5 (ix2 r k) = f 5 k.val) (h6 : ∀ k, y6 (ix2 r k) = f 6 k.val) (h7 : ∀ k, y7 (ix2 r k) = f 7 k.val) (h8 : ∀ k, y8 (ix2 r k) = f 8 k.val) (h9 : ∀ k, y9 (ix2 r k) = f 9 k.val) (h10 : ∀ k, y10 (ix2 r k) = f 10 k.val) (h11 : ∀ k, y11 (ix2 r k) = f 11 k.val)
    (h : Shape.Concatenates [(⟨2, ![8192, 256]⟩ : Shape), (⟨2, ![8192, 256]⟩ : Shape), (⟨2, ![8192, 256]⟩ : Shape), (⟨2, ![8192, 4]⟩ : Shape), (⟨2, ![8192, 256]⟩ : Shape), (⟨2, ![8192, 256]⟩ : Shape), (⟨2, ![8192, 256]⟩ : Shape), (⟨2, ![8192, 256]⟩ : Shape), (⟨2, ![8192, 128]⟩ : Shape), (⟨2, ![8192, 32]⟩ : Shape), (⟨2, ![8192, 256]⟩ : Shape), (⟨2, ![8192, 1024]⟩ : Shape)] (⟨2, ![8192, 3236]⟩ : Shape) 1) (n : Fin 3236) :
    concatenate (⟨2, ![8192, 3236]⟩ : Shape) 1 [⟨(⟨2, ![8192, 256]⟩ : Shape), y0⟩, ⟨(⟨2, ![8192, 256]⟩ : Shape), y1⟩, ⟨(⟨2, ![8192, 256]⟩ : Shape), y2⟩, ⟨(⟨2, ![8192, 4]⟩ : Shape), y3⟩, ⟨(⟨2, ![8192, 256]⟩ : Shape), y4⟩, ⟨(⟨2, ![8192, 256]⟩ : Shape), y5⟩, ⟨(⟨2, ![8192, 256]⟩ : Shape), y6⟩, ⟨(⟨2, ![8192, 256]⟩ : Shape), y7⟩, ⟨(⟨2, ![8192, 128]⟩ : Shape), y8⟩, ⟨(⟨2, ![8192, 32]⟩ : Shape), y9⟩, ⟨(⟨2, ![8192, 256]⟩ : Shape), y10⟩, ⟨(⟨2, ![8192, 1024]⟩ : Shape), y11⟩] h (ix2 r n) = orig f n.val := by
  have hn := n.isLt
  rw [orig_lad]
  pointwise
  refine lad_cons (g := fun k => y0 (ix2 r k)) h0 fun n0 => ?_
  refine lad_cons (g := fun k => y1 (ix2 r k)) h1 fun n1 => ?_
  refine lad_cons (g := fun k => y2 (ix2 r k)) h2 fun n2 => ?_
  refine lad_cons (g := fun k => y3 (ix2 r k)) h3 fun n3 => ?_
  refine lad_cons (g := fun k => y4 (ix2 r k)) h4 fun n4 => ?_
  refine lad_cons (g := fun k => y5 (ix2 r k)) h5 fun n5 => ?_
  refine lad_cons (g := fun k => y6 (ix2 r k)) h6 fun n6 => ?_
  refine lad_cons (g := fun k => y7 (ix2 r k)) h7 fun n7 => ?_
  refine lad_cons (g := fun k => y8 (ix2 r k)) h8 fun n8 => ?_
  refine lad_cons (g := fun k => y9 (ix2 r k)) h9 fun n9 => ?_
  refine lad_cons (g := fun k => y10 (ix2 r k)) h10 fun n10 => ?_
  exact lad_last (g := fun k => y11 (ix2 r k)) h11 (by omega)

/-- The narrow pieces and the zeros. -/
theorem cat_narrow_8192 (f : Fin 12 → ℕ → EReal) (r : Fin 8192) (y9 : M 8192 32) (y3 : M 8192 4) (z : M 8192 92)
    (h9 : ∀ k, y9 (ix2 r k) = f 9 k.val) (h3 : ∀ k, y3 (ix2 r k) = f 3 k.val) (hz : ∀ k, z (ix2 r k) = 0)
    (h : Shape.Concatenates [(⟨2, ![8192, 32]⟩ : Shape), (⟨2, ![8192, 4]⟩ : Shape), (⟨2, ![8192, 92]⟩ : Shape)] (⟨2, ![8192, 128]⟩ : Shape) 1) (n : Fin 128) :
    concatenate (⟨2, ![8192, 128]⟩ : Shape) 1 [⟨(⟨2, ![8192, 32]⟩ : Shape), y9⟩, ⟨(⟨2, ![8192, 4]⟩ : Shape), y3⟩, ⟨(⟨2, ![8192, 92]⟩ : Shape), z⟩] h (ix2 r n) = lad [(32, f 9), (4, f 3), (92, fun _ => 0)] n.val := by
  have hn := n.isLt
  pointwise
  refine lad_cons (g := fun k => y9 (ix2 r k)) h9 fun n9 => ?_
  refine lad_cons (g := fun k => y3 (ix2 r k)) h3 fun n3 => ?_
  exact lad_last (g := fun k => z (ix2 r k)) (f := fun _ => 0) hz (by omega)

/-- The wide pieces and the narrow ones. -/
theorem cat_wide_8192 (f : Fin 12 → ℕ → EReal) (r : Fin 8192) (y0 : M 8192 256) (y1 : M 8192 256) (y2 : M 8192 256) (y4 : M 8192 256) (y5 : M 8192 256) (y6 : M 8192 256) (y7 : M 8192 256) (y8 : M 8192 128) (y10 : M 8192 256) (y11 : M 8192 1024) (z : M 8192 128)
    (h0 : ∀ k, y0 (ix2 r k) = f 0 k.val) (h1 : ∀ k, y1 (ix2 r k) = f 1 k.val) (h2 : ∀ k, y2 (ix2 r k) = f 2 k.val) (h4 : ∀ k, y4 (ix2 r k) = f 4 k.val) (h5 : ∀ k, y5 (ix2 r k) = f 5 k.val) (h6 : ∀ k, y6 (ix2 r k) = f 6 k.val) (h7 : ∀ k, y7 (ix2 r k) = f 7 k.val) (h8 : ∀ k, y8 (ix2 r k) = f 8 k.val) (h10 : ∀ k, y10 (ix2 r k) = f 10 k.val) (h11 : ∀ k, y11 (ix2 r k) = f 11 k.val) (hz : ∀ k, z (ix2 r k) = lad [(32, f 9), (4, f 3), (92, fun _ => 0)] k.val)
    (h : Shape.Concatenates [(⟨2, ![8192, 256]⟩ : Shape), (⟨2, ![8192, 256]⟩ : Shape), (⟨2, ![8192, 256]⟩ : Shape), (⟨2, ![8192, 256]⟩ : Shape), (⟨2, ![8192, 256]⟩ : Shape), (⟨2, ![8192, 256]⟩ : Shape), (⟨2, ![8192, 256]⟩ : Shape), (⟨2, ![8192, 128]⟩ : Shape), (⟨2, ![8192, 256]⟩ : Shape), (⟨2, ![8192, 1024]⟩ : Shape), (⟨2, ![8192, 128]⟩ : Shape)] (⟨2, ![8192, 3328]⟩ : Shape) 1) (n : Fin 3328) :
    concatenate (⟨2, ![8192, 3328]⟩ : Shape) 1 [⟨(⟨2, ![8192, 256]⟩ : Shape), y0⟩, ⟨(⟨2, ![8192, 256]⟩ : Shape), y1⟩, ⟨(⟨2, ![8192, 256]⟩ : Shape), y2⟩, ⟨(⟨2, ![8192, 256]⟩ : Shape), y4⟩, ⟨(⟨2, ![8192, 256]⟩ : Shape), y5⟩, ⟨(⟨2, ![8192, 256]⟩ : Shape), y6⟩, ⟨(⟨2, ![8192, 256]⟩ : Shape), y7⟩, ⟨(⟨2, ![8192, 128]⟩ : Shape), y8⟩, ⟨(⟨2, ![8192, 256]⟩ : Shape), y10⟩, ⟨(⟨2, ![8192, 1024]⟩ : Shape), y11⟩, ⟨(⟨2, ![8192, 128]⟩ : Shape), z⟩] h (ix2 r n) = perm f n.val := by
  have hn := n.isLt
  rw [perm_lad]
  pointwise
  refine lad_cons (g := fun k => y0 (ix2 r k)) h0 fun n0 => ?_
  refine lad_cons (g := fun k => y1 (ix2 r k)) h1 fun n1 => ?_
  refine lad_cons (g := fun k => y2 (ix2 r k)) h2 fun n2 => ?_
  refine lad_cons (g := fun k => y4 (ix2 r k)) h4 fun n4 => ?_
  refine lad_cons (g := fun k => y5 (ix2 r k)) h5 fun n5 => ?_
  refine lad_cons (g := fun k => y6 (ix2 r k)) h6 fun n6 => ?_
  refine lad_cons (g := fun k => y7 (ix2 r k)) h7 fun n7 => ?_
  refine lad_cons (g := fun k => y8 (ix2 r k)) h8 fun n8 => ?_
  refine lad_cons (g := fun k => y10 (ix2 r k)) h10 fun n10 => ?_
  refine lad_cons (g := fun k => y11 (ix2 r k)) h11 fun n11 => ?_
  exact hz ⟨_, by omega⟩

variable (r : Fin R)

/-- The rows of the twelve pieces, by number. -/
def rows (y0 : M R 256) (y1 : M R 256) (y2 : M R 256) (y3 : M R 4) (y4 : M R 256) (y5 : M R 256) (y6 : M R 256) (y7 : M R 256) (y8 : M R 128) (y9 : M R 32) (y10 : M R 256) (y11 : M R 1024) : Fin 12 → ℕ → EReal :=
  ![nat fun k => y0 (ix2 r k), nat fun k => y1 (ix2 r k), nat fun k => y2 (ix2 r k), nat fun k => y3 (ix2 r k), nat fun k => y4 (ix2 r k), nat fun k => y5 (ix2 r k), nat fun k => y6 (ix2 r k), nat fun k => y7 (ix2 r k), nat fun k => y8 (ix2 r k), nat fun k => y9 (ix2 r k), nat fun k => y10 (ix2 r k), nat fun k => y11 (ix2 r k)]

/-- The rows of the pieces of one matrix, by number. -/
def pieces (y : M R 3236) : Fin 12 → ℕ → EReal := fun j n => nat (fun k => y (ix2 r k)) (off j + n)

theorem orig_pieces (y : M R 3236) (d : Fin 3236) : orig (pieces r y) d.val = y (ix2 r d) := by
  unfold pieces
  rw [orig_whole _ _ d.isLt, nat_lt _ d.isLt]

end Cert.Proj

end
-- ==== Proof.Proj.DxArrays.lean ====
/- The two arrays the input gradient's call returns, at an index. -/
module

public import proofs.«01_k».proof.Proof.Proj.DxPoint
public import proofs.«01_k».proof.Proof.Proj.Cat
public import Idealize.ShloMosaic.Lib.Claim

@[expose] public section

set_option maxRecDepth 16384

noncomputable section

namespace Cert.Proj.Dx

open Idealize.ShloMosaic Idealize.SL.Sem Idealize.ShloMosaic.TcCoe
open Cert.DxIdeal Cert.DxIdeal.Gen

theorem idx0 : ∀ t : Fin cfg0.N, win0_0.index t = ![t.val, 0] :=
  (by decide +kernel : ∀ t : Fin grid0.N, win0_0.index t = ![t.val, 0])
theorem idx1 : ∀ t : Fin cfg0.N, win0_1.index t = ![t.val, 0] :=
  (by decide +kernel : ∀ t : Fin grid0.N, win0_1.index t = ![t.val, 0])
theorem idx2 : ∀ t : Fin cfg0.N, win0_2.index t = ![t.val, 0] :=
  (by decide +kernel : ∀ t : Fin grid0.N, win0_2.index t = ![t.val, 0])
theorem idx3 : ∀ t : Fin cfg0.N, win0_3.index t = ![t.val, 0] :=
  (by decide +kernel : ∀ t : Fin grid0.N, win0_3.index t = ![t.val, 0])
theorem idx4 : ∀ t : Fin cfg0.N, win0_4.index t = ![t.val, 0] :=
  (by decide +kernel : ∀ t : Fin grid0.N, win0_4.index t = ![t.val, 0])
theorem idx5 : ∀ t : Fin cfg0.N, win0_5.index t = ![t.val, 0] :=
  (by decide +kernel : ∀ t : Fin grid0.N, win0_5.index t = ![t.val, 0])
theorem idx6 : ∀ t : Fin cfg0.N, win0_6.index t = ![t.val, 0] :=
  (by decide +kernel : ∀ t : Fin grid0.N, win0_6.index t = ![t.val, 0])
theorem idx7 : ∀ t : Fin cfg0.N, win0_7.index t = ![t.val, 0] :=
  (by decide +kernel : ∀ t : Fin grid0.N, win0_7.index t = ![t.val, 0])
theorem idx8 : ∀ t : Fin cfg0.N, win0_8.index t = ![t.val, 0] :=
  (by decide +kernel : ∀ t : Fin grid0.N, win0_8.index t = ![t.val, 0])
theorem idx9 : ∀ t : Fin cfg0.N, win0_9.index t = ![t.val, 0] :=
  (by decide +kernel : ∀ t : Fin grid0.N, win0_9.index t = ![t.val, 0])
theorem idx10 : ∀ t : Fin cfg0.N, win0_10.index t = ![t.val, 0] :=
  (by decide +kernel : ∀ t : Fin grid0.N, win0_10.index t = ![t.val, 0])
theorem idx11 : ∀ t : Fin cfg0.N, win0_11.index t = ![0, 0] :=
  (by decide +kernel : ∀ t : Fin grid0.N, win0_11.index t = ![0, 0])
theorem idx12 : ∀ t : Fin cfg0.N, win0_12.index t = ![t.val, 0] :=
  (by decide +kernel : ∀ t : Fin grid0.N, win0_12.index t = ![t.val, 0])
theorem idx13 : ∀ t : Fin cfg0.N, win0_13.index t = ![t.val, 0] :=
  (by decide +kernel : ∀ t : Fin grid0.N, win0_13.index t = ![t.val, 0])
theorem pts : cfg0.N = 16 := (by decide +kernel : grid0.N = 16)

variable (m : (ℓ : Loc nD τ sig) → Buf (Elt Ideal) ℓ) (c : Dev nD) (f : Fin 8192 → Fin 12 → ℕ → EReal) (g : Fin 1024 → Fin 12 → ℕ → EReal)

/-- The arrays the call is given hold the pieces' rows and the weight's. -/
structure Given : Prop where
  a0 : ∀ (r : Fin 8192) (k : Fin 256), (V m c main_v15 : Vec Ideal S8192x256 .bf16) (ix2 r k) = f r 0 k.val
  a1 : ∀ (r : Fin 8192) (k : Fin 256), (V m c main_v16 : Vec Ideal S8192x256 .bf16) (ix2 r k) = f r 1 k.val
  a2 : ∀ (r : Fin 8192) (k : Fin 256), (V m c main_v17 : Vec Ideal S8192x256 .bf16) (ix2 r k) = f r 2 k.val
  a3 : ∀ (r : Fin 8192) (k : Fin 256), (V m c main_v18 : Vec Ideal S8192x256 .bf16) (ix2 r k) = f r 4 k.val
  a4 : ∀ (r : Fin 8192) (k : Fin 256), (V m c main_v19 : Vec Ideal S8192x256 .bf16) (ix2 r k) = f r 5 k.val
  a5 : ∀ (r : Fin 8192) (k : Fin 256), (V m c main_v20 : Vec Ideal S8192x256 .bf16) (ix2 r k) = f r 6 k.val
  a6 : ∀ (r : Fin 8192) (k : Fin 256), (V m c main_arg8 : Vec Ideal S8192x256 .f32) (ix2 r k) = f r 7 k.val
  a7 : ∀ (r : Fin 8192) (k : Fin 128), (V m c main_arg9 : Vec Ideal S8192x128 .f32) (ix2 r k) = f r 8 k.val
  a8 : ∀ (r : Fin 8192) (k : Fin 256), (V m c main_v21 : Vec Ideal S8192x256 .bf16) (ix2 r k) = f r 10 k.val
  a9 : ∀ (r : Fin 8192) (k : Fin 1024), (V m c main_arg12 : Vec Ideal S8192x1024 .f32) (ix2 r k) = f r 11 k.val
  a10 : ∀ (r : Fin 8192) (k : Fin 128), (V m c main_v25 : Vec Ideal S8192x128 .bf16) (ix2 r k) = lad [(32, f r 9), (4, f r 3), (92, fun _ => 0)] k.val
  a11 : ∀ (j : Fin 1024) (k : Fin 3328), (V m c main_v14 : Vec Ideal S1024x3328 .bf16) (ix2 j k) = perm (g j) k.val

variable {m c f g} (hV : Given m c f g)
include hV

omit hV in
/-- A row of the whole from a block's. -/
abbrev at' (t : Fin cfg0.N) (q : Fin 512) : Fin 8192 := ⟨512 * t.val + q.val, by have : t.val < 16 := pts ▸ t.isLt; omega⟩

theorem b0 (t : Fin cfg0.N) (q : Fin 512) (k : Fin 256) : (iblk m c 0 t : Vec Ideal S512x256 .bf16) (ix2 q k) = f (at' t q) 0 k.val := by
  refine Eq.trans ?_ (hV.a0 (at' t q) k)
  blk_ext [iblk, idx0 t]

theorem b1 (t : Fin cfg0.N) (q : Fin 512) (k : Fin 256) : (iblk m c 1 t : Vec Ideal S512x256 .bf16) (ix2 q k) = f (at' t q) 1 k.val := by
  refine Eq.trans ?_ (hV.a1 (at' t q) k)
  blk_ext [iblk, idx1 t]

theorem b2 (t : Fin cfg0.N) (q : Fin 512) (k : Fin 256) : (iblk m c 2 t : Vec Ideal S512x256 .bf16) (ix2 q k) = f (at' t q) 2 k.val := by
  refine Eq.trans ?_ (hV.a2 (at' t q) k)
  blk_ext [iblk, idx2 t]

theorem b3 (t : Fin cfg0.N) (q : Fin 512) (k : Fin 256) : (iblk m c 3 t : Vec Ideal S512x256 .bf16) (ix2 q k) = f (at' t q) 4 k.val := by
  refine Eq.trans ?_ (hV.a3 (at' t q) k)
  blk_ext [iblk, idx3 t]

theorem b4 (t : Fin cfg0.N) (q : Fin 512) (k : Fin 256) : (iblk m c 4 t : Vec Ideal S512x256 .bf16) (ix2 q k) = f (at' t q) 5 k.val := by
  refine Eq.trans ?_ (hV.a4 (at' t q) k)
  blk_ext [iblk, idx4 t]

theorem b5 (t : Fin cfg0.N) (q : Fin 512) (k : Fin 256) : (iblk m c 5 t : Vec Ideal S512x256 .bf16) (ix2 q k) = f (at' t q) 6 k.val := by
  refine Eq.trans ?_ (hV.a5 (at' t q) k)
  blk_ext [iblk, idx5 t]

theorem b6 (t : Fin cfg0.N) (q : Fin 512) (k : Fin 256) : (iblk m c 6 t : Vec Ideal S512x256 .f32) (ix2 q k) = f (at' t q) 7 k.val := by
  refine Eq.trans ?_ (hV.a6 (at' t q) k)
  blk_ext [iblk, idx6 t]

theorem b7 (t : Fin cfg0.N) (q : Fin 512) (k : Fin 128) : (iblk m c 7 t : Vec Ideal S512x128 .f32) (ix2 q k) = f (at' t q) 8 k.val := by
  refine Eq.trans ?_ (hV.a7 (at' t q) k)
  blk_ext [iblk, idx7 t]

theorem b8 (t : Fin cfg0.N) (q : Fin 512) (k : Fin 256) : (iblk m c 8 t : Vec Ideal S512x256 .bf16) (ix2 q k) = f (at' t q) 10 k.val := by
  refine Eq.trans ?_ (hV.a8 (at' t q) k)
  blk_ext [iblk, idx8 t]

theorem b9 (t : Fin cfg0.N) (q : Fin 512) (k : Fin 1024) : (iblk m c 9 t : Vec Ideal S512x1024 .f32) (ix2 q k) = f (at' t q) 11 k.val := by
  refine Eq.trans ?_ (hV.a9 (at' t q) k)
  blk_ext [iblk, idx9 t]

theorem b10 (t : Fin cfg0.N) (q : Fin 512) (k : Fin 128) : (iblk m c 10 t : Vec Ideal S512x128 .bf16) (ix2 q k) = lad [(32, f (at' t q) 9), (4, f (at' t q) 3), (92, fun _ => 0)] k.val := by
  refine Eq.trans ?_ (hV.a10 (at' t q) k)
  blk_ext [iblk, idx10 t]

theorem b11 (t : Fin cfg0.N) (j : Fin 1024) (k : Fin 3328) : (iblk m c 11 t : Vec Ideal S1024x3328 .bf16) (ix2 j k) = perm (g j) k.val := by
  refine Eq.trans ?_ (hV.a11 j k)
  blk_ext [iblk, idx11 t]

omit hV in
theorem emb12 (t : Fin cfg0.N) (q : Fin 512) (j : Fin 1024) :
    ((win0_12.blk t).view.emb (ix2 q j : S512x1024.Idx) : S8192x1024.Idx) = ix2 (at' t q) j := by
  blk_ext [idx12 t]

omit hV in
theorem emb13 (t : Fin cfg0.N) (q : Fin 512) (n : Fin 3328) :
    ((win0_13.blk t).view.emb (ix2 q n : S512x3328.Idx) : S8192x3328.Idx) = ix2 (at' t q) n := by
  blk_ext [idx13 t]

omit hV in
variable (f g) in
/-- The input's gradient. -/
def gx : Vec Ideal S8192x1024 .f32 := fun y => ∑ k : Fin 3328, perm (f (y 0)) k.val * perm (g (y 1)) k.val

omit hV in
variable (f) in
/-- The pieces side by side. -/
def gy : Vec Ideal S8192x3328 .bf16 := fun y => perm (f (y 0)) (y 1).val

theorem o13_at (t : Fin cfg0.N) (q : Fin 512) (n : Fin 3328) : (outsAt0 m c t).2 (ix2 q n) = perm (f (at' t q)) n.val := by
  have h0 := b0 hV t q
  have h1 := b1 hV t q
  have h2 := b2 hV t q
  have h3 := b3 hV t q
  have h4 := b4 hV t q
  have h5 := b5 hV t q
  have h6 := b6 hV t q
  have h7 := b7 hV t q
  have h8 := b8 hV t q
  have h9 := b9 hV t q
  have h10 := b10 hV t q
  unfold outsAt0
  dsimp only
  generalize iblk m c 0 t = y0 at h0 ⊢
  generalize iblk m c 1 t = y1 at h1 ⊢
  generalize iblk m c 2 t = y2 at h2 ⊢
  generalize iblk m c 3 t = y3 at h3 ⊢
  generalize iblk m c 4 t = y4 at h4 ⊢
  generalize iblk m c 5 t = y5 at h5 ⊢
  generalize iblk m c 6 t = y6 at h6 ⊢
  generalize iblk m c 7 t = y7 at h7 ⊢
  generalize iblk m c 8 t = y8 at h8 ⊢
  generalize iblk m c 9 t = y9 at h9 ⊢
  generalize iblk m c 10 t = y10 at h10 ⊢
  generalize iblk m c 11 t = y11
  generalize ms0_0 t = m0, hs0_0 t = g0, ms0_1 t = m1, hs0_1 t = g1, ms0_2 t = m2, hs0_2 t = g2, ms0_3 t = m3, hs0_3 t = g3, ms0_4 t = m4, hs0_4 t = g4, ms0_5 t = m5, hs0_5 t = g5, ms0_6 t = m6, hs0_6 t = g6, ms0_7 t = m7, hs0_7 t = g7, ms0_8 t = m8, hs0_8 t = g8, ms0_9 t = m9, hs0_9 t = g9, ms0_10 t = m10, hs0_10 t = g10, ms0_11 t = m11, hs0_11 t = g11, ms0_12 t = m12, hs0_12 t = g12, ms0_13 t = m13, hs0_13 t = g13
  exact (congrFun (out13_eq c (grid0.coords t) m0 g0 m1 g1 m2 g2 m3 g3 m4 g4 m5 g5 m6 g6 m7 g7 m8 g8 m9 g9 m10 g10 m11 g11 m12 g12 m13 g13 y0 y1 y2 y3 y4 y5 y6 y7 y8 y9 y10 y11) _).trans (pay1_apply y0 y1 y2 y3 y4 y5 y6 y7 y8 y9 y10 (f (at' t q)) q h0 h1 h2 h3 h4 h5 h6 h7 h8 h9 h10 n)

theorem o12_at (t : Fin cfg0.N) (q : Fin 512) (j : Fin 1024) : (outsAt0 m c t).1 (ix2 q j) = ∑ k : Fin 3328, perm (f (at' t q)) k.val * perm (g j) k.val := by
  have h0 := b0 hV t q
  have h1 := b1 hV t q
  have h2 := b2 hV t q
  have h3 := b3 hV t q
  have h4 := b4 hV t q
  have h5 := b5 hV t q
  have h6 := b6 hV t q
  have h7 := b7 hV t q
  have h8 := b8 hV t q
  have h9 := b9 hV t q
  have h10 := b10 hV t q
  have h11 := b11 hV t j
  unfold outsAt0
  dsimp only
  generalize iblk m c 0 t = y0 at h0 ⊢
  generalize iblk m c 1 t = y1 at h1 ⊢
  generalize iblk m c 2 t = y2 at h2 ⊢
  generalize iblk m c 3 t = y3 at h3 ⊢
  generalize iblk m c 4 t = y4 at h4 ⊢
  generalize iblk m c 5 t = y5 at h5 ⊢
  generalize iblk m c 6 t = y6 at h6 ⊢
  generalize iblk m c 7 t = y7 at h7 ⊢
  generalize iblk m c 8 t = y8 at h8 ⊢
  generalize iblk m c 9 t = y9 at h9 ⊢
  generalize iblk m c 10 t = y10 at h10 ⊢
  generalize iblk m c 11 t = y11 at h11 ⊢
  generalize ms0_0 t = m0, hs0_0 t = g0, ms0_1 t = m1, hs0_1 t = g1, ms0_2 t = m2, hs0_2 t = g2, ms0_3 t = m3, hs0_3 t = g3, ms0_4 t = m4, hs0_4 t = g4, ms0_5 t = m5, hs0_5 t = g5, ms0_6 t = m6, hs0_6 t = g6, ms0_7 t = m7, hs0_7 t = g7, ms0_8 t = m8, hs0_8 t = g8, ms0_9 t = m9, hs0_9 t = g9, ms0_10 t = m10, hs0_10 t = g10, ms0_11 t = m11, hs0_11 t = g11, ms0_12 t = m12, hs0_12 t = g12, ms0_13 t = m13, hs0_13 t = g13
  refine (congrFun (out12_eq c (grid0.coords t) m0 g0 m1 g1 m2 g2 m3 g3 m4 g4 m5 g5 m6 g6 m7 g7 m8 g8 m9 g9 m10 g10 m11 g11 m12 g12 m13 g13 y0 y1 y2 y3 y4 y5 y6 y7 y8 y9 y10 y11) _).trans ((pay2_apply _ _ q j).trans (Finset.sum_congr rfl fun k _ => ?_))
  rw [pay1_apply y0 y1 y2 y3 y4 y5 y6 y7 y8 y9 y10 (f (at' t q)) q h0 h1 h2 h3 h4 h5 h6 h7 h8 h9 h10 k, h11 k]

theorem arr12 : (dats m 0 c).arrAt 12 cfg0.N = gx f g := by
  refine (dats m 0 c).arrAt_eq_of_covers 12 _ (by decide +kernel) fun t hf y => ?_
  blk_simp
  rw [after0_12]
  revert y
  suffices h : ∀ y : S512x1024.Idx, (outsAt0 m c t).1 y = gx f g ((win0_12.blk t).view.emb y) from h
  intro y
  obtain ⟨q, j, rfl⟩ : ∃ q j, y = ix2 q j := ⟨y 0, y 1, eq_ix2 y⟩
  rw [emb12 t q j]
  exact o12_at hV t q j

theorem arr13 : (dats m 0 c).arrAt 13 cfg0.N = gy f := by
  refine (dats m 0 c).arrAt_eq_of_covers 13 _ (by decide +kernel) fun t hf y => ?_
  blk_simp
  rw [after0_13]
  revert y
  suffices h : ∀ y : S512x3328.Idx, (outsAt0 m c t).2 y = gy f ((win0_13.blk t).view.emb y) from h
  intro y
  obtain ⟨q, n, rfl⟩ : ∃ q n, y = ix2 q n := ⟨y 0, y 1, eq_ix2 y⟩
  rw [emb13 t q n]
  exact o13_at hV t q n

end Cert.Proj.Dx

end
-- ==== Proof.Proj.DxHost.lean ====
/- The input gradient's operands, from the arguments. -/
module

public import proofs.«01_k».proof.Proof.Proj.DxArrays
public import Idealize.ShloMosaic.Lib.StableHlo.ReadAt

@[expose] public section

set_option maxRecDepth 16384

noncomputable section

namespace Cert.Proj.Dx

open Idealize.ShloMosaic Idealize.SL.Sem Idealize.ShloMosaic.TcCoe
open Cert.DxIdeal Cert.DxIdeal.Gen

variable (m : (ℓ : Loc nD τ sig) → Buf (Elt Ideal) ℓ) (c : Dev nD)

/-- The weight and the twelve pieces. -/
abbrev w0 : M 1024 3236 := m ((c : Thread nD τ).loc main_arg0)
abbrev c0 : M 8192 256 := m ((c : Thread nD τ).loc main_arg1)
abbrev c1 : M 8192 256 := m ((c : Thread nD τ).loc main_arg2)
abbrev c2 : M 8192 256 := m ((c : Thread nD τ).loc main_arg3)
abbrev c3 : M 8192 4 := m ((c : Thread nD τ).loc main_arg4)
abbrev c4 : M 8192 256 := m ((c : Thread nD τ).loc main_arg5)
abbrev c5 : M 8192 256 := m ((c : Thread nD τ).loc main_arg6)
abbrev c6 : M 8192 256 := m ((c : Thread nD τ).loc main_arg7)
abbrev c7 : M 8192 256 := m ((c : Thread nD τ).loc main_arg8)
abbrev c8 : M 8192 128 := m ((c : Thread nD τ).loc main_arg9)
abbrev c9 : M 8192 32 := m ((c : Thread nD τ).loc main_arg10)
abbrev c10 : M 8192 256 := m ((c : Thread nD τ).loc main_arg11)
abbrev c11 : M 8192 1024 := m ((c : Thread nD τ).loc main_arg12)

/-- The pieces' rows and the weight's. -/
abbrev fr (r : Fin 8192) : Fin 12 → ℕ → EReal := rows r (c0 m c) (c1 m c) (c2 m c) (c3 m c) (c4 m c) (c5 m c) (c6 m c) (c7 m c) (c8 m c) (c9 m c) (c10 m c) (c11 m c)
abbrev gr (j : Fin 1024) : Fin 12 → ℕ → EReal := pieces j (w0 m c)

theorem v15_eq : V (F := Ideal) m c main_v15 = (truncf (F := Ideal) .bf16 (c0 m c : Vec Ideal S8192x256 .f32) bitsLt_bf16_f32 : Vec Ideal S8192x256 .bf16) := by
  unfold V
  after_reads_simp

theorem v16_eq : V (F := Ideal) m c main_v16 = (truncf (F := Ideal) .bf16 (c1 m c : Vec Ideal S8192x256 .f32) bitsLt_bf16_f32 : Vec Ideal S8192x256 .bf16) := by
  unfold V
  after_reads_simp

theorem v17_eq : V (F := Ideal) m c main_v17 = (truncf (F := Ideal) .bf16 (c2 m c : Vec Ideal S8192x256 .f32) bitsLt_bf16_f32 : Vec Ideal S8192x256 .bf16) := by
  unfold V
  after_reads_simp

theorem v18_eq : V (F := Ideal) m c main_v18 = (truncf (F := Ideal) .bf16 (c4 m c : Vec Ideal S8192x256 .f32) bitsLt_bf16_f32 : Vec Ideal S8192x256 .bf16) := by
  unfold V
  after_reads_simp

theorem v19_eq : V (F := Ideal) m c main_v19 = (truncf (F := Ideal) .bf16 (c5 m c : Vec Ideal S8192x256 .f32) bitsLt_bf16_f32 : Vec Ideal S8192x256 .bf16) := by
  unfold V
  after_reads_simp

theorem v20_eq : V (F := Ideal) m c main_v20 = (truncf (F := Ideal) .bf16 (c6 m c : Vec Ideal S8192x256 .f32) bitsLt_bf16_f32 : Vec Ideal S8192x256 .bf16) := by
  unfold V
  after_reads_simp

theorem v21_eq : V (F := Ideal) m c main_v21 = (truncf (F := Ideal) .bf16 (c10 m c : Vec Ideal S8192x256 .f32) bitsLt_bf16_f32 : Vec Ideal S8192x256 .bf16) := by
  unfold V
  after_reads_simp

/-- The narrow pieces and zeros, in the narrow format. -/
def narrow {F : FTy → Type} [FloatOps F] (y9 : Vec F S8192x32 .f32) (y3 : Vec F S8192x4 .f32) : Vec F S8192x128 .bf16 :=
  concatenate S8192x128 1 [⟨S8192x32, truncf (F := F) .bf16 y9 bitsLt_bf16_f32⟩, ⟨S8192x4, truncf (F := F) .bf16 y3 bitsLt_bf16_f32⟩, ⟨S8192x92, broadcastInDim S8192x92 ![] bcast_S_S8192x92 (constant (F := F) S_ .bf16 0x0000#16)⟩] concatenates_S8192x32_S8192x4_S8192x92_S8192x128_d1

/-- The weight's columns in the call's order. -/
def weight32 {F : FTy → Type} [FloatOps F] (y : Vec F S1024x3236 .f32) : Vec F S1024x3328 .f32 :=
  concatenate S1024x3328 1 [⟨S1024x256, extractStridedSlice S1024x256 ![0, 0] y slices_S1024x3236_S1024x256_0_0⟩, ⟨S1024x256, extractStridedSlice S1024x256 ![0, 256] y slices_S1024x3236_S1024x256_0_256⟩, ⟨S1024x256, extractStridedSlice S1024x256 ![0, 512] y slices_S1024x3236_S1024x256_0_512⟩, ⟨S1024x256, extractStridedSlice S1024x256 ![0, 772] y slices_S1024x3236_S1024x256_0_772⟩, ⟨S1024x256, extractStridedSlice S1024x256 ![0, 1028] y slices_S1024x3236_S1024x256_0_1028⟩, ⟨S1024x256, extractStridedSlice S1024x256 ![0, 1284] y slices_S1024x3236_S1024x256_0_1284⟩, ⟨S1024x256, extractStridedSlice S1024x256 ![0, 1540] y slices_S1024x3236_S1024x256_0_1540⟩, ⟨S1024x128, extractStridedSlice S1024x128 ![0, 1796] y slices_S1024x3236_S1024x128_0_1796⟩, ⟨S1024x256, extractStridedSlice S1024x256 ![0, 1956] y slices_S1024x3236_S1024x256_0_1956⟩, ⟨S1024x1024, extractStridedSlice S1024x1024 ![0, 2212] y slices_S1024x3236_S1024x1024_0_2212⟩, ⟨S1024x32, extractStridedSlice S1024x32 ![0, 1924] y slices_S1024x3236_S1024x32_0_1924⟩, ⟨S1024x4, extractStridedSlice S1024x4 ![0, 768] y slices_S1024x3236_S1024x4_0_768⟩, ⟨S1024x92, broadcastInDim S1024x92 ![] bcast_S_S1024x92 (constant (F := F) S_ .f32 0x00000000#32)⟩] concatenates_S1024x256_S1024x256_S1024x256_S1024x256_S1024x256_S1024x256_S1024x256_S1024x128_S1024x256_S1024x1024_S1024x32_S1024x4_S1024x92_S1024x3328_d1

/-- The same in the narrow format. -/
def weight {F : FTy → Type} [FloatOps F] (y : Vec F S1024x3236 .f32) : Vec F S1024x3328 .bf16 :=
  truncf (F := F) .bf16 (weight32 y) bitsLt_bf16_f32

theorem pc {α : Type} {s : Shape} {x y : s.Idx → α} {l l' : List ((s : Shape) × (s.Idx → α))} (h : x = y) (e : l = l') :
    ((⟨s, x⟩ : (s : Shape) × (s.Idx → α)) :: l) = ⟨s, y⟩ :: l' := by
  subst h; subst e; rfl

theorem v25_eq : V (F := Ideal) m c main_v25 = narrow (F := Ideal) (c9 m c) (c3 m c) := by
  unfold V
  after_reads_simp
  unfold narrow
  refine StableHlo.concatenate_congr _ _ (pc ?_ (pc ?_ (pc ?_ rfl))) _ _
  · show StableHlo.upto hostOps0 (fun b => m (c, b)) 27 (Proc.devRef .tc main_v22) = _
    after_reads_simp
  · show StableHlo.upto hostOps0 (fun b => m (c, b)) 27 (Proc.devRef .tc main_v23) = _
    after_reads_simp
  · show StableHlo.upto hostOps0 (fun b => m (c, b)) 27 (Proc.devRef .tc main_v24) = _
    after_reads_simp

theorem v13_eq : V (F := Ideal) m c main_v13 = weight32 (F := Ideal) (w0 m c) := by
  unfold V
  after_reads_simp
  unfold weight32
  refine StableHlo.concatenate_congr _ _ (pc ?_ (pc ?_ (pc ?_ (pc ?_ (pc ?_ (pc ?_ (pc ?_ (pc ?_ (pc ?_ (pc ?_ (pc ?_ (pc ?_ (pc ?_ (rfl)))))))))))))) _ _
  · show StableHlo.upto hostOps0 (fun b => m (c, b)) 14 (Proc.devRef .tc main_v0) = _
    after_reads_simp
  · show StableHlo.upto hostOps0 (fun b => m (c, b)) 14 (Proc.devRef .tc main_v1) = _
    after_reads_simp
  · show StableHlo.upto hostOps0 (fun b => m (c, b)) 14 (Proc.devRef .tc main_v2) = _
    after_reads_simp
  · show StableHlo.upto hostOps0 (fun b => m (c, b)) 14 (Proc.devRef .tc main_v3) = _
    after_reads_simp
  · show StableHlo.upto hostOps0 (fun b => m (c, b)) 14 (Proc.devRef .tc main_v4) = _
    after_reads_simp
  · show StableHlo.upto hostOps0 (fun b => m (c, b)) 14 (Proc.devRef .tc main_v5) = _
    after_reads_simp
  · show StableHlo.upto hostOps0 (fun b => m (c, b)) 14 (Proc.devRef .tc main_v6) = _
    after_reads_simp
  · show StableHlo.upto hostOps0 (fun b => m (c, b)) 14 (Proc.devRef .tc main_v7) = _
    after_reads_simp
  · show StableHlo.upto hostOps0 (fun b => m (c, b)) 14 (Proc.devRef .tc main_v8) = _
    after_reads_simp
  · show StableHlo.upto hostOps0 (fun b => m (c, b)) 14 (Proc.devRef .tc main_v9) = _
    after_reads_simp
  · show StableHlo.upto hostOps0 (fun b => m (c, b)) 14 (Proc.devRef .tc main_v10) = _
    after_reads_simp
  · show StableHlo.upto hostOps0 (fun b => m (c, b)) 14 (Proc.devRef .tc main_v11) = _
    after_reads_simp
  · show StableHlo.upto hostOps0 (fun b => m (c, b)) 14 (Proc.devRef .tc main_v12) = _
    after_reads_simp

theorem v14_eq : V (F := Ideal) m c main_v14 = weight (F := Ideal) (w0 m c) := by
  have h := v13_eq m c
  unfold V at h ⊢
  rw [show StableHlo.after hostOps0 (fun b => m (c, b)) (Proc.devRef .tc main_v14) = truncf (F := Ideal) .bf16 (StableHlo.after hostOps0 (fun b => m (c, b)) (Proc.devRef .tc main_v13) : Vec Ideal S1024x3328 .f32) bitsLt_bf16_f32 by after_reads_simp]
  unfold weight
  exact congrArg (fun z : Vec Ideal S1024x3328 .f32 => (truncf (F := Ideal) .bf16 z bitsLt_bf16_f32 : Vec Ideal S1024x3328 .bf16)) h

theorem zero16 : Ideal.ofBits .bf16 0x0000#16 = 0 := by
  simp [Ideal.ofBits, Ideal.ieee]

theorem zero32 : Ideal.ofBits .f32 0x00000000#32 = 0 := Ideal.ofBits_zero_f32

theorem narrow_at (y9 : Vec Ideal S8192x32 .f32) (y3 : Vec Ideal S8192x4 .f32) (f : Fin 12 → ℕ → EReal) (r : Fin 8192) (h9 : ∀ k, y9 (ix2 r k) = f 9 k.val) (h3 : ∀ k, y3 (ix2 r k) = f 3 k.val) (n : Fin 128) :
    narrow (F := Ideal) y9 y3 (ix2 r n) = lad [(32, f 9), (4, f 3), (92, fun _ => 0)] n.val := by
  unfold narrow
  refine cat_narrow_8192 f r _ _ _ (fun k => ?_) (fun k => ?_) (fun k => ?_) _ n
  · exact h9 k
  · exact h3 k
  · pointwise [zero16]

theorem weight_at (y : Vec Ideal S1024x3236 .f32) (j : Fin 1024) (n : Fin 3328) :
    weight (F := Ideal) y (ix2 j n) = perm (pieces j y) n.val := by
  show weight32 (F := Ideal) y (ix2 j n) = _
  unfold weight32
  refine cat_call_1024 (pieces j y) j _ _ _ _ _ _ _ _ _ _ _ _ _ (fun k => ?_) (fun k => ?_) (fun k => ?_) (fun k => ?_) (fun k => ?_) (fun k => ?_) (fun k => ?_) (fun k => ?_) (fun k => ?_) (fun k => ?_) (fun k => ?_) (fun k => ?_) (fun k => ?_) _ n
  · have hk := k.isLt
    show _ = nat (fun k => y (ix2 j k)) (0 + k.val)
    rw [nat_lt _ (by omega)]
    pointwise
  · have hk := k.isLt
    show _ = nat (fun k => y (ix2 j k)) (256 + k.val)
    rw [nat_lt _ (by omega)]
    pointwise
  · have hk := k.isLt
    show _ = nat (fun k => y (ix2 j k)) (512 + k.val)
    rw [nat_lt _ (by omega)]
    pointwise
  · have hk := k.isLt
    show _ = nat (fun k => y (ix2 j k)) (768 + k.val)
    rw [nat_lt _ (by omega)]
    pointwise
  · have hk := k.isLt
    show _ = nat (fun k => y (ix2 j k)) (772 + k.val)
    rw [nat_lt _ (by omega)]
    pointwise
  · have hk := k.isLt
    show _ = nat (fun k => y (ix2 j k)) (1028 + k.val)
    rw [nat_lt _ (by omega)]
    pointwise
  · have hk := k.isLt
    show _ = nat (fun k => y (ix2 j k)) (1284 + k.val)
    rw [nat_lt _ (by omega)]
    pointwise
  · have hk := k.isLt
    show _ = nat (fun k => y (ix2 j k)) (1540 + k.val)
    rw [nat_lt _ (by omega)]
    pointwise
  · have hk := k.isLt
    show _ = nat (fun k => y (ix2 j k)) (1796 + k.val)
    rw [nat_lt _ (by omega)]
    pointwise
  · have hk := k.isLt
    show _ = nat (fun k => y (ix2 j k)) (1924 + k.val)
    rw [nat_lt _ (by omega)]
    pointwise
  · have hk := k.isLt
    show _ = nat (fun k => y (ix2 j k)) (1956 + k.val)
    rw [nat_lt _ (by omega)]
    pointwise
  · have hk := k.isLt
    show _ = nat (fun k => y (ix2 j k)) (2212 + k.val)
    rw [nat_lt _ (by omega)]
    pointwise
  · pointwise [zero32]

theorem given : Given m c (fr m c) (gr m c) where
  a0 r k := (congrFun (v15_eq m c) _).trans (nat_val (fun k => c0 m c (ix2 r k)) k)
  a1 r k := (congrFun (v16_eq m c) _).trans (nat_val (fun k => c1 m c (ix2 r k)) k)
  a2 r k := (congrFun (v17_eq m c) _).trans (nat_val (fun k => c2 m c (ix2 r k)) k)
  a3 r k := (congrFun (v18_eq m c) _).trans (nat_val (fun k => c4 m c (ix2 r k)) k)
  a4 r k := (congrFun (v19_eq m c) _).trans (nat_val (fun k => c5 m c (ix2 r k)) k)
  a5 r k := (congrFun (v20_eq m c) _).trans (nat_val (fun k => c6 m c (ix2 r k)) k)
  a6 r k := (congrFun (V_main_arg8 m c) _).trans (nat_val (fun k => c7 m c (ix2 r k)) k)
  a7 r k := (congrFun (V_main_arg9 m c) _).trans (nat_val (fun k => c8 m c (ix2 r k)) k)
  a8 r k := (congrFun (v21_eq m c) _).trans (nat_val (fun k => c10 m c (ix2 r k)) k)
  a9 r k := (congrFun (V_main_arg12 m c) _).trans (nat_val (fun k => c11 m c (ix2 r k)) k)
  a10 r k := (congrFun (v25_eq m c) _).trans (narrow_at _ _ (fr m c r) r (nat_val fun k => c9 m c (ix2 r k)) (nat_val fun k => c3 m c (ix2 r k)) k)
  a11 j k := (congrFun (v14_eq m c) _).trans (weight_at _ j k)

end Cert.Proj.Dx

end
-- ==== Proof.Proj.DxEqual.lean ====
/- The input gradient's call returns what the reference returns. -/
module

public import proofs.«01_k».proof.Defs
public import proofs.«01_k».proof.Proof.Proj.DxHost
public import proofs.«01_k».proof.Proof.Gen.DxReferenceIdeal.Read

@[expose] public section

set_option maxRecDepth 16384

noncomputable section

namespace Cert.Proj.Dx

open Idealize.ShloMosaic Cert.DxReferenceIdeal Cert.DxReferenceIdeal.Read

variable (x0 : M 1024 3236) (x1 : M 8192 256) (x2 : M 8192 256) (x3 : M 8192 256) (x4 : M 8192 4) (x5 : M 8192 256) (x6 : M 8192 256) (x7 : M 8192 256) (x8 : M 8192 256) (x9 : M 8192 128) (x10 : M 8192 32) (x11 : M 8192 256) (x12 : M 8192 1024)

theorem zero92 (r : Fin 8192) (k : Fin 92) : val_main_v16 (F := Ideal) (ix2 r k) = 0 := by
  unfold val_main_v16
  pointwise
  exact Ideal.ofBits_zero_f32

theorem w14_at (r : Fin 8192) (d : Fin 3236) :
    val_main_v14 (F := Ideal) x1 x2 x3 x4 x5 x6 x7 x8 x9 x10 x11 x12 (ix2 r d) = orig (rows r x1 x2 x3 x4 x5 x6 x7 x8 x9 x10 x11 x12) d.val := by
  unfold val_main_v14
  exact cat_orig_8192 (rows r x1 x2 x3 x4 x5 x6 x7 x8 x9 x10 x11 x12) r x1 x2 x3 x4 x5 x6 x7 x8 x9 x10 x11 x12 (nat_val fun k => x1 (ix2 r k)) (nat_val fun k => x2 (ix2 r k)) (nat_val fun k => x3 (ix2 r k)) (nat_val fun k => x4 (ix2 r k)) (nat_val fun k => x5 (ix2 r k)) (nat_val fun k => x6 (ix2 r k)) (nat_val fun k => x7 (ix2 r k)) (nat_val fun k => x8 (ix2 r k)) (nat_val fun k => x9 (ix2 r k)) (nat_val fun k => x10 (ix2 r k)) (nat_val fun k => x11 (ix2 r k)) (nat_val fun k => x12 (ix2 r k)) _ d

theorem w17_at (r : Fin 8192) (n : Fin 3328) :
    val_main_v17 (F := Ideal) x1 x2 x3 x4 x5 x6 x7 x8 x9 x10 x11 x12 (ix2 r n) = perm (rows r x1 x2 x3 x4 x5 x6 x7 x8 x9 x10 x11 x12) n.val := by
  unfold val_main_v17
  exact cat_call_8192 (rows r x1 x2 x3 x4 x5 x6 x7 x8 x9 x10 x11 x12) r x1 x2 x3 x4 x5 x6 x7 x8 x9 x10 x11 x12 _ (nat_val fun k => x1 (ix2 r k)) (nat_val fun k => x2 (ix2 r k)) (nat_val fun k => x3 (ix2 r k)) (nat_val fun k => x4 (ix2 r k)) (nat_val fun k => x5 (ix2 r k)) (nat_val fun k => x6 (ix2 r k)) (nat_val fun k => x7 (ix2 r k)) (nat_val fun k => x8 (ix2 r k)) (nat_val fun k => x9 (ix2 r k)) (nat_val fun k => x10 (ix2 r k)) (nat_val fun k => x11 (ix2 r k)) (nat_val fun k => x12 (ix2 r k)) (zero92 r) _ n

theorem gx_eq : gx (fun r => rows r x1 x2 x3 x4 x5 x6 x7 x8 x9 x10 x11 x12) (fun j => pieces j x0) = val_main_v15 (F := Ideal) x0 x1 x2 x3 x4 x5 x6 x7 x8 x9 x10 x11 x12 := by
  funext y
  obtain ⟨r, j, rfl⟩ : ∃ (r : Fin 8192) (j : Fin 1024), y = ix2 r j := ⟨y 0, y 1, eq_ix2 y⟩
  rw [val_main_v15_apply]
  refine (sum_perm (rows r x1 x2 x3 x4 x5 x6 x7 x8 x9 x10 x11 x12) (pieces j x0)).trans (Finset.sum_congr rfl fun d _ => ?_)
  rw [orig_pieces]
  exact congrArg₂ (· * ·) ((w14_at x1 x2 x3 x4 x5 x6 x7 x8 x9 x10 x11 x12 r d).symm.trans (congrArg _ (funext fun a => by fin_cases a <;> rfl)))
    (congrArg x0 (funext fun a => by fin_cases a <;> rfl))

theorem gy_eq : gy (fun r => rows r x1 x2 x3 x4 x5 x6 x7 x8 x9 x10 x11 x12) = val_main_v18 (F := Ideal) x1 x2 x3 x4 x5 x6 x7 x8 x9 x10 x11 x12 := by
  funext y
  obtain ⟨r, n, rfl⟩ : ∃ (r : Fin 8192) (n : Fin 3328), y = ix2 r n := ⟨y 0, y 1, eq_ix2 y⟩
  exact (w17_at x1 x2 x3 x4 x5 x6 x7 x8 x9 x10 x11 x12 r n).symm

end Cert.Proj.Dx

end
-- ==== Proof.Proj.DwPoint.lean ====
/- What one grid point of the weight gradient's call leaves in its accumulator and stores. -/
module

public import proofs.«01_k».proof.Proof.Gen.DwIdeal.Value
public import Idealize.ShloMosaic.Lib.Pipeline.ValueKit
public import Idealize.ShloMosaic.Lib.VecWindow

@[expose] public section

set_option maxRecDepth 16384

noncomputable section

namespace Cert.Proj.Dw

open Idealize.ShloMosaic Idealize.SL.Sem Idealize.ShloMosaic.TcCoe
open Cert.DwIdeal Cert.DwIdeal.Gen

variable (c : Dev nD) (i : grid0.Coords) (arg3 : Memref sig .tc .vmem S1024x1024 .bf16) (harg3 : arg3.IsWhole) (arg4 : Memref sig .tc .vmem S1024x1664 .bf16) (harg4 : arg4.IsWhole) (arg5 : Memref sig .tc .vmem S1024x1664 .f32) (harg5 : arg5.IsWhole) (arg6 : Memref sig .tc .vmem S1024x1664 .f32) (harg6 : arg6.IsWhole) (x0 : Vec Ideal S1024x1024 .bf16) (x1 : Vec Ideal S1024x1664 .bf16) (xs0 : Vec Ideal S1024x1664 .f32)

theorem first_eq (hc0 : cond0_0 i) (hc1 : ¬cond0_1 i) (hc2 : ¬cond0_2 i) : sout0_A_0 (F := Ideal) c i arg3 harg3 arg4 harg4 arg5 harg5 arg6 harg6 hc0 hc1 hc2 x0 x1 = k0_pay2 x0 x1 := by
  unfold sout0_A_0 kernelRun0_A
  dsimp only
  rw [View.read_writes_full]
  repeat rw [View.readAt_full]
  repeat rw [Memref.IsWhole.read_unread]

theorem next_eq (hc0 : ¬cond0_0 i) (hc1 : cond0_1 i) (hc2 : ¬cond0_2 i) : sout0_B_0 (F := Ideal) c i arg3 harg3 arg4 harg4 arg5 harg5 arg6 harg6 hc0 hc1 hc2 x0 x1 xs0 = k0_pay3 x0 x1 xs0 := by
  unfold sout0_B_0 kernelRun0_B
  dsimp only
  rw [View.read_writes_full]
  repeat rw [View.readAt_full]
  repeat rw [Memref.IsWhole.read_unread]

theorem last_eq (hc0 : ¬cond0_0 i) (hc1 : cond0_1 i) (hc2 : cond0_2 i) : out0_C_2 (F := Ideal) c i arg3 harg3 arg4 harg4 arg5 harg5 arg6 harg6 hc0 hc1 hc2 x0 x1 xs0 = k0_pay3 x0 x1 xs0 := by
  unfold out0_C_2 kernelRun0_C
  dsimp only
  rw [View.read_writes_full]
  unfold kernelRun0_C.sl.v14 kernelRun0_C.sl.HS0_1
  rw [View.readCov_full]
  repeat rw [View.readAt_full]
  repeat rw [Memref.IsWhole.read_unread]

theorem pay2_apply (p : Fin 1024) (n : Fin 1664) : k0_pay2 x0 x1 (ix2 p n) = ∑ k : Fin 1024, x0 (ix2 p k) * x1 (ix2 k n) := by
  pointwise [k0_pay2, k0_pay1]

theorem pay3_apply (p : Fin 1024) (n : Fin 1664) : k0_pay3 x0 x1 xs0 (ix2 p n) = xs0 (ix2 p n) + ∑ k : Fin 1024, x0 (ix2 p k) * x1 (ix2 k n) := by
  pointwise [k0_pay3, k0_pay1]

end Cert.Proj.Dw

end
-- ==== Proof.Proj.DwArrays.lean ====
/- The array the weight gradient's call returns, at an index. -/
module

public import proofs.«01_k».proof.Proof.Proj.DwPoint
public import proofs.«01_k».proof.Proof.Proj.Cat
public import Idealize.ShloMosaic.Lib.Claim

@[expose] public section

set_option maxRecDepth 16384

noncomputable section

namespace Cert.Proj.Dw

open Idealize.ShloMosaic Idealize.SL.Sem Idealize.ShloMosaic.TcCoe
open Cert.DwIdeal Cert.DwIdeal.Gen

theorem idx0 : ∀ t : Fin cfg0.N, win0_0.index t = ![0, t.val % 8] :=
  (by decide +kernel : ∀ t : Fin grid0.N, win0_0.index t = ![0, t.val % 8])
theorem idx1 : ∀ t : Fin cfg0.N, win0_1.index t = ![t.val % 8, t.val / 8] :=
  (by decide +kernel : ∀ t : Fin grid0.N, win0_1.index t = ![t.val % 8, t.val / 8])
theorem idx2 : ∀ t : Fin cfg0.N, win0_2.index t = ![0, t.val / 8] :=
  (by decide +kernel : ∀ t : Fin grid0.N, win0_2.index t = ![0, t.val / 8])
theorem pts : cfg0.N = 16 := (by decide +kernel : grid0.N = 16)
theorem ends : ∀ t : Fin cfg0.N, (cfg0.win 2).flush t = true → t.val % 8 = 7 :=
  (by decide +kernel : ∀ t : Fin grid0.N, (cfg0.win 2).flush t = true → t.val % 8 = 7)

variable (m : (ℓ : Loc nD τ sig) → Buf (Elt Ideal) ℓ) (c : Dev nD) (x : M 8192 1024) (f : Fin 8192 → Fin 12 → ℕ → EReal)

/-- The arrays the call is given hold the input's columns and the pieces' rows. -/
structure Given : Prop where
  a0 : ∀ (p : Fin 1024) (r : Fin 8192), (V m c main_v16 : Vec Ideal S1024x8192 .bf16) (ix2 p r) = x (ix2 r p)
  a1 : ∀ (r : Fin 8192) (n : Fin 3328), (V m c main_v14 : Vec Ideal S8192x3328 .bf16) (ix2 r n) = perm (f r) n.val

variable {m c x f}
variable (hV : Given m c x f)

/-- The row of the arrays at row `k` of point `t`'s blocks. -/
def row (t : Fin cfg0.N) (k : Fin 1024) : Fin 8192 := ⟨1024 * (t.val % 8) + k.val, by have := k.isLt; omega⟩

/-- The column of the arrays at column `n` of point `t`'s block. -/
def at' (t : Fin cfg0.N) (n : Fin 1664) : Fin 3328 := ⟨1664 * (t.val / 8) + n.val, by have := n.isLt; have := t.isLt; have := pts; omega⟩

/-- One row's term of the product. -/
def term (x : M 8192 1024) (f : Fin 8192 → Fin 12 → ℕ → EReal) (p : Fin 1024) (n : Fin 3328) (r : Fin 8192) : EReal := x (ix2 r p) * perm (f r) n.val

include hV

theorem b0 (t : Fin cfg0.N) (p k : Fin 1024) : (iblk m c 0 t : Vec Ideal S1024x1024 .bf16) (ix2 p k) = x (ix2 (row t k) p) := by
  refine Eq.trans ?_ (hV.a0 p (row t k))
  unfold row
  blk_ext [iblk, idx0 t]

theorem b1 (t : Fin cfg0.N) (k : Fin 1024) (n : Fin 1664) : (iblk m c 1 t : Vec Ideal S1024x1664 .bf16) (ix2 k n) = perm (f (row t k)) (at' t n).val := by
  refine Eq.trans ?_ (hV.a1 (row t k) (at' t n))
  unfold row at'
  blk_ext [iblk, idx1 t]

omit hV in
theorem emb2 (t : Fin cfg0.N) (p : Fin 1024) (n : Fin 1664) :
    ((win0_2.blk t).view.emb (ix2 p n : S1024x1664.Idx) : S1024x3328.Idx) = ix2 p (at' t n) := by
  unfold at'
  blk_ext [idx2 t]

omit hV in
theorem step (g : Fin 8192 → EReal) (t : Fin cfg0.N) (s : EReal) (hs : s = ∑ r ∈ Finset.range (1024 * (t.val % 8)), nat g r) :
    s + ∑ k : Fin 1024, g (row t k) = ∑ r ∈ Finset.range (1024 * (t.val % 8 + 1)), nat g r := by
  rw [Nat.mul_add, Nat.mul_one, Finset.sum_range_add, hs, Finset.sum_range (fun k => nat g (1024 * (t.val % 8) + k))]
  exact congrArg _ (Finset.sum_congr rfl fun k _ => nat_val g (row t k))

theorem block (t : Fin cfg0.N) (p : Fin 1024) (n : Fin 1664) (y0 : Vec Ideal S1024x1024 .bf16) (y1 : Vec Ideal S1024x1664 .bf16)
    (e0 : y0 = iblk m c 0 t) (e1 : y1 = iblk m c 1 t) :
    ∑ k : Fin 1024, y0 (ix2 p k) * y1 (ix2 k n) = ∑ k : Fin 1024, term x f p (at' t n) (row t k) := by
  subst e0 e1
  exact Finset.sum_congr rfl fun k _ => congrArg₂ (· * ·) (b0 hV t p k) (b1 hV t k n)

theorem acc (k : ℕ) : ∀ (t : Fin cfg0.N), t.val % 8 = k → k < 7 → ∀ (p : Fin 1024) (n : Fin 1664),
    (outsAt0 m c t.val t.isLt).2 (ix2 p n) = ∑ r ∈ Finset.range (1024 * (k + 1)), nat (term x f p (at' t n)) r := by
  induction k with
  | zero =>
    intro t hk h7 p n
    have hb := fun y0 y1 => block hV t p n y0 y1
    have hs := step (term x f p (at' t n)) t 0 (by rw [hk]; rfl)
    rw [outsAt0_A m c t hk (by omega) (by omega)]
    dsimp only
    generalize iblk m c 0 t = y0 at hb ⊢
    generalize iblk m c 1 t = y1 at hb ⊢
    generalize ms0_0 t = m0, hs0_0 t = g0, ms0_1 t = m1, hs0_1 t = g1, ms0_2 t = m2, hs0_2 t = g2
    rw [first_eq, pay2_apply, hb _ _ rfl rfl, ← zero_add (∑ k : Fin 1024, _), hs, hk]
  | succ k ih =>
    intro t hk h7 p n
    have hN := t.isLt
    have hb := fun y0 y1 => block hV t p n y0 y1
    have hp := ih ⟨t.val - 1, by omega⟩ (by dsimp only; omega) (by omega) p n
    have ha : at' ⟨t.val - 1, by omega⟩ n = at' t n := Fin.ext (by unfold at'; dsimp only; rw [show (t.val - 1) / 8 = t.val / 8 by omega])
    rw [ha] at hp
    have hs := step (term x f p (at' t n)) t _ (hp.trans (by rw [hk]))
    rw [outsAt0_B m c t (by omega) (by omega) (by omega)]
    dsimp only at hs ⊢
    generalize (outsAt0 m c (t.val - 1) (Nat.lt_of_le_of_lt (Nat.sub_le _ _) t.isLt)).2 = s at hs ⊢
    generalize iblk m c 0 t = y0 at hb ⊢
    generalize iblk m c 1 t = y1 at hb ⊢
    generalize ms0_0 t = m0, hs0_0 t = g0, ms0_1 t = m1, hs0_1 t = g1, ms0_2 t = m2, hs0_2 t = g2
    rw [next_eq, pay3_apply, hb _ _ rfl rfl, hs, hk]

theorem out_at (t : Fin cfg0.N) (hk : t.val % 8 = 7) (p : Fin 1024) (n : Fin 1664) :
    (outsAt0 m c t.val t.isLt).1 (ix2 p n) = ∑ r : Fin 8192, term x f p (at' t n) r := by
  have hN := t.isLt
  have hb := fun y0 y1 => block hV t p n y0 y1
  have hp := acc hV 6 ⟨t.val - 1, by omega⟩ (by dsimp only; omega) (by omega) p n
  have ha : at' ⟨t.val - 1, by omega⟩ n = at' t n := Fin.ext (by unfold at'; dsimp only; rw [show (t.val - 1) / 8 = t.val / 8 by omega])
  rw [ha] at hp
  have hs := step (term x f p (at' t n)) t _ (hp.trans (by rw [hk]))
  rw [outsAt0_C m c t (by omega) (by omega) hk]
  dsimp only at hs ⊢
  generalize (outsAt0 m c (t.val - 1) (Nat.lt_of_le_of_lt (Nat.sub_le _ _) t.isLt)).2 = s at hs ⊢
  generalize iblk m c 0 t = y0 at hb ⊢
  generalize iblk m c 1 t = y1 at hb ⊢
  generalize ms0_0 t = m0, hs0_0 t = g0, ms0_1 t = m1, hs0_1 t = g1, ms0_2 t = m2, hs0_2 t = g2
  rw [last_eq, pay3_apply, hb _ _ rfl rfl, hs, hk]
  exact (Finset.sum_range _).trans (Finset.sum_congr rfl fun r _ => (nat_val _ r).symm)

omit hV in
variable (x f) in
/-- The weight's gradient, its columns in the call's order. -/
def gw : Vec Ideal S1024x3328 .f32 := fun y => ∑ r : Fin 8192, x (ix2 r (y 0)) * perm (f r) (y 1).val

theorem arr2 : (dats m 0 c).arrAt 2 cfg0.N = gw x f := by
  refine (dats m 0 c).arrAt_eq_of_covers 2 _ (by decide +kernel) fun t hf y => ?_
  have hk := ends t hf
  blk_simp
  rw [after0_2]
  revert y
  suffices h : ∀ y : S1024x1664.Idx, (outsAt0 m c t.val t.isLt).1 y = gw x f ((win0_2.blk t).view.emb y) from h
  intro y
  obtain ⟨p, n, rfl⟩ : ∃ p n, y = ix2 p n := ⟨y 0, y 1, eq_ix2 y⟩
  rw [emb2 t p n]
  exact out_at hV t hk p n

end Cert.Proj.Dw

end
-- ==== Proof.Proj.DwHost.lean ====
/- The weight gradient's operands, from the arguments. -/
module

public import proofs.«01_k».proof.Proof.Proj.DwArrays
public import Idealize.ShloMosaic.Lib.StableHlo.ReadAt

@[expose] public section

set_option maxRecDepth 16384

noncomputable section

namespace Cert.Proj.Dw

open Idealize.ShloMosaic Idealize.SL.Sem Idealize.ShloMosaic.TcCoe
open Cert.DwIdeal Cert.DwIdeal.Gen

variable (m : (ℓ : Loc nD τ sig) → Buf (Elt Ideal) ℓ) (c : Dev nD)

/-- The input and the twelve pieces. -/
abbrev x0 : M 8192 1024 := m ((c : Thread nD τ).loc main_arg0)
abbrev c0 : M 8192 256 := m ((c : Thread nD τ).loc main_arg1)
abbrev c1 : M 8192 256 := m ((c : Thread nD τ).loc main_arg2)
abbrev c2 : M 8192 256 := m ((c : Thread nD τ).loc main_arg3)
abbrev c3 : M 8192 4 := m ((c : Thread nD τ).loc main_arg4)
abbrev c4 : M 8192 256 := m ((c : Thread nD τ).loc main_arg5)
abbrev c5 : M 8192 256 := m ((c : Thread nD τ).loc main_arg6)
abbrev c6 : M 8192 256 := m ((c : Thread nD τ).loc main_arg7)
abbrev c7 : M 8192 256 := m ((c : Thread nD τ).loc main_arg8)
abbrev c8 : M 8192 128 := m ((c : Thread nD τ).loc main_arg9)
abbrev c9 : M 8192 32 := m ((c : Thread nD τ).loc main_arg10)
abbrev c10 : M 8192 256 := m ((c : Thread nD τ).loc main_arg11)
abbrev c11 : M 8192 1024 := m ((c : Thread nD τ).loc main_arg12)

/-- The pieces' rows. -/
abbrev fr (r : Fin 8192) : Fin 12 → ℕ → EReal := rows r (c0 m c) (c1 m c) (c2 m c) (c3 m c) (c4 m c) (c5 m c) (c6 m c) (c7 m c) (c8 m c) (c9 m c) (c10 m c) (c11 m c)

theorem v16_eq : V (F := Ideal) m c main_v16 = (truncf (F := Ideal) .bf16 (transpose S1024x8192 [1, 0] (x0 m c : Vec Ideal S8192x1024 .f32) transposes_S8192x1024_S1024x8192_1_0 : Vec Ideal S1024x8192 .f32) bitsLt_bf16_f32 : Vec Ideal S1024x8192 .bf16) := by
  unfold V
  after_reads_simp

/-- The narrow pieces and zeros, in the narrow format. -/
def narrow {F : FTy → Type} [FloatOps F] (y9 : Vec F S8192x32 .f32) (y3 : Vec F S8192x4 .f32) : Vec F S8192x128 .bf16 :=
  concatenate S8192x128 1 [⟨S8192x32, truncf (F := F) .bf16 y9 bitsLt_bf16_f32⟩, ⟨S8192x4, truncf (F := F) .bf16 y3 bitsLt_bf16_f32⟩, ⟨S8192x92, broadcastInDim S8192x92 ![] bcast_S_S8192x92 (constant (F := F) S_ .bf16 0x0000#16)⟩] concatenates_S8192x32_S8192x4_S8192x92_S8192x128_d1

/-- The pieces in the call's order, in the narrow format. -/
def wideRow {F : FTy → Type} [FloatOps F] (y0 : Vec F S8192x256 .f32) (y1 : Vec F S8192x256 .f32) (y2 : Vec F S8192x256 .f32) (y4 : Vec F S8192x256 .f32) (y5 : Vec F S8192x256 .f32) (y6 : Vec F S8192x256 .f32) (y7 : Vec F S8192x256 .f32) (y8 : Vec F S8192x128 .f32) (y10 : Vec F S8192x256 .f32) (y11 : Vec F S8192x1024 .f32) (z : Vec F S8192x128 .bf16) : Vec F S8192x3328 .bf16 :=
  concatenate S8192x3328 1 [⟨S8192x256, truncf (F := F) .bf16 y0 bitsLt_bf16_f32⟩, ⟨S8192x256, truncf (F := F) .bf16 y1 bitsLt_bf16_f32⟩, ⟨S8192x256, truncf (F := F) .bf16 y2 bitsLt_bf16_f32⟩, ⟨S8192x256, truncf (F := F) .bf16 y4 bitsLt_bf16_f32⟩, ⟨S8192x256, truncf (F := F) .bf16 y5 bitsLt_bf16_f32⟩, ⟨S8192x256, truncf (F := F) .bf16 y6 bitsLt_bf16_f32⟩, ⟨S8192x256, truncf (F := F) .bf16 y7 bitsLt_bf16_f32⟩, ⟨S8192x128, truncf (F := F) .bf16 y8 bitsLt_bf16_f32⟩, ⟨S8192x256, truncf (F := F) .bf16 y10 bitsLt_bf16_f32⟩, ⟨S8192x1024, truncf (F := F) .bf16 y11 bitsLt_bf16_f32⟩, ⟨S8192x128, z⟩] concatenates_S8192x256_S8192x256_S8192x256_S8192x256_S8192x256_S8192x256_S8192x256_S8192x128_S8192x256_S8192x1024_S8192x128_S8192x3328_d1

theorem pc {α : Type} {s : Shape} {x y : s.Idx → α} {l l' : List ((s : Shape) × (s.Idx → α))} (h : x = y) (e : l = l') :
    ((⟨s, x⟩ : (s : Shape) × (s.Idx → α)) :: l) = ⟨s, y⟩ :: l' := by
  subst h; subst e; rfl

theorem v10_eq : StableHlo.upto hostOps0 (fun b => m (c, b)) 15 (Proc.devRef .tc main_v10) = narrow (F := Ideal) (c9 m c) (c3 m c) := by
  after_reads_simp
  unfold narrow
  refine StableHlo.concatenate_congr _ _ (pc ?_ (pc ?_ (pc ?_ rfl))) _ _
  · show StableHlo.upto hostOps0 (fun b => m (c, b)) 11 (Proc.devRef .tc main_v7) = _
    after_reads_simp
  · show StableHlo.upto hostOps0 (fun b => m (c, b)) 11 (Proc.devRef .tc main_v8) = _
    after_reads_simp
  · show StableHlo.upto hostOps0 (fun b => m (c, b)) 11 (Proc.devRef .tc main_v9) = _
    after_reads_simp

theorem v14_eq : V (F := Ideal) m c main_v14 = wideRow (F := Ideal) (c0 m c) (c1 m c) (c2 m c) (c4 m c) (c5 m c) (c6 m c) (c7 m c) (c8 m c) (c10 m c) (c11 m c) (narrow (F := Ideal) (c9 m c) (c3 m c)) := by
  unfold V
  after_reads_simp
  unfold wideRow
  refine StableHlo.concatenate_congr _ _ (pc ?_ (pc ?_ (pc ?_ (pc ?_ (pc ?_ (pc ?_ (pc ?_ (pc ?_ (pc ?_ (pc ?_ (pc ?_ (rfl)))))))))))) _ _
  · show StableHlo.upto hostOps0 (fun b => m (c, b)) 15 (Proc.devRef .tc main_v0) = _
    after_reads_simp
  · show StableHlo.upto hostOps0 (fun b => m (c, b)) 15 (Proc.devRef .tc main_v1) = _
    after_reads_simp
  · show StableHlo.upto hostOps0 (fun b => m (c, b)) 15 (Proc.devRef .tc main_v2) = _
    after_reads_simp
  · show StableHlo.upto hostOps0 (fun b => m (c, b)) 15 (Proc.devRef .tc main_v3) = _
    after_reads_simp
  · show StableHlo.upto hostOps0 (fun b => m (c, b)) 15 (Proc.devRef .tc main_v4) = _
    after_reads_simp
  · show StableHlo.upto hostOps0 (fun b => m (c, b)) 15 (Proc.devRef .tc main_v5) = _
    after_reads_simp
  · show StableHlo.upto hostOps0 (fun b => m (c, b)) 15 (Proc.devRef .tc main_v11) = _
    after_reads_simp
  · show StableHlo.upto hostOps0 (fun b => m (c, b)) 15 (Proc.devRef .tc main_v12) = _
    after_reads_simp
  · show StableHlo.upto hostOps0 (fun b => m (c, b)) 15 (Proc.devRef .tc main_v6) = _
    after_reads_simp
  · show StableHlo.upto hostOps0 (fun b => m (c, b)) 15 (Proc.devRef .tc main_v13) = _
    after_reads_simp
  · exact v10_eq m c

theorem zero16 : Ideal.ofBits .bf16 0x0000#16 = 0 := by
  simp [Ideal.ofBits, Ideal.ieee]

theorem narrow_at (y9 : Vec Ideal S8192x32 .f32) (y3 : Vec Ideal S8192x4 .f32) (f : Fin 12 → ℕ → EReal) (r : Fin 8192) (h9 : ∀ k, y9 (ix2 r k) = f 9 k.val) (h3 : ∀ k, y3 (ix2 r k) = f 3 k.val) (n : Fin 128) :
    narrow (F := Ideal) y9 y3 (ix2 r n) = lad [(32, f 9), (4, f 3), (92, fun _ => 0)] n.val := by
  unfold narrow
  refine cat_narrow_8192 f r _ _ _ (fun k => ?_) (fun k => ?_) (fun k => ?_) _ n
  · exact h9 k
  · exact h3 k
  · pointwise [zero16]

theorem wideRow_at (y0 : Vec Ideal S8192x256 .f32) (y1 : Vec Ideal S8192x256 .f32) (y2 : Vec Ideal S8192x256 .f32) (y4 : Vec Ideal S8192x256 .f32) (y5 : Vec Ideal S8192x256 .f32) (y6 : Vec Ideal S8192x256 .f32) (y7 : Vec Ideal S8192x256 .f32) (y8 : Vec Ideal S8192x128 .f32) (y10 : Vec Ideal S8192x256 .f32) (y11 : Vec Ideal S8192x1024 .f32) (z : Vec Ideal S8192x128 .bf16) (f : Fin 12 → ℕ → EReal) (r : Fin 8192)
    (h0 : ∀ k, y0 (ix2 r k) = f 0 k.val) (h1 : ∀ k, y1 (ix2 r k) = f 1 k.val) (h2 : ∀ k, y2 (ix2 r k) = f 2 k.val) (h4 : ∀ k, y4 (ix2 r k) = f 4 k.val) (h5 : ∀ k, y5 (ix2 r k) = f 5 k.val) (h6 : ∀ k, y6 (ix2 r k) = f 6 k.val) (h7 : ∀ k, y7 (ix2 r k) = f 7 k.val) (h8 : ∀ k, y8 (ix2 r k) = f 8 k.val) (h10 : ∀ k, y10 (ix2 r k) = f 10 k.val) (h11 : ∀ k, y11 (ix2 r k) = f 11 k.val) (hz : ∀ k, z (ix2 r k) = lad [(32, f 9), (4, f 3), (92, fun _ => 0)] k.val) (n : Fin 3328) :
    wideRow (F := Ideal) y0 y1 y2 y4 y5 y6 y7 y8 y10 y11 z (ix2 r n) = perm f n.val := by
  unfold wideRow
  exact cat_wide_8192 f r _ _ _ _ _ _ _ _ _ _ z h0 h1 h2 h4 h5 h6 h7 h8 h10 h11 hz _ n

theorem given : Given m c (x0 m c) (fr m c) where
  a0 p r := by
    rw [v16_eq]
    generalize x0 m c = y
    pointwise
  a1 r n := (congrFun (v14_eq m c) _).trans (wideRow_at _ _ _ _ _ _ _ _ _ _ _ (fr m c r) r (nat_val fun k => c0 m c (ix2 r k)) (nat_val fun k => c1 m c (ix2 r k)) (nat_val fun k => c2 m c (ix2 r k)) (nat_val fun k => c4 m c (ix2 r k)) (nat_val fun k => c5 m c (ix2 r k)) (nat_val fun k => c6 m c (ix2 r k)) (nat_val fun k => c7 m c (ix2 r k)) (nat_val fun k => c8 m c (ix2 r k)) (nat_val fun k => c10 m c (ix2 r k)) (nat_val fun k => c11 m c (ix2 r k))
    (narrow_at _ _ (fr m c r) r (nat_val fun k => c9 m c (ix2 r k)) (nat_val fun k => c3 m c (ix2 r k))) n)

end Cert.Proj.Dw

end
-- ==== Proof.Proj.DwEqual.lean ====
/- The weight gradient's call returns what the reference returns. -/
module

public import proofs.«01_k».proof.Defs
public import proofs.«01_k».proof.Proof.Proj.DwHost
public import proofs.«01_k».proof.Proof.Gen.DwReferenceIdeal.Read

@[expose] public section

set_option maxRecDepth 16384

noncomputable section

namespace Cert.Proj.Dw

open Idealize.ShloMosaic Cert.DwReferenceIdeal Cert.DwReferenceIdeal.Read

variable (x : M 8192 1024) (x1 : M 8192 256) (x2 : M 8192 256) (x3 : M 8192 256) (x4 : M 8192 4) (x5 : M 8192 256) (x6 : M 8192 256) (x7 : M 8192 256) (x8 : M 8192 256) (x9 : M 8192 128) (x10 : M 8192 32) (x11 : M 8192 256) (x12 : M 8192 1024)

theorem zero92 (p : Fin 1024) (k : Fin 92) : val_main_v29 (F := Ideal) (ix2 p k) = 0 := by
  unfold val_main_v29
  pointwise
  exact Ideal.ofBits_zero_f32

theorem w14_at (r : Fin 8192) (d : Fin 3236) :
    val_main_v14 (F := Ideal) x1 x2 x3 x4 x5 x6 x7 x8 x9 x10 x11 x12 (ix2 r d) = orig (rows r x1 x2 x3 x4 x5 x6 x7 x8 x9 x10 x11 x12) d.val := by
  unfold val_main_v14
  exact cat_orig_8192 (rows r x1 x2 x3 x4 x5 x6 x7 x8 x9 x10 x11 x12) r x1 x2 x3 x4 x5 x6 x7 x8 x9 x10 x11 x12 (nat_val fun k => x1 (ix2 r k)) (nat_val fun k => x2 (ix2 r k)) (nat_val fun k => x3 (ix2 r k)) (nat_val fun k => x4 (ix2 r k)) (nat_val fun k => x5 (ix2 r k)) (nat_val fun k => x6 (ix2 r k)) (nat_val fun k => x7 (ix2 r k)) (nat_val fun k => x8 (ix2 r k)) (nat_val fun k => x9 (ix2 r k)) (nat_val fun k => x10 (ix2 r k)) (nat_val fun k => x11 (ix2 r k)) (nat_val fun k => x12 (ix2 r k)) _ d

theorem w16_at (p : Fin 1024) (d : Fin 3236) :
    val_main_v16 (F := Ideal) x x1 x2 x3 x4 x5 x6 x7 x8 x9 x10 x11 x12 (ix2 p d) = ∑ r : Fin 8192, x (ix2 r p) * orig (rows r x1 x2 x3 x4 x5 x6 x7 x8 x9 x10 x11 x12) d.val := by
  rw [val_main_v16_apply, val_main_v15_apply]
  refine Finset.sum_congr rfl fun r _ => (mul_comm _ _).trans (congrArg₂ (· * ·) (congrArg x (funext fun a => by fin_cases a <;> rfl)) ?_)
  exact (congrArg _ (funext fun a => by fin_cases a <;> rfl)).trans (w14_at x1 x2 x3 x4 x5 x6 x7 x8 x9 x10 x11 x12 r d)

theorem part0 (p : Fin 1024) (k : Fin 256) :
    val_main_v17 (F := Ideal) x x1 x2 x3 x4 x5 x6 x7 x8 x9 x10 x11 x12 (ix2 p k) = pieces p (val_main_v16 (F := Ideal) x x1 x2 x3 x4 x5 x6 x7 x8 x9 x10 x11 x12) 0 k.val := by
  have hk := k.isLt
  rw [val_main_v17_apply]
  show _ = nat (fun k => val_main_v16 (F := Ideal) x x1 x2 x3 x4 x5 x6 x7 x8 x9 x10 x11 x12 (ix2 p k)) (0 + k.val)
  rw [nat_lt _ (by omega)]
  generalize val_main_v16 (F := Ideal) x x1 x2 x3 x4 x5 x6 x7 x8 x9 x10 x11 x12 = y
  exact congrArg y (funext fun a => match a with
    | ⟨0, _⟩ => rfl
    | ⟨1, _⟩ => Fin.ext (by show k.val = 0 + k.val; omega))

theorem part1 (p : Fin 1024) (k : Fin 256) :
    val_main_v18 (F := Ideal) x x1 x2 x3 x4 x5 x6 x7 x8 x9 x10 x11 x12 (ix2 p k) = pieces p (val_main_v16 (F := Ideal) x x1 x2 x3 x4 x5 x6 x7 x8 x9 x10 x11 x12) 1 k.val := by
  have hk := k.isLt
  rw [val_main_v18_apply]
  show _ = nat (fun k => val_main_v16 (F := Ideal) x x1 x2 x3 x4 x5 x6 x7 x8 x9 x10 x11 x12 (ix2 p k)) (256 + k.val)
  rw [nat_lt _ (by omega)]
  generalize val_main_v16 (F := Ideal) x x1 x2 x3 x4 x5 x6 x7 x8 x9 x10 x11 x12 = y
  exact congrArg y (funext fun a => match a with
    | ⟨0, _⟩ => rfl
    | ⟨1, _⟩ => Fin.ext (by show 256 + k.val = 256 + k.val; omega))

theorem part2 (p : Fin 1024) (k : Fin 256) :
    val_main_v19 (F := Ideal) x x1 x2 x3 x4 x5 x6 x7 x8 x9 x10 x11 x12 (ix2 p k) = pieces p (val_main_v16 (F := Ideal) x x1 x2 x3 x4 x5 x6 x7 x8 x9 x10 x11 x12) 2 k.val := by
  have hk := k.isLt
  rw [val_main_v19_apply]
  show _ = nat (fun k => val_main_v16 (F := Ideal) x x1 x2 x3 x4 x5 x6 x7 x8 x9 x10 x11 x12 (ix2 p k)) (512 + k.val)
  rw [nat_lt _ (by omega)]
  generalize val_main_v16 (F := Ideal) x x1 x2 x3 x4 x5 x6 x7 x8 x9 x10 x11 x12 = y
  exact congrArg y (funext fun a => match a with
    | ⟨0, _⟩ => rfl
    | ⟨1, _⟩ => Fin.ext (by show 512 + k.val = 512 + k.val; omega))

theorem part3 (p : Fin 1024) (k : Fin 4) :
    val_main_v20 (F := Ideal) x x1 x2 x3 x4 x5 x6 x7 x8 x9 x10 x11 x12 (ix2 p k) = pieces p (val_main_v16 (F := Ideal) x x1 x2 x3 x4 x5 x6 x7 x8 x9 x10 x11 x12) 3 k.val := by
  have hk := k.isLt
  rw [val_main_v20_apply]
  show _ = nat (fun k => val_main_v16 (F := Ideal) x x1 x2 x3 x4 x5 x6 x7 x8 x9 x10 x11 x12 (ix2 p k)) (768 + k.val)
  rw [nat_lt _ (by omega)]
  generalize val_main_v16 (F := Ideal) x x1 x2 x3 x4 x5 x6 x7 x8 x9 x10 x11 x12 = y
  exact congrArg y (funext fun a => match a with
    | ⟨0, _⟩ => rfl
    | ⟨1, _⟩ => Fin.ext (by show 768 + k.val = 768 + k.val; omega))

theorem part4 (p : Fin 1024) (k : Fin 256) :
    val_main_v21 (F := Ideal) x x1 x2 x3 x4 x5 x6 x7 x8 x9 x10 x11 x12 (ix2 p k) = pieces p (val_main_v16 (F := Ideal) x x1 x2 x3 x4 x5 x6 x7 x8 x9 x10 x11 x12) 4 k.val := by
  have hk := k.isLt
  rw [val_main_v21_apply]
  show _ = nat (fun k => val_main_v16 (F := Ideal) x x1 x2 x3 x4 x5 x6 x7 x8 x9 x10 x11 x12 (ix2 p k)) (772 + k.val)
  rw [nat_lt _ (by omega)]
  generalize val_main_v16 (F := Ideal) x x1 x2 x3 x4 x5 x6 x7 x8 x9 x10 x11 x12 = y
  exact congrArg y (funext fun a => match a with
    | ⟨0, _⟩ => rfl
    | ⟨1, _⟩ => Fin.ext (by show 772 + k.val = 772 + k.val; omega))

theorem part5 (p : Fin 1024) (k : Fin 256) :
    val_main_v22 (F := Ideal) x x1 x2 x3 x4 x5 x6 x7 x8 x9 x10 x11 x12 (ix2 p k) = pieces p (val_main_v16 (F := Ideal) x x1 x2 x3 x4 x5 x6 x7 x8 x9 x10 x11 x12) 5 k.val := by
  have hk := k.isLt
  rw [val_main_v22_apply]
  show _ = nat (fun k => val_main_v16 (F := Ideal) x x1 x2 x3 x4 x5 x6 x7 x8 x9 x10 x11 x12 (ix2 p k)) (1028 + k.val)
  rw [nat_lt _ (by omega)]
  generalize val_main_v16 (F := Ideal) x x1 x2 x3 x4 x5 x6 x7 x8 x9 x10 x11 x12 = y
  exact congrArg y (funext fun a => match a with
    | ⟨0, _⟩ => rfl
    | ⟨1, _⟩ => Fin.ext (by show 1028 + k.val = 1028 + k.val; omega))

theorem part6 (p : Fin 1024) (k : Fin 256) :
    val_main_v23 (F := Ideal) x x1 x2 x3 x4 x5 x6 x7 x8 x9 x10 x11 x12 (ix2 p k) = pieces p (val_main_v16 (F := Ideal) x x1 x2 x3 x4 x5 x6 x7 x8 x9 x10 x11 x12) 6 k.val := by
  have hk := k.isLt
  rw [val_main_v23_apply]
  show _ = nat (fun k => val_main_v16 (F := Ideal) x x1 x2 x3 x4 x5 x6 x7 x8 x9 x10 x11 x12 (ix2 p k)) (1284 + k.val)
  rw [nat_lt _ (by omega)]
  generalize val_main_v16 (F := Ideal) x x1 x2 x3 x4 x5 x6 x7 x8 x9 x10 x11 x12 = y
  exact congrArg y (funext fun a => match a with
    | ⟨0, _⟩ => rfl
    | ⟨1, _⟩ => Fin.ext (by show 1284 + k.val = 1284 + k.val; omega))

theorem part7 (p : Fin 1024) (k : Fin 256) :
    val_main_v24 (F := Ideal) x x1 x2 x3 x4 x5 x6 x7 x8 x9 x10 x11 x12 (ix2 p k) = pieces p (val_main_v16 (F := Ideal) x x1 x2 x3 x4 x5 x6 x7 x8 x9 x10 x11 x12) 7 k.val := by
  have hk := k.isLt
  rw [val_main_v24_apply]
  show _ = nat (fun k => val_main_v16 (F := Ideal) x x1 x2 x3 x4 x5 x6 x7 x8 x9 x10 x11 x12 (ix2 p k)) (1540 + k.val)
  rw [nat_lt _ (by omega)]
  generalize val_main_v16 (F := Ideal) x x1 x2 x3 x4 x5 x6 x7 x8 x9 x10 x11 x12 = y
  exact congrArg y (funext fun a => match a with
    | ⟨0, _⟩ => rfl
    | ⟨1, _⟩ => Fin.ext (by show 1540 + k.val = 1540 + k.val; omega))

theorem part8 (p : Fin 1024) (k : Fin 128) :
    val_main_v25 (F := Ideal) x x1 x2 x3 x4 x5 x6 x7 x8 x9 x10 x11 x12 (ix2 p k) = pieces p (val_main_v16 (F := Ideal) x x1 x2 x3 x4 x5 x6 x7 x8 x9 x10 x11 x12) 8 k.val := by
  have hk := k.isLt
  rw [val_main_v25_apply]
  show _ = nat (fun k => val_main_v16 (F := Ideal) x x1 x2 x3 x4 x5 x6 x7 x8 x9 x10 x11 x12 (ix2 p k)) (1796 + k.val)
  rw [nat_lt _ (by omega)]
  generalize val_main_v16 (F := Ideal) x x1 x2 x3 x4 x5 x6 x7 x8 x9 x10 x11 x12 = y
  exact congrArg y (funext fun a => match a with
    | ⟨0, _⟩ => rfl
    | ⟨1, _⟩ => Fin.ext (by show 1796 + k.val = 1796 + k.val; omega))

theorem part9 (p : Fin 1024) (k : Fin 32) :
    val_main_v26 (F := Ideal) x x1 x2 x3 x4 x5 x6 x7 x8 x9 x10 x11 x12 (ix2 p k) = pieces p (val_main_v16 (F := Ideal) x x1 x2 x3 x4 x5 x6 x7 x8 x9 x10 x11 x12) 9 k.val := by
  have hk := k.isLt
  rw [val_main_v26_apply]
  show _ = nat (fun k => val_main_v16 (F := Ideal) x x1 x2 x3 x4 x5 x6 x7 x8 x9 x10 x11 x12 (ix2 p k)) (1924 + k.val)
  rw [nat_lt _ (by omega)]
  generalize val_main_v16 (F := Ideal) x x1 x2 x3 x4 x5 x6 x7 x8 x9 x10 x11 x12 = y
  exact congrArg y (funext fun a => match a with
    | ⟨0, _⟩ => rfl
    | ⟨1, _⟩ => Fin.ext (by show 1924 + k.val = 1924 + k.val; omega))

theorem part10 (p : Fin 1024) (k : Fin 256) :
    val_main_v27 (F := Ideal) x x1 x2 x3 x4 x5 x6 x7 x8 x9 x10 x11 x12 (ix2 p k) = pieces p (val_main_v16 (F := Ideal) x x1 x2 x3 x4 x5 x6 x7 x8 x9 x10 x11 x12) 10 k.val := by
  have hk := k.isLt
  rw [val_main_v27_apply]
  show _ = nat (fun k => val_main_v16 (F := Ideal) x x1 x2 x3 x4 x5 x6 x7 x8 x9 x10 x11 x12 (ix2 p k)) (1956 + k.val)
  rw [nat_lt _ (by omega)]
  generalize val_main_v16 (F := Ideal) x x1 x2 x3 x4 x5 x6 x7 x8 x9 x10 x11 x12 = y
  exact congrArg y (funext fun a => match a with
    | ⟨0, _⟩ => rfl
    | ⟨1, _⟩ => Fin.ext (by show 1956 + k.val = 1956 + k.val; omega))

theorem part11 (p : Fin 1024) (k : Fin 1024) :
    val_main_v28 (F := Ideal) x x1 x2 x3 x4 x5 x6 x7 x8 x9 x10 x11 x12 (ix2 p k) = pieces p (val_main_v16 (F := Ideal) x x1 x2 x3 x4 x5 x6 x7 x8 x9 x10 x11 x12) 11 k.val := by
  have hk := k.isLt
  rw [val_main_v28_apply]
  show _ = nat (fun k => val_main_v16 (F := Ideal) x x1 x2 x3 x4 x5 x6 x7 x8 x9 x10 x11 x12 (ix2 p k)) (2212 + k.val)
  rw [nat_lt _ (by omega)]
  generalize val_main_v16 (F := Ideal) x x1 x2 x3 x4 x5 x6 x7 x8 x9 x10 x11 x12 = y
  exact congrArg y (funext fun a => match a with
    | ⟨0, _⟩ => rfl
    | ⟨1, _⟩ => Fin.ext (by show 2212 + k.val = 2212 + k.val; omega))

theorem w30_at (p : Fin 1024) (n : Fin 3328) :
    val_main_v30 (F := Ideal) x x1 x2 x3 x4 x5 x6 x7 x8 x9 x10 x11 x12 (ix2 p n) = perm (pieces p (val_main_v16 (F := Ideal) x x1 x2 x3 x4 x5 x6 x7 x8 x9 x10 x11 x12)) n.val := by
  unfold val_main_v30
  exact cat_call_1024 (pieces p (val_main_v16 (F := Ideal) x x1 x2 x3 x4 x5 x6 x7 x8 x9 x10 x11 x12)) p _ _ _ _ _ _ _ _ _ _ _ _ _ (part0 x x1 x2 x3 x4 x5 x6 x7 x8 x9 x10 x11 x12 p) (part1 x x1 x2 x3 x4 x5 x6 x7 x8 x9 x10 x11 x12 p) (part2 x x1 x2 x3 x4 x5 x6 x7 x8 x9 x10 x11 x12 p) (part3 x x1 x2 x3 x4 x5 x6 x7 x8 x9 x10 x11 x12 p) (part4 x x1 x2 x3 x4 x5 x6 x7 x8 x9 x10 x11 x12 p) (part5 x x1 x2 x3 x4 x5 x6 x7 x8 x9 x10 x11 x12 p) (part6 x x1 x2 x3 x4 x5 x6 x7 x8 x9 x10 x11 x12 p) (part7 x x1 x2 x3 x4 x5 x6 x7 x8 x9 x10 x11 x12 p) (part8 x x1 x2 x3 x4 x5 x6 x7 x8 x9 x10 x11 x12 p) (part9 x x1 x2 x3 x4 x5 x6 x7 x8 x9 x10 x11 x12 p) (part10 x x1 x2 x3 x4 x5 x6 x7 x8 x9 x10 x11 x12 p) (part11 x x1 x2 x3 x4 x5 x6 x7 x8 x9 x10 x11 x12 p) (zero92 p) _ n

theorem gw_eq : gw x (fun r => rows r x1 x2 x3 x4 x5 x6 x7 x8 x9 x10 x11 x12) = val_main_v30 (F := Ideal) x x1 x2 x3 x4 x5 x6 x7 x8 x9 x10 x11 x12 := by
  funext y
  obtain ⟨p, n, rfl⟩ : ∃ (p : Fin 1024) (n : Fin 3328), y = ix2 p n := ⟨y 0, y 1, eq_ix2 y⟩
  rw [w30_at, perm_eq _ _ n.isLt]
  show ∑ r : Fin 8192, x (ix2 r p) * perm (rows r x1 x2 x3 x4 x5 x6 x7 x8 x9 x10 x11 x12) n.val = _
  simp only [perm_eq _ _ n.isLt]
  split
  · rename_i h
    have e := w16_at x x1 x2 x3 x4 x5 x6 x7 x8 x9 x10 x11 x12 p ⟨col n.val, col_lt h⟩
    exact ((orig_pieces p _ ⟨col n.val, col_lt h⟩).trans e).symm
  · simp only [mul_zero, Finset.sum_const_zero]

end Cert.Proj.Dw

end
-- ==== Proof.Proj.SplitPoint.lean ====
/- What one grid point of the forward projection's call stores. -/
module

public import proofs.«01_k».proof.Proof.Gen.SplitIdeal.Value
public import proofs.«01_k».proof.Proof.Proj.Cols
public import Idealize.ShloMosaic.Lib.Pipeline.ValueKit
public import Idealize.ShloMosaic.Lib.VecWindow

@[expose] public section

set_option maxRecDepth 16384

noncomputable section

namespace Cert.Proj.Split

open Idealize.ShloMosaic Idealize.SL.Sem Idealize.ShloMosaic.TcCoe
open Cert.SplitIdeal Cert.SplitIdeal.Gen

theorem zz : (![0, 0] : Fin 2 → ℕ) = fun _ => 0 := by
  funext a
  match a with
  | ⟨0, _⟩ => rfl
  | ⟨1, _⟩ => rfl

variable (x0 : Vec Ideal S512x1024 .bf16) (x1 : Vec Ideal S1024x3328 .bf16)

theorem x0_whole : View.ld x0 r0_0 = x0 := View.ld_unit_zero zz _ _

theorem mid : k0_pay13 x0 x1 = x0 := by
  unfold k0_pay13
  rw [x0_whole]
  funext y
  obtain ⟨q, n, rfl⟩ : ∃ (q : Fin 512) (n : Fin 1024), y = ix2 q n := ⟨y 0, y 1, eq_ix2 y⟩
  pointwise [k0_pay1]

theorem ld2 (k : Fin 1024) (n : Fin 256) : View.ld x1 r0_1 (ix2 k n) = x1 (ix2 k ⟨0 + n.val, by omega⟩) :=
  View.ld_unit_apply_of _ _ _ _ _ _ fun a => match a with
    | ⟨0, _⟩ => (Nat.zero_add _).symm
    | ⟨1, _⟩ => rfl

theorem pay2_at (a : Vec Ideal S512x1024 .bf16) (b : Vec Ideal S1024x256 .bf16) (q : Fin 512) (n : Fin 256) :
    k0_pay2 a b (ix2 q n) = ∑ k : Fin 1024, a (ix2 q k) * b (ix2 k n) := by
  pointwise [k0_pay2, k0_pay1]

theorem out2_at (q : Fin 512) (n : Fin 256) :
    out0_2 x0 x1 (ix2 q n) = ∑ k : Fin 1024, x0 (ix2 q k) * x1 (ix2 k ⟨0 + n.val, by omega⟩) := by
  unfold out0_2
  rw [View.canon_unit_zero zz, x0_whole]
  exact (pay2_at _ _ q n).trans (Finset.sum_congr rfl fun k _ => by rw [ld2])

theorem ld3 (k : Fin 1024) (n : Fin 256) : View.ld x1 r0_3 (ix2 k n) = x1 (ix2 k ⟨256 + n.val, by omega⟩) :=
  View.ld_unit_apply_of _ _ _ _ _ _ fun a => match a with
    | ⟨0, _⟩ => (Nat.zero_add _).symm
    | ⟨1, _⟩ => rfl

theorem pay3_at (a : Vec Ideal S512x1024 .bf16) (b : Vec Ideal S1024x256 .bf16) (q : Fin 512) (n : Fin 256) :
    k0_pay3 a b (ix2 q n) = ∑ k : Fin 1024, a (ix2 q k) * b (ix2 k n) := by
  pointwise [k0_pay3, k0_pay1]

theorem out3_at (q : Fin 512) (n : Fin 256) :
    out0_3 x0 x1 (ix2 q n) = ∑ k : Fin 1024, x0 (ix2 q k) * x1 (ix2 k ⟨256 + n.val, by omega⟩) := by
  unfold out0_3
  rw [View.canon_unit_zero zz, x0_whole]
  exact (pay3_at _ _ q n).trans (Finset.sum_congr rfl fun k _ => by rw [ld3])

theorem ld4 (k : Fin 1024) (n : Fin 256) : View.ld x1 r0_4 (ix2 k n) = x1 (ix2 k ⟨512 + n.val, by omega⟩) :=
  View.ld_unit_apply_of _ _ _ _ _ _ fun a => match a with
    | ⟨0, _⟩ => (Nat.zero_add _).symm
    | ⟨1, _⟩ => rfl

theorem pay4_at (a : Vec Ideal S512x1024 .bf16) (b : Vec Ideal S1024x256 .bf16) (q : Fin 512) (n : Fin 256) :
    k0_pay4 a b (ix2 q n) = ∑ k : Fin 1024, a (ix2 q k) * b (ix2 k n) := by
  pointwise [k0_pay4, k0_pay1]

theorem out4_at (q : Fin 512) (n : Fin 256) :
    out0_4 x0 x1 (ix2 q n) = ∑ k : Fin 1024, x0 (ix2 q k) * x1 (ix2 k ⟨512 + n.val, by omega⟩) := by
  unfold out0_4
  rw [View.canon_unit_zero zz, x0_whole]
  exact (pay4_at _ _ q n).trans (Finset.sum_congr rfl fun k _ => by rw [ld4])

theorem ld5 (k : Fin 1024) (n : Fin 256) : View.ld x1 r0_5 (ix2 k n) = x1 (ix2 k ⟨768 + n.val, by omega⟩) :=
  View.ld_unit_apply_of _ _ _ _ _ _ fun a => match a with
    | ⟨0, _⟩ => (Nat.zero_add _).symm
    | ⟨1, _⟩ => rfl

theorem pay5_at (a : Vec Ideal S512x1024 .bf16) (b : Vec Ideal S1024x256 .bf16) (q : Fin 512) (n : Fin 256) :
    k0_pay5 a b (ix2 q n) = ∑ k : Fin 1024, a (ix2 q k) * b (ix2 k n) := by
  pointwise [k0_pay5, k0_pay1]

theorem out5_at (q : Fin 512) (n : Fin 256) :
    out0_5 x0 x1 (ix2 q n) = ∑ k : Fin 1024, x0 (ix2 q k) * x1 (ix2 k ⟨768 + n.val, by omega⟩) := by
  unfold out0_5
  rw [View.canon_unit_zero zz, x0_whole]
  exact (pay5_at _ _ q n).trans (Finset.sum_congr rfl fun k _ => by rw [ld5])

theorem ld6 (k : Fin 1024) (n : Fin 256) : View.ld x1 r0_6 (ix2 k n) = x1 (ix2 k ⟨1024 + n.val, by omega⟩) :=
  View.ld_unit_apply_of _ _ _ _ _ _ fun a => match a with
    | ⟨0, _⟩ => (Nat.zero_add _).symm
    | ⟨1, _⟩ => rfl

theorem pay6_at (a : Vec Ideal S512x1024 .bf16) (b : Vec Ideal S1024x256 .bf16) (q : Fin 512) (n : Fin 256) :
    k0_pay6 a b (ix2 q n) = ∑ k : Fin 1024, a (ix2 q k) * b (ix2 k n) := by
  pointwise [k0_pay6, k0_pay1]

theorem out6_at (q : Fin 512) (n : Fin 256) :
    out0_6 x0 x1 (ix2 q n) = ∑ k : Fin 1024, x0 (ix2 q k) * x1 (ix2 k ⟨1024 + n.val, by omega⟩) := by
  unfold out0_6
  rw [View.canon_unit_zero zz, x0_whole]
  exact (pay6_at _ _ q n).trans (Finset.sum_congr rfl fun k _ => by rw [ld6])

theorem ld7 (k : Fin 1024) (n : Fin 256) : View.ld x1 r0_7 (ix2 k n) = x1 (ix2 k ⟨1280 + n.val, by omega⟩) :=
  View.ld_unit_apply_of _ _ _ _ _ _ fun a => match a with
    | ⟨0, _⟩ => (Nat.zero_add _).symm
    | ⟨1, _⟩ => rfl

theorem pay7_at (a : Vec Ideal S512x1024 .bf16) (b : Vec Ideal S1024x256 .bf16) (q : Fin 512) (n : Fin 256) :
    k0_pay7 a b (ix2 q n) = ∑ k : Fin 1024, a (ix2 q k) * b (ix2 k n) := by
  pointwise [k0_pay7, k0_pay1]

theorem out7_at (q : Fin 512) (n : Fin 256) :
    out0_7 x0 x1 (ix2 q n) = ∑ k : Fin 1024, x0 (ix2 q k) * x1 (ix2 k ⟨1280 + n.val, by omega⟩) := by
  unfold out0_7
  rw [View.canon_unit_zero zz, mid]
  exact (pay7_at _ _ q n).trans (Finset.sum_congr rfl fun k _ => by rw [ld7])

theorem ld8 (k : Fin 1024) (n : Fin 256) : View.ld x1 r0_8 (ix2 k n) = x1 (ix2 k ⟨1536 + n.val, by omega⟩) :=
  View.ld_unit_apply_of _ _ _ _ _ _ fun a => match a with
    | ⟨0, _⟩ => (Nat.zero_add _).symm
    | ⟨1, _⟩ => rfl

theorem pay8_at (a : Vec Ideal S512x1024 .bf16) (b : Vec Ideal S1024x256 .bf16) (q : Fin 512) (n : Fin 256) :
    k0_pay8 a b (ix2 q n) = ∑ k : Fin 1024, a (ix2 q k) * b (ix2 k n) := by
  pointwise [k0_pay8, k0_pay1]

theorem out8_at (q : Fin 512) (n : Fin 256) :
    out0_8 x0 x1 (ix2 q n) = ∑ k : Fin 1024, x0 (ix2 q k) * x1 (ix2 k ⟨1536 + n.val, by omega⟩) := by
  unfold out0_8
  rw [View.canon_unit_zero zz, mid]
  exact (pay8_at _ _ q n).trans (Finset.sum_congr rfl fun k _ => by rw [ld8])

theorem ld9 (k : Fin 1024) (n : Fin 128) : View.ld x1 r0_9 (ix2 k n) = x1 (ix2 k ⟨1792 + n.val, by omega⟩) :=
  View.ld_unit_apply_of _ _ _ _ _ _ fun a => match a with
    | ⟨0, _⟩ => (Nat.zero_add _).symm
    | ⟨1, _⟩ => rfl

theorem pay9_at (a : Vec Ideal S512x1024 .bf16) (b : Vec Ideal S1024x128 .bf16) (q : Fin 512) (n : Fin 128) :
    k0_pay9 a b (ix2 q n) = ∑ k : Fin 1024, a (ix2 q k) * b (ix2 k n) := by
  pointwise [k0_pay9, k0_pay1]

theorem out9_at (q : Fin 512) (n : Fin 128) :
    out0_9 x0 x1 (ix2 q n) = ∑ k : Fin 1024, x0 (ix2 q k) * x1 (ix2 k ⟨1792 + n.val, by omega⟩) := by
  unfold out0_9
  rw [View.canon_unit_zero zz, mid]
  exact (pay9_at _ _ q n).trans (Finset.sum_congr rfl fun k _ => by rw [ld9])

theorem ld10 (k : Fin 1024) (n : Fin 256) : View.ld x1 r0_11 (ix2 k n) = x1 (ix2 k ⟨1920 + n.val, by omega⟩) :=
  View.ld_unit_apply_of _ _ _ _ _ _ fun a => match a with
    | ⟨0, _⟩ => (Nat.zero_add _).symm
    | ⟨1, _⟩ => rfl

theorem pay10_at (a : Vec Ideal S512x1024 .bf16) (b : Vec Ideal S1024x256 .bf16) (q : Fin 512) (n : Fin 256) :
    k0_pay10 a b (ix2 q n) = ∑ k : Fin 1024, a (ix2 q k) * b (ix2 k n) := by
  pointwise [k0_pay10, k0_pay1]

theorem out10_at (q : Fin 512) (n : Fin 256) :
    out0_10 x0 x1 (ix2 q n) = ∑ k : Fin 1024, x0 (ix2 q k) * x1 (ix2 k ⟨1920 + n.val, by omega⟩) := by
  unfold out0_10
  rw [View.canon_unit_zero zz, mid]
  exact (pay10_at _ _ q n).trans (Finset.sum_congr rfl fun k _ => by rw [ld10])

theorem ld11 (k : Fin 1024) (n : Fin 1024) : View.ld x1 r0_12 (ix2 k n) = x1 (ix2 k ⟨2176 + n.val, by omega⟩) :=
  View.ld_unit_apply_of _ _ _ _ _ _ fun a => match a with
    | ⟨0, _⟩ => (Nat.zero_add _).symm
    | ⟨1, _⟩ => rfl

theorem pay11_at (a : Vec Ideal S512x1024 .bf16) (b : Vec Ideal S1024x1024 .bf16) (q : Fin 512) (n : Fin 1024) :
    k0_pay11 a b (ix2 q n) = ∑ k : Fin 1024, a (ix2 q k) * b (ix2 k n) := by
  pointwise [k0_pay11, k0_pay1]

theorem out11_at (q : Fin 512) (n : Fin 1024) :
    out0_11 x0 x1 (ix2 q n) = ∑ k : Fin 1024, x0 (ix2 q k) * x1 (ix2 k ⟨2176 + n.val, by omega⟩) := by
  unfold out0_11
  rw [View.canon_unit_zero zz, mid]
  exact (pay11_at _ _ q n).trans (Finset.sum_congr rfl fun k _ => by rw [ld11])

theorem ld12 (k : Fin 1024) (n : Fin 128) : View.ld x1 r0_13 (ix2 k n) = x1 (ix2 k ⟨3200 + n.val, by omega⟩) :=
  View.ld_unit_apply_of _ _ _ _ _ _ fun a => match a with
    | ⟨0, _⟩ => (Nat.zero_add _).symm
    | ⟨1, _⟩ => rfl

theorem pay12_at (a : Vec Ideal S512x1024 .bf16) (b : Vec Ideal S1024x128 .bf16) (q : Fin 512) (n : Fin 128) :
    k0_pay12 a b (ix2 q n) = ∑ k : Fin 1024, a (ix2 q k) * b (ix2 k n) := by
  pointwise [k0_pay12, k0_pay1]

theorem out12_at (q : Fin 512) (n : Fin 128) :
    out0_12 x0 x1 (ix2 q n) = ∑ k : Fin 1024, x0 (ix2 q k) * x1 (ix2 k ⟨3200 + n.val, by omega⟩) := by
  unfold out0_12
  rw [View.canon_unit_zero zz, mid]
  exact (pay12_at _ _ q n).trans (Finset.sum_congr rfl fun k _ => by rw [ld12])

end Cert.Proj.Split

end
-- ==== Proof.Proj.SplitArrays.lean ====
/- The eleven arrays the forward projection's call returns, at an index. -/
module

public import proofs.«01_k».proof.Proof.Proj.SplitPoint
public import proofs.«01_k».proof.Proof.Proj.Cat
public import Idealize.ShloMosaic.Lib.Claim

@[expose] public section

set_option maxRecDepth 16384

noncomputable section

namespace Cert.Proj.Split

open Idealize.ShloMosaic Idealize.SL.Sem Idealize.ShloMosaic.TcCoe
open Cert.SplitIdeal Cert.SplitIdeal.Gen

theorem idx0 : ∀ t : Fin cfg0.N, win0_0.index t = ![t.val, 0] :=
  (by decide +kernel : ∀ t : Fin grid0.N, win0_0.index t = ![t.val, 0])
theorem idx1 : ∀ t : Fin cfg0.N, win0_1.index t = ![0, 0] :=
  (by decide +kernel : ∀ t : Fin grid0.N, win0_1.index t = ![0, 0])
theorem idx2 : ∀ t : Fin cfg0.N, win0_2.index t = ![t.val, 0] :=
  (by decide +kernel : ∀ t : Fin grid0.N, win0_2.index t = ![t.val, 0])
theorem idx3 : ∀ t : Fin cfg0.N, win0_3.index t = ![t.val, 0] :=
  (by decide +kernel : ∀ t : Fin grid0.N, win0_3.index t = ![t.val, 0])
theorem idx4 : ∀ t : Fin cfg0.N, win0_4.index t = ![t.val, 0] :=
  (by decide +kernel : ∀ t : Fin grid0.N, win0_4.index t = ![t.val, 0])
theorem idx5 : ∀ t : Fin cfg0.N, win0_5.index t = ![t.val, 0] :=
  (by decide +kernel : ∀ t : Fin grid0.N, win0_5.index t = ![t.val, 0])
theorem idx6 : ∀ t : Fin cfg0.N, win0_6.index t = ![t.val, 0] :=
  (by decide +kernel : ∀ t : Fin grid0.N, win0_6.index t = ![t.val, 0])
theorem idx7 : ∀ t : Fin cfg0.N, win0_7.index t = ![t.val, 0] :=
  (by decide +kernel : ∀ t : Fin grid0.N, win0_7.index t = ![t.val, 0])
theorem idx8 : ∀ t : Fin cfg0.N, win0_8.index t = ![t.val, 0] :=
  (by decide +kernel : ∀ t : Fin grid0.N, win0_8.index t = ![t.val, 0])
theorem idx9 : ∀ t : Fin cfg0.N, win0_9.index t = ![t.val, 0] :=
  (by decide +kernel : ∀ t : Fin grid0.N, win0_9.index t = ![t.val, 0])
theorem idx10 : ∀ t : Fin cfg0.N, win0_10.index t = ![t.val, 0] :=
  (by decide +kernel : ∀ t : Fin grid0.N, win0_10.index t = ![t.val, 0])
theorem idx11 : ∀ t : Fin cfg0.N, win0_11.index t = ![t.val, 0] :=
  (by decide +kernel : ∀ t : Fin grid0.N, win0_11.index t = ![t.val, 0])
theorem idx12 : ∀ t : Fin cfg0.N, win0_12.index t = ![t.val, 0] :=
  (by decide +kernel : ∀ t : Fin grid0.N, win0_12.index t = ![t.val, 0])
theorem pts : cfg0.N = 16 := (by decide +kernel : grid0.N = 16)

variable (m : (ℓ : Loc nD τ sig) → Buf (Elt Ideal) ℓ) (c : Dev nD) (f : Fin 8192 → Fin 1024 → EReal) (g : Fin 1024 → Fin 12 → ℕ → EReal)

/-- The arrays the call is given hold the input and the weight's rows. -/
structure Given : Prop where
  a0 : ∀ (r : Fin 8192) (k : Fin 1024), (V m c main_v15 : Vec Ideal S8192x1024 .bf16) (ix2 r k) = f r k
  a1 : ∀ (j : Fin 1024) (k : Fin 3328), (V m c main_v14 : Vec Ideal S1024x3328 .bf16) (ix2 j k) = perm (g j) k.val

variable {m c f g} (hV : Given m c f g)
include hV

omit hV in
/-- A row of the whole from a block's. -/
abbrev at' (t : Fin cfg0.N) (q : Fin 512) : Fin 8192 := ⟨512 * t.val + q.val, by have : t.val < 16 := pts ▸ t.isLt; omega⟩

theorem b0 (t : Fin cfg0.N) (q : Fin 512) (k : Fin 1024) : (iblk m c 0 t : Vec Ideal S512x1024 .bf16) (ix2 q k) = f (at' t q) k := by
  refine Eq.trans ?_ (hV.a0 (at' t q) k)
  blk_ext [iblk, idx0 t]

theorem b1 (t : Fin cfg0.N) (j : Fin 1024) (k : Fin 3328) : (iblk m c 1 t : Vec Ideal S1024x3328 .bf16) (ix2 j k) = perm (g j) k.val := by
  refine Eq.trans ?_ (hV.a1 j k)
  blk_ext [iblk, idx1 t]

omit hV in
variable (f g) in
/-- Some columns of the product, from a place on. -/
def gs (C o : ℕ) : M 8192 C := fun y => ∑ k : Fin 1024, f (y 0) k * perm (g k) (o + (y 1).val)

omit hV in
theorem emb2 (t : Fin cfg0.N) (q : Fin 512) (n : Fin 256) :
    ((win0_2.blk t).view.emb (ix2 q n : S512x256.Idx) : S8192x256.Idx) = ix2 (at' t q) n := by
  blk_ext [idx2 t]

theorem arr2 : (dats m 0 c).arrAt 2 cfg0.N = gs f g 256 0 := by
  refine (dats m 0 c).arrAt_eq_of_covers 2 _ (by decide +kernel) fun t hf y => ?_
  blk_simp
  rw [after0_2]
  revert y
  suffices h : ∀ y : S512x256.Idx, (out0_2 (iblk m c 0 t) (iblk m c 1 t)) y = gs f g 256 0 ((win0_2.blk t).view.emb y) from h
  intro y
  obtain ⟨q, n, rfl⟩ : ∃ (q : Fin 512) (n : Fin 256), y = ix2 q n := ⟨y 0, y 1, eq_ix2 y⟩
  rw [emb2 t q n, out2_at]
  exact Finset.sum_congr rfl fun k _ => congrArg₂ (· * ·) (b0 hV t q k) (b1 hV t k ⟨0 + n.val, by omega⟩)

omit hV in
theorem emb3 (t : Fin cfg0.N) (q : Fin 512) (n : Fin 256) :
    ((win0_3.blk t).view.emb (ix2 q n : S512x256.Idx) : S8192x256.Idx) = ix2 (at' t q) n := by
  blk_ext [idx3 t]

theorem arr3 : (dats m 0 c).arrAt 3 cfg0.N = gs f g 256 256 := by
  refine (dats m 0 c).arrAt_eq_of_covers 3 _ (by decide +kernel) fun t hf y => ?_
  blk_simp
  rw [after0_3]
  revert y
  suffices h : ∀ y : S512x256.Idx, (out0_3 (iblk m c 0 t) (iblk m c 1 t)) y = gs f g 256 256 ((win0_3.blk t).view.emb y) from h
  intro y
  obtain ⟨q, n, rfl⟩ : ∃ (q : Fin 512) (n : Fin 256), y = ix2 q n := ⟨y 0, y 1, eq_ix2 y⟩
  rw [emb3 t q n, out3_at]
  exact Finset.sum_congr rfl fun k _ => congrArg₂ (· * ·) (b0 hV t q k) (b1 hV t k ⟨256 + n.val, by omega⟩)

omit hV in
theorem emb4 (t : Fin cfg0.N) (q : Fin 512) (n : Fin 256) :
    ((win0_4.blk t).view.emb (ix2 q n : S512x256.Idx) : S8192x256.Idx) = ix2 (at' t q) n := by
  blk_ext [idx4 t]

theorem arr4 : (dats m 0 c).arrAt 4 cfg0.N = gs f g 256 512 := by
  refine (dats m 0 c).arrAt_eq_of_covers 4 _ (by decide +kernel) fun t hf y => ?_
  blk_simp
  rw [after0_4]
  revert y
  suffices h : ∀ y : S512x256.Idx, (out0_4 (iblk m c 0 t) (iblk m c 1 t)) y = gs f g 256 512 ((win0_4.blk t).view.emb y) from h
  intro y
  obtain ⟨q, n, rfl⟩ : ∃ (q : Fin 512) (n : Fin 256), y = ix2 q n := ⟨y 0, y 1, eq_ix2 y⟩
  rw [emb4 t q n, out4_at]
  exact Finset.sum_congr rfl fun k _ => congrArg₂ (· * ·) (b0 hV t q k) (b1 hV t k ⟨512 + n.val, by omega⟩)

omit hV in
theorem emb5 (t : Fin cfg0.N) (q : Fin 512) (n : Fin 256) :
    ((win0_5.blk t).view.emb (ix2 q n : S512x256.Idx) : S8192x256.Idx) = ix2 (at' t q) n := by
  blk_ext [idx5 t]

theorem arr5 : (dats m 0 c).arrAt 5 cfg0.N = gs f g 256 768 := by
  refine (dats m 0 c).arrAt_eq_of_covers 5 _ (by decide +kernel) fun t hf y => ?_
  blk_simp
  rw [after0_5]
  revert y
  suffices h : ∀ y : S512x256.Idx, (out0_5 (iblk m c 0 t) (iblk m c 1 t)) y = gs f g 256 768 ((win0_5.blk t).view.emb y) from h
  intro y
  obtain ⟨q, n, rfl⟩ : ∃ (q : Fin 512) (n : Fin 256), y = ix2 q n := ⟨y 0, y 1, eq_ix2 y⟩
  rw [emb5 t q n, out5_at]
  exact Finset.sum_congr rfl fun k _ => congrArg₂ (· * ·) (b0 hV t q k) (b1 hV t k ⟨768 + n.val, by omega⟩)

omit hV in
theorem emb6 (t : Fin cfg0.N) (q : Fin 512) (n : Fin 256) :
    ((win0_6.blk t).view.emb (ix2 q n : S512x256.Idx) : S8192x256.Idx) = ix2 (at' t q) n := by
  blk_ext [idx6 t]

theorem arr6 : (dats m 0 c).arrAt 6 cfg0.N = gs f g 256 1024 := by
  refine (dats m 0 c).arrAt_eq_of_covers 6 _ (by decide +kernel) fun t hf y => ?_
  blk_simp
  rw [after0_6]
  revert y
  suffices h : ∀ y : S512x256.Idx, (out0_6 (iblk m c 0 t) (iblk m c 1 t)) y = gs f g 256 1024 ((win0_6.blk t).view.emb y) from h
  intro y
  obtain ⟨q, n, rfl⟩ : ∃ (q : Fin 512) (n : Fin 256), y = ix2 q n := ⟨y 0, y 1, eq_ix2 y⟩
  rw [emb6 t q n, out6_at]
  exact Finset.sum_congr rfl fun k _ => congrArg₂ (· * ·) (b0 hV t q k) (b1 hV t k ⟨1024 + n.val, by omega⟩)

omit hV in
theorem emb7 (t : Fin cfg0.N) (q : Fin 512) (n : Fin 256) :
    ((win0_7.blk t).view.emb (ix2 q n : S512x256.Idx) : S8192x256.Idx) = ix2 (at' t q) n := by
  blk_ext [idx7 t]

theorem arr7 : (dats m 0 c).arrAt 7 cfg0.N = gs f g 256 1280 := by
  refine (dats m 0 c).arrAt_eq_of_covers 7 _ (by decide +kernel) fun t hf y => ?_
  blk_simp
  rw [after0_7]
  revert y
  suffices h : ∀ y : S512x256.Idx, (out0_7 (iblk m c 0 t) (iblk m c 1 t)) y = gs f g 256 1280 ((win0_7.blk t).view.emb y) from h
  intro y
  obtain ⟨q, n, rfl⟩ : ∃ (q : Fin 512) (n : Fin 256), y = ix2 q n := ⟨y 0, y 1, eq_ix2 y⟩
  rw [emb7 t q n, out7_at]
  exact Finset.sum_congr rfl fun k _ => congrArg₂ (· * ·) (b0 hV t q k) (b1 hV t k ⟨1280 + n.val, by omega⟩)

omit hV in
theorem emb8 (t : Fin cfg0.N) (q : Fin 512) (n : Fin 256) :
    ((win0_8.blk t).view.emb (ix2 q n : S512x256.Idx) : S8192x256.Idx) = ix2 (at' t q) n := by
  blk_ext [idx8 t]

theorem arr8 : (dats m 0 c).arrAt 8 cfg0.N = gs f g 256 1536 := by
  refine (dats m 0 c).arrAt_eq_of_covers 8 _ (by decide +kernel) fun t hf y => ?_
  blk_simp
  rw [after0_8]
  revert y
  suffices h : ∀ y : S512x256.Idx, (out0_8 (iblk m c 0 t) (iblk m c 1 t)) y = gs f g 256 1536 ((win0_8.blk t).view.emb y) from h
  intro y
  obtain ⟨q, n, rfl⟩ : ∃ (q : Fin 512) (n : Fin 256), y = ix2 q n := ⟨y 0, y 1, eq_ix2 y⟩
  rw [emb8 t q n, out8_at]
  exact Finset.sum_congr rfl fun k _ => congrArg₂ (· * ·) (b0 hV t q k) (b1 hV t k ⟨1536 + n.val, by omega⟩)

omit hV in
theorem emb9 (t : Fin cfg0.N) (q : Fin 512) (n : Fin 128) :
    ((win0_9.blk t).view.emb (ix2 q n : S512x128.Idx) : S8192x128.Idx) = ix2 (at' t q) n := by
  blk_ext [idx9 t]

theorem arr9 : (dats m 0 c).arrAt 9 cfg0.N = gs f g 128 1792 := by
  refine (dats m 0 c).arrAt_eq_of_covers 9 _ (by decide +kernel) fun t hf y => ?_
  blk_simp
  rw [after0_9]
  revert y
  suffices h : ∀ y : S512x128.Idx, (out0_9 (iblk m c 0 t) (iblk m c 1 t)) y = gs f g 128 1792 ((win0_9.blk t).view.emb y) from h
  intro y
  obtain ⟨q, n, rfl⟩ : ∃ (q : Fin 512) (n : Fin 128), y = ix2 q n := ⟨y 0, y 1, eq_ix2 y⟩
  rw [emb9 t q n, out9_at]
  exact Finset.sum_congr rfl fun k _ => congrArg₂ (· * ·) (b0 hV t q k) (b1 hV t k ⟨1792 + n.val, by omega⟩)

omit hV in
theorem emb10 (t : Fin cfg0.N) (q : Fin 512) (n : Fin 256) :
    ((win0_10.blk t).view.emb (ix2 q n : S512x256.Idx) : S8192x256.Idx) = ix2 (at' t q) n := by
  blk_ext [idx10 t]

theorem arr10 : (dats m 0 c).arrAt 10 cfg0.N = gs f g 256 1920 := by
  refine (dats m 0 c).arrAt_eq_of_covers 10 _ (by decide +kernel) fun t hf y => ?_
  blk_simp
  rw [after0_10]
  revert y
  suffices h : ∀ y : S512x256.Idx, (out0_10 (iblk m c 0 t) (iblk m c 1 t)) y = gs f g 256 1920 ((win0_10.blk t).view.emb y) from h
  intro y
  obtain ⟨q, n, rfl⟩ : ∃ (q : Fin 512) (n : Fin 256), y = ix2 q n := ⟨y 0, y 1, eq_ix2 y⟩
  rw [emb10 t q n, out10_at]
  exact Finset.sum_congr rfl fun k _ => congrArg₂ (· * ·) (b0 hV t q k) (b1 hV t k ⟨1920 + n.val, by omega⟩)

omit hV in
theorem emb11 (t : Fin cfg0.N) (q : Fin 512) (n : Fin 1024) :
    ((win0_11.blk t).view.emb (ix2 q n : S512x1024.Idx) : S8192x1024.Idx) = ix2 (at' t q) n := by
  blk_ext [idx11 t]

theorem arr11 : (dats m 0 c).arrAt 11 cfg0.N = gs f g 1024 2176 := by
  refine (dats m 0 c).arrAt_eq_of_covers 11 _ (by decide +kernel) fun t hf y => ?_
  blk_simp
  rw [after0_11]
  revert y
  suffices h : ∀ y : S512x1024.Idx, (out0_11 (iblk m c 0 t) (iblk m c 1 t)) y = gs f g 1024 2176 ((win0_11.blk t).view.emb y) from h
  intro y
  obtain ⟨q, n, rfl⟩ : ∃ (q : Fin 512) (n : Fin 1024), y = ix2 q n := ⟨y 0, y 1, eq_ix2 y⟩
  rw [emb11 t q n, out11_at]
  exact Finset.sum_congr rfl fun k _ => congrArg₂ (· * ·) (b0 hV t q k) (b1 hV t k ⟨2176 + n.val, by omega⟩)

omit hV in
theorem emb12 (t : Fin cfg0.N) (q : Fin 512) (n : Fin 128) :
    ((win0_12.blk t).view.emb (ix2 q n : S512x128.Idx) : S8192x128.Idx) = ix2 (at' t q) n := by
  blk_ext [idx12 t]

theorem arr12 : (dats m 0 c).arrAt 12 cfg0.N = gs f g 128 3200 := by
  refine (dats m 0 c).arrAt_eq_of_covers 12 _ (by decide +kernel) fun t hf y => ?_
  blk_simp
  rw [after0_12]
  revert y
  suffices h : ∀ y : S512x128.Idx, (out0_12 (iblk m c 0 t) (iblk m c 1 t)) y = gs f g 128 3200 ((win0_12.blk t).view.emb y) from h
  intro y
  obtain ⟨q, n, rfl⟩ : ∃ (q : Fin 512) (n : Fin 128), y = ix2 q n := ⟨y 0, y 1, eq_ix2 y⟩
  rw [emb12 t q n, out12_at]
  exact Finset.sum_congr rfl fun k _ => congrArg₂ (· * ·) (b0 hV t q k) (b1 hV t k ⟨3200 + n.val, by omega⟩)

end Cert.Proj.Split

end
-- ==== Proof.Proj.SplitHost.lean ====
/- The forward projection's operands, from the arguments. -/
module

public import proofs.«01_k».proof.Proof.Proj.SplitArrays
public import Idealize.ShloMosaic.Lib.StableHlo.ReadAt

@[expose] public section

set_option maxRecDepth 16384

noncomputable section

namespace Cert.Proj.Split

open Idealize.ShloMosaic Idealize.SL.Sem Idealize.ShloMosaic.TcCoe
open Cert.SplitIdeal Cert.SplitIdeal.Gen

variable (m : (ℓ : Loc nD τ sig) → Buf (Elt Ideal) ℓ) (c : Dev nD)

/-- The input and the weight. -/
abbrev h0 : M 8192 1024 := m ((c : Thread nD τ).loc main_arg0)
abbrev w0 : M 1024 3236 := m ((c : Thread nD τ).loc main_arg1)

/-- Their rows. -/
abbrev fr (r : Fin 8192) (k : Fin 1024) : EReal := h0 m c (ix2 r k)
abbrev gr (j : Fin 1024) : Fin 12 → ℕ → EReal := pieces j (w0 m c)

theorem v15_eq : V (F := Ideal) m c main_v15 = (truncf (F := Ideal) .bf16 (h0 m c : Vec Ideal S8192x1024 .f32) bitsLt_bf16_f32 : Vec Ideal S8192x1024 .bf16) := by
  unfold V
  after_reads_simp

/-- The weight's columns in the call's order. -/
def weight32 {F : FTy → Type} [FloatOps F] (y : Vec F S1024x3236 .f32) : Vec F S1024x3328 .f32 :=
  concatenate S1024x3328 1 [⟨S1024x256, extractStridedSlice S1024x256 ![0, 0] y slices_S1024x3236_S1024x256_0_0⟩, ⟨S1024x256, extractStridedSlice S1024x256 ![0, 256] y slices_S1024x3236_S1024x256_0_256⟩, ⟨S1024x256, extractStridedSlice S1024x256 ![0, 512] y slices_S1024x3236_S1024x256_0_512⟩, ⟨S1024x256, extractStridedSlice S1024x256 ![0, 772] y slices_S1024x3236_S1024x256_0_772⟩, ⟨S1024x256, extractStridedSlice S1024x256 ![0, 1028] y slices_S1024x3236_S1024x256_0_1028⟩, ⟨S1024x256, extractStridedSlice S1024x256 ![0, 1284] y slices_S1024x3236_S1024x256_0_1284⟩, ⟨S1024x256, extractStridedSlice S1024x256 ![0, 1540] y slices_S1024x3236_S1024x256_0_1540⟩, ⟨S1024x128, extractStridedSlice S1024x128 ![0, 1796] y slices_S1024x3236_S1024x128_0_1796⟩, ⟨S1024x256, extractStridedSlice S1024x256 ![0, 1956] y slices_S1024x3236_S1024x256_0_1956⟩, ⟨S1024x1024, extractStridedSlice S1024x1024 ![0, 2212] y slices_S1024x3236_S1024x1024_0_2212⟩, ⟨S1024x32, extractStridedSlice S1024x32 ![0, 1924] y slices_S1024x3236_S1024x32_0_1924⟩, ⟨S1024x4, extractStridedSlice S1024x4 ![0, 768] y slices_S1024x3236_S1024x4_0_768⟩, ⟨S1024x92, broadcastInDim S1024x92 ![] bcast_S_S1024x92 (constant (F := F) S_ .f32 0x00000000#32)⟩] concatenates_S1024x256_S1024x256_S1024x256_S1024x256_S1024x256_S1024x256_S1024x256_S1024x128_S1024x256_S1024x1024_S1024x32_S1024x4_S1024x92_S1024x3328_d1

/-- The same in the narrow format. -/
def weight {F : FTy → Type} [FloatOps F] (y : Vec F S1024x3236 .f32) : Vec F S1024x3328 .bf16 :=
  truncf (F := F) .bf16 (weight32 y) bitsLt_bf16_f32

theorem pc {α : Type} {s : Shape} {x y : s.Idx → α} {l l' : List ((s : Shape) × (s.Idx → α))} (h : x = y) (e : l = l') :
    ((⟨s, x⟩ : (s : Shape) × (s.Idx → α)) :: l) = ⟨s, y⟩ :: l' := by
  subst h; subst e; rfl

theorem v13_eq : V (F := Ideal) m c main_v13 = weight32 (F := Ideal) (w0 m c) := by
  unfold V
  after_reads_simp
  unfold weight32
  refine StableHlo.concatenate_congr _ _ (pc ?_ (pc ?_ (pc ?_ (pc ?_ (pc ?_ (pc ?_ (pc ?_ (pc ?_ (pc ?_ (pc ?_ (pc ?_ (pc ?_ (pc ?_ (rfl)))))))))))))) _ _
  · show StableHlo.upto hostOps0 (fun b => m (c, b)) 14 (Proc.devRef .tc main_v0) = _
    after_reads_simp
  · show StableHlo.upto hostOps0 (fun b => m (c, b)) 14 (Proc.devRef .tc main_v1) = _
    after_reads_simp
  · show StableHlo.upto hostOps0 (fun b => m (c, b)) 14 (Proc.devRef .tc main_v2) = _
    after_reads_simp
  · show StableHlo.upto hostOps0 (fun b => m (c, b)) 14 (Proc.devRef .tc main_v3) = _
    after_reads_simp
  · show StableHlo.upto hostOps0 (fun b => m (c, b)) 14 (Proc.devRef .tc main_v4) = _
    after_reads_simp
  · show StableHlo.upto hostOps0 (fun b => m (c, b)) 14 (Proc.devRef .tc main_v5) = _
    after_reads_simp
  · show StableHlo.upto hostOps0 (fun b => m (c, b)) 14 (Proc.devRef .tc main_v6) = _
    after_reads_simp
  · show StableHlo.upto hostOps0 (fun b => m (c, b)) 14 (Proc.devRef .tc main_v7) = _
    after_reads_simp
  · show StableHlo.upto hostOps0 (fun b => m (c, b)) 14 (Proc.devRef .tc main_v8) = _
    after_reads_simp
  · show StableHlo.upto hostOps0 (fun b => m (c, b)) 14 (Proc.devRef .tc main_v9) = _
    after_reads_simp
  · show StableHlo.upto hostOps0 (fun b => m (c, b)) 14 (Proc.devRef .tc main_v10) = _
    after_reads_simp
  · show StableHlo.upto hostOps0 (fun b => m (c, b)) 14 (Proc.devRef .tc main_v11) = _
    after_reads_simp
  · show StableHlo.upto hostOps0 (fun b => m (c, b)) 14 (Proc.devRef .tc main_v12) = _
    after_reads_simp

theorem v14_eq : V (F := Ideal) m c main_v14 = weight (F := Ideal) (w0 m c) := by
  have h := v13_eq m c
  unfold V at h ⊢
  rw [show StableHlo.after hostOps0 (fun b => m (c, b)) (Proc.devRef .tc main_v14) = truncf (F := Ideal) .bf16 (StableHlo.after hostOps0 (fun b => m (c, b)) (Proc.devRef .tc main_v13) : Vec Ideal S1024x3328 .f32) bitsLt_bf16_f32 by after_reads_simp]
  unfold weight
  exact congrArg (fun z : Vec Ideal S1024x3328 .f32 => (truncf (F := Ideal) .bf16 z bitsLt_bf16_f32 : Vec Ideal S1024x3328 .bf16)) h

theorem zero32 : Ideal.ofBits .f32 0x00000000#32 = 0 := Ideal.ofBits_zero_f32

theorem weight_at (y : Vec Ideal S1024x3236 .f32) (j : Fin 1024) (n : Fin 3328) :
    weight (F := Ideal) y (ix2 j n) = perm (pieces j y) n.val := by
  show weight32 (F := Ideal) y (ix2 j n) = _
  unfold weight32
  refine cat_call_1024 (pieces j y) j _ _ _ _ _ _ _ _ _ _ _ _ _ (fun k => ?_) (fun k => ?_) (fun k => ?_) (fun k => ?_) (fun k => ?_) (fun k => ?_) (fun k => ?_) (fun k => ?_) (fun k => ?_) (fun k => ?_) (fun k => ?_) (fun k => ?_) (fun k => ?_) _ n
  · have hk := k.isLt
    show _ = nat (fun k => y (ix2 j k)) (0 + k.val)
    rw [nat_lt _ (by omega)]
    pointwise
  · have hk := k.isLt
    show _ = nat (fun k => y (ix2 j k)) (256 + k.val)
    rw [nat_lt _ (by omega)]
    pointwise
  · have hk := k.isLt
    show _ = nat (fun k => y (ix2 j k)) (512 + k.val)
    rw [nat_lt _ (by omega)]
    pointwise
  · have hk := k.isLt
    show _ = nat (fun k => y (ix2 j k)) (768 + k.val)
    rw [nat_lt _ (by omega)]
    pointwise
  · have hk := k.isLt
    show _ = nat (fun k => y (ix2 j k)) (772 + k.val)
    rw [nat_lt _ (by omega)]
    pointwise
  · have hk := k.isLt
    show _ = nat (fun k => y (ix2 j k)) (1028 + k.val)
    rw [nat_lt _ (by omega)]
    pointwise
  · have hk := k.isLt
    show _ = nat (fun k => y (ix2 j k)) (1284 + k.val)
    rw [nat_lt _ (by omega)]
    pointwise
  · have hk := k.isLt
    show _ = nat (fun k => y (ix2 j k)) (1540 + k.val)
    rw [nat_lt _ (by omega)]
    pointwise
  · have hk := k.isLt
    show _ = nat (fun k => y (ix2 j k)) (1796 + k.val)
    rw [nat_lt _ (by omega)]
    pointwise
  · have hk := k.isLt
    show _ = nat (fun k => y (ix2 j k)) (1924 + k.val)
    rw [nat_lt _ (by omega)]
    pointwise
  · have hk := k.isLt
    show _ = nat (fun k => y (ix2 j k)) (1956 + k.val)
    rw [nat_lt _ (by omega)]
    pointwise
  · have hk := k.isLt
    show _ = nat (fun k => y (ix2 j k)) (2212 + k.val)
    rw [nat_lt _ (by omega)]
    pointwise
  · pointwise [zero32]

theorem given : Given m c (fr m c) (gr m c) where
  a0 r k := congrFun (v15_eq m c) (ix2 r k)
  a1 j k := (congrFun (v14_eq m c) _).trans (weight_at _ j k)

end Cert.Proj.Split

end
-- ==== Proof.Proj.SplitEqual.lean ====
/- The forward projection's call returns what the reference returns. -/
module

public import proofs.«01_k».proof.Defs
public import proofs.«01_k».proof.Proof.Proj.SplitHost
public import proofs.«01_k».proof.Proof.Gen.SplitReferenceIdeal.Read

@[expose] public section

set_option maxRecDepth 16384

noncomputable section

namespace Cert.Proj.Split

open Idealize.ShloMosaic Cert.SplitReferenceIdeal Cert.SplitReferenceIdeal.Read

variable (x0 : M 8192 1024) (x1 : M 1024 3236)

/-- A row of the input times a column of the weight. -/
abbrev prod (r : Fin 8192) (d : Fin 3236) : EReal := ∑ k : Fin 1024, x0 (ix2 r k) * x1 (ix2 k d)

theorem v0_at (r : Fin 8192) (d : Fin 3236) : val_main_v0 (F := Ideal) x0 x1 (ix2 r d) = prod x0 x1 r d := by
  rw [val_main_v0_apply]
  exact Finset.sum_congr rfl fun k _ => congrArg₂ (· * ·) (congrArg x0 (funext fun a => by fin_cases a <;> rfl)) (congrArg x1 (funext fun a => by fin_cases a <;> rfl))

/-- A wide column of the call's is the weight's. -/
theorem wide (r : Fin 8192) (n : ℕ) (d : Fin 3236) (hn : n < 3236) (hd : col n = d.val) :
    ∑ k : Fin 1024, x0 (ix2 r k) * perm (pieces k x1) n = prod x0 x1 r d := by
  refine Finset.sum_congr rfl fun k _ => ?_
  rw [perm_eq _ _ (by omega), if_pos hn, hd, orig_pieces]

/-- A column of zeros. -/
theorem none' (r : Fin 8192) (n : ℕ) (hn : 3236 ≤ n) (hd : n < 3328) :
    ∑ k : Fin 1024, x0 (ix2 r k) * perm (pieces k x1) n = 0 := by
  refine Finset.sum_eq_zero fun k _ => ?_
  rw [perm_eq _ _ hd, if_neg (by omega), mul_zero]

theorem v1_at (r : Fin 8192) (n : Fin 256) : val_main_v1 (F := Ideal) x0 x1 (ix2 r n) = prod x0 x1 r ⟨0 + n.val, by omega⟩ := by
  rw [val_main_v1_apply]
  refine Eq.trans (congrArg (val_main_v0 (F := Ideal) x0 x1) (funext fun a => ?_)) (v0_at x0 x1 r ⟨0 + n.val, by omega⟩)
  match a with
  | ⟨0, _⟩ => exact Fin.ext (by show _ = r.val; simp <;> rfl)
  | ⟨1, _⟩ => exact Fin.ext (by show _ = 0 + n.val; simp <;> rfl)

theorem v2_at (r : Fin 8192) (n : Fin 256) : val_main_v2 (F := Ideal) x0 x1 (ix2 r n) = prod x0 x1 r ⟨256 + n.val, by omega⟩ := by
  rw [val_main_v2_apply]
  refine Eq.trans (congrArg (val_main_v0 (F := Ideal) x0 x1) (funext fun a => ?_)) (v0_at x0 x1 r ⟨256 + n.val, by omega⟩)
  match a with
  | ⟨0, _⟩ => exact Fin.ext (by show _ = r.val; simp <;> rfl)
  | ⟨1, _⟩ => exact Fin.ext (by show _ = 256 + n.val; simp <;> rfl)

theorem v3_at (r : Fin 8192) (n : Fin 256) : val_main_v3 (F := Ideal) x0 x1 (ix2 r n) = prod x0 x1 r ⟨512 + n.val, by omega⟩ := by
  rw [val_main_v3_apply]
  refine Eq.trans (congrArg (val_main_v0 (F := Ideal) x0 x1) (funext fun a => ?_)) (v0_at x0 x1 r ⟨512 + n.val, by omega⟩)
  match a with
  | ⟨0, _⟩ => exact Fin.ext (by show _ = r.val; simp <;> rfl)
  | ⟨1, _⟩ => exact Fin.ext (by show _ = 512 + n.val; simp <;> rfl)

theorem v4_at (r : Fin 8192) (n : Fin 4) : val_main_v4 (F := Ideal) x0 x1 (ix2 r n) = prod x0 x1 r ⟨768 + n.val, by omega⟩ := by
  rw [val_main_v4_apply]
  refine Eq.trans (congrArg (val_main_v0 (F := Ideal) x0 x1) (funext fun a => ?_)) (v0_at x0 x1 r ⟨768 + n.val, by omega⟩)
  match a with
  | ⟨0, _⟩ => exact Fin.ext (by show _ = r.val; simp <;> rfl)
  | ⟨1, _⟩ => exact Fin.ext (by show _ = 768 + n.val; simp <;> rfl)

theorem v5_at (r : Fin 8192) (n : Fin 256) : val_main_v5 (F := Ideal) x0 x1 (ix2 r n) = prod x0 x1 r ⟨772 + n.val, by omega⟩ := by
  rw [val_main_v5_apply]
  refine Eq.trans (congrArg (val_main_v0 (F := Ideal) x0 x1) (funext fun a => ?_)) (v0_at x0 x1 r ⟨772 + n.val, by omega⟩)
  match a with
  | ⟨0, _⟩ => exact Fin.ext (by show _ = r.val; simp <;> rfl)
  | ⟨1, _⟩ => exact Fin.ext (by show _ = 772 + n.val; simp <;> rfl)

theorem v6_at (r : Fin 8192) (n : Fin 256) : val_main_v6 (F := Ideal) x0 x1 (ix2 r n) = prod x0 x1 r ⟨1028 + n.val, by omega⟩ := by
  rw [val_main_v6_apply]
  refine Eq.trans (congrArg (val_main_v0 (F := Ideal) x0 x1) (funext fun a => ?_)) (v0_at x0 x1 r ⟨1028 + n.val, by omega⟩)
  match a with
  | ⟨0, _⟩ => exact Fin.ext (by show _ = r.val; simp <;> rfl)
  | ⟨1, _⟩ => exact Fin.ext (by show _ = 1028 + n.val; simp <;> rfl)

theorem v7_at (r : Fin 8192) (n : Fin 256) : val_main_v7 (F := Ideal) x0 x1 (ix2 r n) = prod x0 x1 r ⟨1284 + n.val, by omega⟩ := by
  rw [val_main_v7_apply]
  refine Eq.trans (congrArg (val_main_v0 (F := Ideal) x0 x1) (funext fun a => ?_)) (v0_at x0 x1 r ⟨1284 + n.val, by omega⟩)
  match a with
  | ⟨0, _⟩ => exact Fin.ext (by show _ = r.val; simp <;> rfl)
  | ⟨1, _⟩ => exact Fin.ext (by show _ = 1284 + n.val; simp <;> rfl)

theorem v8_at (r : Fin 8192) (n : Fin 256) : val_main_v8 (F := Ideal) x0 x1 (ix2 r n) = prod x0 x1 r ⟨1540 + n.val, by omega⟩ := by
  rw [val_main_v8_apply]
  refine Eq.trans (congrArg (val_main_v0 (F := Ideal) x0 x1) (funext fun a => ?_)) (v0_at x0 x1 r ⟨1540 + n.val, by omega⟩)
  match a with
  | ⟨0, _⟩ => exact Fin.ext (by show _ = r.val; simp <;> rfl)
  | ⟨1, _⟩ => exact Fin.ext (by show _ = 1540 + n.val; simp <;> rfl)

theorem v9_at (r : Fin 8192) (n : Fin 128) : val_main_v9 (F := Ideal) x0 x1 (ix2 r n) = prod x0 x1 r ⟨1796 + n.val, by omega⟩ := by
  rw [val_main_v9_apply]
  refine Eq.trans (congrArg (val_main_v0 (F := Ideal) x0 x1) (funext fun a => ?_)) (v0_at x0 x1 r ⟨1796 + n.val, by omega⟩)
  match a with
  | ⟨0, _⟩ => exact Fin.ext (by show _ = r.val; simp <;> rfl)
  | ⟨1, _⟩ => exact Fin.ext (by show _ = 1796 + n.val; simp <;> rfl)

theorem v10_at (r : Fin 8192) (n : Fin 32) : val_main_v10 (F := Ideal) x0 x1 (ix2 r n) = prod x0 x1 r ⟨1924 + n.val, by omega⟩ := by
  rw [val_main_v10_apply]
  refine Eq.trans (congrArg (val_main_v0 (F := Ideal) x0 x1) (funext fun a => ?_)) (v0_at x0 x1 r ⟨1924 + n.val, by omega⟩)
  match a with
  | ⟨0, _⟩ => exact Fin.ext (by show _ = r.val; simp <;> rfl)
  | ⟨1, _⟩ => exact Fin.ext (by show _ = 1924 + n.val; simp <;> rfl)

theorem v11_at (r : Fin 8192) (n : Fin 256) : val_main_v11 (F := Ideal) x0 x1 (ix2 r n) = prod x0 x1 r ⟨1956 + n.val, by omega⟩ := by
  rw [val_main_v11_apply]
  refine Eq.trans (congrArg (val_main_v0 (F := Ideal) x0 x1) (funext fun a => ?_)) (v0_at x0 x1 r ⟨1956 + n.val, by omega⟩)
  match a with
  | ⟨0, _⟩ => exact Fin.ext (by show _ = r.val; simp <;> rfl)
  | ⟨1, _⟩ => exact Fin.ext (by show _ = 1956 + n.val; simp <;> rfl)

theorem v12_at (r : Fin 8192) (n : Fin 1024) : val_main_v12 (F := Ideal) x0 x1 (ix2 r n) = prod x0 x1 r ⟨2212 + n.val, by omega⟩ := by
  rw [val_main_v12_apply]
  refine Eq.trans (congrArg (val_main_v0 (F := Ideal) x0 x1) (funext fun a => ?_)) (v0_at x0 x1 r ⟨2212 + n.val, by omega⟩)
  match a with
  | ⟨0, _⟩ => exact Fin.ext (by show _ = r.val; simp <;> rfl)
  | ⟨1, _⟩ => exact Fin.ext (by show _ = 2212 + n.val; simp <;> rfl)

theorem g0_eq : gs (fun r k => x0 (ix2 r k)) (fun j => pieces j x1) 256 0 = val_main_v15 (F := Ideal) x0 x1 := by
  funext y
  obtain ⟨r, n, rfl⟩ : ∃ (r : Fin 8192) (n : Fin 256), y = ix2 r n := ⟨y 0, y 1, eq_ix2 y⟩
  refine (wide x0 x1 r (0 + n.val) ⟨0 + n.val, by omega⟩ (by omega) (by show col _ = 0 + n.val; unfold col; split_ifs <;> omega)).trans ?_
  exact (v1_at x0 x1 r n).symm

theorem g1_eq : gs (fun r k => x0 (ix2 r k)) (fun j => pieces j x1) 256 256 = val_main_v16 (F := Ideal) x0 x1 := by
  funext y
  obtain ⟨r, n, rfl⟩ : ∃ (r : Fin 8192) (n : Fin 256), y = ix2 r n := ⟨y 0, y 1, eq_ix2 y⟩
  refine (wide x0 x1 r (256 + n.val) ⟨256 + n.val, by omega⟩ (by omega) (by show col _ = 256 + n.val; unfold col; split_ifs <;> omega)).trans ?_
  exact (v2_at x0 x1 r n).symm

theorem g2_eq : gs (fun r k => x0 (ix2 r k)) (fun j => pieces j x1) 256 512 = val_main_v17 (F := Ideal) x0 x1 := by
  funext y
  obtain ⟨r, n, rfl⟩ : ∃ (r : Fin 8192) (n : Fin 256), y = ix2 r n := ⟨y 0, y 1, eq_ix2 y⟩
  refine (wide x0 x1 r (512 + n.val) ⟨512 + n.val, by omega⟩ (by omega) (by show col _ = 512 + n.val; unfold col; split_ifs <;> omega)).trans ?_
  exact (v3_at x0 x1 r n).symm

theorem g3_eq : gs (fun r k => x0 (ix2 r k)) (fun j => pieces j x1) 256 768 = val_main_v18 (F := Ideal) x0 x1 := by
  funext y
  obtain ⟨r, n, rfl⟩ : ∃ (r : Fin 8192) (n : Fin 256), y = ix2 r n := ⟨y 0, y 1, eq_ix2 y⟩
  refine (wide x0 x1 r (768 + n.val) ⟨772 + n.val, by omega⟩ (by omega) (by show col _ = 772 + n.val; unfold col; split_ifs <;> omega)).trans ?_
  exact (v5_at x0 x1 r n).symm

theorem g4_eq : gs (fun r k => x0 (ix2 r k)) (fun j => pieces j x1) 256 1024 = val_main_v19 (F := Ideal) x0 x1 := by
  funext y
  obtain ⟨r, n, rfl⟩ : ∃ (r : Fin 8192) (n : Fin 256), y = ix2 r n := ⟨y 0, y 1, eq_ix2 y⟩
  refine (wide x0 x1 r (1024 + n.val) ⟨1028 + n.val, by omega⟩ (by omega) (by show col _ = 1028 + n.val; unfold col; split_ifs <;> omega)).trans ?_
  exact (v6_at x0 x1 r n).symm

theorem g5_eq : gs (fun r k => x0 (ix2 r k)) (fun j => pieces j x1) 256 1280 = val_main_v20 (F := Ideal) x0 x1 := by
  funext y
  obtain ⟨r, n, rfl⟩ : ∃ (r : Fin 8192) (n : Fin 256), y = ix2 r n := ⟨y 0, y 1, eq_ix2 y⟩
  refine (wide x0 x1 r (1280 + n.val) ⟨1284 + n.val, by omega⟩ (by omega) (by show col _ = 1284 + n.val; unfold col; split_ifs <;> omega)).trans ?_
  exact (v7_at x0 x1 r n).symm

theorem g6_eq : gs (fun r k => x0 (ix2 r k)) (fun j => pieces j x1) 256 1536 = val_main_v8 (F := Ideal) x0 x1 := by
  funext y
  obtain ⟨r, n, rfl⟩ : ∃ (r : Fin 8192) (n : Fin 256), y = ix2 r n := ⟨y 0, y 1, eq_ix2 y⟩
  refine (wide x0 x1 r (1536 + n.val) ⟨1540 + n.val, by omega⟩ (by omega) (by show col _ = 1540 + n.val; unfold col; split_ifs <;> omega)).trans ?_
  exact (v8_at x0 x1 r n).symm

theorem g7_eq : gs (fun r k => x0 (ix2 r k)) (fun j => pieces j x1) 128 1792 = val_main_v9 (F := Ideal) x0 x1 := by
  funext y
  obtain ⟨r, n, rfl⟩ : ∃ (r : Fin 8192) (n : Fin 128), y = ix2 r n := ⟨y 0, y 1, eq_ix2 y⟩
  refine (wide x0 x1 r (1792 + n.val) ⟨1796 + n.val, by omega⟩ (by omega) (by show col _ = 1796 + n.val; unfold col; split_ifs <;> omega)).trans ?_
  exact (v9_at x0 x1 r n).symm

theorem g8_eq : gs (fun r k => x0 (ix2 r k)) (fun j => pieces j x1) 256 1920 = val_main_v21 (F := Ideal) x0 x1 := by
  funext y
  obtain ⟨r, n, rfl⟩ : ∃ (r : Fin 8192) (n : Fin 256), y = ix2 r n := ⟨y 0, y 1, eq_ix2 y⟩
  refine (wide x0 x1 r (1920 + n.val) ⟨1956 + n.val, by omega⟩ (by omega) (by show col _ = 1956 + n.val; unfold col; split_ifs <;> omega)).trans ?_
  exact (v11_at x0 x1 r n).symm

theorem g9_eq : gs (fun r k => x0 (ix2 r k)) (fun j => pieces j x1) 1024 2176 = val_main_v12 (F := Ideal) x0 x1 := by
  funext y
  obtain ⟨r, n, rfl⟩ : ∃ (r : Fin 8192) (n : Fin 1024), y = ix2 r n := ⟨y 0, y 1, eq_ix2 y⟩
  refine (wide x0 x1 r (2176 + n.val) ⟨2212 + n.val, by omega⟩ (by omega) (by show col _ = 2212 + n.val; unfold col; split_ifs <;> omega)).trans ?_
  exact (v12_at x0 x1 r n).symm

theorem zero92 (r : Fin 8192) (k : Fin 92) : val_main_v13 (F := Ideal) (ix2 r k) = 0 := by
  unfold val_main_v13
  pointwise
  exact Ideal.ofBits_zero_f32

/-- The product's narrow pieces and zeros, by column. -/
def tail (r : Fin 8192) : Fin 12 → ℕ → EReal :=
  fun j => if j = 9 then nat (fun k : Fin 32 => prod x0 x1 r ⟨1924 + k.val, by omega⟩) else nat (fun k : Fin 4 => prod x0 x1 r ⟨768 + k.val, by omega⟩)

theorem v14_at (r : Fin 8192) (n : Fin 128) : val_main_v14 (F := Ideal) x0 x1 (ix2 r n) = lad [(32, tail x0 x1 r 9), (4, tail x0 x1 r 3), (92, fun _ => 0)] n.val := by
  unfold val_main_v14
  refine cat_narrow_8192 (tail x0 x1 r) r _ _ _ (fun k => ?_) (fun k => ?_) (fun k => ?_) _ n
  · exact (v10_at x0 x1 r k).trans (nat_val (fun k : Fin 32 => prod x0 x1 r ⟨1924 + k.val, by omega⟩) k)
  · exact (v4_at x0 x1 r k).trans (nat_val (fun k : Fin 4 => prod x0 x1 r ⟨768 + k.val, by omega⟩) k)
  · exact zero92 r k

theorem g10_eq : gs (fun r k => x0 (ix2 r k)) (fun j => pieces j x1) 128 3200 = val_main_v14 (F := Ideal) x0 x1 := by
  funext y
  obtain ⟨r, n, rfl⟩ : ∃ (r : Fin 8192) (n : Fin 128), y = ix2 r n := ⟨y 0, y 1, eq_ix2 y⟩
  rw [v14_at]
  show ∑ k : Fin 1024, x0 (ix2 r k) * perm (pieces k x1) (3200 + n.val) = _
  have hn := n.isLt
  by_cases h : n.val < 32
  · refine (wide x0 x1 r (3200 + n.val) ⟨1924 + n.val, by omega⟩ (by omega) (by show col _ = 1924 + n.val; unfold col; split_ifs <;> omega)).trans ?_
    show _ = if n.val < 32 then tail x0 x1 r 9 n.val else _
    rw [if_pos h]
    exact (nat_lt (fun k : Fin 32 => prod x0 x1 r ⟨1924 + k.val, by omega⟩) h).symm
  by_cases h' : n.val < 36
  · refine (wide x0 x1 r (3200 + n.val) ⟨768 + (n.val - 32), by omega⟩ (by omega) (by show col _ = 768 + (n.val - 32); unfold col; split_ifs <;> omega)).trans ?_
    show _ = if n.val < 32 then _ else if n.val - 32 < 4 then tail x0 x1 r 3 (n.val - 32) else _
    rw [if_neg h, if_pos (by omega)]
    exact (nat_lt (fun k : Fin 4 => prod x0 x1 r ⟨768 + k.val, by omega⟩) (by omega : n.val - 32 < 4)).symm
  · refine (none' x0 x1 r (3200 + n.val) (by omega) (by omega)).trans ?_
    show _ = if n.val < 32 then _ else if n.val - 32 < 4 then _ else if n.val - 32 - 4 < 92 then (0 : EReal) else _
    rw [if_neg h, if_neg (by omega), if_pos (by omega)]

end Cert.Proj.Split

end
-- ==== Proof.Gate.Basic.lean ====
/- The gate: the four heads' results side by side, and the gate's factor. -/
module

public import proofs.«01_k».proof.Proof.Proj.Cat
public import Idealize.ShloMosaic.Lib.Claim
public import Idealize.ShloMosaic.Lib.VecWindow

@[expose] public section

set_option maxRecDepth 16384

noncomputable section

namespace Cert.Gate

open Idealize.ShloMosaic Idealize.SL.Sem Cert.Proj

/-- Four parts of one row, side by side. -/
def mx (f : Fin 4 → ℕ → EReal) (n : ℕ) : EReal := lad [(256, f 0), (256, f 1), (256, f 2), (256, f 3)] n

/-- The parts' rows, by number. -/
def parts {R : ℕ} (y0 y1 y2 y3 : M R 256) (r : Fin R) : Fin 4 → ℕ → EReal :=
  ![nat fun k => y0 (ix2 r k), nat fun k => y1 (ix2 r k), nat fun k => y2 (ix2 r k), nat fun k => y3 (ix2 r k)]

/-- The logistic function. -/
def sg (x : EReal) : EReal := Ideal.div 1 (1 + Ideal.exp (0 - x))

theorem sg_neg (x : EReal) : Ideal.div 1 (1 + Ideal.exp (-x)) = sg x := by
  unfold sg
  rw [sub_eq_add_neg, zero_add]

theorem cat_512 (f : Fin 4 → ℕ → EReal) (r : Fin 512) (y0 y1 y2 y3 : M 512 256)
    (h0 : ∀ k, y0 (ix2 r k) = f 0 k.val) (h1 : ∀ k, y1 (ix2 r k) = f 1 k.val) (h2 : ∀ k, y2 (ix2 r k) = f 2 k.val) (h3 : ∀ k, y3 (ix2 r k) = f 3 k.val)
    (h : Shape.Concatenates [(⟨2, ![512, 256]⟩ : Shape), (⟨2, ![512, 256]⟩ : Shape), (⟨2, ![512, 256]⟩ : Shape), (⟨2, ![512, 256]⟩ : Shape)] (⟨2, ![512, 1024]⟩ : Shape) 1) (n : Fin 1024) :
    concatenate (⟨2, ![512, 1024]⟩ : Shape) 1 [⟨(⟨2, ![512, 256]⟩ : Shape), y0⟩, ⟨(⟨2, ![512, 256]⟩ : Shape), y1⟩, ⟨(⟨2, ![512, 256]⟩ : Shape), y2⟩, ⟨(⟨2, ![512, 256]⟩ : Shape), y3⟩] h (ix2 r n) = mx f n.val := by
  have hn := n.isLt
  unfold mx
  pointwise
  refine lad_cons (g := fun k => y0 (ix2 r k)) h0 fun n0 => ?_
  refine lad_cons (g := fun k => y1 (ix2 r k)) h1 fun n1 => ?_
  refine lad_cons (g := fun k => y2 (ix2 r k)) h2 fun n2 => ?_
  exact lad_last (g := fun k => y3 (ix2 r k)) h3 (by omega)

theorem cat_8192 (f : Fin 4 → ℕ → EReal) (r : Fin 8192) (y0 y1 y2 y3 : M 8192 256)
    (h0 : ∀ k, y0 (ix2 r k) = f 0 k.val) (h1 : ∀ k, y1 (ix2 r k) = f 1 k.val) (h2 : ∀ k, y2 (ix2 r k) = f 2 k.val) (h3 : ∀ k, y3 (ix2 r k) = f 3 k.val)
    (h : Shape.Concatenates [(⟨2, ![8192, 256]⟩ : Shape), (⟨2, ![8192, 256]⟩ : Shape), (⟨2, ![8192, 256]⟩ : Shape), (⟨2, ![8192, 256]⟩ : Shape)] (⟨2, ![8192, 1024]⟩ : Shape) 1) (n : Fin 1024) :
    concatenate (⟨2, ![8192, 1024]⟩ : Shape) 1 [⟨(⟨2, ![8192, 256]⟩ : Shape), y0⟩, ⟨(⟨2, ![8192, 256]⟩ : Shape), y1⟩, ⟨(⟨2, ![8192, 256]⟩ : Shape), y2⟩, ⟨(⟨2, ![8192, 256]⟩ : Shape), y3⟩] h (ix2 r n) = mx f n.val := by
  have hn := n.isLt
  unfold mx
  pointwise
  refine lad_cons (g := fun k => y0 (ix2 r k)) h0 fun n0 => ?_
  refine lad_cons (g := fun k => y1 (ix2 r k)) h1 fun n1 => ?_
  refine lad_cons (g := fun k => y2 (ix2 r k)) h2 fun n2 => ?_
  exact lad_last (g := fun k => y3 (ix2 r k)) h3 (by omega)

end Cert.Gate

end
-- ==== Proof.Gate.FwdPoint.lean ====
/- What one grid point of the gate's forward call stores. -/
module

public import proofs.«01_k».proof.Proof.Gen.GateIdeal.Value
public import proofs.«01_k».proof.Proof.Gate.Basic
public import Idealize.ShloMosaic.Lib.Pipeline.ValueKit

@[expose] public section

set_option maxRecDepth 16384

noncomputable section

namespace Cert.Gate.Fwd

open Idealize.ShloMosaic Idealize.SL.Sem Idealize.ShloMosaic.TcCoe Cert.Proj
open Cert.GateIdeal Cert.GateIdeal.Gen

theorem zz : (![0, 0] : Fin 2 → ℕ) = fun _ => 0 := by
  funext a
  match a with
  | ⟨0, _⟩ => rfl
  | ⟨1, _⟩ => rfl

section
variable (x0 x1 x2 x3 : Vec Ideal S512x256 .f32) (x4 : Vec Ideal S512x1024 .f32) (x5 : Vec Ideal S1024x1024 .bf16)

theorem out6_eq : out0_6 x0 x1 x2 x3 x4 x5 = k0_pay3 x4 x0 x1 x2 x3 x5 := by
  unfold out0_6
  rw [View.canon_unit_zero zz]
  repeat rw [View.ld_unit_zero zz]

theorem out7_eq : out0_7 x0 x1 x2 x3 x4 x5 = k0_pay2 x4 x0 x1 x2 x3 := by
  unfold out0_7
  rw [View.canon_unit_zero zz]
  repeat rw [View.ld_unit_zero zz]

/-- The gated row, at a place. -/
theorem pay1_at (f : Fin 4 → ℕ → EReal) (q : Fin 512) (h0 : ∀ k, x0 (ix2 q k) = f 0 k.val) (h1 : ∀ k, x1 (ix2 q k) = f 1 k.val) (h2 : ∀ k, x2 (ix2 q k) = f 2 k.val) (h3 : ∀ k, x3 (ix2 q k) = f 3 k.val) (n : Fin 1024) :
    k0_pay1 x4 x0 x1 x2 x3 (ix2 q n) = mx f n.val * (x4 (ix2 q n) * sg (x4 (ix2 q n))) := by
  refine Eq.trans ?_ (congrArg (· * (x4 (ix2 q n) * sg (x4 (ix2 q n)))) (cat_512 f q x0 x1 x2 x3 h0 h1 h2 h3 concatenates_S512x256_S512x256_S512x256_S512x256_S512x1024_d1 n))
  unfold sg
  pointwise [k0_pay1]

theorem pay2_at (q : Fin 512) (n : Fin 1024) : k0_pay2 x4 x0 x1 x2 x3 (ix2 n q) = k0_pay1 x4 x0 x1 x2 x3 (ix2 q n) := by
  pointwise [k0_pay2]

theorem pay3_at (q : Fin 512) (j : Fin 1024) : k0_pay3 x4 x0 x1 x2 x3 x5 (ix2 q j) = ∑ k : Fin 1024, k0_pay1 x4 x0 x1 x2 x3 (ix2 q k) * x5 (ix2 k j) := by
  unfold k0_pay3
  generalize k0_pay1 x4 x0 x1 x2 x3 = a
  pointwise

end

end Cert.Gate.Fwd

end
-- ==== Proof.Gate.FwdArrays.lean ====
/- The two arrays the gate's forward call returns, at an index. -/
module

public import proofs.«01_k».proof.Proof.Gate.FwdPoint
public import Idealize.ShloMosaic.Lib.StableHlo.ReadAt

@[expose] public section

set_option maxRecDepth 16384

noncomputable section

namespace Cert.Gate.Fwd

open Idealize.ShloMosaic Idealize.SL.Sem Idealize.ShloMosaic.TcCoe Cert.Proj
open Cert.GateIdeal Cert.GateIdeal.Gen

theorem idx0 : ∀ t : Fin cfg0.N, win0_0.index t = ![t.val, 0] :=
  (by decide +kernel : ∀ t : Fin grid0.N, win0_0.index t = ![t.val, 0])
theorem idx1 : ∀ t : Fin cfg0.N, win0_1.index t = ![t.val, 0] :=
  (by decide +kernel : ∀ t : Fin grid0.N, win0_1.index t = ![t.val, 0])
theorem idx2 : ∀ t : Fin cfg0.N, win0_2.index t = ![t.val, 0] :=
  (by decide +kernel : ∀ t : Fin grid0.N, win0_2.index t = ![t.val, 0])
theorem idx3 : ∀ t : Fin cfg0.N, win0_3.index t = ![t.val, 0] :=
  (by decide +kernel : ∀ t : Fin grid0.N, win0_3.index t = ![t.val, 0])
theorem idx4 : ∀ t : Fin cfg0.N, win0_4.index t = ![t.val, 0] :=
  (by decide +kernel : ∀ t : Fin grid0.N, win0_4.index t = ![t.val, 0])
theorem idx5 : ∀ t : Fin cfg0.N, win0_5.index t = ![0, 0] :=
  (by decide +kernel : ∀ t : Fin grid0.N, win0_5.index t = ![0, 0])
theorem idx6 : ∀ t : Fin cfg0.N, win0_6.index t = ![t.val, 0] :=
  (by decide +kernel : ∀ t : Fin grid0.N, win0_6.index t = ![t.val, 0])
theorem idx7 : ∀ t : Fin cfg0.N, win0_7.index t = ![0, t.val] :=
  (by decide +kernel : ∀ t : Fin grid0.N, win0_7.index t = ![0, t.val])
theorem pts : cfg0.N = 16 := (by decide +kernel : grid0.N = 16)

variable (m : (ℓ : Loc nD τ sig) → Buf (Elt Ideal) ℓ) (c : Dev nD) (f : Fin 8192 → Fin 4 → ℕ → EReal) (g : Fin 8192 → Fin 1024 → EReal) (w : Fin 1024 → Fin 1024 → EReal)

/-- The arrays the call is given hold the parts' rows, the gate and the weight. -/
structure Given : Prop where
  a0 : ∀ (r : Fin 8192) (k : Fin 256), (V m c main_arg0 : Vec Ideal S8192x256 .f32) (ix2 r k) = f r 0 k.val
  a1 : ∀ (r : Fin 8192) (k : Fin 256), (V m c main_arg1 : Vec Ideal S8192x256 .f32) (ix2 r k) = f r 1 k.val
  a2 : ∀ (r : Fin 8192) (k : Fin 256), (V m c main_arg2 : Vec Ideal S8192x256 .f32) (ix2 r k) = f r 2 k.val
  a3 : ∀ (r : Fin 8192) (k : Fin 256), (V m c main_arg3 : Vec Ideal S8192x256 .f32) (ix2 r k) = f r 3 k.val
  a4 : ∀ (r : Fin 8192) (k : Fin 1024), (V m c main_arg4 : Vec Ideal S8192x1024 .f32) (ix2 r k) = g r k
  a5 : ∀ (k : Fin 1024) (j : Fin 1024), (V m c main_v0 : Vec Ideal S1024x1024 .bf16) (ix2 k j) = w k j

variable {m c f g w} (hV : Given m c f g w)
include hV

omit hV in
/-- A row of the whole from a block's. -/
abbrev at' (t : Fin cfg0.N) (q : Fin 512) : Fin 8192 := ⟨512 * t.val + q.val, by have : t.val < 16 := pts ▸ t.isLt; omega⟩

theorem b0 (t : Fin cfg0.N) (q : Fin 512) (k : Fin 256) : (iblk m c 0 t : Vec Ideal S512x256 .f32) (ix2 q k) = f (at' t q) 0 k.val := by
  refine Eq.trans ?_ (hV.a0 (at' t q) k)
  blk_ext [iblk, idx0 t]

theorem b1 (t : Fin cfg0.N) (q : Fin 512) (k : Fin 256) : (iblk m c 1 t : Vec Ideal S512x256 .f32) (ix2 q k) = f (at' t q) 1 k.val := by
  refine Eq.trans ?_ (hV.a1 (at' t q) k)
  blk_ext [iblk, idx1 t]

theorem b2 (t : Fin cfg0.N) (q : Fin 512) (k : Fin 256) : (iblk m c 2 t : Vec Ideal S512x256 .f32) (ix2 q k) = f (at' t q) 2 k.val := by
  refine Eq.trans ?_ (hV.a2 (at' t q) k)
  blk_ext [iblk, idx2 t]

theorem b3 (t : Fin cfg0.N) (q : Fin 512) (k : Fin 256) : (iblk m c 3 t : Vec Ideal S512x256 .f32) (ix2 q k) = f (at' t q) 3 k.val := by
  refine Eq.trans ?_ (hV.a3 (at' t q) k)
  blk_ext [iblk, idx3 t]

theorem b4 (t : Fin cfg0.N) (q : Fin 512) (k : Fin 1024) : (iblk m c 4 t : Vec Ideal S512x1024 .f32) (ix2 q k) = g (at' t q) k := by
  refine Eq.trans ?_ (hV.a4 (at' t q) k)
  blk_ext [iblk, idx4 t]

theorem b5 (t : Fin cfg0.N) (k : Fin 1024) (j : Fin 1024) : (iblk m c 5 t : Vec Ideal S1024x1024 .bf16) (ix2 k j) = w k j := by
  refine Eq.trans ?_ (hV.a5 k j)
  blk_ext [iblk, idx5 t]

omit hV in
theorem emb6 (t : Fin cfg0.N) (q : Fin 512) (n : Fin 1024) :
    ((win0_6.blk t).view.emb (ix2 q n : S512x1024.Idx) : S8192x1024.Idx) = ix2 (at' t q) n := by
  blk_ext [idx6 t]

omit hV in
theorem emb7 (t : Fin cfg0.N) (n : Fin 1024) (q : Fin 512) :
    ((win0_7.blk t).view.emb (ix2 n q : S1024x512.Idx) : S1024x8192.Idx) = ix2 n (at' t q) := by
  blk_ext [idx7 t]

omit hV in
variable (f g) in
/-- The gated parts. -/
def gd (r : Fin 8192) (n : Fin 1024) : EReal := mx (f r) n.val * (g r n * sg (g r n))

omit hV in
variable (f g w) in
/-- Their product with the weight. -/
def gy : M 8192 1024 := fun y => ∑ k : Fin 1024, gd f g (y 0) k * w k (y 1)

omit hV in
variable (f g) in
/-- Their transpose. -/
def gt : M 1024 8192 := fun y => gd f g (y 1) (y 0)

theorem pay1_blk (t : Fin cfg0.N) (q : Fin 512) (n : Fin 1024) :
    k0_pay1 (iblk m c 4 t) (iblk m c 0 t) (iblk m c 1 t) (iblk m c 2 t) (iblk m c 3 t) (ix2 q n) = gd f g (at' t q) n := by
  have h4 := b4 hV t q n
  refine (pay1_at (iblk m c 0 t) (iblk m c 1 t) (iblk m c 2 t) (iblk m c 3 t) (iblk m c 4 t) (f (at' t q)) q (b0 hV t q) (b1 hV t q) (b2 hV t q) (b3 hV t q) n).trans ?_
  rw [h4]
  rfl

theorem arr6 : (dats m 0 c).arrAt 6 cfg0.N = gy f g w := by
  refine (dats m 0 c).arrAt_eq_of_covers 6 _ (by decide +kernel) fun t hf y => ?_
  blk_simp
  rw [after0_6]
  revert y
  suffices h : ∀ y : S512x1024.Idx, (out0_6 (iblk m c 0 t) (iblk m c 1 t) (iblk m c 2 t) (iblk m c 3 t) (iblk m c 4 t) (iblk m c 5 t)) y = gy f g w ((win0_6.blk t).view.emb y) from h
  intro y
  obtain ⟨q, j, rfl⟩ : ∃ (q : Fin 512) (j : Fin 1024), y = ix2 q j := ⟨y 0, y 1, eq_ix2 y⟩
  rw [emb6 t q j, out6_eq, pay3_at]
  exact Finset.sum_congr rfl fun k _ => congrArg₂ (· * ·) (pay1_blk hV t q k) (b5 hV t k j)

theorem arr7 : (dats m 0 c).arrAt 7 cfg0.N = gt f g := by
  refine (dats m 0 c).arrAt_eq_of_covers 7 _ (by decide +kernel) fun t hf y => ?_
  blk_simp
  rw [after0_7]
  revert y
  suffices h : ∀ y : S1024x512.Idx, (out0_7 (iblk m c 0 t) (iblk m c 1 t) (iblk m c 2 t) (iblk m c 3 t) (iblk m c 4 t) (iblk m c 5 t)) y = gt f g ((win0_7.blk t).view.emb y) from h
  intro y
  obtain ⟨n, q, rfl⟩ : ∃ (n : Fin 1024) (q : Fin 512), y = ix2 n q := ⟨y 0, y 1, eq_ix2 y⟩
  rw [emb7 t n q, out7_eq, pay2_at]
  exact pay1_blk hV t q n

omit hV in
variable (m c) in
abbrev y0 : M 8192 256 := m ((c : Thread nD τ).loc main_arg0)
omit hV in
variable (m c) in
abbrev y1 : M 8192 256 := m ((c : Thread nD τ).loc main_arg1)
omit hV in
variable (m c) in
abbrev y2 : M 8192 256 := m ((c : Thread nD τ).loc main_arg2)
omit hV in
variable (m c) in
abbrev y3 : M 8192 256 := m ((c : Thread nD τ).loc main_arg3)
omit hV in
variable (m c) in
abbrev y4 : M 8192 1024 := m ((c : Thread nD τ).loc main_arg4)
omit hV in
variable (m c) in
abbrev y5 : M 1024 1024 := m ((c : Thread nD τ).loc main_arg5)

omit hV in
variable (m c) in
theorem v0_eq : V (F := Ideal) m c main_v0 = (truncf (F := Ideal) .bf16 (y5 m c : Vec Ideal S1024x1024 .f32) bitsLt_bf16_f32 : Vec Ideal S1024x1024 .bf16) := by
  unfold V
  after_reads_simp

omit hV in
variable (m c) in
theorem given : Given m c (parts (y0 m c) (y1 m c) (y2 m c) (y3 m c)) (fun r k => y4 m c (ix2 r k)) (fun k j => y5 m c (ix2 k j)) where
  a0 r k := (congrFun (V_main_arg0 m c) _).trans (nat_val (fun k => y0 m c (ix2 r k)) k)
  a1 r k := (congrFun (V_main_arg1 m c) _).trans (nat_val (fun k => y1 m c (ix2 r k)) k)
  a2 r k := (congrFun (V_main_arg2 m c) _).trans (nat_val (fun k => y2 m c (ix2 r k)) k)
  a3 r k := (congrFun (V_main_arg3 m c) _).trans (nat_val (fun k => y3 m c (ix2 r k)) k)
  a4 r k := congrFun (V_main_arg4 m c) (ix2 r k)
  a5 k j := congrFun (v0_eq m c) (ix2 k j)

end Cert.Gate.Fwd

end
-- ==== Proof.Gate.FwdEqual.lean ====
/- The gate's forward call returns what the reference returns. -/
module

public import proofs.«01_k».proof.Defs
public import proofs.«01_k».proof.Proof.Gate.FwdArrays
public import proofs.«01_k».proof.Proof.Gen.GateReferenceIdeal.Read

@[expose] public section

set_option maxRecDepth 16384

noncomputable section

namespace Cert.Gate.Fwd

open Idealize.ShloMosaic Cert.Proj Cert.GateReferenceIdeal Cert.GateReferenceIdeal.Read

variable (x0 x1 x2 x3 : M 8192 256) (x4 : M 8192 1024) (x5 : M 1024 1024)

theorem v0_at (r : Fin 8192) (n : Fin 1024) : val_main_v0 (F := Ideal) x0 x1 x2 x3 (ix2 r n) = mx (parts x0 x1 x2 x3 r) n.val := by
  unfold val_main_v0
  exact cat_8192 (parts x0 x1 x2 x3 r) r x0 x1 x2 x3 (nat_val fun k => x0 (ix2 r k)) (nat_val fun k => x1 (ix2 r k)) (nat_val fun k => x2 (ix2 r k)) (nat_val fun k => x3 (ix2 r k)) _ n

theorem v1_at (r : Fin 8192) (n : Fin 1024) : val_main_v1 (F := Ideal) x4 (ix2 r n) = x4 (ix2 r n) * sg (x4 (ix2 r n)) := by
  rw [← sg_neg]
  pointwise [val_main_v1, val_main_call0_v5, val_main_call0_v4, val_main_call0_v3, val_main_call0_v2, val_main_call0_v1, val_main_call0_v0, val_main_call0_cst, val_main_call0_cst_0]

theorem v2_at (r : Fin 8192) (n : Fin 1024) : val_main_v2 (F := Ideal) x0 x1 x2 x3 x4 (ix2 r n) = gd (parts x0 x1 x2 x3) (fun r k => x4 (ix2 r k)) r n :=
  congrArg₂ (· * ·) (v0_at x0 x1 x2 x3 r n) (v1_at x4 r n)

theorem gy_eq : gy (parts x0 x1 x2 x3) (fun r k => x4 (ix2 r k)) (fun k j => x5 (ix2 k j)) = val_main_v3 (F := Ideal) x0 x1 x2 x3 x4 x5 := by
  funext y
  obtain ⟨r, j, rfl⟩ : ∃ (r : Fin 8192) (j : Fin 1024), y = ix2 r j := ⟨y 0, y 1, eq_ix2 y⟩
  rw [val_main_v3_apply]
  refine Finset.sum_congr rfl fun k _ => congrArg₂ (· * ·) ?_ (congrArg x5 (funext fun a => by fin_cases a <;> rfl))
  exact (v2_at x0 x1 x2 x3 x4 r k).symm.trans (congrArg _ (funext fun a => by fin_cases a <;> rfl))

theorem gt_eq : gt (parts x0 x1 x2 x3) (fun r k => x4 (ix2 r k)) = val_main_v5 (F := Ideal) x0 x1 x2 x3 x4 := by
  funext y
  obtain ⟨n, r, rfl⟩ : ∃ (n : Fin 1024) (r : Fin 8192), y = ix2 n r := ⟨y 0, y 1, eq_ix2 y⟩
  refine (v2_at x0 x1 x2 x3 x4 r n).symm.trans ?_
  rw [val_main_v5_apply, val_main_v4_apply]
  exact congrArg (val_main_v2 (F := Ideal) x0 x1 x2 x3 x4) (funext fun a => by fin_cases a <;> rfl)

end Cert.Gate.Fwd

end
-- ==== Proof.Gate.BackPoint.lean ====
/- What one grid point of the gate's backward call stores. -/
module

public import proofs.«01_k».proof.Proof.Gen.GateBackIdeal.Value
public import proofs.«01_k».proof.Proof.Gate.Basic
public import Idealize.ShloMosaic.Lib.Pipeline.ValueKit

@[expose] public section

set_option maxRecDepth 16384

noncomputable section

namespace Cert.Gate.Back

open Idealize.ShloMosaic Idealize.SL.Sem Idealize.ShloMosaic.TcCoe Cert.Proj
open Cert.GateBackIdeal Cert.GateBackIdeal.Gen

theorem zz : (![0, 0] : Fin 2 → ℕ) = fun _ => 0 := by
  funext a
  match a with
  | ⟨0, _⟩ => rfl
  | ⟨1, _⟩ => rfl

/-- A part's column among all of them. -/
def col (o : Fin 4) (n : Fin 256) : Fin 1024 := ⟨256 * o.val + n.val, by omega⟩

section
variable (x0 : Vec Ideal S512x1024 .bf16) (x1 : Vec Ideal S1024x1024 .bf16) (x2 x3 x4 x5 : Vec Ideal S512x256 .f32) (x6 : Vec Ideal S512x1024 .f32)

theorem out7_eq : out0_7 x0 x1 x2 x3 x4 x5 x6 = k0_pay5 x6 x0 x1 := by
  unfold out0_7
  rw [View.canon_unit_zero zz]
  repeat rw [View.ld_unit_zero zz]

theorem out8_eq : out0_8 x0 x1 x2 x3 x4 x5 x6 = k0_pay6 x6 x0 x1 := by
  unfold out0_8
  rw [View.canon_unit_zero zz]
  repeat rw [View.ld_unit_zero zz]

theorem out9_eq : out0_9 x0 x1 x2 x3 x4 x5 x6 = k0_pay7 x6 x0 x1 := by
  unfold out0_9
  rw [View.canon_unit_zero zz]
  repeat rw [View.ld_unit_zero zz]

theorem out10_eq : out0_10 x0 x1 x2 x3 x4 x5 x6 = k0_pay8 x6 x0 x1 := by
  unfold out0_10
  rw [View.canon_unit_zero zz]
  repeat rw [View.ld_unit_zero zz]

theorem out11_eq : out0_11 x0 x1 x2 x3 x4 x5 x6 = k0_pay1 x6 (k0_pay3 x6) (k0_pay9 x0 x1 x2 x3 x4 x5) := by
  unfold out0_11
  rw [View.canon_unit_zero zz]
  repeat rw [View.ld_unit_zero zz]

theorem pay2_at (q : Fin 512) (j : Fin 1024) : k0_pay2 x0 x1 (ix2 q j) = ∑ k : Fin 1024, x0 (ix2 q k) * x1 (ix2 j k) := by
  pointwise [k0_pay2]

theorem pay3_at (q : Fin 512) (j : Fin 1024) : k0_pay3 x6 (ix2 q j) = sg (x6 (ix2 q j)) := by
  unfold sg
  pointwise [k0_pay3]

theorem pay4_at (q : Fin 512) (j : Fin 1024) : k0_pay4 x6 x0 x1 (ix2 q j) = (∑ k : Fin 1024, x0 (ix2 q k) * x1 (ix2 j k)) * (x6 (ix2 q j) * sg (x6 (ix2 q j))) :=
  congrArg₂ (· * ·) (pay2_at x0 x1 q j) (congrArg (x6 (ix2 q j) * ·) (pay3_at x6 q j))

theorem pay5_at (q : Fin 512) (n : Fin 256) : k0_pay5 x6 x0 x1 (ix2 q n) = k0_pay4 x6 x0 x1 (ix2 q (col 0 n)) := by
  unfold k0_pay5
  generalize k0_pay4 x6 x0 x1 = a
  exact extractStridedSlice_apply ![0, 0] a _ (ix2 q n) (ix2 q (col 0 n)) (fun a => match a with
    | ⟨0, _⟩ => by show q.val = 0 + q.val; omega
    | ⟨1, _⟩ => by show 256 * 0 + n.val = 0 + n.val; omega)

theorem pay6_at (q : Fin 512) (n : Fin 256) : k0_pay6 x6 x0 x1 (ix2 q n) = k0_pay4 x6 x0 x1 (ix2 q (col 1 n)) := by
  unfold k0_pay6
  generalize k0_pay4 x6 x0 x1 = a
  exact extractStridedSlice_apply ![0, 256] a _ (ix2 q n) (ix2 q (col 1 n)) (fun a => match a with
    | ⟨0, _⟩ => by show q.val = 0 + q.val; omega
    | ⟨1, _⟩ => by show 256 * 1 + n.val = 256 + n.val; omega)

theorem pay7_at (q : Fin 512) (n : Fin 256) : k0_pay7 x6 x0 x1 (ix2 q n) = k0_pay4 x6 x0 x1 (ix2 q (col 2 n)) := by
  unfold k0_pay7
  generalize k0_pay4 x6 x0 x1 = a
  exact extractStridedSlice_apply ![0, 512] a _ (ix2 q n) (ix2 q (col 2 n)) (fun a => match a with
    | ⟨0, _⟩ => by show q.val = 0 + q.val; omega
    | ⟨1, _⟩ => by show 256 * 2 + n.val = 512 + n.val; omega)

theorem pay8_at (q : Fin 512) (n : Fin 256) : k0_pay8 x6 x0 x1 (ix2 q n) = k0_pay4 x6 x0 x1 (ix2 q (col 3 n)) := by
  unfold k0_pay8
  generalize k0_pay4 x6 x0 x1 = a
  exact extractStridedSlice_apply ![0, 768] a _ (ix2 q n) (ix2 q (col 3 n)) (fun a => match a with
    | ⟨0, _⟩ => by show q.val = 0 + q.val; omega
    | ⟨1, _⟩ => by show 256 * 3 + n.val = 768 + n.val; omega)

theorem pay9_at (f : Fin 4 → ℕ → EReal) (q : Fin 512) (h0 : ∀ k, x2 (ix2 q k) = f 0 k.val) (h1 : ∀ k, x3 (ix2 q k) = f 1 k.val) (h2 : ∀ k, x4 (ix2 q k) = f 2 k.val) (h3 : ∀ k, x5 (ix2 q k) = f 3 k.val) (j : Fin 1024) :
    k0_pay9 x0 x1 x2 x3 x4 x5 (ix2 q j) = (∑ k : Fin 1024, x0 (ix2 q k) * x1 (ix2 j k)) * mx f j.val :=
  congrArg₂ (· * ·) (pay2_at x0 x1 q j) (cat_512 f q x2 x3 x4 x5 h0 h1 h2 h3 concatenates_S512x256_S512x256_S512x256_S512x256_S512x1024_d1 j)

theorem pay1_at (a b : Vec Ideal S512x1024 .f32) (q : Fin 512) (j : Fin 1024) :
    k0_pay1 x6 a b (ix2 q j) = b (ix2 q j) * (a (ix2 q j) * (1 + x6 (ix2 q j) * (1 - a (ix2 q j)))) := by
  pointwise [k0_pay1]

end

end Cert.Gate.Back

end
-- ==== Proof.Gate.BackArrays.lean ====
/- The five arrays the gate's backward call returns, at an index. -/
module

public import proofs.«01_k».proof.Proof.Gate.BackPoint
public import Idealize.ShloMosaic.Lib.StableHlo.ReadAt

@[expose] public section

set_option maxRecDepth 16384

noncomputable section

namespace Cert.Gate.Back

open Idealize.ShloMosaic Idealize.SL.Sem Idealize.ShloMosaic.TcCoe Cert.Proj
open Cert.GateBackIdeal Cert.GateBackIdeal.Gen

theorem idx0 : ∀ t : Fin cfg0.N, win0_0.index t = ![t.val, 0] :=
  (by decide +kernel : ∀ t : Fin grid0.N, win0_0.index t = ![t.val, 0])
theorem idx1 : ∀ t : Fin cfg0.N, win0_1.index t = ![0, 0] :=
  (by decide +kernel : ∀ t : Fin grid0.N, win0_1.index t = ![0, 0])
theorem idx2 : ∀ t : Fin cfg0.N, win0_2.index t = ![t.val, 0] :=
  (by decide +kernel : ∀ t : Fin grid0.N, win0_2.index t = ![t.val, 0])
theorem idx3 : ∀ t : Fin cfg0.N, win0_3.index t = ![t.val, 0] :=
  (by decide +kernel : ∀ t : Fin grid0.N, win0_3.index t = ![t.val, 0])
theorem idx4 : ∀ t : Fin cfg0.N, win0_4.index t = ![t.val, 0] :=
  (by decide +kernel : ∀ t : Fin grid0.N, win0_4.index t = ![t.val, 0])
theorem idx5 : ∀ t : Fin cfg0.N, win0_5.index t = ![t.val, 0] :=
  (by decide +kernel : ∀ t : Fin grid0.N, win0_5.index t = ![t.val, 0])
theorem idx6 : ∀ t : Fin cfg0.N, win0_6.index t = ![t.val, 0] :=
  (by decide +kernel : ∀ t : Fin grid0.N, win0_6.index t = ![t.val, 0])
theorem idx7 : ∀ t : Fin cfg0.N, win0_7.index t = ![t.val, 0] :=
  (by decide +kernel : ∀ t : Fin grid0.N, win0_7.index t = ![t.val, 0])
theorem idx8 : ∀ t : Fin cfg0.N, win0_8.index t = ![t.val, 0] :=
  (by decide +kernel : ∀ t : Fin grid0.N, win0_8.index t = ![t.val, 0])
theorem idx9 : ∀ t : Fin cfg0.N, win0_9.index t = ![t.val, 0] :=
  (by decide +kernel : ∀ t : Fin grid0.N, win0_9.index t = ![t.val, 0])
theorem idx10 : ∀ t : Fin cfg0.N, win0_10.index t = ![t.val, 0] :=
  (by decide +kernel : ∀ t : Fin grid0.N, win0_10.index t = ![t.val, 0])
theorem idx11 : ∀ t : Fin cfg0.N, win0_11.index t = ![t.val, 0] :=
  (by decide +kernel : ∀ t : Fin grid0.N, win0_11.index t = ![t.val, 0])
theorem pts : cfg0.N = 16 := (by decide +kernel : grid0.N = 16)

variable (m : (ℓ : Loc nD τ sig) → Buf (Elt Ideal) ℓ) (c : Dev nD) (d : Fin 8192 → Fin 1024 → EReal) (w : Fin 1024 → Fin 1024 → EReal) (f : Fin 8192 → Fin 4 → ℕ → EReal) (g : Fin 8192 → Fin 1024 → EReal)

/-- The arrays the call is given hold the result's gradient, the weight, the parts' rows and the gate. -/
structure Given : Prop where
  a0 : ∀ (r : Fin 8192) (k : Fin 1024), (V m c main_v0 : Vec Ideal S8192x1024 .bf16) (ix2 r k) = d r k
  a1 : ∀ (j : Fin 1024) (k : Fin 1024), (V m c main_v1 : Vec Ideal S1024x1024 .bf16) (ix2 j k) = w j k
  a2 : ∀ (r : Fin 8192) (k : Fin 256), (V m c main_arg2 : Vec Ideal S8192x256 .f32) (ix2 r k) = f r 0 k.val
  a3 : ∀ (r : Fin 8192) (k : Fin 256), (V m c main_arg3 : Vec Ideal S8192x256 .f32) (ix2 r k) = f r 1 k.val
  a4 : ∀ (r : Fin 8192) (k : Fin 256), (V m c main_arg4 : Vec Ideal S8192x256 .f32) (ix2 r k) = f r 2 k.val
  a5 : ∀ (r : Fin 8192) (k : Fin 256), (V m c main_arg5 : Vec Ideal S8192x256 .f32) (ix2 r k) = f r 3 k.val
  a6 : ∀ (r : Fin 8192) (k : Fin 1024), (V m c main_arg6 : Vec Ideal S8192x1024 .f32) (ix2 r k) = g r k

variable {m c d w f g} (hV : Given m c d w f g)
include hV

omit hV in
/-- A row of the whole from a block's. -/
abbrev at' (t : Fin cfg0.N) (q : Fin 512) : Fin 8192 := ⟨512 * t.val + q.val, by have : t.val < 16 := pts ▸ t.isLt; omega⟩

theorem b0 (t : Fin cfg0.N) (q : Fin 512) (k : Fin 1024) : (iblk m c 0 t : Vec Ideal S512x1024 .bf16) (ix2 q k) = d (at' t q) k := by
  refine Eq.trans ?_ (hV.a0 (at' t q) k)
  blk_ext [iblk, idx0 t]

theorem b1 (t : Fin cfg0.N) (j : Fin 1024) (k : Fin 1024) : (iblk m c 1 t : Vec Ideal S1024x1024 .bf16) (ix2 j k) = w j k := by
  refine Eq.trans ?_ (hV.a1 j k)
  blk_ext [iblk, idx1 t]

theorem b2 (t : Fin cfg0.N) (q : Fin 512) (k : Fin 256) : (iblk m c 2 t : Vec Ideal S512x256 .f32) (ix2 q k) = f (at' t q) 0 k.val := by
  refine Eq.trans ?_ (hV.a2 (at' t q) k)
  blk_ext [iblk, idx2 t]

theorem b3 (t : Fin cfg0.N) (q : Fin 512) (k : Fin 256) : (iblk m c 3 t : Vec Ideal S512x256 .f32) (ix2 q k) = f (at' t q) 1 k.val := by
  refine Eq.trans ?_ (hV.a3 (at' t q) k)
  blk_ext [iblk, idx3 t]

theorem b4 (t : Fin cfg0.N) (q : Fin 512) (k : Fin 256) : (iblk m c 4 t : Vec Ideal S512x256 .f32) (ix2 q k) = f (at' t q) 2 k.val := by
  refine Eq.trans ?_ (hV.a4 (at' t q) k)
  blk_ext [iblk, idx4 t]

theorem b5 (t : Fin cfg0.N) (q : Fin 512) (k : Fin 256) : (iblk m c 5 t : Vec Ideal S512x256 .f32) (ix2 q k) = f (at' t q) 3 k.val := by
  refine Eq.trans ?_ (hV.a5 (at' t q) k)
  blk_ext [iblk, idx5 t]

theorem b6 (t : Fin cfg0.N) (q : Fin 512) (k : Fin 1024) : (iblk m c 6 t : Vec Ideal S512x1024 .f32) (ix2 q k) = g (at' t q) k := by
  refine Eq.trans ?_ (hV.a6 (at' t q) k)
  blk_ext [iblk, idx6 t]

omit hV in
theorem emb7 (t : Fin cfg0.N) (q : Fin 512) (n : Fin 256) :
    ((win0_7.blk t).view.emb (ix2 q n : S512x256.Idx) : S8192x256.Idx) = ix2 (at' t q) n := by
  blk_ext [idx7 t]

omit hV in
theorem emb8 (t : Fin cfg0.N) (q : Fin 512) (n : Fin 256) :
    ((win0_8.blk t).view.emb (ix2 q n : S512x256.Idx) : S8192x256.Idx) = ix2 (at' t q) n := by
  blk_ext [idx8 t]

omit hV in
theorem emb9 (t : Fin cfg0.N) (q : Fin 512) (n : Fin 256) :
    ((win0_9.blk t).view.emb (ix2 q n : S512x256.Idx) : S8192x256.Idx) = ix2 (at' t q) n := by
  blk_ext [idx9 t]

omit hV in
theorem emb10 (t : Fin cfg0.N) (q : Fin 512) (n : Fin 256) :
    ((win0_10.blk t).view.emb (ix2 q n : S512x256.Idx) : S8192x256.Idx) = ix2 (at' t q) n := by
  blk_ext [idx10 t]

omit hV in
theorem emb11 (t : Fin cfg0.N) (q : Fin 512) (n : Fin 1024) :
    ((win0_11.blk t).view.emb (ix2 q n : S512x1024.Idx) : S8192x1024.Idx) = ix2 (at' t q) n := by
  blk_ext [idx11 t]

omit hV in
variable (d w) in
/-- The gradient of the gated parts. -/
def ds (r : Fin 8192) (j : Fin 1024) : EReal := ∑ k : Fin 1024, d r k * w j k

omit hV in
variable (d w g) in
/-- The gradient of one part. -/
def px (o : Fin 4) : M 8192 256 := fun y => ds d w (y 0) (col o (y 1)) * (g (y 0) (col o (y 1)) * sg (g (y 0) (col o (y 1))))

omit hV in
variable (d w f g) in
/-- The gradient of the gate. -/
def pg : M 8192 1024 := fun y => ds d w (y 0) (y 1) * mx (f (y 0)) (y 1).val * (sg (g (y 0) (y 1)) * (1 + g (y 0) (y 1) * (1 - sg (g (y 0) (y 1)))))

omit hV in
theorem ds_of {a : Vec Ideal S512x1024 .bf16} {b : Vec Ideal S1024x1024 .bf16} {r : Fin 8192} {q : Fin 512} {j : Fin 1024} (ha : ∀ k, a (ix2 q k) = d r k) (hb : ∀ k, b (ix2 j k) = w j k) :
    (∑ k : Fin 1024, a (ix2 q k) * b (ix2 j k)) = ds d w r j :=
  Finset.sum_congr rfl fun k _ => congrArg₂ (· * ·) (ha k) (hb k)

theorem pay4_blk (t : Fin cfg0.N) (q : Fin 512) (j : Fin 1024) :
    k0_pay4 (iblk m c 6 t) (iblk m c 0 t) (iblk m c 1 t) (ix2 q j) = ds d w (at' t q) j * (g (at' t q) j * sg (g (at' t q) j)) := by
  have h6 := b6 hV t q j
  refine (pay4_at (iblk m c 0 t) (iblk m c 1 t) (iblk m c 6 t) q j).trans ?_
  rw [h6]
  exact congrArg (· * (g (at' t q) j * sg (g (at' t q) j))) (ds_of (b0 hV t q) (b1 hV t j))

theorem arr7 : (dats m 0 c).arrAt 7 cfg0.N = px d w g 0 := by
  refine (dats m 0 c).arrAt_eq_of_covers 7 _ (by decide +kernel) fun t hf y => ?_
  blk_simp
  rw [after0_7]
  revert y
  suffices h : ∀ y : S512x256.Idx, (out0_7 (iblk m c 0 t) (iblk m c 1 t) (iblk m c 2 t) (iblk m c 3 t) (iblk m c 4 t) (iblk m c 5 t) (iblk m c 6 t)) y = px d w g 0 ((win0_7.blk t).view.emb y) from h
  intro y
  obtain ⟨q, n, rfl⟩ : ∃ (q : Fin 512) (n : Fin 256), y = ix2 q n := ⟨y 0, y 1, eq_ix2 y⟩
  rw [emb7 t q n, out7_eq, pay5_at]
  exact pay4_blk hV t q (col 0 n)

theorem arr8 : (dats m 0 c).arrAt 8 cfg0.N = px d w g 1 := by
  refine (dats m 0 c).arrAt_eq_of_covers 8 _ (by decide +kernel) fun t hf y => ?_
  blk_simp
  rw [after0_8]
  revert y
  suffices h : ∀ y : S512x256.Idx, (out0_8 (iblk m c 0 t) (iblk m c 1 t) (iblk m c 2 t) (iblk m c 3 t) (iblk m c 4 t) (iblk m c 5 t) (iblk m c 6 t)) y = px d w g 1 ((win0_8.blk t).view.emb y) from h
  intro y
  obtain ⟨q, n, rfl⟩ : ∃ (q : Fin 512) (n : Fin 256), y = ix2 q n := ⟨y 0, y 1, eq_ix2 y⟩
  rw [emb8 t q n, out8_eq, pay6_at]
  exact pay4_blk hV t q (col 1 n)

theorem arr9 : (dats m 0 c).arrAt 9 cfg0.N = px d w g 2 := by
  refine (dats m 0 c).arrAt_eq_of_covers 9 _ (by decide +kernel) fun t hf y => ?_
  blk_simp
  rw [after0_9]
  revert y
  suffices h : ∀ y : S512x256.Idx, (out0_9 (iblk m c 0 t) (iblk m c 1 t) (iblk m c 2 t) (iblk m c 3 t) (iblk m c 4 t) (iblk m c 5 t) (iblk m c 6 t)) y = px d w g 2 ((win0_9.blk t).view.emb y) from h
  intro y
  obtain ⟨q, n, rfl⟩ : ∃ (q : Fin 512) (n : Fin 256), y = ix2 q n := ⟨y 0, y 1, eq_ix2 y⟩
  rw [emb9 t q n, out9_eq, pay7_at]
  exact pay4_blk hV t q (col 2 n)

theorem arr10 : (dats m 0 c).arrAt 10 cfg0.N = px d w g 3 := by
  refine (dats m 0 c).arrAt_eq_of_covers 10 _ (by decide +kernel) fun t hf y => ?_
  blk_simp
  rw [after0_10]
  revert y
  suffices h : ∀ y : S512x256.Idx, (out0_10 (iblk m c 0 t) (iblk m c 1 t) (iblk m c 2 t) (iblk m c 3 t) (iblk m c 4 t) (iblk m c 5 t) (iblk m c 6 t)) y = px d w g 3 ((win0_10.blk t).view.emb y) from h
  intro y
  obtain ⟨q, n, rfl⟩ : ∃ (q : Fin 512) (n : Fin 256), y = ix2 q n := ⟨y 0, y 1, eq_ix2 y⟩
  rw [emb10 t q n, out10_eq, pay8_at]
  exact pay4_blk hV t q (col 3 n)

theorem arr11 : (dats m 0 c).arrAt 11 cfg0.N = pg d w f g := by
  refine (dats m 0 c).arrAt_eq_of_covers 11 _ (by decide +kernel) fun t hf y => ?_
  blk_simp
  rw [after0_11]
  revert y
  suffices h : ∀ y : S512x1024.Idx, (out0_11 (iblk m c 0 t) (iblk m c 1 t) (iblk m c 2 t) (iblk m c 3 t) (iblk m c 4 t) (iblk m c 5 t) (iblk m c 6 t)) y = pg d w f g ((win0_11.blk t).view.emb y) from h
  intro y
  obtain ⟨q, j, rfl⟩ : ∃ (q : Fin 512) (j : Fin 1024), y = ix2 q j := ⟨y 0, y 1, eq_ix2 y⟩
  have h6 := b6 hV t q j
  have h9 := pay9_at (iblk m c 0 t) (iblk m c 1 t) (iblk m c 2 t) (iblk m c 3 t) (iblk m c 4 t) (iblk m c 5 t) (f (at' t q)) q (b2 hV t q) (b3 hV t q) (b4 hV t q) (b5 hV t q) j
  have h3 := pay3_at (iblk m c 6 t) q j
  rw [h6] at h3
  rw [emb11 t q j, out11_eq, pay1_at, h6, h3, h9]
  exact congrArg (fun z => z * mx (f (at' t q)) j.val * (sg (g (at' t q) j) * (1 + g (at' t q) j * (1 - sg (g (at' t q) j))))) (ds_of (b0 hV t q) (b1 hV t j))

omit hV in
variable (m c) in
abbrev y0 : M 8192 1024 := m ((c : Thread nD τ).loc main_arg0)

omit hV in
variable (m c) in
abbrev y1 : M 1024 1024 := m ((c : Thread nD τ).loc main_arg1)

omit hV in
variable (m c) in
abbrev y2 : M 8192 256 := m ((c : Thread nD τ).loc main_arg2)

omit hV in
variable (m c) in
abbrev y3 : M 8192 256 := m ((c : Thread nD τ).loc main_arg3)

omit hV in
variable (m c) in
abbrev y4 : M 8192 256 := m ((c : Thread nD τ).loc main_arg4)

omit hV in
variable (m c) in
abbrev y5 : M 8192 256 := m ((c : Thread nD τ).loc main_arg5)

omit hV in
variable (m c) in
abbrev y6 : M 8192 1024 := m ((c : Thread nD τ).loc main_arg6)

omit hV in
variable (m c) in
theorem v0_eq : V (F := Ideal) m c main_v0 = (truncf (F := Ideal) .bf16 (y0 m c : Vec Ideal S8192x1024 .f32) bitsLt_bf16_f32 : Vec Ideal S8192x1024 .bf16) := by
  unfold V
  after_reads_simp

omit hV in
variable (m c) in
theorem v1_eq : V (F := Ideal) m c main_v1 = (truncf (F := Ideal) .bf16 (y1 m c : Vec Ideal S1024x1024 .f32) bitsLt_bf16_f32 : Vec Ideal S1024x1024 .bf16) := by
  unfold V
  after_reads_simp

omit hV in
variable (m c) in
theorem given : Given m c (fun r k => y0 m c (ix2 r k)) (fun j k => y1 m c (ix2 j k)) (parts (y2 m c) (y3 m c) (y4 m c) (y5 m c)) (fun r k => y6 m c (ix2 r k)) where
  a0 r k := congrFun (v0_eq m c) (ix2 r k)
  a1 j k := congrFun (v1_eq m c) (ix2 j k)
  a2 r k := (congrFun (V_main_arg2 m c) _).trans (nat_val (fun k => y2 m c (ix2 r k)) k)
  a3 r k := (congrFun (V_main_arg3 m c) _).trans (nat_val (fun k => y3 m c (ix2 r k)) k)
  a4 r k := (congrFun (V_main_arg4 m c) _).trans (nat_val (fun k => y4 m c (ix2 r k)) k)
  a5 r k := (congrFun (V_main_arg5 m c) _).trans (nat_val (fun k => y5 m c (ix2 r k)) k)
  a6 r k := congrFun (V_main_arg6 m c) (ix2 r k)

end Cert.Gate.Back

end
-- ==== Proof.Gate.BackEqual.lean ====
/- The gate's backward call returns what the reference returns, for real arguments and any gate. -/
module

public import proofs.«01_k».proof.Defs
public import proofs.«01_k».proof.Proof.Gate.BackArrays
public import proofs.«01_k».proof.Proof.Mla.Finite
public import proofs.«01_k».proof.Proof.Gen.GateBackReferenceIdeal.Read

@[expose] public section

set_option maxRecDepth 16384

noncomputable section

namespace Cert.Gate.Back

open Idealize.ShloMosaic Idealize.SL.Sem Idealize.ShloMosaic.TcCoe Cert.Proj Cert.GateBackReferenceIdeal Cert.GateBackReferenceIdeal.Read

/-- A real number. -/
def Re (a : EReal) : Prop := ∃ r : ℝ, a = (r : EReal)

theorem re_mul {a b : EReal} (ha : Re a) (hb : Re b) : Re (a * b) := by
  obtain ⟨x, rfl⟩ := ha
  obtain ⟨y, rfl⟩ := hb
  exact ⟨x * y, (EReal.coe_mul x y).symm⟩

theorem re_sum {K : ℕ} {a : Fin K → EReal} (h : ∀ k, Re (a k)) : Re (∑ k, a k) := by
  choose x hx using h
  exact ⟨∑ k, x k, (Finset.sum_congr rfl fun k _ => hx k).trans (Cert.Mla.coe_sum x)⟩

theorem re_nat {C : ℕ} {a : Fin C → EReal} (h : ∀ k, Re (a k)) (n : ℕ) : Re (nat a n) := by
  unfold nat
  by_cases hn : n < C
  · rw [dif_pos hn]
    exact h _
  · rw [dif_neg hn]
    exact ⟨0, rfl⟩

theorem re_mx {f : Fin 4 → ℕ → EReal} (h : ∀ o n, Re (f o n)) (n : ℕ) : Re (mx f n) := by
  unfold mx
  simp only [lad]
  split_ifs
  · exact h _ _
  · exact h _ _
  · exact h _ _
  · exact h _ _
  · exact ⟨0, rfl⟩

/-- The two ways to write the gradient of the gate: one product, and a sum of two. -/
theorem gate_two {p : EReal} (hp : Re p) (g : EReal) : p * (sg g * (1 + g * (1 - sg g))) = p * sg g + g * p * (sg g * (1 - sg g)) := by
  obtain ⟨p, rfl⟩ := hp
  induction g using EReal.rec with
  | bot =>
    have h : sg ⊥ = 0 := by
      have h1 : (1 : EReal) + ⊤ = ⊤ := by rw [← EReal.coe_one, EReal.coe_add_top]
      unfold sg
      rw [zero_sub, EReal.neg_bot, Ideal.exp_top, h1, Ideal.div, if_neg (by simp)]
      simp
    rw [h]
    simp
  | top =>
    have h : sg ⊤ = 1 := by
      unfold sg
      rw [zero_sub, EReal.neg_top, Ideal.exp_bot, Ideal.div, if_neg (by simp)]
      simp
    have h1 : (1 : EReal) - 1 = 0 := by
      rw [← EReal.coe_one, ← EReal.coe_sub, sub_self, EReal.coe_zero]
    rw [h, h1]
    simp
  | coe g =>
    have h : sg (g : EReal) = ((1 / (1 + Real.exp (0 - g)) : ℝ) : EReal) := by
      unfold sg
      have h0 : (0 : EReal) - (g : EReal) = ((0 - g : ℝ) : EReal) := by rw [EReal.coe_sub, EReal.coe_zero]
      have h1 : (1 : EReal) + ((Real.exp (0 - g) : ℝ) : EReal) = ((1 + Real.exp (0 - g) : ℝ) : EReal) := by rw [EReal.coe_add, EReal.coe_one]
      rw [h0, Ideal.exp_coe, h1, Ideal.div_coe (by positivity), one_mul]
    rw [h]
    generalize 1 / (1 + Real.exp (0 - g)) = s
    rw [← EReal.coe_one, ← EReal.coe_sub, ← EReal.coe_mul, ← EReal.coe_add, ← EReal.coe_mul, ← EReal.coe_mul, ← EReal.coe_mul, ← EReal.coe_mul, ← EReal.coe_mul, ← EReal.coe_mul, ← EReal.coe_add]
    exact congrArg _ (by ring)

variable (x0 : M 8192 1024) (x1 : M 1024 1024) (x2 x3 x4 x5 : M 8192 256) (x6 : M 8192 1024)

theorem w0_at (r : Fin 8192) (n : Fin 1024) : val_main_v0 (F := Ideal) x2 x3 x4 x5 (ix2 r n) = mx (parts x2 x3 x4 x5 r) n.val := by
  unfold val_main_v0
  exact cat_8192 (parts x2 x3 x4 x5 r) r x2 x3 x4 x5 (nat_val fun k => x2 (ix2 r k)) (nat_val fun k => x3 (ix2 r k)) (nat_val fun k => x4 (ix2 r k)) (nat_val fun k => x5 (ix2 r k)) _ n

theorem w1_at (r : Fin 8192) (n : Fin 1024) : val_main_v1_2 (F := Ideal) x6 (ix2 r n) = sg (x6 (ix2 r n)) := by
  rw [← sg_neg]
  pointwise [val_main_v1_2, val_main_call0_v4, val_main_call0_v3, val_main_call0_v2, val_main_call0_v1, val_main_call0_v0, val_main_call0_cst, val_main_call0_cst_0]

theorem one_at (r : Fin 8192) (n : Fin 1024) : val_main_call0_v6 (F := Ideal) (ix2 r n) = 1 := by
  pointwise [val_main_call0_v6, val_main_call0_cst_1]

theorem w4_at (r : Fin 8192) (j : Fin 1024) : val_main_v4 (F := Ideal) x0 x1 (ix2 r j) = ds (fun r k => x0 (ix2 r k)) (fun j k => x1 (ix2 j k)) r j := by
  rw [val_main_v4_apply]
  exact Finset.sum_congr rfl fun k _ => congrArg₂ (· * ·) (congrArg x0 (funext fun a => by fin_cases a <;> rfl)) (congrArg x1 (funext fun a => by fin_cases a <;> rfl))

theorem w6_at (r : Fin 8192) (j : Fin 1024) : val_main_v6 (F := Ideal) x0 x1 x6 (ix2 r j) = ds (fun r k => x0 (ix2 r k)) (fun j k => x1 (ix2 j k)) r j * (x6 (ix2 r j) * sg (x6 (ix2 r j))) :=
  congrArg₂ (· * ·) (w4_at x0 x1 r j) (congrArg (x6 (ix2 r j) * ·) (w1_at x6 r j))

theorem p0_eq : px (fun r k => x0 (ix2 r k)) (fun j k => x1 (ix2 j k)) (fun r k => x6 (ix2 r k)) 0 = val_main_v8 (F := Ideal) x0 x1 x6 := by
  funext y
  obtain ⟨r, n, rfl⟩ : ∃ (r : Fin 8192) (n : Fin 256), y = ix2 r n := ⟨y 0, y 1, eq_ix2 y⟩
  refine (w6_at x0 x1 x6 r (col 0 n)).symm.trans ?_
  rw [val_main_v8_apply]
  refine congrArg (val_main_v6 (F := Ideal) x0 x1 x6) (funext fun a => ?_)
  match a with
  | ⟨0, _⟩ => exact Fin.ext (show r.val = r.val by omega)
  | ⟨1, _⟩ => exact Fin.ext (show 256 * 0 + n.val = _ by first | rfl | exact Nat.add_comm _ _ | (show 256 * 0 + n.val = n.val; omega))

theorem p1_eq : px (fun r k => x0 (ix2 r k)) (fun j k => x1 (ix2 j k)) (fun r k => x6 (ix2 r k)) 1 = val_main_v9 (F := Ideal) x0 x1 x6 := by
  funext y
  obtain ⟨r, n, rfl⟩ : ∃ (r : Fin 8192) (n : Fin 256), y = ix2 r n := ⟨y 0, y 1, eq_ix2 y⟩
  refine (w6_at x0 x1 x6 r (col 1 n)).symm.trans ?_
  rw [val_main_v9_apply]
  refine congrArg (val_main_v6 (F := Ideal) x0 x1 x6) (funext fun a => ?_)
  match a with
  | ⟨0, _⟩ => exact Fin.ext (show r.val = r.val by omega)
  | ⟨1, _⟩ => exact Fin.ext (show 256 * 1 + n.val = _ by first | rfl | exact Nat.add_comm _ _ | (show 256 * 1 + n.val = n.val; omega))

theorem p2_eq : px (fun r k => x0 (ix2 r k)) (fun j k => x1 (ix2 j k)) (fun r k => x6 (ix2 r k)) 2 = val_main_v10 (F := Ideal) x0 x1 x6 := by
  funext y
  obtain ⟨r, n, rfl⟩ : ∃ (r : Fin 8192) (n : Fin 256), y = ix2 r n := ⟨y 0, y 1, eq_ix2 y⟩
  refine (w6_at x0 x1 x6 r (col 2 n)).symm.trans ?_
  rw [val_main_v10_apply]
  refine congrArg (val_main_v6 (F := Ideal) x0 x1 x6) (funext fun a => ?_)
  match a with
  | ⟨0, _⟩ => exact Fin.ext (show r.val = r.val by omega)
  | ⟨1, _⟩ => exact Fin.ext (show 256 * 2 + n.val = _ by first | rfl | exact Nat.add_comm _ _ | (show 256 * 2 + n.val = n.val; omega))

theorem p3_eq : px (fun r k => x0 (ix2 r k)) (fun j k => x1 (ix2 j k)) (fun r k => x6 (ix2 r k)) 3 = val_main_v11 (F := Ideal) x0 x1 x6 := by
  funext y
  obtain ⟨r, n, rfl⟩ : ∃ (r : Fin 8192) (n : Fin 256), y = ix2 r n := ⟨y 0, y 1, eq_ix2 y⟩
  refine (w6_at x0 x1 x6 r (col 3 n)).symm.trans ?_
  rw [val_main_v11_apply]
  refine congrArg (val_main_v6 (F := Ideal) x0 x1 x6) (funext fun a => ?_)
  match a with
  | ⟨0, _⟩ => exact Fin.ext (show r.val = r.val by omega)
  | ⟨1, _⟩ => exact Fin.ext (show 256 * 3 + n.val = _ by first | rfl | exact Nat.add_comm _ _ | (show 256 * 3 + n.val = n.val; omega))

theorem w7_at (r : Fin 8192) (j : Fin 1024) : val_main_v7 (F := Ideal) x0 x1 x2 x3 x4 x5 x6 (ix2 r j)
    = mx (parts x2 x3 x4 x5 r) j.val * ds (fun r k => x0 (ix2 r k)) (fun j k => x1 (ix2 j k)) r j * sg (x6 (ix2 r j))
      + x6 (ix2 r j) * (mx (parts x2 x3 x4 x5 r) j.val * ds (fun r k => x0 (ix2 r k)) (fun j k => x1 (ix2 j k)) r j) * (sg (x6 (ix2 r j)) * (1 - sg (x6 (ix2 r j)))) := by
  have h0 := w0_at x2 x3 x4 x5 r j
  have h1 := w1_at x6 r j
  have h4 := w4_at x0 x1 r j
  have h5 := one_at r j
  rw [← h0, ← h4, ← h1, ← h5]
  rfl

theorem pg_eq (h0 : ∀ i, Re (x0 i)) (h1 : ∀ i, Re (x1 i)) (h2 : ∀ i, Re (x2 i)) (h3 : ∀ i, Re (x3 i)) (h4 : ∀ i, Re (x4 i)) (h5 : ∀ i, Re (x5 i)) :
    pg (fun r k => x0 (ix2 r k)) (fun j k => x1 (ix2 j k)) (parts x2 x3 x4 x5) (fun r k => x6 (ix2 r k)) = val_main_v7 (F := Ideal) x0 x1 x2 x3 x4 x5 x6 := by
  funext y
  obtain ⟨r, j, rfl⟩ : ∃ (r : Fin 8192) (j : Fin 1024), y = ix2 r j := ⟨y 0, y 1, eq_ix2 y⟩
  rw [w7_at, mul_comm (mx (parts x2 x3 x4 x5 r) j.val)]
  refine gate_two (re_mul (re_sum fun k => re_mul (h0 _) (h1 _)) (re_mx (fun o n => ?_) _)) _
  match o with
  | 0 => exact re_nat (fun k => h2 _) n
  | 1 => exact re_nat (fun k => h3 _) n
  | 2 => exact re_nat (fun k => h4 _) n
  | 3 => exact re_nat (fun k => h5 _) n

theorem pre_facts : Cert.Pre_finite_gated.Facts := ⟨by decide, by decide, by decide⟩

theorem re_of_test (a : EReal) (h : FloatOps.cmpf (F := Ideal) (φ := .f32) .olt (FloatOps.hostAbsf (F := Ideal) (φ := .f32) a) (FloatOps.ofBits (F := Ideal) .f32 0x7F800000#32) = 1#1) : Re a := by
  obtain ⟨ht, hb⟩ := Cert.Mla.real_of_test a h
  exact ⟨a.toReal, (EReal.coe_toReal ht hb).symm⟩

open Cert.GateBackIdeal in
theorem re_args {m : (ℓ : Loc Cert.GateBackIdeal.nD Cert.GateBackIdeal.τ Cert.GateBackIdeal.sig) → Buf (Elt Ideal) ℓ} (h : Cert.Pre_GateBackIdeal_finite_gated (hPre_finite_gated := pre_facts) m) (c : Dev Cert.GateBackIdeal.nD) :
    (∀ i, Re (y0 m c i)) ∧ (∀ i, Re (y1 m c i)) ∧ (∀ i, Re (y2 m c i)) ∧ (∀ i, Re (y3 m c i)) ∧ (∀ i, Re (y4 m c i)) ∧ (∀ i, Re (y5 m c i)) := by
  obtain ⟨h0, h1, h2, h3, h4, h5⟩ := h c
  exact ⟨fun i => re_of_test _ (congrFun h0 i), fun i => re_of_test _ (congrFun h1 i), fun i => re_of_test _ (congrFun h2 i),
    fun i => re_of_test _ (congrFun h3 i), fun i => re_of_test _ (congrFun h4 i), fun i => re_of_test _ (congrFun h5 i)⟩

end Cert.Gate.Back

end
-- ==== Proof.Gate.DwPoint.lean ====
/- What one grid point of the output weight gradient's call leaves in its accumulator and stores. -/
module

public import proofs.«01_k».proof.Proof.Gen.GateDwIdeal.Value
public import Idealize.ShloMosaic.Lib.Pipeline.ValueKit
public import Idealize.ShloMosaic.Lib.VecWindow

@[expose] public section

set_option maxRecDepth 16384

noncomputable section

namespace Cert.Gate.Dw

open Idealize.ShloMosaic Idealize.SL.Sem Idealize.ShloMosaic.TcCoe
open Cert.GateDwIdeal Cert.GateDwIdeal.Gen

variable (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (x0 : Vec Ideal S1024x1024 .bf16) (x1 : Vec Ideal S1024x1024 .bf16) (xs0 : Vec Ideal S1024x1024 .f32)

theorem first_eq (hc0 : cond0_0 i) (hc1 : ¬cond0_1 i) (hc2 : ¬cond0_2 i) : sout0_A_0 (F := Ideal) c i arg3 harg3 arg4 harg4 arg5 harg5 arg6 harg6 hc0 hc1 hc2 x0 x1 = k0_pay2 x0 x1 := by
  unfold sout0_A_0 kernelRun0_A
  dsimp only
  rw [View.read_writes_full]
  repeat rw [View.readAt_full]
  repeat rw [Memref.IsWhole.read_unread]

theorem next_eq (hc0 : ¬cond0_0 i) (hc1 : cond0_1 i) (hc2 : ¬cond0_2 i) : sout0_B_0 (F := Ideal) c i arg3 harg3 arg4 harg4 arg5 harg5 arg6 harg6 hc0 hc1 hc2 x0 x1 xs0 = k0_pay3 x0 x1 xs0 := by
  unfold sout0_B_0 kernelRun0_B
  dsimp only
  rw [View.read_writes_full]
  repeat rw [View.readAt_full]
  repeat rw [Memref.IsWhole.read_unread]

theorem last_eq (hc0 : ¬cond0_0 i) (hc1 : cond0_1 i) (hc2 : cond0_2 i) : out0_C_2 (F := Ideal) c i arg3 harg3 arg4 harg4 arg5 harg5 arg6 harg6 hc0 hc1 hc2 x0 x1 xs0 = k0_pay3 x0 x1 xs0 := by
  unfold out0_C_2 kernelRun0_C
  dsimp only
  rw [View.read_writes_full]
  unfold kernelRun0_C.sl.v14 kernelRun0_C.sl.HS0_1
  rw [View.readCov_full]
  repeat rw [View.readAt_full]
  repeat rw [Memref.IsWhole.read_unread]

theorem pay2_apply (p : Fin 1024) (n : Fin 1024) : k0_pay2 x0 x1 (ix2 p n) = ∑ k : Fin 1024, x0 (ix2 p k) * x1 (ix2 k n) := by
  pointwise [k0_pay2, k0_pay1]

theorem pay3_apply (p : Fin 1024) (n : Fin 1024) : k0_pay3 x0 x1 xs0 (ix2 p n) = xs0 (ix2 p n) + ∑ k : Fin 1024, x0 (ix2 p k) * x1 (ix2 k n) := by
  pointwise [k0_pay3, k0_pay1]

end Cert.Gate.Dw

end
-- ==== Proof.Gate.DwArrays.lean ====
/- The array the output weight gradient's call returns, at an index. -/
module

public import proofs.«01_k».proof.Proof.Gate.DwPoint
public import proofs.«01_k».proof.Proof.Gate.Basic
public import Idealize.ShloMosaic.Lib.Claim

@[expose] public section

set_option maxRecDepth 16384

noncomputable section

namespace Cert.Gate.Dw

open Idealize.ShloMosaic Idealize.SL.Sem Idealize.ShloMosaic.TcCoe
open Cert.Proj Cert.GateDwIdeal Cert.GateDwIdeal.Gen

theorem idx0 : ∀ t : Fin cfg0.N, win0_0.index t = ![0, t.val % 8] :=
  (by decide +kernel : ∀ t : Fin grid0.N, win0_0.index t = ![0, t.val % 8])
theorem idx1 : ∀ t : Fin cfg0.N, win0_1.index t = ![t.val % 8, 0] :=
  (by decide +kernel : ∀ t : Fin grid0.N, win0_1.index t = ![t.val % 8, 0])
theorem idx2 : ∀ t : Fin cfg0.N, win0_2.index t = ![0, 0] :=
  (by decide +kernel : ∀ t : Fin grid0.N, win0_2.index t = ![0, 0])
theorem pts : cfg0.N = 8 := (by decide +kernel : grid0.N = 8)
theorem ends : ∀ t : Fin cfg0.N, (cfg0.win 2).flush t = true → t.val % 8 = 7 :=
  (by decide +kernel : ∀ t : Fin grid0.N, (cfg0.win 2).flush t = true → t.val % 8 = 7)

variable (m : (ℓ : Loc nD τ sig) → Buf (Elt Ideal) ℓ) (c : Dev nD) (x : M 8192 1024) (f : M 8192 1024)

/-- The arrays the call is given hold the gated rows' columns and the gradient's rows. -/
structure Given : Prop where
  a0 : ∀ (p : Fin 1024) (r : Fin 8192), (V m c main_v4 : Vec Ideal S1024x8192 .bf16) (ix2 p r) = x (ix2 r p)
  a1 : ∀ (r : Fin 8192) (n : Fin 1024), (V m c main_v5 : Vec Ideal S8192x1024 .bf16) (ix2 r n) = f (ix2 r n)

variable {m c x f}
variable (hV : Given m c x f)

/-- The row of the arrays at row `k` of point `t`'s blocks. -/
def row (t : Fin cfg0.N) (k : Fin 1024) : Fin 8192 := ⟨1024 * (t.val % 8) + k.val, by have := k.isLt; omega⟩

/-- One row's term of the product. -/
def term (x : M 8192 1024) (f : M 8192 1024) (p : Fin 1024) (n : Fin 1024) (r : Fin 8192) : EReal := x (ix2 r p) * f (ix2 r n)

include hV

theorem b0 (t : Fin cfg0.N) (p k : Fin 1024) : (iblk m c 0 t : Vec Ideal S1024x1024 .bf16) (ix2 p k) = x (ix2 (row t k) p) := by
  refine Eq.trans ?_ (hV.a0 p (row t k))
  unfold row
  blk_ext [iblk, idx0 t]

theorem b1 (t : Fin cfg0.N) (k : Fin 1024) (n : Fin 1024) : (iblk m c 1 t : Vec Ideal S1024x1024 .bf16) (ix2 k n) = f (ix2 (row t k) n) := by
  refine Eq.trans ?_ (hV.a1 (row t k) n)
  unfold row
  blk_ext [iblk, idx1 t]

omit hV in
theorem emb2 (t : Fin cfg0.N) (p : Fin 1024) (n : Fin 1024) :
    ((win0_2.blk t).view.emb (ix2 p n : S1024x1024.Idx) : S1024x1024.Idx) = ix2 p n := by
  blk_ext [idx2 t]

omit hV in
theorem step (g : Fin 8192 → EReal) (t : Fin cfg0.N) (s : EReal) (hs : s = ∑ r ∈ Finset.range (1024 * (t.val % 8)), nat g r) :
    s + ∑ k : Fin 1024, g (row t k) = ∑ r ∈ Finset.range (1024 * (t.val % 8 + 1)), nat g r := by
  rw [Nat.mul_add, Nat.mul_one, Finset.sum_range_add, hs, Finset.sum_range (fun k => nat g (1024 * (t.val % 8) + k))]
  exact congrArg _ (Finset.sum_congr rfl fun k _ => nat_val g (row t k))

theorem block (t : Fin cfg0.N) (p : Fin 1024) (n : Fin 1024) (y0 : Vec Ideal S1024x1024 .bf16) (y1 : Vec Ideal S1024x1024 .bf16)
    (e0 : y0 = iblk m c 0 t) (e1 : y1 = iblk m c 1 t) :
    ∑ k : Fin 1024, y0 (ix2 p k) * y1 (ix2 k n) = ∑ k : Fin 1024, term x f p n (row t k) := by
  subst e0 e1
  exact Finset.sum_congr rfl fun k _ => congrArg₂ (· * ·) (b0 hV t p k) (b1 hV t k n)

theorem acc (k : ℕ) : ∀ (t : Fin cfg0.N), t.val % 8 = k → k < 7 → ∀ (p : Fin 1024) (n : Fin 1024),
    (outsAt0 m c t.val t.isLt).2 (ix2 p n) = ∑ r ∈ Finset.range (1024 * (k + 1)), nat (term x f p n) r := by
  induction k with
  | zero =>
    intro t hk h7 p n
    have hN : t.val < 8 := pts ▸ t.isLt
    have hb := fun y0 y1 => block hV t p n y0 y1
    have hs := step (term x f p n) t 0 (by rw [hk]; rfl)
    rw [outsAt0_A m c t hk (by omega) (by omega)]
    dsimp only
    generalize iblk m c 0 t = y0 at hb ⊢
    generalize iblk m c 1 t = y1 at hb ⊢
    generalize ms0_0 t = m0, hs0_0 t = g0, ms0_1 t = m1, hs0_1 t = g1, ms0_2 t = m2, hs0_2 t = g2
    rw [first_eq, pay2_apply, hb _ _ rfl rfl, ← zero_add (∑ k : Fin 1024, _), hs, hk]
  | succ k ih =>
    intro t hk h7 p n
    have hN : t.val < 8 := pts ▸ t.isLt
    have hb := fun y0 y1 => block hV t p n y0 y1
    have hp := ih ⟨t.val - 1, by omega⟩ (by dsimp only; omega) (by omega) p n
    have hs := step (term x f p n) t _ (hp.trans (by rw [hk]))
    rw [outsAt0_B m c t (by omega) (by omega) (by omega)]
    dsimp only at hs ⊢
    generalize (outsAt0 m c (t.val - 1) (Nat.lt_of_le_of_lt (Nat.sub_le _ _) t.isLt)).2 = s at hs ⊢
    generalize iblk m c 0 t = y0 at hb ⊢
    generalize iblk m c 1 t = y1 at hb ⊢
    generalize ms0_0 t = m0, hs0_0 t = g0, ms0_1 t = m1, hs0_1 t = g1, ms0_2 t = m2, hs0_2 t = g2
    rw [next_eq, pay3_apply, hb _ _ rfl rfl, hs, hk]

theorem out_at (t : Fin cfg0.N) (hk : t.val % 8 = 7) (p : Fin 1024) (n : Fin 1024) :
    (outsAt0 m c t.val t.isLt).1 (ix2 p n) = ∑ r : Fin 8192, term x f p n r := by
  have hN : t.val < 8 := pts ▸ t.isLt
  have hb := fun y0 y1 => block hV t p n y0 y1
  have hp := acc hV 6 ⟨t.val - 1, by omega⟩ (by dsimp only; omega) (by omega) p n
  have hs := step (term x f p n) t _ (hp.trans (by rw [hk]))
  rw [outsAt0_C m c t (by omega) (by omega) hk]
  dsimp only at hs ⊢
  generalize (outsAt0 m c (t.val - 1) (Nat.lt_of_le_of_lt (Nat.sub_le _ _) t.isLt)).2 = s at hs ⊢
  generalize iblk m c 0 t = y0 at hb ⊢
  generalize iblk m c 1 t = y1 at hb ⊢
  generalize ms0_0 t = m0, hs0_0 t = g0, ms0_1 t = m1, hs0_1 t = g1, ms0_2 t = m2, hs0_2 t = g2
  rw [last_eq, pay3_apply, hb _ _ rfl rfl, hs, hk]
  exact (Finset.sum_range _).trans (Finset.sum_congr rfl fun r _ => (nat_val _ r).symm)

omit hV in
variable (x f) in
/-- The weight's gradient. -/
def gw : Vec Ideal S1024x1024 .f32 := fun y => ∑ r : Fin 8192, x (ix2 r (y 0)) * f (ix2 r (y 1))

theorem arr2 : (dats m 0 c).arrAt 2 cfg0.N = gw x f := by
  refine (dats m 0 c).arrAt_eq_of_covers 2 _ (by decide +kernel) fun t hf y => ?_
  have hk := ends t hf
  blk_simp
  rw [after0_2]
  revert y
  suffices h : ∀ y : S1024x1024.Idx, (outsAt0 m c t.val t.isLt).1 y = gw x f ((win0_2.blk t).view.emb y) from h
  intro y
  obtain ⟨p, n, rfl⟩ : ∃ p n, y = ix2 p n := ⟨y 0, y 1, eq_ix2 y⟩
  rw [emb2 t p n]
  exact out_at hV t hk p n

end Cert.Gate.Dw

end
-- ==== Proof.Gate.DwHost.lean ====
/- The output weight gradient's operands, from the arguments. -/
module

public import proofs.«01_k».proof.Proof.Gate.DwArrays
public import Idealize.ShloMosaic.Lib.StableHlo.ReadAt

@[expose] public section

set_option maxRecDepth 16384

noncomputable section

namespace Cert.Gate.Dw

open Idealize.ShloMosaic Idealize.SL.Sem Idealize.ShloMosaic.TcCoe Cert.Proj
open Cert.GateDwIdeal Cert.GateDwIdeal.Gen

variable (m : (ℓ : Loc nD τ sig) → Buf (Elt Ideal) ℓ) (c : Dev nD)

/-- The output's gradient, the parts and the gate. -/
abbrev y0 : M 8192 1024 := m ((c : Thread nD τ).loc main_arg0)
abbrev y1 : M 8192 256 := m ((c : Thread nD τ).loc main_arg1)
abbrev y2 : M 8192 256 := m ((c : Thread nD τ).loc main_arg2)
abbrev y3 : M 8192 256 := m ((c : Thread nD τ).loc main_arg3)
abbrev y4 : M 8192 256 := m ((c : Thread nD τ).loc main_arg4)
abbrev y5 : M 8192 1024 := m ((c : Thread nD τ).loc main_arg5)

/-- The parts side by side. -/
def side {F : FTy → Type} [FloatOps F] (x1 x2 x3 x4 : Vec F S8192x256 .f32) : Vec F S8192x1024 .f32 :=
  concatenate S8192x1024 1 [⟨S8192x256, x1⟩, ⟨S8192x256, x2⟩, ⟨S8192x256, x3⟩, ⟨S8192x256, x4⟩] concatenates_S8192x256_S8192x256_S8192x256_S8192x256_S8192x1024_d1

/-- The gate's factor. -/
def act {F : FTy → Type} [FloatOps F] (g : Vec F S8192x1024 .f32) : Vec F S8192x1024 .f32 :=
  mulf g (Host.divf (broadcastInDim S8192x1024 ![] bcast_S_S8192x1024 (constant (F := F) S_ .f32 0x3F800000#32)) (addf (broadcastInDim S8192x1024 ![] bcast_S_S8192x1024 (constant (F := F) S_ .f32 0x3F800000#32)) (Host.exp (Host.negf g))))

theorem pc {α : Type} {s : Shape} {x y : s.Idx → α} {l l' : List ((s : Shape) × (s.Idx → α))} (h : x = y) (e : l = l') :
    ((⟨s, x⟩ : (s : Shape) × (s.Idx → α)) :: l) = ⟨s, y⟩ :: l' := by
  subst h; subst e; rfl

theorem v0_eq : V (F := Ideal) m c main_v0 = side (F := Ideal) (y1 m c) (y2 m c) (y3 m c) (y4 m c) := by
  unfold V
  after_reads_simp
  unfold side
  refine StableHlo.concatenate_congr _ _ (pc ?_ (pc ?_ (pc ?_ (pc ?_ rfl)))) _ _
  · show StableHlo.upto (List.flatten [hostOps0, hostOps0_1, hostOps0_2]) (fun b => m (c, b)) 0 (Proc.devRef .tc main_arg1) = _
    after_reads_simp
  · show StableHlo.upto (List.flatten [hostOps0, hostOps0_1, hostOps0_2]) (fun b => m (c, b)) 0 (Proc.devRef .tc main_arg2) = _
    after_reads_simp
  · show StableHlo.upto (List.flatten [hostOps0, hostOps0_1, hostOps0_2]) (fun b => m (c, b)) 0 (Proc.devRef .tc main_arg3) = _
    after_reads_simp
  · show StableHlo.upto (List.flatten [hostOps0, hostOps0_1, hostOps0_2]) (fun b => m (c, b)) 0 (Proc.devRef .tc main_arg4) = _
    after_reads_simp

theorem v1_eq : V (F := Ideal) m c main_v1 = act (F := Ideal) (y5 m c) := by
  unfold V
  after_reads_simp
  rfl

theorem v4_eq : V (F := Ideal) m c main_v4 = (truncf (F := Ideal) .bf16 (transpose S1024x8192 [1, 0] (mulf (F := Ideal) (φ := .f32) (side (F := Ideal) (y1 m c) (y2 m c) (y3 m c) (y4 m c)) (act (F := Ideal) (y5 m c))) transposes_S8192x1024_S1024x8192_1_0 : Vec Ideal S1024x8192 .f32) bitsLt_bf16_f32 : Vec Ideal S1024x8192 .bf16) := by
  have h0 := v0_eq m c
  have h1 := v1_eq m c
  unfold V at h0 h1 ⊢
  rw [← h0, ← h1]
  after_reads_simp

theorem v5_eq : V (F := Ideal) m c main_v5 = (truncf (F := Ideal) .bf16 (y0 m c : Vec Ideal S8192x1024 .f32) bitsLt_bf16_f32 : Vec Ideal S8192x1024 .bf16) := by
  unfold V
  after_reads_simp

/-- The gated parts. -/
def gated (x1 x2 x3 x4 : M 8192 256) (g : M 8192 1024) : M 8192 1024 := fun y => mx (parts x1 x2 x3 x4 (y 0)) (y 1).val * (g y * sg (g y))

theorem side_at (x1 x2 x3 x4 : Vec Ideal S8192x256 .f32) (r : Fin 8192) (n : Fin 1024) : side (F := Ideal) x1 x2 x3 x4 (ix2 r n) = mx (parts x1 x2 x3 x4 r) n.val := by
  unfold side
  exact cat_8192 (parts x1 x2 x3 x4 r) r x1 x2 x3 x4 (nat_val fun k => x1 (ix2 r k)) (nat_val fun k => x2 (ix2 r k)) (nat_val fun k => x3 (ix2 r k)) (nat_val fun k => x4 (ix2 r k)) _ n

theorem act_at (g : Vec Ideal S8192x1024 .f32) (r : Fin 8192) (n : Fin 1024) : act (F := Ideal) g (ix2 r n) = g (ix2 r n) * sg (g (ix2 r n)) := by
  rw [← sg_neg]
  pointwise [act]

theorem given : Given m c (gated (y1 m c) (y2 m c) (y3 m c) (y4 m c) (y5 m c)) (y0 m c) where
  a0 p r := by
    rw [v4_eq]
    refine Eq.trans ?_ (congrArg₂ (· * ·) (side_at (y1 m c) (y2 m c) (y3 m c) (y4 m c) r p) (act_at (y5 m c) r p))
    generalize side (F := Ideal) (y1 m c) (y2 m c) (y3 m c) (y4 m c) = a
    generalize act (F := Ideal) (y5 m c) = b
    pointwise
  a1 r n := congrFun (v5_eq m c) (ix2 r n)

end Cert.Gate.Dw

end
-- ==== Proof.Gate.DwEqual.lean ====
/- The output weight gradient's call returns what the reference returns. -/
module

public import proofs.«01_k».proof.Defs
public import proofs.«01_k».proof.Proof.Gate.DwHost
public import proofs.«01_k».proof.Proof.Gen.GateDwReferenceIdeal.Read

@[expose] public section

set_option maxRecDepth 16384

noncomputable section

namespace Cert.Gate.Dw

open Idealize.ShloMosaic Cert.Proj Cert.GateDwReferenceIdeal Cert.GateDwReferenceIdeal.Read

variable (x0 : M 8192 1024) (x1 x2 x3 x4 : M 8192 256) (x5 : M 8192 1024)

theorem w1_at (r : Fin 8192) (n : Fin 1024) : val_main_v1 (F := Ideal) x1 x2 x3 x4 (ix2 r n) = mx (parts x1 x2 x3 x4 r) n.val := by
  unfold val_main_v1
  exact cat_8192 (parts x1 x2 x3 x4 r) r x1 x2 x3 x4 (nat_val fun k => x1 (ix2 r k)) (nat_val fun k => x2 (ix2 r k)) (nat_val fun k => x3 (ix2 r k)) (nat_val fun k => x4 (ix2 r k)) _ n

theorem w2_at (r : Fin 8192) (n : Fin 1024) : val_main_v2 (F := Ideal) x5 (ix2 r n) = x5 (ix2 r n) * sg (x5 (ix2 r n)) := by
  rw [← sg_neg]
  pointwise [val_main_v2, val_main_call0_v5, val_main_call0_v4, val_main_call0_v3, val_main_call0_v2, val_main_call0_v1, val_main_call0_v0, val_main_call0_cst, val_main_call0_cst_0]

theorem w3_at (r : Fin 8192) (n : Fin 1024) : val_main_v3 (F := Ideal) x1 x2 x3 x4 x5 (ix2 r n) = gated x1 x2 x3 x4 x5 (ix2 r n) :=
  congrArg₂ (· * ·) (w1_at x1 x2 x3 x4 r n) (w2_at x5 r n)

theorem gw_eq : gw (gated x1 x2 x3 x4 x5) x0 = val_main_v6 (F := Ideal) x0 x1 x2 x3 x4 x5 := by
  funext y
  obtain ⟨p, n, rfl⟩ : ∃ (p : Fin 1024) (n : Fin 1024), y = ix2 p n := ⟨y 0, y 1, eq_ix2 y⟩
  rw [val_main_v6_apply, val_main_v5_apply]
  refine Finset.sum_congr rfl fun r _ => (mul_comm _ _).trans (congrArg₂ (· * ·) (congrArg x0 (funext fun a => by fin_cases a <;> rfl)) ?_)
  exact (w3_at x1 x2 x3 x4 x5 r p).symm.trans (congrArg _ (funext fun a => by fin_cases a <;> rfl))

end Cert.Gate.Dw

end
-- ==== Proof.Adam.Basic.lean ====
/- One step of the optimiser on one number, and the sum of the devices' gradients. -/
module

public import proofs.«01_k».proof.Proof.Proj.Cat
public import Idealize.ShloMosaic.Lib.Claim
public import Idealize.ShloMosaic.Lib.VecWindow

@[expose] public section

set_option maxRecDepth 16384

noncomputable section

namespace Cert.AdamStep

open Idealize.ShloMosaic Idealize.SL.Sem

/-- A constant of the step. -/
abbrev cs (b : BitVec 32) : EReal := FloatOps.ofBits (F := Ideal) .f32 b

/-- The new first moment. -/
def nm (g m : EReal) : EReal := cs 0x3F666666#32 * m + cs 0x3DCCCCCD#32 * g

/-- The new second moment. -/
def nv (g v : EReal) : EReal := cs 0x3F7FBE77#32 * v + cs 0x3A83126F#32 * (g * g)

/-- The weight's change. -/
def dl (g w m v : EReal) : EReal :=
  cs 0xBA83126F#32 * (Ideal.div (Ideal.div (nm g m) (cs 0x3F26BD02#32)) (Ideal.sqrt (Ideal.div (nv g v) (cs 0x3C231ACC#32)) + cs 0x322BCC77#32) + cs 0x3C23D70A#32 * w)

theorem sum8 (f : Fin 8 → EReal) : f 0 + f 1 + f 2 + f 3 + f 4 + f 5 + f 6 + f 7 = ∑ k : Fin 8, f k :=
  (Fin.sum_univ_eight f).symm

end Cert.AdamStep

end
-- ==== Proof.Adam.Out.lean ====
/- The optimiser's step on the result's weight: what the call returns is what the reference returns. -/
module

public import proofs.«01_k».proof.Proof.Gen.AdamIdeal.Value
public import proofs.«01_k».proof.Proof.Gen.AdamReferenceIdeal.Read
public import proofs.«01_k».proof.Proof.Adam.Basic
public import Idealize.ShloMosaic.Lib.Pipeline.ValueKit
public import Idealize.ShloMosaic.Lib.StableHlo.ReadAt

@[expose] public section

set_option maxRecDepth 16384

noncomputable section

namespace Cert.AdamStep.Out

open Idealize.ShloMosaic Idealize.SL.Sem Idealize.ShloMosaic.TcCoe Cert.Proj
open Cert.AdamIdeal Cert.AdamIdeal.Gen

theorem zz : (![0, 0] : Fin 2 → ℕ) = fun _ => 0 := by
  funext a
  match a with
  | ⟨0, _⟩ => rfl
  | ⟨1, _⟩ => rfl

section
variable (x0 : Vec Ideal S8x64x1024 .bf16) (x1 x2 x3 : Vec Ideal S64x1024 .f32)

theorem ld0 (q : Fin 64) (j : Fin 1024) : View.ld x0 r0_0 (ix3 (0 : Fin 1) q j) = x0 (ix3 (0 : Fin 8) q j) :=
  View.ld_unit_apply_of _ _ _ _ _ _ fun a => match a with
    | ⟨0, _⟩ => rfl
    | ⟨1, _⟩ => (Nat.zero_add _).symm
    | ⟨2, _⟩ => (Nat.zero_add _).symm

theorem ld1 (q : Fin 64) (j : Fin 1024) : View.ld x0 r0_1 (ix3 (0 : Fin 1) q j) = x0 (ix3 (1 : Fin 8) q j) :=
  View.ld_unit_apply_of _ _ _ _ _ _ fun a => match a with
    | ⟨0, _⟩ => rfl
    | ⟨1, _⟩ => (Nat.zero_add _).symm
    | ⟨2, _⟩ => (Nat.zero_add _).symm

theorem ld2 (q : Fin 64) (j : Fin 1024) : View.ld x0 r0_2 (ix3 (0 : Fin 1) q j) = x0 (ix3 (2 : Fin 8) q j) :=
  View.ld_unit_apply_of _ _ _ _ _ _ fun a => match a with
    | ⟨0, _⟩ => rfl
    | ⟨1, _⟩ => (Nat.zero_add _).symm
    | ⟨2, _⟩ => (Nat.zero_add _).symm

theorem ld3 (q : Fin 64) (j : Fin 1024) : View.ld x0 r0_3 (ix3 (0 : Fin 1) q j) = x0 (ix3 (3 : Fin 8) q j) :=
  View.ld_unit_apply_of _ _ _ _ _ _ fun a => match a with
    | ⟨0, _⟩ => rfl
    | ⟨1, _⟩ => (Nat.zero_add _).symm
    | ⟨2, _⟩ => (Nat.zero_add _).symm

theorem ld4 (q : Fin 64) (j : Fin 1024) : View.ld x0 r0_4 (ix3 (0 : Fin 1) q j) = x0 (ix3 (4 : Fin 8) q j) :=
  View.ld_unit_apply_of _ _ _ _ _ _ fun a => match a with
    | ⟨0, _⟩ => rfl
    | ⟨1, _⟩ => (Nat.zero_add _).symm
    | ⟨2, _⟩ => (Nat.zero_add _).symm

theorem ld5 (q : Fin 64) (j : Fin 1024) : View.ld x0 r0_5 (ix3 (0 : Fin 1) q j) = x0 (ix3 (5 : Fin 8) q j) :=
  View.ld_unit_apply_of _ _ _ _ _ _ fun a => match a with
    | ⟨0, _⟩ => rfl
    | ⟨1, _⟩ => (Nat.zero_add _).symm
    | ⟨2, _⟩ => (Nat.zero_add _).symm

theorem ld6 (q : Fin 64) (j : Fin 1024) : View.ld x0 r0_6 (ix3 (0 : Fin 1) q j) = x0 (ix3 (6 : Fin 8) q j) :=
  View.ld_unit_apply_of _ _ _ _ _ _ fun a => match a with
    | ⟨0, _⟩ => rfl
    | ⟨1, _⟩ => (Nat.zero_add _).symm
    | ⟨2, _⟩ => (Nat.zero_add _).symm

theorem ld7 (q : Fin 64) (j : Fin 1024) : View.ld x0 r0_7 (ix3 (0 : Fin 1) q j) = x0 (ix3 (7 : Fin 8) q j) :=
  View.ld_unit_apply_of _ _ _ _ _ _ fun a => match a with
    | ⟨0, _⟩ => rfl
    | ⟨1, _⟩ => (Nat.zero_add _).symm
    | ⟨2, _⟩ => (Nat.zero_add _).symm

theorem pay4_at (a0 a1 a2 a3 a4 a5 a6 a7 : Vec Ideal S1x64x1024 .bf16) (q : Fin 64) (j : Fin 1024) :
    k0_pay4 a0 a1 a2 a3 a4 a5 a6 a7 (ix2 q j) = a0 (ix3 (0 : Fin 1) q j) + a1 (ix3 (0 : Fin 1) q j) + a2 (ix3 (0 : Fin 1) q j) + a3 (ix3 (0 : Fin 1) q j) + a4 (ix3 (0 : Fin 1) q j) + a5 (ix3 (0 : Fin 1) q j) + a6 (ix3 (0 : Fin 1) q j) + a7 (ix3 (0 : Fin 1) q j) := by
  pointwise [k0_pay4]

theorem pay5_at (q : Fin 64) (j : Fin 1024) : k0_pay5 x0 x1 x2 x3 (ix2 q j) = ∑ k : Fin 8, x0 (ix3 k q j) := by
  unfold k0_pay5
  rw [pay4_at, ld0, ld1, ld2, ld3, ld4, ld5, ld6, ld7]
  exact sum8 fun k => x0 (ix3 k q j)

theorem out4_eq : out0_4 x0 x1 x2 x3 = k0_pay5 x0 x1 x2 x3 := by
  unfold out0_4
  rw [View.canon_unit_zero zz]

theorem out5_at (y : S64x1024.Idx) : out0_5 x0 x1 x2 x3 y = dl (k0_pay5 x0 x1 x2 x3 y) (x1 y) (x2 y) (x3 y) := by
  unfold out0_5
  rw [View.canon_unit_zero zz]
  repeat rw [View.ld_unit_zero zz]
  generalize k0_pay5 x0 x1 x2 x3 = a
  rfl

theorem out6_at (y : S64x1024.Idx) : out0_6 x0 x1 x2 x3 y = nm (k0_pay5 x0 x1 x2 x3 y) (x2 y) := by
  unfold out0_6
  rw [View.canon_unit_zero zz]
  repeat rw [View.ld_unit_zero zz]
  generalize k0_pay5 x0 x1 x2 x3 = a
  rfl

theorem out7_at (y : S64x1024.Idx) : out0_7 x0 x1 x2 x3 y = nv (k0_pay5 x0 x1 x2 x3 y) (x3 y) := by
  unfold out0_7
  rw [View.canon_unit_zero zz]
  repeat rw [View.ld_unit_zero zz]
  generalize k0_pay5 x0 x1 x2 x3 = a
  rfl

end

theorem idx0 : ∀ t : Fin cfg0.N, win0_0.index t = ![0, t.val, 0] :=
  (by decide +kernel : ∀ t : Fin grid0.N, win0_0.index t = ![0, t.val, 0])
theorem idx1 : ∀ t : Fin cfg0.N, win0_1.index t = ![t.val, 0] :=
  (by decide +kernel : ∀ t : Fin grid0.N, win0_1.index t = ![t.val, 0])
theorem idx2 : ∀ t : Fin cfg0.N, win0_2.index t = ![t.val, 0] :=
  (by decide +kernel : ∀ t : Fin grid0.N, win0_2.index t = ![t.val, 0])
theorem idx3 : ∀ t : Fin cfg0.N, win0_3.index t = ![t.val, 0] :=
  (by decide +kernel : ∀ t : Fin grid0.N, win0_3.index t = ![t.val, 0])
theorem idx4 : ∀ t : Fin cfg0.N, win0_4.index t = ![t.val, 0] :=
  (by decide +kernel : ∀ t : Fin grid0.N, win0_4.index t = ![t.val, 0])
theorem idx5 : ∀ t : Fin cfg0.N, win0_5.index t = ![t.val, 0] :=
  (by decide +kernel : ∀ t : Fin grid0.N, win0_5.index t = ![t.val, 0])
theorem idx6 : ∀ t : Fin cfg0.N, win0_6.index t = ![t.val, 0] :=
  (by decide +kernel : ∀ t : Fin grid0.N, win0_6.index t = ![t.val, 0])
theorem idx7 : ∀ t : Fin cfg0.N, win0_7.index t = ![t.val, 0] :=
  (by decide +kernel : ∀ t : Fin grid0.N, win0_7.index t = ![t.val, 0])
theorem pts : cfg0.N = 4 := (by decide +kernel : grid0.N = 4)

/-- A row of the whole from a block's. -/
abbrev at' (t : Fin cfg0.N) (q : Fin 64) : Fin 256 := ⟨64 * t.val + q.val, by have : t.val < 4 := pts ▸ t.isLt; omega⟩

section
variable (y0 : Vec Ideal S8x256x1024 .bf16) (y1 y2 y3 : Vec Ideal S256x1024 .f32)

theorem g_at (r : Fin 256) (j : Fin 1024) : Cert.AdamReferenceIdeal.Read.val_main_v1 (F := Ideal) y0 (ix2 r j) = ∑ k : Fin 8, y0 (ix3 k r j) := by
  rw [Cert.AdamReferenceIdeal.Read.val_main_v1_apply]
  have hz : Cert.AdamReferenceIdeal.Read.val_main_cst (F := Ideal) (Shape.Idx.first Cert.AdamReferenceIdeal.Facts₀.h_S_) = 0 := by
    pointwise [Cert.AdamReferenceIdeal.Read.val_main_cst]
  refine (congrArg₂ (· + ·) hz (Finset.sum_congr rfl fun k _ => ?_)).trans (zero_add _)
  exact congrArg y0 (funext fun a => by fin_cases a <;> rfl)

theorem d_at (i : S256x1024.Idx) : Cert.AdamReferenceIdeal.Read.val_main_v25 (F := Ideal) y0 y1 y2 y3 i = dl (Cert.AdamReferenceIdeal.Read.val_main_v1 (F := Ideal) y0 i) (y1 i) (y2 i) (y3 i) := rfl

theorem m_at (i : S256x1024.Idx) : Cert.AdamReferenceIdeal.Read.val_main_v6 (F := Ideal) y0 y2 i = nm (Cert.AdamReferenceIdeal.Read.val_main_v1 (F := Ideal) y0 i) (y2 i) := rfl

theorem v_at (i : S256x1024.Idx) : Cert.AdamReferenceIdeal.Read.val_main_v12 (F := Ideal) y0 y3 i = nv (Cert.AdamReferenceIdeal.Read.val_main_v1 (F := Ideal) y0 i) (y3 i) := rfl

end

variable (m : (ℓ : Loc nD τ sig) → Buf (Elt Ideal) ℓ) (c : Dev nD)

abbrev y0 : Vec Ideal S8x256x1024 .bf16 := m ((c : Thread nD τ).loc main_arg0)

abbrev y1 : Vec Ideal S256x1024 .f32 := m ((c : Thread nD τ).loc main_arg1)

abbrev y2 : Vec Ideal S256x1024 .f32 := m ((c : Thread nD τ).loc main_arg2)

abbrev y3 : Vec Ideal S256x1024 .f32 := m ((c : Thread nD τ).loc main_arg3)

theorem b0 (t : Fin cfg0.N) (k : Fin 8) (q : Fin 64) (j : Fin 1024) : (iblk m c 0 t : Vec Ideal S8x64x1024 .bf16) (ix3 k q j) = y0 m c (ix3 k (at' t q) j) := by
  refine Eq.trans ?_ (congrFun (V_main_arg0 m c) (ix3 k (at' t q) j))
  blk_ext [iblk, idx0 t]

theorem b1 (t : Fin cfg0.N) (q : Fin 64) (j : Fin 1024) : (iblk m c 1 t : Vec Ideal S64x1024 .f32) (ix2 q j) = y1 m c (ix2 (at' t q) j) := by
  refine Eq.trans ?_ (congrFun (V_main_arg1 m c) (ix2 (at' t q) j))
  blk_ext [iblk, idx1 t]

theorem b2 (t : Fin cfg0.N) (q : Fin 64) (j : Fin 1024) : (iblk m c 2 t : Vec Ideal S64x1024 .f32) (ix2 q j) = y2 m c (ix2 (at' t q) j) := by
  refine Eq.trans ?_ (congrFun (V_main_arg2 m c) (ix2 (at' t q) j))
  blk_ext [iblk, idx2 t]

theorem b3 (t : Fin cfg0.N) (q : Fin 64) (j : Fin 1024) : (iblk m c 3 t : Vec Ideal S64x1024 .f32) (ix2 q j) = y3 m c (ix2 (at' t q) j) := by
  refine Eq.trans ?_ (congrFun (V_main_arg3 m c) (ix2 (at' t q) j))
  blk_ext [iblk, idx3 t]

theorem emb4 (t : Fin cfg0.N) (q : Fin 64) (j : Fin 1024) :
    ((win0_4.blk t).view.emb (ix2 q j : S64x1024.Idx) : S256x1024.Idx) = ix2 (at' t q) j := by
  blk_ext [idx4 t]

theorem emb5 (t : Fin cfg0.N) (q : Fin 64) (j : Fin 1024) :
    ((win0_5.blk t).view.emb (ix2 q j : S64x1024.Idx) : S256x1024.Idx) = ix2 (at' t q) j := by
  blk_ext [idx5 t]

theorem emb6 (t : Fin cfg0.N) (q : Fin 64) (j : Fin 1024) :
    ((win0_6.blk t).view.emb (ix2 q j : S64x1024.Idx) : S256x1024.Idx) = ix2 (at' t q) j := by
  blk_ext [idx6 t]

theorem emb7 (t : Fin cfg0.N) (q : Fin 64) (j : Fin 1024) :
    ((win0_7.blk t).view.emb (ix2 q j : S64x1024.Idx) : S256x1024.Idx) = ix2 (at' t q) j := by
  blk_ext [idx7 t]

theorem g_blk (t : Fin cfg0.N) (q : Fin 64) (j : Fin 1024) :
    k0_pay5 (iblk m c 0 t) (iblk m c 1 t) (iblk m c 2 t) (iblk m c 3 t) (ix2 q j) = Cert.AdamReferenceIdeal.Read.val_main_v1 (F := Ideal) (y0 m c) (ix2 (at' t q) j) := by
  refine (pay5_at _ _ _ _ q j).trans (Eq.trans ?_ (g_at (y0 m c) (at' t q) j).symm)
  exact Finset.sum_congr rfl fun k _ => b0 m c t k q j

theorem arr4 : (dats m 0 c).arrAt 4 cfg0.N = Cert.AdamReferenceIdeal.Read.val_main_v1 (F := Ideal) (y0 m c) := by
  refine (dats m 0 c).arrAt_eq_of_covers 4 _ (by decide +kernel) fun t hf y => ?_
  blk_simp
  rw [after0_4]
  revert y
  suffices h : ∀ y : S64x1024.Idx, (out0_4 (iblk m c 0 t) (iblk m c 1 t) (iblk m c 2 t) (iblk m c 3 t)) y = Cert.AdamReferenceIdeal.Read.val_main_v1 (F := Ideal) (y0 m c) ((win0_4.blk t).view.emb y) from h
  intro y
  obtain ⟨q, j, rfl⟩ : ∃ (q : Fin 64) (j : Fin 1024), y = ix2 q j := ⟨y 0, y 1, eq_ix2 y⟩
  rw [emb4 t q j, out4_eq]
  exact g_blk m c t q j

theorem arr5 : (dats m 0 c).arrAt 5 cfg0.N = Cert.AdamReferenceIdeal.Read.val_main_v25 (F := Ideal) (y0 m c) (y1 m c) (y2 m c) (y3 m c) := by
  refine (dats m 0 c).arrAt_eq_of_covers 5 _ (by decide +kernel) fun t hf y => ?_
  blk_simp
  rw [after0_5]
  revert y
  suffices h : ∀ y : S64x1024.Idx, (out0_5 (iblk m c 0 t) (iblk m c 1 t) (iblk m c 2 t) (iblk m c 3 t)) y = Cert.AdamReferenceIdeal.Read.val_main_v25 (F := Ideal) (y0 m c) (y1 m c) (y2 m c) (y3 m c) ((win0_5.blk t).view.emb y) from h
  intro y
  obtain ⟨q, j, rfl⟩ : ∃ (q : Fin 64) (j : Fin 1024), y = ix2 q j := ⟨y 0, y 1, eq_ix2 y⟩
  rw [emb5 t q j, out5_at, d_at, g_blk m c t q j, b1 m c t q j, b2 m c t q j, b3 m c t q j]

theorem arr6 : (dats m 0 c).arrAt 6 cfg0.N = Cert.AdamReferenceIdeal.Read.val_main_v6 (F := Ideal) (y0 m c) (y2 m c) := by
  refine (dats m 0 c).arrAt_eq_of_covers 6 _ (by decide +kernel) fun t hf y => ?_
  blk_simp
  rw [after0_6]
  revert y
  suffices h : ∀ y : S64x1024.Idx, (out0_6 (iblk m c 0 t) (iblk m c 1 t) (iblk m c 2 t) (iblk m c 3 t)) y = Cert.AdamReferenceIdeal.Read.val_main_v6 (F := Ideal) (y0 m c) (y2 m c) ((win0_6.blk t).view.emb y) from h
  intro y
  obtain ⟨q, j, rfl⟩ : ∃ (q : Fin 64) (j : Fin 1024), y = ix2 q j := ⟨y 0, y 1, eq_ix2 y⟩
  rw [emb6 t q j, out6_at, m_at, g_blk m c t q j, b2 m c t q j]

theorem arr7 : (dats m 0 c).arrAt 7 cfg0.N = Cert.AdamReferenceIdeal.Read.val_main_v12 (F := Ideal) (y0 m c) (y3 m c) := by
  refine (dats m 0 c).arrAt_eq_of_covers 7 _ (by decide +kernel) fun t hf y => ?_
  blk_simp
  rw [after0_7]
  revert y
  suffices h : ∀ y : S64x1024.Idx, (out0_7 (iblk m c 0 t) (iblk m c 1 t) (iblk m c 2 t) (iblk m c 3 t)) y = Cert.AdamReferenceIdeal.Read.val_main_v12 (F := Ideal) (y0 m c) (y3 m c) ((win0_7.blk t).view.emb y) from h
  intro y
  obtain ⟨q, j, rfl⟩ : ∃ (q : Fin 64) (j : Fin 1024), y = ix2 q j := ⟨y 0, y 1, eq_ix2 y⟩
  rw [emb7 t q j, out7_at, v_at, g_blk m c t q j, b3 m c t q j]

end Cert.AdamStep.Out

end
-- ==== Proof.Adam.Mem.lean ====
/- The optimiser's step on the memory's weight: what the call returns is what the reference returns. -/
module

public import proofs.«01_k».proof.Proof.Gen.AdamMemIdeal.Value
public import proofs.«01_k».proof.Proof.Gen.AdamMemReferenceIdeal.Read
public import proofs.«01_k».proof.Proof.Adam.Basic
public import Idealize.ShloMosaic.Lib.Pipeline.ValueKit
public import Idealize.ShloMosaic.Lib.StableHlo.ReadAt

@[expose] public section

set_option maxRecDepth 16384

noncomputable section

namespace Cert.AdamStep.Mem

open Idealize.ShloMosaic Idealize.SL.Sem Idealize.ShloMosaic.TcCoe Cert.Proj
open Cert.AdamMemIdeal Cert.AdamMemIdeal.Gen

theorem zz : (![0, 0] : Fin 2 → ℕ) = fun _ => 0 := by
  funext a
  match a with
  | ⟨0, _⟩ => rfl
  | ⟨1, _⟩ => rfl

section
variable (x0 : Vec Ideal S8x64x512 .bf16) (x1 x2 x3 : Vec Ideal S64x512 .f32)

theorem ld0 (q : Fin 64) (j : Fin 512) : View.ld x0 r0_0 (ix3 (0 : Fin 1) q j) = x0 (ix3 (0 : Fin 8) q j) :=
  View.ld_unit_apply_of _ _ _ _ _ _ fun a => match a with
    | ⟨0, _⟩ => rfl
    | ⟨1, _⟩ => (Nat.zero_add _).symm
    | ⟨2, _⟩ => (Nat.zero_add _).symm

theorem ld1 (q : Fin 64) (j : Fin 512) : View.ld x0 r0_1 (ix3 (0 : Fin 1) q j) = x0 (ix3 (1 : Fin 8) q j) :=
  View.ld_unit_apply_of _ _ _ _ _ _ fun a => match a with
    | ⟨0, _⟩ => rfl
    | ⟨1, _⟩ => (Nat.zero_add _).symm
    | ⟨2, _⟩ => (Nat.zero_add _).symm

theorem ld2 (q : Fin 64) (j : Fin 512) : View.ld x0 r0_2 (ix3 (0 : Fin 1) q j) = x0 (ix3 (2 : Fin 8) q j) :=
  View.ld_unit_apply_of _ _ _ _ _ _ fun a => match a with
    | ⟨0, _⟩ => rfl
    | ⟨1, _⟩ => (Nat.zero_add _).symm
    | ⟨2, _⟩ => (Nat.zero_add _).symm

theorem ld3 (q : Fin 64) (j : Fin 512) : View.ld x0 r0_3 (ix3 (0 : Fin 1) q j) = x0 (ix3 (3 : Fin 8) q j) :=
  View.ld_unit_apply_of _ _ _ _ _ _ fun a => match a with
    | ⟨0, _⟩ => rfl
    | ⟨1, _⟩ => (Nat.zero_add _).symm
    | ⟨2, _⟩ => (Nat.zero_add _).symm

theorem ld4 (q : Fin 64) (j : Fin 512) : View.ld x0 r0_4 (ix3 (0 : Fin 1) q j) = x0 (ix3 (4 : Fin 8) q j) :=
  View.ld_unit_apply_of _ _ _ _ _ _ fun a => match a with
    | ⟨0, _⟩ => rfl
    | ⟨1, _⟩ => (Nat.zero_add _).symm
    | ⟨2, _⟩ => (Nat.zero_add _).symm

theorem ld5 (q : Fin 64) (j : Fin 512) : View.ld x0 r0_5 (ix3 (0 : Fin 1) q j) = x0 (ix3 (5 : Fin 8) q j) :=
  View.ld_unit_apply_of _ _ _ _ _ _ fun a => match a with
    | ⟨0, _⟩ => rfl
    | ⟨1, _⟩ => (Nat.zero_add _).symm
    | ⟨2, _⟩ => (Nat.zero_add _).symm

theorem ld6 (q : Fin 64) (j : Fin 512) : View.ld x0 r0_6 (ix3 (0 : Fin 1) q j) = x0 (ix3 (6 : Fin 8) q j) :=
  View.ld_unit_apply_of _ _ _ _ _ _ fun a => match a with
    | ⟨0, _⟩ => rfl
    | ⟨1, _⟩ => (Nat.zero_add _).symm
    | ⟨2, _⟩ => (Nat.zero_add _).symm

theorem ld7 (q : Fin 64) (j : Fin 512) : View.ld x0 r0_7 (ix3 (0 : Fin 1) q j) = x0 (ix3 (7 : Fin 8) q j) :=
  View.ld_unit_apply_of _ _ _ _ _ _ fun a => match a with
    | ⟨0, _⟩ => rfl
    | ⟨1, _⟩ => (Nat.zero_add _).symm
    | ⟨2, _⟩ => (Nat.zero_add _).symm

theorem pay4_at (a0 a1 a2 a3 a4 a5 a6 a7 : Vec Ideal S1x64x512 .bf16) (q : Fin 64) (j : Fin 512) :
    k0_pay4 a0 a1 a2 a3 a4 a5 a6 a7 (ix2 q j) = a0 (ix3 (0 : Fin 1) q j) + a1 (ix3 (0 : Fin 1) q j) + a2 (ix3 (0 : Fin 1) q j) + a3 (ix3 (0 : Fin 1) q j) + a4 (ix3 (0 : Fin 1) q j) + a5 (ix3 (0 : Fin 1) q j) + a6 (ix3 (0 : Fin 1) q j) + a7 (ix3 (0 : Fin 1) q j) := by
  pointwise [k0_pay4]

theorem pay5_at (q : Fin 64) (j : Fin 512) : k0_pay5 x0 x1 x2 x3 (ix2 q j) = ∑ k : Fin 8, x0 (ix3 k q j) := by
  unfold k0_pay5
  rw [pay4_at, ld0, ld1, ld2, ld3, ld4, ld5, ld6, ld7]
  exact sum8 fun k => x0 (ix3 k q j)

theorem out4_eq : out0_4 x0 x1 x2 x3 = k0_pay5 x0 x1 x2 x3 := by
  unfold out0_4
  rw [View.canon_unit_zero zz]

theorem out5_at (y : S64x512.Idx) : out0_5 x0 x1 x2 x3 y = dl (k0_pay5 x0 x1 x2 x3 y) (x1 y) (x2 y) (x3 y) := by
  unfold out0_5
  rw [View.canon_unit_zero zz]
  repeat rw [View.ld_unit_zero zz]
  generalize k0_pay5 x0 x1 x2 x3 = a
  rfl

theorem out6_at (y : S64x512.Idx) : out0_6 x0 x1 x2 x3 y = nm (k0_pay5 x0 x1 x2 x3 y) (x2 y) := by
  unfold out0_6
  rw [View.canon_unit_zero zz]
  repeat rw [View.ld_unit_zero zz]
  generalize k0_pay5 x0 x1 x2 x3 = a
  rfl

theorem out7_at (y : S64x512.Idx) : out0_7 x0 x1 x2 x3 y = nv (k0_pay5 x0 x1 x2 x3 y) (x3 y) := by
  unfold out0_7
  rw [View.canon_unit_zero zz]
  repeat rw [View.ld_unit_zero zz]
  generalize k0_pay5 x0 x1 x2 x3 = a
  rfl

end

theorem idx0 : ∀ t : Fin cfg0.N, win0_0.index t = ![0, t.val, 0] :=
  (by decide +kernel : ∀ t : Fin grid0.N, win0_0.index t = ![0, t.val, 0])
theorem idx1 : ∀ t : Fin cfg0.N, win0_1.index t = ![t.val, 0] :=
  (by decide +kernel : ∀ t : Fin grid0.N, win0_1.index t = ![t.val, 0])
theorem idx2 : ∀ t : Fin cfg0.N, win0_2.index t = ![t.val, 0] :=
  (by decide +kernel : ∀ t : Fin grid0.N, win0_2.index t = ![t.val, 0])
theorem idx3 : ∀ t : Fin cfg0.N, win0_3.index t = ![t.val, 0] :=
  (by decide +kernel : ∀ t : Fin grid0.N, win0_3.index t = ![t.val, 0])
theorem idx4 : ∀ t : Fin cfg0.N, win0_4.index t = ![t.val, 0] :=
  (by decide +kernel : ∀ t : Fin grid0.N, win0_4.index t = ![t.val, 0])
theorem idx5 : ∀ t : Fin cfg0.N, win0_5.index t = ![t.val, 0] :=
  (by decide +kernel : ∀ t : Fin grid0.N, win0_5.index t = ![t.val, 0])
theorem idx6 : ∀ t : Fin cfg0.N, win0_6.index t = ![t.val, 0] :=
  (by decide +kernel : ∀ t : Fin grid0.N, win0_6.index t = ![t.val, 0])
theorem idx7 : ∀ t : Fin cfg0.N, win0_7.index t = ![t.val, 0] :=
  (by decide +kernel : ∀ t : Fin grid0.N, win0_7.index t = ![t.val, 0])
theorem pts : cfg0.N = 4 := (by decide +kernel : grid0.N = 4)

/-- A row of the whole from a block's. -/
abbrev at' (t : Fin cfg0.N) (q : Fin 64) : Fin 256 := ⟨64 * t.val + q.val, by have : t.val < 4 := pts ▸ t.isLt; omega⟩

section
variable (y0 : Vec Ideal S8x256x512 .bf16) (y1 y2 y3 : Vec Ideal S256x512 .f32)

theorem g_at (r : Fin 256) (j : Fin 512) : Cert.AdamMemReferenceIdeal.Read.val_main_v1 (F := Ideal) y0 (ix2 r j) = ∑ k : Fin 8, y0 (ix3 k r j) := by
  rw [Cert.AdamMemReferenceIdeal.Read.val_main_v1_apply]
  have hz : Cert.AdamMemReferenceIdeal.Read.val_main_cst (F := Ideal) (Shape.Idx.first Cert.AdamMemReferenceIdeal.Facts₀.h_S_) = 0 := by
    pointwise [Cert.AdamMemReferenceIdeal.Read.val_main_cst]
  refine (congrArg₂ (· + ·) hz (Finset.sum_congr rfl fun k _ => ?_)).trans (zero_add _)
  exact congrArg y0 (funext fun a => by fin_cases a <;> rfl)

theorem d_at (i : S256x512.Idx) : Cert.AdamMemReferenceIdeal.Read.val_main_v25 (F := Ideal) y0 y1 y2 y3 i = dl (Cert.AdamMemReferenceIdeal.Read.val_main_v1 (F := Ideal) y0 i) (y1 i) (y2 i) (y3 i) := rfl

theorem m_at (i : S256x512.Idx) : Cert.AdamMemReferenceIdeal.Read.val_main_v6 (F := Ideal) y0 y2 i = nm (Cert.AdamMemReferenceIdeal.Read.val_main_v1 (F := Ideal) y0 i) (y2 i) := rfl

theorem v_at (i : S256x512.Idx) : Cert.AdamMemReferenceIdeal.Read.val_main_v12 (F := Ideal) y0 y3 i = nv (Cert.AdamMemReferenceIdeal.Read.val_main_v1 (F := Ideal) y0 i) (y3 i) := rfl

end

variable (m : (ℓ : Loc nD τ sig) → Buf (Elt Ideal) ℓ) (c : Dev nD)

abbrev y0 : Vec Ideal S8x256x512 .bf16 := m ((c : Thread nD τ).loc main_arg0)

abbrev y1 : Vec Ideal S256x512 .f32 := m ((c : Thread nD τ).loc main_arg1)

abbrev y2 : Vec Ideal S256x512 .f32 := m ((c : Thread nD τ).loc main_arg2)

abbrev y3 : Vec Ideal S256x512 .f32 := m ((c : Thread nD τ).loc main_arg3)

theorem b0 (t : Fin cfg0.N) (k : Fin 8) (q : Fin 64) (j : Fin 512) : (iblk m c 0 t : Vec Ideal S8x64x512 .bf16) (ix3 k q j) = y0 m c (ix3 k (at' t q) j) := by
  refine Eq.trans ?_ (congrFun (V_main_arg0 m c) (ix3 k (at' t q) j))
  blk_ext [iblk, idx0 t]

theorem b1 (t : Fin cfg0.N) (q : Fin 64) (j : Fin 512) : (iblk m c 1 t : Vec Ideal S64x512 .f32) (ix2 q j) = y1 m c (ix2 (at' t q) j) := by
  refine Eq.trans ?_ (congrFun (V_main_arg1 m c) (ix2 (at' t q) j))
  blk_ext [iblk, idx1 t]

theorem b2 (t : Fin cfg0.N) (q : Fin 64) (j : Fin 512) : (iblk m c 2 t : Vec Ideal S64x512 .f32) (ix2 q j) = y2 m c (ix2 (at' t q) j) := by
  refine Eq.trans ?_ (congrFun (V_main_arg2 m c) (ix2 (at' t q) j))
  blk_ext [iblk, idx2 t]

theorem b3 (t : Fin cfg0.N) (q : Fin 64) (j : Fin 512) : (iblk m c 3 t : Vec Ideal S64x512 .f32) (ix2 q j) = y3 m c (ix2 (at' t q) j) := by
  refine Eq.trans ?_ (congrFun (V_main_arg3 m c) (ix2 (at' t q) j))
  blk_ext [iblk, idx3 t]

theorem emb4 (t : Fin cfg0.N) (q : Fin 64) (j : Fin 512) :
    ((win0_4.blk t).view.emb (ix2 q j : S64x512.Idx) : S256x512.Idx) = ix2 (at' t q) j := by
  blk_ext [idx4 t]

theorem emb5 (t : Fin cfg0.N) (q : Fin 64) (j : Fin 512) :
    ((win0_5.blk t).view.emb (ix2 q j : S64x512.Idx) : S256x512.Idx) = ix2 (at' t q) j := by
  blk_ext [idx5 t]

theorem emb6 (t : Fin cfg0.N) (q : Fin 64) (j : Fin 512) :
    ((win0_6.blk t).view.emb (ix2 q j : S64x512.Idx) : S256x512.Idx) = ix2 (at' t q) j := by
  blk_ext [idx6 t]

theorem emb7 (t : Fin cfg0.N) (q : Fin 64) (j : Fin 512) :
    ((win0_7.blk t).view.emb (ix2 q j : S64x512.Idx) : S256x512.Idx) = ix2 (at' t q) j := by
  blk_ext [idx7 t]

theorem g_blk (t : Fin cfg0.N) (q : Fin 64) (j : Fin 512) :
    k0_pay5 (iblk m c 0 t) (iblk m c 1 t) (iblk m c 2 t) (iblk m c 3 t) (ix2 q j) = Cert.AdamMemReferenceIdeal.Read.val_main_v1 (F := Ideal) (y0 m c) (ix2 (at' t q) j) := by
  refine (pay5_at _ _ _ _ q j).trans (Eq.trans ?_ (g_at (y0 m c) (at' t q) j).symm)
  exact Finset.sum_congr rfl fun k _ => b0 m c t k q j

theorem arr4 : (dats m 0 c).arrAt 4 cfg0.N = Cert.AdamMemReferenceIdeal.Read.val_main_v1 (F := Ideal) (y0 m c) := by
  refine (dats m 0 c).arrAt_eq_of_covers 4 _ (by decide +kernel) fun t hf y => ?_
  blk_simp
  rw [after0_4]
  revert y
  suffices h : ∀ y : S64x512.Idx, (out0_4 (iblk m c 0 t) (iblk m c 1 t) (iblk m c 2 t) (iblk m c 3 t)) y = Cert.AdamMemReferenceIdeal.Read.val_main_v1 (F := Ideal) (y0 m c) ((win0_4.blk t).view.emb y) from h
  intro y
  obtain ⟨q, j, rfl⟩ : ∃ (q : Fin 64) (j : Fin 512), y = ix2 q j := ⟨y 0, y 1, eq_ix2 y⟩
  rw [emb4 t q j, out4_eq]
  exact g_blk m c t q j

theorem arr5 : (dats m 0 c).arrAt 5 cfg0.N = Cert.AdamMemReferenceIdeal.Read.val_main_v25 (F := Ideal) (y0 m c) (y1 m c) (y2 m c) (y3 m c) := by
  refine (dats m 0 c).arrAt_eq_of_covers 5 _ (by decide +kernel) fun t hf y => ?_
  blk_simp
  rw [after0_5]
  revert y
  suffices h : ∀ y : S64x512.Idx, (out0_5 (iblk m c 0 t) (iblk m c 1 t) (iblk m c 2 t) (iblk m c 3 t)) y = Cert.AdamMemReferenceIdeal.Read.val_main_v25 (F := Ideal) (y0 m c) (y1 m c) (y2 m c) (y3 m c) ((win0_5.blk t).view.emb y) from h
  intro y
  obtain ⟨q, j, rfl⟩ : ∃ (q : Fin 64) (j : Fin 512), y = ix2 q j := ⟨y 0, y 1, eq_ix2 y⟩
  rw [emb5 t q j, out5_at, d_at, g_blk m c t q j, b1 m c t q j, b2 m c t q j, b3 m c t q j]

theorem arr6 : (dats m 0 c).arrAt 6 cfg0.N = Cert.AdamMemReferenceIdeal.Read.val_main_v6 (F := Ideal) (y0 m c) (y2 m c) := by
  refine (dats m 0 c).arrAt_eq_of_covers 6 _ (by decide +kernel) fun t hf y => ?_
  blk_simp
  rw [after0_6]
  revert y
  suffices h : ∀ y : S64x512.Idx, (out0_6 (iblk m c 0 t) (iblk m c 1 t) (iblk m c 2 t) (iblk m c 3 t)) y = Cert.AdamMemReferenceIdeal.Read.val_main_v6 (F := Ideal) (y0 m c) (y2 m c) ((win0_6.blk t).view.emb y) from h
  intro y
  obtain ⟨q, j, rfl⟩ : ∃ (q : Fin 64) (j : Fin 512), y = ix2 q j := ⟨y 0, y 1, eq_ix2 y⟩
  rw [emb6 t q j, out6_at, m_at, g_blk m c t q j, b2 m c t q j]

theorem arr7 : (dats m 0 c).arrAt 7 cfg0.N = Cert.AdamMemReferenceIdeal.Read.val_main_v12 (F := Ideal) (y0 m c) (y3 m c) := by
  refine (dats m 0 c).arrAt_eq_of_covers 7 _ (by decide +kernel) fun t hf y => ?_
  blk_simp
  rw [after0_7]
  revert y
  suffices h : ∀ y : S64x512.Idx, (out0_7 (iblk m c 0 t) (iblk m c 1 t) (iblk m c 2 t) (iblk m c 3 t)) y = Cert.AdamMemReferenceIdeal.Read.val_main_v12 (F := Ideal) (y0 m c) (y3 m c) ((win0_7.blk t).view.emb y) from h
  intro y
  obtain ⟨q, j, rfl⟩ : ∃ (q : Fin 64) (j : Fin 512), y = ix2 q j := ⟨y 0, y 1, eq_ix2 y⟩
  rw [emb7 t q j, out7_at, v_at, g_blk m c t q j, b3 m c t q j]

end Cert.AdamStep.Mem

end
-- ==== Proof.Adam.Q.lean ====
/- The optimiser's step on the queries' second weight: what the call returns is what the reference returns. -/
module

public import proofs.«01_k».proof.Proof.Gen.AdamQIdeal.Value
public import proofs.«01_k».proof.Proof.Gen.AdamQReferenceIdeal.Read
public import proofs.«01_k».proof.Proof.Adam.Basic
public import Idealize.ShloMosaic.Lib.Pipeline.ValueKit
public import Idealize.ShloMosaic.Lib.StableHlo.ReadAt

@[expose] public section

set_option maxRecDepth 16384

noncomputable section

namespace Cert.AdamStep.Q

open Idealize.ShloMosaic Idealize.SL.Sem Idealize.ShloMosaic.TcCoe Cert.Proj
open Cert.AdamQIdeal Cert.AdamQIdeal.Gen

theorem zz : (![0, 0] : Fin 2 → ℕ) = fun _ => 0 := by
  funext a
  match a with
  | ⟨0, _⟩ => rfl
  | ⟨1, _⟩ => rfl

section
variable (x0 : Vec Ideal S8x64x48 .bf16) (x1 x2 x3 : Vec Ideal S64x48 .f32)

theorem ld0 (q : Fin 64) (j : Fin 48) : View.ld x0 r0_0 (ix3 (0 : Fin 1) q j) = x0 (ix3 (0 : Fin 8) q j) :=
  View.ld_unit_apply_of _ _ _ _ _ _ fun a => match a with
    | ⟨0, _⟩ => rfl
    | ⟨1, _⟩ => (Nat.zero_add _).symm
    | ⟨2, _⟩ => (Nat.zero_add _).symm

theorem ld1 (q : Fin 64) (j : Fin 48) : View.ld x0 r0_1 (ix3 (0 : Fin 1) q j) = x0 (ix3 (1 : Fin 8) q j) :=
  View.ld_unit_apply_of _ _ _ _ _ _ fun a => match a with
    | ⟨0, _⟩ => rfl
    | ⟨1, _⟩ => (Nat.zero_add _).symm
    | ⟨2, _⟩ => (Nat.zero_add _).symm

theorem ld2 (q : Fin 64) (j : Fin 48) : View.ld x0 r0_2 (ix3 (0 : Fin 1) q j) = x0 (ix3 (2 : Fin 8) q j) :=
  View.ld_unit_apply_of _ _ _ _ _ _ fun a => match a with
    | ⟨0, _⟩ => rfl
    | ⟨1, _⟩ => (Nat.zero_add _).symm
    | ⟨2, _⟩ => (Nat.zero_add _).symm

theorem ld3 (q : Fin 64) (j : Fin 48) : View.ld x0 r0_3 (ix3 (0 : Fin 1) q j) = x0 (ix3 (3 : Fin 8) q j) :=
  View.ld_unit_apply_of _ _ _ _ _ _ fun a => match a with
    | ⟨0, _⟩ => rfl
    | ⟨1, _⟩ => (Nat.zero_add _).symm
    | ⟨2, _⟩ => (Nat.zero_add _).symm

theorem ld4 (q : Fin 64) (j : Fin 48) : View.ld x0 r0_4 (ix3 (0 : Fin 1) q j) = x0 (ix3 (4 : Fin 8) q j) :=
  View.ld_unit_apply_of _ _ _ _ _ _ fun a => match a with
    | ⟨0, _⟩ => rfl
    | ⟨1, _⟩ => (Nat.zero_add _).symm
    | ⟨2, _⟩ => (Nat.zero_add _).symm

theorem ld5 (q : Fin 64) (j : Fin 48) : View.ld x0 r0_5 (ix3 (0 : Fin 1) q j) = x0 (ix3 (5 : Fin 8) q j) :=
  View.ld_unit_apply_of _ _ _ _ _ _ fun a => match a with
    | ⟨0, _⟩ => rfl
    | ⟨1, _⟩ => (Nat.zero_add _).symm
    | ⟨2, _⟩ => (Nat.zero_add _).symm

theorem ld6 (q : Fin 64) (j : Fin 48) : View.ld x0 r0_6 (ix3 (0 : Fin 1) q j) = x0 (ix3 (6 : Fin 8) q j) :=
  View.ld_unit_apply_of _ _ _ _ _ _ fun a => match a with
    | ⟨0, _⟩ => rfl
    | ⟨1, _⟩ => (Nat.zero_add _).symm
    | ⟨2, _⟩ => (Nat.zero_add _).symm

theorem ld7 (q : Fin 64) (j : Fin 48) : View.ld x0 r0_7 (ix3 (0 : Fin 1) q j) = x0 (ix3 (7 : Fin 8) q j) :=
  View.ld_unit_apply_of _ _ _ _ _ _ fun a => match a with
    | ⟨0, _⟩ => rfl
    | ⟨1, _⟩ => (Nat.zero_add _).symm
    | ⟨2, _⟩ => (Nat.zero_add _).symm

theorem pay4_at (a0 a1 a2 a3 a4 a5 a6 a7 : Vec Ideal S1x64x48 .bf16) (q : Fin 64) (j : Fin 48) :
    k0_pay4 a0 a1 a2 a3 a4 a5 a6 a7 (ix2 q j) = a0 (ix3 (0 : Fin 1) q j) + a1 (ix3 (0 : Fin 1) q j) + a2 (ix3 (0 : Fin 1) q j) + a3 (ix3 (0 : Fin 1) q j) + a4 (ix3 (0 : Fin 1) q j) + a5 (ix3 (0 : Fin 1) q j) + a6 (ix3 (0 : Fin 1) q j) + a7 (ix3 (0 : Fin 1) q j) := by
  pointwise [k0_pay4]

theorem pay5_at (q : Fin 64) (j : Fin 48) : k0_pay5 x0 x1 x2 x3 (ix2 q j) = ∑ k : Fin 8, x0 (ix3 k q j) := by
  unfold k0_pay5
  rw [pay4_at, ld0, ld1, ld2, ld3, ld4, ld5, ld6, ld7]
  exact sum8 fun k => x0 (ix3 k q j)

theorem out4_eq : out0_4 x0 x1 x2 x3 = k0_pay5 x0 x1 x2 x3 := by
  unfold out0_4
  rw [View.canon_unit_zero zz]

theorem out5_at (y : S64x48.Idx) : out0_5 x0 x1 x2 x3 y = dl (k0_pay5 x0 x1 x2 x3 y) (x1 y) (x2 y) (x3 y) := by
  unfold out0_5
  rw [View.canon_unit_zero zz]
  repeat rw [View.ld_unit_zero zz]
  generalize k0_pay5 x0 x1 x2 x3 = a
  rfl

theorem out6_at (y : S64x48.Idx) : out0_6 x0 x1 x2 x3 y = nm (k0_pay5 x0 x1 x2 x3 y) (x2 y) := by
  unfold out0_6
  rw [View.canon_unit_zero zz]
  repeat rw [View.ld_unit_zero zz]
  generalize k0_pay5 x0 x1 x2 x3 = a
  rfl

theorem out7_at (y : S64x48.Idx) : out0_7 x0 x1 x2 x3 y = nv (k0_pay5 x0 x1 x2 x3 y) (x3 y) := by
  unfold out0_7
  rw [View.canon_unit_zero zz]
  repeat rw [View.ld_unit_zero zz]
  generalize k0_pay5 x0 x1 x2 x3 = a
  rfl

end

theorem idx0 : ∀ t : Fin cfg0.N, win0_0.index t = ![0, t.val, 0] :=
  (by decide +kernel : ∀ t : Fin grid0.N, win0_0.index t = ![0, t.val, 0])
theorem idx1 : ∀ t : Fin cfg0.N, win0_1.index t = ![t.val, 0] :=
  (by decide +kernel : ∀ t : Fin grid0.N, win0_1.index t = ![t.val, 0])
theorem idx2 : ∀ t : Fin cfg0.N, win0_2.index t = ![t.val, 0] :=
  (by decide +kernel : ∀ t : Fin grid0.N, win0_2.index t = ![t.val, 0])
theorem idx3 : ∀ t : Fin cfg0.N, win0_3.index t = ![t.val, 0] :=
  (by decide +kernel : ∀ t : Fin grid0.N, win0_3.index t = ![t.val, 0])
theorem idx4 : ∀ t : Fin cfg0.N, win0_4.index t = ![t.val, 0] :=
  (by decide +kernel : ∀ t : Fin grid0.N, win0_4.index t = ![t.val, 0])
theorem idx5 : ∀ t : Fin cfg0.N, win0_5.index t = ![t.val, 0] :=
  (by decide +kernel : ∀ t : Fin grid0.N, win0_5.index t = ![t.val, 0])
theorem idx6 : ∀ t : Fin cfg0.N, win0_6.index t = ![t.val, 0] :=
  (by decide +kernel : ∀ t : Fin grid0.N, win0_6.index t = ![t.val, 0])
theorem idx7 : ∀ t : Fin cfg0.N, win0_7.index t = ![t.val, 0] :=
  (by decide +kernel : ∀ t : Fin grid0.N, win0_7.index t = ![t.val, 0])
theorem pts : cfg0.N = 8 := (by decide +kernel : grid0.N = 8)

/-- A row of the whole from a block's. -/
abbrev at' (t : Fin cfg0.N) (q : Fin 64) : Fin 512 := ⟨64 * t.val + q.val, by have : t.val < 8 := pts ▸ t.isLt; omega⟩

section
variable (y0 : Vec Ideal S8x512x48 .bf16) (y1 y2 y3 : Vec Ideal S512x48 .f32)

theorem g_at (r : Fin 512) (j : Fin 48) : Cert.AdamQReferenceIdeal.Read.val_main_v1 (F := Ideal) y0 (ix2 r j) = ∑ k : Fin 8, y0 (ix3 k r j) := by
  rw [Cert.AdamQReferenceIdeal.Read.val_main_v1_apply]
  have hz : Cert.AdamQReferenceIdeal.Read.val_main_cst (F := Ideal) (Shape.Idx.first Cert.AdamQReferenceIdeal.Facts₀.h_S_) = 0 := by
    pointwise [Cert.AdamQReferenceIdeal.Read.val_main_cst]
  refine (congrArg₂ (· + ·) hz (Finset.sum_congr rfl fun k _ => ?_)).trans (zero_add _)
  exact congrArg y0 (funext fun a => by fin_cases a <;> rfl)

theorem d_at (i : S512x48.Idx) : Cert.AdamQReferenceIdeal.Read.val_main_v25 (F := Ideal) y0 y1 y2 y3 i = dl (Cert.AdamQReferenceIdeal.Read.val_main_v1 (F := Ideal) y0 i) (y1 i) (y2 i) (y3 i) := rfl

theorem m_at (i : S512x48.Idx) : Cert.AdamQReferenceIdeal.Read.val_main_v6 (F := Ideal) y0 y2 i = nm (Cert.AdamQReferenceIdeal.Read.val_main_v1 (F := Ideal) y0 i) (y2 i) := rfl

theorem v_at (i : S512x48.Idx) : Cert.AdamQReferenceIdeal.Read.val_main_v12 (F := Ideal) y0 y3 i = nv (Cert.AdamQReferenceIdeal.Read.val_main_v1 (F := Ideal) y0 i) (y3 i) := rfl

end

variable (m : (ℓ : Loc nD τ sig) → Buf (Elt Ideal) ℓ) (c : Dev nD)

abbrev y0 : Vec Ideal S8x512x48 .bf16 := m ((c : Thread nD τ).loc main_arg0)

abbrev y1 : Vec Ideal S512x48 .f32 := m ((c : Thread nD τ).loc main_arg1)

abbrev y2 : Vec Ideal S512x48 .f32 := m ((c : Thread nD τ).loc main_arg2)

abbrev y3 : Vec Ideal S512x48 .f32 := m ((c : Thread nD τ).loc main_arg3)

theorem b0 (t : Fin cfg0.N) (k : Fin 8) (q : Fin 64) (j : Fin 48) : (iblk m c 0 t : Vec Ideal S8x64x48 .bf16) (ix3 k q j) = y0 m c (ix3 k (at' t q) j) := by
  refine Eq.trans ?_ (congrFun (V_main_arg0 m c) (ix3 k (at' t q) j))
  blk_ext [iblk, idx0 t]

theorem b1 (t : Fin cfg0.N) (q : Fin 64) (j : Fin 48) : (iblk m c 1 t : Vec Ideal S64x48 .f32) (ix2 q j) = y1 m c (ix2 (at' t q) j) := by
  refine Eq.trans ?_ (congrFun (V_main_arg1 m c) (ix2 (at' t q) j))
  blk_ext [iblk, idx1 t]

theorem b2 (t : Fin cfg0.N) (q : Fin 64) (j : Fin 48) : (iblk m c 2 t : Vec Ideal S64x48 .f32) (ix2 q j) = y2 m c (ix2 (at' t q) j) := by
  refine Eq.trans ?_ (congrFun (V_main_arg2 m c) (ix2 (at' t q) j))
  blk_ext [iblk, idx2 t]

theorem b3 (t : Fin cfg0.N) (q : Fin 64) (j : Fin 48) : (iblk m c 3 t : Vec Ideal S64x48 .f32) (ix2 q j) = y3 m c (ix2 (at' t q) j) := by
  refine Eq.trans ?_ (congrFun (V_main_arg3 m c) (ix2 (at' t q) j))
  blk_ext [iblk, idx3 t]

theorem emb4 (t : Fin cfg0.N) (q : Fin 64) (j : Fin 48) :
    ((win0_4.blk t).view.emb (ix2 q j : S64x48.Idx) : S512x48.Idx) = ix2 (at' t q) j := by
  blk_ext [idx4 t]

theorem emb5 (t : Fin cfg0.N) (q : Fin 64) (j : Fin 48) :
    ((win0_5.blk t).view.emb (ix2 q j : S64x48.Idx) : S512x48.Idx) = ix2 (at' t q) j := by
  blk_ext [idx5 t]

theorem emb6 (t : Fin cfg0.N) (q : Fin 64) (j : Fin 48) :
    ((win0_6.blk t).view.emb (ix2 q j : S64x48.Idx) : S512x48.Idx) = ix2 (at' t q) j := by
  blk_ext [idx6 t]

theorem emb7 (t : Fin cfg0.N) (q : Fin 64) (j : Fin 48) :
    ((win0_7.blk t).view.emb (ix2 q j : S64x48.Idx) : S512x48.Idx) = ix2 (at' t q) j := by
  blk_ext [idx7 t]

theorem g_blk (t : Fin cfg0.N) (q : Fin 64) (j : Fin 48) :
    k0_pay5 (iblk m c 0 t) (iblk m c 1 t) (iblk m c 2 t) (iblk m c 3 t) (ix2 q j) = Cert.AdamQReferenceIdeal.Read.val_main_v1 (F := Ideal) (y0 m c) (ix2 (at' t q) j) := by
  refine (pay5_at _ _ _ _ q j).trans (Eq.trans ?_ (g_at (y0 m c) (at' t q) j).symm)
  exact Finset.sum_congr rfl fun k _ => b0 m c t k q j

theorem arr4 : (dats m 0 c).arrAt 4 cfg0.N = Cert.AdamQReferenceIdeal.Read.val_main_v1 (F := Ideal) (y0 m c) := by
  refine (dats m 0 c).arrAt_eq_of_covers 4 _ (by decide +kernel) fun t hf y => ?_
  blk_simp
  rw [after0_4]
  revert y
  suffices h : ∀ y : S64x48.Idx, (out0_4 (iblk m c 0 t) (iblk m c 1 t) (iblk m c 2 t) (iblk m c 3 t)) y = Cert.AdamQReferenceIdeal.Read.val_main_v1 (F := Ideal) (y0 m c) ((win0_4.blk t).view.emb y) from h
  intro y
  obtain ⟨q, j, rfl⟩ : ∃ (q : Fin 64) (j : Fin 48), y = ix2 q j := ⟨y 0, y 1, eq_ix2 y⟩
  rw [emb4 t q j, out4_eq]
  exact g_blk m c t q j

theorem arr5 : (dats m 0 c).arrAt 5 cfg0.N = Cert.AdamQReferenceIdeal.Read.val_main_v25 (F := Ideal) (y0 m c) (y1 m c) (y2 m c) (y3 m c) := by
  refine (dats m 0 c).arrAt_eq_of_covers 5 _ (by decide +kernel) fun t hf y => ?_
  blk_simp
  rw [after0_5]
  revert y
  suffices h : ∀ y : S64x48.Idx, (out0_5 (iblk m c 0 t) (iblk m c 1 t) (iblk m c 2 t) (iblk m c 3 t)) y = Cert.AdamQReferenceIdeal.Read.val_main_v25 (F := Ideal) (y0 m c) (y1 m c) (y2 m c) (y3 m c) ((win0_5.blk t).view.emb y) from h
  intro y
  obtain ⟨q, j, rfl⟩ : ∃ (q : Fin 64) (j : Fin 48), y = ix2 q j := ⟨y 0, y 1, eq_ix2 y⟩
  rw [emb5 t q j, out5_at, d_at, g_blk m c t q j, b1 m c t q j, b2 m c t q j, b3 m c t q j]

theorem arr6 : (dats m 0 c).arrAt 6 cfg0.N = Cert.AdamQReferenceIdeal.Read.val_main_v6 (F := Ideal) (y0 m c) (y2 m c) := by
  refine (dats m 0 c).arrAt_eq_of_covers 6 _ (by decide +kernel) fun t hf y => ?_
  blk_simp
  rw [after0_6]
  revert y
  suffices h : ∀ y : S64x48.Idx, (out0_6 (iblk m c 0 t) (iblk m c 1 t) (iblk m c 2 t) (iblk m c 3 t)) y = Cert.AdamQReferenceIdeal.Read.val_main_v6 (F := Ideal) (y0 m c) (y2 m c) ((win0_6.blk t).view.emb y) from h
  intro y
  obtain ⟨q, j, rfl⟩ : ∃ (q : Fin 64) (j : Fin 48), y = ix2 q j := ⟨y 0, y 1, eq_ix2 y⟩
  rw [emb6 t q j, out6_at, m_at, g_blk m c t q j, b2 m c t q j]

theorem arr7 : (dats m 0 c).arrAt 7 cfg0.N = Cert.AdamQReferenceIdeal.Read.val_main_v12 (F := Ideal) (y0 m c) (y3 m c) := by
  refine (dats m 0 c).arrAt_eq_of_covers 7 _ (by decide +kernel) fun t hf y => ?_
  blk_simp
  rw [after0_7]
  revert y
  suffices h : ∀ y : S64x48.Idx, (out0_7 (iblk m c 0 t) (iblk m c 1 t) (iblk m c 2 t) (iblk m c 3 t)) y = Cert.AdamQReferenceIdeal.Read.val_main_v12 (F := Ideal) (y0 m c) (y3 m c) ((win0_7.blk t).view.emb y) from h
  intro y
  obtain ⟨q, j, rfl⟩ : ∃ (q : Fin 64) (j : Fin 48), y = ix2 q j := ⟨y 0, y 1, eq_ix2 y⟩
  rw [emb7 t q j, out7_at, v_at, g_blk m c t q j, b3 m c t q j]

end Cert.AdamStep.Q

end
-- ==== Proof.Adam.Kv.lean ====
/- The optimiser's step on the keys' and values' second weight: what the call returns is what the reference returns. -/
module

public import proofs.«01_k».proof.Proof.Gen.AdamKvIdeal.Value
public import proofs.«01_k».proof.Proof.Gen.AdamKvReferenceIdeal.Read
public import proofs.«01_k».proof.Proof.Adam.Basic
public import Idealize.ShloMosaic.Lib.Pipeline.ValueKit
public import Idealize.ShloMosaic.Lib.StableHlo.ReadAt

@[expose] public section

set_option maxRecDepth 16384

noncomputable section

namespace Cert.AdamStep.Kv

open Idealize.ShloMosaic Idealize.SL.Sem Idealize.ShloMosaic.TcCoe Cert.Proj
open Cert.AdamKvIdeal Cert.AdamKvIdeal.Gen

theorem zz : (![0, 0] : Fin 2 → ℕ) = fun _ => 0 := by
  funext a
  match a with
  | ⟨0, _⟩ => rfl
  | ⟨1, _⟩ => rfl

section
variable (x0 : Vec Ideal S8x64x64 .bf16) (x1 x2 x3 : Vec Ideal S64x64 .f32)

theorem ld0 (q : Fin 64) (j : Fin 64) : View.ld x0 r0_0 (ix3 (0 : Fin 1) q j) = x0 (ix3 (0 : Fin 8) q j) :=
  View.ld_unit_apply_of _ _ _ _ _ _ fun a => match a with
    | ⟨0, _⟩ => rfl
    | ⟨1, _⟩ => (Nat.zero_add _).symm
    | ⟨2, _⟩ => (Nat.zero_add _).symm

theorem ld1 (q : Fin 64) (j : Fin 64) : View.ld x0 r0_1 (ix3 (0 : Fin 1) q j) = x0 (ix3 (1 : Fin 8) q j) :=
  View.ld_unit_apply_of _ _ _ _ _ _ fun a => match a with
    | ⟨0, _⟩ => rfl
    | ⟨1, _⟩ => (Nat.zero_add _).symm
    | ⟨2, _⟩ => (Nat.zero_add _).symm

theorem ld2 (q : Fin 64) (j : Fin 64) : View.ld x0 r0_2 (ix3 (0 : Fin 1) q j) = x0 (ix3 (2 : Fin 8) q j) :=
  View.ld_unit_apply_of _ _ _ _ _ _ fun a => match a with
    | ⟨0, _⟩ => rfl
    | ⟨1, _⟩ => (Nat.zero_add _).symm
    | ⟨2, _⟩ => (Nat.zero_add _).symm

theorem ld3 (q : Fin 64) (j : Fin 64) : View.ld x0 r0_3 (ix3 (0 : Fin 1) q j) = x0 (ix3 (3 : Fin 8) q j) :=
  View.ld_unit_apply_of _ _ _ _ _ _ fun a => match a with
    | ⟨0, _⟩ => rfl
    | ⟨1, _⟩ => (Nat.zero_add _).symm
    | ⟨2, _⟩ => (Nat.zero_add _).symm

theorem ld4 (q : Fin 64) (j : Fin 64) : View.ld x0 r0_4 (ix3 (0 : Fin 1) q j) = x0 (ix3 (4 : Fin 8) q j) :=
  View.ld_unit_apply_of _ _ _ _ _ _ fun a => match a with
    | ⟨0, _⟩ => rfl
    | ⟨1, _⟩ => (Nat.zero_add _).symm
    | ⟨2, _⟩ => (Nat.zero_add _).symm

theorem ld5 (q : Fin 64) (j : Fin 64) : View.ld x0 r0_5 (ix3 (0 : Fin 1) q j) = x0 (ix3 (5 : Fin 8) q j) :=
  View.ld_unit_apply_of _ _ _ _ _ _ fun a => match a with
    | ⟨0, _⟩ => rfl
    | ⟨1, _⟩ => (Nat.zero_add _).symm
    | ⟨2, _⟩ => (Nat.zero_add _).symm

theorem ld6 (q : Fin 64) (j : Fin 64) : View.ld x0 r0_6 (ix3 (0 : Fin 1) q j) = x0 (ix3 (6 : Fin 8) q j) :=
  View.ld_unit_apply_of _ _ _ _ _ _ fun a => match a with
    | ⟨0, _⟩ => rfl
    | ⟨1, _⟩ => (Nat.zero_add _).symm
    | ⟨2, _⟩ => (Nat.zero_add _).symm

theorem ld7 (q : Fin 64) (j : Fin 64) : View.ld x0 r0_7 (ix3 (0 : Fin 1) q j) = x0 (ix3 (7 : Fin 8) q j) :=
  View.ld_unit_apply_of _ _ _ _ _ _ fun a => match a with
    | ⟨0, _⟩ => rfl
    | ⟨1, _⟩ => (Nat.zero_add _).symm
    | ⟨2, _⟩ => (Nat.zero_add _).symm

theorem pay4_at (a0 a1 a2 a3 a4 a5 a6 a7 : Vec Ideal S1x64x64 .bf16) (q : Fin 64) (j : Fin 64) :
    k0_pay4 a0 a1 a2 a3 a4 a5 a6 a7 (ix2 q j) = a0 (ix3 (0 : Fin 1) q j) + a1 (ix3 (0 : Fin 1) q j) + a2 (ix3 (0 : Fin 1) q j) + a3 (ix3 (0 : Fin 1) q j) + a4 (ix3 (0 : Fin 1) q j) + a5 (ix3 (0 : Fin 1) q j) + a6 (ix3 (0 : Fin 1) q j) + a7 (ix3 (0 : Fin 1) q j) := by
  pointwise [k0_pay4]

theorem pay5_at (q : Fin 64) (j : Fin 64) : k0_pay5 x0 x1 x2 x3 (ix2 q j) = ∑ k : Fin 8, x0 (ix3 k q j) := by
  unfold k0_pay5
  rw [pay4_at, ld0, ld1, ld2, ld3, ld4, ld5, ld6, ld7]
  exact sum8 fun k => x0 (ix3 k q j)

theorem out4_eq : out0_4 x0 x1 x2 x3 = k0_pay5 x0 x1 x2 x3 := by
  unfold out0_4
  rw [View.canon_unit_zero zz]

theorem out5_at (y : S64x64.Idx) : out0_5 x0 x1 x2 x3 y = dl (k0_pay5 x0 x1 x2 x3 y) (x1 y) (x2 y) (x3 y) := by
  unfold out0_5
  rw [View.canon_unit_zero zz]
  repeat rw [View.ld_unit_zero zz]
  generalize k0_pay5 x0 x1 x2 x3 = a
  rfl

theorem out6_at (y : S64x64.Idx) : out0_6 x0 x1 x2 x3 y = nm (k0_pay5 x0 x1 x2 x3 y) (x2 y) := by
  unfold out0_6
  rw [View.canon_unit_zero zz]
  repeat rw [View.ld_unit_zero zz]
  generalize k0_pay5 x0 x1 x2 x3 = a
  rfl

theorem out7_at (y : S64x64.Idx) : out0_7 x0 x1 x2 x3 y = nv (k0_pay5 x0 x1 x2 x3 y) (x3 y) := by
  unfold out0_7
  rw [View.canon_unit_zero zz]
  repeat rw [View.ld_unit_zero zz]
  generalize k0_pay5 x0 x1 x2 x3 = a
  rfl

end

theorem idx0 : ∀ t : Fin cfg0.N, win0_0.index t = ![0, t.val, 0] :=
  (by decide +kernel : ∀ t : Fin grid0.N, win0_0.index t = ![0, t.val, 0])
theorem idx1 : ∀ t : Fin cfg0.N, win0_1.index t = ![t.val, 0] :=
  (by decide +kernel : ∀ t : Fin grid0.N, win0_1.index t = ![t.val, 0])
theorem idx2 : ∀ t : Fin cfg0.N, win0_2.index t = ![t.val, 0] :=
  (by decide +kernel : ∀ t : Fin grid0.N, win0_2.index t = ![t.val, 0])
theorem idx3 : ∀ t : Fin cfg0.N, win0_3.index t = ![t.val, 0] :=
  (by decide +kernel : ∀ t : Fin grid0.N, win0_3.index t = ![t.val, 0])
theorem idx4 : ∀ t : Fin cfg0.N, win0_4.index t = ![t.val, 0] :=
  (by decide +kernel : ∀ t : Fin grid0.N, win0_4.index t = ![t.val, 0])
theorem idx5 : ∀ t : Fin cfg0.N, win0_5.index t = ![t.val, 0] :=
  (by decide +kernel : ∀ t : Fin grid0.N, win0_5.index t = ![t.val, 0])
theorem idx6 : ∀ t : Fin cfg0.N, win0_6.index t = ![t.val, 0] :=
  (by decide +kernel : ∀ t : Fin grid0.N, win0_6.index t = ![t.val, 0])
theorem idx7 : ∀ t : Fin cfg0.N, win0_7.index t = ![t.val, 0] :=
  (by decide +kernel : ∀ t : Fin grid0.N, win0_7.index t = ![t.val, 0])
theorem pts : cfg0.N = 4 := (by decide +kernel : grid0.N = 4)

/-- A row of the whole from a block's. -/
abbrev at' (t : Fin cfg0.N) (q : Fin 64) : Fin 256 := ⟨64 * t.val + q.val, by have : t.val < 4 := pts ▸ t.isLt; omega⟩

section
variable (y0 : Vec Ideal S8x256x64 .bf16) (y1 y2 y3 : Vec Ideal S256x64 .f32)

theorem g_at (r : Fin 256) (j : Fin 64) : Cert.AdamKvReferenceIdeal.Read.val_main_v1 (F := Ideal) y0 (ix2 r j) = ∑ k : Fin 8, y0 (ix3 k r j) := by
  rw [Cert.AdamKvReferenceIdeal.Read.val_main_v1_apply]
  have hz : Cert.AdamKvReferenceIdeal.Read.val_main_cst (F := Ideal) (Shape.Idx.first Cert.AdamKvReferenceIdeal.Facts₀.h_S_) = 0 := by
    pointwise [Cert.AdamKvReferenceIdeal.Read.val_main_cst]
  refine (congrArg₂ (· + ·) hz (Finset.sum_congr rfl fun k _ => ?_)).trans (zero_add _)
  exact congrArg y0 (funext fun a => by fin_cases a <;> rfl)

theorem d_at (i : S256x64.Idx) : Cert.AdamKvReferenceIdeal.Read.val_main_v25 (F := Ideal) y0 y1 y2 y3 i = dl (Cert.AdamKvReferenceIdeal.Read.val_main_v1 (F := Ideal) y0 i) (y1 i) (y2 i) (y3 i) := rfl

theorem m_at (i : S256x64.Idx) : Cert.AdamKvReferenceIdeal.Read.val_main_v6 (F := Ideal) y0 y2 i = nm (Cert.AdamKvReferenceIdeal.Read.val_main_v1 (F := Ideal) y0 i) (y2 i) := rfl

theorem v_at (i : S256x64.Idx) : Cert.AdamKvReferenceIdeal.Read.val_main_v12 (F := Ideal) y0 y3 i = nv (Cert.AdamKvReferenceIdeal.Read.val_main_v1 (F := Ideal) y0 i) (y3 i) := rfl

end

variable (m : (ℓ : Loc nD τ sig) → Buf (Elt Ideal) ℓ) (c : Dev nD)

abbrev y0 : Vec Ideal S8x256x64 .bf16 := m ((c : Thread nD τ).loc main_arg0)

abbrev y1 : Vec Ideal S256x64 .f32 := m ((c : Thread nD τ).loc main_arg1)

abbrev y2 : Vec Ideal S256x64 .f32 := m ((c : Thread nD τ).loc main_arg2)

abbrev y3 : Vec Ideal S256x64 .f32 := m ((c : Thread nD τ).loc main_arg3)

theorem b0 (t : Fin cfg0.N) (k : Fin 8) (q : Fin 64) (j : Fin 64) : (iblk m c 0 t : Vec Ideal S8x64x64 .bf16) (ix3 k q j) = y0 m c (ix3 k (at' t q) j) := by
  refine Eq.trans ?_ (congrFun (V_main_arg0 m c) (ix3 k (at' t q) j))
  blk_ext [iblk, idx0 t]

theorem b1 (t : Fin cfg0.N) (q : Fin 64) (j : Fin 64) : (iblk m c 1 t : Vec Ideal S64x64 .f32) (ix2 q j) = y1 m c (ix2 (at' t q) j) := by
  refine Eq.trans ?_ (congrFun (V_main_arg1 m c) (ix2 (at' t q) j))
  blk_ext [iblk, idx1 t]

theorem b2 (t : Fin cfg0.N) (q : Fin 64) (j : Fin 64) : (iblk m c 2 t : Vec Ideal S64x64 .f32) (ix2 q j) = y2 m c (ix2 (at' t q) j) := by
  refine Eq.trans ?_ (congrFun (V_main_arg2 m c) (ix2 (at' t q) j))
  blk_ext [iblk, idx2 t]

theorem b3 (t : Fin cfg0.N) (q : Fin 64) (j : Fin 64) : (iblk m c 3 t : Vec Ideal S64x64 .f32) (ix2 q j) = y3 m c (ix2 (at' t q) j) := by
  refine Eq.trans ?_ (congrFun (V_main_arg3 m c) (ix2 (at' t q) j))
  blk_ext [iblk, idx3 t]

theorem emb4 (t : Fin cfg0.N) (q : Fin 64) (j : Fin 64) :
    ((win0_4.blk t).view.emb (ix2 q j : S64x64.Idx) : S256x64.Idx) = ix2 (at' t q) j := by
  blk_ext [idx4 t]

theorem emb5 (t : Fin cfg0.N) (q : Fin 64) (j : Fin 64) :
    ((win0_5.blk t).view.emb (ix2 q j : S64x64.Idx) : S256x64.Idx) = ix2 (at' t q) j := by
  blk_ext [idx5 t]

theorem emb6 (t : Fin cfg0.N) (q : Fin 64) (j : Fin 64) :
    ((win0_6.blk t).view.emb (ix2 q j : S64x64.Idx) : S256x64.Idx) = ix2 (at' t q) j := by
  blk_ext [idx6 t]

theorem emb7 (t : Fin cfg0.N) (q : Fin 64) (j : Fin 64) :
    ((win0_7.blk t).view.emb (ix2 q j : S64x64.Idx) : S256x64.Idx) = ix2 (at' t q) j := by
  blk_ext [idx7 t]

theorem g_blk (t : Fin cfg0.N) (q : Fin 64) (j : Fin 64) :
    k0_pay5 (iblk m c 0 t) (iblk m c 1 t) (iblk m c 2 t) (iblk m c 3 t) (ix2 q j) = Cert.AdamKvReferenceIdeal.Read.val_main_v1 (F := Ideal) (y0 m c) (ix2 (at' t q) j) := by
  refine (pay5_at _ _ _ _ q j).trans (Eq.trans ?_ (g_at (y0 m c) (at' t q) j).symm)
  exact Finset.sum_congr rfl fun k _ => b0 m c t k q j

theorem arr4 : (dats m 0 c).arrAt 4 cfg0.N = Cert.AdamKvReferenceIdeal.Read.val_main_v1 (F := Ideal) (y0 m c) := by
  refine (dats m 0 c).arrAt_eq_of_covers 4 _ (by decide +kernel) fun t hf y => ?_
  blk_simp
  rw [after0_4]
  revert y
  suffices h : ∀ y : S64x64.Idx, (out0_4 (iblk m c 0 t) (iblk m c 1 t) (iblk m c 2 t) (iblk m c 3 t)) y = Cert.AdamKvReferenceIdeal.Read.val_main_v1 (F := Ideal) (y0 m c) ((win0_4.blk t).view.emb y) from h
  intro y
  obtain ⟨q, j, rfl⟩ : ∃ (q : Fin 64) (j : Fin 64), y = ix2 q j := ⟨y 0, y 1, eq_ix2 y⟩
  rw [emb4 t q j, out4_eq]
  exact g_blk m c t q j

theorem arr5 : (dats m 0 c).arrAt 5 cfg0.N = Cert.AdamKvReferenceIdeal.Read.val_main_v25 (F := Ideal) (y0 m c) (y1 m c) (y2 m c) (y3 m c) := by
  refine (dats m 0 c).arrAt_eq_of_covers 5 _ (by decide +kernel) fun t hf y => ?_
  blk_simp
  rw [after0_5]
  revert y
  suffices h : ∀ y : S64x64.Idx, (out0_5 (iblk m c 0 t) (iblk m c 1 t) (iblk m c 2 t) (iblk m c 3 t)) y = Cert.AdamKvReferenceIdeal.Read.val_main_v25 (F := Ideal) (y0 m c) (y1 m c) (y2 m c) (y3 m c) ((win0_5.blk t).view.emb y) from h
  intro y
  obtain ⟨q, j, rfl⟩ : ∃ (q : Fin 64) (j : Fin 64), y = ix2 q j := ⟨y 0, y 1, eq_ix2 y⟩
  rw [emb5 t q j, out5_at, d_at, g_blk m c t q j, b1 m c t q j, b2 m c t q j, b3 m c t q j]

theorem arr6 : (dats m 0 c).arrAt 6 cfg0.N = Cert.AdamKvReferenceIdeal.Read.val_main_v6 (F := Ideal) (y0 m c) (y2 m c) := by
  refine (dats m 0 c).arrAt_eq_of_covers 6 _ (by decide +kernel) fun t hf y => ?_
  blk_simp
  rw [after0_6]
  revert y
  suffices h : ∀ y : S64x64.Idx, (out0_6 (iblk m c 0 t) (iblk m c 1 t) (iblk m c 2 t) (iblk m c 3 t)) y = Cert.AdamKvReferenceIdeal.Read.val_main_v6 (F := Ideal) (y0 m c) (y2 m c) ((win0_6.blk t).view.emb y) from h
  intro y
  obtain ⟨q, j, rfl⟩ : ∃ (q : Fin 64) (j : Fin 64), y = ix2 q j := ⟨y 0, y 1, eq_ix2 y⟩
  rw [emb6 t q j, out6_at, m_at, g_blk m c t q j, b2 m c t q j]

theorem arr7 : (dats m 0 c).arrAt 7 cfg0.N = Cert.AdamKvReferenceIdeal.Read.val_main_v12 (F := Ideal) (y0 m c) (y3 m c) := by
  refine (dats m 0 c).arrAt_eq_of_covers 7 _ (by decide +kernel) fun t hf y => ?_
  blk_simp
  rw [after0_7]
  revert y
  suffices h : ∀ y : S64x64.Idx, (out0_7 (iblk m c 0 t) (iblk m c 1 t) (iblk m c 2 t) (iblk m c 3 t)) y = Cert.AdamKvReferenceIdeal.Read.val_main_v12 (F := Ideal) (y0 m c) (y3 m c) ((win0_7.blk t).view.emb y) from h
  intro y
  obtain ⟨q, j, rfl⟩ : ∃ (q : Fin 64) (j : Fin 64), y = ix2 q j := ⟨y 0, y 1, eq_ix2 y⟩
  rw [emb7 t q j, out7_at, v_at, g_blk m c t q j, b3 m c t q j]

end Cert.AdamStep.Kv

end
-- ==== Proof.Adam.In.lean ====
/- The optimiser's step on the first weight: what the call returns is what the reference returns. -/
module

public import proofs.«01_k».proof.Proof.Gen.AdamInIdeal.Value
public import proofs.«01_k».proof.Proof.Gen.AdamInReferenceIdeal.Read
public import proofs.«01_k».proof.Proof.Adam.Basic
public import Idealize.ShloMosaic.Lib.Pipeline.ValueKit
public import Idealize.ShloMosaic.Lib.StableHlo.ReadAt

@[expose] public section

set_option maxRecDepth 16384

noncomputable section

namespace Cert.AdamStep.In

open Idealize.ShloMosaic Idealize.SL.Sem Idealize.ShloMosaic.TcCoe Cert.Proj
open Cert.AdamInIdeal Cert.AdamInIdeal.Gen

theorem zz : (![0, 0] : Fin 2 → ℕ) = fun _ => 0 := by
  funext a
  match a with
  | ⟨0, _⟩ => rfl
  | ⟨1, _⟩ => rfl

section
variable (x0 : Vec Ideal S8x64x3328 .bf16) (x1 x2 x3 : Vec Ideal S64x3328 .f32)

theorem ld0 (q : Fin 64) (j : Fin 3328) : View.ld x0 r0_0 (ix3 (0 : Fin 1) q j) = x0 (ix3 (0 : Fin 8) q j) :=
  View.ld_unit_apply_of _ _ _ _ _ _ fun a => match a with
    | ⟨0, _⟩ => rfl
    | ⟨1, _⟩ => (Nat.zero_add _).symm
    | ⟨2, _⟩ => (Nat.zero_add _).symm

theorem ld1 (q : Fin 64) (j : Fin 3328) : View.ld x0 r0_1 (ix3 (0 : Fin 1) q j) = x0 (ix3 (1 : Fin 8) q j) :=
  View.ld_unit_apply_of _ _ _ _ _ _ fun a => match a with
    | ⟨0, _⟩ => rfl
    | ⟨1, _⟩ => (Nat.zero_add _).symm
    | ⟨2, _⟩ => (Nat.zero_add _).symm

theorem ld2 (q : Fin 64) (j : Fin 3328) : View.ld x0 r0_2 (ix3 (0 : Fin 1) q j) = x0 (ix3 (2 : Fin 8) q j) :=
  View.ld_unit_apply_of _ _ _ _ _ _ fun a => match a with
    | ⟨0, _⟩ => rfl
    | ⟨1, _⟩ => (Nat.zero_add _).symm
    | ⟨2, _⟩ => (Nat.zero_add _).symm

theorem ld3 (q : Fin 64) (j : Fin 3328) : View.ld x0 r0_3 (ix3 (0 : Fin 1) q j) = x0 (ix3 (3 : Fin 8) q j) :=
  View.ld_unit_apply_of _ _ _ _ _ _ fun a => match a with
    | ⟨0, _⟩ => rfl
    | ⟨1, _⟩ => (Nat.zero_add _).symm
    | ⟨2, _⟩ => (Nat.zero_add _).symm

theorem ld4 (q : Fin 64) (j : Fin 3328) : View.ld x0 r0_4 (ix3 (0 : Fin 1) q j) = x0 (ix3 (4 : Fin 8) q j) :=
  View.ld_unit_apply_of _ _ _ _ _ _ fun a => match a with
    | ⟨0, _⟩ => rfl
    | ⟨1, _⟩ => (Nat.zero_add _).symm
    | ⟨2, _⟩ => (Nat.zero_add _).symm

theorem ld5 (q : Fin 64) (j : Fin 3328) : View.ld x0 r0_5 (ix3 (0 : Fin 1) q j) = x0 (ix3 (5 : Fin 8) q j) :=
  View.ld_unit_apply_of _ _ _ _ _ _ fun a => match a with
    | ⟨0, _⟩ => rfl
    | ⟨1, _⟩ => (Nat.zero_add _).symm
    | ⟨2, _⟩ => (Nat.zero_add _).symm

theorem ld6 (q : Fin 64) (j : Fin 3328) : View.ld x0 r0_6 (ix3 (0 : Fin 1) q j) = x0 (ix3 (6 : Fin 8) q j) :=
  View.ld_unit_apply_of _ _ _ _ _ _ fun a => match a with
    | ⟨0, _⟩ => rfl
    | ⟨1, _⟩ => (Nat.zero_add _).symm
    | ⟨2, _⟩ => (Nat.zero_add _).symm

theorem ld7 (q : Fin 64) (j : Fin 3328) : View.ld x0 r0_7 (ix3 (0 : Fin 1) q j) = x0 (ix3 (7 : Fin 8) q j) :=
  View.ld_unit_apply_of _ _ _ _ _ _ fun a => match a with
    | ⟨0, _⟩ => rfl
    | ⟨1, _⟩ => (Nat.zero_add _).symm
    | ⟨2, _⟩ => (Nat.zero_add _).symm

theorem pay4_at (a0 a1 a2 a3 a4 a5 a6 a7 : Vec Ideal S1x64x3328 .bf16) (q : Fin 64) (j : Fin 3328) :
    k0_pay4 a0 a1 a2 a3 a4 a5 a6 a7 (ix2 q j) = a0 (ix3 (0 : Fin 1) q j) + a1 (ix3 (0 : Fin 1) q j) + a2 (ix3 (0 : Fin 1) q j) + a3 (ix3 (0 : Fin 1) q j) + a4 (ix3 (0 : Fin 1) q j) + a5 (ix3 (0 : Fin 1) q j) + a6 (ix3 (0 : Fin 1) q j) + a7 (ix3 (0 : Fin 1) q j) := by
  pointwise [k0_pay4]

theorem pay5_at (q : Fin 64) (j : Fin 3328) : k0_pay5 x0 x1 x2 x3 (ix2 q j) = ∑ k : Fin 8, x0 (ix3 k q j) := by
  unfold k0_pay5
  rw [pay4_at, ld0, ld1, ld2, ld3, ld4, ld5, ld6, ld7]
  exact sum8 fun k => x0 (ix3 k q j)

theorem out4_eq : out0_4 x0 x1 x2 x3 = k0_pay5 x0 x1 x2 x3 := by
  unfold out0_4
  rw [View.canon_unit_zero zz]

theorem out5_at (y : S64x3328.Idx) : out0_5 x0 x1 x2 x3 y = dl (k0_pay5 x0 x1 x2 x3 y) (x1 y) (x2 y) (x3 y) := by
  unfold out0_5
  rw [View.canon_unit_zero zz]
  repeat rw [View.ld_unit_zero zz]
  generalize k0_pay5 x0 x1 x2 x3 = a
  rfl

theorem out6_at (y : S64x3328.Idx) : out0_6 x0 x1 x2 x3 y = nm (k0_pay5 x0 x1 x2 x3 y) (x2 y) := by
  unfold out0_6
  rw [View.canon_unit_zero zz]
  repeat rw [View.ld_unit_zero zz]
  generalize k0_pay5 x0 x1 x2 x3 = a
  rfl

theorem out7_at (y : S64x3328.Idx) : out0_7 x0 x1 x2 x3 y = nv (k0_pay5 x0 x1 x2 x3 y) (x3 y) := by
  unfold out0_7
  rw [View.canon_unit_zero zz]
  repeat rw [View.ld_unit_zero zz]
  generalize k0_pay5 x0 x1 x2 x3 = a
  rfl

end

theorem idx0 : ∀ t : Fin cfg0.N, win0_0.index t = ![0, t.val, 0] :=
  (by decide +kernel : ∀ t : Fin grid0.N, win0_0.index t = ![0, t.val, 0])
theorem idx1 : ∀ t : Fin cfg0.N, win0_1.index t = ![t.val, 0] :=
  (by decide +kernel : ∀ t : Fin grid0.N, win0_1.index t = ![t.val, 0])
theorem idx2 : ∀ t : Fin cfg0.N, win0_2.index t = ![t.val, 0] :=
  (by decide +kernel : ∀ t : Fin grid0.N, win0_2.index t = ![t.val, 0])
theorem idx3 : ∀ t : Fin cfg0.N, win0_3.index t = ![t.val, 0] :=
  (by decide +kernel : ∀ t : Fin grid0.N, win0_3.index t = ![t.val, 0])
theorem idx4 : ∀ t : Fin cfg0.N, win0_4.index t = ![t.val, 0] :=
  (by decide +kernel : ∀ t : Fin grid0.N, win0_4.index t = ![t.val, 0])
theorem idx5 : ∀ t : Fin cfg0.N, win0_5.index t = ![t.val, 0] :=
  (by decide +kernel : ∀ t : Fin grid0.N, win0_5.index t = ![t.val, 0])
theorem idx6 : ∀ t : Fin cfg0.N, win0_6.index t = ![t.val, 0] :=
  (by decide +kernel : ∀ t : Fin grid0.N, win0_6.index t = ![t.val, 0])
theorem idx7 : ∀ t : Fin cfg0.N, win0_7.index t = ![t.val, 0] :=
  (by decide +kernel : ∀ t : Fin grid0.N, win0_7.index t = ![t.val, 0])
theorem pts : cfg0.N = 4 := (by decide +kernel : grid0.N = 4)

/-- A row of the whole from a block's. -/
abbrev at' (t : Fin cfg0.N) (q : Fin 64) : Fin 256 := ⟨64 * t.val + q.val, by have : t.val < 4 := pts ▸ t.isLt; omega⟩

section
variable (y0 : Vec Ideal S8x256x3328 .bf16) (y1 y2 y3 : Vec Ideal S256x3328 .f32)

theorem g_at (r : Fin 256) (j : Fin 3328) : Cert.AdamInReferenceIdeal.Read.val_main_v1 (F := Ideal) y0 (ix2 r j) = ∑ k : Fin 8, y0 (ix3 k r j) := by
  rw [Cert.AdamInReferenceIdeal.Read.val_main_v1_apply]
  have hz : Cert.AdamInReferenceIdeal.Read.val_main_cst (F := Ideal) (Shape.Idx.first Cert.AdamInReferenceIdeal.Facts₀.h_S_) = 0 := by
    pointwise [Cert.AdamInReferenceIdeal.Read.val_main_cst]
  refine (congrArg₂ (· + ·) hz (Finset.sum_congr rfl fun k _ => ?_)).trans (zero_add _)
  exact congrArg y0 (funext fun a => by fin_cases a <;> rfl)

theorem d_at (i : S256x3328.Idx) : Cert.AdamInReferenceIdeal.Read.val_main_v25 (F := Ideal) y0 y1 y2 y3 i = dl (Cert.AdamInReferenceIdeal.Read.val_main_v1 (F := Ideal) y0 i) (y1 i) (y2 i) (y3 i) := rfl

theorem m_at (i : S256x3328.Idx) : Cert.AdamInReferenceIdeal.Read.val_main_v6 (F := Ideal) y0 y2 i = nm (Cert.AdamInReferenceIdeal.Read.val_main_v1 (F := Ideal) y0 i) (y2 i) := rfl

theorem v_at (i : S256x3328.Idx) : Cert.AdamInReferenceIdeal.Read.val_main_v12 (F := Ideal) y0 y3 i = nv (Cert.AdamInReferenceIdeal.Read.val_main_v1 (F := Ideal) y0 i) (y3 i) := rfl

end

variable (m : (ℓ : Loc nD τ sig) → Buf (Elt Ideal) ℓ) (c : Dev nD)

abbrev y0 : Vec Ideal S8x256x3328 .bf16 := m ((c : Thread nD τ).loc main_arg0)

abbrev y1 : Vec Ideal S256x3328 .f32 := m ((c : Thread nD τ).loc main_arg1)

abbrev y2 : Vec Ideal S256x3328 .f32 := m ((c : Thread nD τ).loc main_arg2)

abbrev y3 : Vec Ideal S256x3328 .f32 := m ((c : Thread nD τ).loc main_arg3)

theorem b0 (t : Fin cfg0.N) (k : Fin 8) (q : Fin 64) (j : Fin 3328) : (iblk m c 0 t : Vec Ideal S8x64x3328 .bf16) (ix3 k q j) = y0 m c (ix3 k (at' t q) j) := by
  refine Eq.trans ?_ (congrFun (V_main_arg0 m c) (ix3 k (at' t q) j))
  blk_ext [iblk, idx0 t]

theorem b1 (t : Fin cfg0.N) (q : Fin 64) (j : Fin 3328) : (iblk m c 1 t : Vec Ideal S64x3328 .f32) (ix2 q j) = y1 m c (ix2 (at' t q) j) := by
  refine Eq.trans ?_ (congrFun (V_main_arg1 m c) (ix2 (at' t q) j))
  blk_ext [iblk, idx1 t]

theorem b2 (t : Fin cfg0.N) (q : Fin 64) (j : Fin 3328) : (iblk m c 2 t : Vec Ideal S64x3328 .f32) (ix2 q j) = y2 m c (ix2 (at' t q) j) := by
  refine Eq.trans ?_ (congrFun (V_main_arg2 m c) (ix2 (at' t q) j))
  blk_ext [iblk, idx2 t]

theorem b3 (t : Fin cfg0.N) (q : Fin 64) (j : Fin 3328) : (iblk m c 3 t : Vec Ideal S64x3328 .f32) (ix2 q j) = y3 m c (ix2 (at' t q) j) := by
  refine Eq.trans ?_ (congrFun (V_main_arg3 m c) (ix2 (at' t q) j))
  blk_ext [iblk, idx3 t]

theorem emb4 (t : Fin cfg0.N) (q : Fin 64) (j : Fin 3328) :
    ((win0_4.blk t).view.emb (ix2 q j : S64x3328.Idx) : S256x3328.Idx) = ix2 (at' t q) j := by
  blk_ext [idx4 t]

theorem emb5 (t : Fin cfg0.N) (q : Fin 64) (j : Fin 3328) :
    ((win0_5.blk t).view.emb (ix2 q j : S64x3328.Idx) : S256x3328.Idx) = ix2 (at' t q) j := by
  blk_ext [idx5 t]

theorem emb6 (t : Fin cfg0.N) (q : Fin 64) (j : Fin 3328) :
    ((win0_6.blk t).view.emb (ix2 q j : S64x3328.Idx) : S256x3328.Idx) = ix2 (at' t q) j := by
  blk_ext [idx6 t]

theorem emb7 (t : Fin cfg0.N) (q : Fin 64) (j : Fin 3328) :
    ((win0_7.blk t).view.emb (ix2 q j : S64x3328.Idx) : S256x3328.Idx) = ix2 (at' t q) j := by
  blk_ext [idx7 t]

theorem g_blk (t : Fin cfg0.N) (q : Fin 64) (j : Fin 3328) :
    k0_pay5 (iblk m c 0 t) (iblk m c 1 t) (iblk m c 2 t) (iblk m c 3 t) (ix2 q j) = Cert.AdamInReferenceIdeal.Read.val_main_v1 (F := Ideal) (y0 m c) (ix2 (at' t q) j) := by
  refine (pay5_at _ _ _ _ q j).trans (Eq.trans ?_ (g_at (y0 m c) (at' t q) j).symm)
  exact Finset.sum_congr rfl fun k _ => b0 m c t k q j

theorem arr4 : (dats m 0 c).arrAt 4 cfg0.N = Cert.AdamInReferenceIdeal.Read.val_main_v1 (F := Ideal) (y0 m c) := by
  refine (dats m 0 c).arrAt_eq_of_covers 4 _ (by decide +kernel) fun t hf y => ?_
  blk_simp
  rw [after0_4]
  revert y
  suffices h : ∀ y : S64x3328.Idx, (out0_4 (iblk m c 0 t) (iblk m c 1 t) (iblk m c 2 t) (iblk m c 3 t)) y = Cert.AdamInReferenceIdeal.Read.val_main_v1 (F := Ideal) (y0 m c) ((win0_4.blk t).view.emb y) from h
  intro y
  obtain ⟨q, j, rfl⟩ : ∃ (q : Fin 64) (j : Fin 3328), y = ix2 q j := ⟨y 0, y 1, eq_ix2 y⟩
  rw [emb4 t q j, out4_eq]
  exact g_blk m c t q j

theorem arr5 : (dats m 0 c).arrAt 5 cfg0.N = Cert.AdamInReferenceIdeal.Read.val_main_v25 (F := Ideal) (y0 m c) (y1 m c) (y2 m c) (y3 m c) := by
  refine (dats m 0 c).arrAt_eq_of_covers 5 _ (by decide +kernel) fun t hf y => ?_
  blk_simp
  rw [after0_5]
  revert y
  suffices h : ∀ y : S64x3328.Idx, (out0_5 (iblk m c 0 t) (iblk m c 1 t) (iblk m c 2 t) (iblk m c 3 t)) y = Cert.AdamInReferenceIdeal.Read.val_main_v25 (F := Ideal) (y0 m c) (y1 m c) (y2 m c) (y3 m c) ((win0_5.blk t).view.emb y) from h
  intro y
  obtain ⟨q, j, rfl⟩ : ∃ (q : Fin 64) (j : Fin 3328), y = ix2 q j := ⟨y 0, y 1, eq_ix2 y⟩
  rw [emb5 t q j, out5_at, d_at, g_blk m c t q j, b1 m c t q j, b2 m c t q j, b3 m c t q j]

theorem arr6 : (dats m 0 c).arrAt 6 cfg0.N = Cert.AdamInReferenceIdeal.Read.val_main_v6 (F := Ideal) (y0 m c) (y2 m c) := by
  refine (dats m 0 c).arrAt_eq_of_covers 6 _ (by decide +kernel) fun t hf y => ?_
  blk_simp
  rw [after0_6]
  revert y
  suffices h : ∀ y : S64x3328.Idx, (out0_6 (iblk m c 0 t) (iblk m c 1 t) (iblk m c 2 t) (iblk m c 3 t)) y = Cert.AdamInReferenceIdeal.Read.val_main_v6 (F := Ideal) (y0 m c) (y2 m c) ((win0_6.blk t).view.emb y) from h
  intro y
  obtain ⟨q, j, rfl⟩ : ∃ (q : Fin 64) (j : Fin 3328), y = ix2 q j := ⟨y 0, y 1, eq_ix2 y⟩
  rw [emb6 t q j, out6_at, m_at, g_blk m c t q j, b2 m c t q j]

theorem arr7 : (dats m 0 c).arrAt 7 cfg0.N = Cert.AdamInReferenceIdeal.Read.val_main_v12 (F := Ideal) (y0 m c) (y3 m c) := by
  refine (dats m 0 c).arrAt_eq_of_covers 7 _ (by decide +kernel) fun t hf y => ?_
  blk_simp
  rw [after0_7]
  revert y
  suffices h : ∀ y : S64x3328.Idx, (out0_7 (iblk m c 0 t) (iblk m c 1 t) (iblk m c 2 t) (iblk m c 3 t)) y = Cert.AdamInReferenceIdeal.Read.val_main_v12 (F := Ideal) (y0 m c) (y3 m c) ((win0_7.blk t).view.emb y) from h
  intro y
  obtain ⟨q, j, rfl⟩ : ∃ (q : Fin 64) (j : Fin 3328), y = ix2 q j := ⟨y 0, y 1, eq_ix2 y⟩
  rw [emb7 t q j, out7_at, v_at, g_blk m c t q j, b3 m c t q j]

end Cert.AdamStep.In

end
-- ==== Proof.Adam.Small.lean ====
/- The optimiser's step on the small weights, packed together: what the call returns is what the reference returns. -/
module

public import proofs.«01_k».proof.Proof.Gen.AdamSmallIdeal.Value
public import proofs.«01_k».proof.Proof.Gen.AdamSmallReferenceIdeal.Read
public import proofs.«01_k».proof.Proof.Adam.Basic
public import Idealize.ShloMosaic.Lib.Pipeline.ValueKit
public import Idealize.ShloMosaic.Lib.StableHlo.ReadAt

@[expose] public section

set_option maxRecDepth 16384

noncomputable section

namespace Cert.AdamStep.Small

open Idealize.ShloMosaic Idealize.SL.Sem Idealize.ShloMosaic.TcCoe Cert.Proj
open Cert.AdamSmallIdeal Cert.AdamSmallIdeal.Gen

theorem zz : (![0, 0] : Fin 2 → ℕ) = fun _ => 0 := by
  funext a
  match a with
  | ⟨0, _⟩ => rfl
  | ⟨1, _⟩ => rfl

section
variable (x0 : Vec Ideal S8x8x128 .f32) (x1 x2 x3 : Vec Ideal S8x128 .f32)

theorem ld0 (q : Fin 8) (j : Fin 128) : View.ld x0 r0_0 (ix3 (0 : Fin 1) q j) = x0 (ix3 (0 : Fin 8) q j) :=
  View.ld_unit_apply_of _ _ _ _ _ _ fun a => match a with
    | ⟨0, _⟩ => rfl
    | ⟨1, _⟩ => (Nat.zero_add _).symm
    | ⟨2, _⟩ => (Nat.zero_add _).symm

theorem ld1 (q : Fin 8) (j : Fin 128) : View.ld x0 r0_1 (ix3 (0 : Fin 1) q j) = x0 (ix3 (1 : Fin 8) q j) :=
  View.ld_unit_apply_of _ _ _ _ _ _ fun a => match a with
    | ⟨0, _⟩ => rfl
    | ⟨1, _⟩ => (Nat.zero_add _).symm
    | ⟨2, _⟩ => (Nat.zero_add _).symm

theorem ld2 (q : Fin 8) (j : Fin 128) : View.ld x0 r0_2 (ix3 (0 : Fin 1) q j) = x0 (ix3 (2 : Fin 8) q j) :=
  View.ld_unit_apply_of _ _ _ _ _ _ fun a => match a with
    | ⟨0, _⟩ => rfl
    | ⟨1, _⟩ => (Nat.zero_add _).symm
    | ⟨2, _⟩ => (Nat.zero_add _).symm

theorem ld3 (q : Fin 8) (j : Fin 128) : View.ld x0 r0_3 (ix3 (0 : Fin 1) q j) = x0 (ix3 (3 : Fin 8) q j) :=
  View.ld_unit_apply_of _ _ _ _ _ _ fun a => match a with
    | ⟨0, _⟩ => rfl
    | ⟨1, _⟩ => (Nat.zero_add _).symm
    | ⟨2, _⟩ => (Nat.zero_add _).symm

theorem ld4 (q : Fin 8) (j : Fin 128) : View.ld x0 r0_4 (ix3 (0 : Fin 1) q j) = x0 (ix3 (4 : Fin 8) q j) :=
  View.ld_unit_apply_of _ _ _ _ _ _ fun a => match a with
    | ⟨0, _⟩ => rfl
    | ⟨1, _⟩ => (Nat.zero_add _).symm
    | ⟨2, _⟩ => (Nat.zero_add _).symm

theorem ld5 (q : Fin 8) (j : Fin 128) : View.ld x0 r0_5 (ix3 (0 : Fin 1) q j) = x0 (ix3 (5 : Fin 8) q j) :=
  View.ld_unit_apply_of _ _ _ _ _ _ fun a => match a with
    | ⟨0, _⟩ => rfl
    | ⟨1, _⟩ => (Nat.zero_add _).symm
    | ⟨2, _⟩ => (Nat.zero_add _).symm

theorem ld6 (q : Fin 8) (j : Fin 128) : View.ld x0 r0_6 (ix3 (0 : Fin 1) q j) = x0 (ix3 (6 : Fin 8) q j) :=
  View.ld_unit_apply_of _ _ _ _ _ _ fun a => match a with
    | ⟨0, _⟩ => rfl
    | ⟨1, _⟩ => (Nat.zero_add _).symm
    | ⟨2, _⟩ => (Nat.zero_add _).symm

theorem ld7 (q : Fin 8) (j : Fin 128) : View.ld x0 r0_7 (ix3 (0 : Fin 1) q j) = x0 (ix3 (7 : Fin 8) q j) :=
  View.ld_unit_apply_of _ _ _ _ _ _ fun a => match a with
    | ⟨0, _⟩ => rfl
    | ⟨1, _⟩ => (Nat.zero_add _).symm
    | ⟨2, _⟩ => (Nat.zero_add _).symm

theorem pay4_at (a0 a1 a2 a3 a4 a5 a6 a7 : Vec Ideal S1x8x128 .f32) (q : Fin 8) (j : Fin 128) :
    k0_pay3 a0 a1 a2 a3 a4 a5 a6 a7 (ix2 q j) = a0 (ix3 (0 : Fin 1) q j) + a1 (ix3 (0 : Fin 1) q j) + a2 (ix3 (0 : Fin 1) q j) + a3 (ix3 (0 : Fin 1) q j) + a4 (ix3 (0 : Fin 1) q j) + a5 (ix3 (0 : Fin 1) q j) + a6 (ix3 (0 : Fin 1) q j) + a7 (ix3 (0 : Fin 1) q j) := by
  pointwise [k0_pay3]

theorem pay5_at (q : Fin 8) (j : Fin 128) : k0_pay5 x0 x1 x2 x3 (ix2 q j) = ∑ k : Fin 8, x0 (ix3 k q j) := by
  unfold k0_pay5
  rw [pay4_at, ld0, ld1, ld2, ld3, ld4, ld5, ld6, ld7]
  exact sum8 fun k => x0 (ix3 k q j)

theorem out4_eq : out0_4 x0 x1 x2 x3 = k0_pay5 x0 x1 x2 x3 := by
  unfold out0_4
  rw [View.canon_unit_zero zz]

theorem pay6_at (y : S8x128.Idx) : k0_pay6 x0 x1 x2 x3 y = nm (k0_pay5 x0 x1 x2 x3 y) (x2 y) := by
  unfold k0_pay6 k0_pay5
  rw [View.ld_unit_zero zz]
  rfl

theorem out5_at (y : S8x128.Idx) : out0_5 x0 x1 x2 x3 y = dl (k0_pay5 x0 x1 x2 x3 y) (x1 y) (x2 y) (x3 y) := by
  unfold out0_5
  rw [View.canon_unit_zero zz]
  repeat rw [View.ld_unit_zero zz]
  have h := pay6_at x0 x1 x2 x3 y
  unfold dl
  rw [← h]
  generalize k0_pay6 x0 x1 x2 x3 = b
  generalize k0_pay5 x0 x1 x2 x3 = a
  rfl

theorem out6_at (y : S8x128.Idx) : out0_6 x0 x1 x2 x3 y = nm (k0_pay5 x0 x1 x2 x3 y) (x2 y) := by
  unfold out0_6
  rw [View.canon_unit_zero zz]
  exact pay6_at x0 x1 x2 x3 y

theorem out7_at (y : S8x128.Idx) : out0_7 x0 x1 x2 x3 y = nv (k0_pay5 x0 x1 x2 x3 y) (x3 y) := by
  unfold out0_7
  rw [View.canon_unit_zero zz]
  repeat rw [View.ld_unit_zero zz]
  generalize k0_pay5 x0 x1 x2 x3 = a
  rfl

end

theorem idx0 : ∀ t : Fin cfg0.N, win0_0.index t = ![0, t.val, 0] :=
  (by decide +kernel : ∀ t : Fin grid0.N, win0_0.index t = ![0, t.val, 0])
theorem idx1 : ∀ t : Fin cfg0.N, win0_1.index t = ![t.val, 0] :=
  (by decide +kernel : ∀ t : Fin grid0.N, win0_1.index t = ![t.val, 0])
theorem idx2 : ∀ t : Fin cfg0.N, win0_2.index t = ![t.val, 0] :=
  (by decide +kernel : ∀ t : Fin grid0.N, win0_2.index t = ![t.val, 0])
theorem idx3 : ∀ t : Fin cfg0.N, win0_3.index t = ![t.val, 0] :=
  (by decide +kernel : ∀ t : Fin grid0.N, win0_3.index t = ![t.val, 0])
theorem idx4 : ∀ t : Fin cfg0.N, win0_4.index t = ![t.val, 0] :=
  (by decide +kernel : ∀ t : Fin grid0.N, win0_4.index t = ![t.val, 0])
theorem idx5 : ∀ t : Fin cfg0.N, win0_5.index t = ![t.val, 0] :=
  (by decide +kernel : ∀ t : Fin grid0.N, win0_5.index t = ![t.val, 0])
theorem idx6 : ∀ t : Fin cfg0.N, win0_6.index t = ![t.val, 0] :=
  (by decide +kernel : ∀ t : Fin grid0.N, win0_6.index t = ![t.val, 0])
theorem idx7 : ∀ t : Fin cfg0.N, win0_7.index t = ![t.val, 0] :=
  (by decide +kernel : ∀ t : Fin grid0.N, win0_7.index t = ![t.val, 0])
theorem pts : cfg0.N = 9 := (by decide +kernel : grid0.N = 9)

/-- A row of the whole from a block's. -/
abbrev at' (t : Fin cfg0.N) (q : Fin 8) : Fin 72 := ⟨8 * t.val + q.val, by have : t.val < 9 := pts ▸ t.isLt; omega⟩

section
variable (y0 : Vec Ideal S8x72x128 .f32) (y1 y2 y3 : Vec Ideal S72x128 .f32)

theorem g_at (r : Fin 72) (j : Fin 128) : Cert.AdamSmallReferenceIdeal.Read.val_main_v0 (F := Ideal) y0 (ix2 r j) = ∑ k : Fin 8, y0 (ix3 k r j) := by
  rw [Cert.AdamSmallReferenceIdeal.Read.val_main_v0_apply]
  have hz : Cert.AdamSmallReferenceIdeal.Read.val_main_cst (F := Ideal) (Shape.Idx.first Cert.AdamSmallReferenceIdeal.Facts₀.h_S_) = 0 := by
    pointwise [Cert.AdamSmallReferenceIdeal.Read.val_main_cst]
  refine (congrArg₂ (· + ·) hz (Finset.sum_congr rfl fun k _ => ?_)).trans (zero_add _)
  exact congrArg y0 (funext fun a => by fin_cases a <;> rfl)

theorem d_at (i : S72x128.Idx) : Cert.AdamSmallReferenceIdeal.Read.val_main_v24 (F := Ideal) y0 y1 y2 y3 i = dl (Cert.AdamSmallReferenceIdeal.Read.val_main_v0 (F := Ideal) y0 i) (y1 i) (y2 i) (y3 i) := rfl

theorem m_at (i : S72x128.Idx) : Cert.AdamSmallReferenceIdeal.Read.val_main_v5 (F := Ideal) y0 y2 i = nm (Cert.AdamSmallReferenceIdeal.Read.val_main_v0 (F := Ideal) y0 i) (y2 i) := rfl

theorem v_at (i : S72x128.Idx) : Cert.AdamSmallReferenceIdeal.Read.val_main_v11 (F := Ideal) y0 y3 i = nv (Cert.AdamSmallReferenceIdeal.Read.val_main_v0 (F := Ideal) y0 i) (y3 i) := rfl

end

variable (m : (ℓ : Loc nD τ sig) → Buf (Elt Ideal) ℓ) (c : Dev nD)

abbrev y0 : Vec Ideal S8x72x128 .f32 := m ((c : Thread nD τ).loc main_arg0)

abbrev y1 : Vec Ideal S72x128 .f32 := m ((c : Thread nD τ).loc main_arg1)

abbrev y2 : Vec Ideal S72x128 .f32 := m ((c : Thread nD τ).loc main_arg2)

abbrev y3 : Vec Ideal S72x128 .f32 := m ((c : Thread nD τ).loc main_arg3)

theorem b0 (t : Fin cfg0.N) (k : Fin 8) (q : Fin 8) (j : Fin 128) : (iblk m c 0 t : Vec Ideal S8x8x128 .f32) (ix3 k q j) = y0 m c (ix3 k (at' t q) j) := by
  refine Eq.trans ?_ (congrFun (V_main_arg0 m c) (ix3 k (at' t q) j))
  blk_ext [iblk, idx0 t]

theorem b1 (t : Fin cfg0.N) (q : Fin 8) (j : Fin 128) : (iblk m c 1 t : Vec Ideal S8x128 .f32) (ix2 q j) = y1 m c (ix2 (at' t q) j) := by
  refine Eq.trans ?_ (congrFun (V_main_arg1 m c) (ix2 (at' t q) j))
  blk_ext [iblk, idx1 t]

theorem b2 (t : Fin cfg0.N) (q : Fin 8) (j : Fin 128) : (iblk m c 2 t : Vec Ideal S8x128 .f32) (ix2 q j) = y2 m c (ix2 (at' t q) j) := by
  refine Eq.trans ?_ (congrFun (V_main_arg2 m c) (ix2 (at' t q) j))
  blk_ext [iblk, idx2 t]

theorem b3 (t : Fin cfg0.N) (q : Fin 8) (j : Fin 128) : (iblk m c 3 t : Vec Ideal S8x128 .f32) (ix2 q j) = y3 m c (ix2 (at' t q) j) := by
  refine Eq.trans ?_ (congrFun (V_main_arg3 m c) (ix2 (at' t q) j))
  blk_ext [iblk, idx3 t]

theorem emb4 (t : Fin cfg0.N) (q : Fin 8) (j : Fin 128) :
    ((win0_4.blk t).view.emb (ix2 q j : S8x128.Idx) : S72x128.Idx) = ix2 (at' t q) j := by
  blk_ext [idx4 t]

theorem emb5 (t : Fin cfg0.N) (q : Fin 8) (j : Fin 128) :
    ((win0_5.blk t).view.emb (ix2 q j : S8x128.Idx) : S72x128.Idx) = ix2 (at' t q) j := by
  blk_ext [idx5 t]

theorem emb6 (t : Fin cfg0.N) (q : Fin 8) (j : Fin 128) :
    ((win0_6.blk t).view.emb (ix2 q j : S8x128.Idx) : S72x128.Idx) = ix2 (at' t q) j := by
  blk_ext [idx6 t]

theorem emb7 (t : Fin cfg0.N) (q : Fin 8) (j : Fin 128) :
    ((win0_7.blk t).view.emb (ix2 q j : S8x128.Idx) : S72x128.Idx) = ix2 (at' t q) j := by
  blk_ext [idx7 t]

theorem g_blk (t : Fin cfg0.N) (q : Fin 8) (j : Fin 128) :
    k0_pay5 (iblk m c 0 t) (iblk m c 1 t) (iblk m c 2 t) (iblk m c 3 t) (ix2 q j) = Cert.AdamSmallReferenceIdeal.Read.val_main_v0 (F := Ideal) (y0 m c) (ix2 (at' t q) j) := by
  refine (pay5_at _ _ _ _ q j).trans (Eq.trans ?_ (g_at (y0 m c) (at' t q) j).symm)
  exact Finset.sum_congr rfl fun k _ => b0 m c t k q j

theorem arr4 : (dats m 0 c).arrAt 4 cfg0.N = Cert.AdamSmallReferenceIdeal.Read.val_main_v0 (F := Ideal) (y0 m c) := by
  refine (dats m 0 c).arrAt_eq_of_covers 4 _ (by decide +kernel) fun t hf y => ?_
  blk_simp
  rw [after0_4]
  revert y
  suffices h : ∀ y : S8x128.Idx, (out0_4 (iblk m c 0 t) (iblk m c 1 t) (iblk m c 2 t) (iblk m c 3 t)) y = Cert.AdamSmallReferenceIdeal.Read.val_main_v0 (F := Ideal) (y0 m c) ((win0_4.blk t).view.emb y) from h
  intro y
  obtain ⟨q, j, rfl⟩ : ∃ (q : Fin 8) (j : Fin 128), y = ix2 q j := ⟨y 0, y 1, eq_ix2 y⟩
  rw [emb4 t q j, out4_eq]
  exact g_blk m c t q j

theorem arr5 : (dats m 0 c).arrAt 5 cfg0.N = Cert.AdamSmallReferenceIdeal.Read.val_main_v24 (F := Ideal) (y0 m c) (y1 m c) (y2 m c) (y3 m c) := by
  refine (dats m 0 c).arrAt_eq_of_covers 5 _ (by decide +kernel) fun t hf y => ?_
  blk_simp
  rw [after0_5]
  revert y
  suffices h : ∀ y : S8x128.Idx, (out0_5 (iblk m c 0 t) (iblk m c 1 t) (iblk m c 2 t) (iblk m c 3 t)) y = Cert.AdamSmallReferenceIdeal.Read.val_main_v24 (F := Ideal) (y0 m c) (y1 m c) (y2 m c) (y3 m c) ((win0_5.blk t).view.emb y) from h
  intro y
  obtain ⟨q, j, rfl⟩ : ∃ (q : Fin 8) (j : Fin 128), y = ix2 q j := ⟨y 0, y 1, eq_ix2 y⟩
  rw [emb5 t q j, out5_at, d_at, g_blk m c t q j, b1 m c t q j, b2 m c t q j, b3 m c t q j]

theorem arr6 : (dats m 0 c).arrAt 6 cfg0.N = Cert.AdamSmallReferenceIdeal.Read.val_main_v5 (F := Ideal) (y0 m c) (y2 m c) := by
  refine (dats m 0 c).arrAt_eq_of_covers 6 _ (by decide +kernel) fun t hf y => ?_
  blk_simp
  rw [after0_6]
  revert y
  suffices h : ∀ y : S8x128.Idx, (out0_6 (iblk m c 0 t) (iblk m c 1 t) (iblk m c 2 t) (iblk m c 3 t)) y = Cert.AdamSmallReferenceIdeal.Read.val_main_v5 (F := Ideal) (y0 m c) (y2 m c) ((win0_6.blk t).view.emb y) from h
  intro y
  obtain ⟨q, j, rfl⟩ : ∃ (q : Fin 8) (j : Fin 128), y = ix2 q j := ⟨y 0, y 1, eq_ix2 y⟩
  rw [emb6 t q j, out6_at, m_at, g_blk m c t q j, b2 m c t q j]

theorem arr7 : (dats m 0 c).arrAt 7 cfg0.N = Cert.AdamSmallReferenceIdeal.Read.val_main_v11 (F := Ideal) (y0 m c) (y3 m c) := by
  refine (dats m 0 c).arrAt_eq_of_covers 7 _ (by decide +kernel) fun t hf y => ?_
  blk_simp
  rw [after0_7]
  revert y
  suffices h : ∀ y : S8x128.Idx, (out0_7 (iblk m c 0 t) (iblk m c 1 t) (iblk m c 2 t) (iblk m c 3 t)) y = Cert.AdamSmallReferenceIdeal.Read.val_main_v11 (F := Ideal) (y0 m c) (y3 m c) ((win0_7.blk t).view.emb y) from h
  intro y
  obtain ⟨q, j, rfl⟩ : ∃ (q : Fin 8) (j : Fin 128), y = ix2 q j := ⟨y 0, y 1, eq_ix2 y⟩
  rw [emb7 t q j, out7_at, v_at, g_blk m c t q j, b3 m c t q j]

end Cert.AdamStep.Small

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Value
public import proofs.«01_k».proof.Proof.Gen.Forward
public import proofs.«01_k».proof.Proof.Gen.Forward.Skeleton
public import proofs.«01_k».proof.Proof.Gen.Forward.Loops
public import proofs.«01_k».proof.Proof.Gen.Forward.Launch
public import proofs.«01_k».proof.Proof.Gen.Forward.Points
public import proofs.«01_k».proof.Proof.Gen.Forward.Frame
public import proofs.«01_k».proof.Proof.Gen.ForwardIdeal
public import proofs.«01_k».proof.Proof.Gen.ForwardIdeal.Skeleton
public import proofs.«01_k».proof.Proof.Gen.ForwardIdeal.Loops
public import proofs.«01_k».proof.Proof.Gen.ForwardIdeal.Launch
public import proofs.«01_k».proof.Proof.Gen.ForwardIdeal.Points
public import proofs.«01_k».proof.Proof.Gen.ForwardIdeal.Frame
public import proofs.«01_k».proof.Proof.Gen.ForwardReferenceIdeal
public import proofs.«01_k».proof.Proof.Gen.ForwardReferenceIdeal.Run
public import proofs.«01_k».proof.Proof.Gen.ForwardReferenceIdeal.Read
public import proofs.«01_k».proof.Proof.Gen.ForwardIdeal.Value
public import proofs.«01_k».proof.Proof.Gen.Dx
public import proofs.«01_k».proof.Proof.Gen.Dx.Skeleton
public import proofs.«01_k».proof.Proof.Gen.Dx.Launch
public import proofs.«01_k».proof.Proof.Gen.Dx.Points
public import proofs.«01_k».proof.Proof.Gen.Dx.Frame
public import proofs.«01_k».proof.Proof.Gen.DxIdeal
public import proofs.«01_k».proof.Proof.Gen.DxIdeal.Skeleton
public import proofs.«01_k».proof.Proof.Gen.DxIdeal.Launch
public import proofs.«01_k».proof.Proof.Gen.DxIdeal.Points
public import proofs.«01_k».proof.Proof.Gen.DxIdeal.Frame
public import proofs.«01_k».proof.Proof.Gen.DxIdeal.Value
public import proofs.«01_k».proof.Proof.Gen.DxReferenceIdeal
public import proofs.«01_k».proof.Proof.Gen.DxReferenceIdeal.Run
public import proofs.«01_k».proof.Proof.Gen.DxReferenceIdeal.Read
public import proofs.«01_k».proof.Proof.Gen.Dw
public import proofs.«01_k».proof.Proof.Gen.Dw.Skeleton
public import proofs.«01_k».proof.Proof.Gen.Dw.Launch
public import proofs.«01_k».proof.Proof.Gen.Dw.Points
public import proofs.«01_k».proof.Proof.Gen.Dw.Frame
public import proofs.«01_k».proof.Proof.Gen.DwIdeal
public import proofs.«01_k».proof.Proof.Gen.DwIdeal.Skeleton
public import proofs.«01_k».proof.Proof.Gen.DwIdeal.Launch
public import proofs.«01_k».proof.Proof.Gen.DwIdeal.Points
public import proofs.«01_k».proof.Proof.Gen.DwIdeal.Frame
public import proofs.«01_k».proof.Proof.Gen.DwIdeal.Value
public import proofs.«01_k».proof.Proof.Gen.DwReferenceIdeal
public import proofs.«01_k».proof.Proof.Gen.DwReferenceIdeal.Run
public import proofs.«01_k».proof.Proof.Gen.DwReferenceIdeal.Read
public import proofs.«01_k».proof.Proof.Mla.Equal
public import proofs.«01_k».proof.Proof.Mla.Finite
public import proofs.«01_k».proof.Proof.Fwd.Equal
public import proofs.«01_k».proof.Proof.Gen.Split
public import proofs.«01_k».proof.Proof.Gen.Split.Skeleton
public import proofs.«01_k».proof.Proof.Gen.Split.Launch
public import proofs.«01_k».proof.Proof.Gen.Split.Points
public import proofs.«01_k».proof.Proof.Gen.Split.Frame
public import proofs.«01_k».proof.Proof.Gen.SplitIdeal
public import proofs.«01_k».proof.Proof.Gen.SplitIdeal.Skeleton
public import proofs.«01_k».proof.Proof.Gen.SplitIdeal.Launch
public import proofs.«01_k».proof.Proof.Gen.SplitIdeal.Points
public import proofs.«01_k».proof.Proof.Gen.SplitIdeal.Frame
public import proofs.«01_k».proof.Proof.Gen.Gate
public import proofs.«01_k».proof.Proof.Gen.Gate.Skeleton
public import proofs.«01_k».proof.Proof.Gen.Gate.Launch
public import proofs.«01_k».proof.Proof.Gen.Gate.Points
public import proofs.«01_k».proof.Proof.Gen.Gate.Frame
public import proofs.«01_k».proof.Proof.Gen.GateIdeal
public import proofs.«01_k».proof.Proof.Gen.GateIdeal.Skeleton
public import proofs.«01_k».proof.Proof.Gen.GateIdeal.Launch
public import proofs.«01_k».proof.Proof.Gen.GateIdeal.Points
public import proofs.«01_k».proof.Proof.Gen.GateIdeal.Frame
public import proofs.«01_k».proof.Proof.Gen.GateBack
public import proofs.«01_k».proof.Proof.Gen.GateBack.Skeleton
public import proofs.«01_k».proof.Proof.Gen.GateBack.Launch
public import proofs.«01_k».proof.Proof.Gen.GateBack.Points
public import proofs.«01_k».proof.Proof.Gen.GateBack.Frame
public import proofs.«01_k».proof.Proof.Gen.GateBackIdeal
public import proofs.«01_k».proof.Proof.Gen.GateBackIdeal.Skeleton
public import proofs.«01_k».proof.Proof.Gen.GateBackIdeal.Launch
public import proofs.«01_k».proof.Proof.Gen.GateBackIdeal.Points
public import proofs.«01_k».proof.Proof.Gen.GateBackIdeal.Frame
public import proofs.«01_k».proof.Proof.Gen.GateDw
public import proofs.«01_k».proof.Proof.Gen.GateDw.Skeleton
public import proofs.«01_k».proof.Proof.Gen.GateDw.Launch
public import proofs.«01_k».proof.Proof.Gen.GateDw.Points
public import proofs.«01_k».proof.Proof.Gen.GateDw.Frame
public import proofs.«01_k».proof.Proof.Gen.GateDwIdeal
public import proofs.«01_k».proof.Proof.Gen.GateDwIdeal.Skeleton
public import proofs.«01_k».proof.Proof.Gen.GateDwIdeal.Launch
public import proofs.«01_k».proof.Proof.Gen.GateDwIdeal.Points
public import proofs.«01_k».proof.Proof.Gen.GateDwIdeal.Frame
public import proofs.«01_k».proof.Proof.Gen.Split
public import proofs.«01_k».proof.Proof.Gen.SplitIdeal.Value
public import proofs.«01_k».proof.Proof.Gen.SplitReferenceIdeal.Read
public import proofs.«01_k».proof.Proof.Gen.Gate
public import proofs.«01_k».proof.Proof.Gen.GateIdeal.Value
public import proofs.«01_k».proof.Proof.Gen.GateReferenceIdeal.Read
public import proofs.«01_k».proof.Proof.Gen.GateBack
public import proofs.«01_k».proof.Proof.Gen.GateBackIdeal.Value
public import proofs.«01_k».proof.Proof.Gen.GateBackReferenceIdeal.Read
public import proofs.«01_k».proof.Proof.Gen.GateDw
public import proofs.«01_k».proof.Proof.Gen.GateDwIdeal.Value
public import proofs.«01_k».proof.Proof.Gen.GateDwReferenceIdeal.Read
public import proofs.«01_k».proof.Proof.Gen.Adam
public import proofs.«01_k».proof.Proof.Gen.Adam.Skeleton
public import proofs.«01_k».proof.Proof.Gen.Adam.Launch
public import proofs.«01_k».proof.Proof.Gen.Adam.Points
public import proofs.«01_k».proof.Proof.Gen.Adam.Frame
public import proofs.«01_k».proof.Proof.Gen.AdamIdeal
public import proofs.«01_k».proof.Proof.Gen.AdamIdeal.Skeleton
public import proofs.«01_k».proof.Proof.Gen.AdamIdeal.Launch
public import proofs.«01_k».proof.Proof.Gen.AdamIdeal.Points
public import proofs.«01_k».proof.Proof.Gen.AdamIdeal.Frame
public import proofs.«01_k».proof.Proof.Gen.AdamIdeal.Value
public import proofs.«01_k».proof.Proof.Gen.AdamReferenceIdeal
public import proofs.«01_k».proof.Proof.Gen.AdamReferenceIdeal.Run
public import proofs.«01_k».proof.Proof.Gen.AdamReferenceIdeal.Read
public import proofs.«01_k».proof.Proof.Gen.AdamMem
public import proofs.«01_k».proof.Proof.Gen.AdamMem.Skeleton
public import proofs.«01_k».proof.Proof.Gen.AdamMem.Launch
public import proofs.«01_k».proof.Proof.Gen.AdamMem.Points
public import proofs.«01_k».proof.Proof.Gen.AdamMem.Frame
public import proofs.«01_k».proof.Proof.Gen.AdamMemIdeal
public import proofs.«01_k».proof.Proof.Gen.AdamMemIdeal.Skeleton
public import proofs.«01_k».proof.Proof.Gen.AdamMemIdeal.Launch
public import proofs.«01_k».proof.Proof.Gen.AdamMemIdeal.Points
public import proofs.«01_k».proof.Proof.Gen.AdamMemIdeal.Frame
public import proofs.«01_k».proof.Proof.Gen.AdamMemIdeal.Value
public import proofs.«01_k».proof.Proof.Gen.AdamMemReferenceIdeal
public import proofs.«01_k».proof.Proof.Gen.AdamMemReferenceIdeal.Run
public import proofs.«01_k».proof.Proof.Gen.AdamMemReferenceIdeal.Read
public import proofs.«01_k».proof.Proof.Gen.AdamQ
public import proofs.«01_k».proof.Proof.Gen.AdamQ.Skeleton
public import proofs.«01_k».proof.Proof.Gen.AdamQ.Launch
public import proofs.«01_k».proof.Proof.Gen.AdamQ.Points
public import proofs.«01_k».proof.Proof.Gen.AdamQ.Frame
public import proofs.«01_k».proof.Proof.Gen.AdamQIdeal
public import proofs.«01_k».proof.Proof.Gen.AdamQIdeal.Skeleton
public import proofs.«01_k».proof.Proof.Gen.AdamQIdeal.Launch
public import proofs.«01_k».proof.Proof.Gen.AdamQIdeal.Points
public import proofs.«01_k».proof.Proof.Gen.AdamQIdeal.Frame
public import proofs.«01_k».proof.Proof.Gen.AdamQIdeal.Value
public import proofs.«01_k».proof.Proof.Gen.AdamQReferenceIdeal
public import proofs.«01_k».proof.Proof.Gen.AdamQReferenceIdeal.Run
public import proofs.«01_k».proof.Proof.Gen.AdamQReferenceIdeal.Read
public import proofs.«01_k».proof.Proof.Gen.AdamKv
public import proofs.«01_k».proof.Proof.Gen.AdamKv.Skeleton
public import proofs.«01_k».proof.Proof.Gen.AdamKv.Launch
public import proofs.«01_k».proof.Proof.Gen.AdamKv.Points
public import proofs.«01_k».proof.Proof.Gen.AdamKv.Frame
public import proofs.«01_k».proof.Proof.Gen.AdamKvIdeal
public import proofs.«01_k».proof.Proof.Gen.AdamKvIdeal.Skeleton
public import proofs.«01_k».proof.Proof.Gen.AdamKvIdeal.Launch
public import proofs.«01_k».proof.Proof.Gen.AdamKvIdeal.Points
public import proofs.«01_k».proof.Proof.Gen.AdamKvIdeal.Frame
public import proofs.«01_k».proof.Proof.Gen.AdamKvIdeal.Value
public import proofs.«01_k».proof.Proof.Gen.AdamKvReferenceIdeal
public import proofs.«01_k».proof.Proof.Gen.AdamKvReferenceIdeal.Run
public import proofs.«01_k».proof.Proof.Gen.AdamKvReferenceIdeal.Read
public import proofs.«01_k».proof.Proof.Gen.AdamIn
public import proofs.«01_k».proof.Proof.Gen.AdamIn.Skeleton
public import proofs.«01_k».proof.Proof.Gen.AdamIn.Launch
public import proofs.«01_k».proof.Proof.Gen.AdamIn.Points
public import proofs.«01_k».proof.Proof.Gen.AdamIn.Frame
public import proofs.«01_k».proof.Proof.Gen.AdamInIdeal
public import proofs.«01_k».proof.Proof.Gen.AdamInIdeal.Skeleton
public import proofs.«01_k».proof.Proof.Gen.AdamInIdeal.Launch
public import proofs.«01_k».proof.Proof.Gen.AdamInIdeal.Points
public import proofs.«01_k».proof.Proof.Gen.AdamInIdeal.Frame
public import proofs.«01_k».proof.Proof.Gen.AdamInIdeal.Value
public import proofs.«01_k».proof.Proof.Gen.AdamInReferenceIdeal
public import proofs.«01_k».proof.Proof.Gen.AdamInReferenceIdeal.Run
public import proofs.«01_k».proof.Proof.Gen.AdamInReferenceIdeal.Read
public import proofs.«01_k».proof.Proof.Gen.AdamSmall
public import proofs.«01_k».proof.Proof.Gen.AdamSmall.Skeleton
public import proofs.«01_k».proof.Proof.Gen.AdamSmall.Launch
public import proofs.«01_k».proof.Proof.Gen.AdamSmall.Points
public import proofs.«01_k».proof.Proof.Gen.AdamSmall.Frame
public import proofs.«01_k».proof.Proof.Gen.AdamSmallIdeal
public import proofs.«01_k».proof.Proof.Gen.AdamSmallIdeal.Skeleton
public import proofs.«01_k».proof.Proof.Gen.AdamSmallIdeal.Launch
public import proofs.«01_k».proof.Proof.Gen.AdamSmallIdeal.Points
public import proofs.«01_k».proof.Proof.Gen.AdamSmallIdeal.Frame
public import proofs.«01_k».proof.Proof.Gen.AdamSmallIdeal.Value
public import proofs.«01_k».proof.Proof.Gen.AdamSmallReferenceIdeal
public import proofs.«01_k».proof.Proof.Gen.AdamSmallReferenceIdeal.Run
public import proofs.«01_k».proof.Proof.Gen.AdamSmallReferenceIdeal.Read
public import proofs.«01_k».proof.Proof.Proj.DxEqual
public import proofs.«01_k».proof.Proof.Proj.DwEqual
public import proofs.«01_k».proof.Proof.Proj.SplitEqual
public import proofs.«01_k».proof.Proof.Gate.FwdEqual
public import proofs.«01_k».proof.Proof.Gate.BackEqual
public import proofs.«01_k».proof.Proof.Gate.DwEqual
public import proofs.«01_k».proof.Proof.Adam.Out
public import proofs.«01_k».proof.Proof.Adam.Mem
public import proofs.«01_k».proof.Proof.Adam.Q
public import proofs.«01_k».proof.Proof.Adam.Kv
public import proofs.«01_k».proof.Proof.Adam.In
public import proofs.«01_k».proof.Proof.Adam.Small
public import Idealize.ShloMosaic.Adequacy
public import Idealize.ShloMosaic.Init

@[expose] public section

noncomputable section

namespace Cert.Proof

open Idealize.ShloMosaic Idealize.SL.Sem Cert.Mla

theorem frame_reference : Cert.quiescent_ReferenceIdeal := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

theorem preserves : Cert.preserves_Kernel_KernelIdeal :=
  ⟨IdealRules.named_const.statement Cert.KernelIdeal.κ "cmul" .f32 0x3E16C740#32 _ rfl,
    IdealRules.named_const.statement Cert.KernelIdeal.κ "mask" .f32 0xF149F2CA#32 ⊥ rfl⟩

theorem algebraic : Cert.algebraic_KernelIdeal_ReferenceIdeal_pre_finite (hPre_finite := pre_facts) := by
  intro m ρ m' ρ' hpre hagree
  refine ⟨fun c => gq (heads m c), fun c => gk (heads m c), fun c => gv (heads m c), ?_, ?_⟩
  · refine (θ_run Cert.KernelIdeal.defs _ _).mono (fun _ h c => ?_) (Cert.KernelIdeal.Value.run_blocks (F := Ideal) m ρ)
    obtain ⟨f0, f1, f2, f3⟩ := finite_args hpre c
    have hV := given f0 f1 f2 f3
    exact ⟨(h c).1.trans (arr7 hV), (h c).2.1.trans (arr8 hV), (h c).2.2.1.trans (arr9 hV), (h c).2.2.2⟩
  · refine (θ_run Cert.ReferenceIdeal.defs _ _).mono (fun _ h c => ?_) (Cert.ReferenceIdeal.Value.run (F := Ideal) m' ρ')
    obtain ⟨f0, f1, f2, f3⟩ := finite_args hpre c
    obtain ⟨e0, e1, e2, e3⟩ := hagree c
    refine ⟨(h c).1.trans ?_, (h c).2.1.trans ?_, (h c).2.2.1.trans ?_, (h c).2.2.2⟩
    · rw [Cert.ReferenceIdeal.Read.val_main_v64_eq, e0, e1, e2, e3]
      exact (gq_eq f0 f1 f2 f3).symm
    · rw [Cert.ReferenceIdeal.Read.val_main_v66_eq, e0, e1, e2, e3]
      exact (gk_eq f0 f1 f2 f3).symm
    · rw [Cert.ReferenceIdeal.Read.val_main_v67_eq, e0, e1, e3]
      exact (gv_eq f0 f1 f3).symm

theorem frame_forward_reference : Cert.quiescent_ForwardReferenceIdeal := fun m ρ _ =>
  (θ_run Cert.ForwardReferenceIdeal.defs _ _).mono (fun r h => ⟨fun c => (h c).2.2,
      Idealize.ShloMosaic.sem_eq_zero_of_no_sems (by decide) r.2⟩)
    (Cert.ForwardReferenceIdeal.Value.run (F := Ideal) m ρ)

theorem preserves_forward : Cert.preserves_Forward_ForwardIdeal :=
  ⟨IdealRules.named_const.statement Cert.ForwardIdeal.κ "mask" .f32 0xF149F2CA#32 ⊥ rfl,
    IdealRules.named_const.statement Cert.ForwardIdeal.κ "cmul" .f32 0x3E16C740#32 _ rfl,
    IdealRules.named_const.statement Cert.ForwardIdeal.κ "log2e" .f32 0x3FB8AA3B#32 _ rfl⟩

theorem algebraic_forward : Cert.algebraic_ForwardIdeal_ForwardReferenceIdeal_pre_finite_scores
    (hPre_finite_scores := Cert.Fwd.pre_facts) := by
  intro m ρ m' ρ' hpre hagree
  refine ⟨fun c => Cert.Fwd.go (Cert.Fwd.heads m c), fun c => Cert.Fwd.gl (Cert.Fwd.heads m c), ?_, ?_⟩
  · refine (θ_run Cert.ForwardIdeal.defs _ _).mono (fun _ h c => ?_) (Cert.ForwardIdeal.Value.run_blocks (F := Ideal) m ρ)
    obtain ⟨f0, f1⟩ := Cert.Fwd.finite_args hpre c
    have hV := Cert.Fwd.given f0 f1
    exact ⟨(h c).1.trans (Cert.Fwd.arr3 hV), (h c).2.1.trans (Cert.Fwd.arr4 hV), (h c).2.2⟩
  · refine (θ_run Cert.ForwardReferenceIdeal.defs _ _).mono (fun _ h c => ?_) (Cert.ForwardReferenceIdeal.Value.run (F := Ideal) m' ρ')
    obtain ⟨f0, f1⟩ := Cert.Fwd.finite_args hpre c
    obtain ⟨e0, e1, e2⟩ := hagree c
    refine ⟨(h c).1.trans ?_, (h c).2.1.trans ?_, (h c).2.2⟩
    · rw [Cert.ForwardReferenceIdeal.Read.val_main_v42_eq, e0, e1, e2]
      exact (Cert.Fwd.go_eq f0 f1).symm
    · rw [Cert.ForwardReferenceIdeal.Read.val_main_v46_eq, e0, e1]
      exact (Cert.Fwd.gl_eq f0 f1).symm

theorem frame_dx_reference : Cert.quiescent_DxReferenceIdeal := fun m ρ _ =>
  (θ_run Cert.DxReferenceIdeal.defs _ _).mono (fun r h => ⟨fun c => (h c).2.2,
      Idealize.ShloMosaic.sem_eq_zero_of_no_sems (by decide) r.2⟩)
    (Cert.DxReferenceIdeal.Value.run (F := Ideal) m ρ)

theorem algebraic_dx : Cert.algebraic_DxIdeal_DxReferenceIdeal := by
  intro m ρ m' ρ' _ hagree
  refine ⟨fun c => Cert.Proj.Dx.gx (Cert.Proj.Dx.fr m c) (Cert.Proj.Dx.gr m c), fun c => Cert.Proj.Dx.gy (Cert.Proj.Dx.fr m c), ?_, ?_⟩
  · refine (θ_run Cert.DxIdeal.defs _ _).mono (fun _ h c => ?_) (Cert.DxIdeal.Value.run_blocks (F := Ideal) m ρ)
    have hV := Cert.Proj.Dx.given m c
    exact ⟨(h c).1.trans (Cert.Proj.Dx.arr12 hV), (h c).2.1.trans (Cert.Proj.Dx.arr13 hV), (h c).2.2⟩
  · refine (θ_run Cert.DxReferenceIdeal.defs _ _).mono (fun _ h c => ?_) (Cert.DxReferenceIdeal.Value.run (F := Ideal) m' ρ')
    obtain ⟨e0, e1, e2, e3, e4, e5, e6, e7, e8, e9, e10, e11, e12⟩ := hagree c
    refine ⟨(h c).1.trans ?_, (h c).2.1.trans ?_, (h c).2.2⟩
    · rw [Cert.DxReferenceIdeal.Read.val_main_v15_eq, e0, e1, e2, e3, e4, e5, e6, e7, e8, e9, e10, e11, e12]
      exact (Cert.Proj.Dx.gx_eq _ _ _ _ _ _ _ _ _ _ _ _ _).symm
    · rw [Cert.DxReferenceIdeal.Read.val_main_v18_eq, e1, e2, e3, e4, e5, e6, e7, e8, e9, e10, e11, e12]
      exact (Cert.Proj.Dx.gy_eq _ _ _ _ _ _ _ _ _ _ _ _).symm

theorem frame_dw_reference : Cert.quiescent_DwReferenceIdeal := fun m ρ _ =>
  (θ_run Cert.DwReferenceIdeal.defs _ _).mono (fun r h => ⟨fun c => (h c).2,
      Idealize.ShloMosaic.sem_eq_zero_of_no_sems (by decide) r.2⟩)
    (Cert.DwReferenceIdeal.Value.run (F := Ideal) m ρ)

theorem algebraic_dw : Cert.algebraic_DwIdeal_DwReferenceIdeal := by
  intro m ρ m' ρ' _ hagree
  refine ⟨fun c => Cert.Proj.Dw.gw (Cert.Proj.Dw.x0 m c) (Cert.Proj.Dw.fr m c), ?_, ?_⟩
  · refine (θ_run Cert.DwIdeal.defs _ _).mono (fun _ h c => ?_) (Cert.DwIdeal.Value.run_blocks (F := Ideal) m ρ)
    exact ⟨(h c).1.trans (Cert.Proj.Dw.arr2 (Cert.Proj.Dw.given m c)), (h c).2⟩
  · refine (θ_run Cert.DwReferenceIdeal.defs _ _).mono (fun _ h c => ?_) (Cert.DwReferenceIdeal.Value.run (F := Ideal) m' ρ')
    obtain ⟨e0, e1, e2, e3, e4, e5, e6, e7, e8, e9, e10, e11, e12⟩ := hagree c
    refine ⟨(h c).1.trans ?_, (h c).2⟩
    rw [Cert.DwReferenceIdeal.Read.val_main_v30_eq, e0, e1, e2, e3, e4, e5, e6, e7, e8, e9, e10, e11, e12]
    exact (Cert.Proj.Dw.gw_eq _ _ _ _ _ _ _ _ _ _ _ _ _).symm

theorem frame_split_reference : Cert.quiescent_SplitReferenceIdeal := fun m ρ _ =>
  (θ_run Cert.SplitReferenceIdeal.defs _ _).mono (fun r h => ⟨fun c => (h c).2.2.2.2.2.2.2.2.2.2.2,
      Idealize.ShloMosaic.sem_eq_zero_of_no_sems (by decide) r.2⟩)
    (Cert.SplitReferenceIdeal.Value.run (F := Ideal) m ρ)

theorem algebraic_split : Cert.algebraic_SplitIdeal_SplitReferenceIdeal := by
  intro m ρ m' ρ' _ hagree
  refine ⟨fun c => Cert.Proj.Split.gs (Cert.Proj.Split.fr m c) (Cert.Proj.Split.gr m c) 256 0, fun c => Cert.Proj.Split.gs (Cert.Proj.Split.fr m c) (Cert.Proj.Split.gr m c) 256 256, fun c => Cert.Proj.Split.gs (Cert.Proj.Split.fr m c) (Cert.Proj.Split.gr m c) 256 512, fun c => Cert.Proj.Split.gs (Cert.Proj.Split.fr m c) (Cert.Proj.Split.gr m c) 256 768, fun c => Cert.Proj.Split.gs (Cert.Proj.Split.fr m c) (Cert.Proj.Split.gr m c) 256 1024, fun c => Cert.Proj.Split.gs (Cert.Proj.Split.fr m c) (Cert.Proj.Split.gr m c) 256 1280, fun c => Cert.Proj.Split.gs (Cert.Proj.Split.fr m c) (Cert.Proj.Split.gr m c) 256 1536, fun c => Cert.Proj.Split.gs (Cert.Proj.Split.fr m c) (Cert.Proj.Split.gr m c) 128 1792, fun c => Cert.Proj.Split.gs (Cert.Proj.Split.fr m c) (Cert.Proj.Split.gr m c) 256 1920, fun c => Cert.Proj.Split.gs (Cert.Proj.Split.fr m c) (Cert.Proj.Split.gr m c) 1024 2176, fun c => Cert.Proj.Split.gs (Cert.Proj.Split.fr m c) (Cert.Proj.Split.gr m c) 128 3200, ?_, ?_⟩
  · refine (θ_run Cert.SplitIdeal.defs _ _).mono (fun _ h c => ?_) (Cert.SplitIdeal.Value.run_blocks (F := Ideal) m ρ)
    have hV := Cert.Proj.Split.given m c
    exact ⟨(h c).1.trans (Cert.Proj.Split.arr2 hV), (h c).2.1.trans (Cert.Proj.Split.arr3 hV), (h c).2.2.1.trans (Cert.Proj.Split.arr4 hV), (h c).2.2.2.1.trans (Cert.Proj.Split.arr5 hV), (h c).2.2.2.2.1.trans (Cert.Proj.Split.arr6 hV), (h c).2.2.2.2.2.1.trans (Cert.Proj.Split.arr7 hV), (h c).2.2.2.2.2.2.1.trans (Cert.Proj.Split.arr8 hV), (h c).2.2.2.2.2.2.2.1.trans (Cert.Proj.Split.arr9 hV), (h c).2.2.2.2.2.2.2.2.1.trans (Cert.Proj.Split.arr10 hV), (h c).2.2.2.2.2.2.2.2.2.1.trans (Cert.Proj.Split.arr11 hV), (h c).2.2.2.2.2.2.2.2.2.2.1.trans (Cert.Proj.Split.arr12 hV), (h c).2.2.2.2.2.2.2.2.2.2.2⟩
  · refine (θ_run Cert.SplitReferenceIdeal.defs _ _).mono (fun _ h c => ?_) (Cert.SplitReferenceIdeal.Value.run (F := Ideal) m' ρ')
    obtain ⟨e0, e1⟩ := hagree c
    refine ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2.1.trans ?_, (h c).2.2.2.2.2.2.2.2.2.2.1.trans ?_, (h c).2.2.2.2.2.2.2.2.2.2.2⟩
    · rw [Cert.SplitReferenceIdeal.Read.val_main_v15_eq, e0, e1]
      exact (Cert.Proj.Split.g0_eq _ _).symm
    · rw [Cert.SplitReferenceIdeal.Read.val_main_v16_eq, e0, e1]
      exact (Cert.Proj.Split.g1_eq _ _).symm
    · rw [Cert.SplitReferenceIdeal.Read.val_main_v17_eq, e0, e1]
      exact (Cert.Proj.Split.g2_eq _ _).symm
    · rw [Cert.SplitReferenceIdeal.Read.val_main_v18_eq, e0, e1]
      exact (Cert.Proj.Split.g3_eq _ _).symm
    · rw [Cert.SplitReferenceIdeal.Read.val_main_v19_eq, e0, e1]
      exact (Cert.Proj.Split.g4_eq _ _).symm
    · rw [Cert.SplitReferenceIdeal.Read.val_main_v20_eq, e0, e1]
      exact (Cert.Proj.Split.g5_eq _ _).symm
    · rw [Cert.SplitReferenceIdeal.Read.val_main_v8_eq, e0, e1]
      exact (Cert.Proj.Split.g6_eq _ _).symm
    · rw [Cert.SplitReferenceIdeal.Read.val_main_v9_eq, e0, e1]
      exact (Cert.Proj.Split.g7_eq _ _).symm
    · rw [Cert.SplitReferenceIdeal.Read.val_main_v21_eq, e0, e1]
      exact (Cert.Proj.Split.g8_eq _ _).symm
    · rw [Cert.SplitReferenceIdeal.Read.val_main_v12_eq, e0, e1]
      exact (Cert.Proj.Split.g9_eq _ _).symm
    · rw [Cert.SplitReferenceIdeal.Read.val_main_v14_eq, e0, e1]
      exact (Cert.Proj.Split.g10_eq _ _).symm

theorem frame_gate_reference : Cert.quiescent_GateReferenceIdeal := fun m ρ _ =>
  (θ_run Cert.GateReferenceIdeal.defs _ _).mono (fun r h => ⟨fun c => (h c).2.2,
      Idealize.ShloMosaic.sem_eq_zero_of_no_sems (by decide) r.2⟩)
    (Cert.GateReferenceIdeal.Value.run (F := Ideal) m ρ)

theorem algebraic_gate : Cert.algebraic_GateIdeal_GateReferenceIdeal := by
  intro m ρ m' ρ' _ hagree
  refine ⟨fun c => Cert.Gate.Fwd.gy (Cert.Gate.parts (Cert.Gate.Fwd.y0 m c) (Cert.Gate.Fwd.y1 m c) (Cert.Gate.Fwd.y2 m c) (Cert.Gate.Fwd.y3 m c)) (fun r k => Cert.Gate.Fwd.y4 m c (ix2 r k)) (fun k j => Cert.Gate.Fwd.y5 m c (ix2 k j)), fun c => Cert.Gate.Fwd.gt (Cert.Gate.parts (Cert.Gate.Fwd.y0 m c) (Cert.Gate.Fwd.y1 m c) (Cert.Gate.Fwd.y2 m c) (Cert.Gate.Fwd.y3 m c)) (fun r k => Cert.Gate.Fwd.y4 m c (ix2 r k)), ?_, ?_⟩
  · refine (θ_run Cert.GateIdeal.defs _ _).mono (fun _ h c => ?_) (Cert.GateIdeal.Value.run_blocks (F := Ideal) m ρ)
    have hV := Cert.Gate.Fwd.given m c
    exact ⟨(h c).1.trans (Cert.Gate.Fwd.arr6 hV), (h c).2.1.trans (Cert.Gate.Fwd.arr7 hV), (h c).2.2⟩
  · refine (θ_run Cert.GateReferenceIdeal.defs _ _).mono (fun _ h c => ?_) (Cert.GateReferenceIdeal.Value.run (F := Ideal) m' ρ')
    obtain ⟨e0, e1, e2, e3, e4, e5⟩ := hagree c
    refine ⟨(h c).1.trans ?_, (h c).2.1.trans ?_, (h c).2.2⟩
    · rw [Cert.GateReferenceIdeal.Read.val_main_v3_eq, e0, e1, e2, e3, e4, e5]
      exact (Cert.Gate.Fwd.gy_eq _ _ _ _ _ _).symm
    · rw [Cert.GateReferenceIdeal.Read.val_main_v5_eq, e0, e1, e2, e3, e4]
      exact (Cert.Gate.Fwd.gt_eq _ _ _ _ _).symm

theorem frame_gateback_reference : Cert.quiescent_GateBackReferenceIdeal := fun m ρ _ =>
  (θ_run Cert.GateBackReferenceIdeal.defs _ _).mono (fun r h => ⟨fun c => (h c).2.2.2.2.2,
      Idealize.ShloMosaic.sem_eq_zero_of_no_sems (by decide) r.2⟩)
    (Cert.GateBackReferenceIdeal.Value.run (F := Ideal) m ρ)

theorem algebraic_gateback : Cert.algebraic_GateBackIdeal_GateBackReferenceIdeal_pre_finite_gated (hPre_finite_gated := Cert.Gate.Back.pre_facts) := by
  intro m ρ m' ρ' hpre hagree
  refine ⟨fun c => Cert.Gate.Back.px (fun r k => Cert.Gate.Back.y0 m c (ix2 r k)) (fun j k => Cert.Gate.Back.y1 m c (ix2 j k)) (fun r k => Cert.Gate.Back.y6 m c (ix2 r k)) 0, fun c => Cert.Gate.Back.px (fun r k => Cert.Gate.Back.y0 m c (ix2 r k)) (fun j k => Cert.Gate.Back.y1 m c (ix2 j k)) (fun r k => Cert.Gate.Back.y6 m c (ix2 r k)) 1, fun c => Cert.Gate.Back.px (fun r k => Cert.Gate.Back.y0 m c (ix2 r k)) (fun j k => Cert.Gate.Back.y1 m c (ix2 j k)) (fun r k => Cert.Gate.Back.y6 m c (ix2 r k)) 2, fun c => Cert.Gate.Back.px (fun r k => Cert.Gate.Back.y0 m c (ix2 r k)) (fun j k => Cert.Gate.Back.y1 m c (ix2 j k)) (fun r k => Cert.Gate.Back.y6 m c (ix2 r k)) 3, fun c => Cert.Gate.Back.pg (fun r k => Cert.Gate.Back.y0 m c (ix2 r k)) (fun j k => Cert.Gate.Back.y1 m c (ix2 j k)) (Cert.Gate.parts (Cert.Gate.Back.y2 m c) (Cert.Gate.Back.y3 m c) (Cert.Gate.Back.y4 m c) (Cert.Gate.Back.y5 m c)) (fun r k => Cert.Gate.Back.y6 m c (ix2 r k)), ?_, ?_⟩
  · refine (θ_run Cert.GateBackIdeal.defs _ _).mono (fun _ h c => ?_) (Cert.GateBackIdeal.Value.run_blocks (F := Ideal) m ρ)
    have hV := Cert.Gate.Back.given m c
    exact ⟨(h c).1.trans (Cert.Gate.Back.arr7 hV), (h c).2.1.trans (Cert.Gate.Back.arr8 hV), (h c).2.2.1.trans (Cert.Gate.Back.arr9 hV), (h c).2.2.2.1.trans (Cert.Gate.Back.arr10 hV), (h c).2.2.2.2.1.trans (Cert.Gate.Back.arr11 hV), (h c).2.2.2.2.2⟩
  · refine (θ_run Cert.GateBackReferenceIdeal.defs _ _).mono (fun _ h c => ?_) (Cert.GateBackReferenceIdeal.Value.run (F := Ideal) m' ρ')
    obtain ⟨e0, e1, e2, e3, e4, e5, e6⟩ := hagree c
    obtain ⟨f0, f1, f2, f3, f4, f5⟩ := Cert.Gate.Back.re_args hpre c
    refine ⟨(h c).1.trans ?_, (h c).2.1.trans ?_, (h c).2.2.1.trans ?_, (h c).2.2.2.1.trans ?_, (h c).2.2.2.2.1.trans ?_, (h c).2.2.2.2.2⟩
    · rw [Cert.GateBackReferenceIdeal.Read.val_main_v8_eq, e0, e1, e6]
      exact (Cert.Gate.Back.p0_eq _ _ _).symm
    · rw [Cert.GateBackReferenceIdeal.Read.val_main_v9_eq, e0, e1, e6]
      exact (Cert.Gate.Back.p1_eq _ _ _).symm
    · rw [Cert.GateBackReferenceIdeal.Read.val_main_v10_eq, e0, e1, e6]
      exact (Cert.Gate.Back.p2_eq _ _ _).symm
    · rw [Cert.GateBackReferenceIdeal.Read.val_main_v11_eq, e0, e1, e6]
      exact (Cert.Gate.Back.p3_eq _ _ _).symm
    · rw [Cert.GateBackReferenceIdeal.Read.val_main_v7_eq, e0, e1, e2, e3, e4, e5, e6]
      exact (Cert.Gate.Back.pg_eq _ _ _ _ _ _ _ f0 f1 f2 f3 f4 f5).symm

theorem frame_gatedw_reference : Cert.quiescent_GateDwReferenceIdeal := fun m ρ _ =>
  (θ_run Cert.GateDwReferenceIdeal.defs _ _).mono (fun r h => ⟨fun c => (h c).2,
      Idealize.ShloMosaic.sem_eq_zero_of_no_sems (by decide) r.2⟩)
    (Cert.GateDwReferenceIdeal.Value.run (F := Ideal) m ρ)

theorem algebraic_gatedw : Cert.algebraic_GateDwIdeal_GateDwReferenceIdeal := by
  intro m ρ m' ρ' _ hagree
  refine ⟨fun c => Cert.Gate.Dw.gw (Cert.Gate.Dw.gated (Cert.Gate.Dw.y1 m c) (Cert.Gate.Dw.y2 m c) (Cert.Gate.Dw.y3 m c) (Cert.Gate.Dw.y4 m c) (Cert.Gate.Dw.y5 m c)) (Cert.Gate.Dw.y0 m c), ?_, ?_⟩
  · refine (θ_run Cert.GateDwIdeal.defs _ _).mono (fun _ h c => ?_) (Cert.GateDwIdeal.Value.run_blocks (F := Ideal) m ρ)
    have hV := Cert.Gate.Dw.given m c
    exact ⟨(h c).1.trans (Cert.Gate.Dw.arr2 hV), (h c).2⟩
  · refine (θ_run Cert.GateDwReferenceIdeal.defs _ _).mono (fun _ h c => ?_) (Cert.GateDwReferenceIdeal.Value.run (F := Ideal) m' ρ')
    obtain ⟨e0, e1, e2, e3, e4, e5⟩ := hagree c
    refine ⟨(h c).1.trans ?_, (h c).2⟩
    · rw [Cert.GateDwReferenceIdeal.Read.val_main_v6_eq, e0, e1, e2, e3, e4, e5]
      exact (Cert.Gate.Dw.gw_eq _ _ _ _ _ _).symm

theorem frame_adam_reference : Cert.quiescent_AdamReferenceIdeal := fun m ρ _ =>
  (θ_run Cert.AdamReferenceIdeal.defs _ _).mono (fun r h => ⟨fun c => (h c).2.2.2.2,
      Idealize.ShloMosaic.sem_eq_zero_of_no_sems (by decide) r.2⟩)
    (Cert.AdamReferenceIdeal.Value.run (F := Ideal) m ρ)

theorem algebraic_adam : Cert.algebraic_AdamIdeal_AdamReferenceIdeal := by
  intro m ρ m' ρ' _ hagree
  refine ⟨fun c => Cert.AdamReferenceIdeal.Read.val_main_v1 (F := Ideal) (Cert.AdamStep.Out.y0 m c), fun c => Cert.AdamReferenceIdeal.Read.val_main_v25 (F := Ideal) (Cert.AdamStep.Out.y0 m c) (Cert.AdamStep.Out.y1 m c) (Cert.AdamStep.Out.y2 m c) (Cert.AdamStep.Out.y3 m c), fun c => Cert.AdamReferenceIdeal.Read.val_main_v6 (F := Ideal) (Cert.AdamStep.Out.y0 m c) (Cert.AdamStep.Out.y2 m c), fun c => Cert.AdamReferenceIdeal.Read.val_main_v12 (F := Ideal) (Cert.AdamStep.Out.y0 m c) (Cert.AdamStep.Out.y3 m c), ?_, ?_⟩
  · refine (θ_run Cert.AdamIdeal.defs _ _).mono (fun _ h c => ?_) (Cert.AdamIdeal.Value.run_blocks (F := Ideal) m ρ)
    exact ⟨(h c).1.trans (Cert.AdamStep.Out.arr4 m c), (h c).2.1.trans (Cert.AdamStep.Out.arr5 m c), (h c).2.2.1.trans (Cert.AdamStep.Out.arr6 m c), (h c).2.2.2.1.trans (Cert.AdamStep.Out.arr7 m c), (h c).2.2.2.2⟩
  · refine (θ_run Cert.AdamReferenceIdeal.defs _ _).mono (fun _ h c => ?_) (Cert.AdamReferenceIdeal.Value.run (F := Ideal) m' ρ')
    obtain ⟨e0, e1, e2, e3⟩ := hagree c
    refine ⟨(h c).1.trans ?_, (h c).2.1.trans ?_, (h c).2.2.1.trans ?_, (h c).2.2.2.1.trans ?_, (h c).2.2.2.2⟩
    · rw [Cert.AdamReferenceIdeal.Read.val_main_v1_eq, e0]
    · rw [Cert.AdamReferenceIdeal.Read.val_main_v25_eq, e0, e1, e2, e3]
    · rw [Cert.AdamReferenceIdeal.Read.val_main_v6_eq, e0, e2]
    · rw [Cert.AdamReferenceIdeal.Read.val_main_v12_eq, e0, e3]

theorem frame_adammem_reference : Cert.quiescent_AdamMemReferenceIdeal := fun m ρ _ =>
  (θ_run Cert.AdamMemReferenceIdeal.defs _ _).mono (fun r h => ⟨fun c => (h c).2.2.2.2,
      Idealize.ShloMosaic.sem_eq_zero_of_no_sems (by decide) r.2⟩)
    (Cert.AdamMemReferenceIdeal.Value.run (F := Ideal) m ρ)

theorem algebraic_adammem : Cert.algebraic_AdamMemIdeal_AdamMemReferenceIdeal := by
  intro m ρ m' ρ' _ hagree
  refine ⟨fun c => Cert.AdamMemReferenceIdeal.Read.val_main_v1 (F := Ideal) (Cert.AdamStep.Mem.y0 m c), fun c => Cert.AdamMemReferenceIdeal.Read.val_main_v25 (F := Ideal) (Cert.AdamStep.Mem.y0 m c) (Cert.AdamStep.Mem.y1 m c) (Cert.AdamStep.Mem.y2 m c) (Cert.AdamStep.Mem.y3 m c), fun c => Cert.AdamMemReferenceIdeal.Read.val_main_v6 (F := Ideal) (Cert.AdamStep.Mem.y0 m c) (Cert.AdamStep.Mem.y2 m c), fun c => Cert.AdamMemReferenceIdeal.Read.val_main_v12 (F := Ideal) (Cert.AdamStep.Mem.y0 m c) (Cert.AdamStep.Mem.y3 m c), ?_, ?_⟩
  · refine (θ_run Cert.AdamMemIdeal.defs _ _).mono (fun _ h c => ?_) (Cert.AdamMemIdeal.Value.run_blocks (F := Ideal) m ρ)
    exact ⟨(h c).1.trans (Cert.AdamStep.Mem.arr4 m c), (h c).2.1.trans (Cert.AdamStep.Mem.arr5 m c), (h c).2.2.1.trans (Cert.AdamStep.Mem.arr6 m c), (h c).2.2.2.1.trans (Cert.AdamStep.Mem.arr7 m c), (h c).2.2.2.2⟩
  · refine (θ_run Cert.AdamMemReferenceIdeal.defs _ _).mono (fun _ h c => ?_) (Cert.AdamMemReferenceIdeal.Value.run (F := Ideal) m' ρ')
    obtain ⟨e0, e1, e2, e3⟩ := hagree c
    refine ⟨(h c).1.trans ?_, (h c).2.1.trans ?_, (h c).2.2.1.trans ?_, (h c).2.2.2.1.trans ?_, (h c).2.2.2.2⟩
    · rw [Cert.AdamMemReferenceIdeal.Read.val_main_v1_eq, e0]
    · rw [Cert.AdamMemReferenceIdeal.Read.val_main_v25_eq, e0, e1, e2, e3]
    · rw [Cert.AdamMemReferenceIdeal.Read.val_main_v6_eq, e0, e2]
    · rw [Cert.AdamMemReferenceIdeal.Read.val_main_v12_eq, e0, e3]

theorem frame_adamq_reference : Cert.quiescent_AdamQReferenceIdeal := fun m ρ _ =>
  (θ_run Cert.AdamQReferenceIdeal.defs _ _).mono (fun r h => ⟨fun c => (h c).2.2.2.2,
      Idealize.ShloMosaic.sem_eq_zero_of_no_sems (by decide) r.2⟩)
    (Cert.AdamQReferenceIdeal.Value.run (F := Ideal) m ρ)

theorem algebraic_adamq : Cert.algebraic_AdamQIdeal_AdamQReferenceIdeal := by
  intro m ρ m' ρ' _ hagree
  refine ⟨fun c => Cert.AdamQReferenceIdeal.Read.val_main_v1 (F := Ideal) (Cert.AdamStep.Q.y0 m c), fun c => Cert.AdamQReferenceIdeal.Read.val_main_v25 (F := Ideal) (Cert.AdamStep.Q.y0 m c) (Cert.AdamStep.Q.y1 m c) (Cert.AdamStep.Q.y2 m c) (Cert.AdamStep.Q.y3 m c), fun c => Cert.AdamQReferenceIdeal.Read.val_main_v6 (F := Ideal) (Cert.AdamStep.Q.y0 m c) (Cert.AdamStep.Q.y2 m c), fun c => Cert.AdamQReferenceIdeal.Read.val_main_v12 (F := Ideal) (Cert.AdamStep.Q.y0 m c) (Cert.AdamStep.Q.y3 m c), ?_, ?_⟩
  · refine (θ_run Cert.AdamQIdeal.defs _ _).mono (fun _ h c => ?_) (Cert.AdamQIdeal.Value.run_blocks (F := Ideal) m ρ)
    exact ⟨(h c).1.trans (Cert.AdamStep.Q.arr4 m c), (h c).2.1.trans (Cert.AdamStep.Q.arr5 m c), (h c).2.2.1.trans (Cert.AdamStep.Q.arr6 m c), (h c).2.2.2.1.trans (Cert.AdamStep.Q.arr7 m c), (h c).2.2.2.2⟩
  · refine (θ_run Cert.AdamQReferenceIdeal.defs _ _).mono (fun _ h c => ?_) (Cert.AdamQReferenceIdeal.Value.run (F := Ideal) m' ρ')
    obtain ⟨e0, e1, e2, e3⟩ := hagree c
    refine ⟨(h c).1.trans ?_, (h c).2.1.trans ?_, (h c).2.2.1.trans ?_, (h c).2.2.2.1.trans ?_, (h c).2.2.2.2⟩
    · rw [Cert.AdamQReferenceIdeal.Read.val_main_v1_eq, e0]
    · rw [Cert.AdamQReferenceIdeal.Read.val_main_v25_eq, e0, e1, e2, e3]
    · rw [Cert.AdamQReferenceIdeal.Read.val_main_v6_eq, e0, e2]
    · rw [Cert.AdamQReferenceIdeal.Read.val_main_v12_eq, e0, e3]

theorem frame_adamkv_reference : Cert.quiescent_AdamKvReferenceIdeal := fun m ρ _ =>
  (θ_run Cert.AdamKvReferenceIdeal.defs _ _).mono (fun r h => ⟨fun c => (h c).2.2.2.2,
      Idealize.ShloMosaic.sem_eq_zero_of_no_sems (by decide) r.2⟩)
    (Cert.AdamKvReferenceIdeal.Value.run (F := Ideal) m ρ)

theorem algebraic_adamkv : Cert.algebraic_AdamKvIdeal_AdamKvReferenceIdeal := by
  intro m ρ m' ρ' _ hagree
  refine ⟨fun c => Cert.AdamKvReferenceIdeal.Read.val_main_v1 (F := Ideal) (Cert.AdamStep.Kv.y0 m c), fun c => Cert.AdamKvReferenceIdeal.Read.val_main_v25 (F := Ideal) (Cert.AdamStep.Kv.y0 m c) (Cert.AdamStep.Kv.y1 m c) (Cert.AdamStep.Kv.y2 m c) (Cert.AdamStep.Kv.y3 m c), fun c => Cert.AdamKvReferenceIdeal.Read.val_main_v6 (F := Ideal) (Cert.AdamStep.Kv.y0 m c) (Cert.AdamStep.Kv.y2 m c), fun c => Cert.AdamKvReferenceIdeal.Read.val_main_v12 (F := Ideal) (Cert.AdamStep.Kv.y0 m c) (Cert.AdamStep.Kv.y3 m c), ?_, ?_⟩
  · refine (θ_run Cert.AdamKvIdeal.defs _ _).mono (fun _ h c => ?_) (Cert.AdamKvIdeal.Value.run_blocks (F := Ideal) m ρ)
    exact ⟨(h c).1.trans (Cert.AdamStep.Kv.arr4 m c), (h c).2.1.trans (Cert.AdamStep.Kv.arr5 m c), (h c).2.2.1.trans (Cert.AdamStep.Kv.arr6 m c), (h c).2.2.2.1.trans (Cert.AdamStep.Kv.arr7 m c), (h c).2.2.2.2⟩
  · refine (θ_run Cert.AdamKvReferenceIdeal.defs _ _).mono (fun _ h c => ?_) (Cert.AdamKvReferenceIdeal.Value.run (F := Ideal) m' ρ')
    obtain ⟨e0, e1, e2, e3⟩ := hagree c
    refine ⟨(h c).1.trans ?_, (h c).2.1.trans ?_, (h c).2.2.1.trans ?_, (h c).2.2.2.1.trans ?_, (h c).2.2.2.2⟩
    · rw [Cert.AdamKvReferenceIdeal.Read.val_main_v1_eq, e0]
    · rw [Cert.AdamKvReferenceIdeal.Read.val_main_v25_eq, e0, e1, e2, e3]
    · rw [Cert.AdamKvReferenceIdeal.Read.val_main_v6_eq, e0, e2]
    · rw [Cert.AdamKvReferenceIdeal.Read.val_main_v12_eq, e0, e3]

theorem frame_adamin_reference : Cert.quiescent_AdamInReferenceIdeal := fun m ρ _ =>
  (θ_run Cert.AdamInReferenceIdeal.defs _ _).mono (fun r h => ⟨fun c => (h c).2.2.2.2,
      Idealize.ShloMosaic.sem_eq_zero_of_no_sems (by decide) r.2⟩)
    (Cert.AdamInReferenceIdeal.Value.run (F := Ideal) m ρ)

theorem algebraic_adamin : Cert.algebraic_AdamInIdeal_AdamInReferenceIdeal := by
  intro m ρ m' ρ' _ hagree
  refine ⟨fun c => Cert.AdamInReferenceIdeal.Read.val_main_v1 (F := Ideal) (Cert.AdamStep.In.y0 m c), fun c => Cert.AdamInReferenceIdeal.Read.val_main_v25 (F := Ideal) (Cert.AdamStep.In.y0 m c) (Cert.AdamStep.In.y1 m c) (Cert.AdamStep.In.y2 m c) (Cert.AdamStep.In.y3 m c), fun c => Cert.AdamInReferenceIdeal.Read.val_main_v6 (F := Ideal) (Cert.AdamStep.In.y0 m c) (Cert.AdamStep.In.y2 m c), fun c => Cert.AdamInReferenceIdeal.Read.val_main_v12 (F := Ideal) (Cert.AdamStep.In.y0 m c) (Cert.AdamStep.In.y3 m c), ?_, ?_⟩
  · refine (θ_run Cert.AdamInIdeal.defs _ _).mono (fun _ h c => ?_) (Cert.AdamInIdeal.Value.run_blocks (F := Ideal) m ρ)
    exact ⟨(h c).1.trans (Cert.AdamStep.In.arr4 m c), (h c).2.1.trans (Cert.AdamStep.In.arr5 m c), (h c).2.2.1.trans (Cert.AdamStep.In.arr6 m c), (h c).2.2.2.1.trans (Cert.AdamStep.In.arr7 m c), (h c).2.2.2.2⟩
  · refine (θ_run Cert.AdamInReferenceIdeal.defs _ _).mono (fun _ h c => ?_) (Cert.AdamInReferenceIdeal.Value.run (F := Ideal) m' ρ')
    obtain ⟨e0, e1, e2, e3⟩ := hagree c
    refine ⟨(h c).1.trans ?_, (h c).2.1.trans ?_, (h c).2.2.1.trans ?_, (h c).2.2.2.1.trans ?_, (h c).2.2.2.2⟩
    · rw [Cert.AdamInReferenceIdeal.Read.val_main_v1_eq, e0]
    · rw [Cert.AdamInReferenceIdeal.Read.val_main_v25_eq, e0, e1, e2, e3]
    · rw [Cert.AdamInReferenceIdeal.Read.val_main_v6_eq, e0, e2]
    · rw [Cert.AdamInReferenceIdeal.Read.val_main_v12_eq, e0, e3]

theorem frame_adamsmall_reference : Cert.quiescent_AdamSmallReferenceIdeal := fun m ρ _ =>
  (θ_run Cert.AdamSmallReferenceIdeal.defs _ _).mono (fun r h => ⟨fun c => (h c).2.2.2.2,
      Idealize.ShloMosaic.sem_eq_zero_of_no_sems (by decide) r.2⟩)
    (Cert.AdamSmallReferenceIdeal.Value.run (F := Ideal) m ρ)

theorem algebraic_adamsmall : Cert.algebraic_AdamSmallIdeal_AdamSmallReferenceIdeal := by
  intro m ρ m' ρ' _ hagree
  refine ⟨fun c => Cert.AdamSmallReferenceIdeal.Read.val_main_v0 (F := Ideal) (Cert.AdamStep.Small.y0 m c), fun c => Cert.AdamSmallReferenceIdeal.Read.val_main_v24 (F := Ideal) (Cert.AdamStep.Small.y0 m c) (Cert.AdamStep.Small.y1 m c) (Cert.AdamStep.Small.y2 m c) (Cert.AdamStep.Small.y3 m c), fun c => Cert.AdamSmallReferenceIdeal.Read.val_main_v5 (F := Ideal) (Cert.AdamStep.Small.y0 m c) (Cert.AdamStep.Small.y2 m c), fun c => Cert.AdamSmallReferenceIdeal.Read.val_main_v11 (F := Ideal) (Cert.AdamStep.Small.y0 m c) (Cert.AdamStep.Small.y3 m c), ?_, ?_⟩
  · refine (θ_run Cert.AdamSmallIdeal.defs _ _).mono (fun _ h c => ?_) (Cert.AdamSmallIdeal.Value.run_blocks (F := Ideal) m ρ)
    exact ⟨(h c).1.trans (Cert.AdamStep.Small.arr4 m c), (h c).2.1.trans (Cert.AdamStep.Small.arr5 m c), (h c).2.2.1.trans (Cert.AdamStep.Small.arr6 m c), (h c).2.2.2.1.trans (Cert.AdamStep.Small.arr7 m c), (h c).2.2.2.2⟩
  · refine (θ_run Cert.AdamSmallReferenceIdeal.defs _ _).mono (fun _ h c => ?_) (Cert.AdamSmallReferenceIdeal.Value.run (F := Ideal) m' ρ')
    obtain ⟨e0, e1, e2, e3⟩ := hagree c
    refine ⟨(h c).1.trans ?_, (h c).2.1.trans ?_, (h c).2.2.1.trans ?_, (h c).2.2.2.1.trans ?_, (h c).2.2.2.2⟩
    · rw [Cert.AdamSmallReferenceIdeal.Read.val_main_v0_eq, e0]
    · rw [Cert.AdamSmallReferenceIdeal.Read.val_main_v24_eq, e0, e1, e2, e3]
    · rw [Cert.AdamSmallReferenceIdeal.Read.val_main_v5_eq, e0, e2]
    · rw [Cert.AdamSmallReferenceIdeal.Read.val_main_v11_eq, e0, e3]

theorem claim : Cert.Claim := ⟨Cert.Kernel.Gen.facts, Cert.KernelIdeal.Gen.facts, Cert.ReferenceIdeal.Gen.facts,
  Cert.Forward.Gen.facts, Cert.ForwardIdeal.Gen.facts, Cert.ForwardReferenceIdeal.Gen.facts,
  Cert.Dx.Gen.facts, Cert.DxIdeal.Gen.facts, Cert.DxReferenceIdeal.Gen.facts, Cert.Dw.Gen.facts, Cert.DwIdeal.Gen.facts, Cert.DwReferenceIdeal.Gen.facts,
  Cert.Split.Gen.facts, Cert.SplitIdeal.Gen.facts, Cert.SplitReferenceIdeal.Gen.facts, Cert.Gate.Gen.facts, Cert.GateIdeal.Gen.facts, Cert.GateReferenceIdeal.Gen.facts,
  Cert.GateBack.Gen.facts, Cert.GateBackIdeal.Gen.facts, Cert.GateBackReferenceIdeal.Gen.facts, Cert.GateDw.Gen.facts, Cert.GateDwIdeal.Gen.facts, Cert.GateDwReferenceIdeal.Gen.facts,
  Cert.Adam.Gen.facts, Cert.AdamIdeal.Gen.facts, Cert.AdamReferenceIdeal.Gen.facts,
  Cert.AdamMem.Gen.facts, Cert.AdamMemIdeal.Gen.facts, Cert.AdamMemReferenceIdeal.Gen.facts,
  Cert.AdamQ.Gen.facts, Cert.AdamQIdeal.Gen.facts, Cert.AdamQReferenceIdeal.Gen.facts,
  Cert.AdamKv.Gen.facts, Cert.AdamKvIdeal.Gen.facts, Cert.AdamKvReferenceIdeal.Gen.facts,
  Cert.AdamIn.Gen.facts, Cert.AdamInIdeal.Gen.facts, Cert.AdamInReferenceIdeal.Gen.facts,
  Cert.AdamSmall.Gen.facts, Cert.AdamSmallIdeal.Gen.facts, Cert.AdamSmallReferenceIdeal.Gen.facts,
  pre_facts, Cert.Fwd.pre_facts, Cert.Gate.Back.pre_facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  fun m ρ _ => Cert.Forward.Gen.frame m ρ, fun m ρ _ => Cert.ForwardIdeal.Gen.frame m ρ, fun m ρ _ => Cert.ForwardIdeal.Gen.frame m ρ,
  frame_forward_reference, fun m ρ _ => frame_forward_reference m ρ trivial,
  fun m ρ _ => Cert.Dx.Gen.frame m ρ, fun m ρ _ => Cert.DxIdeal.Gen.frame m ρ, frame_dx_reference,
  fun m ρ _ => Cert.Dw.Gen.frame m ρ, fun m ρ _ => Cert.DwIdeal.Gen.frame m ρ, frame_dw_reference,
  fun m ρ _ => Cert.Split.Gen.frame m ρ, fun m ρ _ => Cert.SplitIdeal.Gen.frame m ρ, frame_split_reference,
  fun m ρ _ => Cert.Gate.Gen.frame m ρ, fun m ρ _ => Cert.GateIdeal.Gen.frame m ρ, frame_gate_reference,
  fun m ρ _ => Cert.GateBack.Gen.frame m ρ, fun m ρ _ => Cert.GateBackIdeal.Gen.frame m ρ, fun m ρ _ => Cert.GateBackIdeal.Gen.frame m ρ,
  frame_gateback_reference, fun m ρ _ => frame_gateback_reference m ρ trivial,
  fun m ρ _ => Cert.GateDw.Gen.frame m ρ, fun m ρ _ => Cert.GateDwIdeal.Gen.frame m ρ, frame_gatedw_reference,
  fun m ρ _ => Cert.Adam.Gen.frame m ρ, fun m ρ _ => Cert.AdamIdeal.Gen.frame m ρ, frame_adam_reference,
  fun m ρ _ => Cert.AdamMem.Gen.frame m ρ, fun m ρ _ => Cert.AdamMemIdeal.Gen.frame m ρ, frame_adammem_reference,
  fun m ρ _ => Cert.AdamQ.Gen.frame m ρ, fun m ρ _ => Cert.AdamQIdeal.Gen.frame m ρ, frame_adamq_reference,
  fun m ρ _ => Cert.AdamKv.Gen.frame m ρ, fun m ρ _ => Cert.AdamKvIdeal.Gen.frame m ρ, frame_adamkv_reference,
  fun m ρ _ => Cert.AdamIn.Gen.frame m ρ, fun m ρ _ => Cert.AdamInIdeal.Gen.frame m ρ, frame_adamin_reference,
  fun m ρ _ => Cert.AdamSmall.Gen.frame m ρ, fun m ρ _ => Cert.AdamSmallIdeal.Gen.frame m ρ, frame_adamsmall_reference,
  preserves, algebraic, preserves_forward, algebraic_forward,
  trivial, algebraic_dx, trivial, algebraic_dw,
  trivial, algebraic_split, trivial, algebraic_gate, trivial, algebraic_gateback, trivial, algebraic_gatedw, trivial, algebraic_adam, trivial, algebraic_adammem, trivial, algebraic_adamq, trivial, algebraic_adamkv, trivial, algebraic_adamin, trivial, algebraic_adamsmall⟩

end Cert.Proof

end
